-- ==== Defs.lean ====
def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) (m ((c.tc : Thread Cert.AttnBwdIdeal.nD Cert.AttnBwdIdeal.τ).loc Cert.AttnBwdIdeal.main_arg8))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.2.2 = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_finite [hPre_mlp_finite : Cert.Pre_mlp_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_inproj_finite [hPre_inproj_finite : Cert.Pre_inproj_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_inproj_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).1 = (fun _ => 1#1)
    ∧ (Cert.Pre_inproj_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.1 = (fun _ => 1#1)
    ∧ (Cert.Pre_inproj_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.1 = (fun _ => 1#1)
    ∧ (Cert.Pre_inproj_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_inproj_finite [hPre_inproj_finite : Cert.Pre_inproj_finite.Facts] (m : (ℓ : Loc Cert.InRefIdeal.nD Cert.InRefIdeal.τ Cert.InRefIdeal.sig) → Buf (Elt Ideal) ℓ) : Prop :=
  ∀ c : Dev Cert.InRefIdeal.nD,
    (Cert.Pre_inproj_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).1 = (fun _ => 1#1)
    ∧ (Cert.Pre_inproj_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.1 = (fun _ => 1#1)
    ∧ (Cert.Pre_inproj_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.1 = (fun _ => 1#1)
    ∧ (Cert.Pre_inproj_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_finite [hPre_mix_finite : Cert.Pre_mix_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13))).1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13))).2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2 = (fun _ => 1#1)

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_gla_finite [hPre_gla_finite : Cert.Pre_gla_finite.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4))).1 = (fun _ => 1#1)
    ∧ (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4))).2.1 = (fun _ => 1#1)
    ∧ (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4))).2.2.1 = (fun _ => 1#1)
    ∧ (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4))).2.2.2.1 = (fun _ => 1#1)
    ∧ (Cert.Pre_gla_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4))).2.2.2.2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gla_finite [hPre_gla_finite : Cert.Pre_gla_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))).2.2.2.2 = (fun _ => 1#1)

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MatTn (m : (ℓ : Loc Cert.MatTn.nD Cert.MatTn.τ Cert.MatTn.sig) → Buf (Elt Bits) ℓ) : Prop :=
  True

def Pre_MatTnIdeal (m : (ℓ : Loc Cert.MatTnIdeal.nD Cert.MatTnIdeal.τ Cert.MatTnIdeal.sig) → Buf (Elt Ideal) ℓ) : Prop :=
  True

def Pre_MatTnRefIdeal (m : (ℓ : Loc Cert.MatTnRefIdeal.nD Cert.MatTnRefIdeal.τ Cert.MatTnRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_GlaReverse (m : (ℓ : Loc Cert.GlaReverse.nD Cert.GlaReverse.τ Cert.GlaReverse.sig) → Buf (Elt Bits) ℓ) : Prop :=
  True

def Pre_GlaReverseIdeal (m : (ℓ : Loc Cert.GlaReverseIdeal.nD Cert.GlaReverseIdeal.τ Cert.GlaReverseIdeal.sig) → Buf (Elt Ideal) ℓ) : Prop :=
  True

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6)
      ∧ r.2.mem ((c.tc : Thread Cert.AttnBwd.nD Cert.AttnBwd.τ).loc Cert.AttnBwd.main_arg7) = m ((c.tc : Thread Cert.AttnBwd.nD Cert.AttnBwd.τ).loc Cert.AttnBwd.main_arg7)
      ∧ r.2.mem ((c.tc : Thread Cert.AttnBwd.nD Cert.AttnBwd.τ).loc Cert.AttnBwd.main_arg8) = m ((c.tc : Thread Cert.AttnBwd.nD Cert.AttnBwd.τ).loc Cert.AttnBwd.main_arg8))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7)
      ∧ r.2.mem ((c.tc : Thread Cert.AttnBwdIdeal.nD Cert.AttnBwdIdeal.τ).loc Cert.AttnBwdIdeal.main_arg8) = m ((c.tc : Thread Cert.AttnBwdIdeal.nD Cert.AttnBwdIdeal.τ).loc Cert.AttnBwdIdeal.main_arg8))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7)
      ∧ r.2.mem ((c.tc : Thread Cert.AttnBwdIdeal.nD Cert.AttnBwdIdeal.τ).loc Cert.AttnBwdIdeal.main_arg8) = m ((c.tc : Thread Cert.AttnBwdIdeal.nD Cert.AttnBwdIdeal.τ).loc Cert.AttnBwdIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdIdeal_pre_mlp_finite [hMlpBwdIdeal : Cert.MlpBwdIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_inproj_finite [hInBwdIdeal : Cert.InBwdIdeal.Facts] [hPre_inproj_finite : Cert.Pre_inproj_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_inproj_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_inproj_finite [hInRefIdeal : Cert.InRefIdeal.Facts] [hPre_inproj_finite : Cert.Pre_inproj_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_inproj_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ r.2.sem = fun _ => 0)

def quiescent_MixFwdIdeal_pre_mix_finite [hMixFwdIdeal : Cert.MixFwdIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4))
      ∧ r.2.sem = fun _ => 0)

def quiescent_GlaFwdIdeal_pre_gla_finite [hGlaFwdIdeal : Cert.GlaFwdIdeal.Facts] [hPre_gla_finite : Cert.Pre_gla_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_gla_finite m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_gla_finite [hGlaRefIdeal : Cert.GlaRefIdeal.Facts] [hPre_gla_finite : Cert.Pre_gla_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gla_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_MatTn [hMatTn : Cert.MatTn.Facts] : Prop :=
  ∀ (m : (ℓ : Loc Cert.MatTn.nD Cert.MatTn.τ Cert.MatTn.sig) → Buf (Elt Bits) ℓ) (g : Dev Cert.MatTn.nD → PrngReg), Pre_MatTn m →
    θ_run (Cert.MatTn.defs (F := Bits)) (onTc (τ := Cert.MatTn.τ) (Cert.MatTn.main (F := Bits))) ⟨m, fun _ => 0, g⟩ (fun r => (∀ c : Dev Cert.MatTn.nD,
      r.2.mem ((c.tc : Thread Cert.MatTn.nD Cert.MatTn.τ).loc Cert.MatTn.main_arg0) = m ((c.tc : Thread Cert.MatTn.nD Cert.MatTn.τ).loc Cert.MatTn.main_arg0)
      ∧ r.2.mem ((c.tc : Thread Cert.MatTn.nD Cert.MatTn.τ).loc Cert.MatTn.main_arg1) = m ((c.tc : Thread Cert.MatTn.nD Cert.MatTn.τ).loc Cert.MatTn.main_arg1))
      ∧ r.2.sem = fun _ => 0)

def quiescent_MatTnIdeal [hMatTnIdeal : Cert.MatTnIdeal.Facts] : Prop :=
  ∀ (m : (ℓ : Loc Cert.MatTnIdeal.nD Cert.MatTnIdeal.τ Cert.MatTnIdeal.sig) → Buf (Elt Ideal) ℓ) (g : Dev Cert.MatTnIdeal.nD → PrngReg), Pre_MatTnIdeal m →
    θ_run (Cert.MatTnIdeal.defs (F := Ideal)) (onTc (τ := Cert.MatTnIdeal.τ) (Cert.MatTnIdeal.main (F := Ideal))) ⟨m, fun _ => 0, g⟩ (fun r => (∀ c : Dev Cert.MatTnIdeal.nD,
      r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
      ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1))
      ∧ r.2.sem = fun _ => 0)

def quiescent_MatTnRefIdeal [hMatTnRefIdeal : Cert.MatTnRefIdeal.Facts] : Prop :=
  ∀ (m : (ℓ : Loc Cert.MatTnRefIdeal.nD Cert.MatTnRefIdeal.τ Cert.MatTnRefIdeal.sig) → Buf (Elt Ideal) ℓ) (g : Dev Cert.MatTnRefIdeal.nD → PrngReg), Pre_MatTnRefIdeal m →
    θ_run (Cert.MatTnRefIdeal.defs (F := Ideal)) (onTc (τ := Cert.MatTnRefIdeal.τ) (Cert.MatTnRefIdeal.main (F := Ideal))) ⟨m, fun _ => 0, g⟩ (fun r => (∀ c : Dev Cert.MatTnRefIdeal.nD,
      r.2.mem ((c.tc : Thread Cert.MatTnRefIdeal.nD Cert.MatTnRefIdeal.τ).loc Cert.MatTnRefIdeal.main_arg0) = m ((c.tc : Thread Cert.MatTnRefIdeal.nD Cert.MatTnRefIdeal.τ).loc Cert.MatTnRefIdeal.main_arg0)
      ∧ r.2.mem ((c.tc : Thread Cert.MatTnRefIdeal.nD Cert.MatTnRefIdeal.τ).loc Cert.MatTnRefIdeal.main_arg1) = m ((c.tc : Thread Cert.MatTnRefIdeal.nD Cert.MatTnRefIdeal.τ).loc Cert.MatTnRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def quiescent_GlaReverse [hGlaReverse : Cert.GlaReverse.Facts] : Prop :=
  ∀ (m : (ℓ : Loc Cert.GlaReverse.nD Cert.GlaReverse.τ Cert.GlaReverse.sig) → Buf (Elt Bits) ℓ) (g : Dev Cert.GlaReverse.nD → PrngReg), Pre_GlaReverse m →
    θ_run (Cert.GlaReverse.defs (F := Bits)) (onTc (τ := Cert.GlaReverse.τ) (Cert.GlaReverse.main (F := Bits))) ⟨m, fun _ => 0, g⟩ (fun r => (∀ c : Dev Cert.GlaReverse.nD,
      r.2.mem ((c.tc : Thread Cert.GlaReverse.nD Cert.GlaReverse.τ).loc Cert.GlaReverse.main_arg0) = m ((c.tc : Thread Cert.GlaReverse.nD Cert.GlaReverse.τ).loc Cert.GlaReverse.main_arg0)
      ∧ r.2.mem ((c.tc : Thread Cert.GlaReverse.nD Cert.GlaReverse.τ).loc Cert.GlaReverse.main_arg1) = m ((c.tc : Thread Cert.GlaReverse.nD Cert.GlaReverse.τ).loc Cert.GlaReverse.main_arg1)
      ∧ r.2.mem ((c.tc : Thread Cert.GlaReverse.nD Cert.GlaReverse.τ).loc Cert.GlaReverse.main_arg2) = m ((c.tc : Thread Cert.GlaReverse.nD Cert.GlaReverse.τ).loc Cert.GlaReverse.main_arg2)
      ∧ r.2.mem ((c.tc : Thread Cert.GlaReverse.nD Cert.GlaReverse.τ).loc Cert.GlaReverse.main_arg3) = m ((c.tc : Thread Cert.GlaReverse.nD Cert.GlaReverse.τ).loc Cert.GlaReverse.main_arg3)
      ∧ r.2.mem ((c.tc : Thread Cert.GlaReverse.nD Cert.GlaReverse.τ).loc Cert.GlaReverse.main_arg4) = m ((c.tc : Thread Cert.GlaReverse.nD Cert.GlaReverse.τ).loc Cert.GlaReverse.main_arg4)
      ∧ r.2.mem ((c.tc : Thread Cert.GlaReverse.nD Cert.GlaReverse.τ).loc Cert.GlaReverse.main_arg5) = m ((c.tc : Thread Cert.GlaReverse.nD Cert.GlaReverse.τ).loc Cert.GlaReverse.main_arg5)
      ∧ r.2.mem ((c.tc : Thread Cert.GlaReverse.nD Cert.GlaReverse.τ).loc Cert.GlaReverse.main_arg6) = m ((c.tc : Thread Cert.GlaReverse.nD Cert.GlaReverse.τ).loc Cert.GlaReverse.main_arg6)
      ∧ r.2.mem ((c.tc : Thread Cert.GlaReverse.nD Cert.GlaReverse.τ).loc Cert.GlaReverse.main_arg7) = m ((c.tc : Thread Cert.GlaReverse.nD Cert.GlaReverse.τ).loc Cert.GlaReverse.main_arg7)
      ∧ r.2.mem ((c.tc : Thread Cert.GlaReverse.nD Cert.GlaReverse.τ).loc Cert.GlaReverse.main_arg8) = m ((c.tc : Thread Cert.GlaReverse.nD Cert.GlaReverse.τ).loc Cert.GlaReverse.main_arg8)
      ∧ r.2.mem ((c.tc : Thread Cert.GlaReverse.nD Cert.GlaReverse.τ).loc Cert.GlaReverse.main_arg9) = m ((c.tc : Thread Cert.GlaReverse.nD Cert.GlaReverse.τ).loc Cert.GlaReverse.main_arg9)
      ∧ r.2.mem ((c.tc : Thread Cert.GlaReverse.nD Cert.GlaReverse.τ).loc Cert.GlaReverse.main_arg10) = m ((c.tc : Thread Cert.GlaReverse.nD Cert.GlaReverse.τ).loc Cert.GlaReverse.main_arg10)
      ∧ r.2.mem ((c.tc : Thread Cert.GlaReverse.nD Cert.GlaReverse.τ).loc Cert.GlaReverse.main_arg11) = m ((c.tc : Thread Cert.GlaReverse.nD Cert.GlaReverse.τ).loc Cert.GlaReverse.main_arg11)
      ∧ r.2.mem ((c.tc : Thread Cert.GlaReverse.nD Cert.GlaReverse.τ).loc Cert.GlaReverse.main_arg12) = m ((c.tc : Thread Cert.GlaReverse.nD Cert.GlaReverse.τ).loc Cert.GlaReverse.main_arg12))
      ∧ r.2.sem = fun _ => 0)

def quiescent_GlaReverseIdeal [hGlaReverseIdeal : Cert.GlaReverseIdeal.Facts] : Prop :=
  ∀ (m : (ℓ : Loc Cert.GlaReverseIdeal.nD Cert.GlaReverseIdeal.τ Cert.GlaReverseIdeal.sig) → Buf (Elt Ideal) ℓ) (g : Dev Cert.GlaReverseIdeal.nD → PrngReg), Pre_GlaReverseIdeal m →
    θ_run (Cert.GlaReverseIdeal.defs (F := Ideal)) (onTc (τ := Cert.GlaReverseIdeal.τ) (Cert.GlaReverseIdeal.main (F := Ideal))) ⟨m, fun _ => 0, g⟩ (fun r => (∀ c : Dev Cert.GlaReverseIdeal.nD,
      r.2.mem ((c.tc : Thread Cert.GlaReverseIdeal.nD Cert.GlaReverseIdeal.τ).loc Cert.GlaReverseIdeal.main_arg0) = m ((c.tc : Thread Cert.GlaReverseIdeal.nD Cert.GlaReverseIdeal.τ).loc Cert.GlaReverseIdeal.main_arg0)
      ∧ r.2.mem ((c.tc : Thread Cert.GlaReverseIdeal.nD Cert.GlaReverseIdeal.τ).loc Cert.GlaReverseIdeal.main_arg1) = m ((c.tc : Thread Cert.GlaReverseIdeal.nD Cert.GlaReverseIdeal.τ).loc Cert.GlaReverseIdeal.main_arg1)
      ∧ r.2.mem ((c.tc : Thread Cert.GlaReverseIdeal.nD Cert.GlaReverseIdeal.τ).loc Cert.GlaReverseIdeal.main_arg2) = m ((c.tc : Thread Cert.GlaReverseIdeal.nD Cert.GlaReverseIdeal.τ).loc Cert.GlaReverseIdeal.main_arg2)
      ∧ r.2.mem ((c.tc : Thread Cert.GlaReverseIdeal.nD Cert.GlaReverseIdeal.τ).loc Cert.GlaReverseIdeal.main_arg3) = m ((c.tc : Thread Cert.GlaReverseIdeal.nD Cert.GlaReverseIdeal.τ).loc Cert.GlaReverseIdeal.main_arg3)
      ∧ r.2.mem ((c.tc : Thread Cert.GlaReverseIdeal.nD Cert.GlaReverseIdeal.τ).loc Cert.GlaReverseIdeal.main_arg4) = m ((c.tc : Thread Cert.GlaReverseIdeal.nD Cert.GlaReverseIdeal.τ).loc Cert.GlaReverseIdeal.main_arg4)
      ∧ r.2.mem ((c.tc : Thread Cert.GlaReverseIdeal.nD Cert.GlaReverseIdeal.τ).loc Cert.GlaReverseIdeal.main_arg5) = m ((c.tc : Thread Cert.GlaReverseIdeal.nD Cert.GlaReverseIdeal.τ).loc Cert.GlaReverseIdeal.main_arg5)
      ∧ r.2.mem ((c.tc : Thread Cert.GlaReverseIdeal.nD Cert.GlaReverseIdeal.τ).loc Cert.GlaReverseIdeal.main_arg6) = m ((c.tc : Thread Cert.GlaReverseIdeal.nD Cert.GlaReverseIdeal.τ).loc Cert.GlaReverseIdeal.main_arg6)
      ∧ r.2.mem ((c.tc : Thread Cert.GlaReverseIdeal.nD Cert.GlaReverseIdeal.τ).loc Cert.GlaReverseIdeal.main_arg7) = m ((c.tc : Thread Cert.GlaReverseIdeal.nD Cert.GlaReverseIdeal.τ).loc Cert.GlaReverseIdeal.main_arg7)
      ∧ r.2.mem ((c.tc : Thread Cert.GlaReverseIdeal.nD Cert.GlaReverseIdeal.τ).loc Cert.GlaReverseIdeal.main_arg8) = m ((c.tc : Thread Cert.GlaReverseIdeal.nD Cert.GlaReverseIdeal.τ).loc Cert.GlaReverseIdeal.main_arg8)
      ∧ r.2.mem ((c.tc : Thread Cert.GlaReverseIdeal.nD Cert.GlaReverseIdeal.τ).loc Cert.GlaReverseIdeal.main_arg9) = m ((c.tc : Thread Cert.GlaReverseIdeal.nD Cert.GlaReverseIdeal.τ).loc Cert.GlaReverseIdeal.main_arg9)
      ∧ r.2.mem ((c.tc : Thread Cert.GlaReverseIdeal.nD Cert.GlaReverseIdeal.τ).loc Cert.GlaReverseIdeal.main_arg10) = m ((c.tc : Thread Cert.GlaReverseIdeal.nD Cert.GlaReverseIdeal.τ).loc Cert.GlaReverseIdeal.main_arg10)
      ∧ r.2.mem ((c.tc : Thread Cert.GlaReverseIdeal.nD Cert.GlaReverseIdeal.τ).loc Cert.GlaReverseIdeal.main_arg11) = m ((c.tc : Thread Cert.GlaReverseIdeal.nD Cert.GlaReverseIdeal.τ).loc Cert.GlaReverseIdeal.main_arg11)
      ∧ r.2.mem ((c.tc : Thread Cert.GlaReverseIdeal.nD Cert.GlaReverseIdeal.τ).loc Cert.GlaReverseIdeal.main_arg12) = m ((c.tc : Thread Cert.GlaReverseIdeal.nD Cert.GlaReverseIdeal.τ).loc Cert.GlaReverseIdeal.main_arg12))
      ∧ r.2.sem = fun _ => 0)

def preserves_KvBwd_KvBwdIdeal : Prop :=
  True

def algebraic_KvBwdIdeal_KvRefIdeal [hKvBwdIdeal : Cert.KvBwdIdeal.Facts] [hKvRefIdeal : Cert.KvRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvBwdIdeal m →
    (∀ c : Dev Cert.KvBwdIdeal.nD,
      m' ((c.tc : Thread Cert.KvRefIdeal.nD Cert.KvRefIdeal.τ).loc Cert.KvRefIdeal.main_arg0) = m ((c.tc : Thread Cert.KvBwdIdeal.nD Cert.KvBwdIdeal.τ).loc Cert.KvBwdIdeal.main_arg0)
      ∧ m' ((c.tc : Thread Cert.KvRefIdeal.nD Cert.KvRefIdeal.τ).loc Cert.KvRefIdeal.main_arg1) = m ((c.tc : Thread Cert.KvBwdIdeal.nD Cert.KvBwdIdeal.τ).loc Cert.KvBwdIdeal.main_arg1)
      ∧ m' ((c.tc : Thread Cert.KvRefIdeal.nD Cert.KvRefIdeal.τ).loc Cert.KvRefIdeal.main_arg2) = m ((c.tc : Thread Cert.KvBwdIdeal.nD Cert.KvBwdIdeal.τ).loc Cert.KvBwdIdeal.main_arg2)
      ∧ m' ((c.tc : Thread Cert.KvRefIdeal.nD Cert.KvRefIdeal.τ).loc Cert.KvRefIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v4_0)) (v1 : (c : Dev Cert.KvBwdIdeal.nD) → Buf (Elt Ideal) ((c.tc : Thread Cert.KvBwdIdeal.nD Cert.KvBwdIdeal.τ).loc Cert.KvBwdIdeal.main_v4_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v4_0) = v0 c
          ∧ r.2.mem ((c.tc : Thread Cert.KvBwdIdeal.nD Cert.KvBwdIdeal.τ).loc Cert.KvBwdIdeal.main_v4_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v20) = v0 c
          ∧ r.2.mem ((c.tc : Thread Cert.KvRefIdeal.nD Cert.KvRefIdeal.τ).loc Cert.KvRefIdeal.main_v21) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_AttnBwd_AttnBwdIdeal : Prop :=
  True

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)
      ∧ m' ((c.tc : Thread Cert.AttnRefIdeal.nD Cert.AttnRefIdeal.τ).loc Cert.AttnRefIdeal.main_arg6) = m ((c.tc : Thread Cert.AttnBwdIdeal.nD Cert.AttnBwdIdeal.τ).loc Cert.AttnBwdIdeal.main_arg6)
      ∧ m' ((c.tc : Thread Cert.AttnRefIdeal.nD Cert.AttnRefIdeal.τ).loc Cert.AttnRefIdeal.main_arg7) = m ((c.tc : Thread Cert.AttnBwdIdeal.nD Cert.AttnBwdIdeal.τ).loc Cert.AttnBwdIdeal.main_arg7)
      ∧ m' ((c.tc : Thread Cert.AttnRefIdeal.nD Cert.AttnRefIdeal.τ).loc Cert.AttnRefIdeal.main_arg8) = m ((c.tc : Thread Cert.AttnBwdIdeal.nD Cert.AttnBwdIdeal.τ).loc Cert.AttnBwdIdeal.main_arg8)) →
    ∃ (v0 : (c : Dev Cert.AttnBwdIdeal.nD) → Buf (Elt Ideal) ((c.tc : Thread Cert.AttnBwdIdeal.nD Cert.AttnBwdIdeal.τ).loc Cert.AttnBwdIdeal.main_v34_0)) (v1 : (c : Dev Cert.AttnBwdIdeal.nD) → Buf (Elt Ideal) ((c.tc : Thread Cert.AttnBwdIdeal.nD Cert.AttnBwdIdeal.τ).loc Cert.AttnBwdIdeal.main_v34_1)) (v2 : (c : Dev Cert.AttnBwdIdeal.nD) → Buf (Elt Ideal) ((c.tc : Thread Cert.AttnBwdIdeal.nD Cert.AttnBwdIdeal.τ).loc Cert.AttnBwdIdeal.main_v34_2)) (v3 : (c : Dev Cert.AttnBwdIdeal.nD) → Buf (Elt Ideal) ((c.tc : Thread Cert.AttnBwdIdeal.nD Cert.AttnBwdIdeal.τ).loc Cert.AttnBwdIdeal.main_v34_3)) (v4 : (c : Dev Cert.AttnBwdIdeal.nD) → Buf (Elt Ideal) ((c.tc : Thread Cert.AttnBwdIdeal.nD Cert.AttnBwdIdeal.τ).loc Cert.AttnBwdIdeal.main_v34_4)) (v5 : (c : Dev Cert.AttnBwdIdeal.nD) → Buf (Elt Ideal) ((c.tc : Thread Cert.AttnBwdIdeal.nD Cert.AttnBwdIdeal.τ).loc Cert.AttnBwdIdeal.main_v34_5)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v34_0) = v0 c
          ∧ r.2.mem ((c.tc : Thread Cert.AttnBwdIdeal.nD Cert.AttnBwdIdeal.τ).loc Cert.AttnBwdIdeal.main_v34_1) = v1 c
          ∧ r.2.mem ((c.tc : Thread Cert.AttnBwdIdeal.nD Cert.AttnBwdIdeal.τ).loc Cert.AttnBwdIdeal.main_v34_2) = v2 c
          ∧ r.2.mem ((c.tc : Thread Cert.AttnBwdIdeal.nD Cert.AttnBwdIdeal.τ).loc Cert.AttnBwdIdeal.main_v34_3) = v3 c
          ∧ r.2.mem ((c.tc : Thread Cert.AttnBwdIdeal.nD Cert.AttnBwdIdeal.τ).loc Cert.AttnBwdIdeal.main_v34_4) = v4 c
          ∧ r.2.mem ((c.tc : Thread Cert.AttnBwdIdeal.nD Cert.AttnBwdIdeal.τ).loc Cert.AttnBwdIdeal.main_v34_5) = v5 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
          ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7)
          ∧ r.2.mem ((c.tc : Thread Cert.AttnBwdIdeal.nD Cert.AttnBwdIdeal.τ).loc Cert.AttnBwdIdeal.main_arg8) = m ((c.tc : Thread Cert.AttnBwdIdeal.nD Cert.AttnBwdIdeal.τ).loc Cert.AttnBwdIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v117) = v0 c
          ∧ r.2.mem ((c.tc : Thread Cert.AttnRefIdeal.nD Cert.AttnRefIdeal.τ).loc Cert.AttnRefIdeal.main_v121) = v1 c
          ∧ r.2.mem ((c.tc : Thread Cert.AttnRefIdeal.nD Cert.AttnRefIdeal.τ).loc Cert.AttnRefIdeal.main_v120) = v2 c
          ∧ r.2.mem ((c.tc : Thread Cert.AttnRefIdeal.nD Cert.AttnRefIdeal.τ).loc Cert.AttnRefIdeal.main_v122) = v3 c
          ∧ r.2.mem ((c.tc : Thread Cert.AttnRefIdeal.nD Cert.AttnRefIdeal.τ).loc Cert.AttnRefIdeal.main_v96) = v4 c
          ∧ r.2.mem ((c.tc : Thread Cert.AttnRefIdeal.nD Cert.AttnRefIdeal.τ).loc Cert.AttnRefIdeal.main_v123) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_MlpBwd_MlpBwdIdeal : Prop :=
  True

def algebraic_MlpBwdIdeal_MlpRefIdeal_pre_mlp_finite [hMlpBwdIdeal : Cert.MlpBwdIdeal.Facts] [hMlpRefIdeal : Cert.MlpRefIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal_mlp_finite m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v18_0)) (v1 : (c : Dev Cert.MlpBwdIdeal.nD) → Buf (Elt Ideal) ((c.tc : Thread Cert.MlpBwdIdeal.nD Cert.MlpBwdIdeal.τ).loc Cert.MlpBwdIdeal.main_v18_1)) (v2 : (c : Dev Cert.MlpBwdIdeal.nD) → Buf (Elt Ideal) ((c.tc : Thread Cert.MlpBwdIdeal.nD Cert.MlpBwdIdeal.τ).loc Cert.MlpBwdIdeal.main_v18_2)) (v3 : (c : Dev Cert.MlpBwdIdeal.nD) → Buf (Elt Ideal) ((c.tc : Thread Cert.MlpBwdIdeal.nD Cert.MlpBwdIdeal.τ).loc Cert.MlpBwdIdeal.main_v18_3)) (v4 : (c : Dev Cert.MlpBwdIdeal.nD) → Buf (Elt Ideal) ((c.tc : Thread Cert.MlpBwdIdeal.nD Cert.MlpBwdIdeal.τ).loc Cert.MlpBwdIdeal.main_v18_4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v18_0) = v0 c
          ∧ r.2.mem ((c.tc : Thread Cert.MlpBwdIdeal.nD Cert.MlpBwdIdeal.τ).loc Cert.MlpBwdIdeal.main_v18_1) = v1 c
          ∧ r.2.mem ((c.tc : Thread Cert.MlpBwdIdeal.nD Cert.MlpBwdIdeal.τ).loc Cert.MlpBwdIdeal.main_v18_2) = v2 c
          ∧ r.2.mem ((c.tc : Thread Cert.MlpBwdIdeal.nD Cert.MlpBwdIdeal.τ).loc Cert.MlpBwdIdeal.main_v18_3) = v3 c
          ∧ r.2.mem ((c.tc : Thread Cert.MlpBwdIdeal.nD Cert.MlpBwdIdeal.τ).loc Cert.MlpBwdIdeal.main_v18_4) = v4 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v49) = v0 c
          ∧ r.2.mem ((c.tc : Thread Cert.MlpRefIdeal.nD Cert.MlpRefIdeal.τ).loc Cert.MlpRefIdeal.main_v50) = v1 c
          ∧ r.2.mem ((c.tc : Thread Cert.MlpRefIdeal.nD Cert.MlpRefIdeal.τ).loc Cert.MlpRefIdeal.main_v48) = v2 c
          ∧ r.2.mem ((c.tc : Thread Cert.MlpRefIdeal.nD Cert.MlpRefIdeal.τ).loc Cert.MlpRefIdeal.main_v51) = v3 c
          ∧ r.2.mem ((c.tc : Thread Cert.MlpRefIdeal.nD Cert.MlpRefIdeal.τ).loc Cert.MlpRefIdeal.main_v52) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InBwd_InBwdIdeal : Prop :=
  True

def algebraic_InBwdIdeal_InRefIdeal_pre_inproj_finite [hInBwdIdeal : Cert.InBwdIdeal.Facts] [hInRefIdeal : Cert.InRefIdeal.Facts] [hPre_inproj_finite : Cert.Pre_inproj_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_inproj_finite m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v4_0)) (v1 : (c : Dev Cert.InBwdIdeal.nD) → Buf (Elt Ideal) ((c.tc : Thread Cert.InBwdIdeal.nD Cert.InBwdIdeal.τ).loc Cert.InBwdIdeal.main_v4_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v4_0) = v0 c
          ∧ r.2.mem ((c.tc : Thread Cert.InBwdIdeal.nD Cert.InBwdIdeal.τ).loc Cert.InBwdIdeal.main_v4_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v37) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v3_0)) (v1 : (c : Dev Cert.LossBwdIdeal.nD) → Buf (Elt Ideal) ((c.tc : Thread Cert.LossBwdIdeal.nD Cert.LossBwdIdeal.τ).loc Cert.LossBwdIdeal.main_v3_1)) (v2 : (c : Dev Cert.LossBwdIdeal.nD) → Buf (Elt Ideal) ((c.tc : Thread Cert.LossBwdIdeal.nD Cert.LossBwdIdeal.τ).loc Cert.LossBwdIdeal.main_v3_2)) (v3 : (c : Dev Cert.LossBwdIdeal.nD) → Buf (Elt Ideal) ((c.tc : Thread Cert.LossBwdIdeal.nD Cert.LossBwdIdeal.τ).loc Cert.LossBwdIdeal.main_v3_3)) (v4 : (c : Dev Cert.LossBwdIdeal.nD) → Buf (Elt Ideal) ((c.tc : Thread Cert.LossBwdIdeal.nD Cert.LossBwdIdeal.τ).loc Cert.LossBwdIdeal.main_v3_4)) (v5 : (c : Dev Cert.LossBwdIdeal.nD) → Buf (Elt Ideal) ((c.tc : Thread Cert.LossBwdIdeal.nD Cert.LossBwdIdeal.τ).loc Cert.LossBwdIdeal.main_v3_5)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v3_0) = v0 c
          ∧ r.2.mem ((c.tc : Thread Cert.LossBwdIdeal.nD Cert.LossBwdIdeal.τ).loc Cert.LossBwdIdeal.main_v3_1) = v1 c
          ∧ r.2.mem ((c.tc : Thread Cert.LossBwdIdeal.nD Cert.LossBwdIdeal.τ).loc Cert.LossBwdIdeal.main_v3_2) = v2 c
          ∧ r.2.mem ((c.tc : Thread Cert.LossBwdIdeal.nD Cert.LossBwdIdeal.τ).loc Cert.LossBwdIdeal.main_v3_3) = v3 c
          ∧ r.2.mem ((c.tc : Thread Cert.LossBwdIdeal.nD Cert.LossBwdIdeal.τ).loc Cert.LossBwdIdeal.main_v3_4) = v4 c
          ∧ r.2.mem ((c.tc : Thread Cert.LossBwdIdeal.nD Cert.LossBwdIdeal.τ).loc Cert.LossBwdIdeal.main_v3_5) = v5 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v66) = v0 c
          ∧ r.2.mem ((c.tc : Thread Cert.LossRefIdeal.nD Cert.LossRefIdeal.τ).loc Cert.LossRefIdeal.main_v67) = v1 c
          ∧ r.2.mem ((c.tc : Thread Cert.LossRefIdeal.nD Cert.LossRefIdeal.τ).loc Cert.LossRefIdeal.main_v65) = v2 c
          ∧ r.2.mem ((c.tc : Thread Cert.LossRefIdeal.nD Cert.LossRefIdeal.τ).loc Cert.LossRefIdeal.main_v68) = v3 c
          ∧ r.2.mem ((c.tc : Thread Cert.LossRefIdeal.nD Cert.LossRefIdeal.τ).loc Cert.LossRefIdeal.main_v69) = v4 c
          ∧ r.2.mem ((c.tc : Thread Cert.LossRefIdeal.nD Cert.LossRefIdeal.τ).loc Cert.LossRefIdeal.main_v70) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_MixFwd_MixFwdIdeal : Prop :=
  True

def algebraic_MixFwdIdeal_MixRefIdeal_pre_mix_finite [hMixFwdIdeal : Cert.MixFwdIdeal.Facts] [hMixRefIdeal : Cert.MixRefIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixFwdIdeal_mix_finite m →
    (∀ c : Dev Cert.MixFwdIdeal.nD,
      m' ((c.tc : Thread Cert.MixRefIdeal.nD Cert.MixRefIdeal.τ).loc Cert.MixRefIdeal.main_arg0) = m ((c.tc : Thread Cert.MixFwdIdeal.nD Cert.MixFwdIdeal.τ).loc Cert.MixFwdIdeal.main_arg0)
      ∧ m' ((c.tc : Thread Cert.MixRefIdeal.nD Cert.MixRefIdeal.τ).loc Cert.MixRefIdeal.main_arg1) = m ((c.tc : Thread Cert.MixFwdIdeal.nD Cert.MixFwdIdeal.τ).loc Cert.MixFwdIdeal.main_arg1)
      ∧ m' ((c.tc : Thread Cert.MixRefIdeal.nD Cert.MixRefIdeal.τ).loc Cert.MixRefIdeal.main_arg2) = m ((c.tc : Thread Cert.MixFwdIdeal.nD Cert.MixFwdIdeal.τ).loc Cert.MixFwdIdeal.main_arg2)
      ∧ m' ((c.tc : Thread Cert.MixRefIdeal.nD Cert.MixRefIdeal.τ).loc Cert.MixRefIdeal.main_arg3) = m ((c.tc : Thread Cert.MixFwdIdeal.nD Cert.MixFwdIdeal.τ).loc Cert.MixFwdIdeal.main_arg3)
      ∧ m' ((c.tc : Thread Cert.MixRefIdeal.nD Cert.MixRefIdeal.τ).loc Cert.MixRefIdeal.main_arg4) = m ((c.tc : Thread Cert.MixFwdIdeal.nD Cert.MixFwdIdeal.τ).loc Cert.MixFwdIdeal.main_arg4)
      ∧ m' ((c.tc : Thread Cert.MixRefIdeal.nD Cert.MixRefIdeal.τ).loc Cert.MixRefIdeal.main_arg5) = m ((c.tc : Thread Cert.MixFwdIdeal.nD Cert.MixFwdIdeal.τ).loc Cert.MixFwdIdeal.main_arg5)
      ∧ m' ((c.tc : Thread Cert.MixRefIdeal.nD Cert.MixRefIdeal.τ).loc Cert.MixRefIdeal.main_arg6) = m ((c.tc : Thread Cert.MixFwdIdeal.nD Cert.MixFwdIdeal.τ).loc Cert.MixFwdIdeal.main_arg6)
      ∧ m' ((c.tc : Thread Cert.MixRefIdeal.nD Cert.MixRefIdeal.τ).loc Cert.MixRefIdeal.main_arg7) = m ((c.tc : Thread Cert.MixFwdIdeal.nD Cert.MixFwdIdeal.τ).loc Cert.MixFwdIdeal.main_arg7)
      ∧ m' ((c.tc : Thread Cert.MixRefIdeal.nD Cert.MixRefIdeal.τ).loc Cert.MixRefIdeal.main_arg8) = m ((c.tc : Thread Cert.MixFwdIdeal.nD Cert.MixFwdIdeal.τ).loc Cert.MixFwdIdeal.main_arg8)
      ∧ m' ((c.tc : Thread Cert.MixRefIdeal.nD Cert.MixRefIdeal.τ).loc Cert.MixRefIdeal.main_arg9) = m ((c.tc : Thread Cert.MixFwdIdeal.nD Cert.MixFwdIdeal.τ).loc Cert.MixFwdIdeal.main_arg9)
      ∧ m' ((c.tc : Thread Cert.MixRefIdeal.nD Cert.MixRefIdeal.τ).loc Cert.MixRefIdeal.main_arg10) = m ((c.tc : Thread Cert.MixFwdIdeal.nD Cert.MixFwdIdeal.τ).loc Cert.MixFwdIdeal.main_arg10)
      ∧ m' ((c.tc : Thread Cert.MixRefIdeal.nD Cert.MixRefIdeal.τ).loc Cert.MixRefIdeal.main_arg11) = m ((c.tc : Thread Cert.MixFwdIdeal.nD Cert.MixFwdIdeal.τ).loc Cert.MixFwdIdeal.main_arg11)
      ∧ m' ((c.tc : Thread Cert.MixRefIdeal.nD Cert.MixRefIdeal.τ).loc Cert.MixRefIdeal.main_arg12) = m ((c.tc : Thread Cert.MixFwdIdeal.nD Cert.MixFwdIdeal.τ).loc Cert.MixFwdIdeal.main_arg12)
      ∧ m' ((c.tc : Thread Cert.MixRefIdeal.nD Cert.MixRefIdeal.τ).loc Cert.MixRefIdeal.main_arg13) = m ((c.tc : Thread Cert.MixFwdIdeal.nD Cert.MixFwdIdeal.τ).loc Cert.MixFwdIdeal.main_arg13)) →
    ∃ (v0 : (c : Dev Cert.MixFwdIdeal.nD) → Buf (Elt Ideal) ((c.tc : Thread Cert.MixFwdIdeal.nD Cert.MixFwdIdeal.τ).loc Cert.MixFwdIdeal.main_v23_0)) (v1 : (c : Dev Cert.MixFwdIdeal.nD) → Buf (Elt Ideal) ((c.tc : Thread Cert.MixFwdIdeal.nD Cert.MixFwdIdeal.τ).loc Cert.MixFwdIdeal.main_v23_1)) (v2 : (c : Dev Cert.MixFwdIdeal.nD) → Buf (Elt Ideal) ((c.tc : Thread Cert.MixFwdIdeal.nD Cert.MixFwdIdeal.τ).loc Cert.MixFwdIdeal.main_v23_2)) (v3 : (c : Dev Cert.MixFwdIdeal.nD) → Buf (Elt Ideal) ((c.tc : Thread Cert.MixFwdIdeal.nD Cert.MixFwdIdeal.τ).loc Cert.MixFwdIdeal.main_v23_3)) (v4 : (c : Dev Cert.MixFwdIdeal.nD) → Buf (Elt Ideal) ((c.tc : Thread Cert.MixFwdIdeal.nD Cert.MixFwdIdeal.τ).loc Cert.MixFwdIdeal.main_v23_4)) (v5 : (c : Dev Cert.MixFwdIdeal.nD) → Buf (Elt Ideal) ((c.tc : Thread Cert.MixFwdIdeal.nD Cert.MixFwdIdeal.τ).loc Cert.MixFwdIdeal.main_v23_5)) (v6 : (c : Dev Cert.MixFwdIdeal.nD) → Buf (Elt Ideal) ((c.tc : Thread Cert.MixFwdIdeal.nD Cert.MixFwdIdeal.τ).loc Cert.MixFwdIdeal.main_v23_6)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v23_0) = v0 c
          ∧ r.2.mem ((c.tc : Thread Cert.MixFwdIdeal.nD Cert.MixFwdIdeal.τ).loc Cert.MixFwdIdeal.main_v23_1) = v1 c
          ∧ r.2.mem ((c.tc : Thread Cert.MixFwdIdeal.nD Cert.MixFwdIdeal.τ).loc Cert.MixFwdIdeal.main_v23_2) = v2 c
          ∧ r.2.mem ((c.tc : Thread Cert.MixFwdIdeal.nD Cert.MixFwdIdeal.τ).loc Cert.MixFwdIdeal.main_v23_3) = v3 c
          ∧ r.2.mem ((c.tc : Thread Cert.MixFwdIdeal.nD Cert.MixFwdIdeal.τ).loc Cert.MixFwdIdeal.main_v23_4) = v4 c
          ∧ r.2.mem ((c.tc : Thread Cert.MixFwdIdeal.nD Cert.MixFwdIdeal.τ).loc Cert.MixFwdIdeal.main_v23_5) = v5 c
          ∧ r.2.mem ((c.tc : Thread Cert.MixFwdIdeal.nD Cert.MixFwdIdeal.τ).loc Cert.MixFwdIdeal.main_v23_6) = v6 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v78) = v0 c
          ∧ r.2.mem ((c.tc : Thread Cert.MixRefIdeal.nD Cert.MixRefIdeal.τ).loc Cert.MixRefIdeal.main_v128) = v1 c
          ∧ r.2.mem ((c.tc : Thread Cert.MixRefIdeal.nD Cert.MixRefIdeal.τ).loc Cert.MixRefIdeal.main_v129) = v2 c
          ∧ r.2.mem ((c.tc : Thread Cert.MixRefIdeal.nD Cert.MixRefIdeal.τ).loc Cert.MixRefIdeal.main_v130) = v3 c
          ∧ r.2.mem ((c.tc : Thread Cert.MixRefIdeal.nD Cert.MixRefIdeal.τ).loc Cert.MixRefIdeal.main_v131) = v4 c
          ∧ r.2.mem ((c.tc : Thread Cert.MixRefIdeal.nD Cert.MixRefIdeal.τ).loc Cert.MixRefIdeal.main_v132) = v5 c
          ∧ r.2.mem ((c.tc : Thread Cert.MixRefIdeal.nD Cert.MixRefIdeal.τ).loc Cert.MixRefIdeal.main_v133) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_GlaFwd_GlaFwdIdeal : Prop :=
  True

def algebraic_GlaFwdIdeal_GlaRefIdeal_pre_gla_finite [hGlaFwdIdeal : Cert.GlaFwdIdeal.Facts] [hGlaRefIdeal : Cert.GlaRefIdeal.Facts] [hPre_gla_finite : Cert.Pre_gla_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaFwdIdeal_gla_finite m →
    (∀ c : Dev Cert.GlaFwdIdeal.nD,
      m' ((c.tc : Thread Cert.GlaRefIdeal.nD Cert.GlaRefIdeal.τ).loc Cert.GlaRefIdeal.main_arg0) = m ((c.tc : Thread Cert.GlaFwdIdeal.nD Cert.GlaFwdIdeal.τ).loc Cert.GlaFwdIdeal.main_arg0)
      ∧ m' ((c.tc : Thread Cert.GlaRefIdeal.nD Cert.GlaRefIdeal.τ).loc Cert.GlaRefIdeal.main_arg1) = m ((c.tc : Thread Cert.GlaFwdIdeal.nD Cert.GlaFwdIdeal.τ).loc Cert.GlaFwdIdeal.main_arg1)
      ∧ m' ((c.tc : Thread Cert.GlaRefIdeal.nD Cert.GlaRefIdeal.τ).loc Cert.GlaRefIdeal.main_arg2) = m ((c.tc : Thread Cert.GlaFwdIdeal.nD Cert.GlaFwdIdeal.τ).loc Cert.GlaFwdIdeal.main_arg2)
      ∧ m' ((c.tc : Thread Cert.GlaRefIdeal.nD Cert.GlaRefIdeal.τ).loc Cert.GlaRefIdeal.main_arg3) = m ((c.tc : Thread Cert.GlaFwdIdeal.nD Cert.GlaFwdIdeal.τ).loc Cert.GlaFwdIdeal.main_arg3)
      ∧ m' ((c.tc : Thread Cert.GlaRefIdeal.nD Cert.GlaRefIdeal.τ).loc Cert.GlaRefIdeal.main_arg4) = m ((c.tc : Thread Cert.GlaFwdIdeal.nD Cert.GlaFwdIdeal.τ).loc Cert.GlaFwdIdeal.main_arg4)) →
    ∃ (v0 : (c : Dev Cert.GlaFwdIdeal.nD) → Buf (Elt Ideal) ((c.tc : Thread Cert.GlaFwdIdeal.nD Cert.GlaFwdIdeal.τ).loc Cert.GlaFwdIdeal.main_v9_0)) (v1 : (c : Dev Cert.GlaFwdIdeal.nD) → Buf (Elt Ideal) ((c.tc : Thread Cert.GlaFwdIdeal.nD Cert.GlaFwdIdeal.τ).loc Cert.GlaFwdIdeal.main_v9_1)) (v2 : (c : Dev Cert.GlaFwdIdeal.nD) → Buf (Elt Ideal) ((c.tc : Thread Cert.GlaFwdIdeal.nD Cert.GlaFwdIdeal.τ).loc Cert.GlaFwdIdeal.main_v9_2)) (v3 : (c : Dev Cert.GlaFwdIdeal.nD) → Buf (Elt Ideal) ((c.tc : Thread Cert.GlaFwdIdeal.nD Cert.GlaFwdIdeal.τ).loc Cert.GlaFwdIdeal.main_v9_3)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v9_0) = v0 c
          ∧ r.2.mem ((c.tc : Thread Cert.GlaFwdIdeal.nD Cert.GlaFwdIdeal.τ).loc Cert.GlaFwdIdeal.main_v9_1) = v1 c
          ∧ r.2.mem ((c.tc : Thread Cert.GlaFwdIdeal.nD Cert.GlaFwdIdeal.τ).loc Cert.GlaFwdIdeal.main_v9_2) = v2 c
          ∧ r.2.mem ((c.tc : Thread Cert.GlaFwdIdeal.nD Cert.GlaFwdIdeal.τ).loc Cert.GlaFwdIdeal.main_v9_3) = v3 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v103) = v0 c
          ∧ r.2.mem ((c.tc : Thread Cert.GlaRefIdeal.nD Cert.GlaRefIdeal.τ).loc Cert.GlaRefIdeal.main_v105) = v1 c
          ∧ r.2.mem ((c.tc : Thread Cert.GlaRefIdeal.nD Cert.GlaRefIdeal.τ).loc Cert.GlaRefIdeal.main_v109) = v2 c
          ∧ r.2.mem ((c.tc : Thread Cert.GlaRefIdeal.nD Cert.GlaRefIdeal.τ).loc Cert.GlaRefIdeal.main_v112) = v3 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)) →
    ∃ (v0 : (c : Dev Cert.KvFwdIdeal.nD) → Buf (Elt Ideal) ((c.tc : Thread Cert.KvFwdIdeal.nD Cert.KvFwdIdeal.τ).loc Cert.KvFwdIdeal.main_v3_0)) (v1 : (c : Dev Cert.KvFwdIdeal.nD) → Buf (Elt Ideal) ((c.tc : Thread Cert.KvFwdIdeal.nD Cert.KvFwdIdeal.τ).loc Cert.KvFwdIdeal.main_v3_1)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v3_0) = v0 c
          ∧ r.2.mem ((c.tc : Thread Cert.KvFwdIdeal.nD Cert.KvFwdIdeal.τ).loc Cert.KvFwdIdeal.main_v3_1) = v1 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v12) = v0 c
          ∧ r.2.mem ((c.tc : Thread Cert.KvFwdRefIdeal.nD Cert.KvFwdRefIdeal.τ).loc Cert.KvFwdRefIdeal.main_v13) = v1 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v2_0)) (v1 : (c : Dev Cert.InFwdIdeal.nD) → Buf (Elt Ideal) ((c.tc : Thread Cert.InFwdIdeal.nD Cert.InFwdIdeal.τ).loc Cert.InFwdIdeal.main_v2_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2_0) = v0 c
          ∧ r.2.mem ((c.tc : Thread Cert.InFwdIdeal.nD Cert.InFwdIdeal.τ).loc Cert.InFwdIdeal.main_v2_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v13) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_MatTn_MatTnIdeal : Prop :=
  True

def algebraic_MatTnIdeal_MatTnRefIdeal [hMatTnIdeal : Cert.MatTnIdeal.Facts] [hMatTnRefIdeal : Cert.MatTnRefIdeal.Facts] : Prop :=
  ∀ (m : (ℓ : Loc Cert.MatTnIdeal.nD Cert.MatTnIdeal.τ Cert.MatTnIdeal.sig) → Buf (Elt Ideal) ℓ) (g : Dev Cert.MatTnIdeal.nD → PrngReg)
    (m' : (ℓ : Loc Cert.MatTnRefIdeal.nD Cert.MatTnRefIdeal.τ Cert.MatTnRefIdeal.sig) → Buf (Elt Ideal) ℓ) (g' : Dev Cert.MatTnRefIdeal.nD → PrngReg), Pre_MatTnIdeal m →
    (∀ c : Dev Cert.MatTnIdeal.nD,
      m' ((c.tc : Thread Cert.MatTnRefIdeal.nD Cert.MatTnRefIdeal.τ).loc Cert.MatTnRefIdeal.main_arg0) = m ((c.tc : Thread Cert.MatTnIdeal.nD Cert.MatTnIdeal.τ).loc Cert.MatTnIdeal.main_arg0)
      ∧ m' ((c.tc : Thread Cert.MatTnRefIdeal.nD Cert.MatTnRefIdeal.τ).loc Cert.MatTnRefIdeal.main_arg1) = m ((c.tc : Thread Cert.MatTnIdeal.nD Cert.MatTnIdeal.τ).loc Cert.MatTnIdeal.main_arg1)) →
    ∃ (v0 : (c : Dev Cert.MatTnIdeal.nD) → Buf (Elt Ideal) ((c.tc : Thread Cert.MatTnIdeal.nD Cert.MatTnIdeal.τ).loc Cert.MatTnIdeal.main_v0)),
      θ_run (Cert.MatTnIdeal.defs (F := Ideal)) (onTc (τ := Cert.MatTnIdeal.τ) (Cert.MatTnIdeal.main (F := Ideal))) ⟨m, fun _ => 0, g⟩ (fun r => ∀ c : Dev Cert.MatTnIdeal.nD,
          r.2.mem ((c.tc : Thread Cert.MatTnIdeal.nD Cert.MatTnIdeal.τ).loc Cert.MatTnIdeal.main_v0) = v0 c
          ∧ r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
          ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1))
      ∧ θ_run (Cert.MatTnRefIdeal.defs (F := Ideal)) (onTc (τ := Cert.MatTnRefIdeal.τ) (Cert.MatTnRefIdeal.main (F := Ideal))) ⟨m', fun _ => 0, g'⟩ (fun r => ∀ c : Dev Cert.MatTnRefIdeal.nD,
          r.2.mem ((c.tc : Thread Cert.MatTnRefIdeal.nD Cert.MatTnRefIdeal.τ).loc Cert.MatTnRefIdeal.main_v3) = v0 c
          ∧ r.2.mem ((c.tc : Thread Cert.MatTnRefIdeal.nD Cert.MatTnRefIdeal.τ).loc Cert.MatTnRefIdeal.main_arg0) = m' ((c.tc : Thread Cert.MatTnRefIdeal.nD Cert.MatTnRefIdeal.τ).loc Cert.MatTnRefIdeal.main_arg0)
          ∧ r.2.mem ((c.tc : Thread Cert.MatTnRefIdeal.nD Cert.MatTnRefIdeal.τ).loc Cert.MatTnRefIdeal.main_arg1) = m' ((c.tc : Thread Cert.MatTnRefIdeal.nD Cert.MatTnRefIdeal.τ).loc Cert.MatTnRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v3) = v0 c
          ∧ r.2.mem ((c.tc : Thread Cert.AdamwRefIdeal.nD Cert.AdamwRefIdeal.τ).loc Cert.AdamwRefIdeal.main_v27) = v1 c
          ∧ r.2.mem ((c.tc : Thread Cert.AdamwRefIdeal.nD Cert.AdamwRefIdeal.τ).loc Cert.AdamwRefIdeal.main_v8) = v2 c
          ∧ r.2.mem ((c.tc : Thread Cert.AdamwRefIdeal.nD Cert.AdamwRefIdeal.τ).loc Cert.AdamwRefIdeal.main_v14) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def preserves_GlaReverse_GlaReverseIdeal : Prop :=
  True

def Claim : Prop :=
  ∃ (hKvBwd : Cert.KvBwd.Facts) (hKvBwdIdeal : Cert.KvBwdIdeal.Facts) (hKvRefIdeal : Cert.KvRefIdeal.Facts) (hAttnBwd : Cert.AttnBwd.Facts) (hAttnBwdIdeal : Cert.AttnBwdIdeal.Facts) (hAttnRefIdeal : Cert.AttnRefIdeal.Facts) (hMlpBwd : Cert.MlpBwd.Facts) (hMlpBwdIdeal : Cert.MlpBwdIdeal.Facts) (hMlpRefIdeal : Cert.MlpRefIdeal.Facts) (hInBwd : Cert.InBwd.Facts) (hInBwdIdeal : Cert.InBwdIdeal.Facts) (hInRefIdeal : Cert.InRefIdeal.Facts) (hLossBwd : Cert.LossBwd.Facts) (hLossBwdIdeal : Cert.LossBwdIdeal.Facts) (hLossRefIdeal : Cert.LossRefIdeal.Facts) (hMixFwd : Cert.MixFwd.Facts) (hMixFwdIdeal : Cert.MixFwdIdeal.Facts) (hMixRefIdeal : Cert.MixRefIdeal.Facts) (hGlaFwd : Cert.GlaFwd.Facts) (hGlaFwdIdeal : Cert.GlaFwdIdeal.Facts) (hGlaRefIdeal : Cert.GlaRefIdeal.Facts) (hKvFwd : Cert.KvFwd.Facts) (hKvFwdIdeal : Cert.KvFwdIdeal.Facts) (hKvFwdRefIdeal : Cert.KvFwdRefIdeal.Facts) (hInFwd : Cert.InFwd.Facts) (hInFwdIdeal : Cert.InFwdIdeal.Facts) (hInFwdRefIdeal : Cert.InFwdRefIdeal.Facts) (hMatTn : Cert.MatTn.Facts) (hMatTnIdeal : Cert.MatTnIdeal.Facts) (hMatTnRefIdeal : Cert.MatTnRefIdeal.Facts) (hAdamw : Cert.Adamw.Facts) (hAdamwIdeal : Cert.AdamwIdeal.Facts) (hAdamwRefIdeal : Cert.AdamwRefIdeal.Facts) (hGlaReverse : Cert.GlaReverse.Facts) (hGlaReverseIdeal : Cert.GlaReverseIdeal.Facts) (hPre_attn_finite : Cert.Pre_attn_finite.Facts) (hPre_mlp_finite : Cert.Pre_mlp_finite.Facts) (hPre_inproj_finite : Cert.Pre_inproj_finite.Facts) (hPre_loss_finite : Cert.Pre_loss_finite.Facts) (hPre_mix_finite : Cert.Pre_mix_finite.Facts) (hPre_gla_finite : Cert.Pre_gla_finite.Facts),
    quiescent_KvBwd (hKvBwd := hKvBwd)
    ∧ quiescent_KvBwdIdeal (hKvBwdIdeal := hKvBwdIdeal)
    ∧ quiescent_KvRefIdeal (hKvRefIdeal := hKvRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MlpBwd (hMlpBwd := hMlpBwd)
    ∧ quiescent_MlpBwdIdeal (hMlpBwdIdeal := hMlpBwdIdeal)
    ∧ quiescent_MlpBwdIdeal_pre_mlp_finite (hMlpBwdIdeal := hMlpBwdIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_InBwd (hInBwd := hInBwd)
    ∧ quiescent_InBwdIdeal (hInBwdIdeal := hInBwdIdeal)
    ∧ quiescent_InBwdIdeal_pre_inproj_finite (hInBwdIdeal := hInBwdIdeal) (hPre_inproj_finite := hPre_inproj_finite)
    ∧ quiescent_InRefIdeal (hInRefIdeal := hInRefIdeal)
    ∧ quiescent_InRefIdeal_pre_inproj_finite (hInRefIdeal := hInRefIdeal) (hPre_inproj_finite := hPre_inproj_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_MixFwd (hMixFwd := hMixFwd)
    ∧ quiescent_MixFwdIdeal (hMixFwdIdeal := hMixFwdIdeal)
    ∧ quiescent_MixFwdIdeal_pre_mix_finite (hMixFwdIdeal := hMixFwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_GlaFwd (hGlaFwd := hGlaFwd)
    ∧ quiescent_GlaFwdIdeal (hGlaFwdIdeal := hGlaFwdIdeal)
    ∧ quiescent_GlaFwdIdeal_pre_gla_finite (hGlaFwdIdeal := hGlaFwdIdeal) (hPre_gla_finite := hPre_gla_finite)
    ∧ quiescent_GlaRefIdeal (hGlaRefIdeal := hGlaRefIdeal)
    ∧ quiescent_GlaRefIdeal_pre_gla_finite (hGlaRefIdeal := hGlaRefIdeal) (hPre_gla_finite := hPre_gla_finite)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MatTn (hMatTn := hMatTn)
    ∧ quiescent_MatTnIdeal (hMatTnIdeal := hMatTnIdeal)
    ∧ quiescent_MatTnRefIdeal (hMatTnRefIdeal := hMatTnRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_GlaReverse (hGlaReverse := hGlaReverse)
    ∧ quiescent_GlaReverseIdeal (hGlaReverseIdeal := hGlaReverseIdeal)
    ∧ preserves_KvBwd_KvBwdIdeal
    ∧ algebraic_KvBwdIdeal_KvRefIdeal (hKvBwdIdeal := hKvBwdIdeal) (hKvRefIdeal := hKvRefIdeal)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_MlpBwd_MlpBwdIdeal
    ∧ algebraic_MlpBwdIdeal_MlpRefIdeal_pre_mlp_finite (hMlpBwdIdeal := hMlpBwdIdeal) (hMlpRefIdeal := hMlpRefIdeal) (hPre_mlp_finite := hPre_mlp_finite)
    ∧ preserves_InBwd_InBwdIdeal
    ∧ algebraic_InBwdIdeal_InRefIdeal_pre_inproj_finite (hInBwdIdeal := hInBwdIdeal) (hInRefIdeal := hInRefIdeal) (hPre_inproj_finite := hPre_inproj_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_MixFwd_MixFwdIdeal
    ∧ algebraic_MixFwdIdeal_MixRefIdeal_pre_mix_finite (hMixFwdIdeal := hMixFwdIdeal) (hMixRefIdeal := hMixRefIdeal) (hPre_mix_finite := hPre_mix_finite)
    ∧ preserves_GlaFwd_GlaFwdIdeal
    ∧ algebraic_GlaFwdIdeal_GlaRefIdeal_pre_gla_finite (hGlaFwdIdeal := hGlaFwdIdeal) (hGlaRefIdeal := hGlaRefIdeal) (hPre_gla_finite := hPre_gla_finite)
    ∧ preserves_KvFwd_KvFwdIdeal
    ∧ algebraic_KvFwdIdeal_KvFwdRefIdeal (hKvFwdIdeal := hKvFwdIdeal) (hKvFwdRefIdeal := hKvFwdRefIdeal)
    ∧ preserves_InFwd_InFwdIdeal
    ∧ algebraic_InFwdIdeal_InFwdRefIdeal (hInFwdIdeal := hInFwdIdeal) (hInFwdRefIdeal := hInFwdRefIdeal)
    ∧ preserves_MatTn_MatTnIdeal
    ∧ algebraic_MatTnIdeal_MatTnRefIdeal (hMatTnIdeal := hMatTnIdeal) (hMatTnRefIdeal := hMatTnRefIdeal)
    ∧ preserves_Adamw_AdamwIdeal
    ∧ algebraic_AdamwIdeal_AdamwRefIdeal (hAdamwIdeal := hAdamwIdeal) (hAdamwRefIdeal := hAdamwRefIdeal)
    ∧ preserves_GlaReverse_GlaReverseIdeal
-- ==== Pre_attn_finite.lean ====
abbrev S8192x1024 : Shape := ⟨2, ![8192, 1024]⟩
abbrev S256x1024 : Shape := ⟨2, ![256, 1024]⟩
abbrev S1x1024 : Shape := ⟨2, ![1, 1024]⟩
abbrev S1024x1024 : Shape := ⟨2, ![1024, 1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S1024x2048 : S_.BroadcastsInDim S1024x2048 (![] : Fin 0 → Fin S1024x2048.rank)

variable [Facts]

def fn_part1 {F : FTy → Type} [FloatOps F] (main_arg6 : FVec F S1024x2048 .f32) (main_arg7 : FVec F S1024x1024 .f32) (main_v2 : IVec S8192x1024 1) (main_v5 : IVec S256x1024 1) (main_v8 : IVec S8192x1024 1) (main_v11 : IVec S1x1024 1) (main_v14 : IVec S1x1024 1) (main_v17 : IVec S1024x1024 1) : IVec S8192x1024 1 × IVec S256x1024 1 × IVec S8192x1024 1 × IVec S1x1024 1 × IVec S1x1024 1 × IVec S1024x1024 1 × IVec S1024x2048 1 × IVec S1024x1024 1 :=
  let main_v18 : FVec F S1024x2048 .f32 := Host.absf main_arg6
  let main_cst_5 : FVec F S_ .f32 := constant S_ .f32 0x7F800000#32
  let main_v19 : FVec F S1024x2048 .f32 := broadcastInDim S1024x2048 ![] bcast_S_S1024x2048 main_cst_5
  let main_v20 : IVec S1024x2048 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S8192x1024 .f32) (main_arg1 : FVec F S256x1024 .f32) (main_arg2 : FVec F S8192x1024 .f32) (main_arg3 : FVec F S1x1024 .f32) (main_arg4 : FVec F S1x1024 .f32) (main_arg5 : FVec F S1024x1024 .f32) (main_arg6 : FVec F S1024x2048 .f32) (main_arg7 : FVec F S1024x1024 .f32) (main_arg8 : FVec F S1024x1024 .f32) : IVec S8192x1024 1 × IVec S256x1024 1 × IVec S8192x1024 1 × IVec S1x1024 1 × IVec S1x1024 1 × IVec S1024x1024 1 × IVec S1024x2048 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_v2 main_v5 main_v8 main_v11 main_v14 main_v17
-- ==== Pre_gla_finite.lean ====
abbrev S8192x3104 : Shape := ⟨2, ![8192, 3104]⟩
abbrev S16x256 : Shape := ⟨2, ![16, 256]⟩
abbrev S1x256 : Shape := ⟨2, ![1, 256]⟩
abbrev S8192x32 : Shape := ⟨2, ![8192, 32]⟩
abbrev S_ : Shape := ⟨0, ![]⟩

class Facts : Prop where
  slices_S8192x3104_S8192x32_0_3072 : S8192x3104.Slices ![0, 3072] S8192x32
  bcast_S_S8192x32 : S_.BroadcastsInDim S8192x32 (![] : Fin 0 → Fin S8192x32.rank)
  bcast_S_S16x256 : S_.BroadcastsInDim S16x256 (![] : Fin 0 → Fin S16x256.rank)
  bcast_S_S1x256 : S_.BroadcastsInDim S1x256 (![] : Fin 0 → Fin S1x256.rank)

variable [Facts]

def fn {F : FTy → Type} [FloatOps F] (main_arg0 : FVec F S8192x3104 .f32) (main_arg1 : FVec F S16x256 .f32) (main_arg2 : FVec F S1x256 .f32) (main_arg3 : FVec F S16x256 .f32) (main_arg4 : FVec F S1x256 .f32) : IVec S8192x32 1 × IVec S16x256 1 × IVec S1x256 1 × IVec S16x256 1 × IVec S1x256 1 :=
  let main_v0 : FVec F S8192x32 .f32 := (extractStridedSlice S8192x32 ![0, 3072] · slices_S8192x3104_S8192x32_0_3072) main_arg0
  let main_v1 : FVec F S8192x32 .f32 := Host.absf main_v0
  let main_cst : FVec F S_ .f32 := constant S_ .f32 0x7F800000#32
  let main_v2 : FVec F S8192x32 .f32 := broadcastInDim S8192x32 ![] bcast_S_S8192x32 main_cst
  let main_v3 : IVec S8192x32 1 := cmpf .olt main_v1 main_v2
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_v7 : FVec F S1x256 .f32 := Host.absf main_arg2
  let main_cst_1 : FVec F S_ .f32 := constant S_ .f32 0x7F800000#32
  let main_v8 : FVec F S1x256 .f32 := broadcastInDim S1x256 ![] bcast_S_S1x256 main_cst_1
  let main_v9 : IVec S1x256 1 := cmpf .olt main_v7 main_v8
  let main_v10 : FVec F S16x256 .f32 := Host.absf main_arg3
  let main_cst_2 : FVec F S_ .f32 := constant S_ .f32 0x7F800000#32
  let main_v11 : FVec F S16x256 .f32 := broadcastInDim S16x256 ![] bcast_S_S16x256 main_cst_2
  let main_v12 : IVec S16x256 1 := cmpf .olt main_v10 main_v11
  let main_v13 : FVec F S1x256 .f32 := Host.absf main_arg4
  let main_cst_3 : FVec F S_ .f32 := constant S_ .f32 0x7F800000#32
  let main_v14 : FVec F S1x256 .f32 := broadcastInDim S1x256 ![] bcast_S_S1x256 main_cst_3
  let main_v15 : IVec S1x256 1 := cmpf .olt main_v13 main_v14
  (main_v3, main_v6, main_v9, main_v12, main_v15)
-- ==== Pre_inproj_finite.lean ====
abbrev S8192x1024 : Shape := ⟨2, ![8192, 1024]⟩
abbrev S8192x3104 : Shape := ⟨2, ![8192, 3104]⟩
abbrev S1x1024 : Shape := ⟨2, ![1, 1024]⟩
abbrev S1024x3104 : Shape := ⟨2, ![1024, 3104]⟩
abbrev S_ : Shape := ⟨0, ![]⟩

class Facts : Prop where
  bcast_S_S8192x1024 : S_.BroadcastsInDim S8192x1024 (![] : Fin 0 → Fin S8192x1024.rank)
  bcast_S_S8192x3104 : S_.BroadcastsInDim S8192x3104 (![] : Fin 0 → Fin S8192x3104.rank)
  bcast_S_S1x1024 : S_.BroadcastsInDim S1x1024 (![] : Fin 0 → Fin S1x1024.rank)
  bcast_S_S1024x3104 : S_.BroadcastsInDim S1024x3104 (![] : Fin 0 → Fin S1024x3104.rank)

variable [Facts]

def fn {F : FTy → Type} [FloatOps F] (main_arg0 : FVec F S8192x1024 .f32) (main_arg1 : FVec F S8192x3104 .f32) (main_arg2 : FVec F S8192x1024 .f32) (main_arg3 : FVec F S1x1024 .f32) (main_arg4 : FVec F S1024x3104 .f32) : IVec S8192x1024 1 × IVec S8192x3104 1 × IVec S1x1024 1 × IVec S1024x3104 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x3104 .f32 := Host.absf main_arg1
  let main_cst_0 : FVec F S_ .f32 := constant S_ .f32 0x7F800000#32
  let main_v4 : FVec F S8192x3104 .f32 := broadcastInDim S8192x3104 ![] bcast_S_S8192x3104 main_cst_0
  let main_v5 : IVec S8192x3104 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x3104 .f32 := Host.absf main_arg4
  let main_cst_2 : FVec F S_ .f32 := constant S_ .f32 0x7F800000#32
  let main_v10 : FVec F S1024x3104 .f32 := broadcastInDim S1024x3104 ![] bcast_S_S1024x3104 main_cst_2
  let main_v11 : IVec S1024x3104 1 := cmpf .olt main_v9 main_v10
  (main_v2, main_v5, main_v8, main_v11)
-- ==== Pre_loss_finite.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S8192x1024 .f32) (main_arg2 : FVec F S1x1024 .f32) (main_arg3 : FVec F S1024x4096 .f32) (main_arg4 : FVec F S4096x1024 .f32) (main_arg5 : FVec F S1x1024 .f32) : IVec S8192x1024 1 × IVec S8192x1024 1 × IVec S1x1024 1 × IVec S1024x4096 1 × IVec S4096x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_mix_finite.lean ====
abbrev S8192x1024 : Shape := ⟨2, ![8192, 1024]⟩
abbrev S256x1024 : Shape := ⟨2, ![256, 1024]⟩
abbrev S8192x3104 : Shape := ⟨2, ![8192, 3104]⟩
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩

class Facts : Prop where
  bcast_S_S8192x3104 : S_.BroadcastsInDim S8192x3104 (![] : Fin 0 → Fin S8192x3104.rank)
  bcast_S_S3x512 : S_.BroadcastsInDim S3x512 (![] : Fin 0 → Fin S3x512.rank)

variable [Facts]

def fn {F : FTy → Type} [FloatOps F] (main_arg0 : FVec F S8192x1024 .f32) (main_arg1 : FVec F S256x1024 .f32) (main_arg2 : FVec F S8192x3104 .f32) (main_arg3 : FVec F S8192x512 .f32) (main_arg4 : FVec F S8192x512 .f32) (main_arg5 : FVec F S3x512 .f32) (main_arg6 : FVec F S1x512 .f32) (main_arg7 : FVec F S1x128 .f32) (main_arg8 : FVec F S1024x1024 .f32) (main_arg9 : FVec F S1x1024 .f32) (main_arg10 : FVec F S1x1024 .f32) (main_arg11 : FVec F S1024x1024 .f32) (main_arg12 : FVec F S1024x2048 .f32) (main_arg13 : FVec F S1024x1024 .f32) : IVec S8192x3104 1 × IVec S3x512 1 :=
  let main_v0 : FVec F S8192x3104 .f32 := Host.absf main_arg2
  let main_cst : FVec F S_ .f32 := constant S_ .f32 0x7F800000#32
  let main_v1 : FVec F S8192x3104 .f32 := broadcastInDim S8192x3104 ![] bcast_S_S8192x3104 main_cst
  let main_v2 : IVec S8192x3104 1 := cmpf .olt main_v0 main_v1
  let main_v3 : FVec F S3x512 .f32 := Host.absf main_arg5
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  (main_v2, main_v5)
-- ==== Pre_mlp_finite.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S8192x1024 .f32) (main_arg2 : FVec F S1x1024 .f32) (main_arg3 : FVec F S1024x4096 .f32) (main_arg4 : FVec F S4096x1024 .f32) : IVec S8192x1024 1 × IVec S8192x1024 1 × IVec S1x1024 1 × IVec S1024x4096 1 × IVec S4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== KvBwd.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S1024x8x256 : Shape := ⟨3, ![1024, 8, 256]⟩
abbrev S8x1024x256 : Shape := ⟨3, ![8, 1024, 256]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S8x1024 : Shape := ⟨2, ![8, 1024]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S256x2048, .f32⟩
  | .hbm, ⟨8, _⟩ => ⟨S256x1024, .bf16⟩
  | .hbm, ⟨9, _⟩ => ⟨S8x1024x256, .f32⟩
  | .hbm, ⟨10, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x2048, .f32⟩
  | .local _ .vmem, ⟨4, _⟩ => ⟨S256x1024, .bf16⟩
  | .local _ .vmem, ⟨5, _⟩ => ⟨S256x2048, .f32⟩
  | .local _ .vmem, ⟨6, _⟩ => ⟨S256x1024, .bf16⟩
  | .local _ .vmem, ⟨7, _⟩ => ⟨S256x1024, .f32⟩
  | .local _ .vmem, ⟨8, _⟩ => ⟨S1x1024, .f32⟩
  | .local _ .vmem, ⟨9, _⟩ => ⟨S8x1024x256, .bf16⟩
  | .local _ .vmem, ⟨10, _⟩ => ⟨S8x1024x256, .f32⟩
  | .local _ .vmem, ⟨11, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x1024x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KvRefIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩
abbrev S1024x8x256 : Shape := ⟨3, ![1024, 8, 256]⟩
abbrev S8x1024x256 : Shape := ⟨3, ![8, 1024, 256]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S2048x1024, .f32⟩
  | .hbm, ⟨21, _⟩ => ⟨S1024x2048, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x8x256, .f32⟩
  | .hbm, ⟨28, _⟩ => ⟨S8x1024x256, .f32⟩
  | .hbm, ⟨29, _⟩ => ⟨S8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== AttnBwd.lean ====
abbrev S8192x1024 : Shape := ⟨2, ![8192, 1024]⟩
abbrev S256x1024 : Shape := ⟨2, ![256, 1024]⟩
abbrev S1x1024 : Shape := ⟨2, ![1, 1024]⟩
abbrev S1024x1024 : Shape := ⟨2, ![1024, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S256x2048 : Shape := ⟨2, ![256, 2048]⟩
abbrev S8x1024 : Shape := ⟨2, ![8, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024 : Shape := ⟨1, ![1024]⟩

abbrev nBuf : Space → Nat
  | .hbm => 55
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1024x2048, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S256x1024, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S256x2048, .f32⟩
  | .hbm, ⟨42, _⟩ => ⟨S256x2048, .bf16⟩
  | .hbm, ⟨43, _⟩ => ⟨S8192x1024, .bf16⟩
  | .hbm, ⟨44, _⟩ => ⟨S256x1024, .bf16⟩
  | .hbm, ⟨45, _⟩ => ⟨S256x1024, .bf16⟩
  | .hbm, ⟨46, _⟩ => ⟨S1024x1024, .bf16⟩
  | .hbm, ⟨47, _⟩ => ⟨S1024x1024, .bf16⟩
  | .hbm, ⟨48, _⟩ => ⟨S1024x1024, .bf16⟩
  | .hbm, ⟨49, _⟩ => ⟨S8192x1024, .f32⟩
  | .hbm, ⟨50, _⟩ => ⟨S8192x1024, .bf16⟩
  | .hbm, ⟨51, _⟩ => ⟨S8192x1024, .f32⟩
  | .hbm, ⟨52, _⟩ => ⟨S8192x1024, .bf16⟩
  | .hbm, ⟨53, _⟩ => ⟨S256x2048, .f32⟩
  | .hbm, ⟨54, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S256x2048, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v34_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AttnRefIdeal.lean ====
abbrev S8192x1024 : Shape := ⟨2, ![8192, 1024]⟩
abbrev S256x1024 : Shape := ⟨2, ![256, 1024]⟩
abbrev S1x1024 : Shape := ⟨2, ![1, 1024]⟩
abbrev S1024x1024 : Shape := ⟨2, ![1024, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S8192 : Shape := ⟨1, ![8192]⟩
abbrev S8192x1 : Shape := ⟨2, ![8192, 1]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024 : Shape := ⟨1, ![1024]⟩
abbrev S8x1024 : Shape := ⟨2, ![8, 1024]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S256x1024, .f32⟩
  | 2 => ⟨S8192x1024, .f32⟩
  | 3 => ⟨S1x1024, .f32⟩
  | 4 => ⟨S1x1024, .f32⟩
  | 5 => ⟨S1024x1024, .f32⟩
  | 6 => ⟨S1024x2048, .f32⟩
  | 7 => ⟨S1024x1024, .f32⟩
  | 8 => ⟨S1024x1024, .f32⟩
  | 9 => ⟨S256x1024, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x1, .f32⟩
  | 20 => ⟨S256x1024, .f32⟩
  | 21 => ⟨S256x1024, .f32⟩
  | 22 => ⟨S256x1024, .f32⟩
  | 23 => ⟨S256x1024, .f32⟩
  | 24 => ⟨S256x2048, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S256x1024, .f32⟩
  | 46 => ⟨S256x1024, .f32⟩
  | 47 => ⟨S8192x4x256, .f32⟩
  | 48 => ⟨S256x4x256, .f32⟩
  | 49 => ⟨S256x4x256, .f32⟩
  | 50 => ⟨S4x8192x256, .f32⟩
  | 51 => ⟨S_, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x256, .f32⟩
  | 58 => ⟨S4x8192x256, .i1⟩
  | 59 => ⟨S4x8192x256, .f32⟩
  | 60 => ⟨S_, .f32⟩
  | 61 => ⟨S4x8192, .f32⟩
  | 62 => ⟨S_, .f32⟩
  | 63 => ⟨S4x8192, .f32⟩
  | 64 => ⟨S4x8192, .f32⟩
  | 65 => ⟨S_, .f32⟩
  | 66 => ⟨S4x8192, .f32⟩
  | 67 => ⟨S4x8192, .i1⟩
  | 68 => ⟨S_, .f32⟩
  | 69 => ⟨S4x8192, .f32⟩
  | 70 => ⟨S4x8192, .i1⟩
  | 71 => ⟨S_, .f32⟩
  | 72 => ⟨S4x8192, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S4x8192, .f32⟩
  | 79 => ⟨S4x8192x1, .f32⟩
  | 80 => ⟨S4x8192x256, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x256, .f32⟩
  | 87 => ⟨S4x8192x256, .f32⟩
  | 88 => ⟨S4x8192x1, .f32⟩
  | 89 => ⟨S_, .f32⟩
  | 90 => ⟨S4x8192x1, .f32⟩
  | 91 => ⟨S4x8192x1, .f32⟩
  | 92 => ⟨S4x256x8192, .f32⟩
  | 93 => ⟨S8192x4x256, .f32⟩
  | 94 => ⟨S8192x1024, .f32⟩
  | 95 => ⟨S8192x1024, .f32⟩
  | 96 => ⟨S8192x1024, .f32⟩
  | 97 => ⟨S8192x4x256, .f32⟩
  | 98 => ⟨S4x256x8192, .f32⟩
  | 99 => ⟨S4x8192x256, .f32⟩
  | 100 => ⟨S4x256x256, .f32⟩
  | 101 => ⟨S256x4x256, .f32⟩
  | 102 => ⟨S4x8192x256, .f32⟩
  | 103 => ⟨S4x8192x256, .f32⟩
  | 104 => ⟨S4x8192x256, .f32⟩
  | 105 => ⟨S_, .f32⟩
  | 106 => ⟨S4x8192, .f32⟩
  | 107 => ⟨S4x8192x1, .f32⟩
  | 108 => ⟨S4x8192x1, .f32⟩
  | 109 => ⟨S4x8192x256, .f32⟩
  | 110 => ⟨S4x8192x256, .f32⟩
  | 111 => ⟨S_, .f32⟩
  | 112 => ⟨S4x8192, .f32⟩
  | 113 => ⟨S4x8192x256, .f32⟩
  | 114 => ⟨S4x8192x256, .f32⟩
  | 115 => ⟨S4x8192x256, .f32⟩
  | 116 => ⟨S_, .f32⟩
  | 117 => ⟨S4x8192x256, .f32⟩
  | 118 => ⟨S4x8192x256, .f32⟩
  | 119 => ⟨S4x256x256, .f32⟩
  | 120 => ⟨S256x4x256, .f32⟩
  | 121 => ⟨S4x8192x256, .f32⟩
  | 122 => ⟨S8192x4x256, .f32⟩
  | 123 => ⟨S256x1024, .f32⟩
  | 124 => ⟨S256x1024, .f32⟩
  | 125 => ⟨S8192x1024, .f32⟩
  | 126 => ⟨S256x2048, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1024, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .bf16⟩
  | 29 => ⟨S8192x1024, .bf16⟩
  | 30 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_cst_23 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_24 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== MlpBwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x1024 : Shape := ⟨2, ![8, 1024]⟩
abbrev S256x1024 : Shape := ⟨2, ![256, 1024]⟩
abbrev S256x4096 : Shape := ⟨2, ![256, 4096]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .bf16⟩
  | .hbm, ⟨22, _⟩ => ⟨S8192x1024, .bf16⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S8192x4096, .bf16⟩
  | .hbm, ⟨27, _⟩ => ⟨S8192x4096, .bf16⟩
  | .hbm, ⟨28, _⟩ => ⟨S8192x1024, .f32⟩
  | .hbm, ⟨29, _⟩ => ⟨S8192x1024, .bf16⟩
  | .hbm, ⟨30, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S4096x1024, .bf16⟩
  | .local _ .vmem, ⟨7, _⟩ => ⟨S4096x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x1024, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x4096, .bf16⟩
  | .hbm, ⟨69, _⟩ => ⟨S8192x4096, .bf16⟩
  | .hbm, ⟨70, _⟩ => ⟨S8192x1024, .bf16⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== InBwd.lean ====
abbrev S8192x1024 : Shape := ⟨2, ![8192, 1024]⟩
abbrev S8192x3104 : Shape := ⟨2, ![8192, 3104]⟩
abbrev S1x1024 : Shape := ⟨2, ![1, 1024]⟩
abbrev S1024x3104 : Shape := ⟨2, ![1024, 3104]⟩
abbrev S_ : Shape := ⟨0, ![]⟩
abbrev S8192x3200 : Shape := ⟨2, ![8192, 3200]⟩
abbrev S3104x1024 : Shape := ⟨2, ![3104, 1024]⟩
abbrev S8x1024 : Shape := ⟨2, ![8, 1024]⟩
abbrev S512x3200 : Shape := ⟨2, ![512, 3200]⟩
abbrev S512x1024 : Shape := ⟨2, ![512, 1024]⟩
abbrev S512x3072 : Shape := ⟨2, ![512, 3072]⟩
abbrev S3072x1024 : Shape := ⟨2, ![3072, 1024]⟩
abbrev S512x128 : Shape := ⟨2, ![512, 128]⟩
abbrev S32x1024 : Shape := ⟨2, ![32, 1024]⟩
abbrev S96x1024 : Shape := ⟨2, ![96, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x3104, .f32⟩
  | .hbm, ⟨2, _⟩ => ⟨S8192x1024, .f32⟩
  | .hbm, ⟨3, _⟩ => ⟨S1x1024, .f32⟩
  | .hbm, ⟨4, _⟩ => ⟨S1024x3104, .f32⟩
  | .hbm, ⟨5, _⟩ => ⟨S_, .i32⟩
  | .hbm, ⟨6, _⟩ => ⟨S_, .f32⟩
  | .hbm, ⟨7, _⟩ => ⟨S8192x3200, .f32⟩
  | .hbm, ⟨8, _⟩ => ⟨S8192x3200, .bf16⟩
  | .hbm, ⟨9, _⟩ => ⟨S3104x1024, .f32⟩
  | .hbm, ⟨10, _⟩ => ⟨S3104x1024, .bf16⟩
  | .hbm, ⟨11, _⟩ => ⟨S8192x1024, .f32⟩
  | .hbm, ⟨12, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S3104x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3104x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S8192x1024 : Shape := ⟨2, ![8192, 1024]⟩
abbrev S8192x3104 : Shape := ⟨2, ![8192, 3104]⟩
abbrev S1x1024 : Shape := ⟨2, ![1, 1024]⟩
abbrev S1024x3104 : Shape := ⟨2, ![1024, 3104]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3104, .f32⟩
  | .hbm, ⟨2, _⟩ => ⟨S8192x1024, .f32⟩
  | .hbm, ⟨3, _⟩ => ⟨S1x1024, .f32⟩
  | .hbm, ⟨4, _⟩ => ⟨S1024x3104, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3104, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LossBwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S8192x4096 : Shape := ⟨2, ![8192, 4096]⟩
abbrev S8x128 : Shape := ⟨2, ![8, 128]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S1 : Shape := ⟨1, ![1]⟩
abbrev S1x1 : Shape := ⟨2, ![1, 1]⟩
abbrev S1024 : Shape := ⟨1, ![1024]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S8192x4096, .bf16⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8x128, .f32⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x128, .f32⟩
  | .local _ .vmem, ⟨17, _⟩ => ⟨S8x1024, .f32⟩
  | .local _ .vmem, ⟨18, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S8x128 : Shape := ⟨2, ![8, 128]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x4096, .bf16⟩
  | .hbm, ⟨94, _⟩ => ⟨S8192x1024, .bf16⟩
  | .hbm, ⟨95, _⟩ => ⟨S8192x1024, .bf16⟩
  | .hbm, ⟨96, _⟩ => ⟨S8x128, .f32⟩
  | .hbm, ⟨97, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== MixFwd.lean ====
abbrev S8192x1024 : Shape := ⟨2, ![8192, 1024]⟩
abbrev S256x1024 : Shape := ⟨2, ![256, 1024]⟩
abbrev S8192x3104 : Shape := ⟨2, ![8192, 3104]⟩
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S8192x3200 : Shape := ⟨2, ![8192, 3200]⟩
abbrev S256 : Shape := ⟨1, ![256]⟩
abbrev S256x1 : Shape := ⟨2, ![256, 1]⟩
abbrev S256x2048 : Shape := ⟨2, ![256, 2048]⟩
abbrev S1x1x1x128 : Shape := ⟨4, ![1, 1, 1, 128]⟩
abbrev S1x1x4x128 : Shape := ⟨4, ![1, 1, 4, 128]⟩
abbrev S512x1024 : Shape := ⟨2, ![512, 1024]⟩
abbrev S512x256 : Shape := ⟨2, ![512, 256]⟩
abbrev S512x512 : Shape := ⟨2, ![512, 512]⟩
abbrev S8x512 : Shape := ⟨2, ![8, 512]⟩
abbrev S128x256 : Shape := ⟨2, ![128, 256]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S256x256 : Shape := ⟨2, ![256, 256]⟩

abbrev nBuf : Space → Nat
  | .hbm => 49
  | .vmem => 51
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x3104, .f32⟩
  | .hbm, ⟨3, _⟩ => ⟨S8192x512, .f32⟩
  | .hbm, ⟨4, _⟩ => ⟨S8192x512, .f32⟩
  | .hbm, ⟨5, _⟩ => ⟨S3x512, .f32⟩
  | .hbm, ⟨6, _⟩ => ⟨S1x512, .f32⟩
  | .hbm, ⟨7, _⟩ => ⟨S1x128, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024x2048, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S8192x3200, .f32⟩
  | .hbm, ⟨17, _⟩ => ⟨S256x1024, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x2048, .f32⟩
  | .hbm, ⟨33, _⟩ => ⟨S256x2048, .bf16⟩
  | .hbm, ⟨34, _⟩ => ⟨S1x1x1x128, .f32⟩
  | .hbm, ⟨35, _⟩ => ⟨S1x1x4x128, .f32⟩
  | .hbm, ⟨36, _⟩ => ⟨S1x512, .f32⟩
  | .hbm, ⟨37, _⟩ => ⟨S1024x1024, .bf16⟩
  | .hbm, ⟨38, _⟩ => ⟨S1024x1024, .bf16⟩
  | .hbm, ⟨39, _⟩ => ⟨S256x1024, .bf16⟩
  | .hbm, ⟨40, _⟩ => ⟨S256x1024, .bf16⟩
  | .hbm, ⟨41, _⟩ => ⟨S1024x1024, .bf16⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S3x512, .f32⟩
  | .local _ .vmem, ⟨29, _⟩ => ⟨S1x512, .f32⟩
  | .local _ .vmem, ⟨30, _⟩ => ⟨S1x512, .f32⟩
  | .local _ .vmem, ⟨31, _⟩ => ⟨S1024x1024, .bf16⟩
  | .local _ .vmem, ⟨32, _⟩ => ⟨S1x1024, .f32⟩
  | .local _ .vmem, ⟨33, _⟩ => ⟨S1024x1024, .bf16⟩
  | .local _ .vmem, ⟨34, _⟩ => ⟨S256x1024, .bf16⟩
  | .local _ .vmem, ⟨35, _⟩ => ⟨S256x1024, .bf16⟩
  | .local _ .vmem, ⟨36, _⟩ => ⟨S1024x1024, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x512, .f32⟩
  | .local _ .vmem, ⟨50, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev main_v23_4 : Ref sig .tc := ⟨.hbm, 46, rfl⟩
abbrev main_v23_5 : Ref sig .tc := ⟨.hbm, 47, rfl⟩
abbrev main_v23_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_stg27_0 : Ref sig .tc := ⟨.vmem, 45, rfl⟩
abbrev cc0_stg27_1 : Ref sig .tc := ⟨.vmem, 46, rfl⟩
abbrev cc0_stg28_0 : Ref sig .tc := ⟨.vmem, 47, rfl⟩
abbrev cc0_stg28_1 : Ref sig .tc := ⟨.vmem, 48, rfl⟩
abbrev cc0_stg29_0 : Ref sig .tc := ⟨.vmem, 49, rfl⟩
abbrev cc0_stg29_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44
abbrev cc0_sem27_0 : DmaSem sig := 45
abbrev cc0_sem27_1 : DmaSem sig := 46
abbrev cc0_sem28_0 : DmaSem sig := 47
abbrev cc0_sem28_1 : DmaSem sig := 48
abbrev cc0_sem29_0 : DmaSem sig := 49
abbrev cc0_sem29_1 : DmaSem sig := 50

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== MixRefIdeal.lean ====
abbrev S8192x1024 : Shape := ⟨2, ![8192, 1024]⟩
abbrev S256x1024 : Shape := ⟨2, ![256, 1024]⟩
abbrev S8192x3104 : Shape := ⟨2, ![8192, 3104]⟩
abbrev S8192x512 : Shape := ⟨2, ![8192, 512]⟩
abbrev S3x512 : Shape := ⟨2, ![3, 512]⟩
abbrev S1x512 : Shape := ⟨2, ![1, 512]⟩
abbrev S1x128 : Shape := ⟨2, ![1, 128]⟩
abbrev S1024x1024 : Shape := ⟨2, ![1024, 1024]⟩
abbrev S1x1024 : Shape := ⟨2, ![1, 1024]⟩
abbrev S1024x2048 : Shape := ⟨2, ![1024, 2048]⟩
abbrev S8192x256 : Shape := ⟨2, ![8192, 256]⟩
abbrev S8192x32 : Shape := ⟨2, ![8192, 32]⟩
abbrev S_ : Shape := ⟨0, ![]⟩
abbrev S8194x512 : Shape := ⟨2, ![8194, 512]⟩
abbrev S512 : Shape := ⟨1, ![512]⟩
abbrev S8192x8x64 : Shape := ⟨3, ![8192, 8, 64]⟩
abbrev S8x64 : Shape := ⟨2, ![8, 64]⟩
abbrev S8192x8 : Shape := ⟨2, ![8192, 8]⟩
abbrev S8192x8x1 : Shape := ⟨3, ![8192, 8, 1]⟩
abbrev S1x8x64 : Shape := ⟨3, ![1, 8, 64]⟩
abbrev S8192x4x64 : Shape := ⟨3, ![8192, 4, 64]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S256x2048 : Shape := ⟨2, ![256, 2048]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 175
  | .vmem => 0
  | .smem => 0
  | _ => 0

abbrev hbmTy0_0 (i : Nat) : BufTy := match i % 128 with
  | 0 => ⟨S8192x1024, .f32⟩
  | 1 => ⟨S256x1024, .f32⟩
  | 2 => ⟨S8192x3104, .f32⟩
  | 3 => ⟨S8192x512, .f32⟩
  | 4 => ⟨S8192x512, .f32⟩
  | 5 => ⟨S3x512, .f32⟩
  | 6 => ⟨S1x512, .f32⟩
  | 7 => ⟨S1x128, .f32⟩
  | 8 => ⟨S1024x1024, .f32⟩
  | 9 => ⟨S1x1024, .f32⟩
  | 10 => ⟨S1x1024, .f32⟩
  | 11 => ⟨S1024x1024, .f32⟩
  | 12 => ⟨S1024x2048, .f32⟩
  | 13 => ⟨S1024x1024, .f32⟩
  | 14 => ⟨S8192x512, .f32⟩
  | 15 => ⟨S8192x512, .f32⟩
  | 16 => ⟨S8192x512, .f32⟩
  | 17 => ⟨S8192x256, .f32⟩
  | 18 => ⟨S8192x256, .f32⟩
  | 19 => ⟨S8192x512, .f32⟩
  | 20 => ⟨S8192x512, .f32⟩
  | 21 => ⟨S8192x32, .f32⟩
  | 22 => ⟨S8192x512, .f32⟩
  | 23 => ⟨S_, .i32⟩
  | 24 => ⟨S_, .f32⟩
  | 25 => ⟨S8194x512, .f32⟩
  | 26 => ⟨S1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S8192x512, .f32⟩
  | 47 => ⟨S8192x8x64, .f32⟩
  | 48 => ⟨S8x64, .f32⟩
  | 49 => ⟨S8192x8x64, .f32⟩
  | 50 => ⟨S_, .f32⟩
  | 51 => ⟨S8192x8, .f32⟩
  | 52 => ⟨S8192x8x1, .f32⟩
  | 53 => ⟨S_, .f32⟩
  | 54 => ⟨S8192x8x1, .f32⟩
  | 55 => ⟨S8192x8x1, .f32⟩
  | 56 => ⟨S_, .f32⟩
  | 57 => ⟨S8192x8x1, .f32⟩
  | 58 => ⟨S8192x8x1, .f32⟩
  | 59 => ⟨S8192x8x1, .f32⟩
  | 60 => ⟨S8192x8x64, .f32⟩
  | 61 => ⟨S8192x8x64, .f32⟩
  | 62 => ⟨S1x8x64, .f32⟩
  | 63 => ⟨S8192x8x64, .f32⟩
  | 64 => ⟨S8192x8x64, .f32⟩
  | 65 => ⟨S8192x512, .f32⟩
  | 66 => ⟨S8192x4x64, .f32⟩
  | 67 => ⟨S_, .f32⟩
  | 68 => ⟨S8192x4x64, .f32⟩
  | 69 => ⟨S8192x4x64, .f32⟩
  | 70 => ⟨S8192x4x64, .f32⟩
  | 71 => ⟨S8192x4x128, .f32⟩
  | 72 => ⟨S8192x4, .f32⟩
  | 73 => ⟨S8192x4x1, .f32⟩
  | 74 => ⟨S8192x4x128, .f32⟩
  | 75 => ⟨S8192x4x128, .f32⟩
  | 76 => ⟨S8192x4x128, .f32⟩
  | 77 => ⟨S8192x4x128, .f32⟩
  | 78 => ⟨S8192x4x128, .f32⟩
  | 79 => ⟨S8192x4x128, .f32⟩
  | 80 => ⟨S8192x4x128, .f32⟩
  | 81 => ⟨S_, .f32⟩
  | 82 => ⟨S8192x4, .f32⟩
  | 83 => ⟨S8192x4x1, .f32⟩
  | 84 => ⟨S_, .f32⟩
  | 85 => ⟨S8192x4x1, .f32⟩
  | 86 => ⟨S8192x4x1, .f32⟩
  | 87 => ⟨S_, .f32⟩
  | 88 => ⟨S8192x4x1, .f32⟩
  | 89 => ⟨S8192x4x1, .f32⟩
  | 90 => ⟨S8192x4x1, .f32⟩
  | 91 => ⟨S8192x4x128, .f32⟩
  | 92 => ⟨S8192x4x128, .f32⟩
  | 93 => ⟨S1x1x128, .f32⟩
  | 94 => ⟨S8192x4x128, .f32⟩
  | 95 => ⟨S8192x4x128, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S256x1024, .f32⟩
  | 127 => ⟨S_, .f32⟩
  | _ => ⟨S8192x1024, .f32⟩

abbrev hbmTy0_1 (i : Nat) : BufTy := match i % 128 with
  | 0 => ⟨S256, .f32⟩
  | 1 => ⟨S256x1, .f32⟩
  | 2 => ⟨S_, .f32⟩
  | 3 => ⟨S256x1, .f32⟩
  | 4 => ⟨S256x1, .f32⟩
  | 5 => ⟨S_, .f32⟩
  | 6 => ⟨S256x1, .f32⟩
  | 7 => ⟨S256x1, .f32⟩
  | 8 => ⟨S256x1, .f32⟩
  | 9 => ⟨S256x1024, .f32⟩
  | 10 => ⟨S256x1024, .f32⟩
  | 11 => ⟨S256x1024, .f32⟩
  | 12 => ⟨S256x1024, .f32⟩
  | 13 => ⟨S256x2048, .f32⟩
  | 14 => ⟨S256x1024, .f32⟩
  | 15 => ⟨S256x1024, .f32⟩
  | 16 => ⟨S8192x4x256, .f32⟩
  | 17 => ⟨S256x4x256, .f32⟩
  | 18 => ⟨S4x8192x256, .f32⟩
  | 19 => ⟨S_, .f32⟩
  | 20 => ⟨S4x8192x256, .f32⟩
  | 21 => ⟨S4x8192x256, .f32⟩
  | 22 => ⟨S_, .f32⟩
  | 23 => ⟨S4x8192, .f32⟩
  | 24 => ⟨S_, .f32⟩
  | 25 => ⟨S4x8192, .f32⟩
  | 26 => ⟨S4x8192, .f32⟩
  | 27 => ⟨S4x8192x1, .f32⟩
  | 28 => ⟨S4x8192x256, .f32⟩
  | 29 => ⟨S4x8192x256, .f32⟩
  | 30 => ⟨S4x8192x256, .f32⟩
  | 31 => ⟨S_, .f32⟩
  | 32 => ⟨S4x8192, .f32⟩
  | 33 => ⟨S4x8192x1, .f32⟩
  | 34 => ⟨S4x8192x256, .f32⟩
  | 35 => ⟨S4x8192x256, .f32⟩
  | 36 => ⟨S256x4x256, .f32⟩
  | 37 => ⟨S4x256x8192, .f32⟩
  | 38 => ⟨S8192x4x256, .f32⟩
  | 39 => ⟨S8192x1024, .f32⟩
  | 40 => ⟨S8192x1024, .f32⟩
  | 41 => ⟨S8192x1024, .f32⟩
  | 42 => ⟨S8192x1024, .bf16⟩
  | 43 => ⟨S8192x1024, .bf16⟩
  | 44 => ⟨S8192x1024, .bf16⟩
  | 45 => ⟨S8192x1024, .bf16⟩
  | 46 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩
abbrev main_cst_1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_3 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_cst_7 : Ref sig .tc := ⟨.hbm, 114, rfl⟩
abbrev main_v82 : Ref sig .tc := ⟨.hbm, 115, rfl⟩
abbrev main_v83 : Ref sig .tc := ⟨.hbm, 116, rfl⟩
abbrev main_cst_8 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_9 : Ref sig .tc := ⟨.hbm, 127, rfl⟩
abbrev main_v93 : Ref sig .tc := ⟨.hbm, 128, rfl⟩
abbrev main_v94 : Ref sig .tc := ⟨.hbm, 129, rfl⟩
abbrev main_cst_10 : Ref sig .tc := ⟨.hbm, 130, rfl⟩
abbrev main_v95 : Ref sig .tc := ⟨.hbm, 131, rfl⟩
abbrev main_v96 : Ref sig .tc := ⟨.hbm, 132, rfl⟩
abbrev main_cst_11 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_12 : Ref sig .tc := ⟨.hbm, 147, rfl⟩
abbrev main_v110 : Ref sig .tc := ⟨.hbm, 148, rfl⟩
abbrev main_v111 : Ref sig .tc := ⟨.hbm, 149, rfl⟩
abbrev main_cst_13 : Ref sig .tc := ⟨.hbm, 150, rfl⟩
abbrev main_v112 : Ref sig .tc := ⟨.hbm, 151, rfl⟩
abbrev main_cst_14 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_15 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩

abbrev nD : Nat := 1
abbrev τ : Topo := Topo.v7x

variable {F : FTy → Type} [FloatOps F]
-- ==== GlaFwd.lean ====
abbrev S8192x3104 : Shape := ⟨2, ![8192, 3104]⟩
abbrev S16x256 : Shape := ⟨2, ![16, 256]⟩
abbrev S1x256 : Shape := ⟨2, ![1, 256]⟩
abbrev S_ : Shape := ⟨0, ![]⟩
abbrev S8192x3200 : Shape := ⟨2, ![8192, 3200]⟩
abbrev S0x256 : Shape := ⟨2, ![0, 256]⟩
abbrev S112x256 : Shape := ⟨2, ![112, 256]⟩
abbrev S128x256 : Shape := ⟨2, ![128, 256]⟩
abbrev S96x256 : Shape := ⟨2, ![96, 256]⟩
abbrev S8192x512 : Shape := ⟨2, ![8192, 512]⟩
abbrev S128x128x256 : Shape := ⟨3, ![128, 128, 256]⟩
abbrev S512x256 : Shape := ⟨2, ![512, 256]⟩
abbrev S512x512 : Shape := ⟨2, ![512, 512]⟩
abbrev S512x128 : Shape := ⟨2, ![512, 128]⟩
abbrev S8x128x256 : Shape := ⟨3, ![8, 128, 256]⟩
abbrev S128x128 : Shape := ⟨2, ![128, 128]⟩
abbrev S64x256 : Shape := ⟨2, ![64, 256]⟩
abbrev S1x128x256 : Shape := ⟨3, ![1, 128, 256]⟩
abbrev S256x256 : Shape := ⟨2, ![256, 256]⟩
abbrev S256x128 : Shape := ⟨2, ![256, 128]⟩
abbrev S64x128 : Shape := ⟨2, ![64, 128]⟩
abbrev S64x512 : Shape := ⟨2, ![64, 512]⟩
abbrev S256x512 : Shape := ⟨2, ![256, 512]⟩

abbrev nBuf : Space → Nat
  | .hbm => 24
  | .vmem => 32
  | .smem => 0
  | _ => 0

abbrev bufTy : (tb : Table) → Fin (tcTables nBuf tb) → BufTy
  | .hbm, ⟨0, _⟩ => ⟨S8192x3104, .f32⟩
  | .hbm, ⟨1, _⟩ => ⟨S16x256, .f32⟩
  | .hbm, ⟨2, _⟩ => ⟨S1x256, .f32⟩
  | .hbm, ⟨3, _⟩ => ⟨S16x256, .f32⟩
  | .hbm, ⟨4, _⟩ => ⟨S1x256, .f32⟩
  | .hbm, ⟨5, _⟩ => ⟨S_, .i32⟩
  | .hbm, ⟨6, _⟩ => ⟨S_, .f32⟩
  | .hbm, ⟨7, _⟩ => ⟨S8192x3200, .f32⟩
  | .hbm, ⟨8, _⟩ => ⟨S_, .bf16⟩
  | .hbm, ⟨9, _⟩ => ⟨S0x256, .bf16⟩
  | .hbm, ⟨10, _⟩ => ⟨S16x256, .bf16⟩
  | .hbm, ⟨11, _⟩ => ⟨S_, .bf16⟩
  | .hbm, ⟨12, _⟩ => ⟨S112x256, .bf16⟩
  | .hbm, ⟨13, _⟩ => ⟨S128x256, .bf16⟩
  | .hbm, ⟨14, _⟩ => ⟨S_, .bf16⟩
  | .hbm, ⟨15, _⟩ => ⟨S16x256, .bf16⟩
  | .hbm, ⟨16, _⟩ => ⟨S16x256, .bf16⟩
  | .hbm, ⟨17, _⟩ => ⟨S_, .bf16⟩
  | .hbm, ⟨18, _⟩ => ⟨S96x256, .bf16⟩
  | .hbm, ⟨19, _⟩ => ⟨S128x256, .bf16⟩
  | .hbm, ⟨20, _⟩ => ⟨S8192x512, .f32⟩
  | .hbm, ⟨21, _⟩ => ⟨S128x128x256, .f32⟩
  | .hbm, ⟨22, _⟩ => ⟨S8192x512, .f32⟩
  | .hbm, ⟨23, _⟩ => ⟨S128x128x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S128x256, .bf16⟩
  | .local _ .vmem, ⟨17, _⟩ => ⟨S1x256, .f32⟩
  | .local _ .vmem, ⟨18, _⟩ => ⟨S128x256, .bf16⟩
  | .local _ .vmem, ⟨19, _⟩ => ⟨S1x256, .f32⟩
  | .local _ .vmem, ⟨20, _⟩ => ⟨S512x512, .f32⟩
  | .local _ .vmem, ⟨21, _⟩ => ⟨S512x512, .f32⟩
  | .local _ .vmem, ⟨22, _⟩ => ⟨S8x128x256, .f32⟩
  | .local _ .vmem, ⟨23, _⟩ => ⟨S8x128x256, .f32⟩
  | .local _ .vmem, ⟨24, _⟩ => ⟨S512x512, .f32⟩
  | .local _ .vmem, ⟨25, _⟩ => ⟨S512x512, .f32⟩
  | .local _ .vmem, ⟨26, _⟩ => ⟨S8x128x256, .f32⟩
  | .local _ .vmem, ⟨27, _⟩ => ⟨S8x128x256, .f32⟩
  | .local _ .vmem, ⟨28, _⟩ => ⟨S128x256, .f32⟩
  | .local _ .vmem, ⟨29, _⟩ => ⟨S128x256, .f32⟩
  | .local _ .vmem, ⟨30, _⟩ => ⟨S512x256, .f32⟩
  | .local _ .vmem, ⟨31, _⟩ => ⟨S512x256, .f32⟩
  | _, _ => ⟨S8192x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c24_i32 : BitVec 32 := 24#32
  let c0_i32 : BitVec 32 := 0#32
  ![v0.toNat, c24_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GlaRefIdeal.lean ====
abbrev S8192x3104 : Shape := ⟨2, ![8192, 3104]⟩
abbrev S16x256 : Shape := ⟨2, ![16, 256]⟩
abbrev S1x256 : Shape := ⟨2, ![1, 256]⟩
abbrev S8192x1536 : Shape := ⟨2, ![8192, 1536]⟩
abbrev S8192x256 : Shape := ⟨2, ![8192, 256]⟩
abbrev S8192x512 : Shape := ⟨2, ![8192, 512]⟩
abbrev S8192x16 : Shape := ⟨2, ![8192, 16]⟩
abbrev S8192x4x64 : Shape := ⟨3, ![8192, 4, 64]⟩
abbrev S_ : Shape := ⟨0, ![]⟩
abbrev S8192x4x128 : Shape := ⟨3, ![8192, 4, 128]⟩
abbrev S1x8192x4x64 : Shape := ⟨4, ![1, 8192, 4, 64]⟩
abbrev S2x8192x4x64 : Shape := ⟨4, ![2, 8192, 4, 64]⟩
abbrev S1x8192x4x128 : Shape := ⟨4, ![1, 8192, 4, 128]⟩
abbrev S2x8192x4x128 : Shape := ⟨4, ![2, 8192, 4, 128]⟩
abbrev S2x128x64x4x64 : Shape := ⟨5, ![2, 128, 64, 4, 64]⟩
abbrev S2x4x128x64x64 : Shape := ⟨5, ![2, 4, 128, 64, 64]⟩
abbrev S2x128x64x4x128 : Shape := ⟨5, ![2, 128, 64, 4, 128]⟩
abbrev S2x4x128x64x128 : Shape := ⟨5, ![2, 4, 128, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x128x1x64 : Shape := ⟨5, ![2, 4, 128, 1, 64]⟩
abbrev S2x4x128x64 : Shape := ⟨4, ![2, 4, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S2x4x64x128x128 : Shape := ⟨5, ![2, 4, 64, 128, 128]⟩
abbrev S2x4x128x128x64 : Shape := ⟨5, ![2, 4, 128, 128, 64]⟩
abbrev S128x128x1 : Shape := ⟨3, ![128, 128, 1]⟩
abbrev S2x128x128x4x64 : Shape := ⟨5, ![2, 128, 128, 4, 64]⟩
abbrev S2x128x128x256 : Shape := ⟨4, ![2, 128, 128, 256]⟩
abbrev S1x128x128x256 : Shape := ⟨4, ![1, 128, 128, 256]⟩
abbrev S128x128x256 : Shape := ⟨3, ![128, 128, 256]⟩

abbrev nBuf : Space → Nat
  | .hbm => 159
  | .vmem => 0
  | .smem => 0
  | _ => 0

abbrev hbmTy0_0 (i : Nat) : BufTy := match i % 128 with
  | 0 => ⟨S8192x3104, .f32⟩
  | 1 => ⟨S16x256, .f32⟩
  | 2 => ⟨S1x256, .f32⟩
  | 3 => ⟨S16x256, .f32⟩
  | 4 => ⟨S1x256, .f32⟩
  | 5 => ⟨S8192x1536, .f32⟩
  | 6 => ⟨S8192x256, .f32⟩
  | 7 => ⟨S8192x256, .f32⟩
  | 8 => ⟨S8192x512, .f32⟩
  | 9 => ⟨S8192x512, .f32⟩
  | 10 => ⟨S8192x16, .f32⟩
  | 11 => ⟨S8192x16, .f32⟩
  | 12 => ⟨S8192x4x64, .f32⟩
  | 13 => ⟨S_, .f32⟩
  | 14 => ⟨S8192x4x64, .f32⟩
  | 15 => ⟨S8192x4x64, .f32⟩
  | 16 => ⟨S8192x4x64, .f32⟩
  | 17 => ⟨S8192x4x128, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S8192x256, .f32⟩
  | 26 => ⟨S8192x256, .f32⟩
  | 27 => ⟨S8192x256, .i1⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S_, .f32⟩
  | 38 => ⟨S8192x256, .f32⟩
  | 39 => ⟨S8192x256, .f32⟩
  | 40 => ⟨S8192x4x64, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S8192x256, .f32⟩
  | 49 => ⟨S8192x256, .f32⟩
  | 50 => ⟨S8192x256, .i1⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S8192x4x64, .f32⟩
  | 64 => ⟨S8192x4x64, .f32⟩
  | 65 => ⟨S1x8192x4x64, .f32⟩
  | 66 => ⟨S1x8192x4x64, .f32⟩
  | 67 => ⟨S2x8192x4x64, .f32⟩
  | 68 => ⟨S8192x4x64, .f32⟩
  | 69 => ⟨S1x8192x4x64, .f32⟩
  | 70 => ⟨S1x8192x4x64, .f32⟩
  | 71 => ⟨S2x8192x4x64, .f32⟩
  | 72 => ⟨S8192x4x128, .f32⟩
  | 73 => ⟨S1x8192x4x128, .f32⟩
  | 74 => ⟨S1x8192x4x128, .f32⟩
  | 75 => ⟨S2x8192x4x128, .f32⟩
  | 76 => ⟨S8192x4x64, .f32⟩
  | 77 => ⟨S1x8192x4x64, .f32⟩
  | 78 => ⟨S1x8192x4x64, .f32⟩
  | 79 => ⟨S2x8192x4x64, .f32⟩
  | 80 => ⟨S2x128x64x4x64, .f32⟩
  | 81 => ⟨S2x4x128x64x64, .f32⟩
  | 82 => ⟨S2x128x64x4x64, .f32⟩
  | 83 => ⟨S2x4x128x64x64, .f32⟩
  | 84 => ⟨S2x128x64x4x128, .f32⟩
  | 85 => ⟨S2x4x128x64x128, .f32⟩
  | 86 => ⟨S2x128x64x4x64, .f32⟩
  | 87 => ⟨S2x4x128x64x64, .f32⟩
  | 88 => ⟨S64, .i32⟩
  | 89 => ⟨S64x1, .i32⟩
  | 90 => ⟨S1x64, .i32⟩
  | 91 => ⟨S64x64, .i32⟩
  | 92 => ⟨S64x64, .i32⟩
  | 93 => ⟨S64x64, .i1⟩
  | 94 => ⟨S64x64, .f32⟩
  | 95 => ⟨S2x4x128x64x64, .f32⟩
  | 96 => ⟨S2x4x128x64x64, .f32⟩
  | 97 => ⟨S2x4x128x64x64, .f32⟩
  | 98 => ⟨S2x4x128x64x64, .f32⟩
  | 99 => ⟨S2x4x128x64x64, .f32⟩
  | 100 => ⟨S2x4x128x64x64, .f32⟩
  | 101 => ⟨S2x4x128x64x64, .f32⟩
  | 102 => ⟨S2x4x128x64x64, .f32⟩
  | 103 => ⟨S_, .f32⟩
  | 104 => ⟨S_, .f32⟩
  | 105 => ⟨S2x4x128x64x64, .i1⟩
  | 106 => ⟨S2x4x128x64x64, .f32⟩
  | 107 => ⟨S2x4x128x64x64, .f32⟩
  | 108 => ⟨S2x4x128x64x128, .f32⟩
  | 109 => ⟨S2x4x128x1x64, .f32⟩
  | 110 => ⟨S2x4x128x64, .f32⟩
  | 111 => ⟨S2x4x128x1x64, .f32⟩
  | 112 => ⟨S2x4x128x64x64, .f32⟩
  | 113 => ⟨S2x4x128x64x64, .f32⟩
  | 114 => ⟨S2x4x128x64x64, .f32⟩
  | 115 => ⟨S2x4x128x64x64, .f32⟩
  | 116 => ⟨S2x4x128x64x128, .f32⟩
  | 117 => ⟨S128, .i32⟩
  | 118 => ⟨S128x1, .i32⟩
  | 119 => ⟨S1x128, .i32⟩
  | 120 => ⟨S128x128, .i32⟩
  | 121 => ⟨S128x128, .i32⟩
  | 122 => ⟨S128x128, .i1⟩
  | 123 => ⟨S128x1x128, .i1⟩
  | 124 => ⟨S128x128, .i1⟩
  | 125 => ⟨S1x128x128, .i1⟩
  | 126 => ⟨S128x128x128, .i1⟩
  | 127 => ⟨S128x128x128, .i1⟩
  | _ => ⟨S8192x3104, .f32⟩

abbrev hbmTy0_1 (i : Nat) : BufTy := match i % 128 with
  | 0 => ⟨S128x128x128, .i1⟩
  | 1 => ⟨S128x128x128, .f32⟩
  | 2 => ⟨S2x4x64x128x128, .f32⟩
  | 3 => ⟨S2x4x128x128x64, .f32⟩
  | 4 => ⟨S2x4x128x128x64, .f32⟩
  | 5 => ⟨S128x128x1, .i1⟩
  | 6 => ⟨S_, .f32⟩
  | 7 => ⟨S_, .f32⟩
  | 8 => ⟨S2x4x128x128x64, .i1⟩
  | 9 => ⟨S2x4x128x128x64, .f32⟩
  | 10 => ⟨S2x4x128x128x64, .f32⟩
  | 11 => ⟨S2x4x64x128x128, .f32⟩
  | 12 => ⟨S2x4x128x64x128, .f32⟩
  | 13 => ⟨S2x4x128x64x128, .f32⟩
  | 14 => ⟨S2x4x128x64x128, .f32⟩
  | 15 => ⟨S2x128x64x4x128, .f32⟩
  | 16 => ⟨S2x8192x4x128, .f32⟩
  | 17 => ⟨S2x128x128x4x64, .f32⟩
  | 18 => ⟨S2x128x128x256, .f32⟩
  | 19 => ⟨S1x8192x4x128, .f32⟩
  | 20 => ⟨S8192x4x128, .f32⟩
  | 21 => ⟨S8192x512, .f32⟩
  | 22 => ⟨S1x128x128x256, .f32⟩
  | 23 => ⟨S128x128x256, .f32⟩
  | 24 => ⟨S1x8192x4x128, .f32⟩
  | 25 => ⟨S8192x4x128, .f32⟩
  | 26 => ⟨S8192x4x128, .f32⟩
  | 27 => ⟨S8192x512, .f32⟩
  | 28 => ⟨S1x128x128x256, .f32⟩
  | 29 => ⟨S128x128x256, .f32⟩
  | 30 => ⟨S128x128x256, .f32⟩
  | _ => ⟨S8192x3104, .f32⟩

abbrev hbmTy (i : Nat) : BufTy := match i / 128 with
  | 0 => hbmTy0_0 i
  | 1 => hbmTy0_1 i
  | _ => ⟨S8192x3104, .f32⟩

abbrev bufTy : (tb : Table) → Fin (tcTables nBuf tb) → BufTy
  | .hbm, ⟨i, _⟩ => hbmTy i
  | _, _ => ⟨S8192x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v22 : Ref sig .tc := ⟨.hbm, 59, rfl⟩
abbrev main_cst_1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_2 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_3 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== KvFwd.lean ====
abbrev S256x1024 : Shape := ⟨2, ![256, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 8
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S256x2048, .f32⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S8x1024x256, .bf16⟩
  | .local _ .vmem, ⟨3, _⟩ => ⟨S256x2048, .f32⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KvFwdRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x2048, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InFwd.lean ====
abbrev S8192x1024 : Shape := ⟨2, ![8192, 1024]⟩
abbrev S1x1024 : Shape := ⟨2, ![1, 1024]⟩
abbrev S1024x3104 : Shape := ⟨2, ![1024, 3104]⟩
abbrev S3104x1024 : Shape := ⟨2, ![3104, 1024]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S3072x1024 : Shape := ⟨2, ![3072, 1024]⟩
abbrev S512x3072 : Shape := ⟨2, ![512, 3072]⟩
abbrev S32x1024 : Shape := ⟨2, ![32, 1024]⟩
abbrev S96x1024 : Shape := ⟨2, ![96, 1024]⟩
abbrev S128x1024 : Shape := ⟨2, ![128, 1024]⟩
abbrev S512x128 : Shape := ⟨2, ![512, 128]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S3104x1024, .f32⟩
  | .hbm, ⟨4, _⟩ => ⟨S3104x1024, .bf16⟩
  | .hbm, ⟨5, _⟩ => ⟨S8192x3200, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3104x1024, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3104x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S1x1024 : Shape := ⟨2, ![1, 1024]⟩
abbrev S1024x3104 : Shape := ⟨2, ![1024, 3104]⟩
abbrev S_ : Shape := ⟨0, ![]⟩
abbrev S8192 : Shape := ⟨1, ![8192]⟩
abbrev S8192x1 : Shape := ⟨2, ![8192, 1]⟩
abbrev S8192x3104 : Shape := ⟨2, ![8192, 3104]⟩
abbrev S8192x3200 : Shape := ⟨2, ![8192, 3200]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3104, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3104, .f32⟩
  | .hbm, ⟨19, _⟩ => ⟨S_, .i32⟩
  | .hbm, ⟨20, _⟩ => ⟨S_, .f32⟩
  | .hbm, ⟨21, _⟩ => ⟨S8192x3200, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== MatTn.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MatTnRefIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S4096x8192, .f32⟩
  | .hbm, ⟨4, _⟩ => ⟨S8192x1024, .f32⟩
  | .hbm, ⟨5, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Adamw.lean ====
abbrev S1x512x1024 : Shape := ⟨3, ![1, 512, 1024]⟩
abbrev S512x1024 : Shape := ⟨2, ![512, 1024]⟩
abbrev S3x512x1024 : Shape := ⟨3, ![3, 512, 1024]⟩
abbrev S1x256x1024 : Shape := ⟨3, ![1, 256, 1024]⟩
abbrev S256x1024 : Shape := ⟨2, ![256, 1024]⟩
abbrev S3x256x1024 : Shape := ⟨3, ![3, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S512x1024, .f32⟩
  | .hbm, ⟨4, _⟩ => ⟨S3x512x1024, .bf16⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S3x256x1024, .bf16⟩
  | .local _ .vmem, ⟨9, _⟩ => ⟨S3x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwRefIdeal.lean ====
abbrev S1x512x1024 : Shape := ⟨3, ![1, 512, 1024]⟩
abbrev S512x1024 : Shape := ⟨2, ![512, 1024]⟩
abbrev S3x512x1024 : Shape := ⟨3, ![3, 512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S512x1024, .f32⟩
  | .hbm, ⟨4, _⟩ => ⟨S3x512x1024, .bf16⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S1x512x1024, .f32⟩
  | .hbm, ⟨10, _⟩ => ⟨S_, .f32⟩
  | .hbm, ⟨11, _⟩ => ⟨S1x512x1024, .f32⟩
  | .hbm, ⟨12, _⟩ => ⟨S1x512x1024, .f32⟩
  | .hbm, ⟨13, _⟩ => ⟨S_, .f32⟩
  | .hbm, ⟨14, _⟩ => ⟨S1x512x1024, .f32⟩
  | .hbm, ⟨15, _⟩ => ⟨S1x512x1024, .f32⟩
  | .hbm, ⟨16, _⟩ => ⟨S1x512x1024, .f32⟩
  | .hbm, ⟨17, _⟩ => ⟨S_, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S_, .f32⟩
  | .hbm, ⟨22, _⟩ => ⟨S1x512x1024, .f32⟩
  | .hbm, ⟨23, _⟩ => ⟨S1x512x1024, .f32⟩
  | .hbm, ⟨24, _⟩ => ⟨S1x512x1024, .f32⟩
  | .hbm, ⟨25, _⟩ => ⟨S_, .f32⟩
  | .hbm, ⟨26, _⟩ => ⟨S1x512x1024, .f32⟩
  | .hbm, ⟨27, _⟩ => ⟨S1x512x1024, .f32⟩
  | .hbm, ⟨28, _⟩ => ⟨S_, .f32⟩
  | .hbm, ⟨29, _⟩ => ⟨S1x512x1024, .f32⟩
  | .hbm, ⟨30, _⟩ => ⟨S1x512x1024, .f32⟩
  | .hbm, ⟨31, _⟩ => ⟨S1x512x1024, .f32⟩
  | .hbm, ⟨32, _⟩ => ⟨S_, .f32⟩
  | .hbm, ⟨33, _⟩ => ⟨S1x512x1024, .f32⟩
  | .hbm, ⟨34, _⟩ => ⟨S1x512x1024, .f32⟩
  | .hbm, ⟨35, _⟩ => ⟨S1x512x1024, .f32⟩
  | .hbm, ⟨36, _⟩ => ⟨S_, .f32⟩
  | .hbm, ⟨37, _⟩ => ⟨S1x512x1024, .f32⟩
  | .hbm, ⟨38, _⟩ => ⟨S1x512x1024, .f32⟩
  | .hbm, ⟨39, _⟩ => ⟨S1x512x1024, .f32⟩
  | .hbm, ⟨40, _⟩ => ⟨S_, .f32⟩
  | .hbm, ⟨41, _⟩ => ⟨S1x512x1024, .f32⟩
  | .hbm, ⟨42, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== GlaReverse.lean ====
abbrev S8192x3200 : Shape := ⟨2, ![8192, 3200]⟩
abbrev S8192x512 : Shape := ⟨2, ![8192, 512]⟩
abbrev S128x128x256 : Shape := ⟨3, ![128, 128, 256]⟩
abbrev S128x256 : Shape := ⟨2, ![128, 256]⟩
abbrev S1x256 : Shape := ⟨2, ![1, 256]⟩
abbrev S8192x256 : Shape := ⟨2, ![8192, 256]⟩
abbrev S8192x128 : Shape := ⟨2, ![8192, 128]⟩
abbrev S3x512 : Shape := ⟨2, ![3, 512]⟩
abbrev S8x256 : Shape := ⟨2, ![8, 256]⟩
abbrev S512x256 : Shape := ⟨2, ![512, 256]⟩
abbrev S512x512 : Shape := ⟨2, ![512, 512]⟩
abbrev S512x128 : Shape := ⟨2, ![512, 128]⟩
abbrev S8x128x256 : Shape := ⟨3, ![8, 128, 256]⟩
abbrev S8x512 : Shape := ⟨2, ![8, 512]⟩
abbrev S512x3200 : Shape := ⟨2, ![512, 3200]⟩
abbrev S128x128 : Shape := ⟨2, ![128, 128]⟩
abbrev S64x256 : Shape := ⟨2, ![64, 256]⟩
abbrev S64x512 : Shape := ⟨2, ![64, 512]⟩
abbrev S1x128x256 : Shape := ⟨3, ![1, 128, 256]⟩
abbrev S256x256 : Shape := ⟨2, ![256, 256]⟩
abbrev S256x512 : Shape := ⟨2, ![256, 512]⟩
abbrev S256x128 : Shape := ⟨2, ![256, 128]⟩
abbrev S64x128 : Shape := ⟨2, ![64, 128]⟩
abbrev S64x768 : Shape := ⟨2, ![64, 768]⟩
abbrev S768x256 : Shape := ⟨2, ![768, 256]⟩
abbrev S256 : Shape := ⟨1, ![256]⟩
abbrev S1x512 : Shape := ⟨2, ![1, 512]⟩

abbrev nBuf : Space → Nat
  | .hbm => 16
  | .vmem => 49
  | .smem => 0
  | _ => 0

abbrev bufTy : (tb : Table) → Fin (tcTables nBuf tb) → BufTy
  | .hbm, ⟨0, _⟩ => ⟨S8192x3200, .f32⟩
  | .hbm, ⟨1, _⟩ => ⟨S8192x512, .f32⟩
  | .hbm, ⟨2, _⟩ => ⟨S128x128x256, .f32⟩
  | .hbm, ⟨3, _⟩ => ⟨S128x256, .bf16⟩
  | .hbm, ⟨4, _⟩ => ⟨S1x256, .f32⟩
  | .hbm, ⟨5, _⟩ => ⟨S8192x256, .f32⟩
  | .hbm, ⟨6, _⟩ => ⟨S8192x256, .f32⟩
  | .hbm, ⟨7, _⟩ => ⟨S8192x512, .f32⟩
  | .hbm, ⟨8, _⟩ => ⟨S8192x128, .f32⟩
  | .hbm, ⟨9, _⟩ => ⟨S8192x512, .bf16⟩
  | .hbm, ⟨10, _⟩ => ⟨S8192x512, .bf16⟩
  | .hbm, ⟨11, _⟩ => ⟨S8192x512, .f32⟩
  | .hbm, ⟨12, _⟩ => ⟨S3x512, .f32⟩
  | .hbm, ⟨13, _⟩ => ⟨S8192x3200, .bf16⟩
  | .hbm, ⟨14, _⟩ => ⟨S128x256, .f32⟩
  | .hbm, ⟨15, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S8x128x256, .f32⟩
  | .local _ .vmem, ⟨15, _⟩ => ⟨S8x128x256, .f32⟩
  | .local _ .vmem, ⟨16, _⟩ => ⟨S128x256, .bf16⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x512, .f32⟩
  | .local _ .vmem, ⟨23, _⟩ => ⟨S512x512, .f32⟩
  | .local _ .vmem, ⟨24, _⟩ => ⟨S512x128, .f32⟩
  | .local _ .vmem, ⟨25, _⟩ => ⟨S512x128, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .f32⟩
  | .local _ .vmem, ⟨31, _⟩ => ⟨S512x512, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S3x512, .f32⟩
  | .local _ .vmem, ⟨37, _⟩ => ⟨S512x3200, .bf16⟩
  | .local _ .vmem, ⟨38, _⟩ => ⟨S512x3200, .bf16⟩
  | .local _ .vmem, ⟨39, _⟩ => ⟨S128x256, .f32⟩
  | .local _ .vmem, ⟨40, _⟩ => ⟨S8x256, .f32⟩
  | .local _ .vmem, ⟨41, _⟩ => ⟨S128x256, .f32⟩
  | .local _ .vmem, ⟨42, _⟩ => ⟨S512x256, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | .local _ .vmem, ⟨46, _⟩ => ⟨S512x512, .f32⟩
  | .local _ .vmem, ⟨47, _⟩ => ⟨S512x512, .f32⟩
  | .local _ .vmem, ⟨48, _⟩ => ⟨S512x256, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg22_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem20_0 : DmaSem sig := 37
abbrev cc0_sem20_1 : DmaSem sig := 38
abbrev cc0_sem21_0 : DmaSem sig := 39
abbrev cc0_sem22_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x3200 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Proof.Kv.Run.lean ====
module

public import proofs.«01_k».proof.Proof.Gen.KvBwdIdeal.Frame

/-! # The run of the memory projection's backward program

The program is a short host prologue (the weight in column blocks) and two kernel calls. This module runs the three
pieces in sequence and states what each buffer holds at the end; both frames and the value claim are read off it. -/

@[expose] public section

set_option maxRecDepth 16384

noncomputable section

namespace Cert.KvBwdIdeal.Hand

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Cert.KvBwdIdeal Cert.KvBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and then every buffer outside the kernels' own memory holds the last boundary's contents, and
    no semaphore holds a count. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The two results and the four arguments at the end of a run. -/
theorem run : θ_run defs (onTc (τ := τ) (main (F := F))) ⟨m, fun _ => 0, ρ⟩ (fun r =>
      (∀ c : Dev nD,
        (r.2.mem ((c.tc : Thread nD τ).loc main_v4_0) = (dat1 (V2 m ρ) c).arrAt 5 cfg1.N
        ∧ r.2.mem ((c.tc : Thread nD τ).loc main_v4_1) = (dat1 (V2 m ρ) c).arrAt 6 cfg1.N)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c =>
    ⟨⟨(h.1 c _ (mem_uc main_v4_0 (by decide))).trans (W3_arr m ρ c 5),
      (h.1 c _ (mem_uc main_v4_1 (by decide))).trans (W3_arr m ρ c 6)⟩,
     (h.1 c _ (mem_uc main_arg0 (by decide))).trans (W3_main_arg0 m ρ c),
     (h.1 c _ (mem_uc main_arg1 (by decide))).trans (W3_main_arg1 m ρ c),
     (h.1 c _ (mem_uc main_arg2 (by decide))).trans (W3_main_arg2 m ρ c),
     (h.1 c _ (mem_uc main_arg3 (by decide))).trans (W3_main_arg3 m ρ c)⟩, h.2⟩) (run_all m ρ)

end Cert.KvBwdIdeal.Hand

end
-- ==== Proof.Kv.Pure.lean ====
module

public import proofs.«01_k».proof.Proof.Gen.KvBwdIdeal.Frame
public import proofs.«01_k».proof.Proof.Gen.KvRefIdeal.Read
public import Idealize.ShloMosaic.Lib.Pipeline.ValueKit

/-! # The two results of the memory projection's backward call, as arithmetic

The kernel writes the weight gradient one column block at a time and adds the eight blocks' products for the gain
gradient; the reference has one product over all 2048 columns. Index by index the two are the same sums. -/

@[expose] public section

set_option maxRecDepth 16384

noncomputable section

open Idealize.ShloMosaic Idealize.ShloMosaic.TcCoe Idealize.SL.Sem

namespace Cert.KvBwdIdeal.Hand
open Cert.KvBwdIdeal Cert.KvBwdIdeal.Gen

/-- The weight as the prologue hands it to the kernels: eight blocks of 256 columns. -/
abbrev blocks (w : FVec Ideal S1024x2048 .f32) : FVec Ideal S8x1024x256 .bf16 :=
  truncf .bf16 (transpose S8x1024x256 [1, 0, 2] (shapeCast S1024x8x256 w shapeCasts_S1024x2048_S1024x8x256) transposes_S1024x8x256_S8x1024x256_1_0_2) bitsLt_bf16_f32

theorem blocks_apply (w : FVec Ideal S1024x2048 .f32) (h : Fin 8) (d : Fin 1024) (j : Fin 256) :
    blocks w (ix3 h d j) = w (ix2 d ⟨h.val * 256 + j.val, by omega⟩) := by
  pointwise [blocks]
  blk_ext

/-- The weight gradient's block `h`: the normalised memory times the cotangent's columns of that block. -/
theorem dw_apply (dkv : FVec Ideal S256x2048 .f32) (memn : FVec Ideal S256x1024 .bf16) (mem : FVec Ideal S256x1024 .f32)
    (g : FVec Ideal S1x1024 .f32) (w8 : FVec Ideal S8x1024x256 .bf16) (i : S8x1024x256.Idx) (n : Fin 2048)
    (hn : (n : ℕ) = (i 0 : ℕ) * 256 + (i 2 : ℕ)) :
    out1_5 (F := Ideal) dkv memn mem g w8 i = ∑ k : Fin 256, memn (ix2 k (i 1)) * dkv (ix2 k n) := by
  frame_out
  canon_tiles x hx
  all_goals (open_payloads; pointwise; blk_point [])

/-- The normalised memory the forward call leaves is the reference's. -/
theorem memn_apply (mem : FVec Ideal S256x1024 .f32) (g : FVec Ideal S1x1024 .f32) (w8 : FVec Ideal S8x1024x256 .bf16)
    (k : Fin 256) (d : Fin 1024) :
    out0_4 (F := Ideal) mem g w8 (ix2 k d) = mem (ix2 k d)
      * Ideal.rsqrt (Ideal.div (∑ l : Fin 1024, mem (ix2 k l) * mem (ix2 k l)) (Ideal.ofBits .f32 0x44800000#32)
          + Ideal.ofBits .f32 0x358637BD#32) * g (ix2 0 d) := by
  frame_out
  open_payloads
  pointwise

/-- A sum over 2048 columns, in the kernel's order: eight blocks of 256 added one after the other. -/
theorem eight_blocks (f : Fin 2048 → EReal) : ∑ n, f n =
    (∑ x : Fin 256, f ⟨0 * 256 + x, by omega⟩) + (∑ x : Fin 256, f ⟨1 * 256 + x, by omega⟩) + (∑ x : Fin 256, f ⟨2 * 256 + x, by omega⟩)
      + (∑ x : Fin 256, f ⟨3 * 256 + x, by omega⟩) + (∑ x : Fin 256, f ⟨4 * 256 + x, by omega⟩) + (∑ x : Fin 256, f ⟨5 * 256 + x, by omega⟩)
      + (∑ x : Fin 256, f ⟨6 * 256 + x, by omega⟩) + (∑ x : Fin 256, f ⟨7 * 256 + x, by omega⟩) := by
  rw [Fin.sum_univ_tiles 8 256 rfl, Fin.sum_univ_eight]
  rfl

theorem dg_apply (dkv : FVec Ideal S256x2048 .f32) (memn : FVec Ideal S256x1024 .bf16) (mem : FVec Ideal S256x1024 .f32)
    (g : FVec Ideal S1x1024 .f32) (w : FVec Ideal S1024x2048 .f32) (r : Fin 8) (d : Fin 1024) :
    out1_6 (F := Ideal) dkv memn mem g (blocks w) (ix2 r d) = ∑ k : Fin 256, mem (ix2 k d)
      * Ideal.rsqrt (Ideal.div (∑ l : Fin 1024, mem (ix2 k l) * mem (ix2 k l)) (Ideal.ofBits .f32 0x44800000#32)
          + Ideal.ofBits .f32 0x358637BD#32) * ∑ n : Fin 2048, dkv (ix2 k n) * w (ix2 d n) := by
  frame_out
  open_payloads
  pointwise
  refine Finset.sum_congr rfl fun k _ => ?_
  rw [eight_blocks]
  refine (mul_right_comm _ _ _).trans ((mul_assoc _ _ _).trans ((mul_comm _ _).trans ?_))
  blk_point []

end Cert.KvBwdIdeal.Hand

namespace Cert.KvRefIdeal.Read

/-- The reference's weight gradient at an index. -/
theorem dw_apply (x0 : FVec Ideal S256x1024 .f32) (x1 : FVec Ideal S1x1024 .f32) (x3 : FVec Ideal S256x2048 .f32)
    (i : S8x1024x256.Idx)  (n : Fin 2048) (hn : (n : ℕ) = (i 0 : ℕ) * 256 + (i 2 : ℕ)) :
    val_main_v20 (F := Ideal) x0 x1 x3 i = ∑ k : Fin 256, (x0 (ix2 k (i 1))
      * Ideal.rsqrt (Ideal.div (∑ l : Fin 1024, x0 (ix2 k l) * x0 (ix2 k l)) (Ideal.ofBits .f32 0x44800000#32)
          + Ideal.ofBits .f32 0x358637BD#32) * x1 (ix2 0 (i 1))) * x3 (ix2 k n) := by
  pointwise [val_main_v20, val_main_v19, val_main_v14, val_main_v13, val_main_v11, val_main_v10, val_main_v9, val_main_v8, val_main_v7, val_main_v6, val_main_v5, val_main_v4, val_main_v3, val_main_v2, val_main_v1, val_main_v0, val_main_cst, val_main_cst_0, val_main_cst_1]
  refine Finset.sum_congr rfl fun k _ => (mul_comm _ _).trans ?_
  blk_point []

theorem dg_apply (x0 : FVec Ideal S256x1024 .f32) (x2 : FVec Ideal S1024x2048 .f32) (x3 : FVec Ideal S256x2048 .f32)
    (r : Fin 8) (d : Fin 1024) :
    val_main_v21 (F := Ideal) x0 x2 x3 (ix2 r d) = ∑ k : Fin 256, x0 (ix2 k d)
      * Ideal.rsqrt (Ideal.div (∑ l : Fin 1024, x0 (ix2 k l) * x0 (ix2 k l)) (Ideal.ofBits .f32 0x44800000#32)
          + Ideal.ofBits .f32 0x358637BD#32) * ∑ n : Fin 2048, x3 (ix2 k n) * x2 (ix2 d n) := by
  pointwise [val_main_v21, val_main_v18, val_main_v17, val_main_v16, val_main_v15, val_main_v9, val_main_v8, val_main_v7, val_main_v6, val_main_v5, val_main_v4, val_main_v3, val_main_v2, val_main_v1, val_main_v0, val_main_cst, val_main_cst_0, val_main_cst_1, val_main_cst_2]

end Cert.KvRefIdeal.Read

end
-- ==== Proof.Kv.Value.lean ====
module

public import proofs.«01_k».proof.Proof.Kv.Run
public import proofs.«01_k».proof.Proof.Kv.Pure

/-! # What the memory projection's backward program leaves in its two results -/

@[expose] public section

set_option maxRecDepth 16384

noncomputable section

open Idealize.ShloMosaic Idealize.ShloMosaic.TcCoe Idealize.SL.Sem
open Idealize.ShloMosaic.Pipeline (Dat)

namespace Cert.KvBwdIdeal.Hand
open Cert.KvBwdIdeal Cert.KvBwdIdeal.Gen

variable (m : (ℓ : Loc nD τ sig) → Buf (Elt Ideal) ℓ) (ρ : Dev nD → PrngReg) (c : Dev nD)

section Regions
variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0, 0] :=
  (by decide +kernel : ∀ t : Fin grid0.N, _)
theorem idx1 : ∀ t : Fin cfg1.N, win1_0.index t = ![0, 0] ∧ win1_1.index t = ![0, 0] ∧ win1_2.index t = ![0, 0]
    ∧ win1_3.index t = ![0, 0] ∧ win1_4.index t = ![0, 0, 0] :=
  (by decide +kernel : ∀ t : Fin grid1.N, _)

theorem memn_final : (dat0 V c).arrAt 4 cfg0.N = out0_4 (F := Ideal) (V c main_arg0) (V c main_arg1) (V c main_v2) := by
  refine (dat0 V c).arrAt_eq_of_after_last 4 t0_0 (by decide +kernel) _ fun j => ?_
  blk_simp
  rw [after0_4, show iblk0 V c 0 t0_0 = V c main_arg0 by blk_ext! [iblk0, idx0 t0_0],
    show iblk0 V c 1 t0_0 = V c main_arg1 by blk_ext! [iblk0, idx0 t0_0],
    show iblk0 V c 2 t0_0 = V c main_v2 by blk_ext! [iblk0, idx0 t0_0]]

theorem blocks1 : iblk1 V c 0 t1_0 = V c main_arg3 ∧ iblk1 V c 1 t1_0 = V c main_v3_1 ∧ iblk1 V c 2 t1_0 = V c main_arg0
    ∧ iblk1 V c 3 t1_0 = V c main_arg1 ∧ iblk1 V c 4 t1_0 = V c main_v2 :=
  ⟨by blk_ext! [iblk1, idx1 t1_0], by blk_ext! [iblk1, idx1 t1_0], by blk_ext! [iblk1, idx1 t1_0],
   by blk_ext! [iblk1, idx1 t1_0], by blk_ext! [iblk1, idx1 t1_0]⟩

theorem dw_final : (dat1 V c).arrAt 5 cfg1.N
    = out1_5 (F := Ideal) (V c main_arg3) (V c main_v3_1) (V c main_arg0) (V c main_arg1) (V c main_v2) := by
  refine (dat1 V c).arrAt_eq_of_after_last 5 t1_0 (by decide +kernel) _ fun j => ?_
  blk_simp
  obtain ⟨h0, h1, h2, h3, h4⟩ := blocks1 c V
  rw [after1_5, h0, h1, h2, h3, h4]

theorem dg_final : (dat1 V c).arrAt 6 cfg1.N
    = out1_6 (F := Ideal) (V c main_arg3) (V c main_v3_1) (V c main_arg0) (V c main_arg1) (V c main_v2) := by
  refine (dat1 V c).arrAt_eq_of_after_last 6 t1_0 (by decide +kernel) _ fun j => ?_
  blk_simp
  obtain ⟨h0, h1, h2, h3, h4⟩ := blocks1 c V
  rw [after1_6, h0, h1, h2, h3, h4]
end Regions

/-- The prologue's weight blocks, as the first kernel call finds them. -/
theorem W1_v2 : W1 m ρ c (Proc.devRef .tc main_v2) = blocks (m ((c : Thread nD τ).loc main_arg2)) := by
  show StableHlo.after hostOps0 (W0 m ρ c) _ = _
  after_results <;> rfl

theorem entry1 : V2 m ρ c main_arg3 = m ((c : Thread nD τ).loc main_arg3)
    ∧ V2 m ρ c main_v3_1 = out0_4 (F := Ideal) (m ((c : Thread nD τ).loc main_arg0)) (m ((c : Thread nD τ).loc main_arg1)) (blocks (m ((c : Thread nD τ).loc main_arg2)))
    ∧ V2 m ρ c main_arg0 = m ((c : Thread nD τ).loc main_arg0) ∧ V2 m ρ c main_arg1 = m ((c : Thread nD τ).loc main_arg1)
    ∧ V2 m ρ c main_v2 = blocks (m ((c : Thread nD τ).loc main_arg2)) := by
  refine ⟨W2_args m ρ c _ (by decide), ?_, W2_args m ρ c _ (by decide), W2_args m ρ c _ (by decide), ?_⟩
  · refine (W2_arr m ρ c 4).trans ((memn_final c (V1 m ρ)).trans ?_)
    rw [show V1 m ρ c main_arg0 = _ from W1_args m ρ c main_arg0 (by decide),
      show V1 m ρ c main_arg1 = _ from W1_args m ρ c main_arg1 (by decide), show V1 m ρ c main_v2 = _ from W1_v2 m ρ c]
  · exact (W2_of m ρ c main_v2 (by decide)).trans (W1_v2 m ρ c)

theorem dw_pure (mem : FVec Ideal S256x1024 .f32) (g : FVec Ideal S1x1024 .f32) (w : FVec Ideal S1024x2048 .f32) (dkv : FVec Ideal S256x2048 .f32) :
    out1_5 (F := Ideal) dkv (out0_4 (F := Ideal) mem g (blocks w)) mem g (blocks w) = Cert.KvRefIdeal.Read.val_main_v20 (F := Ideal) mem g dkv := by
  funext i
  idx_vars i
  have hn : i0.val * 256 + i2.val < 2048 := by omega
  have hk := dw_apply dkv (out0_4 (F := Ideal) mem g (blocks w)) mem g (blocks w) (ix3 i0 i1 i2) ⟨i0.val * 256 + i2.val, hn⟩ rfl
  have hr := Cert.KvRefIdeal.Read.dw_apply mem g dkv (ix3 i0 i1 i2) ⟨i0.val * 256 + i2.val, hn⟩ rfl
  rw [hk, hr]
  refine Finset.sum_congr rfl fun k _ => Ideal.mul_congr ?_ rfl
  exact memn_apply mem g (blocks w) k i1

theorem dg_pure (mem : FVec Ideal S256x1024 .f32) (g : FVec Ideal S1x1024 .f32) (w : FVec Ideal S1024x2048 .f32) (dkv : FVec Ideal S256x2048 .f32) :
    out1_6 (F := Ideal) dkv (out0_4 (F := Ideal) mem g (blocks w)) mem g (blocks w) = Cert.KvRefIdeal.Read.val_main_v21 (F := Ideal) mem w dkv := by
  funext i
  idx_vars i
  exact (dg_apply _ _ _ _ _ i0 i1).trans (Cert.KvRefIdeal.Read.dg_apply _ _ _ i0 i1).symm

theorem dw_eq : (dat1 (V2 m ρ) c).arrAt 5 cfg1.N = Cert.KvRefIdeal.Read.val_main_v20 (F := Ideal)
    (m ((c : Thread nD τ).loc main_arg0)) (m ((c : Thread nD τ).loc main_arg1)) (m ((c : Thread nD τ).loc main_arg3)) := by
  obtain ⟨h0, h1, h2, h3, h4⟩ := entry1 m ρ c
  refine (dw_final c (V2 m ρ)).trans (Eq.trans ?_ (dw_pure _ _ (m ((c : Thread nD τ).loc main_arg2)) _))
  exact congr (congr (congr (congr (congrArg _ h0) h1) h2) h3) h4

theorem dg_eq : (dat1 (V2 m ρ) c).arrAt 6 cfg1.N = Cert.KvRefIdeal.Read.val_main_v21 (F := Ideal)
    (m ((c : Thread nD τ).loc main_arg0)) (m ((c : Thread nD τ).loc main_arg2)) (m ((c : Thread nD τ).loc main_arg3)) := by
  obtain ⟨h0, h1, h2, h3, h4⟩ := entry1 m ρ c
  refine (dg_final c (V2 m ρ)).trans (Eq.trans ?_ (dg_pure _ (m ((c : Thread nD τ).loc main_arg1)) (m ((c : Thread nD τ).loc main_arg2)) _))
  exact congr (congr (congr (congr (congrArg _ h0) h1) h2) h3) h4

end Cert.KvBwdIdeal.Hand

end
-- ==== Proof.Kv.Claims.lean ====
module

public import proofs.«01_k».proof.Defs
public import proofs.«01_k».proof.Proof.Gen.KvBwd
public import proofs.«01_k».proof.Proof.Gen.KvRefIdeal.Run
public import proofs.«01_k».proof.Proof.Kv.Value
public import Idealize.ShloMosaic.Lib.Quiescent

/-! # The memory projection's backward call: its five claims -/

@[expose] public section

set_option maxRecDepth 16384

noncomputable section

open Idealize.ShloMosaic Idealize.ShloMosaic.TcCoe Idealize.SL.Sem

namespace Cert.Proof.Kv

instance : Cert.KvBwd.Facts := Cert.KvBwd.Gen.facts
instance : Cert.KvBwdIdeal.Facts := Cert.KvBwdIdeal.Gen.facts
instance : Cert.KvRefIdeal.Facts := Cert.KvRefIdeal.Gen.facts

theorem frame_ideal : Cert.quiescent_KvBwdIdeal := fun m ρ _ =>
  (θ_run _ _ _).mono (fun _ h => ⟨fun c => (h.1 c).2, h.2⟩) (Cert.KvBwdIdeal.Hand.run m ρ)

/-- The bit-level program has the same text, so the same run gives its frame. -/
theorem frame_kernel : Cert.quiescent_KvBwd := by
  have h : ∀ (m : (ℓ : Loc Cert.KvBwdIdeal.nD Cert.KvBwdIdeal.τ Cert.KvBwdIdeal.sig) → Buf (Elt Bits) ℓ) (ρ : Dev Cert.KvBwdIdeal.nD → PrngReg), True → _ :=
    fun m ρ _ => (θ_run _ _ _).mono (fun r h => (⟨fun c => (h.1 c).2, h.2⟩ : _ ∧ r.2.sem = fun _ => 0)) (Cert.KvBwdIdeal.Hand.run (F := Bits) m ρ)
  exact cast (by sl_kernel_rfl) h

theorem frame_reference : Cert.quiescent_KvRefIdeal := fun m ρ _ =>
  (θ_run _ _ _).mono (fun r h => ⟨fun c => (h c).2.2, sem_eq_zero_of_no_sems (by decide) r.2⟩) (Cert.KvRefIdeal.Value.run m ρ)

theorem value : Cert.algebraic_KvBwdIdeal_KvRefIdeal := fun m ρ m' ρ' _ hag =>
  ⟨_, _, (θ_run _ _ _).mono (fun _ h c => ⟨(h.1 c).1.1, (h.1 c).1.2, (h.1 c).2⟩) (Cert.KvBwdIdeal.Hand.run m ρ),
    (θ_run _ _ _).mono (fun _ h c => by
      obtain ⟨h0, h1, h2, h3⟩ := hag c
      refine ⟨((h c).1.trans (Cert.KvRefIdeal.Read.val_main_v20_eq _ _ _).symm).trans ?_,
        ((h c).2.1.trans (Cert.KvRefIdeal.Read.val_main_v21_eq _ _ _).symm).trans ?_, (h c).2.2⟩
      · rw [h0, h1, h3]; exact (Cert.KvBwdIdeal.Hand.dw_eq m ρ c).symm
      · rw [h0, h2, h3]; exact (Cert.KvBwdIdeal.Hand.dg_eq m ρ c).symm) (Cert.KvRefIdeal.Value.run m' ρ')⟩

end Cert.Proof.Kv

end
-- ==== Proof.Shared.Norm.lean ====
module

public import Idealize.ShloMosaic.Lib.Pipeline.ValueKit

/-! # Real numbers among the extended reals, and the gradient of a root-mean-square norm

`IsReal` says that an entry is a real number; sums and products keep it. The gradient of `x / rms(x)` is written in two
orders by the kernels and by the derivative of the forward lines; on real numbers they agree. -/

@[expose] public section

set_option maxRecDepth 16384

noncomputable section

open Idealize.ShloMosaic Idealize.ShloMosaic.TcCoe Idealize.SL.Sem

namespace Norm

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.max' {x y : EReal} (hx : IsReal x) (hy : IsReal y) : IsReal (max x y) := by
  rcases max_choice x y with h | h <;> rw [h] <;> assumption
theorem coe_sum {ι : Type} (s : Finset ι) (g : ι → ℝ) : ((∑ i ∈ s, g i : ℝ) : EReal) = ∑ i ∈ s, (g i : EReal) :=
  map_sum (⟨⟨fun x : ℝ => (x : EReal), rfl⟩, EReal.coe_add⟩ : ℝ →+ EReal) g s
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The norm's epsilon. -/
abbrev eps : EReal := Ideal.ofBits .f32 0x358637BD#32
theorem eps_real : ∃ e : ℝ, 0 < e ∧ eps = (e : EReal) := by
  simp only [eps, Ideal.ofBits, Ideal.ieee]
  refine ⟨_, ?_, rfl⟩
  simp

/-- An entry whose absolute value lies below infinity is a real number. -/
theorem IsReal.of_abs {x : EReal} (h : FloatOps.cmpf .olt (FloatOps.hostAbsf (F := Ideal) (φ := .f32) x) (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have hlt : max x (-x) < ⊤ := by
    by_contra hn
    simp [Ideal.cmp, hn] at h
  rw [max_lt_iff] at hlt
  exact ⟨x.toReal, (EReal.coe_toReal hlt.1.ne (fun hb => absurd hlt.2 (by simp [hb]))).symm⟩

/-- The number of columns, over which the norm's mean is taken. -/
abbrev c1024 : EReal := Ideal.ofBits .f32 0x44800000#32
theorem c1024_eq : c1024 = ((1024 : ℝ) : EReal) := by
  simp [c1024, Ideal.ofBits, Ideal.ieee]; rw [← EReal.coe_mul]; congr 1; norm_num
theorem one_eq : Ideal.ofBits .f32 0x3F800000#32 = 1 := by
  simp [Ideal.ofBits, Ideal.ieee]; rw [← EReal.coe_mul]; norm_num
theorem two_eq : Ideal.ofBits .f32 0x40000000#32 = ((2 : ℝ) : EReal) := by
  simp [Ideal.ofBits, Ideal.ieee]; rw [← EReal.coe_mul]; congr 1; norm_num
/-- A sum which starts at the literal zero. -/
theorem zero_lit_add (x : EReal) : Ideal.ofBits .f32 0x00000000#32 + x = x := by rw [Ideal.ofBits_zero_f32, zero_add]

/-- A row of an array, and its product with a transposed matrix, the rule by which gradients flow through a weight. -/
abbrev row {N W : Nat} (A : (⟨2, ![N, W]⟩ : Shape).Idx → EReal) (r : Fin N) (j : Fin W) : EReal := A (ix2 r j)
def mulT {n k : Nat} (D : Fin n → EReal) (W : (⟨2, ![k, n]⟩ : Shape).Idx → EReal) (i : Fin k) : EReal := ∑ l, D l * W (ix2 i l)

variable {n : ℕ} (c : EReal) (x u : Fin n → EReal)

/-- The mean square with its epsilon, and its inverse root. -/
def msq : EReal := Ideal.div (∑ k, x k * x k) c + eps
def rinv : EReal := Ideal.rsqrt (msq c x)
/-- The kernel's gradient of the norm, from the cotangent `u` of the normalised row. -/
def dnorm (k : Fin n) : EReal := rinv c x * (u k - x k * rinv c x * Ideal.div (∑ l, u l * (x l * rinv c x)) c)
/-- The derivative of the mean square's inverse root, and the gradient in the order of the reference. -/
def dmsq : EReal := Ideal.div ((∑ l, x l * u l) * (Ideal.ofBits .f32 0xBF000000#32 * Ideal.div (rinv c x) (msq c x))) c
def dnormRef (k : Fin n) : EReal := u k * rinv c x + x k * dmsq c x u + dmsq c x u * x k

variable {c x u}

theorem half_eq : Ideal.ofBits .f32 0xBF000000#32 = ((-(1 / 2) : ℝ) : EReal) := by
  simp [Ideal.ofBits, Ideal.ieee, -EReal.coe_mul]; norm_num

theorem msq_real {N : ℝ} (hN : 0 < N) (hc : c = (N : EReal)) (hx : ∀ k, IsReal (x k)) : ∃ v : ℝ, 0 < v ∧ msq c x = (v : EReal) := by
  choose y hy using hx
  obtain ⟨e, he, hev⟩ := eps_real
  refine ⟨(∑ k, y k * y k) * (1 / N) + e, ?_, ?_⟩
  · have := Finset.sum_nonneg fun k (_ : k ∈ Finset.univ) => mul_self_nonneg (y k)
    positivity
  · unfold msq
    rw [hc, Ideal.div_coe hN.ne', hev, EReal.coe_add, EReal.coe_mul, coe_sum]
    simp only [hy, EReal.coe_mul]

theorem rsqrt_pos {v : ℝ} (hv : 0 < v) : Ideal.rsqrt (v : EReal) = ((1 / Real.sqrt v : ℝ) : EReal) := by
  simp [Ideal.rsqrt_coe, hv, hv.le, hv.ne', not_lt.mpr hv.le, not_le.mpr hv]
theorem rinv_real {N : ℝ} (hN : 0 < N) (hc : c = (N : EReal)) (hx : ∀ k, IsReal (x k)) : IsReal (rinv c x) := by
  obtain ⟨v, hv, h⟩ := msq_real hN hc hx
  exact ⟨_, by unfold rinv; rw [h, rsqrt_pos hv]⟩

theorem dnorm_eq {N : ℝ} (hN : 0 < N) (hc : c = (N : EReal)) (hx : ∀ k, IsReal (x k)) (hu : ∀ k, IsReal (u k)) (k : Fin n) :
    dnormRef c x u k = dnorm c x u k := by
  obtain ⟨v, hv, hm⟩ := msq_real hN hc hx
  choose y hy using hx
  choose w hw using hu
  have hr : rinv c x = ((1 / Real.sqrt v : ℝ) : EReal) := by unfold rinv; rw [hm, rsqrt_pos hv]
  have hs : (∑ l, x l * u l) = ((∑ l, y l * w l : ℝ) : EReal) := by
    rw [coe_sum]; exact Finset.sum_congr rfl fun l _ => by rw [hy, hw, EReal.coe_mul]
  have ht : (∑ l, u l * (x l * rinv c x)) = (((∑ l, y l * w l) * (1 / Real.sqrt v) : ℝ) : EReal) := by
    rw [Finset.sum_mul, coe_sum]
    exact Finset.sum_congr rfl fun l _ => by rw [hy, hw, hr, ← EReal.coe_mul, ← EReal.coe_mul]; congr 1; ring
  generalize (∑ l, y l * w l) = s at hs ht
  have hq : Real.sqrt v * Real.sqrt v = v := Real.mul_self_sqrt hv.le
  have hq0 : Real.sqrt v ≠ 0 := (Real.sqrt_pos.mpr hv).ne'
  unfold dnormRef dnorm dmsq
  rw [hs, ht, hr, hm, hc, hy, hw, half_eq, Ideal.div_coe hv.ne', Ideal.div_coe hN.ne']
  simp only [← EReal.coe_mul, ← EReal.coe_add, ← EReal.coe_sub]
  rw [Ideal.div_coe hN.ne']
  simp only [← EReal.coe_mul, ← EReal.coe_add, ← EReal.coe_sub]
  congr 1
  generalize Real.sqrt v = q at hq hq0
  subst hq
  field_simp
  ring

end Norm

end
-- ==== Proof.Attn.Soft.lean ====
module

public import proofs.«01_k».proof.Proof.Shared.Norm

/-! # Softmax attention of one query row, forward and backward, on the extended reals

Everything here is about one query row `Q` of one head against 256 keys `K` and values `V`, with `A` the row's gradient of
the attention output. The kernel and the reference write the gradient of the scores in two orders; they agree where
every entry is a real number. -/

@[expose] public section

set_option maxRecDepth 16384

noncomputable section

open Idealize.ShloMosaic Idealize.ShloMosaic.TcCoe Idealize.SL.Sem

namespace Attn
open Norm

/-- A sixteenth, the scale of the scores, and sixteen, by which the reference divides. -/
abbrev c16 : EReal := Ideal.ofBits .f32 0x3D800000#32
abbrev d16 : EReal := Ideal.ofBits .f32 0x41800000#32

theorem c16_eq : c16 = ((1 / 16 : ℝ) : EReal) := by
  simp [Attn.c16, Ideal.ofBits, Ideal.ieee]; rw [← EReal.coe_mul]; congr 1; norm_num
theorem d16_eq : d16 = ((16 : ℝ) : EReal) := by
  simp [Attn.d16, Ideal.ofBits, Ideal.ieee]; rw [← EReal.coe_mul]; congr 1; norm_num
theorem bot_eq : Ideal.ofBits .f32 0xFF800000#32 = ⊥ := by simp [Ideal.ofBits, Ideal.ieee]

variable (Q A : Fin 256 → EReal) (K V : Fin 256 → Fin 256 → EReal)

/-- The row's product with one key or value. -/
def dotp (m : Fin 256) : EReal := ∑ d, Q d * K m d
/-- The scores, their maximum, the exponentials, the weights. -/
def score (m : Fin 256) : EReal := dotp Q K m * c16
def top : EReal := Finset.univ.fold max (Ideal.ofBits .f32 0xFF800000#32) (score Q K)
def ex (m : Fin 256) : EReal := Ideal.exp (score Q K m - top Q K)
def prob (m : Fin 256) : EReal := Ideal.div (ex Q K m) (∑ n, ex Q K n)
/-- The gradient of the scores. -/
def dsOf (P : Fin 256 → EReal) (m : Fin 256) : EReal := P m * (dotp A V m - ∑ n, dotp A V n * P n) * c16
def ds (m : Fin 256) : EReal := dsOf A V (prob Q K) m
/-- The same in the order in which the derivative of a quotient writes it. -/
def dsRef (m : Fin 256) : EReal :=
  Ideal.div ((Ideal.div (dotp A V m) (∑ n, ex Q K n)
    + -(∑ n, dotp A V n * Ideal.div 1 ((∑ n, ex Q K n) * (∑ n, ex Q K n)) * ex Q K n)) * ex Q K m) d16

variable {Q A K V}

theorem IsReal.dotp (hQ : ∀ d, IsReal (Q d)) (hK : ∀ m d, IsReal (K m d)) (m : Fin 256) : IsReal (dotp Q K m) :=
  IsReal.sum _ fun d => (hQ d).mul (hK m d)

/-- The greatest of some real numbers is a real number. -/
theorem fold_max_fin {n : ℕ} (f : Fin (n + 1) → ℝ) : IsReal (Finset.univ.fold max (⊥ : EReal) fun k => (f k : EReal)) := by
  have h : ∀ s : Finset (Fin (n + 1)), s.fold max (⊥ : EReal) (fun k => (f k : EReal)) = ⊥ ∧ s = ∅
      ∨ IsReal (s.fold max (⊥ : EReal) fun k => (f k : EReal)) := by
    intro s
    induction s using Finset.induction_on with
    | empty => exact Or.inl ⟨rfl, rfl⟩
    | insert a s ha ih =>
      right
      rw [Finset.fold_insert ha]
      rcases ih with ⟨h, -⟩ | ⟨r, hr⟩
      · exact ⟨f a, by rw [h]; exact max_eq_left bot_le⟩
      · exact ⟨max (f a) r, by rw [hr]; exact (EReal.coe_strictMono.monotone.map_max).symm⟩
  rcases h Finset.univ with ⟨-, h⟩ | h
  · exact absurd h Finset.univ_nonempty.ne_empty
  · exact h

/-- Where every entry is a real number, so is every exponential, and it is positive. -/
theorem ex_real (hQ : ∀ d, IsReal (Q d)) (hK : ∀ m d, IsReal (K m d)) :
    ∃ e : Fin 256 → ℝ, (∀ m, 0 < e m) ∧ ∀ m, ex Q K m = ((e m : ℝ) : EReal) := by
  have hs : ∀ m, IsReal (score Q K m) := fun m => (IsReal.dotp hQ hK m).mul ⟨_, c16_eq⟩
  choose s hs using hs
  obtain ⟨t, ht⟩ := fold_max_fin s
  have htop : top Q K = (t : EReal) := by
    unfold top; rw [bot_eq, ← ht, show score Q K = fun k => (s k : EReal) from funext hs]
  exact ⟨fun m => Real.exp (s m - t), fun m => Real.exp_pos _, fun m => by
    unfold ex; rw [hs m, htop, ← EReal.coe_sub, Ideal.exp_coe]⟩

theorem prob_real (hQ : ∀ d, IsReal (Q d)) (hK : ∀ m d, IsReal (K m d)) (m : Fin 256) : IsReal (prob Q K m) := by
  obtain ⟨e, he, hex⟩ := ex_real hQ hK
  have hz : (∑ n, ex Q K n) = ((∑ n, e n : ℝ) : EReal) := by rw [coe_sum]; exact Finset.sum_congr rfl fun n _ => hex n
  have hz0 : (∑ n, e n) ≠ 0 := (Finset.sum_pos (fun n _ => he n) Finset.univ_nonempty).ne'
  unfold prob; rw [hz, hex, Ideal.div_coe hz0, ← EReal.coe_mul]; exact ⟨_, rfl⟩
theorem ds_real (hQ : ∀ d, IsReal (Q d)) (hK : ∀ m d, IsReal (K m d)) (hA : ∀ d, IsReal (A d)) (hV : ∀ m d, IsReal (V m d))
    (m : Fin 256) : IsReal (ds Q A K V m) := by
  have hp := prob_real hQ hK
  obtain ⟨a, ha⟩ := IsReal.dotp hA hV m
  obtain ⟨b, hb⟩ := IsReal.sum Finset.univ fun n => (IsReal.dotp hA hV n).mul (hp n)
  unfold ds dsOf
  rw [ha, hb, ← EReal.coe_sub]
  exact ((hp m).mul ⟨_, rfl⟩).mul ⟨_, c16_eq⟩

theorem ds_eq (hQ : ∀ d, IsReal (Q d)) (hK : ∀ m d, IsReal (K m d)) (hA : ∀ d, IsReal (A d)) (hV : ∀ m d, IsReal (V m d))
    (m : Fin 256) : dsRef Q A K V m = ds Q A K V m := by
  obtain ⟨e, he, hex⟩ := ex_real hQ hK
  choose p hp using IsReal.dotp hA hV
  have hz : (∑ n, ex Q K n) = ((∑ n, e n : ℝ) : EReal) := by rw [coe_sum]; exact Finset.sum_congr rfl fun n _ => hex n
  have hz0 : (∑ n, e n) ≠ 0 := (Finset.sum_pos (fun n _ => he n) Finset.univ_nonempty).ne'
  generalize hZ : (∑ n, e n) = z at hz hz0
  have hS : (∑ n, dotp A V n * prob Q K n) = ((∑ n, p n * (e n * (1 / z)) : ℝ) : EReal) := by
    rw [coe_sum]
    refine Finset.sum_congr rfl fun n _ => ?_
    unfold prob; rw [hz, hex, hp, Ideal.div_coe hz0, ← EReal.coe_mul, ← EReal.coe_mul]
  have hT : (∑ n, dotp A V n * Ideal.div 1 ((∑ n, ex Q K n) * (∑ n, ex Q K n)) * ex Q K n)
      = ((∑ n, p n * (1 / (z * z)) * e n : ℝ) : EReal) := by
    rw [coe_sum]
    refine Finset.sum_congr rfl fun n _ => ?_
    rw [hz, hex, hp, ← EReal.coe_mul, Ideal.div_coe (mul_ne_zero hz0 hz0), one_mul, ← EReal.coe_mul, ← EReal.coe_mul]
  have hTS : (∑ n, p n * (1 / (z * z)) * e n) = (∑ n, p n * (e n * (1 / z))) * (1 / z) := by
    rw [Finset.sum_mul]
    refine Finset.sum_congr rfl fun n _ => ?_
    field_simp
  unfold dsRef ds dsOf
  rw [hS, hT, hTS]
  unfold prob
  rw [hz, hex, hp, Ideal.div_coe hz0, Ideal.div_coe hz0, d16_eq, Ideal.div_coe (by norm_num : (16 : ℝ) ≠ 0), c16_eq]
  simp only [← EReal.coe_mul, ← EReal.coe_add, ← EReal.coe_sub, ← EReal.coe_neg]
  congr 1
  ring

end Attn

end
-- ==== Proof.Attn.Blocks.lean ====
module

public import proofs.«01_k».proof.Proof.Gen.AttnBwdIdeal.Value
public import proofs.«01_k».proof.Proof.Attn.Soft

@[expose] public section

set_option maxRecDepth 16384

noncomputable section

open Idealize.ShloMosaic Idealize.ShloMosaic.TcCoe Idealize.SL.Sem
open Idealize.ShloMosaic.Pipeline (Dat)

namespace Attn
open Norm

/-- The array's entries as functions of row and column. -/
abbrev rows {N : Nat} (q : (⟨2, ![N, 1024]⟩ : Shape).Idx → EReal) (r : Fin N) (j : Fin 1024) : EReal := q (ix2 r j)

/-- Column `d` of head `h`. -/
abbrev col (h : Fin 4) (d : Fin 256) : Fin 1024 := ⟨h.val * 256 + d.val, by omega⟩
/-- The head a column lies in. -/
abbrev hd (j : Fin 1024) : Fin 4 := ⟨j.val / 256, by omega⟩
/-- Score gradients and weights of one row and head, and the gradient of the row's query. -/
def dS (Q A : Fin 1024 → EReal) (K V : Fin 256 → Fin 1024 → EReal) (h : Fin 4) (m : Fin 256) : EReal :=
  ds (fun d => Q (col h d)) (fun d => A (col h d)) (fun m d => K m (col h d)) (fun m d => V m (col h d)) m
def pS (Q : Fin 1024 → EReal) (K : Fin 256 → Fin 1024 → EReal) (h : Fin 4) (m : Fin 256) : EReal :=
  prob (fun d => Q (col h d)) (fun m d => K m (col h d)) m
def dQ (Q A : Fin 1024 → EReal) (K V : Fin 256 → Fin 1024 → EReal) (j : Fin 1024) : EReal :=
  ∑ m, dS Q A K V (hd j) m * K m j
end Attn

namespace Cert.AttnBwdIdeal.Hand
open Cert.AttnBwdIdeal Cert.AttnBwdIdeal.Gen Norm Attn

theorem pay3_apply (a : FVec Ideal S512x1024 .bf16) (w : FVec Ideal S1024x1024 .bf16) (i : S512x1024.Idx) :
    k0_pay3 (F := Ideal) a w i = ∑ l : Fin 1024, a (ix2 (i 0) l) * w (ix2 (i 1) l) := by
  pointwise [k0_pay3]
theorem pay4_apply (q : FVec Ideal S512x256 .bf16) (k : FVec Ideal S256x256 .bf16) (i : S512x256.Idx) :
    k0_pay4 (F := Ideal) q k i = prob (fun d => q (ix2 (i 0) d)) (fun m d => k (ix2 m d)) (i 1) := by
  pointwise [k0_pay4, prob, ex, top, score, dotp]
theorem pay4_eq (q : FVec Ideal S512x256 .bf16) (k : FVec Ideal S256x256 .bf16) : k0_pay6 (k0_pay5 (F := Ideal) q k) = k0_pay4 (F := Ideal) q k
    ∧ k0_pay7 (F := Ideal) q k = k0_pay4 (F := Ideal) q k ∧ k0_pay8 (F := Ideal) q k = k0_pay4 (F := Ideal) q k := ⟨rfl, rfl, rfl⟩

section Heads
variable (a : FVec Ideal S512x1024 .bf16) (p : FVec Ideal S512x256 .f32) (v : FVec Ideal S256x256 .bf16) (i : S512x256.Idx)
theorem ds0_apply : k0_pay12 (F := Ideal) p (k0_pay9 a) (k0_pay10 v) (constant S512x256 .f32 0x00000000#32) i
    = dsOf (fun d => a (ix2 (i 0) (col 0 d))) (fun m d => v (ix2 m d)) (fun m => p (ix2 (i 0) m)) (i 1) := by
  pointwise [k0_pay12, k0_pay9, k0_pay10, dsOf, dotp]
  blk_point []
theorem ds1_apply : k0_pay13 (F := Ideal) a p v i
    = dsOf (fun d => a (ix2 (i 0) (col 1 d))) (fun m d => v (ix2 m d)) (fun m => p (ix2 (i 0) m)) (i 1) := by
  pointwise [k0_pay13, dsOf, dotp]
  blk_point []
theorem ds2_apply : k0_pay14 (F := Ideal) a p v i
    = dsOf (fun d => a (ix2 (i 0) (col 2 d))) (fun m d => v (ix2 m d)) (fun m => p (ix2 (i 0) m)) (i 1) := by
  pointwise [k0_pay14, dsOf, dotp]
  blk_point []
theorem ds3_apply : k0_pay16 (F := Ideal) p (k0_pay11 a v) (k0_pay15 a p v) i
    = dsOf (fun d => a (ix2 (i 0) (col 3 d))) (fun m d => v (ix2 m d)) (fun m => p (ix2 (i 0) m)) (i 1) := by
  pointwise [k0_pay16, k0_pay15, k0_pay11, dsOf, dotp]
  blk_point []
theorem dq_apply (s : FVec Ideal S512x256 .bf16) : k0_pay17 (F := Ideal) s v i = ∑ m : Fin 256, s (ix2 (i 0) m) * v (ix2 m (i 1)) := by
  pointwise [k0_pay17]
theorem dq_pays (s : FVec Ideal S512x256 .bf16) : k0_pay20 (F := Ideal) s v = k0_pay17 s v ∧ k0_pay24 (F := Ideal) s v = k0_pay17 s v
    ∧ k0_pay27 (F := Ideal) s v = k0_pay17 s v := ⟨rfl, rfl, rfl⟩
end Heads

/-- The row of the attention output's gradient. -/
def dA (D : Fin 1024 → EReal) (W : FVec Ideal S1024x1024 .bf16) (j : Fin 1024) : EReal := ∑ l : Fin 1024, D l * W (ix2 j l)

/-- Head `h`'s weights of a block. -/
theorem prob_piece (h : Fin 4) (q : FVec Ideal S512x1024 .bf16) (k : FVec Ideal S256x1024 .bf16) (qh : FVec Ideal S512x256 .bf16)
    (kh : FVec Ideal S256x256 .bf16) (hq : ∀ r d, qh (ix2 r d) = q (ix2 r (col h d))) (hk : ∀ r d, kh (ix2 r d) = k (ix2 r (col h d)))
    (r : Fin 512) (m : Fin 256) :
    k0_pay4 (F := Ideal) qh kh (ix2 r m) = pS (fun j => q (ix2 r j)) (fun m j => k (ix2 m j)) h m := by
  rw [pay4_apply]
  exact congr (congr (congrArg prob (funext fun d => hq r d)) (funext fun m => funext fun d => hk m d)) rfl

/-- Head `h`'s score gradients of a block, from its weights. -/
theorem ds_piece (h : Fin 4) (q : FVec Ideal S512x1024 .bf16) (k v : FVec Ideal S256x1024 .bf16) (a : FVec Ideal S512x1024 .bf16)
    (p : FVec Ideal S512x256 .f32) (vh : FVec Ideal S256x256 .bf16) (r : Fin 512) (m : Fin 256)
    (hp : ∀ m, p (ix2 r m) = pS (fun j => q (ix2 r j)) (fun m j => k (ix2 m j)) h m) (hv : ∀ r d, vh (ix2 r d) = v (ix2 r (col h d))) :
    dsOf (fun d => a (ix2 r (col h d))) (fun m d => vh (ix2 m d)) (fun m => p (ix2 r m)) m
      = dS (fun j => q (ix2 r j)) (fun j => a (ix2 r j)) (fun m j => k (ix2 m j)) (fun m j => v (ix2 m j)) h m := by
  unfold dS ds
  exact congr (congr (congrArg (dsOf _) (funext fun m => funext fun d => hv m d)) (funext fun m => hp m)) rfl

/-- Head `h`'s columns of the query gradient. -/
theorem dq_piece (h : Fin 4) (Q A : Fin 1024 → EReal) (K V : Fin 256 → Fin 1024 → EReal) (s : FVec Ideal S512x256 .bf16)
    (kh : FVec Ideal S256x256 .bf16) (x : S512x256.Idx) (j : Fin 1024) (hj : (j : ℕ) = h.val * 256 + (x 1).val)
    (hs : ∀ m, s (ix2 (x 0) m) = dS Q A K V h m) (hk : ∀ r d, kh (ix2 r d) = K r (col h d)) :
    k0_pay17 (F := Ideal) s kh x = dQ Q A K V j := by
  have hx : (x 1).val < 256 := (x 1).isLt
  obtain rfl : j = col h (x 1) := Fin.ext hj
  have hh : hd (col h (x 1)) = h := Fin.ext (by show (h.val * 256 + (x 1).val) / 256 = h.val; omega)
  rw [dq_apply]
  unfold dQ
  rw [hh]
  exact Finset.sum_congr rfl fun m _ => Ideal.mul_congr (hs m) (hk m _)

section Pieces
/-- The columns of each head in a block of queries and in the keys or values. -/
abbrev rq0 := Rect.unit (s := S512x1024) ![0, 0] ![512, 256] inb_S512x1024_S512x256_0_0
abbrev rq1 := Rect.unit (s := S512x1024) ![0, 256] ![512, 256] inb_S512x1024_S512x256_0_256
abbrev rq2 := Rect.unit (s := S512x1024) ![0, 512] ![512, 256] inb_S512x1024_S512x256_0_512
abbrev rq3 := Rect.unit (s := S512x1024) ![0, 768] ![512, 256] inb_S512x1024_S512x256_0_768
abbrev rk0 := Rect.unit (s := S256x1024) ![0, 0] ![256, 256] inb_S256x1024_S256x256_0_0
abbrev rk1 := Rect.unit (s := S256x1024) ![0, 256] ![256, 256] inb_S256x1024_S256x256_0_256
abbrev rk2 := Rect.unit (s := S256x1024) ![0, 512] ![256, 256] inb_S256x1024_S256x256_0_512
abbrev rk3 := Rect.unit (s := S256x1024) ![0, 768] ![256, 256] inb_S256x1024_S256x256_0_768

variable (q : FVec Ideal S512x1024 .bf16) (k v : FVec Ideal S256x1024 .bf16) (a : FVec Ideal S512x1024 .bf16)

/-- Each head's weights of a block, and its score gradients. -/
abbrev P0 : FVec Ideal S512x256 .f32 := k0_pay4 (F := Ideal) (View.ld q rq0) (View.ld k rk0)
abbrev P1 : FVec Ideal S512x256 .f32 := k0_pay6 (F := Ideal) (k0_pay5 (F := Ideal) (View.ld q rq1) (View.ld k rk1))
abbrev P2 : FVec Ideal S512x256 .f32 := k0_pay7 (F := Ideal) (View.ld q rq2) (View.ld k rk2)
abbrev P3 : FVec Ideal S512x256 .f32 := k0_pay8 (F := Ideal) (View.ld q rq3) (View.ld k rk3)
abbrev D0 : FVec Ideal S512x256 .bf16 := k0_pay12 (F := Ideal) (P0 q k) (k0_pay9 (F := Ideal) a) (k0_pay10 (F := Ideal) (View.ld v rk0)) (constant S512x256 .f32 0x00000000#32)
abbrev D1 : FVec Ideal S512x256 .bf16 := k0_pay13 (F := Ideal) a (P1 q k) (View.ld v rk1)
abbrev D2 : FVec Ideal S512x256 .bf16 := k0_pay14 (F := Ideal) a (P2 q k) (View.ld v rk2)
abbrev D3 : FVec Ideal S512x256 .bf16 := k0_pay16 (F := Ideal) (P3 q k) (k0_pay11 (F := Ideal) a (View.ld v rk3)) (k0_pay15 (F := Ideal) a (P3 q k) (View.ld v rk3))

theorem P0_eq (r : Fin 512) (m : Fin 256) : P0 q k (ix2 r m) = pS (rows q r) (rows k) 0 m :=
  prob_piece 0 q k _ _ (by intro r d; pointwise; blk_ext) (by intro r d; pointwise; blk_ext) r m
theorem P1_eq (r : Fin 512) (m : Fin 256) : P1 q k (ix2 r m) = pS (rows q r) (rows k) 1 m :=
  prob_piece 1 q k _ _ (by intro r d; pointwise; blk_ext) (by intro r d; pointwise; blk_ext) r m
theorem P2_eq (r : Fin 512) (m : Fin 256) : P2 q k (ix2 r m) = pS (rows q r) (rows k) 2 m :=
  prob_piece 2 q k _ _ (by intro r d; pointwise; blk_ext) (by intro r d; pointwise; blk_ext) r m
theorem P3_eq (r : Fin 512) (m : Fin 256) : P3 q k (ix2 r m) = pS (rows q r) (rows k) 3 m :=
  prob_piece 3 q k _ _ (by intro r d; pointwise; blk_ext) (by intro r d; pointwise; blk_ext) r m

theorem D0_eq (r : Fin 512) (m : Fin 256) : D0 q k v a (ix2 r m) = dS (rows q r) (rows a r) (rows k) (rows v) 0 m :=
  (ds0_apply _ _ _ _).trans (ds_piece 0 q k v a _ _ _ _ (P0_eq q k r) (by intro r d; pointwise; blk_ext))
theorem D1_eq (r : Fin 512) (m : Fin 256) : D1 q k v a (ix2 r m) = dS (rows q r) (rows a r) (rows k) (rows v) 1 m :=
  (ds1_apply _ _ _ _).trans (ds_piece 1 q k v a _ _ _ _ (P1_eq q k r) (by intro r d; pointwise; blk_ext))
theorem D2_eq (r : Fin 512) (m : Fin 256) : D2 q k v a (ix2 r m) = dS (rows q r) (rows a r) (rows k) (rows v) 2 m :=
  (ds2_apply _ _ _ _).trans (ds_piece 2 q k v a _ _ _ _ (P2_eq q k r) (by intro r d; pointwise; blk_ext))
theorem D3_eq (r : Fin 512) (m : Fin 256) : D3 q k v a (ix2 r m) = dS (rows q r) (rows a r) (rows k) (rows v) 3 m :=
  (ds3_apply _ _ _ _).trans (ds_piece 3 q k v a _ _ _ _ (P3_eq q k r) (by intro r d; pointwise; blk_ext))

/-- The query gradient of a block, as the body stores it: four heads' column pieces. -/
abbrev dqPieces : List (View.Piece (Elt Ideal) S512x1024 .bf16) :=
  [⟨rq3, k0_pay27 (F := Ideal) (D3 q k v a) (View.ld k rk3)⟩, ⟨rq2, k0_pay24 (F := Ideal) (D2 q k v a) (View.ld k rk2)⟩,
   ⟨rq1, k0_pay20 (F := Ideal) (D1 q k v a) (View.ld k rk1)⟩, ⟨rq0, k0_pay17 (F := Ideal) (D0 q k v a) (View.ld k rk0)⟩]

theorem dq_canon (y : S512x1024.Idx) :
    View.canon (dqPieces q k v a) y = dQ (rows q (y 0)) (rows a (y 0)) (rows k) (rows v) (y 1) := by
  canon_tiles x hx
  all_goals obtain hy : y 0 = x 0 := Fin.ext hx0
  all_goals rw [hy]
  · exact dq_piece 3 _ _ _ _ _ _ x _ hx1 (D3_eq q k v a (x 0)) (by intro r d; pointwise; blk_ext)
  · exact dq_piece 2 _ _ _ _ _ _ x _ hx1 (D2_eq q k v a (x 0)) (by intro r d; pointwise; blk_ext)
  · exact dq_piece 1 _ _ _ _ _ _ x _ hx1 (D1_eq q k v a (x 0)) (by intro r d; pointwise; blk_ext)
  · exact dq_piece 0 _ _ _ _ _ _ x _ (by simpa using hx1) (D0_eq q k v a (x 0)) (by intro r d; pointwise; blk_ext)

end Pieces

variable (m : (ℓ : Loc nD τ sig) → Buf (Elt Ideal) ℓ) (c : Dev nD)

/-- The query gradient a grid point leaves in its block. -/
theorem dq_blk (t : Fin cfg0.N) (y : S512x1024.Idx) : (outsAt0 m c t.val t.isLt).2.2.2.1 y
    = View.canon (dqPieces (iblk m c 3 t) (iblk m c 4 t) (iblk m c 5 t) (k0_pay3 (F := Ideal) (iblk m c 2 t) (iblk m c 6 t))) y := by
  by_cases h : t.val % 16 = 0
  · rw [outsAt0_A m c t h]; frame_out
  · rw [outsAt0_B m c t h]; frame_out

end Cert.AttnBwdIdeal.Hand

end
-- ==== Proof.Attn.Keys.lean ====
module

public import proofs.«01_k».proof.Proof.Attn.Blocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Attn
open Norm

/-- What one query row adds to row `m` of the gradient of keys and values: keys' columns first, then the values'. -/
def kvRow (Q A : Fin 1024 → EReal) (K V : Fin 256 → Fin 1024 → EReal) (m : Fin 256) (j : Fin 2048) : EReal :=
  if h : j.val < 1024 then dS Q A K V (hd ⟨j, h⟩) m * Q ⟨j, h⟩ else pS Q K (hd ⟨j - 1024, by omega⟩) m * A ⟨j - 1024, by omega⟩

theorem kvRow_key (Q A : Fin 1024 → EReal) (K V : Fin 256 → Fin 1024 → EReal) (m : Fin 256) (j : Fin 2048) (h : Fin 4) (d : Fin 256)
    (hj : (j : ℕ) = h.val * 256 + d.val) : kvRow Q A K V m j = dS Q A K V h m * Q (col h d) := by
  have hl : j.val < 1024 := by omega
  have hc : (⟨j, hl⟩ : Fin 1024) = col h d := Fin.ext hj
  have hh : hd (col h d) = h := Fin.ext (by show (h.val * 256 + d.val) / 256 = h.val; omega)
  unfold kvRow
  rw [dif_pos hl, hc, hh]

theorem kvRow_value (Q A : Fin 1024 → EReal) (K V : Fin 256 → Fin 1024 → EReal) (m : Fin 256) (j : Fin 2048) (h : Fin 4) (d : Fin 256)
    (hj : (j : ℕ) = 1024 + (h.val * 256 + d.val)) : kvRow Q A K V m j = pS Q K h m * A (col h d) := by
  have hl : ¬ j.val < 1024 := by omega
  have hc : (⟨j - 1024, by omega⟩ : Fin 1024) = col h d := Fin.ext (by show j.val - 1024 = h.val * 256 + d.val; omega)
  have hh : hd (col h d) = h := Fin.ext (by show (h.val * 256 + d.val) / 256 = h.val; omega)
  unfold kvRow
  rw [dif_neg hl, hc, hh]
end Attn

namespace Cert.AttnBwdIdeal.Hand
open Cert.AttnBwdIdeal Cert.AttnBwdIdeal.Gen Norm Attn

section Pieces
variable (a : FVec Ideal S512x1024 .bf16) (p : FVec Ideal S512x256 .f32) (s q : FVec Ideal S512x256 .bf16) (o : FVec Ideal S256x256 .f32)
theorem key_apply (i : S256x256.Idx) : k0_pay18 (F := Ideal) s o q i = o i + ∑ r : Fin 512, s (ix2 r (i 0)) * q (ix2 r (i 1)) := by
  pointwise [k0_pay18]
theorem key_pays : k0_pay22 (F := Ideal) s (k0_pay21 o) q = k0_pay18 s o q ∧ k0_pay25 (F := Ideal) s o q = k0_pay18 s o q
    ∧ k0_pay28 (F := Ideal) s o q = k0_pay18 s o q := ⟨rfl, rfl, rfl⟩
theorem value0_apply (i : S256x256.Idx) : k0_pay19 (F := Ideal) a p o i = o i + ∑ r : Fin 512, p (ix2 r (i 0)) * a (ix2 r (col 0 (i 1))) := by
  pointwise [k0_pay19]
  blk_point []
theorem value1_apply (i : S256x256.Idx) : k0_pay23 (F := Ideal) a p o i = o i + ∑ r : Fin 512, p (ix2 r (i 0)) * a (ix2 r (col 1 (i 1))) := by
  pointwise [k0_pay23]
  blk_point []
theorem value2_apply (i : S256x256.Idx) : k0_pay26 (F := Ideal) a p o i = o i + ∑ r : Fin 512, p (ix2 r (i 0)) * a (ix2 r (col 2 (i 1))) := by
  pointwise [k0_pay26]
  blk_point []
theorem value3_apply (i : S256x256.Idx) : k0_pay29 (F := Ideal) a p o i = o i + ∑ r : Fin 512, p (ix2 r (i 0)) * a (ix2 r (col 3 (i 1))) := by
  pointwise [k0_pay29]
  blk_point []
end Pieces

/-- A head's key columns: what the block's rows add. -/
theorem key_piece (h : Fin 4) (Q A : Fin 512 → Fin 1024 → EReal) (K V : Fin 256 → Fin 1024 → EReal) (s q : FVec Ideal S512x256 .bf16)
    (o : FVec Ideal S256x256 .f32) (O : EReal) (x : S256x256.Idx) (j : Fin 2048) (hj : (j : ℕ) = h.val * 256 + (x 1).val) (ho : o x = O)
    (hs : ∀ r m, s (ix2 r m) = dS (Q r) (A r) K V h m) (hq : ∀ r d, q (ix2 r d) = Q r (col h d)) :
    k0_pay18 (F := Ideal) s o q x = O + ∑ r, kvRow (Q r) (A r) K V (x 0) j := by
  rw [key_apply, ho]
  exact Ideal.add_congr rfl (Finset.sum_congr rfl fun r _ =>
    (Ideal.mul_congr (hs r _) (hq r _)).trans (kvRow_key _ _ _ _ _ j h (x 1) hj).symm)

/-- A head's value columns. -/
theorem value_piece (h : Fin 4) (Q A : Fin 512 → Fin 1024 → EReal) (K V : Fin 256 → Fin 1024 → EReal) (p : FVec Ideal S512x256 .f32)
    (O o e : EReal) (x : S256x256.Idx) (j : Fin 2048) (hj : (j : ℕ) = 1024 + (h.val * 256 + (x 1).val)) (ho : o = O)
    (he : e = o + ∑ r : Fin 512, p (ix2 r (x 0)) * A r (col h (x 1))) (hp : ∀ r m, p (ix2 r m) = pS (Q r) K h m) :
    e = O + ∑ r, kvRow (Q r) (A r) K V (x 0) j := by
  rw [he, ho]
  exact Ideal.add_congr rfl (Finset.sum_congr rfl fun r _ =>
    (Ideal.mul_congr (hp r _) rfl).trans (kvRow_value _ _ _ _ _ j h (x 1) hj).symm)

section Canon
/-- The eight column windows of the accumulated gradient. -/
abbrev rkv := Rect.unit (s := S256x2048) ![0, 0] ![256, 2048] inb_S256x2048_S256x2048_0_0
abbrev rkv0 := Rect.unit (s := S256x2048) ![0, 0] ![256, 256] inb_S256x2048_S256x256_0_0
abbrev rkv1 := Rect.unit (s := S256x2048) ![0, 256] ![256, 256] inb_S256x2048_S256x256_0_256
abbrev rkv2 := Rect.unit (s := S256x2048) ![0, 512] ![256, 256] inb_S256x2048_S256x256_0_512
abbrev rkv3 := Rect.unit (s := S256x2048) ![0, 768] ![256, 256] inb_S256x2048_S256x256_0_768
abbrev rkv4 := Rect.unit (s := S256x2048) ![0, 1024] ![256, 256] inb_S256x2048_S256x256_0_1024
abbrev rkv5 := Rect.unit (s := S256x2048) ![0, 1280] ![256, 256] inb_S256x2048_S256x256_0_1280
abbrev rkv6 := Rect.unit (s := S256x2048) ![0, 1536] ![256, 256] inb_S256x2048_S256x256_0_1536
abbrev rkv7 := Rect.unit (s := S256x2048) ![0, 1792] ![256, 256] inb_S256x2048_S256x256_0_1792

variable (q : FVec Ideal S512x1024 .bf16) (k v : FVec Ideal S256x1024 .bf16) (a : FVec Ideal S512x1024 .bf16)
  (o0 o1 o2 o3 o4 o5 o6 o7 : FVec Ideal S256x256 .f32)

/-- The eight stores of a grid point, each adding to what its window held. -/
abbrev kvPieces : List (View.Piece (Elt Ideal) S256x2048 .f32) :=
  [⟨rkv7, k0_pay29 (F := Ideal) a (P3 q k) o7⟩, ⟨rkv3, k0_pay28 (F := Ideal) (D3 q k v a) o3 (View.ld q rq3)⟩,
   ⟨rkv6, k0_pay26 (F := Ideal) a (P2 q k) o6⟩, ⟨rkv2, k0_pay25 (F := Ideal) (D2 q k v a) o2 (View.ld q rq2)⟩,
   ⟨rkv5, k0_pay23 (F := Ideal) a (P1 q k) o5⟩, ⟨rkv1, k0_pay22 (F := Ideal) (D1 q k v a) (k0_pay21 (F := Ideal) o1) (View.ld q rq1)⟩,
   ⟨rkv4, k0_pay19 (F := Ideal) a (P0 q k) o4⟩, ⟨rkv0, k0_pay18 (F := Ideal) (D0 q k v a) o0 (View.ld q rq0)⟩]

theorem kv_canon (O : FVec Ideal S256x2048 .f32)
    (h0 : ∀ (x : S256x256.Idx) (y : S256x2048.Idx), (y 0 : ℕ) = x 0 → (y 1 : ℕ) = x 1 → o0 x = O y)
    (h1 : ∀ (x : S256x256.Idx) (y : S256x2048.Idx), (y 0 : ℕ) = x 0 → (y 1 : ℕ) = 256 + x 1 → o1 x = O y)
    (h2 : ∀ (x : S256x256.Idx) (y : S256x2048.Idx), (y 0 : ℕ) = x 0 → (y 1 : ℕ) = 512 + x 1 → o2 x = O y)
    (h3 : ∀ (x : S256x256.Idx) (y : S256x2048.Idx), (y 0 : ℕ) = x 0 → (y 1 : ℕ) = 768 + x 1 → o3 x = O y)
    (h4 : ∀ (x : S256x256.Idx) (y : S256x2048.Idx), (y 0 : ℕ) = x 0 → (y 1 : ℕ) = 1024 + x 1 → o4 x = O y)
    (h5 : ∀ (x : S256x256.Idx) (y : S256x2048.Idx), (y 0 : ℕ) = x 0 → (y 1 : ℕ) = 1280 + x 1 → o5 x = O y)
    (h6 : ∀ (x : S256x256.Idx) (y : S256x2048.Idx), (y 0 : ℕ) = x 0 → (y 1 : ℕ) = 1536 + x 1 → o6 x = O y)
    (h7 : ∀ (x : S256x256.Idx) (y : S256x2048.Idx), (y 0 : ℕ) = x 0 → (y 1 : ℕ) = 1792 + x 1 → o7 x = O y)
    (y : S256x2048.Idx) :
    View.canon (kvPieces q k v a o0 o1 o2 o3 o4 o5 o6 o7) y
      = O y + ∑ r, kvRow (rows q r) (rows a r) (rows k) (rows v) (y 0) (y 1) := by
  canon_tiles x hx
  all_goals have hy : y 0 = x 0 := Fin.ext hx0
  all_goals rw [show (∑ r, kvRow (rows q r) (rows a r) (rows k) (rows v) (y 0) (y 1)) = ∑ r, kvRow (rows q r) (rows a r) (rows k) (rows v) (x 0) (y 1) from by rw [hy]]
  · exact value_piece 3 (rows q) (rows a) (rows k) (rows v) (P3 q k) _ _ _ x _ (hx1.trans (Nat.add_assoc 1024 768 _)) (h7 x y (congrArg Fin.val hy) hx1) (value3_apply a _ _ x) (P3_eq q k)
  · exact key_piece 3 (rows q) (rows a) (rows k) (rows v) _ _ _ _ x _ hx1 (h3 x y (congrArg Fin.val hy) hx1) (D3_eq q k v a) (by intro r d; pointwise; blk_ext)
  · exact value_piece 2 (rows q) (rows a) (rows k) (rows v) (P2 q k) _ _ _ x _ (hx1.trans (Nat.add_assoc 1024 512 _)) (h6 x y (congrArg Fin.val hy) hx1) (value2_apply a _ _ x) (P2_eq q k)
  · exact key_piece 2 (rows q) (rows a) (rows k) (rows v) _ _ _ _ x _ hx1 (h2 x y (congrArg Fin.val hy) hx1) (D2_eq q k v a) (by intro r d; pointwise; blk_ext)
  · exact value_piece 1 (rows q) (rows a) (rows k) (rows v) (P1 q k) _ _ _ x _ (hx1.trans (Nat.add_assoc 1024 256 _)) (h5 x y (congrArg Fin.val hy) hx1) (value1_apply a _ _ x) (P1_eq q k)
  · exact key_piece 1 (rows q) (rows a) (rows k) (rows v) _ _ _ _ x _ hx1 (h1 x y (congrArg Fin.val hy) hx1) (D1_eq q k v a) (by intro r d; pointwise; blk_ext)
  · exact value_piece 0 (rows q) (rows a) (rows k) (rows v) (P0 q k) _ _ _ x _ (by simpa using hx1) (h4 x y (congrArg Fin.val hy) hx1) (value0_apply a _ _ x) (P0_eq q k)
  · exact key_piece 0 (rows q) (rows a) (rows k) (rows v) _ _ _ _ x _ (by simpa using hx1) (h0 x y (congrArg Fin.val hy) (by simpa using hx1)) (D0_eq q k v a) (by intro r d; pointwise; blk_ext)

/-- The stores cover the buffer, so what it was filled with before is gone. -/
theorem kv_fill (Z : FVec Ideal S256x2048 .f32) (y : S256x2048.Idx) :
    View.canon (kvPieces q k v a o0 o1 o2 o3 o4 o5 o6 o7 ++ [⟨rkv, Z⟩]) y = View.canon (kvPieces q k v a o0 o1 o2 o3 o4 o5 o6 o7) y := by
  have hc : ∀ L : List (View.Piece (Elt Ideal) S256x2048 .f32), (∃ p ∈ L, y ∈ p.1.set) → ∀ L', View.canon (L ++ L') y = View.canon L y := by
    intro L
    induction L with
    | nil => rintro ⟨p, hp, -⟩; exact absurd hp List.not_mem_nil
    | cons p L ih =>
      rintro ⟨q, hq, hy⟩ L'
      by_cases h : y ∈ p.1.set
      · rw [← Rect.map_emb_univ, Finset.mem_map] at h
        obtain ⟨x, -, rfl⟩ := h
        exact (View.canon_cons_emb p.1 p.2 _ x).trans (View.canon_cons_emb p.1 p.2 _ x).symm
      · rw [List.cons_append, View.canon_cons_of_not_mem p _ h, View.canon_cons_of_not_mem p _ h]
        rcases List.mem_cons.mp hq with rfl | hq
        · exact absurd hy h
        · exact ih ⟨q, hq, hy⟩ L'
  exact hc _ (View.cover_of_tiledL _ ![256, 256] (by rfl) y) _

end Canon

variable (m : (ℓ : Loc nD τ sig) → Buf (Elt Ideal) ℓ) (c : Dev nD)

theorem kv_step (t : Fin cfg0.N) (h : ¬ t.val % 16 = 0) (y : S256x2048.Idx) : (outsAt0 m c t.val t.isLt).2.2.2.2.1 y
    = (outsAt0 m c (t.val - 1) (by omega)).2.2.2.2.1 y
      + ∑ r, kvRow (rows (iblk m c 3 t) r) (rows (k0_pay3 (F := Ideal) (iblk m c 2 t) (iblk m c 6 t)) r) (rows (iblk m c 4 t)) (rows (iblk m c 5 t)) (y 0) (y 1) := by
  rw [outsAt0_B m c t h]; frame_out
  refine kv_canon _ _ _ _ _ _ _ _ _ _ _ _ _ ?_ ?_ ?_ ?_ ?_ ?_ ?_ ?_ y
  all_goals (intro x y h0 h1; pointwise; blk_ext)

theorem kv_start (t : Fin cfg0.N) (h : t.val % 16 = 0) (y : S256x2048.Idx) : (outsAt0 m c t.val t.isLt).2.2.2.2.1 y
    = ∑ r, kvRow (rows (iblk m c 3 t) r) (rows (k0_pay3 (F := Ideal) (iblk m c 2 t) (iblk m c 6 t)) r) (rows (iblk m c 4 t)) (rows (iblk m c 5 t)) (y 0) (y 1) := by
  rw [outsAt0_A m c t h]; frame_out
  simp (disch := decide) only [↓View.readCov_skip, View.readCov_fill]
  refine (kv_fill _ _ _ _ _ _ _ _ _ _ _ _ _ y).trans ((kv_canon _ _ _ _ _ _ _ _ _ _ _ _ (fun _ => 0) ?_ ?_ ?_ ?_ ?_ ?_ ?_ ?_ y).trans (zero_add _))
  all_goals (intro x y h0 h1; pointwise [k0_pay1])

end Cert.AttnBwdIdeal.Hand

end
-- ==== Proof.Attn.Rows.lean ====
module

public import proofs.«01_k».proof.Proof.Attn.Keys

@[expose] public section

set_option maxRecDepth 16384

noncomputable section

open Idealize.ShloMosaic Idealize.ShloMosaic.TcCoe Idealize.SL.Sem
open Idealize.ShloMosaic.Pipeline (Dat)

namespace Attn
open Norm

/-- A row's product with the transpose of a square matrix, the rule of every projection's gradient. -/
def back (D : Fin 1024 → EReal) (W : (⟨2, ![1024, 1024]⟩ : Shape).Idx → EReal) (i : Fin 1024) : EReal := ∑ l : Fin 1024, D l * W (ix2 i l)
/-- The gradient of a row before the attention, from the row, its query's gradient and what flows past it. -/
def dx1 (X B DQ : Fin 1024 → EReal) (Wq : (⟨2, ![1024, 1024]⟩ : Shape).Idx → EReal) (G : Fin 1024 → EReal) (j : Fin 1024) : EReal :=
  B j + dnorm c1024 X (fun i => back DQ Wq i * G i) j
/-- What a row adds to the gradient of the norm's gain. -/
def dgRow (X DQ : Fin 1024 → EReal) (Wq : (⟨2, ![1024, 1024]⟩ : Shape).Idx → EReal) (j : Fin 1024) : EReal :=
  back DQ Wq j * (X j * rinv c1024 X)
end Attn

namespace Cert.AttnBwdIdeal.Hand
open Cert.AttnBwdIdeal Cert.AttnBwdIdeal.Gen Norm Attn

section Pays
variable (x b dq : FVec Ideal S512x1024 .f32) (wq wo : FVec Ideal S1024x1024 .bf16) (g : FVec Ideal S1x1024 .f32)
theorem back_apply (d : FVec Ideal S512x1024 .bf16) (i : S512x1024.Idx) : k0_pay30 (F := Ideal) d wq i = back (rows d (i 0)) wq (i 1) := by
  pointwise [k0_pay30, back]
theorem xr_apply (i : S512x1024.Idx) : k0_pay33 (F := Ideal) x (k0_pay31 x) (FloatOps.ofBits .f32 0x44800000#32) i
    = x i * rinv c1024 (rows x (i 0)) := by
  pointwise [k0_pay33, k0_pay32, k0_pay31, rinv, msq]
theorem dx1_apply (i : S512x1024.Idx) : k0_pay34 (F := Ideal) dq x (k0_pay31 x) (FloatOps.ofBits .f32 0x44800000#32) g b i
    = b i + dnorm c1024 (rows x (i 0)) (fun j => dq (ix2 (i 0) j) * g (ix2 0 j)) (i 1) := by
  pointwise [k0_pay34, k0_pay33, k0_pay32, k0_pay31, dnorm, rinv, msq]
  blk_point []
  exact Ideal.mul_congr (by blk_ext) rfl
theorem dy_apply (i : S512x1024.Idx) : k0_pay36 (F := Ideal) dq x (k0_pay31 x) (FloatOps.ofBits .f32 0x44800000#32) g b wo i
    = back (fun j => b (ix2 (i 0) j) + dnorm c1024 (rows x (i 0)) (fun j => dq (ix2 (i 0) j) * g (ix2 0 j)) j) wo (i 1) := by
  pointwise [k0_pay36, k0_pay35]
  unfold back
  exact Finset.sum_congr rfl fun l _ => Ideal.mul_congr (dx1_apply x b dq g (ix2 (i 0) l)) rfl
theorem dg_apply (o : FVec Ideal S8x1024 .f32) (i : S8x1024.Idx) : k0_pay37 (F := Ideal) dq x (k0_pay31 x) (FloatOps.ofBits .f32 0x44800000#32) o i
    = o i + ∑ r : Fin 512, dq (ix2 r (i 1)) * (x (ix2 r (i 1)) * rinv c1024 (rows x r)) := by
  pointwise [k0_pay37]
  exact Ideal.add_congr rfl (Finset.sum_congr rfl fun r _ => Ideal.mul_congr rfl (xr_apply x (ix2 r (i 1))))
end Pays

variable (m : (ℓ : Loc nD τ sig) → Buf (Elt Ideal) ℓ) (c : Dev nD)

/-- The query gradient of a block as an array, and what the body reads back of it. -/
def dqB (t : Fin cfg0.N) : FVec Ideal S512x1024 .bf16 := View.canon (dqPieces (iblk m c 3 t) (iblk m c 4 t) (iblk m c 5 t) (k0_pay3 (F := Ideal) (iblk m c 2 t) (iblk m c 6 t)))
theorem dqB_row (t : Fin cfg0.N) (r : Fin 512) : rows (dqB m c t) r = dQ (rows (iblk m c 3 t : FVec Ideal S512x1024 .bf16) r)
    (rows (k0_pay3 (F := Ideal) (iblk m c 2 t) (iblk m c 6 t)) r) (rows (iblk m c 4 t : FVec Ideal S256x1024 .bf16)) (rows (iblk m c 5 t : FVec Ideal S256x1024 .bf16)) :=
  funext fun j => dq_canon _ _ _ _ (ix2 r j)
theorem dq_read (t : Fin cfg0.N) : (ms0_13 t).view.readCov (dqPieces (iblk m c 3 t) (iblk m c 4 t) (iblk m c 5 t) (k0_pay3 (F := Ideal) (iblk m c 2 t) (iblk m c 6 t)))
    (Rect.unit (s := S512x1024) ![0, 0] ![512, 1024] inb_S512x1024_S512x1024_0_0).toLoadRect = dqB m c t := by
  rw [View.readCov_eq_canon']
  exact View.ld_unit_lit _ _ (by decide)

/-- The gradient before the attention, of one row of a block. -/
def dx1B (t : Fin cfg0.N) (r : Fin 512) : Fin 1024 → EReal := dx1 (rows (iblk m c 0 t : FVec Ideal S512x1024 .f32) r) (rows (iblk m c 1 t : FVec Ideal S512x1024 .f32) r)
  (rows (dqB m c t) r) (iblk m c 7 t : FVec Ideal S1024x1024 .bf16) (fun j => (iblk m c 9 t : FVec Ideal S1x1024 .f32) (ix2 0 j))
def dgB (t : Fin cfg0.N) (r : Fin 512) : Fin 1024 → EReal := dgRow (rows (iblk m c 0 t : FVec Ideal S512x1024 .f32) r)
  (rows (dqB m c t) r) (iblk m c 7 t : FVec Ideal S1024x1024 .bf16)

theorem dx1_arg (t : Fin cfg0.N) (y : S512x1024.Idx) :
    k0_pay34 (F := Ideal) (k0_pay30 (dqB m c t) (iblk m c 7 t)) (iblk m c 0 t) (k0_pay31 (iblk m c 0 t)) (FloatOps.ofBits .f32 0x44800000#32) (iblk m c 9 t) (iblk m c 1 t) y
      = dx1B m c t (y 0) (y 1) := by
  refine (dx1_apply _ _ _ _ y).trans ?_
  refine Ideal.add_congr (congrArg _ (by blk_ext)) (congr (congrArg _ (funext fun j => Ideal.mul_congr (back_apply _ _ _) rfl)) rfl)

theorem dx1_blk (t : Fin cfg0.N) (y : S512x1024.Idx) : (outsAt0 m c t.val t.isLt).1 y = dx1B m c t (y 0) (y 1) := by
  rw [← dx1_arg, ← dq_read]
  by_cases h : t.val % 16 = 0
  · rw [outsAt0_A m c t h]; frame_out
  · rw [outsAt0_B m c t h]; frame_out
theorem dx1b_blk (t : Fin cfg0.N) (y : S512x1024.Idx) : (outsAt0 m c t.val t.isLt).2.1 y = dx1B m c t (y 0) (y 1) := by
  rw [← dx1_arg, ← dq_read]
  by_cases h : t.val % 16 = 0
  · rw [outsAt0_A m c t h]; frame_out; rfl
  · rw [outsAt0_B m c t h]; frame_out; rfl
theorem dy_blk (t : Fin cfg0.N) (y : S512x1024.Idx) : (outsAt0 m c t.val t.isLt).2.2.1 y
    = back (dx1B m c t (y 0)) (iblk m c 8 t : FVec Ideal S1024x1024 .bf16) (y 1) := by
  have e : k0_pay36 (F := Ideal) (k0_pay30 (dqB m c t) (iblk m c 7 t)) (iblk m c 0 t) (k0_pay31 (iblk m c 0 t)) (FloatOps.ofBits .f32 0x44800000#32) (iblk m c 9 t) (iblk m c 1 t) (iblk m c 8 t) y
      = back (dx1B m c t (y 0)) (iblk m c 8 t : FVec Ideal S1024x1024 .bf16) (y 1) := by
    rw [dy_apply]
    exact congrFun (congrArg (fun D => back D _) (funext fun j => (dx1_apply _ _ _ _ (ix2 (y 0) j)).symm.trans (dx1_arg m c t (ix2 (y 0) j)))) _
  rw [← e, ← dq_read]
  by_cases h : t.val % 16 = 0
  · rw [outsAt0_A m c t h]; frame_out
  · rw [outsAt0_B m c t h]; frame_out

theorem dg_arg (t : Fin cfg0.N) (o : FVec Ideal S8x1024 .f32) (y : S8x1024.Idx) :
    k0_pay37 (F := Ideal) (k0_pay30 (dqB m c t) (iblk m c 7 t)) (iblk m c 0 t) (k0_pay31 (iblk m c 0 t)) (FloatOps.ofBits .f32 0x44800000#32) o y
      = o y + ∑ r, dgB m c t r (y 1) := by
  rw [dg_apply]
  exact Ideal.add_congr rfl (Finset.sum_congr rfl fun r _ => Ideal.mul_congr (back_apply _ _ _) rfl)
theorem dg_step (t : Fin cfg0.N) (h : ¬ t.val % 16 = 0) (y : S8x1024.Idx) : (outsAt0 m c t.val t.isLt).2.2.2.2.2 y
    = (outsAt0 m c (t.val - 1) (by omega)).2.2.2.2.2 y + ∑ r, dgB m c t r (y 1) := by
  rw [← dg_arg, ← dq_read, outsAt0_B m c t h]; frame_out
theorem dg_start (t : Fin cfg0.N) (h : t.val % 16 = 0) (y : S8x1024.Idx) : (outsAt0 m c t.val t.isLt).2.2.2.2.2 y = ∑ r, dgB m c t r (y 1) := by
  refine Eq.trans ?_ ((dg_arg m c t k0_pay2 y).trans ((Ideal.add_congr (by pointwise [k0_pay2]) rfl).trans (zero_add _)))
  rw [← dq_read, outsAt0_A m c t h]; frame_out

end Cert.AttnBwdIdeal.Hand

end
-- ==== Proof.Attn.Final.lean ====
module

public import proofs.«01_k».proof.Proof.Attn.Rows

@[expose] public section

set_option maxRecDepth 16384

noncomputable section

open Idealize.ShloMosaic Idealize.ShloMosaic.TcCoe Idealize.SL.Sem
open Idealize.ShloMosaic.Pipeline (Dat)

namespace Attn
open Norm

/-! The gradients over whole arrays, row by row: `x` the attention's input, `b` what flows back, queries, keys and values, the three weights, the gain. -/

section Arrays
variable (x b q : (⟨2, ![8192, 1024]⟩ : Shape).Idx → EReal) (k v : (⟨2, ![256, 1024]⟩ : Shape).Idx → EReal)
  (wx wq wo : (⟨2, ![1024, 1024]⟩ : Shape).Idx → EReal) (g : (⟨2, ![1, 1024]⟩ : Shape).Idx → EReal)
def dqRow (s : Fin 8192) : Fin 1024 → EReal := dQ (rows q s) (back (rows b s) wx) (rows k) (rows v)
def dx1Row (s : Fin 8192) : Fin 1024 → EReal := dx1 (rows x s) (rows b s) (dqRow b q k v wx s) wq (fun j => g (ix2 0 j))
def kvSum (i : Fin 256) (j : Fin 2048) : EReal := ∑ s, kvRow (rows q s) (back (rows b s) wx) (rows k) (rows v) i j
def dgSum (j : Fin 1024) : EReal := ∑ s, dgRow (rows x s) (dqRow b q k v wx s) wq j
end Arrays
end Attn

namespace Cert.AttnBwdIdeal.Hand
open Cert.AttnBwdIdeal Cert.AttnBwdIdeal.Gen Norm Attn

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![0, 0] ∧ win0_15.index t = ![0, 0] := (by decide +kernel : ∀ t : Fin grid0.N, _)

/-- The token of row `r` of block `t`. -/
abbrev tok (t : Fin cfg0.N) (r : Fin 512) : Fin 8192 := ⟨t.val * 512 + r.val, by have := t.isLt; have : cfg0.N = 16 := N_0; omega⟩

section Blocks
variable (t : Fin cfg0.N) (r : Fin 512)
theorem x_row : rows (iblk m c 0 t : FVec Ideal S512x1024 .f32) r = rows (V m c main_arg0 : FVec Ideal S8192x1024 .f32) (tok t r) := by
  funext j
  show View.read (Elt Ideal) ((cfg0.win 0).blk t).view (V m c main_arg0) (ix2 r j) = V m c main_arg0 (ix2 (tok t r) j)
  generalize V m c main_arg0 = A
  blk_ext! [idx t]
theorem b_row : rows (iblk m c 1 t : FVec Ideal S512x1024 .f32) r = rows (V m c main_arg2 : FVec Ideal S8192x1024 .f32) (tok t r) := by
  funext j
  show View.read (Elt Ideal) ((cfg0.win 1).blk t).view (V m c main_arg2) (ix2 r j) = V m c main_arg2 (ix2 (tok t r) j)
  generalize V m c main_arg2 = A
  blk_ext! [idx t]
theorem bb_row : rows (iblk m c 2 t : FVec Ideal S512x1024 .bf16) r = rows (V m c main_v28 : FVec Ideal S8192x1024 .bf16) (tok t r) := by
  funext j
  show View.read (Elt Ideal) ((cfg0.win 2).blk t).view (V m c main_v28) (ix2 r j) = V m c main_v28 (ix2 (tok t r) j)
  generalize V m c main_v28 = A
  blk_ext! [idx t]
theorem q_row : rows (iblk m c 3 t : FVec Ideal S512x1024 .bf16) r = rows (V m c main_v13 : FVec Ideal S8192x1024 .bf16) (tok t r) := by
  funext j
  show View.read (Elt Ideal) ((cfg0.win 3).blk t).view (V m c main_v13) (ix2 r j) = V m c main_v13 (ix2 (tok t r) j)
  generalize V m c main_v13 = A
  blk_ext! [idx t]
theorem whole4 : iblk m c 4 t = V m c main_v29 := by
  show View.read (Elt Ideal) ((cfg0.win 4).blk t).view (V m c main_v29) = V m c main_v29
  generalize V m c main_v29 = A
  blk_ext! [idx t]
theorem whole5 : iblk m c 5 t = V m c main_v30 := by
  show View.read (Elt Ideal) ((cfg0.win 5).blk t).view (V m c main_v30) = V m c main_v30
  generalize V m c main_v30 = A
  blk_ext! [idx t]
theorem whole6 : iblk m c 6 t = V m c main_v31 := by
  show View.read (Elt Ideal) ((cfg0.win 6).blk t).view (V m c main_v31) = V m c main_v31
  generalize V m c main_v31 = A
  blk_ext! [idx t]
theorem whole7 : iblk m c 7 t = V m c main_v32 := by
  show View.read (Elt Ideal) ((cfg0.win 7).blk t).view (V m c main_v32) = V m c main_v32
  generalize V m c main_v32 = A
  blk_ext! [idx t]
theorem whole8 : iblk m c 8 t = V m c main_v33 := by
  show View.read (Elt Ideal) ((cfg0.win 8).blk t).view (V m c main_v33) = V m c main_v33
  generalize V m c main_v33 = A
  blk_ext! [idx t]
theorem whole9 : iblk m c 9 t = V m c main_arg3 := by
  show View.read (Elt Ideal) ((cfg0.win 9).blk t).view (V m c main_arg3) = V m c main_arg3
  generalize V m c main_arg3 = A
  blk_ext! [idx t]
end Blocks

/-- The arrays as the kernel call finds them. -/
abbrev X : FVec Ideal S8192x1024 .f32 := V m c main_arg0
abbrev B : FVec Ideal S8192x1024 .f32 := V m c main_arg2
abbrev Bb : FVec Ideal S8192x1024 .bf16 := V m c main_v28
abbrev Q : FVec Ideal S8192x1024 .bf16 := V m c main_v13
abbrev K : FVec Ideal S256x1024 .bf16 := V m c main_v29
abbrev U : FVec Ideal S256x1024 .bf16 := V m c main_v30
abbrev Wx : FVec Ideal S1024x1024 .bf16 := V m c main_v31
abbrev Wq : FVec Ideal S1024x1024 .bf16 := V m c main_v32
abbrev Wo : FVec Ideal S1024x1024 .bf16 := V m c main_v33
abbrev G : FVec Ideal S1x1024 .f32 := V m c main_arg3

theorem a_row (t : Fin cfg0.N) (r : Fin 512) : rows (k0_pay3 (F := Ideal) (iblk m c 2 t) (iblk m c 6 t)) r = back (rows (Bb m c) (tok t r)) (Wx m c) := by
  funext j
  refine (pay3_apply _ _ (ix2 r j)).trans ?_
  exact Finset.sum_congr rfl fun l _ => Ideal.mul_congr (congrFun (bb_row m c t r) l) (congrFun (whole6 m c t) (ix2 j l))

theorem dq_row (t : Fin cfg0.N) (r : Fin 512) : rows (dqB m c t) r = dqRow (Bb m c) (Q m c) (K m c) (U m c) (Wx m c) (tok t r) := by
  rw [dqB_row, a_row, q_row]
  exact congr (congrArg (fun k => dQ _ _ (rows k)) (whole4 m c t)) (congrArg rows (whole5 m c t))

theorem dx1_row (t : Fin cfg0.N) (r : Fin 512) :
    dx1B m c t r = dx1Row (X m c) (Bb m c) (Q m c) (K m c) (U m c) (Wx m c) (Wq m c) (G m c) (tok t r) := by
  unfold dx1B dx1Row
  rw [x_row, b_row, dq_row]
  exact congr (congrArg (fun W => dx1 _ _ _ W) (whole7 m c t)) (congrArg (fun (g : FVec Ideal S1x1024 .f32) (j : Fin 1024) => g (ix2 0 j)) (whole9 m c t))

theorem dg_row (t : Fin cfg0.N) (r : Fin 512) :
    dgB m c t r = dgRow (rows (X m c) (tok t r)) (dqRow (Bb m c) (Q m c) (K m c) (U m c) (Wx m c) (tok t r)) (Wq m c) := by
  unfold dgB
  rw [x_row, dq_row]
  exact congrArg _ (whole7 m c t)

theorem kv_row (t : Fin cfg0.N) (r : Fin 512) (i : Fin 256) (j : Fin 2048) :
    kvRow (rows (iblk m c 3 t) r) (rows (k0_pay3 (F := Ideal) (iblk m c 2 t) (iblk m c 6 t)) r) (rows (iblk m c 4 t)) (rows (iblk m c 5 t)) i j
      = kvRow (rows (Q m c) (tok t r)) (back (rows (Bb m c) (tok t r)) (Wx m c)) (rows (K m c)) (rows (U m c)) i j := by
  rw [a_row, q_row]
  exact congrFun (congrFun (congr (congrArg (fun k => kvRow _ _ (rows k)) (whole4 m c t)) (congrArg rows (whole5 m c t))) i) j

/-! Where the blocks of the results lie. -/

theorem arr10 (A : S8192x1024.Idx → EReal) (h : ∀ (t : Fin cfg0.N) (r : Fin 512) (j : Fin 1024), (outsAt0 m c t.val t.isLt).1 (ix2 r j) = A (ix2 (tok t r) j)) :
    (dats m 0 c).arrAt 10 cfg0.N = A := by
  refine (dats m 0 c).arrAt_eq_of_covers 10 _ (by decide +kernel) fun t _ y => ?_
  blk_simp
  rw [after0_10]
  refine (congrArg _ (by blk_ext)).trans ((h t (y 0) (y 1)).trans (congrArg A ?_))
  blk_ext [idx t]
theorem arr11 (A : S8192x1024.Idx → EReal) (h : ∀ (t : Fin cfg0.N) (r : Fin 512) (j : Fin 1024), (outsAt0 m c t.val t.isLt).2.1 (ix2 r j) = A (ix2 (tok t r) j)) :
    (dats m 0 c).arrAt 11 cfg0.N = A := by
  refine (dats m 0 c).arrAt_eq_of_covers 11 _ (by decide +kernel) fun t _ y => ?_
  blk_simp
  rw [after0_11]
  refine (congrArg _ (by blk_ext)).trans ((h t (y 0) (y 1)).trans (congrArg A ?_))
  blk_ext [idx t]
theorem arr12 (A : S8192x1024.Idx → EReal) (h : ∀ (t : Fin cfg0.N) (r : Fin 512) (j : Fin 1024), (outsAt0 m c t.val t.isLt).2.2.1 (ix2 r j) = A (ix2 (tok t r) j)) :
    (dats m 0 c).arrAt 12 cfg0.N = A := by
  refine (dats m 0 c).arrAt_eq_of_covers 12 _ (by decide +kernel) fun t _ y => ?_
  blk_simp
  rw [after0_12]
  refine (congrArg _ (by blk_ext)).trans ((h t (y 0) (y 1)).trans (congrArg A ?_))
  blk_ext [idx t]
theorem arr13 (A : S8192x1024.Idx → EReal) (h : ∀ (t : Fin cfg0.N) (r : Fin 512) (j : Fin 1024), (outsAt0 m c t.val t.isLt).2.2.2.1 (ix2 r j) = A (ix2 (tok t r) j)) :
    (dats m 0 c).arrAt 13 cfg0.N = A := by
  refine (dats m 0 c).arrAt_eq_of_covers 13 _ (by decide +kernel) fun t _ y => ?_
  blk_simp
  rw [after0_13]
  refine (congrArg _ (by blk_ext)).trans ((h t (y 0) (y 1)).trans (congrArg A ?_))
  blk_ext [idx t]
theorem sum_tok (f : Fin 8192 → EReal) : ∑ t : Fin cfg0.N, ∑ r : Fin 512, f (tok t r) = ∑ s, f s :=
  Fin.sum_mul_add_fin 16 512 f
theorem arr14 (T : Fin 8192 → S256x2048.Idx → EReal)
    (h0 : ∀ t : Fin cfg0.N, t.val % 16 = 0 → ∀ y, (outsAt0 m c t.val t.isLt).2.2.2.2.1 y = ∑ r : Fin 512, T (tok t r) y)
    (hs : ∀ t : Fin cfg0.N, ¬ t.val % 16 = 0 → ∀ y, (outsAt0 m c t.val t.isLt).2.2.2.2.1 y = (outsAt0 m c (t.val - 1) (by omega)).2.2.2.2.1 y + ∑ r : Fin 512, T (tok t r) y) :
    (dats m 0 c).arrAt 14 cfg0.N = fun y => ∑ s, T s y := by
  refine (dats m 0 c).arrAt_eq_of_after_last 14 t0_15 (by decide +kernel) _ fun j => ?_
  blk_simp
  rw [after0_14, Pipeline.eq_sum_fin_of_reset_step_apply_last (fun n h => (outsAt0 m c n h).2.2.2.2.1) 16 (fun _ => 0) (fun t y => ∑ r : Fin 512, T (tok t r) y)
    (fun t h j => (h0 t h j).trans (zero_add _).symm) hs (le_of_eq N_0) t0_15 rfl _, zero_add]
  exact sum_tok fun s => T s j
theorem arr15 (T : Fin 8192 → S8x1024.Idx → EReal)
    (h0 : ∀ t : Fin cfg0.N, t.val % 16 = 0 → ∀ y, (outsAt0 m c t.val t.isLt).2.2.2.2.2 y = ∑ r : Fin 512, T (tok t r) y)
    (hs : ∀ t : Fin cfg0.N, ¬ t.val % 16 = 0 → ∀ y, (outsAt0 m c t.val t.isLt).2.2.2.2.2 y = (outsAt0 m c (t.val - 1) (by omega)).2.2.2.2.2 y + ∑ r : Fin 512, T (tok t r) y) :
    (dats m 0 c).arrAt 15 cfg0.N = fun y => ∑ s, T s y := by
  refine (dats m 0 c).arrAt_eq_of_after_last 15 t0_15 (by decide +kernel) _ fun j => ?_
  blk_simp
  rw [after0_15, Pipeline.eq_sum_fin_of_reset_step_apply_last (fun n h => (outsAt0 m c n h).2.2.2.2.2) 16 (fun _ => 0) (fun t y => ∑ r : Fin 512, T (tok t r) y)
    (fun t h j => (h0 t h j).trans (zero_add _).symm) hs (le_of_eq N_0) t0_15 rfl _, zero_add]
  exact sum_tok fun s => T s j

/-! Each result as an array. -/

theorem dx1_final : (dats m 0 c).arrAt 10 cfg0.N = fun i : S8192x1024.Idx => dx1Row (X m c) (Bb m c) (Q m c) (K m c) (U m c) (Wx m c) (Wq m c) (G m c) (i 0) (i 1) :=
  arr10 m c _ fun t r j => (dx1_blk m c t (ix2 r j)).trans (congrFun (dx1_row m c t r) j)
theorem dx1b_final : (dats m 0 c).arrAt 11 cfg0.N = fun i : S8192x1024.Idx => dx1Row (X m c) (Bb m c) (Q m c) (K m c) (U m c) (Wx m c) (Wq m c) (G m c) (i 0) (i 1) :=
  arr11 m c _ fun t r j => (dx1b_blk m c t (ix2 r j)).trans (congrFun (dx1_row m c t r) j)
theorem dy_final : (dats m 0 c).arrAt 12 cfg0.N = fun i : S8192x1024.Idx => back (dx1Row (X m c) (Bb m c) (Q m c) (K m c) (U m c) (Wx m c) (Wq m c) (G m c) (i 0)) (Wo m c) (i 1) :=
  arr12 m c _ fun t r j => (dy_blk m c t (ix2 r j)).trans (congrFun (congr (congrArg back (dx1_row m c t r)) (whole8 m c t)) j)
theorem dq_final : (dats m 0 c).arrAt 13 cfg0.N = fun i : S8192x1024.Idx => dqRow (Bb m c) (Q m c) (K m c) (U m c) (Wx m c) (i 0) (i 1) :=
  arr13 m c _ fun t r j => (dq_blk m c t (ix2 r j)).trans (congrFun (dq_row m c t r) j)
theorem dkv_final : (dats m 0 c).arrAt 14 cfg0.N = fun i : S256x2048.Idx => kvSum (Bb m c) (Q m c) (K m c) (U m c) (Wx m c) (i 0) (i 1) :=
  arr14 m c (fun s i => kvRow (rows (Q m c) s) (back (rows (Bb m c) s) (Wx m c)) (rows (K m c)) (rows (U m c)) (i 0) (i 1))
    (fun t h y => (kv_start m c t h y).trans (Finset.sum_congr rfl fun r _ => kv_row m c t r (y 0) (y 1)))
    (fun t h y => (kv_step m c t h y).trans (Ideal.add_congr rfl (Finset.sum_congr rfl fun r _ => kv_row m c t r (y 0) (y 1))))
theorem dg_final : (dats m 0 c).arrAt 15 cfg0.N = fun i : S8x1024.Idx => dgSum (X m c) (Bb m c) (Q m c) (K m c) (U m c) (Wx m c) (Wq m c) (i 1) :=
  arr15 m c (fun s i => dgRow (rows (X m c) s) (dqRow (Bb m c) (Q m c) (K m c) (U m c) (Wx m c) s) (Wq m c) (i 1))
    (fun t h y => (dg_start m c t h y).trans (Finset.sum_congr rfl fun r _ => congrFun (dg_row m c t r) (y 1)))
    (fun t h y => (dg_step m c t h y).trans (Ideal.add_congr rfl (Finset.sum_congr rfl fun r _ => congrFun (dg_row m c t r) (y 1))))

end Cert.AttnBwdIdeal.Hand

end
-- ==== Proof.Attn.Ref.lean ====
module

public import proofs.«01_k».proof.Proof.Attn.Final
public import proofs.«01_k».proof.Proof.Gen.AttnRefIdeal.Read

@[expose] public section

set_option maxRecDepth 16384

noncomputable section

open Idealize.ShloMosaic Idealize.ShloMosaic.TcCoe Idealize.SL.Sem

namespace Cert.AttnRefIdeal.Read
open Norm Attn

variable (x0 : FVec Ideal S8192x1024 .f32) (x1 : FVec Ideal S256x1024 .f32) (x2 : FVec Ideal S8192x1024 .f32) (x3 x4 : FVec Ideal S1x1024 .f32)
  (x5 : FVec Ideal S1024x1024 .f32) (x6 : FVec Ideal S1024x2048 .f32) (x7 x8 : FVec Ideal S1024x1024 .f32)

/-- Queries, keys and values. -/
abbrev hq := rows (val_main_v28 (F := Ideal) x0 x3 x5)
abbrev ke := rows (val_main_v29 (F := Ideal) x1 x4 x6)
abbrev va := rows (val_main_v30 (F := Ideal) x1 x4 x6)
/-- The gradient of the attention's output. -/
abbrev da (s : Fin 8192) := back (rows x2 s) x7

theorem div16 (x : EReal) : Ideal.div x d16 = x * c16 := by rw [d16_eq, Ideal.div_coe (by norm_num), c16_eq]

variable (h : Fin 4) (s : Fin 8192) (m : Fin 256)
theorem v36_at : val_main_v36 (F := Ideal) x0 x1 x3 x4 x5 x6 (ix3 h s m)
    = score (fun d => hq x0 x3 x5 s (col h d)) (fun m d => ke x1 x4 x6 m (col h d)) m := by
  rw [val_main_v36_apply, score, ← div16, dotp]
  refine congrArg (fun a => Ideal.div a d16) ((val_main_v34_apply _ _ _ _ _ _ _).trans (Finset.sum_congr rfl fun d _ => Ideal.mul_congr ?_ ?_))
  · rw [val_main_v31_apply]; exact congrArg _ (by blk_ext)
  · rw [val_main_v32_apply]; exact congrArg _ (by blk_ext)
theorem v37_at : val_main_v37 (F := Ideal) x0 x1 x3 x4 x5 x6 (ix2 h s) = top (fun d => hq x0 x3 x5 s (col h d)) (fun m d => ke x1 x4 x6 m (col h d)) := by
  have h36 := funext (v36_at x0 x1 x3 x4 x5 x6 h s)
  pointwise [val_main_v37, top]
  exact congrArg (fun f => Finset.fold max _ f Finset.univ) h36
theorem v57_at : val_main_v57 (F := Ideal) x0 x1 x3 x4 x5 x6 (ix3 h s m) = ex (fun d => hq x0 x3 x5 s (col h d)) (fun m d => ke x1 x4 x6 m (col h d)) m := by
  rw [val_main_v57_apply, val_main_v56_apply, v36_at, val_main_v55_apply, val_main_v54_apply, val_main_v44_apply, val_main_v43_apply]
  refine congrArg (fun a => Ideal.exp (score _ _ m - a)) (Eq.trans ?_ (v37_at x0 x1 x3 x4 x5 x6 h s))
  rw [val_main_cst_9_apply, show idx_main_v54 (idx_main_v55 (ix3 h s m)) = ix2 h s by blk_ext]
  show max (Ideal.ofBits .f32 0xFF800000#32) _ = _
  rw [bot_eq, max_eq_right bot_le]
theorem v58_at : val_main_v58 (F := Ideal) x0 x1 x3 x4 x5 x6 (ix2 h s) = ∑ m, ex (fun d => hq x0 x3 x5 s (col h d)) (fun m d => ke x1 x4 x6 m (col h d)) m := by
  refine (val_main_v58_apply _ _ _ _ _ _ _).trans ((congrArg (fun a => a + _) Ideal.ofBits_zero_f32).trans ((zero_add _).trans ?_))
  exact Finset.sum_congr rfl fun m _ => (congrArg _ (by blk_ext)).trans (v57_at x0 x1 x3 x4 x5 x6 h s m)
theorem v59_at (i : S4x8192x1.Idx) : val_main_v59 (F := Ideal) x0 x1 x3 x4 x5 x6 i = ∑ m, ex (fun d => hq x0 x3 x5 (i 1) (col (i 0) d)) (fun m d => ke x1 x4 x6 m (col (i 0) d)) m := by
  rw [val_main_v59_apply]
  exact (congrArg _ (by blk_ext)).trans (v58_at x0 x1 x3 x4 x5 x6 (i 0) (i 1))
theorem v61_at : val_main_v61 (F := Ideal) x0 x1 x3 x4 x5 x6 (ix3 h s m) = pS (hq x0 x3 x5 s) (ke x1 x4 x6) h m := by
  rw [val_main_v61_apply, v57_at, val_main_v60_apply, v59_at]
  rfl
theorem v71_at (d : Fin 256) : val_main_v71 (F := Ideal) x2 x7 (ix3 h d s) = da x2 x7 s (col h d) := by
  rw [val_main_v71_apply, val_main_v70_apply, val_main_v69_apply]
  exact Finset.sum_congr rfl fun l _ => Ideal.mul_congr (congrArg _ (by blk_ext)) (congrArg _ (by blk_ext))
theorem v72_at : val_main_v72 (F := Ideal) x1 x2 x4 x6 x7 (ix3 h s m) = dotp (fun d => da x2 x7 s (col h d)) (fun m d => va x1 x4 x6 m (col h d)) m := by
  refine (val_main_v72_apply _ _ _ _ _ _).trans (Finset.sum_congr rfl fun d _ => Ideal.mul_congr ((congrArg _ (by blk_ext)).trans (v71_at x2 x7 h s d)) ?_)
  rw [val_main_v33_apply]; exact congrArg _ (by blk_ext)
theorem v78_at : val_main_v78 (F := Ideal) x0 x1 x2 x3 x4 x5 x6 x7 (ix2 h s) = ∑ n, dotp (fun d => da x2 x7 s (col h d)) (fun m d => va x1 x4 x6 m (col h d)) n
    * Ideal.div 1 ((∑ n, ex (fun d => hq x0 x3 x5 s (col h d)) (fun m d => ke x1 x4 x6 m (col h d)) n) * (∑ n, ex (fun d => hq x0 x3 x5 s (col h d)) (fun m d => ke x1 x4 x6 m (col h d)) n)) * ex (fun d => hq x0 x3 x5 s (col h d)) (fun m d => ke x1 x4 x6 m (col h d)) n := by
  refine (val_main_v78_apply _ _ _ _ _ _ _ _ _).trans ((congrArg (fun a => a + _) Ideal.ofBits_zero_f32).trans ((zero_add _).trans ?_))
  refine Finset.sum_congr rfl fun n _ => ?_
  rw [show idx_main_v78 (ix2 h s) n = ix3 h s n by blk_ext, val_main_v77_apply, val_main_v76_apply, v72_at, v57_at,
    val_main_v75_apply, val_main_v64_apply, val_main_v63_apply, val_main_v62_apply, v59_at, val_main_cst_16_apply]
  show _ * Ideal.div (Ideal.ofBits .f32 0x3F800000#32) _ * _ = _
  rw [one_eq]
  rfl
theorem v88_ref : val_main_v88 (F := Ideal) x0 x1 x2 x3 x4 x5 x6 x7 (ix3 h s m) = dsRef (fun d => hq x0 x3 x5 s (col h d)) (fun d => da x2 x7 s (col h d)) (fun m d => ke x1 x4 x6 m (col h d)) (fun m d => va x1 x4 x6 m (col h d)) m := by
  rw [val_main_v88_apply, val_main_v86_apply, val_main_v85_apply, val_main_v82_apply, val_main_v81_apply, v59_at, v57_at, v72_at, val_main_v84_apply, val_main_v83_apply, Fin.sum_univ_one, val_main_v80_apply, val_main_v79_apply]
  refine congrArg (fun a => Ideal.div ((Ideal.div _ _ + a) * _) d16) ?_
  refine (congrArg (fun a => a + _) Ideal.ofBits_zero_f32).trans ((zero_add _).trans (congrArg (fun a : EReal => -a) ((congrArg _ (by blk_ext)).trans (v78_at x0 x1 x2 x3 x4 x5 x6 x7 h s))))

/-- The arrays the gradient's rule divides, or factors out of sums, hold real numbers. -/
structure Reals : Prop where
  q : ∀ s j, IsReal (hq x0 x3 x5 s j)
  k : ∀ m j, IsReal (ke x1 x4 x6 m j)
  v : ∀ m j, IsReal (va x1 x4 x6 m j)
  a : ∀ s j, IsReal (da x2 x7 s j)

variable {x0 x1 x2 x3 x4 x5 x6 x7} (R : Reals x0 x1 x2 x3 x4 x5 x6 x7)
include R
theorem v88_at : val_main_v88 (F := Ideal) x0 x1 x2 x3 x4 x5 x6 x7 (ix3 h s m) = dS (hq x0 x3 x5 s) (da x2 x7 s) (ke x1 x4 x6) (va x1 x4 x6) h m :=
  (v88_ref x0 x1 x2 x3 x4 x5 x6 x7 h s m).trans (ds_eq (fun d => R.q s _) (fun m d => R.k m _) (fun d => R.a s _) (fun m d => R.v m _) m)
theorem v95_at (j : Fin 1024) : val_main_v95 (F := Ideal) x0 x1 x2 x3 x4 x5 x6 x7 (ix2 s j) = dqRow x2 (val_main_v28 (F := Ideal) x0 x3 x5) (val_main_v29 (F := Ideal) x1 x4 x6) (val_main_v30 (F := Ideal) x1 x4 x6) x7 s j := by
  rw [val_main_v95_apply, val_main_v92_apply, show idx_main_v92 (idx_main_v95 (ix2 s j)) = ix3 (hd j) s ⟨j.val % 256, Nat.mod_lt _ (by norm_num)⟩ by blk_ext, val_main_v91_apply]
  refine Eq.trans ?_ (show ∑ m, dS (hq x0 x3 x5 s) (da x2 x7 s) (ke x1 x4 x6) (va x1 x4 x6) (hd j) m * ke x1 x4 x6 m j = _ from rfl)
  refine Finset.sum_congr rfl fun m _ => ?_
  rw [show lidx_main_v91 (ix3 (hd j) s ⟨j.val % 256, Nat.mod_lt _ (by norm_num)⟩) m = ix3 (hd j) s m by blk_ext, v88_at _ _ _ R, val_main_v32_apply]
  exact Ideal.mul_congr rfl (congrArg _ (by blk_ext))
theorem v94_at (j : Fin 1024) : val_main_v94 (F := Ideal) x0 x1 x2 x3 x4 x5 x6 x7 (ix2 m j) = ∑ s, dS (hq x0 x3 x5 s) (da x2 x7 s) (ke x1 x4 x6) (va x1 x4 x6) (hd j) m * hq x0 x3 x5 s j := by
  rw [val_main_v94_apply, val_main_v90_apply, show idx_main_v90 (idx_main_v94 (ix2 m j)) = ix3 (hd j) m ⟨j.val % 256, Nat.mod_lt _ (by norm_num)⟩ by blk_ext, val_main_v89_apply]
  refine Finset.sum_congr rfl fun s _ => ?_
  rw [show lidx_main_v89 (ix3 (hd j) m ⟨j.val % 256, Nat.mod_lt _ (by norm_num)⟩) s = ix3 (hd j) s m by blk_ext, v88_at _ _ _ R, val_main_v31_apply]
  exact Ideal.mul_congr rfl (congrArg _ (by blk_ext))
omit R in
theorem v93_at (j : Fin 1024) : val_main_v93 (F := Ideal) x0 x1 x2 x3 x4 x5 x6 x7 (ix2 m j) = ∑ s, pS (hq x0 x3 x5 s) (ke x1 x4 x6) (hd j) m * da x2 x7 s j := by
  rw [val_main_v93_apply, val_main_v74_apply, show idx_main_v74 (idx_main_v93 (ix2 m j)) = ix3 (hd j) ⟨j.val % 256, Nat.mod_lt _ (by norm_num)⟩ m by blk_ext, val_main_v73_apply]
  refine Finset.sum_congr rfl fun s _ => ?_
  rw [show lidx_main_v73 (ix3 (hd j) ⟨j.val % 256, Nat.mod_lt _ (by norm_num)⟩ m) s = ix3 (hd j) ⟨j.val % 256, Nat.mod_lt _ (by norm_num)⟩ s by blk_ext, v71_at,
    show ridx_main_v73 (ix3 (hd j) ⟨j.val % 256, Nat.mod_lt _ (by norm_num)⟩ m) s = ix3 (hd j) s m by blk_ext, v61_at, mul_comm, show col (hd j) ⟨j.val % 256, Nat.mod_lt _ (by norm_num)⟩ = j from Fin.ext (by show j.val / 256 * 256 + j.val % 256 = j.val; omega)]
theorem v96_at (i : S256x2048.Idx) : val_main_v96 (F := Ideal) x0 x1 x2 x3 x4 x5 x6 x7 i = kvSum x2 (val_main_v28 (F := Ideal) x0 x3 x5) (val_main_v29 (F := Ideal) x1 x4 x6) (val_main_v30 (F := Ideal) x1 x4 x6) x7 (i 0) (i 1) := by
  have h4 := fun j h => v94_at (i 0) R ⟨j, h⟩
  have h3 := fun j h => v93_at (x0 := x0) (x1 := x1) (x2 := x2) (x3 := x3) (x4 := x4) (x5 := x5) (x6 := x6) (x7 := x7) (i 0) ⟨j, h⟩
  pointwise [val_main_v96]
  unfold kvSum kvRow
  by_cases h : (i 1).val < 1024
  · simp only [dif_pos h]; exact h4 _ h
  · simp only [dif_neg h]; exact h3 _ _
theorem v97_at (j : Fin 1024) : val_main_v97 (F := Ideal) x0 x1 x2 x3 x4 x5 x6 x7 (ix2 s j) = back (dqRow x2 (val_main_v28 (F := Ideal) x0 x3 x5) (val_main_v29 (F := Ideal) x1 x4 x6) (val_main_v30 (F := Ideal) x1 x4 x6) x7 s) x5 j := by
  rw [val_main_v97_apply]
  refine Finset.sum_congr rfl fun l _ => Ideal.mul_congr ?_ (congrArg _ (by blk_ext))
  exact (congrArg _ (by blk_ext)).trans (v95_at s R l)
omit R in
theorem v19_at (i : S8192x1.Idx) : val_main_v19 (F := Ideal) x0 i = msq c1024 (rows x0 (i 0)) := by
  rw [val_main_v19_apply, val_main_v17_apply, val_main_v15_apply, val_main_v14_apply, msq]
  refine congrArg (fun a => Ideal.div a c1024 + eps) ((congrArg (fun a => a + _) Ideal.ofBits_zero_f32).trans ((zero_add _).trans ?_))
  refine Finset.sum_congr rfl fun k _ => ?_
  rw [val_main_v13_apply, show idx_main_v14 (idx_main_v15 i) k = ix2 (i 0) k by blk_ext]
  rfl
omit R in
theorem v20_at (i : S8192x1.Idx) : val_main_v20 (F := Ideal) x0 i = rinv c1024 (rows x0 (i 0)) := by
  rw [val_main_v20_apply, v19_at]
  rfl
theorem v98_at (j : Fin 1024) : val_main_v98 (F := Ideal) x0 x1 x2 x3 x4 x5 x6 x7 (ix2 s j) = dgRow (rows x0 s) (dqRow x2 (val_main_v28 (F := Ideal) x0 x3 x5) (val_main_v29 (F := Ideal) x1 x4 x6) (val_main_v30 (F := Ideal) x1 x4 x6) x7 s) x5 j := by
  rw [val_main_v98_apply, v97_at _ R, val_main_v25_apply, val_main_v24_apply, v20_at]
  exact mul_comm _ _
theorem v123_at (i : S8x1024.Idx) : val_main_v123 (F := Ideal) x0 x1 x2 x3 x4 x5 x6 x7 i = dgSum x0 x2 (val_main_v28 (F := Ideal) x0 x3 x5) (val_main_v29 (F := Ideal) x1 x4 x6) (val_main_v30 (F := Ideal) x1 x4 x6) x7 x5 (i 1) := by
  rw [val_main_v123_apply, val_main_v100_apply, val_main_v99_apply]
  refine (congrArg (fun a => a + _) Ideal.ofBits_zero_f32).trans ((zero_add _).trans (Finset.sum_congr rfl fun s _ => ?_))
  exact (congrArg _ (by blk_ext)).trans (v98_at s R (i 1))
theorem v102_at (j : Fin 1024) : val_main_v102 (F := Ideal) x0 x1 x2 x3 x4 x5 x6 x7 (ix2 s j) = back (dqRow x2 (val_main_v28 (F := Ideal) x0 x3 x5) (val_main_v29 (F := Ideal) x1 x4 x6) (val_main_v30 (F := Ideal) x1 x4 x6) x7 s) x5 j * x3 (ix2 0 j) := by
  rw [val_main_v102_apply, v97_at _ R, val_main_v101_apply, show idx_main_v101 (ix2 s j) = ix2 0 j by blk_ext]
  rfl
theorem v111_at : val_main_v111 (F := Ideal) x0 x1 x2 x3 x4 x5 x6 x7 (ix1 s) = dmsq c1024 (rows x0 s) (fun j => back (dqRow x2 (val_main_v28 (F := Ideal) x0 x3 x5) (val_main_v29 (F := Ideal) x1 x4 x6) (val_main_v30 (F := Ideal) x1 x4 x6) x7 s) x5 j * x3 (ix2 0 j)) := by
  rw [val_main_v111_apply, Fin.sum_univ_one, val_main_v110_apply, val_main_v108_apply, val_main_v105_apply, val_main_v104_apply, val_main_v23_apply, val_main_v21_apply, v20_at, v19_at]
  refine (congrArg (fun a => a + _) Ideal.ofBits_zero_f32).trans ((zero_add _).trans ?_)
  refine congrArg (fun a => Ideal.div (a * _) c1024) ((congrArg (fun a => a + _) Ideal.ofBits_zero_f32).trans ((zero_add _).trans ?_))
  refine Finset.sum_congr rfl fun k _ => ?_
  rw [show idx_main_v104 (idx_main_v105 (idx_main_v111 (ix1 s) 0)) k = ix2 s k by blk_ext, val_main_v103_apply, v102_at _ R]
  rfl
theorem v117_at (hx : ∀ i, IsReal (x0 i)) (hu : ∀ s j, IsReal (back (dqRow x2 (val_main_v28 (F := Ideal) x0 x3 x5) (val_main_v29 (F := Ideal) x1 x4 x6) (val_main_v30 (F := Ideal) x1 x4 x6) x7 s) x5 j * x3 (ix2 0 j))) (j : Fin 1024) :
    val_main_v117 (F := Ideal) x0 x1 x2 x3 x4 x5 x6 x7 (ix2 s j) = dx1Row x0 x2 (val_main_v28 (F := Ideal) x0 x3 x5) (val_main_v29 (F := Ideal) x1 x4 x6) (val_main_v30 (F := Ideal) x1 x4 x6) x7 x5 x3 s j := by
  unfold dx1Row dx1
  rw [← dnorm_eq (N := 1024) (by norm_num) c1024_eq (fun k => hx _) (hu s), val_main_v117_apply, val_main_v116_apply, val_main_v114_apply, val_main_v115_apply, val_main_v113_apply, val_main_v107_apply, v102_at _ R, val_main_v106_apply, v20_at,
    val_main_v112_apply, show idx_main_v112 (ix2 s j) = ix1 s by blk_ext, v111_at _ R]
  rfl

end Cert.AttnRefIdeal.Read

end
-- ==== Proof.Attn.Inputs.lean ====
module

public import proofs.«01_k».proof.Proof.Attn.Ref
public import proofs.«01_k».proof.Pre_attn_finite

@[expose] public section

set_option maxRecDepth 16384

noncomputable section

open Idealize.ShloMosaic Idealize.ShloMosaic.TcCoe Idealize.SL.Sem

namespace Cert.AttnRefIdeal.Read
open Norm Attn
variable (x0 : FVec Ideal S8192x1024 .f32) (x1 : FVec Ideal S256x1024 .f32) (x2 : FVec Ideal S8192x1024 .f32) (x3 x4 : FVec Ideal S1x1024 .f32)
  (x5 : FVec Ideal S1024x1024 .f32) (x6 : FVec Ideal S1024x2048 .f32) (x7 x8 : FVec Ideal S1024x1024 .f32)

theorem v6_at (i : S256x1.Idx) : val_main_v6 (F := Ideal) x1 i = msq c1024 (rows x1 (i 0)) := by
  rw [val_main_v6_apply, val_main_v4_apply, val_main_v2_apply, val_main_v1_apply, msq]
  refine congrArg (fun a => Ideal.div a c1024 + eps) ((congrArg (fun a => a + _) Ideal.ofBits_zero_f32).trans ((zero_add _).trans ?_))
  refine Finset.sum_congr rfl fun k _ => ?_
  rw [val_main_v0_apply, show idx_main_v1 (idx_main_v2 i) k = ix2 (i 0) k by blk_ext]
  rfl

/-- Every argument array but the last holds real numbers. -/
structure Finite : Prop where
  x : ∀ i, IsReal (x0 i)
  mem : ∀ i, IsReal (x1 i)
  dx2 : ∀ i, IsReal (x2 i)
  xa : ∀ i, IsReal (x3 i)
  mn : ∀ i, IsReal (x4 i)
  wq : ∀ i, IsReal (x5 i)
  wkv : ∀ i, IsReal (x6 i)
  wo : ∀ i, IsReal (x7 i)

variable {x0 x1 x2 x3 x4 x5 x6 x7} (H : Finite x0 x1 x2 x3 x4 x5 x6 x7)
include H

theorem kv_real (i : S256x2048.Idx) : IsReal (val_main_v12 (F := Ideal) x1 x4 x6 i) := by
  rw [val_main_v12_apply]
  refine IsReal.sum _ fun k => IsReal.mul ?_ (H.wkv _)
  rw [val_main_v11_apply, val_main_v9_apply, val_main_v8_apply, val_main_v7_apply, v6_at, val_main_v10_apply]
  exact ((H.mem _).mul (rinv_real (by norm_num) c1024_eq fun k => H.mem _)).mul (H.mn _)

theorem reals : Reals x0 x1 x2 x3 x4 x5 x6 x7 where
  q s j := by
    show IsReal (val_main_v28 (F := Ideal) x0 x3 x5 (ix2 s j))
    rw [val_main_v28_apply]
    refine IsReal.sum _ fun k => IsReal.mul ?_ (H.wq _)
    rw [val_main_v27_apply, val_main_v25_apply, val_main_v24_apply, v20_at, val_main_v26_apply]
    exact ((H.x _).mul (rinv_real (by norm_num) c1024_eq fun k => H.x _)).mul (H.xa _)
  k m j := by
    show IsReal (val_main_v29 (F := Ideal) x1 x4 x6 (ix2 m j))
    rw [val_main_v29_apply]; exact kv_real H _
  v m j := by
    show IsReal (val_main_v30 (F := Ideal) x1 x4 x6 (ix2 m j))
    rw [val_main_v30_apply]; exact kv_real H _
  a s j := IsReal.sum _ fun l => (H.dx2 _).mul (H.wo _)

theorem u_real (s : Fin 8192) (j : Fin 1024) : IsReal (back (dqRow x2 (val_main_v28 (F := Ideal) x0 x3 x5) (val_main_v29 (F := Ideal) x1 x4 x6) (val_main_v30 (F := Ideal) x1 x4 x6) x7 s) x5 j * x3 (ix2 0 j)) := by
  have R := reals H
  refine (IsReal.sum _ fun l => IsReal.mul ?_ (H.wq _)).mul (H.xa _)
  unfold dqRow dQ
  exact IsReal.sum _ (f := fun m => dS (hq x0 x3 x5 s) (da x2 x7 s) (ke x1 x4 x6) (va x1 x4 x6) (hd l) m * ke x1 x4 x6 m l) fun m =>
    (ds_real (fun d => R.q s _) (fun m d => R.k m _) (fun d => R.a s _) (fun m d => R.v m _) m).mul (R.k m l)

end Cert.AttnRefIdeal.Read

namespace Cert.AttnBwdIdeal.Hand
open Cert.AttnBwdIdeal Cert.AttnBwdIdeal.Gen Norm Attn

variable (m : (ℓ : Loc nD τ sig) → Buf (Elt Ideal) ℓ) (c : Dev nD)

/-! What the prologue hands the kernel call. -/

theorem Bb_eq : Bb m c = (m ((c : Thread nD τ).loc main_arg2)) := by
  show StableHlo.after hostOps0 (fun b => m (c, b)) (Proc.devRef .tc main_v28) = _
  after_results
  rfl
theorem Q_eq : Q m c = Cert.AttnRefIdeal.Read.val_main_v28 (F := Ideal) (m ((c : Thread nD τ).loc main_arg0)) (m ((c : Thread nD τ).loc main_arg3)) (m ((c : Thread nD τ).loc main_arg5)) := by
  show StableHlo.after hostOps0 (fun b => m (c, b)) (Proc.devRef .tc main_v13) = _
  after_results
  rfl
theorem K_eq : K m c = Cert.AttnRefIdeal.Read.val_main_v29 (F := Ideal) (m ((c : Thread nD τ).loc main_arg1)) (m ((c : Thread nD τ).loc main_arg4)) (m ((c : Thread nD τ).loc main_arg6)) := by
  show StableHlo.after hostOps0 (fun b => m (c, b)) (Proc.devRef .tc main_v29) = _
  after_results
  rfl
theorem U_eq : U m c = Cert.AttnRefIdeal.Read.val_main_v30 (F := Ideal) (m ((c : Thread nD τ).loc main_arg1)) (m ((c : Thread nD τ).loc main_arg4)) (m ((c : Thread nD τ).loc main_arg6)) := by
  show StableHlo.after hostOps0 (fun b => m (c, b)) (Proc.devRef .tc main_v30) = _
  after_results
  rfl
theorem Wx_eq : Wx m c = (m ((c : Thread nD τ).loc main_arg7)) := by
  show StableHlo.after hostOps0 (fun b => m (c, b)) (Proc.devRef .tc main_v31) = _
  after_results
  rfl
theorem Wq_eq : Wq m c = (m ((c : Thread nD τ).loc main_arg5)) := by
  show StableHlo.after hostOps0 (fun b => m (c, b)) (Proc.devRef .tc main_v32) = _
  after_results
  rfl
theorem Wo_eq : Wo m c = (m ((c : Thread nD τ).loc main_arg8)) := by
  show StableHlo.after hostOps0 (fun b => m (c, b)) (Proc.devRef .tc main_v33) = _
  after_results
  rfl

end Cert.AttnBwdIdeal.Hand

end
-- ==== Proof.Attn.Value.lean ====
module

public import proofs.«01_k».proof.Proof.Attn.Inputs

/-! # What the attention's backward program leaves in its six results -/

@[expose] public section

set_option maxRecDepth 16384

noncomputable section

open Idealize.ShloMosaic Idealize.ShloMosaic.TcCoe Idealize.SL.Sem
open Idealize.ShloMosaic.Pipeline (Dat)

namespace Cert.AttnBwdIdeal.Hand
open Cert.AttnBwdIdeal Cert.AttnBwdIdeal.Gen Norm Attn
open Cert.AttnRefIdeal.Read

variable (m : (ℓ : Loc nD τ sig) → Buf (Elt Ideal) ℓ) (c : Dev nD)
  (H : Cert.AttnRefIdeal.Read.Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
include H

theorem dx1_row_eq (s : Fin 8192) (j : Fin 1024) : dx1Row (X m c) (Bb m c) (Q m c) (K m c) (U m c) (Wx m c) (Wq m c) (G m c) s j = Cert.AttnRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 s j) := by
  rw [v117_at s (reals H) H.x (u_real H), Bb_eq, Q_eq, K_eq, U_eq, Wx_eq, Wq_eq, show X m c = _ from V_main_arg0 m c, show G m c = _ from V_main_arg3 m c]
theorem dx1_eq : (dats m 0 c).arrAt 10 cfg0.N = Cert.AttnRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dx1_final m c).trans (funext fun i => (dx1_row_eq m c H (i 0) (i 1)).trans (congrArg _ (by blk_ext)))
theorem dx1b_eq : (dats m 0 c).arrAt 11 cfg0.N = Cert.AttnRefIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dx1b_final m c).trans (funext fun i => (dx1_row_eq m c H (i 0) (i 1)).trans (congrArg _ (by blk_ext)))
theorem dy_eq : (dats m 0 c).arrAt 12 cfg0.N = Cert.AttnRefIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dy_final m c).trans (funext fun i => ?_)
  rw [val_main_v120_apply]
  refine Finset.sum_congr rfl fun l _ => Ideal.mul_congr ((dx1_row_eq m c H (i 0) l).trans (congrArg _ (by blk_ext))) ?_
  rw [Wo_eq]; exact congrArg _ (by blk_ext)
theorem dq_eq : (dats m 0 c).arrAt 13 cfg0.N = Cert.AttnRefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dq_final m c).trans (funext fun i => ?_)
  rw [Bb_eq, Q_eq, K_eq, U_eq, Wx_eq]
  exact (v95_at (i 0) (reals H) (i 1)).symm.trans (congrArg _ (by blk_ext))
theorem dkv_eq : (dats m 0 c).arrAt 14 cfg0.N = Cert.AttnRefIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dkv_final m c).trans (funext fun i => ?_)
  rw [Bb_eq, Q_eq, K_eq, U_eq, Wx_eq]
  exact (v96_at (reals H) i).symm
theorem dg_eq : (dats m 0 c).arrAt 15 cfg0.N = Cert.AttnRefIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dg_final m c).trans (funext fun i => ?_)
  rw [Bb_eq, Q_eq, K_eq, U_eq, Wx_eq, Wq_eq, show X m c = _ from V_main_arg0 m c]
  exact (v123_at (reals H) i).symm

end Cert.AttnBwdIdeal.Hand

end
-- ==== Proof.Attn.Claims.lean ====
module

public import proofs.«01_k».proof.Defs
public import proofs.«01_k».proof.Proof.Gen.AttnBwd
public import proofs.«01_k».proof.Proof.Gen.AttnRefIdeal.Run
public import proofs.«01_k».proof.Proof.Attn.Value
public import Idealize.ShloMosaic.Lib.Quiescent

/-! # The cross-attention's backward call: its claims -/

@[expose] public section

set_option maxRecDepth 16384

noncomputable section

open Idealize.ShloMosaic Idealize.ShloMosaic.TcCoe Idealize.SL.Sem

namespace Cert.Proof.Attn

instance : Cert.AttnBwd.Facts := Cert.AttnBwd.Gen.facts
instance : Cert.AttnBwdIdeal.Facts := Cert.AttnBwdIdeal.Gen.facts
instance : Cert.AttnRefIdeal.Facts := Cert.AttnRefIdeal.Gen.facts
instance finite_facts : Cert.Pre_attn_finite.Facts := ⟨by decide, by decide, by decide, by decide, by decide⟩

theorem frame_ideal : Cert.quiescent_AttnBwdIdeal := fun m ρ _ => Cert.AttnBwdIdeal.Gen.frame m ρ

theorem frame_ideal_finite : Cert.quiescent_AttnBwdIdeal_pre_attn_finite := fun m ρ _ => Cert.AttnBwdIdeal.Gen.frame m ρ

/-- The bit-level program has the same text, so the same run gives its frame. -/
theorem frame_kernel : Cert.quiescent_AttnBwd := by
  have h : ∀ (m : (ℓ : Loc Cert.AttnBwdIdeal.nD Cert.AttnBwdIdeal.τ Cert.AttnBwdIdeal.sig) → Buf (Elt Bits) ℓ) (ρ : Dev Cert.AttnBwdIdeal.nD → PrngReg), True → _ :=
    fun m ρ _ => Cert.AttnBwdIdeal.Gen.frame (F := Bits) m ρ
  exact cast (by sl_kernel_rfl) h

theorem frame_reference : Cert.quiescent_AttnRefIdeal := fun m ρ _ =>
  (θ_run _ _ _).mono (fun r h => ⟨fun c => (h c).2.2.2.2.2.2, sem_eq_zero_of_no_sems (by decide) r.2⟩) (Cert.AttnRefIdeal.Value.run m ρ)

theorem frame_reference_finite : Cert.quiescent_AttnRefIdeal_pre_attn_finite := fun m ρ _ => frame_reference m ρ trivial

/-- The precondition says of each of the first eight arguments that it holds real numbers. -/
theorem finite_of_pre (m : (ℓ : Loc Cert.AttnBwdIdeal.nD Cert.AttnBwdIdeal.τ Cert.AttnBwdIdeal.sig) → Buf (Elt Ideal) ℓ)
    (h : Cert.Pre_AttnBwdIdeal_attn_finite m) (c : Dev Cert.AttnBwdIdeal.nD) :
    Cert.AttnRefIdeal.Read.Finite (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7)) where
  x i := Norm.IsReal.of_abs (congrFun (h c).1 i)
  mem i := Norm.IsReal.of_abs (congrFun (h c).2.1 i)
  dx2 i := Norm.IsReal.of_abs (congrFun (h c).2.2.1 i)
  xa i := Norm.IsReal.of_abs (congrFun (h c).2.2.2.1 i)
  mn i := Norm.IsReal.of_abs (congrFun (h c).2.2.2.2.1 i)
  wq i := Norm.IsReal.of_abs (congrFun (h c).2.2.2.2.2.1 i)
  wkv i := Norm.IsReal.of_abs (congrFun (h c).2.2.2.2.2.2.1 i)
  wo i := Norm.IsReal.of_abs (congrFun (h c).2.2.2.2.2.2.2 i)

set_option maxHeartbeats 1000000 in
theorem value : Cert.algebraic_AttnBwdIdeal_AttnRefIdeal_pre_attn_finite := fun m ρ m' ρ' hf hag =>
  ⟨fun c => (Cert.AttnBwdIdeal.Gen.dats m 0 c).arrAt 10 Cert.AttnBwdIdeal.cfg0.N, fun c => (Cert.AttnBwdIdeal.Gen.dats m 0 c).arrAt 11 Cert.AttnBwdIdeal.cfg0.N, fun c => (Cert.AttnBwdIdeal.Gen.dats m 0 c).arrAt 12 Cert.AttnBwdIdeal.cfg0.N, fun c => (Cert.AttnBwdIdeal.Gen.dats m 0 c).arrAt 13 Cert.AttnBwdIdeal.cfg0.N, fun c => (Cert.AttnBwdIdeal.Gen.dats m 0 c).arrAt 14 Cert.AttnBwdIdeal.cfg0.N, fun c => (Cert.AttnBwdIdeal.Gen.dats m 0 c).arrAt 15 Cert.AttnBwdIdeal.cfg0.N,
    Cert.AttnBwdIdeal.Value.run_blocks m ρ,
    (θ_run _ _ _).mono (fun _ h c => by
      obtain ⟨h0, h1, h2, h3, h4, h5, h6, h7, h8⟩ := hag c
      have H := finite_of_pre m hf c
      refine ⟨((h c).1.trans (Cert.AttnRefIdeal.Read.val_main_v117_eq _ _)).trans ?_,
        ((h c).2.1.trans (Cert.AttnRefIdeal.Read.val_main_v121_eq _ _)).trans ?_,
        ((h c).2.2.1.trans (Cert.AttnRefIdeal.Read.val_main_v120_eq _ _)).trans ?_,
        ((h c).2.2.2.1.trans (Cert.AttnRefIdeal.Read.val_main_v122_eq _ _)).trans ?_,
        ((h c).2.2.2.2.1.trans (Cert.AttnRefIdeal.Read.val_main_v96_eq _ _)).trans ?_,
        ((h c).2.2.2.2.2.1.trans (Cert.AttnRefIdeal.Read.val_main_v123_eq _ _)).trans ?_, (h c).2.2.2.2.2.2⟩
      · rw [h0, h1, h2, h3, h4, h5, h6, h7]; exact (Cert.AttnBwdIdeal.Hand.dx1_eq m c H).symm
      · rw [h0, h1, h2, h3, h4, h5, h6, h7]; exact (Cert.AttnBwdIdeal.Hand.dx1b_eq m c H).symm
      · rw [h0, h1, h2, h3, h4, h5, h6, h7, h8]; exact (Cert.AttnBwdIdeal.Hand.dy_eq m c H).symm
      · rw [h0, h1, h2, h3, h4, h5, h6, h7]; exact (Cert.AttnBwdIdeal.Hand.dq_eq m c H).symm
      · rw [h0, h1, h2, h3, h4, h5, h6, h7]; exact (Cert.AttnBwdIdeal.Hand.dkv_eq m c H).symm
      · rw [h0, h1, h2, h3, h4, h5, h6, h7]; exact (Cert.AttnBwdIdeal.Hand.dg_eq m c H).symm) (Cert.AttnRefIdeal.Value.run m' ρ')⟩

end Cert.Proof.Attn

end
-- ==== Proof.Shared.Hidden.lean ====
module

public import proofs.«01_k».proof.Proof.Shared.Norm

@[expose] public section

set_option maxRecDepth 16384

noncomputable section

open Idealize.ShloMosaic Idealize.ShloMosaic.TcCoe Idealize.SL.Sem
open Idealize.ShloMosaic.Pipeline (Dat)

namespace Norm

/-- The rectified hidden value and its square. -/
def relu (h : EReal) : EReal := max h 0
def square (h : EReal) : EReal := relu h * relu h
/-- A row's product with a matrix. -/
def mulN {n k : Nat} (D : Fin n → EReal) (W : (⟨2, ![n, k]⟩ : Shape).Idx → EReal) (i : Fin k) : EReal := ∑ l, D l * W (ix2 l i)

end Norm

end
-- ==== Proof.Mlp.Blocks.lean ====
module

public import proofs.«01_k».proof.Proof.Gen.MlpBwdIdeal.Value
public import proofs.«01_k».proof.Proof.Shared.Hidden

/-! # The gated block's backward call: what a grid point stores -/

@[expose] public section

set_option maxRecDepth 16384

noncomputable section

open Idealize.ShloMosaic Idealize.ShloMosaic.TcCoe Idealize.SL.Sem
open Idealize.ShloMosaic.Pipeline (Dat)

namespace Mlp
open Norm

/-- The hidden gradient from that of the rectified value's square. -/
def dSq (d h : EReal) : EReal := d * Ideal.ofBits .f32 0x40000000#32 * relu h
end Mlp

namespace Cert.MlpBwdIdeal.Hand
open Cert.MlpBwdIdeal Cert.MlpBwdIdeal.Gen Norm Mlp

section Pieces
variable (h : FVec Ideal S256x4096 .bf16) (d : FVec Ideal S256x1024 .bf16) (w : FVec Ideal S4096x1024 .bf16)

/-- The hidden gradient of a block, as the body stores it: eight column pieces. -/
abbrev dhPieces : List (View.Piece (Elt Ideal) S256x4096 .bf16) :=
  [⟨Rect.unit (s := S256x4096) ![0, 3584] ![256, 512] inb_S256x4096_S256x512_0_3584, k0_pay30 (F := Ideal) (View.ld h (Rect.unit (s := S256x4096) ![0, 3584] ![256, 512] inb_S256x4096_S256x512_0_3584)) d (View.ld w (Rect.unit (s := S4096x1024) ![3584, 0] ![512, 1024] inb_S4096x1024_S512x1024_3584_0))⟩,
   ⟨Rect.unit (s := S256x4096) ![0, 3072] ![256, 512] inb_S256x4096_S256x512_0_3072, k0_pay27 (F := Ideal) (View.ld h (Rect.unit (s := S256x4096) ![0, 3072] ![256, 512] inb_S256x4096_S256x512_0_3072)) d (View.ld w (Rect.unit (s := S4096x1024) ![3072, 0] ![512, 1024] inb_S4096x1024_S512x1024_3072_0))⟩,
   ⟨Rect.unit (s := S256x4096) ![0, 2560] ![256, 512] inb_S256x4096_S256x512_0_2560, k0_pay24 (F := Ideal) (k0_pay22 (View.ld h (Rect.unit (s := S256x4096) ![0, 2560] ![256, 512] inb_S256x4096_S256x512_0_2560))) d (View.ld w (Rect.unit (s := S4096x1024) ![2560, 0] ![512, 1024] inb_S4096x1024_S512x1024_2560_0))⟩,
   ⟨Rect.unit (s := S256x4096) ![0, 2048] ![256, 512] inb_S256x4096_S256x512_0_2048, k0_pay21 (F := Ideal) (View.ld h (Rect.unit (s := S256x4096) ![0, 2048] ![256, 512] inb_S256x4096_S256x512_0_2048)) d (View.ld w (Rect.unit (s := S4096x1024) ![2048, 0] ![512, 1024] inb_S4096x1024_S512x1024_2048_0))⟩,
   ⟨Rect.unit (s := S256x4096) ![0, 1536] ![256, 512] inb_S256x4096_S256x512_0_1536, k0_pay18 (F := Ideal) (k0_pay15 (View.ld h (Rect.unit (s := S256x4096) ![0, 1536] ![256, 512] inb_S256x4096_S256x512_0_1536))) (k0_pay16 d) (View.ld w (Rect.unit (s := S4096x1024) ![1536, 0] ![512, 1024] inb_S4096x1024_S512x1024_1536_0))⟩,
   ⟨Rect.unit (s := S256x4096) ![0, 1024] ![256, 512] inb_S256x4096_S256x512_0_1024, k0_pay14 (F := Ideal) (View.ld h (Rect.unit (s := S256x4096) ![0, 1024] ![256, 512] inb_S256x4096_S256x512_0_1024)) d (View.ld w (Rect.unit (s := S4096x1024) ![1024, 0] ![512, 1024] inb_S4096x1024_S512x1024_1024_0))⟩,
   ⟨Rect.unit (s := S256x4096) ![0, 512] ![256, 512] inb_S256x4096_S256x512_0_512, k0_pay11 (F := Ideal) (k0_pay8 (View.ld h (Rect.unit (s := S256x4096) ![0, 512] ![256, 512] inb_S256x4096_S256x512_0_512))) (k0_pay9 d (View.ld w (Rect.unit (s := S4096x1024) ![512, 0] ![512, 1024] inb_S4096x1024_S512x1024_512_0)))⟩,
   ⟨Rect.unit (s := S256x4096) ![0, 0] ![256, 512] inb_S256x4096_S256x512_0_0, k0_pay7 (F := Ideal) (View.ld h (Rect.unit (s := S256x4096) ![0, 0] ![256, 512] inb_S256x4096_S256x512_0_0)) d (View.ld w (Rect.unit (s := S4096x1024) ![0, 0] ![512, 1024] inb_S4096x1024_S512x1024_0_0))⟩]
theorem dh_canon (y : S256x4096.Idx) : View.canon (dhPieces h d w) y = dSq (mulT (row d (y 0)) w (y 1)) (h y) := by
  canon_tiles x hx
  all_goals pointwise [k0_pay7, k0_pay8, k0_pay9, k0_pay11, k0_pay14, k0_pay12, k0_pay15, k0_pay16, k0_pay18, k0_pay19, k0_pay21, k0_pay22, k0_pay24, k0_pay25, k0_pay27, k0_pay28, k0_pay30, k0_pay5, dSq, relu, mulT]
  all_goals obtain ⟨i, ⟨v, hv⟩, rfl⟩ : ∃ (i : Fin 256) (j : Fin 4096), y = ix2 i j := ⟨y 0, y 1, by blk_ext⟩
  all_goals obtain rfl : i = x 0 := Fin.ext hx0
  all_goals obtain rfl : v = _ := hx1
  all_goals rfl
end Pieces

section Pays
variable (x x3 u : FVec Ideal S256x1024 .f32) (g : FVec Ideal S1x1024 .f32) (wt : FVec Ideal S4096x1024 .bf16)
theorem u_apply (dh : FVec Ideal S256x4096 .bf16) (i : S256x1024.Idx) : k0_pay31 (F := Ideal) dh wt i = mulN (row dh (i 0)) wt (i 1) := by
  pointwise [k0_pay31, mulN]
theorem dx2_apply (i : S256x1024.Idx) : k0_pay1 (F := Ideal) u (k0_pay32 x) g (k0_pay33 x) x3 i
    = x3 i + dnorm c1024 (row x (i 0)) (fun j => u (ix2 (i 0) j) * g (ix2 0 j)) (i 1) := by
  pointwise [k0_pay1, k0_pay33, k0_pay32, dnorm, rinv, msq]
  blk_point []
  exact Ideal.mul_congr (by blk_ext) rfl
theorem dg_apply (o : FVec Ideal S8x1024 .f32) (i : S8x1024.Idx) : k0_pay3 (F := Ideal) u (k0_pay33 x) o i
    = o i + ∑ r : Fin 256, u (ix2 r (i 1)) * (x (ix2 r (i 1)) * rinv c1024 (row x r)) := by
  pointwise [k0_pay3, k0_pay33, k0_pay32, rinv, msq]
end Pays

variable (m : (ℓ : Loc nD τ sig) → Buf (Elt Ideal) ℓ) (c : Dev nD)

/-- The hidden gradient of a block as an array, and what the body reads back of it. -/
def dhB (t : Fin cfg0.N) : FVec Ideal S256x4096 .bf16 := View.canon (dhPieces (iblk m c 2 t) (iblk m c 1 t) (iblk m c 3 t))
theorem dhB_row (t : Fin cfg0.N) (r : Fin 256) : row (dhB m c t) r = fun j => dSq (mulT (row (iblk m c 1 t : FVec Ideal S256x1024 .bf16) r) (iblk m c 3 t : FVec Ideal S4096x1024 .bf16) j) (row (iblk m c 2 t : FVec Ideal S256x4096 .bf16) r j) :=
  funext fun j => dh_canon _ _ _ (ix2 r j)
theorem dh_read (t : Fin cfg0.N) : (ms0_8 t).view.readCov (dhPieces (iblk m c 2 t) (iblk m c 1 t) (iblk m c 3 t))
    (Rect.unit (s := S256x4096) ![0, 0] ![256, 4096] inb_S256x4096_S256x4096_0_0).toLoadRect = dhB m c t := by
  rw [View.readCov_eq_canon']
  exact View.ld_unit_lit _ _ (by decide)

theorem a_blk (t : Fin cfg0.N) (y : S256x4096.Idx) : (outsAt0 m c t.val t.isLt).1 y = square ((iblk m c 2 t : FVec Ideal S256x4096 .bf16) y) := by
  by_cases h : t.val % 32 = 0
  on_goal 1 => rw [outsAt0_A m c t h]
  on_goal 2 => rw [outsAt0_B m c t h]
  all_goals frame_out
  all_goals canon_tiles x hx
  all_goals pointwise [k0_pay6, k0_pay10, k0_pay13, k0_pay17, k0_pay20, k0_pay23, k0_pay26, k0_pay29, k0_pay5, k0_pay8, k0_pay12, k0_pay15, k0_pay19, k0_pay22, k0_pay25, k0_pay28, square, relu]
  all_goals obtain ⟨i, ⟨v, hv⟩, rfl⟩ : ∃ (i : Fin 256) (j : Fin 4096), y = ix2 i j := ⟨y 0, y 1, by blk_ext⟩
  all_goals obtain rfl : i = x 0 := Fin.ext hx0
  all_goals obtain rfl : v = _ := hx1
  all_goals rfl
theorem dh_blk (t : Fin cfg0.N) (y : S256x4096.Idx) : (outsAt0 m c t.val t.isLt).2.1 y = dhB m c t y := by
  by_cases h : t.val % 32 = 0
  · rw [outsAt0_A m c t h]; frame_out
  · rw [outsAt0_B m c t h]; frame_out

/-- The input gradient of a block's row, and what it adds to the gain's. -/
def dx2B (t : Fin cfg0.N) (r : Fin 256) (j : Fin 1024) : EReal := row (iblk m c 0 t : FVec Ideal S256x1024 .f32) r j
  + dnorm c1024 (row (iblk m c 5 t : FVec Ideal S256x1024 .f32) r) (fun i => mulN (row (dhB m c t) r) (iblk m c 4 t : FVec Ideal S4096x1024 .bf16) i * row (iblk m c 6 t : FVec Ideal S1x1024 .f32) 0 i) j
def dgB (t : Fin cfg0.N) (r : Fin 256) (j : Fin 1024) : EReal := mulN (row (dhB m c t) r) (iblk m c 4 t : FVec Ideal S4096x1024 .bf16) j
  * (row (iblk m c 5 t : FVec Ideal S256x1024 .f32) r j * rinv c1024 (row (iblk m c 5 t : FVec Ideal S256x1024 .f32) r))

theorem dx2_arg (t : Fin cfg0.N) (y : S256x1024.Idx) :
    k0_pay1 (F := Ideal) (k0_pay31 (dhB m c t) (iblk m c 4 t)) (k0_pay32 (iblk m c 5 t)) (iblk m c 6 t) (k0_pay33 (iblk m c 5 t)) (iblk m c 0 t) y = dx2B m c t (y 0) (y 1) := by
  refine (dx2_apply _ _ _ _ y).trans ?_
  exact Ideal.add_congr (congrArg _ (by blk_ext)) (congr (congrArg _ (funext fun j => Ideal.mul_congr (u_apply _ _ _) rfl)) rfl)
theorem dx2_blk (t : Fin cfg0.N) (y : S256x1024.Idx) : (outsAt0 m c t.val t.isLt).2.2.1 y = dx2B m c t (y 0) (y 1) := by
  rw [← dx2_arg, ← dh_read]
  by_cases h : t.val % 32 = 0
  · rw [outsAt0_A m c t h]; frame_out
  · rw [outsAt0_B m c t h]; frame_out
theorem dx2b_blk (t : Fin cfg0.N) (y : S256x1024.Idx) : (outsAt0 m c t.val t.isLt).2.2.2.1 y = dx2B m c t (y 0) (y 1) := by
  rw [← dx2_arg, ← dh_read]
  by_cases h : t.val % 32 = 0
  · rw [outsAt0_A m c t h]; frame_out; rfl
  · rw [outsAt0_B m c t h]; frame_out; rfl
theorem dg_arg (t : Fin cfg0.N) (o : FVec Ideal S8x1024 .f32) (y : S8x1024.Idx) :
    k0_pay3 (F := Ideal) (k0_pay31 (dhB m c t) (iblk m c 4 t)) (k0_pay33 (iblk m c 5 t)) o y = o y + ∑ r, dgB m c t r (y 1) := by
  rw [dg_apply]
  exact Ideal.add_congr rfl (Finset.sum_congr rfl fun r _ => Ideal.mul_congr (u_apply _ _ _) rfl)
theorem dg_step (t : Fin cfg0.N) (h : ¬ t.val % 32 = 0) (y : S8x1024.Idx) : (outsAt0 m c t.val t.isLt).2.2.2.2 y
    = (outsAt0 m c (t.val - 1) (by omega)).2.2.2.2 y + ∑ r, dgB m c t r (y 1) := by
  rw [← dg_arg, ← dh_read, outsAt0_B m c t h]; frame_out
theorem dg_start (t : Fin cfg0.N) (h : t.val % 32 = 0) (y : S8x1024.Idx) : (outsAt0 m c t.val t.isLt).2.2.2.2 y = ∑ r, dgB m c t r (y 1) := by
  refine Eq.trans ?_ ((dg_arg m c t k0_pay4 y).trans ((Ideal.add_congr (by pointwise [k0_pay4]) rfl).trans (zero_add _)))
  rw [← dh_read, outsAt0_A m c t h]; frame_out

end Cert.MlpBwdIdeal.Hand

end
-- ==== Proof.Mlp.Final.lean ====
module

public import proofs.«01_k».proof.Proof.Mlp.Blocks

@[expose] public section

set_option maxRecDepth 16384

noncomputable section

open Idealize.ShloMosaic Idealize.ShloMosaic.TcCoe Idealize.SL.Sem
open Idealize.ShloMosaic.Pipeline (Dat)

namespace Mlp
open Norm

/-! The gradients over whole arrays, row by row: `d` and `d'` what flows back, `h` the hidden values, `x` the input, the two weights and the gain. -/

section Arrays
variable (d d' x : (⟨2, ![8192, 1024]⟩ : Shape).Idx → EReal) (h : (⟨2, ![8192, 4096]⟩ : Shape).Idx → EReal)
  (wd wt : (⟨2, ![4096, 1024]⟩ : Shape).Idx → EReal) (g : (⟨2, ![1, 1024]⟩ : Shape).Idx → EReal)
def dhRow (s : Fin 8192) (j : Fin 4096) : EReal := dSq (mulT (row d' s) wd j) (row h s j)
def dx2Row (s : Fin 8192) (j : Fin 1024) : EReal := row d s j + dnorm c1024 (row x s) (fun i => mulN (dhRow d' h wd s) wt i * row g 0 i) j
def dgRow (s : Fin 8192) (j : Fin 1024) : EReal := mulN (dhRow d' h wd s) wt j * (row x s j * rinv c1024 (row x s))
end Arrays
end Mlp

namespace Cert.MlpBwdIdeal.Hand
open Cert.MlpBwdIdeal Cert.MlpBwdIdeal.Gen Norm Mlp

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

/-- The token of row `r` of block `t`. -/
abbrev tok (t : Fin cfg0.N) (r : Fin 256) : Fin 8192 := ⟨t.val * 256 + r.val, by have := t.isLt; have : cfg0.N = 32 := N_0; omega⟩

section Blocks
variable (t : Fin cfg0.N) (r : Fin 256)
theorem d_row : row (iblk m c 0 t : FVec Ideal S256x1024 .f32) r = row (V m c main_arg1 : FVec Ideal S8192x1024 .f32) (tok t r) := by
  funext j
  show View.read (Elt Ideal) ((cfg0.win 0).blk t).view (V m c main_arg1) (ix2 r j) = V m c main_arg1 (ix2 (tok t r) j)
  generalize V m c main_arg1 = A
  blk_ext! [idx t]
theorem db_row : row (iblk m c 1 t : FVec Ideal S256x1024 .bf16) r = row (V m c main_v14 : FVec Ideal S8192x1024 .bf16) (tok t r) := by
  funext j
  show View.read (Elt Ideal) ((cfg0.win 1).blk t).view (V m c main_v14) (ix2 r j) = V m c main_v14 (ix2 (tok t r) j)
  generalize V m c main_v14 = A
  blk_ext! [idx t]
theorem h_row : row (iblk m c 2 t : FVec Ideal S256x4096 .bf16) r = row (V m c main_v13 : FVec Ideal S8192x4096 .bf16) (tok t r) := by
  funext j
  show View.read (Elt Ideal) ((cfg0.win 2).blk t).view (V m c main_v13) (ix2 r j) = V m c main_v13 (ix2 (tok t r) j)
  generalize V m c main_v13 = A
  blk_ext! [idx t]
theorem x_row : row (iblk m c 5 t : FVec Ideal S256x1024 .f32) r = row (V m c main_arg0 : FVec Ideal S8192x1024 .f32) (tok t r) := by
  funext j
  show View.read (Elt Ideal) ((cfg0.win 5).blk t).view (V m c main_arg0) (ix2 r j) = V m c main_arg0 (ix2 (tok t r) j)
  generalize V m c main_arg0 = A
  blk_ext! [idx t]
theorem whole3 : iblk m c 3 t = V m c main_v15 := by
  show View.read (Elt Ideal) ((cfg0.win 3).blk t).view (V m c main_v15) = V m c main_v15
  generalize V m c main_v15 = A
  blk_ext! [idx t]
theorem whole4 : iblk m c 4 t = V m c main_v17 := by
  show View.read (Elt Ideal) ((cfg0.win 4).blk t).view (V m c main_v17) = V m c main_v17
  generalize V m c main_v17 = A
  blk_ext! [idx t]
theorem whole6 : iblk m c 6 t = V m c main_arg2 := by
  show View.read (Elt Ideal) ((cfg0.win 6).blk t).view (V m c main_arg2) = V m c main_arg2
  generalize V m c main_arg2 = A
  blk_ext! [idx t]
end Blocks

/-- The arrays as the kernel call finds them. -/
abbrev Da : FVec Ideal S8192x1024 .f32 := V m c main_arg1
abbrev Db : FVec Ideal S8192x1024 .bf16 := V m c main_v14
abbrev H : FVec Ideal S8192x4096 .bf16 := V m c main_v13
abbrev X : FVec Ideal S8192x1024 .f32 := V m c main_arg0
abbrev Wd : FVec Ideal S4096x1024 .bf16 := V m c main_v15
abbrev Wt : FVec Ideal S4096x1024 .bf16 := V m c main_v17
abbrev G : FVec Ideal S1x1024 .f32 := V m c main_arg2

theorem dh_row (t : Fin cfg0.N) (r : Fin 256) : row (dhB m c t) r = dhRow (Db m c) (H m c) (Wd m c) (tok t r) := by
  rw [dhB_row, db_row, h_row]
  exact congrArg (fun (w : FVec Ideal S4096x1024 .bf16) (j : Fin 4096) => dSq (mulT (row (Db m c) (tok t r)) w j) (row (H m c) (tok t r) j)) (whole3 m c t)
theorem dx2_row (t : Fin cfg0.N) (r : Fin 256) : dx2B m c t r = dx2Row (Da m c) (Db m c) (X m c) (H m c) (Wd m c) (Wt m c) (G m c) (tok t r) := by
  funext j
  unfold dx2B dx2Row
  rw [x_row, dh_row, d_row]
  have e := congr (congrArg (fun (w : FVec Ideal S4096x1024 .bf16) (g : FVec Ideal S1x1024 .f32) => row (Da m c) (tok t r) j + dnorm c1024 (row (X m c) (tok t r)) (fun i => mulN (dhRow (Db m c) (H m c) (Wd m c) (tok t r)) w i * row g 0 i) j) (whole4 m c t)) (whole6 m c t)
  exact e
theorem dg_row (t : Fin cfg0.N) (r : Fin 256) : dgB m c t r = dgRow (Db m c) (X m c) (H m c) (Wd m c) (Wt m c) (tok t r) := by
  funext j
  unfold dgB dgRow
  rw [x_row, dh_row]
  exact congrArg (fun (w : FVec Ideal S4096x1024 .bf16) => mulN (dhRow (Db m c) (H m c) (Wd m c) (tok t r)) w j * _) (whole4 m c t)

/-! Where the blocks of the results lie. -/

theorem arr7 (A : S8192x4096.Idx → EReal) (h : ∀ (t : Fin cfg0.N) (r : Fin 256) (j : Fin 4096), (outsAt0 m c t.val t.isLt).1 (ix2 r j) = A (ix2 (tok t r) j)) :
    (dats m 0 c).arrAt 7 cfg0.N = A := by
  refine (dats m 0 c).arrAt_eq_of_covers 7 _ (by decide +kernel) fun t _ y => ?_
  blk_simp
  rw [after0_7]
  refine (congrArg _ (by blk_ext)).trans ((h t (y 0) (y 1)).trans (congrArg A ?_))
  blk_ext [idx t]
theorem arr8 (A : S8192x4096.Idx → EReal) (h : ∀ (t : Fin cfg0.N) (r : Fin 256) (j : Fin 4096), (outsAt0 m c t.val t.isLt).2.1 (ix2 r j) = A (ix2 (tok t r) j)) :
    (dats m 0 c).arrAt 8 cfg0.N = A := by
  refine (dats m 0 c).arrAt_eq_of_covers 8 _ (by decide +kernel) fun t _ y => ?_
  blk_simp
  rw [after0_8]
  refine (congrArg _ (by blk_ext)).trans ((h t (y 0) (y 1)).trans (congrArg A ?_))
  blk_ext [idx t]
theorem arr9 (A : S8192x1024.Idx → EReal) (h : ∀ (t : Fin cfg0.N) (r : Fin 256) (j : Fin 1024), (outsAt0 m c t.val t.isLt).2.2.1 (ix2 r j) = A (ix2 (tok t r) j)) :
    (dats m 0 c).arrAt 9 cfg0.N = A := by
  refine (dats m 0 c).arrAt_eq_of_covers 9 _ (by decide +kernel) fun t _ y => ?_
  blk_simp
  rw [after0_9]
  refine (congrArg _ (by blk_ext)).trans ((h t (y 0) (y 1)).trans (congrArg A ?_))
  blk_ext [idx t]
theorem arr10 (A : S8192x1024.Idx → EReal) (h : ∀ (t : Fin cfg0.N) (r : Fin 256) (j : Fin 1024), (outsAt0 m c t.val t.isLt).2.2.2.1 (ix2 r j) = A (ix2 (tok t r) j)) :
    (dats m 0 c).arrAt 10 cfg0.N = A := by
  refine (dats m 0 c).arrAt_eq_of_covers 10 _ (by decide +kernel) fun t _ y => ?_
  blk_simp
  rw [after0_10]
  refine (congrArg _ (by blk_ext)).trans ((h t (y 0) (y 1)).trans (congrArg A ?_))
  blk_ext [idx t]
/-- The last grid point. -/
abbrev tLast : Fin cfg0.N := ⟨31, by decide⟩
theorem sum_tok (f : Fin 8192 → EReal) : ∑ t : Fin cfg0.N, ∑ r : Fin 256, f (tok t r) = ∑ s, f s :=
  Fin.sum_mul_add_fin 32 256 f
theorem arr11 (T : Fin 8192 → S8x1024.Idx → EReal)
    (h0 : ∀ t : Fin cfg0.N, t.val % 32 = 0 → ∀ y, (outsAt0 m c t.val t.isLt).2.2.2.2 y = ∑ r : Fin 256, T (tok t r) y)
    (hs : ∀ t : Fin cfg0.N, ¬ t.val % 32 = 0 → ∀ y, (outsAt0 m c t.val t.isLt).2.2.2.2 y = (outsAt0 m c (t.val - 1) (by omega)).2.2.2.2 y + ∑ r : Fin 256, T (tok t r) y) :
    (dats m 0 c).arrAt 11 cfg0.N = fun y => ∑ s, T s y := by
  refine (dats m 0 c).arrAt_eq_of_after_last 11 tLast (by decide +kernel) _ fun j => ?_
  blk_simp
  rw [after0_11, Pipeline.eq_sum_fin_of_reset_step_apply_last (fun n h => (outsAt0 m c n h).2.2.2.2) 32 (fun _ => 0) (fun t y => ∑ r : Fin 256, T (tok t r) y)
    (fun t h j => (h0 t h j).trans (zero_add _).symm) hs (le_of_eq N_0) tLast rfl _, zero_add]
  exact sum_tok fun s => T s j

/-! Each result as an array. -/

theorem a_final : (dats m 0 c).arrAt 7 cfg0.N = fun i : S8192x4096.Idx => square (H m c i) :=
  arr7 m c _ fun t r j => (a_blk m c t (ix2 r j)).trans (congrArg square (congrFun (h_row m c t r) j))
theorem dh_final : (dats m 0 c).arrAt 8 cfg0.N = fun i : S8192x4096.Idx => dhRow (Db m c) (H m c) (Wd m c) (i 0) (i 1) :=
  arr8 m c _ fun t r j => (dh_blk m c t (ix2 r j)).trans (congrFun (dh_row m c t r) j)
theorem dx2_final : (dats m 0 c).arrAt 9 cfg0.N = fun i : S8192x1024.Idx => dx2Row (Da m c) (Db m c) (X m c) (H m c) (Wd m c) (Wt m c) (G m c) (i 0) (i 1) :=
  arr9 m c _ fun t r j => (dx2_blk m c t (ix2 r j)).trans (congrFun (dx2_row m c t r) j)
theorem dx2b_final : (dats m 0 c).arrAt 10 cfg0.N = fun i : S8192x1024.Idx => dx2Row (Da m c) (Db m c) (X m c) (H m c) (Wd m c) (Wt m c) (G m c) (i 0) (i 1) :=
  arr10 m c _ fun t r j => (dx2b_blk m c t (ix2 r j)).trans (congrFun (dx2_row m c t r) j)
theorem dg_final : (dats m 0 c).arrAt 11 cfg0.N = fun i : S8x1024.Idx => ∑ s, dgRow (Db m c) (X m c) (H m c) (Wd m c) (Wt m c) s (i 1) :=
  arr11 m c (fun s i => dgRow (Db m c) (X m c) (H m c) (Wd m c) (Wt m c) s (i 1))
    (fun t h y => (dg_start m c t h y).trans (Finset.sum_congr rfl fun r _ => congrFun (dg_row m c t r) (y 1)))
    (fun t h y => (dg_step m c t h y).trans (Ideal.add_congr rfl (Finset.sum_congr rfl fun r _ => congrFun (dg_row m c t r) (y 1))))

end Cert.MlpBwdIdeal.Hand

end
-- ==== Proof.Mlp.Ref.lean ====
module

public import proofs.«01_k».proof.Proof.Mlp.Final
public import proofs.«01_k».proof.Proof.Gen.MlpRefIdeal.Read

@[expose] public section

set_option maxRecDepth 16384

noncomputable section

open Idealize.ShloMosaic Idealize.ShloMosaic.TcCoe Idealize.SL.Sem
open Idealize.ShloMosaic.Pipeline (Dat)

namespace Mlp
open Norm
/-- The derivative of the square of the rectified value, as the derivative of the forward lines writes it. -/
theorem dSq_ref (d h : EReal) : Scalar.select (FloatOps.cmpf (F := Ideal) (φ := .f32) .ogt h (Ideal.ofBits .f32 0x00000000#32))
    (d * (Ideal.ofBits .f32 0x40000000#32 * relu h)) (Ideal.ofBits .f32 0x00000000#32) = dSq d h := by
  show Scalar.select (Ideal.cmp .ogt h (Ideal.ofBits .f32 0x00000000#32)) _ _ = _
  rw [Ideal.ofBits_zero_f32]
  by_cases hp : 0 < h
  · simp [Scalar.select, Ideal.cmp, hp, dSq, mul_assoc]
  · simp [Scalar.select, Ideal.cmp, hp, dSq, relu, max_eq_right (not_lt.mp hp)]
end Mlp

namespace Cert.MlpRefIdeal.Read
open Norm Mlp

variable (x0 x1 : FVec Ideal S8192x1024 .f32) (x2 : FVec Ideal S1x1024 .f32) (x3 : FVec Ideal S1024x4096 .f32) (x4 : FVec Ideal S4096x1024 .f32)

/-- The hidden values, their gradient by row, and the second weight transposed. -/
abbrev hid := val_main_v15 (F := Ideal) x0 x2 x3
abbrev dh (s : Fin 8192) := dhRow x1 (hid x0 x2 x3) x4 s
abbrev tr (i : S4096x1024.Idx) : EReal := x3 (ix2 (i 1) (i 0))
abbrev u (s : Fin 8192) (j : Fin 1024) : EReal := mulN (dh x0 x1 x2 x3 x4 s) (tr x3) j * row x2 0 j

variable (s : Fin 8192)
theorem v6_at (i : S8192x1.Idx) : val_main_v6 (F := Ideal) x0 i = msq c1024 (row x0 (i 0)) := by
  rw [val_main_v6_apply, val_main_v4_apply, val_main_v2_apply, val_main_v1_apply, msq]
  refine congrArg (fun a => Ideal.div a c1024 + eps) ((zero_lit_add _).trans (Finset.sum_congr rfl fun k _ => ?_))
  rw [val_main_v0_apply, show idx_main_v1 (idx_main_v2 i) k = ix2 (i 0) k by blk_ext]
  rfl
theorem v7_at (i : S8192x1.Idx) : val_main_v7 (F := Ideal) x0 i = rinv c1024 (row x0 (i 0)) := by
  rw [val_main_v7_apply, v6_at]
  rfl
theorem v16_at (i : S8192x4096.Idx) : val_main_v16 (F := Ideal) x0 x2 x3 i = relu (hid x0 x2 x3 i) := by
  rw [val_main_v16_apply]
  exact congrArg (max _) Ideal.ofBits_zero_f32
theorem v20_at (i : S8192x4096.Idx) : val_main_v20 (F := Ideal) x0 x2 x3 i = square (hid x0 x2 x3 i) := by
  rw [val_main_v20_apply, v16_at]
  rfl
theorem v24_at (i : S8192x4096.Idx) : val_main_v24 (F := Ideal) x1 x4 i = mulT (row x1 (i 0)) x4 (i 1) := by
  rw [val_main_v24_apply]
  exact Finset.sum_congr rfl fun l _ => Ideal.mul_congr (congrArg _ (by blk_ext)) (congrArg _ (by blk_ext))
theorem v27_at (j : Fin 4096) : val_main_v27 (F := Ideal) x0 x1 x2 x3 x4 (ix2 s j) = dh x0 x1 x2 x3 x4 s j := by
  rw [val_main_v27_apply, val_main_v25_apply, val_main_v22_apply, v24_at, v16_at, val_main_v18_apply]
  exact dSq_ref _ _
theorem v28_at (j : Fin 1024) : val_main_v28 (F := Ideal) x0 x1 x2 x3 x4 (ix2 s j) = mulN (dh x0 x1 x2 x3 x4 s) (tr x3) j := by
  rw [val_main_v28_apply]
  exact Finset.sum_congr rfl fun l _ => Ideal.mul_congr ((congrArg _ (by blk_ext)).trans (v27_at x0 x1 x2 x3 x4 s l)) (congrArg _ (by blk_ext))
theorem v29_at (j : Fin 1024) : val_main_v29 (F := Ideal) x0 x1 x2 x3 x4 (ix2 s j) = dgRow x1 x0 (hid x0 x2 x3) x4 (tr x3) s j := by
  rw [val_main_v29_apply, v28_at, val_main_v12_apply, val_main_v11_apply, v7_at]
  exact mul_comm _ _
theorem v52_at (i : S8x1024.Idx) : val_main_v52 (F := Ideal) x0 x1 x2 x3 x4 i = ∑ s, dgRow x1 x0 (hid x0 x2 x3) x4 (tr x3) s (i 1) := by
  rw [val_main_v52_apply, val_main_v31_apply, val_main_v30_apply]
  exact (zero_lit_add _).trans (Finset.sum_congr rfl fun s _ => (congrArg _ (by blk_ext)).trans (v29_at x0 x1 x2 x3 x4 s (i 1)))
theorem v33_at (j : Fin 1024) : val_main_v33 (F := Ideal) x0 x1 x2 x3 x4 (ix2 s j) = u x0 x1 x2 x3 x4 s j := by
  rw [val_main_v33_apply, v28_at, val_main_v32_apply, show idx_main_v32 (ix2 s j) = ix2 0 j by blk_ext]
  rfl
theorem v42_at : val_main_v42 (F := Ideal) x0 x1 x2 x3 x4 (ix1 s) = dmsq c1024 (row x0 s) (u x0 x1 x2 x3 x4 s) := by
  rw [val_main_v42_apply, Fin.sum_univ_one, val_main_v41_apply, val_main_v39_apply, val_main_v36_apply, val_main_v35_apply, val_main_v10_apply, val_main_v8_apply, v7_at, v6_at]
  refine (zero_lit_add _).trans (congrArg (fun a => Ideal.div (a * _) c1024) ((zero_lit_add _).trans (Finset.sum_congr rfl fun k _ => ?_)))
  rw [show idx_main_v35 (idx_main_v36 (idx_main_v42 (ix1 s) 0)) k = ix2 s k by blk_ext, val_main_v34_apply, v33_at]
  rfl

/-- Every argument array holds real numbers. -/
structure Finite : Prop where
  x : ∀ i, IsReal (x0 i)
  dx3 : ∀ i, IsReal (x1 i)
  g : ∀ i, IsReal (x2 i)
  wu : ∀ i, IsReal (x3 i)
  wd : ∀ i, IsReal (x4 i)

variable {x0 x1 x2 x3 x4} (R : Finite x0 x1 x2 x3 x4)
include R
theorem hid_real (i : S8192x4096.Idx) : IsReal (hid x0 x2 x3 i) := by
  show IsReal (val_main_v15 (F := Ideal) x0 x2 x3 i)
  rw [val_main_v15_apply]
  refine IsReal.sum _ fun k => IsReal.mul ?_ (R.wu _)
  rw [val_main_v14_apply, val_main_v12_apply, val_main_v11_apply, v7_at, val_main_v13_apply]
  exact ((R.x _).mul (rinv_real (by norm_num) c1024_eq fun k => R.x _)).mul (R.g _)
theorem u_real (j : Fin 1024) : IsReal (u x0 x1 x2 x3 x4 s j) := by
  refine (IsReal.sum _ fun l => IsReal.mul ?_ (R.wu _)).mul (R.g _)
  unfold dh dhRow dSq
  exact ((IsReal.sum _ fun l => (R.dx3 _).mul (R.wd _)).mul ⟨_, two_eq⟩).mul ((hid_real R _).max' ⟨0, rfl⟩)
theorem v48_at (j : Fin 1024) : val_main_v48 (F := Ideal) x0 x1 x2 x3 x4 (ix2 s j) = dx2Row x1 x1 x0 (hid x0 x2 x3) x4 (tr x3) x2 s j := by
  unfold dx2Row
  rw [← dnorm_eq (N := 1024) (by norm_num) c1024_eq (fun k => R.x _) (u_real s R), val_main_v48_apply, val_main_v47_apply, val_main_v45_apply, val_main_v46_apply, val_main_v44_apply, val_main_v38_apply, v33_at, val_main_v37_apply, v7_at,
    val_main_v43_apply, show idx_main_v43 (ix2 s j) = ix1 s by blk_ext, v42_at]
  rfl

end Cert.MlpRefIdeal.Read

namespace Cert.MlpBwdIdeal.Hand
open Cert.MlpBwdIdeal Cert.MlpBwdIdeal.Gen Norm Mlp Cert.MlpRefIdeal.Read

variable (m : (ℓ : Loc nD τ sig) → Buf (Elt Ideal) ℓ) (c : Dev nD)

/-- The arguments. -/
abbrev a0 : FVec Ideal S8192x1024 .f32 := m ((c : Thread nD τ).loc main_arg0)
abbrev a1 : FVec Ideal S8192x1024 .f32 := m ((c : Thread nD τ).loc main_arg1)
abbrev a2 : FVec Ideal S1x1024 .f32 := m ((c : Thread nD τ).loc main_arg2)
abbrev a3 : FVec Ideal S1024x4096 .f32 := m ((c : Thread nD τ).loc main_arg3)
abbrev a4 : FVec Ideal S4096x1024 .f32 := m ((c : Thread nD τ).loc main_arg4)

/-! What the prologue hands the kernel call. -/

theorem Db_eq : Db m c = a1 m c := by
  show StableHlo.after hostOps0 (fun b => m (c, b)) (Proc.devRef .tc main_v14) = _
  after_results
  rfl
theorem H_eq : H m c = hid (a0 m c) (a2 m c) (a3 m c) := by
  show StableHlo.after hostOps0 (fun b => m (c, b)) (Proc.devRef .tc main_v13) = _
  after_results
  rfl
theorem Wd_eq : Wd m c = a4 m c := by
  show StableHlo.after hostOps0 (fun b => m (c, b)) (Proc.devRef .tc main_v15) = _
  after_results
  rfl
theorem Wt_eq : Wt m c = tr (a3 m c) := by
  show StableHlo.after hostOps0 (fun b => m (c, b)) (Proc.devRef .tc main_v17) = _
  after_results
  funext i
  exact congrArg (a3 m c) (by funext a; fin_cases a <;> rfl)
theorem args_eq : Da m c = a1 m c ∧ X m c = a0 m c ∧ G m c = a2 m c := ⟨V_main_arg1 m c, V_main_arg0 m c, V_main_arg2 m c⟩

/-! The results are the reference's. -/

theorem a_eq : (dats m 0 c).arrAt 7 cfg0.N = val_main_v49 (F := Ideal) (a0 m c) (a2 m c) (a3 m c) := by
  rw [a_final, H_eq]
  exact funext fun i => (v20_at _ _ _ i).symm
theorem dh_eq : (dats m 0 c).arrAt 8 cfg0.N = val_main_v50 (F := Ideal) (a0 m c) (a1 m c) (a2 m c) (a3 m c) (a4 m c) := by
  rw [dh_final, H_eq, Db_eq, Wd_eq]
  refine funext fun i => ((congrArg (val_main_v27 (F := Ideal) _ _ _ _ _) ?_).trans (v27_at _ _ _ _ _ (i 0) (i 1))).symm
  blk_ext
variable (R : Finite (a0 m c) (a1 m c) (a2 m c) (a3 m c) (a4 m c))
include R
theorem dx2_fun : (fun i : S8192x1024.Idx => dx2Row (Da m c) (Db m c) (X m c) (H m c) (Wd m c) (Wt m c) (G m c) (i 0) (i 1)) = val_main_v48 (F := Ideal) (a0 m c) (a1 m c) (a2 m c) (a3 m c) (a4 m c) := by
  rw [H_eq, Db_eq, Wd_eq, Wt_eq, (args_eq m c).1, (args_eq m c).2.1, (args_eq m c).2.2]
  refine funext fun i => ((congrArg (val_main_v48 (F := Ideal) _ _ _ _ _) ?_).trans (v48_at (i 0) R (i 1))).symm
  blk_ext
theorem dx2_eq : (dats m 0 c).arrAt 9 cfg0.N = val_main_v48 (F := Ideal) (a0 m c) (a1 m c) (a2 m c) (a3 m c) (a4 m c) := (dx2_final m c).trans (dx2_fun m c R)
theorem dx2b_eq : (dats m 0 c).arrAt 10 cfg0.N = val_main_v51 (F := Ideal) (a0 m c) (a1 m c) (a2 m c) (a3 m c) (a4 m c) := (dx2b_final m c).trans (dx2_fun m c R)
omit R in
theorem dg_eq : (dats m 0 c).arrAt 11 cfg0.N = val_main_v52 (F := Ideal) (a0 m c) (a1 m c) (a2 m c) (a3 m c) (a4 m c) := by
  rw [dg_final, H_eq, Db_eq, Wd_eq, Wt_eq, (args_eq m c).2.1]
  exact funext fun i => (v52_at _ _ _ _ _ i).symm

end Cert.MlpBwdIdeal.Hand

end
-- ==== Proof.Mlp.Claims.lean ====
module

public import proofs.«01_k».proof.Defs
public import proofs.«01_k».proof.Proof.Gen.MlpBwd
public import proofs.«01_k».proof.Proof.Gen.MlpRefIdeal.Run
public import proofs.«01_k».proof.Pre_mlp_finite
public import proofs.«01_k».proof.Proof.Mlp.Ref
public import Idealize.ShloMosaic.Lib.Quiescent

/-! # The gated block's backward call: its claims -/

@[expose] public section

set_option maxRecDepth 16384

noncomputable section

open Idealize.ShloMosaic Idealize.ShloMosaic.TcCoe Idealize.SL.Sem

namespace Cert.Proof.Mlp

instance : Cert.MlpBwd.Facts := Cert.MlpBwd.Gen.facts
instance : Cert.MlpBwdIdeal.Facts := Cert.MlpBwdIdeal.Gen.facts
instance : Cert.MlpRefIdeal.Facts := Cert.MlpRefIdeal.Gen.facts
instance finite_facts : Cert.Pre_mlp_finite.Facts := by constructor <;> decide

theorem frame_ideal : Cert.quiescent_MlpBwdIdeal := fun m ρ _ => Cert.MlpBwdIdeal.Gen.frame m ρ

theorem frame_ideal_finite : Cert.quiescent_MlpBwdIdeal_pre_mlp_finite := fun m ρ _ => Cert.MlpBwdIdeal.Gen.frame m ρ

/-- The bit-level program has the same text, so the same run gives its frame. -/
theorem frame_kernel : Cert.quiescent_MlpBwd := by
  have h : ∀ (m : (ℓ : Loc Cert.MlpBwdIdeal.nD Cert.MlpBwdIdeal.τ Cert.MlpBwdIdeal.sig) → Buf (Elt Bits) ℓ) (ρ : Dev Cert.MlpBwdIdeal.nD → PrngReg), True → _ :=
    fun m ρ _ => Cert.MlpBwdIdeal.Gen.frame (F := Bits) m ρ
  exact cast (by sl_kernel_rfl) h

theorem frame_reference : Cert.quiescent_MlpRefIdeal := fun m ρ _ =>
  (θ_run _ _ _).mono (fun r h => ⟨fun c => (h c).2.2.2.2.2, sem_eq_zero_of_no_sems (by decide) r.2⟩) (Cert.MlpRefIdeal.Value.run m ρ)

theorem frame_reference_finite : Cert.quiescent_MlpRefIdeal_pre_mlp_finite := fun m ρ _ => frame_reference m ρ trivial

/-- The precondition says that the named arguments hold real numbers. -/
theorem finite_of_pre (m : (ℓ : Loc Cert.MlpBwdIdeal.nD Cert.MlpBwdIdeal.τ Cert.MlpBwdIdeal.sig) → Buf (Elt Ideal) ℓ)
    (h : Cert.Pre_MlpBwdIdeal_mlp_finite m) (c : Dev Cert.MlpBwdIdeal.nD) :
    Cert.MlpRefIdeal.Read.Finite (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) where
  x i := Norm.IsReal.of_abs (congrFun (h c).1 i)
  dx3 i := Norm.IsReal.of_abs (congrFun (h c).2.1 i)
  g i := Norm.IsReal.of_abs (congrFun (h c).2.2.1 i)
  wu i := Norm.IsReal.of_abs (congrFun (h c).2.2.2.1 i)
  wd i := Norm.IsReal.of_abs (congrFun (h c).2.2.2.2 i)

set_option maxHeartbeats 1000000 in
theorem value : Cert.algebraic_MlpBwdIdeal_MlpRefIdeal_pre_mlp_finite := fun m ρ m' ρ' hf hag =>
  ⟨fun c => (Cert.MlpBwdIdeal.Gen.dats m 0 c).arrAt 7 Cert.MlpBwdIdeal.cfg0.N, fun c => (Cert.MlpBwdIdeal.Gen.dats m 0 c).arrAt 8 Cert.MlpBwdIdeal.cfg0.N, fun c => (Cert.MlpBwdIdeal.Gen.dats m 0 c).arrAt 9 Cert.MlpBwdIdeal.cfg0.N, fun c => (Cert.MlpBwdIdeal.Gen.dats m 0 c).arrAt 10 Cert.MlpBwdIdeal.cfg0.N, fun c => (Cert.MlpBwdIdeal.Gen.dats m 0 c).arrAt 11 Cert.MlpBwdIdeal.cfg0.N,
    Cert.MlpBwdIdeal.Value.run_blocks m ρ,
    (θ_run _ _ _).mono (fun _ h c => by
      obtain ⟨h0, h1, h2, h3, h4⟩ := hag c
      have H := finite_of_pre m hf c
      refine ⟨((h c).1.trans (Cert.MlpRefIdeal.Read.val_main_v49_eq _ _ _)).trans ?_,
        ((h c).2.1.trans (Cert.MlpRefIdeal.Read.val_main_v50_eq _ _ _ _ _)).trans ?_,
        ((h c).2.2.1.trans (Cert.MlpRefIdeal.Read.val_main_v48_eq _ _)).trans ?_,
        ((h c).2.2.2.1.trans (Cert.MlpRefIdeal.Read.val_main_v51_eq _ _)).trans ?_,
        ((h c).2.2.2.2.1.trans (Cert.MlpRefIdeal.Read.val_main_v52_eq _ _ _ _ _)).trans ?_, (h c).2.2.2.2.2⟩
      · rw [h0, h2, h3]; exact (Cert.MlpBwdIdeal.Hand.a_eq m c).symm
      · rw [h0, h1, h2, h3, h4]; exact (Cert.MlpBwdIdeal.Hand.dh_eq m c).symm
      · rw [h0, h1, h2, h3, h4]; exact (Cert.MlpBwdIdeal.Hand.dx2_eq m c H).symm
      · rw [h0, h1, h2, h3, h4]; exact (Cert.MlpBwdIdeal.Hand.dx2b_eq m c H).symm
      · rw [h0, h1, h2, h3, h4]; exact (Cert.MlpBwdIdeal.Hand.dg_eq m c).symm) (Cert.MlpRefIdeal.Value.run m' ρ')⟩

end Cert.Proof.Mlp

end
-- ==== Proof.Inp.Blocks.lean ====
module

public import proofs.«01_k».proof.Proof.Gen.InBwdIdeal.Value
public import proofs.«01_k».proof.Proof.Shared.Norm

@[expose] public section

set_option maxRecDepth 16384

noncomputable section

open Idealize.ShloMosaic Idealize.ShloMosaic.TcCoe Idealize.SL.Sem
open Idealize.ShloMosaic.Pipeline (Dat)

namespace Inp
open Norm

/-- A row of the projections' gradient times the transposed weight: the first 3104 columns of the padded row count. -/
def inSum (D : Fin 3200 → EReal) (W : (⟨2, ![3104, 1024]⟩ : Shape).Idx → EReal) (i : Fin 1024) : EReal := ∑ l : Fin 3104, D ⟨l.val, by omega⟩ * W (ix2 l i)

/-- The kernel splits the sum at column 3072 and fills the last tile up with zeros. -/
theorem inSum_split (D : Fin 3200 → EReal) (W : (⟨2, ![3104, 1024]⟩ : Shape).Idx → EReal) (i : Fin 1024) :
    (∑ k : Fin 3072, D ⟨0 + k.val, by omega⟩ * W (ix2 (⟨0 + k.val, by omega⟩ : Fin 3104) i))
      + ((∑ x : Fin 32, D ⟨3072 + x.val, by omega⟩ * W (ix2 (⟨3072 + x.val, by omega⟩ : Fin 3104) i)) + ∑ x : Fin 96, D ⟨3072 + (32 + x.val), by omega⟩ * 0) = inSum D W i := by
  simp only [mul_zero, Finset.sum_const_zero, add_zero, zero_add, inSum]
  exact (Fin.sum_univ_add (a := 3072) (b := 32) fun l : Fin (3072 + 32) => D ⟨l.val, by omega⟩ * W (ix2 (⟨l.val, l.isLt⟩ : Fin 3104) i)).symm
end Inp

namespace Cert.InBwdIdeal.Hand
open Cert.InBwdIdeal Cert.InBwdIdeal.Gen Norm Inp

section Pays
variable (z : FVec Ideal S512x3200 .bf16) (w : FVec Ideal S3104x1024 .bf16) (x dx u : FVec Ideal S512x1024 .f32) (g : FVec Ideal S1x1024 .f32)

/-- The four pieces the body reads. -/
abbrev za : FVec Ideal S512x3072 .bf16 := View.ld (Val := Elt Ideal) (e' := .bf16) z (Rect.unit (s := S512x3200) ![0, 0] ![512, 3072] inb_S512x3200_S512x3072_0_0)
abbrev wa : FVec Ideal S3072x1024 .bf16 := View.ld (Val := Elt Ideal) (e' := .bf16) w (Rect.unit (s := S3104x1024) ![0, 0] ![3072, 1024] inb_S3104x1024_S3072x1024_0_0)
abbrev zb : FVec Ideal S512x128 .bf16 := View.ld (Val := Elt Ideal) (e' := .bf16) z (Rect.unit (s := S512x3200) ![0, 3072] ![512, 128] inb_S512x3200_S512x128_0_3072)
abbrev wb : FVec Ideal S32x1024 .bf16 := View.ld (Val := Elt Ideal) (e' := .bf16) w (Rect.unit (s := S3104x1024) ![3072, 0] ![32, 1024] inb_S3104x1024_S32x1024_3072_0)

theorem dh_apply (i : S512x1024.Idx) : k0_pay4 (F := Ideal) (za z) (wa w) (zb z) (wb w) i = inSum (row z (i 0)) w (i 1) := by
  refine Eq.trans ?_ (inSum_split _ _ _)
  pointwise [k0_pay4, za, zb, wa, wb]
theorem gx_apply (i : S512x1024.Idx) : k0_pay1 (F := Ideal) (k0_pay5 x) (k0_pay6 x) (k0_pay7 (za z) (wa w) (zb z) (wb w) g) (k0_pay8 (za z) (wa w) (zb z) (wb w) x g) dx i
    = dx i + dnorm c1024 (row x (i 0)) (fun j => k0_pay4 (F := Ideal) (za z) (wa w) (zb z) (wb w) (ix2 (i 0) j) * g (ix2 0 j)) (i 1) := by
  obtain ⟨r, j, rfl⟩ : ∃ (r : Fin 512) (j : Fin 1024), i = ix2 r j := ⟨i 0, i 1, by blk_ext⟩
  generalize hp : k0_pay4 (F := Ideal) (za z) (wa w) (zb z) (wb w) = p
  pointwise [k0_pay1, k0_pay5, k0_pay6, k0_pay7, k0_pay8, dnorm, rinv, msq, hp]
theorem dg_apply (o : FVec Ideal S8x1024 .f32) (i : S8x1024.Idx) : k0_pay2 (F := Ideal) u (k0_pay6 x) o i
    = o i + ∑ r : Fin 512, u (ix2 r (i 1)) * (x (ix2 r (i 1)) * rinv c1024 (row x r)) := by
  pointwise [k0_pay2, k0_pay5, k0_pay6, rinv, msq]
end Pays

variable (m : (ℓ : Loc nD τ sig) → Buf (Elt Ideal) ℓ) (c : Dev nD)

/-- The input gradient of a block's row, and what it adds to the gain's. -/
def gxB (t : Fin cfg0.N) (r : Fin 512) (j : Fin 1024) : EReal := row (iblk m c 3 t : FVec Ideal S512x1024 .f32) r j
  + dnorm c1024 (row (iblk m c 2 t : FVec Ideal S512x1024 .f32) r) (fun i => inSum (row (iblk m c 0 t : FVec Ideal S512x3200 .bf16) r) (iblk m c 1 t : FVec Ideal S3104x1024 .bf16) i * row (iblk m c 4 t : FVec Ideal S1x1024 .f32) 0 i) j
def dgB (t : Fin cfg0.N) (r : Fin 512) (j : Fin 1024) : EReal := inSum (row (iblk m c 0 t : FVec Ideal S512x3200 .bf16) r) (iblk m c 1 t : FVec Ideal S3104x1024 .bf16) j
  * (row (iblk m c 2 t : FVec Ideal S512x1024 .f32) r j * rinv c1024 (row (iblk m c 2 t : FVec Ideal S512x1024 .f32) r))

theorem gx_arg (t : Fin cfg0.N) (y : S512x1024.Idx) :
    k0_pay1 (F := Ideal) (k0_pay5 (iblk m c 2 t)) (k0_pay6 (iblk m c 2 t)) (k0_pay7 (za (iblk m c 0 t)) (wa (iblk m c 1 t)) (zb (iblk m c 0 t)) (wb (iblk m c 1 t)) (iblk m c 4 t))
      (k0_pay8 (za (iblk m c 0 t)) (wa (iblk m c 1 t)) (zb (iblk m c 0 t)) (wb (iblk m c 1 t)) (iblk m c 2 t) (iblk m c 4 t)) (iblk m c 3 t) y = gxB m c t (y 0) (y 1) := by
  refine (gx_apply _ _ _ _ _ y).trans ?_
  exact Ideal.add_congr (congrArg _ (by blk_ext)) (congr (congrArg _ (funext fun j => Ideal.mul_congr (dh_apply _ _ _) rfl)) rfl)
theorem gx_blk (t : Fin cfg0.N) (y : S512x1024.Idx) : (outsAt0 m c t.val t.isLt).1 y = gxB m c t (y 0) (y 1) := by
  rw [← gx_arg]
  by_cases h : t.val % 16 = 0
  · rw [outsAt0_A m c t h]; frame_out
  · rw [outsAt0_B m c t h]; frame_out
theorem dg_arg (t : Fin cfg0.N) (o : FVec Ideal S8x1024 .f32) (y : S8x1024.Idx) :
    k0_pay2 (F := Ideal) (k0_pay4 (za (iblk m c 0 t)) (wa (iblk m c 1 t)) (zb (iblk m c 0 t)) (wb (iblk m c 1 t))) (k0_pay6 (iblk m c 2 t)) o y = o y + ∑ r : Fin 512, dgB m c t r (y 1) :=
  (dg_apply _ _ _ y).trans (Ideal.add_congr rfl (Finset.sum_congr rfl fun r _ => Ideal.mul_congr (dh_apply _ _ _) rfl))
theorem dg_start (t : Fin cfg0.N) (h : t.val % 16 = 0) (y : S8x1024.Idx) : (outsAt0 m c t.val t.isLt).2 y = ∑ r : Fin 512, dgB m c t r (y 1) := by
  have e : (outsAt0 m c t.val t.isLt).2 y = k0_pay2 (F := Ideal) (k0_pay4 (za (iblk m c 0 t)) (wa (iblk m c 1 t)) (zb (iblk m c 0 t)) (wb (iblk m c 1 t))) (k0_pay6 (iblk m c 2 t)) (k0_pay3 (F := Ideal)) y := by
    rw [outsAt0_A m c t h]; frame_out
  rw [e, dg_arg]
  pointwise [k0_pay3]
theorem dg_step (t : Fin cfg0.N) (h : ¬ t.val % 16 = 0) (y : S8x1024.Idx) : (outsAt0 m c t.val t.isLt).2 y = (outsAt0 m c (t.val - 1) (by omega)).2 y + ∑ r : Fin 512, dgB m c t r (y 1) := by
  rw [← dg_arg, outsAt0_B m c t h]; frame_out

end Cert.InBwdIdeal.Hand

end
-- ==== Proof.Inp.Final.lean ====
module

public import proofs.«01_k».proof.Proof.Inp.Blocks

@[expose] public section

set_option maxRecDepth 16384

noncomputable section

open Idealize.ShloMosaic Idealize.ShloMosaic.TcCoe Idealize.SL.Sem
open Idealize.ShloMosaic.Pipeline (Dat)

namespace Inp
open Norm

/-! The gradients over whole arrays, row by row: `d` what flows back past the projections, `z` their gradient, `x` the input, the transposed weight and the gain. -/

section Arrays
variable (d x : (⟨2, ![8192, 1024]⟩ : Shape).Idx → EReal) (z : (⟨2, ![8192, 3200]⟩ : Shape).Idx → EReal) (w : (⟨2, ![3104, 1024]⟩ : Shape).Idx → EReal) (g : (⟨2, ![1, 1024]⟩ : Shape).Idx → EReal)
def gxRow (s : Fin 8192) (j : Fin 1024) : EReal := row d s j + dnorm c1024 (row x s) (fun i => inSum (row z s) w i * row g 0 i) j
def dgRow (s : Fin 8192) (j : Fin 1024) : EReal := inSum (row z s) w j * (row x s j * rinv c1024 (row x s))
end Arrays
end Inp

namespace Cert.InBwdIdeal.Hand
open Cert.InBwdIdeal Cert.InBwdIdeal.Gen Norm Inp

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![0, 0] :=
  (by decide +kernel : ∀ t : Fin grid0.N, _)

/-- The token of row `r` of block `t`. -/
abbrev tok (t : Fin cfg0.N) (r : Fin 512) : Fin 8192 := ⟨t.val * 512 + r.val, by have := t.isLt; have : cfg0.N = 16 := N_0; omega⟩

section Blocks
variable (t : Fin cfg0.N) (r : Fin 512)
theorem z_row : row (iblk m c 0 t : FVec Ideal S512x3200 .bf16) r = row (V m c main_v1 : FVec Ideal S8192x3200 .bf16) (tok t r) := by
  funext j
  show View.read (Elt Ideal) ((cfg0.win 0).blk t).view (V m c main_v1) (ix2 r j) = V m c main_v1 (ix2 (tok t r) j)
  generalize V m c main_v1 = A
  blk_ext! [idx t]
theorem whole1 : iblk m c 1 t = V m c main_v3 := by
  show View.read (Elt Ideal) ((cfg0.win 1).blk t).view (V m c main_v3) = V m c main_v3
  generalize V m c main_v3 = A
  blk_ext! [idx t]
theorem x_row : row (iblk m c 2 t : FVec Ideal S512x1024 .f32) r = row (V m c main_arg0 : FVec Ideal S8192x1024 .f32) (tok t r) := by
  funext j
  show View.read (Elt Ideal) ((cfg0.win 2).blk t).view (V m c main_arg0) (ix2 r j) = V m c main_arg0 (ix2 (tok t r) j)
  generalize V m c main_arg0 = A
  blk_ext! [idx t]
theorem d_row : row (iblk m c 3 t : FVec Ideal S512x1024 .f32) r = row (V m c main_arg2 : FVec Ideal S8192x1024 .f32) (tok t r) := by
  funext j
  show View.read (Elt Ideal) ((cfg0.win 3).blk t).view (V m c main_arg2) (ix2 r j) = V m c main_arg2 (ix2 (tok t r) j)
  generalize V m c main_arg2 = A
  blk_ext! [idx t]
theorem whole4 : iblk m c 4 t = V m c main_arg3 := by
  show View.read (Elt Ideal) ((cfg0.win 4).blk t).view (V m c main_arg3) = V m c main_arg3
  generalize V m c main_arg3 = A
  blk_ext! [idx t]
end Blocks

/-- The arrays as the kernel call finds them. -/
abbrev Z : FVec Ideal S8192x3200 .bf16 := V m c main_v1
abbrev W : FVec Ideal S3104x1024 .bf16 := V m c main_v3
abbrev X : FVec Ideal S8192x1024 .f32 := V m c main_arg0
abbrev Da : FVec Ideal S8192x1024 .f32 := V m c main_arg2
abbrev G : FVec Ideal S1x1024 .f32 := V m c main_arg3

theorem gx_row (t : Fin cfg0.N) (r : Fin 512) : gxB m c t r = gxRow (Da m c) (X m c) (Z m c) (W m c) (G m c) (tok t r) := by
  funext j
  unfold gxB gxRow
  rw [x_row, z_row, d_row]
  have e := congr (congrArg (fun (w : FVec Ideal S3104x1024 .bf16) (g : FVec Ideal S1x1024 .f32) => row (Da m c) (tok t r) j + dnorm c1024 (row (X m c) (tok t r)) (fun i => inSum (row (Z m c) (tok t r)) w i * row g 0 i) j) (whole1 m c t)) (whole4 m c t)
  exact e
theorem dg_row (t : Fin cfg0.N) (r : Fin 512) : dgB m c t r = dgRow (X m c) (Z m c) (W m c) (tok t r) := by
  funext j
  unfold dgB dgRow
  rw [x_row, z_row]
  exact congrArg (fun (w : FVec Ideal S3104x1024 .bf16) => inSum (row (Z m c) (tok t r)) w j * _) (whole1 m c t)

/-! Where the blocks of the results lie. -/

theorem arr5 (A : S8192x1024.Idx → EReal) (h : ∀ (t : Fin cfg0.N) (r : Fin 512) (j : Fin 1024), (outsAt0 m c t.val t.isLt).1 (ix2 r j) = A (ix2 (tok t r) j)) :
    (dats m 0 c).arrAt 5 cfg0.N = A := by
  refine (dats m 0 c).arrAt_eq_of_covers 5 _ (by decide +kernel) fun t _ y => ?_
  blk_simp
  rw [after0_5]
  refine (congrArg _ (by blk_ext)).trans ((h t (y 0) (y 1)).trans (congrArg A ?_))
  blk_ext [idx t]
/-- The last grid point. -/
abbrev tLast : Fin cfg0.N := ⟨15, by decide⟩
theorem sum_tok (f : Fin 8192 → EReal) : ∑ t : Fin cfg0.N, ∑ r : Fin 512, f (tok t r) = ∑ s, f s :=
  Fin.sum_mul_add_fin 16 512 f
theorem arr6 (T : Fin 8192 → S8x1024.Idx → EReal)
    (h0 : ∀ t : Fin cfg0.N, t.val % 16 = 0 → ∀ y, (outsAt0 m c t.val t.isLt).2 y = ∑ r : Fin 512, T (tok t r) y)
    (hs : ∀ t : Fin cfg0.N, ¬ t.val % 16 = 0 → ∀ y, (outsAt0 m c t.val t.isLt).2 y = (outsAt0 m c (t.val - 1) (by omega)).2 y + ∑ r : Fin 512, T (tok t r) y) :
    (dats m 0 c).arrAt 6 cfg0.N = fun y => ∑ s, T s y := by
  refine (dats m 0 c).arrAt_eq_of_after_last 6 tLast (by decide +kernel) _ fun j => ?_
  blk_simp
  rw [after0_6, Pipeline.eq_sum_fin_of_reset_step_apply_last (fun n h => (outsAt0 m c n h).2) 16 (fun _ => 0) (fun t y => ∑ r : Fin 512, T (tok t r) y)
    (fun t h j => (h0 t h j).trans (zero_add _).symm) hs (le_of_eq N_0) tLast rfl _, zero_add]
  exact sum_tok fun s => T s j

/-! Each result as an array. -/

theorem gx_final : (dats m 0 c).arrAt 5 cfg0.N = fun i : S8192x1024.Idx => gxRow (Da m c) (X m c) (Z m c) (W m c) (G m c) (i 0) (i 1) :=
  arr5 m c _ fun t r j => (gx_blk m c t (ix2 r j)).trans (congrFun (gx_row m c t r) j)
theorem dg_final : (dats m 0 c).arrAt 6 cfg0.N = fun i : S8x1024.Idx => ∑ s, dgRow (X m c) (Z m c) (W m c) s (i 1) :=
  arr6 m c (fun s i => dgRow (X m c) (Z m c) (W m c) s (i 1))
    (fun t h y => (dg_start m c t h y).trans (Finset.sum_congr rfl fun r _ => congrFun (dg_row m c t r) (y 1)))
    (fun t h y => (dg_step m c t h y).trans (Ideal.add_congr rfl (Finset.sum_congr rfl fun r _ => congrFun (dg_row m c t r) (y 1))))

end Cert.InBwdIdeal.Hand

end
-- ==== Proof.Inp.Ref.lean ====
module

public import proofs.«01_k».proof.Proof.Inp.Final
public import proofs.«01_k».proof.Proof.Gen.InRefIdeal.Read

@[expose] public section

set_option maxRecDepth 16384

noncomputable section

open Idealize.ShloMosaic Idealize.ShloMosaic.TcCoe Idealize.SL.Sem
open Idealize.ShloMosaic.Pipeline (Dat)

namespace Cert.InRefIdeal.Read
open Norm Inp

variable (x0 : FVec Ideal S8192x1024 .f32) (x1 : FVec Ideal S8192x3104 .f32) (x2 : FVec Ideal S8192x1024 .f32) (x3 : FVec Ideal S1x1024 .f32) (x4 : FVec Ideal S1024x3104 .f32)

/-- The gradient of the normed input, times the gain. -/
abbrev u (s : Fin 8192) (j : Fin 1024) : EReal := mulT (row x1 s) x4 j * row x3 0 j

variable (s : Fin 8192)
theorem v6_at (i : S8192x1.Idx) : val_main_v6 (F := Ideal) x0 i = msq c1024 (row x0 (i 0)) := by
  rw [val_main_v6_apply, val_main_v4_apply, val_main_v2_apply, val_main_v1_apply, msq]
  refine congrArg (fun a => Ideal.div a c1024 + eps) ((zero_lit_add _).trans (Finset.sum_congr rfl fun k _ => ?_))
  rw [val_main_v0_apply, show idx_main_v1 (idx_main_v2 i) k = ix2 (i 0) k by blk_ext]
  rfl
theorem v7_at (i : S8192x1.Idx) : val_main_v7 (F := Ideal) x0 i = rinv c1024 (row x0 (i 0)) := by
  rw [val_main_v7_apply, v6_at]
  rfl
theorem v16_at (j : Fin 1024) : val_main_v16 (F := Ideal) x1 x4 (ix2 s j) = mulT (row x1 s) x4 j := by
  rw [val_main_v16_apply]
  exact Finset.sum_congr rfl fun l _ => Ideal.mul_congr (congrArg _ (by blk_ext)) (congrArg _ (by blk_ext))
theorem v17_at (j : Fin 1024) : val_main_v17 (F := Ideal) x0 x1 x4 (ix2 s j) = mulT (row x1 s) x4 j * (row x0 s j * rinv c1024 (row x0 s)) := by
  rw [val_main_v17_apply, v16_at, val_main_v12_apply, val_main_v11_apply, v7_at]
  exact mul_comm _ _
theorem v37_at (i : S8x1024.Idx) : val_main_v37 (F := Ideal) x0 x1 x4 i = ∑ s, mulT (row x1 s) x4 (i 1) * (row x0 s (i 1) * rinv c1024 (row x0 s)) := by
  rw [val_main_v37_apply, val_main_v19_apply, val_main_v18_apply]
  exact (zero_lit_add _).trans (Finset.sum_congr rfl fun s _ => (congrArg _ (by blk_ext)).trans (v17_at x0 x1 x4 s (i 1)))
theorem v21_at (j : Fin 1024) : val_main_v21 (F := Ideal) x1 x3 x4 (ix2 s j) = u x1 x3 x4 s j := by
  rw [val_main_v21_apply, v16_at, val_main_v20_apply, show idx_main_v20 (ix2 s j) = ix2 0 j by blk_ext]
  rfl
theorem v30_at : val_main_v30 (F := Ideal) x0 x1 x3 x4 (ix1 s) = dmsq c1024 (row x0 s) (u x1 x3 x4 s) := by
  rw [val_main_v30_apply, Fin.sum_univ_one, val_main_v29_apply, val_main_v27_apply, val_main_v24_apply, val_main_v23_apply, val_main_v10_apply, val_main_v8_apply, v7_at, v6_at]
  refine (zero_lit_add _).trans (congrArg (fun a => Ideal.div (a * _) c1024) ((zero_lit_add _).trans (Finset.sum_congr rfl fun k _ => ?_)))
  rw [show idx_main_v23 (idx_main_v24 (idx_main_v30 (ix1 s) 0)) k = ix2 s k by blk_ext, val_main_v22_apply, v21_at]
  rfl

/-- The argument arrays of the norm and the product hold real numbers. -/
structure Finite : Prop where
  x : ∀ i, IsReal (x0 i)
  dz : ∀ i, IsReal (x1 i)
  g : ∀ i, IsReal (x3 i)
  w : ∀ i, IsReal (x4 i)

variable {x0 x1 x3 x4} (R : Finite x0 x1 x3 x4)
include R
theorem u_real (j : Fin 1024) : IsReal (u x1 x3 x4 s j) :=
  (IsReal.sum _ fun l => (R.dz _).mul (R.w _)).mul (R.g _)
theorem v36_at (j : Fin 1024) : val_main_v36 (F := Ideal) x0 x1 x2 x3 x4 (ix2 s j) = x2 (ix2 s j) + dnorm c1024 (row x0 s) (u x1 x3 x4 s) j := by
  rw [← dnorm_eq (N := 1024) (by norm_num) c1024_eq (fun k => R.x _) (u_real s R), val_main_v36_apply, val_main_v35_apply, val_main_v33_apply, val_main_v34_apply, val_main_v32_apply, val_main_v26_apply, v21_at, val_main_v25_apply, v7_at,
    val_main_v31_apply, show idx_main_v31 (ix2 s j) = ix1 s by blk_ext, v30_at]
  rfl

end Cert.InRefIdeal.Read

namespace Cert.InBwdIdeal.Hand
open Cert.InBwdIdeal Cert.InBwdIdeal.Gen Norm Inp Cert.InRefIdeal.Read

variable (m : (ℓ : Loc nD τ sig) → Buf (Elt Ideal) ℓ) (c : Dev nD)

/-- The arguments. -/
abbrev a0 : FVec Ideal S8192x1024 .f32 := m ((c : Thread nD τ).loc main_arg0)
abbrev a1 : FVec Ideal S8192x3104 .f32 := m ((c : Thread nD τ).loc main_arg1)
abbrev a2 : FVec Ideal S8192x1024 .f32 := m ((c : Thread nD τ).loc main_arg2)
abbrev a3 : FVec Ideal S1x1024 .f32 := m ((c : Thread nD τ).loc main_arg3)
abbrev a4 : FVec Ideal S1024x3104 .f32 := m ((c : Thread nD τ).loc main_arg4)

/-! What the prologue hands the kernel call. -/

theorem Z_eq : ∃ v : FVec Ideal S_ .f32, Z m c = pad S8192x3200 ![0, 0] ![0, 96] ![0, 0] (a1 m c) v pads_S8192x3104_S8192x3200_000_0960 h_S_ := by
  refine ⟨sitofp .f32 (constantI S_ 32 0#32), ?_⟩
  show StableHlo.after (List.flatten [hostOps0, hostOps0_1, hostOps0_2]) (fun b => m (c, b)) (Proc.devRef .tc main_v1) = _
  simp only [List.flatten_cons, List.flatten_nil, List.append_nil, hostOps0, hostOps0_1, hostOps0_2, List.cons_append, List.nil_append]
  after_results
  rfl
theorem Z_at (s : Fin 8192) (l : Fin 3104) : Z m c (ix2 s ⟨l.val, by omega⟩) = a1 m c (ix2 s l) := by
  obtain ⟨v, e⟩ := Z_eq m c
  rw [e]
  pointwise []
theorem W_eq : W m c = fun i => a4 m c (ix2 (i 1) (i 0)) := by
  show StableHlo.after (List.flatten [hostOps0, hostOps0_1, hostOps0_2]) (fun b => m (c, b)) (Proc.devRef .tc main_v3) = _
  simp only [List.flatten_cons, List.flatten_nil, List.append_nil, hostOps0, hostOps0_1, hostOps0_2, List.cons_append, List.nil_append]
  after_results
  funext i
  exact congrArg (a4 m c) (by funext a; fin_cases a <;> rfl)
theorem args_eq : Da m c = a2 m c ∧ X m c = a0 m c ∧ G m c = a3 m c := ⟨V_main_arg2 m c, V_main_arg0 m c, V_main_arg3 m c⟩
theorem in_eq (s : Fin 8192) (j : Fin 1024) : inSum (row (Z m c) s) (W m c) j = mulT (row (a1 m c) s) (a4 m c) j :=
  Finset.sum_congr rfl fun l _ => Ideal.mul_congr (Z_at m c s l) (congrFun (W_eq m c) _)

/-! The results are the reference's. -/

theorem dg_eq : (dats m 0 c).arrAt 6 cfg0.N = val_main_v37 (F := Ideal) (a0 m c) (a1 m c) (a4 m c) := by
  rw [dg_final, (args_eq m c).2.1]
  exact funext fun i => ((v37_at _ _ _ i).trans (Finset.sum_congr rfl fun s _ => (Ideal.mul_congr (in_eq m c s (i 1)) rfl).symm)).symm
theorem gx_eq (R : Finite (a0 m c) (a1 m c) (a3 m c) (a4 m c)) :
    (dats m 0 c).arrAt 5 cfg0.N = val_main_v36 (F := Ideal) (a0 m c) (a1 m c) (a2 m c) (a3 m c) (a4 m c) := by
  rw [gx_final, (args_eq m c).1, (args_eq m c).2.1, (args_eq m c).2.2]
  refine funext fun i => Eq.trans ?_ ((congrArg (val_main_v36 (F := Ideal) _ _ _ _ _) ?_).trans (v36_at _ (i 0) R (i 1))).symm
  · exact Ideal.add_congr rfl (congr (congrArg _ (funext fun j => Ideal.mul_congr (in_eq m c (i 0) j) rfl)) rfl)
  · blk_ext

end Cert.InBwdIdeal.Hand

end
-- ==== Proof.Inp.Claims.lean ====
module

public import proofs.«01_k».proof.Defs
public import proofs.«01_k».proof.Proof.Gen.InBwd
public import proofs.«01_k».proof.Proof.Gen.InRefIdeal.Run
public import proofs.«01_k».proof.Pre_inproj_finite
public import proofs.«01_k».proof.Proof.Inp.Ref
public import Idealize.ShloMosaic.Lib.Quiescent

/-! # The projections' backward call: its claims -/

@[expose] public section

set_option maxRecDepth 16384

noncomputable section

open Idealize.ShloMosaic Idealize.ShloMosaic.TcCoe Idealize.SL.Sem

namespace Cert.Proof.Inp

instance : Cert.InBwd.Facts := Cert.InBwd.Gen.facts
instance : Cert.InBwdIdeal.Facts := Cert.InBwdIdeal.Gen.facts
instance : Cert.InRefIdeal.Facts := Cert.InRefIdeal.Gen.facts
instance finite_facts : Cert.Pre_inproj_finite.Facts := by constructor <;> decide

theorem frame_ideal : Cert.quiescent_InBwdIdeal := fun m ρ _ => Cert.InBwdIdeal.Gen.frame m ρ

theorem frame_ideal_finite : Cert.quiescent_InBwdIdeal_pre_inproj_finite := fun m ρ _ => Cert.InBwdIdeal.Gen.frame m ρ

/-- The bit-level program has the same text, so the same run gives its frame. -/
theorem frame_kernel : Cert.quiescent_InBwd := by
  have h : ∀ (m : (ℓ : Loc Cert.InBwdIdeal.nD Cert.InBwdIdeal.τ Cert.InBwdIdeal.sig) → Buf (Elt Bits) ℓ) (ρ : Dev Cert.InBwdIdeal.nD → PrngReg), True → _ :=
    fun m ρ _ => Cert.InBwdIdeal.Gen.frame (F := Bits) m ρ
  exact cast (by sl_kernel_rfl) h

theorem frame_reference : Cert.quiescent_InRefIdeal := fun m ρ _ =>
  (θ_run _ _ _).mono (fun r h => ⟨fun c => (h c).2.2, sem_eq_zero_of_no_sems (by decide) r.2⟩) (Cert.InRefIdeal.Value.run m ρ)

theorem frame_reference_finite : Cert.quiescent_InRefIdeal_pre_inproj_finite := fun m ρ _ => frame_reference m ρ trivial

/-- The precondition says that the named arguments hold real numbers. -/
theorem finite_of_pre (m : (ℓ : Loc Cert.InBwdIdeal.nD Cert.InBwdIdeal.τ Cert.InBwdIdeal.sig) → Buf (Elt Ideal) ℓ)
    (h : Cert.Pre_InBwdIdeal_inproj_finite m) (c : Dev Cert.InBwdIdeal.nD) :
    Cert.InRefIdeal.Read.Finite (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) where
  x i := Norm.IsReal.of_abs (congrFun (h c).1 i)
  dz i := Norm.IsReal.of_abs (congrFun (h c).2.1 i)
  g i := Norm.IsReal.of_abs (congrFun (h c).2.2.1 i)
  w i := Norm.IsReal.of_abs (congrFun (h c).2.2.2 i)

set_option maxHeartbeats 1000000 in
theorem value : Cert.algebraic_InBwdIdeal_InRefIdeal_pre_inproj_finite := fun m ρ m' ρ' hf hag =>
  ⟨fun c => (Cert.InBwdIdeal.Gen.dats m 0 c).arrAt 5 Cert.InBwdIdeal.cfg0.N, fun c => (Cert.InBwdIdeal.Gen.dats m 0 c).arrAt 6 Cert.InBwdIdeal.cfg0.N,
    Cert.InBwdIdeal.Value.run_blocks m ρ,
    (θ_run _ _ _).mono (fun _ h c => by
      obtain ⟨h0, h1, h2, h3, h4⟩ := hag c
      have H := finite_of_pre m hf c
      refine ⟨((h c).1.trans (Cert.InRefIdeal.Read.val_main_v36_eq _ _)).trans ?_,
        ((h c).2.1.trans (Cert.InRefIdeal.Read.val_main_v37_eq _ _ _)).trans ?_, (h c).2.2⟩
      · rw [h0, h1, h2, h3, h4]; exact (Cert.InBwdIdeal.Hand.gx_eq m c H).symm
      · rw [h0, h1, h4]; exact (Cert.InBwdIdeal.Hand.dg_eq m c).symm) (Cert.InRefIdeal.Value.run m' ρ')⟩

end Cert.Proof.Inp

end
-- ==== Proof.Loss.Blocks.lean ====
module

public import proofs.«01_k».proof.Proof.Gen.LossBwdIdeal.Value
public import proofs.«01_k».proof.Proof.Shared.Hidden

/-! # The loss call: what a grid point stores -/

@[expose] public section

set_option maxRecDepth 16384

noncomputable section

open Idealize.ShloMosaic Idealize.ShloMosaic.TcCoe Idealize.SL.Sem
open Idealize.ShloMosaic.Pipeline (Dat)

namespace Loss
open Norm

/-! One token's row `X`: its norm, hidden values and residual `x3R`, the error of the final norm against the target `T`, the cotangent
of the final norm and the loss. -/

section Rows
variable (X T : Fin 1024 → EReal) (g f : Fin 1024 → EReal) (wu wd : (⟨2, ![4096, 1024]⟩ : Shape).Idx → EReal)
def xnR (j : Fin 1024) : EReal := X j * rinv c1024 X * g j
def hR (j : Fin 4096) : EReal := mulT (xnR X g) wu j
def x3R (j : Fin 1024) : EReal := X j + mulN (fun l => square (hR X g wu l)) wd j
def errR (j : Fin 1024) : EReal := xnR X f j - T j
def dyR (j : Fin 1024) : EReal := errR X T f j * Ideal.ofBits .f32 0x3A800000#32
def dxR (j : Fin 1024) : EReal := dnorm c1024 X (fun i => dyR X T f i * f i) j
def dfR (j : Fin 1024) : EReal := dyR X T f j * (X j * rinv c1024 X)
def lossR : EReal := Ideal.div (∑ j, errR X T f j * errR X T f j) c1024
end Rows
end Loss

namespace Cert.LossBwdIdeal.Hand
open Cert.LossBwdIdeal Cert.LossBwdIdeal.Gen Norm Loss

section Pieces
variable (x t : FVec Ideal S512x1024 .f32) (g f : FVec Ideal S1x1024 .f32) (w wd : FVec Ideal S4096x1024 .bf16)

theorem xn_apply (r : Fin 512) (j : Fin 1024) : k0_pay4 (F := Ideal) x g (ix2 r j) = xnR (row x r) (row g 0) j := by
  pointwise [k0_pay4, xnR, rinv, msq]

/-- The hidden values of a block and their squares, as the body stores them: eight column pieces. -/
abbrev hPieces : List (View.Piece (Elt Ideal) S512x4096 .bf16) :=
  [⟨Rect.unit (s := S512x4096) ![0, 3584] ![512, 512] inb_S512x4096_S512x512_0_3584, k0_pay29 (F := Ideal) (k0_pay4 x g) (View.ld w (Rect.unit (s := S4096x1024) ![3584, 0] ![512, 1024] inb_S4096x1024_S512x1024_3584_0))⟩,
   ⟨Rect.unit (s := S512x4096) ![0, 3072] ![512, 512] inb_S512x4096_S512x512_0_3072, k0_pay25 (F := Ideal) (k0_pay4 x g) (View.ld w (Rect.unit (s := S4096x1024) ![3072, 0] ![512, 1024] inb_S4096x1024_S512x1024_3072_0))⟩,
   ⟨Rect.unit (s := S512x4096) ![0, 2560] ![512, 512] inb_S512x4096_S512x512_0_2560, k0_pay22 (F := Ideal) (k0_pay4 x g) (View.ld w (Rect.unit (s := S4096x1024) ![2560, 0] ![512, 1024] inb_S4096x1024_S512x1024_2560_0))⟩,
   ⟨Rect.unit (s := S512x4096) ![0, 2048] ![512, 512] inb_S512x4096_S512x512_0_2048, k0_pay19 (F := Ideal) (k0_pay4 x g) (View.ld w (Rect.unit (s := S4096x1024) ![2048, 0] ![512, 1024] inb_S4096x1024_S512x1024_2048_0))⟩,
   ⟨Rect.unit (s := S512x4096) ![0, 1536] ![512, 512] inb_S512x4096_S512x512_0_1536, k0_pay16 (F := Ideal) (k0_pay4 x g) (View.ld w (Rect.unit (s := S4096x1024) ![1536, 0] ![512, 1024] inb_S4096x1024_S512x1024_1536_0))⟩,
   ⟨Rect.unit (s := S512x4096) ![0, 1024] ![512, 512] inb_S512x4096_S512x512_0_1024, k0_pay13 (F := Ideal) (k0_pay4 x g) (View.ld w (Rect.unit (s := S4096x1024) ![1024, 0] ![512, 1024] inb_S4096x1024_S512x1024_1024_0))⟩,
   ⟨Rect.unit (s := S512x4096) ![0, 512] ![512, 512] inb_S512x4096_S512x512_0_512, k0_pay10 (F := Ideal) (k0_pay4 x g) (k0_pay8 (View.ld w (Rect.unit (s := S4096x1024) ![512, 0] ![512, 1024] inb_S4096x1024_S512x1024_512_0))) (constant S512x512 .f32 0x00000000#32)⟩,
   ⟨Rect.unit (s := S512x4096) ![0, 0] ![512, 512] inb_S512x4096_S512x512_0_0, k0_pay6 (F := Ideal) x g (View.ld w (Rect.unit (s := S4096x1024) ![0, 0] ![512, 1024] inb_S4096x1024_S512x1024_0_0))⟩]
abbrev sPieces : List (View.Piece (Elt Ideal) S512x4096 .bf16) :=
  [⟨Rect.unit (s := S512x4096) ![0, 3584] ![512, 512] inb_S512x4096_S512x512_0_3584, k0_pay30 (F := Ideal) (k0_pay4 x g) (View.ld w (Rect.unit (s := S4096x1024) ![3584, 0] ![512, 1024] inb_S4096x1024_S512x1024_3584_0))⟩,
   ⟨Rect.unit (s := S512x4096) ![0, 3072] ![512, 512] inb_S512x4096_S512x512_0_3072, k0_pay27 (F := Ideal) (k0_pay26 (k0_pay4 x g) (View.ld w (Rect.unit (s := S4096x1024) ![3072, 0] ![512, 1024] inb_S4096x1024_S512x1024_3072_0)))⟩,
   ⟨Rect.unit (s := S512x4096) ![0, 2560] ![512, 512] inb_S512x4096_S512x512_0_2560, k0_pay23 (F := Ideal) (k0_pay4 x g) (View.ld w (Rect.unit (s := S4096x1024) ![2560, 0] ![512, 1024] inb_S4096x1024_S512x1024_2560_0))⟩,
   ⟨Rect.unit (s := S512x4096) ![0, 2048] ![512, 512] inb_S512x4096_S512x512_0_2048, k0_pay20 (F := Ideal) (k0_pay4 x g) (View.ld w (Rect.unit (s := S4096x1024) ![2048, 0] ![512, 1024] inb_S4096x1024_S512x1024_2048_0))⟩,
   ⟨Rect.unit (s := S512x4096) ![0, 1536] ![512, 512] inb_S512x4096_S512x512_0_1536, k0_pay17 (F := Ideal) (k0_pay4 x g) (View.ld w (Rect.unit (s := S4096x1024) ![1536, 0] ![512, 1024] inb_S4096x1024_S512x1024_1536_0))⟩,
   ⟨Rect.unit (s := S512x4096) ![0, 1024] ![512, 512] inb_S512x4096_S512x512_0_1024, k0_pay14 (F := Ideal) (k0_pay4 x g) (View.ld w (Rect.unit (s := S4096x1024) ![1024, 0] ![512, 1024] inb_S4096x1024_S512x1024_1024_0))⟩,
   ⟨Rect.unit (s := S512x4096) ![0, 512] ![512, 512] inb_S512x4096_S512x512_0_512, k0_pay11 (F := Ideal) (k0_pay4 x g) (k0_pay8 (View.ld w (Rect.unit (s := S4096x1024) ![512, 0] ![512, 1024] inb_S4096x1024_S512x1024_512_0))) (constant S512x512 .f32 0x00000000#32)⟩,
   ⟨Rect.unit (s := S512x4096) ![0, 0] ![512, 512] inb_S512x4096_S512x512_0_0, k0_pay7 (F := Ideal) x g (View.ld w (Rect.unit (s := S4096x1024) ![0, 0] ![512, 1024] inb_S4096x1024_S512x1024_0_0))⟩]
theorem h_arg (y : S512x4096.Idx) : View.canon (hPieces x g w) y = mulT (row (k0_pay4 (F := Ideal) x g) (y 0)) w (y 1) := by
  generalize hn : k0_pay4 (F := Ideal) x g = n
  canon_tiles z hx
  all_goals pointwise [hn, mulT, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals obtain ⟨i, ⟨v, hv⟩, rfl⟩ : ∃ (i : Fin 512) (j : Fin 4096), y = ix2 i j := ⟨y 0, y 1, by blk_ext⟩
  all_goals obtain rfl : i = z 0 := Fin.ext hx0
  all_goals obtain rfl : v = _ := hx1
  all_goals rfl
theorem s_arg (y : S512x4096.Idx) : View.canon (sPieces x g w) y = square (mulT (row (k0_pay4 (F := Ideal) x g) (y 0)) w (y 1)) := by
  generalize hn : k0_pay4 (F := Ideal) x g = n
  canon_tiles z hx
  all_goals pointwise [hn, mulT, square, relu, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  all_goals obtain ⟨i, ⟨v, hv⟩, rfl⟩ : ∃ (i : Fin 512) (j : Fin 4096), y = ix2 i j := ⟨y 0, y 1, by blk_ext⟩
  all_goals obtain rfl : i = z 0 := Fin.ext hx0
  all_goals obtain rfl : v = _ := hx1
  all_goals rfl
theorem xn_row (r : Fin 512) : row (k0_pay4 (F := Ideal) x g) r = xnR (row x r) (row g 0) := funext fun j => xn_apply x g r j
theorem h_canon (r : Fin 512) (j : Fin 4096) : View.canon (hPieces x g w) (ix2 r j) = hR (row x r) (row g 0) w j :=
  (h_arg x g w _).trans (congrArg (fun a => mulT a w j) (xn_row x g r))
theorem s_canon (r : Fin 512) (j : Fin 4096) : View.canon (sPieces x g w) (ix2 r j) = square (hR (row x r) (row g 0) w j) :=
  (s_arg x g w _).trans (congrArg (fun a => square (mulT a w j)) (xn_row x g r))

/-! The rest of the body, from the residual `p`. -/

section Tail
variable (ab : FVec Ideal S512x4096 .bf16)
theorem x3_apply (r : Fin 512) (j : Fin 1024) : k0_pay31 (F := Ideal) x ab wd (ix2 r j) = row x r j + mulN (row ab r) wd j := by
  pointwise [k0_pay31, mulN]
theorem dx_apply (r : Fin 512) (j : Fin 1024) : k0_pay38 (F := Ideal) (k0_pay31 x ab wd) (k0_pay32 x ab wd) (k0_pay33 x ab wd f) t f (ix2 r j)
    = dxR (row (k0_pay31 (F := Ideal) x ab wd) r) (row t r) (row f 0) j := by
  generalize hp : k0_pay31 (F := Ideal) x ab wd = p
  pointwise [k0_pay38, k0_pay37, k0_pay36, k0_pay34, k0_pay33, k0_pay32, hp, dxR, dyR, errR, xnR, dnorm, rinv, msq]
theorem df_apply (o : FVec Ideal S8x1024 .f32) (i : S8x1024.Idx) : k0_pay1 (F := Ideal) (k0_pay39 (k0_pay31 x ab wd) (k0_pay32 x ab wd) (k0_pay33 x ab wd f) t) o i
    = o i + ∑ r : Fin 512, dfR (row (k0_pay31 (F := Ideal) x ab wd) r) (row t r) (row f 0) (i 1) := by
  generalize hp : k0_pay31 (F := Ideal) x ab wd = p
  pointwise [k0_pay1, k0_pay39, k0_pay37, k0_pay36, k0_pay34, k0_pay33, k0_pay32, hp, dfR, dyR, errR, xnR, rinv, msq]
theorem loss_apply (o : FVec Ideal S8x128 .f32) (i : S8x128.Idx) : k0_pay35 (F := Ideal) (k0_pay33 x ab wd f) t o i
    = o i + Ideal.ofBits .f32 0x3F000000#32 * ∑ r : Fin 512, lossR (row (k0_pay31 (F := Ideal) x ab wd) r) (row t r) (row f 0) := by
  generalize hp : k0_pay31 (F := Ideal) x ab wd = p
  pointwise [k0_pay35, k0_pay34, k0_pay33, k0_pay32, hp, lossR, errR, xnR, rinv, msq]
end Tail
end Pieces

variable (m : (ℓ : Loc nD τ sig) → Buf (Elt Ideal) ℓ) (c : Dev nD) (t : Fin cfg0.N)

/-- A row of the block's tokens and of the targets, the gains, and the row's residual. -/
abbrev xB (r : Fin 512) := row (iblk m c 0 t : FVec Ideal S512x1024 .f32) r
abbrev tB (r : Fin 512) := row (iblk m c 5 t : FVec Ideal S512x1024 .f32) r
abbrev gB := row (iblk m c 1 t : FVec Ideal S1x1024 .f32) 0
abbrev fB := row (iblk m c 4 t : FVec Ideal S1x1024 .f32) 0
abbrev x3B (r : Fin 512) := x3R (xB m c t r) (gB m c t) (iblk m c 2 t : FVec Ideal S4096x1024 .bf16) (iblk m c 3 t : FVec Ideal S4096x1024 .bf16)

/-- The squares of the block's hidden values, as the body reads them back. -/
def abB : FVec Ideal S512x4096 .bf16 := View.canon (sPieces (iblk m c 0 t) (iblk m c 1 t) (iblk m c 2 t))
theorem ab_read : (View.whole cc0_scratch0).readCov (sPieces (iblk m c 0 t) (iblk m c 1 t) (iblk m c 2 t))
    (Rect.unit (s := S512x4096) ![0, 0] ![512, 4096] inb_S512x4096_S512x4096_0_0).toLoadRect = abB m c t := by
  rw [View.readCov_eq_canon']
  exact View.ld_unit_lit _ _ (by decide)
theorem x3_row (r : Fin 512) : row (k0_pay31 (F := Ideal) (iblk m c 0 t) (abB m c t) (iblk m c 3 t)) r = x3B m c t r := by
  funext j
  refine (x3_apply _ _ _ r j).trans (congrArg (fun a => xB m c t r j + mulN a (iblk m c 3 t : FVec Ideal S4096x1024 .bf16) j) (funext fun l => ?_))
  exact s_canon (iblk m c 0 t) (iblk m c 1 t) (iblk m c 2 t) r l

theorem h_blk (r : Fin 512) (j : Fin 4096) : (outsAt0 m c t.val t.isLt).1 (ix2 r j) = hR (xB m c t r) (gB m c t) (iblk m c 2 t : FVec Ideal S4096x1024 .bf16) j := by
  refine Eq.trans ?_ (h_canon (iblk m c 0 t) (iblk m c 1 t) (iblk m c 2 t) r j)
  by_cases h : t.val % 16 = 0
  · rw [outsAt0_A m c t h]; frame_out
  · rw [outsAt0_B m c t h]; frame_out
theorem xn_blk (r : Fin 512) (j : Fin 1024) : (outsAt0 m c t.val t.isLt).2.1 (ix2 r j) = xnR (xB m c t r) (gB m c t) j := by
  refine Eq.trans ?_ (xn_apply (iblk m c 0 t) (iblk m c 1 t) r j)
  by_cases h : t.val % 16 = 0
  · rw [outsAt0_A m c t h]; frame_out
  · rw [outsAt0_B m c t h]; frame_out
theorem dx_arg (r : Fin 512) (j : Fin 1024) : k0_pay38 (F := Ideal) (k0_pay31 (iblk m c 0 t) (abB m c t) (iblk m c 3 t)) (k0_pay32 (iblk m c 0 t) (abB m c t) (iblk m c 3 t))
    (k0_pay33 (iblk m c 0 t) (abB m c t) (iblk m c 3 t) (iblk m c 4 t)) (iblk m c 5 t) (iblk m c 4 t) (ix2 r j) = dxR (x3B m c t r) (tB m c t r) (fB m c t) j := by
  rw [← x3_row]
  exact dx_apply _ _ _ _ _ r j
theorem dx_blk (r : Fin 512) (j : Fin 1024) : (outsAt0 m c t.val t.isLt).2.2.1 (ix2 r j) = dxR (x3B m c t r) (tB m c t r) (fB m c t) j := by
  rw [← dx_arg, ← ab_read]
  by_cases h : t.val % 16 = 0
  · rw [outsAt0_A m c t h]; frame_out
  · rw [outsAt0_B m c t h]; frame_out
theorem dxb_blk (r : Fin 512) (j : Fin 1024) : (outsAt0 m c t.val t.isLt).2.2.2.1 (ix2 r j) = dxR (x3B m c t r) (tB m c t r) (fB m c t) j := by
  rw [← dx_arg, ← ab_read]
  by_cases h : t.val % 16 = 0
  · rw [outsAt0_A m c t h]; frame_out; rfl
  · rw [outsAt0_B m c t h]; frame_out; rfl

/-- What a block adds to the loss and to the final gain's gradient. -/
def lossB : EReal := Ideal.ofBits .f32 0x3F000000#32 * ∑ r : Fin 512, lossR (x3B m c t r) (tB m c t r) (fB m c t)
def dfB (y : S8x1024.Idx) : EReal := ∑ r : Fin 512, dfR (x3B m c t r) (tB m c t r) (fB m c t) (y 1)
theorem loss_arg (o : FVec Ideal S8x128 .f32) (y : S8x128.Idx) : k0_pay35 (F := Ideal) (k0_pay33 (iblk m c 0 t) (abB m c t) (iblk m c 3 t) (iblk m c 4 t)) (iblk m c 5 t) o y = o y + lossB m c t := by
  refine (loss_apply _ _ _ _ _ o y).trans (congrArg (fun a => o y + Ideal.ofBits .f32 0x3F000000#32 * a) (Finset.sum_congr rfl fun r _ => ?_))
  rw [← x3_row]
theorem df_arg (o : FVec Ideal S8x1024 .f32) (y : S8x1024.Idx) : k0_pay1 (F := Ideal) (k0_pay39 (k0_pay31 (iblk m c 0 t) (abB m c t) (iblk m c 3 t)) (k0_pay32 (iblk m c 0 t) (abB m c t) (iblk m c 3 t))
    (k0_pay33 (iblk m c 0 t) (abB m c t) (iblk m c 3 t) (iblk m c 4 t)) (iblk m c 5 t)) o y = o y + dfB m c t y := by
  refine (df_apply _ _ _ _ _ o y).trans (Ideal.add_congr rfl (Finset.sum_congr rfl fun r _ => ?_))
  rw [← x3_row]
theorem loss_step (h : ¬ t.val % 16 = 0) (y : S8x128.Idx) : (outsAt0 m c t.val t.isLt).2.2.2.2.1 y = (outsAt0 m c (t.val - 1) (by omega)).2.2.2.2.1 y + lossB m c t := by
  rw [← loss_arg, ← ab_read, outsAt0_B m c t h]; frame_out
theorem loss_start (h : t.val % 16 = 0) (y : S8x128.Idx) : (outsAt0 m c t.val t.isLt).2.2.2.2.1 y = lossB m c t := by
  refine Eq.trans ?_ ((loss_arg m c t k0_pay2 y).trans ((Ideal.add_congr (by pointwise [k0_pay2]) rfl).trans (zero_add _)))
  rw [← ab_read, outsAt0_A m c t h]; frame_out
theorem df_step (h : ¬ t.val % 16 = 0) (y : S8x1024.Idx) : (outsAt0 m c t.val t.isLt).2.2.2.2.2 y = (outsAt0 m c (t.val - 1) (by omega)).2.2.2.2.2 y + dfB m c t y := by
  rw [← df_arg, ← ab_read, outsAt0_B m c t h]; frame_out
theorem df_start (h : t.val % 16 = 0) (y : S8x1024.Idx) : (outsAt0 m c t.val t.isLt).2.2.2.2.2 y = dfB m c t y := by
  refine Eq.trans ?_ ((df_arg m c t k0_pay3 y).trans ((Ideal.add_congr (by pointwise [k0_pay3]) rfl).trans (zero_add _)))
  rw [← ab_read, outsAt0_A m c t h]; frame_out

end Cert.LossBwdIdeal.Hand

end
-- ==== Proof.Loss.Final.lean ====
module

public import proofs.«01_k».proof.Proof.Loss.Blocks

@[expose] public section

set_option maxRecDepth 16384

noncomputable section

open Idealize.ShloMosaic Idealize.ShloMosaic.TcCoe Idealize.SL.Sem
open Idealize.ShloMosaic.Pipeline (Dat)

namespace Cert.LossBwdIdeal.Hand
open Cert.LossBwdIdeal Cert.LossBwdIdeal.Gen Norm Loss

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The token of row `r` of block `t`. -/
abbrev tok (t : Fin cfg0.N) (r : Fin 512) : Fin 8192 := ⟨t.val * 512 + r.val, by have := t.isLt; have : cfg0.N = 16 := N_0; omega⟩

section Blocks
variable (t : Fin cfg0.N) (r : Fin 512)
theorem x_row : row (iblk m c 0 t : FVec Ideal S512x1024 .f32) r = row (V m c main_arg0 : FVec Ideal S8192x1024 .f32) (tok t r) := by
  funext j
  show View.read (Elt Ideal) ((cfg0.win 0).blk t).view (V m c main_arg0) (ix2 r j) = V m c main_arg0 (ix2 (tok t r) j)
  generalize V m c main_arg0 = A
  blk_ext! [idx t]
theorem t_row : row (iblk m c 5 t : FVec Ideal S512x1024 .f32) r = row (V m c main_arg1 : FVec Ideal S8192x1024 .f32) (tok t r) := by
  funext j
  show View.read (Elt Ideal) ((cfg0.win 5).blk t).view (V m c main_arg1) (ix2 r j) = V m c main_arg1 (ix2 (tok t r) j)
  generalize V m c main_arg1 = A
  blk_ext! [idx t]
theorem whole1 : iblk m c 1 t = V m c main_arg2 := by
  show View.read (Elt Ideal) ((cfg0.win 1).blk t).view (V m c main_arg2) = V m c main_arg2
  generalize V m c main_arg2 = A
  blk_ext! [idx t]
theorem whole2 : iblk m c 2 t = V m c main_v1 := by
  show View.read (Elt Ideal) ((cfg0.win 2).blk t).view (V m c main_v1) = V m c main_v1
  generalize V m c main_v1 = A
  blk_ext! [idx t]
theorem whole3 : iblk m c 3 t = V m c main_v2 := by
  show View.read (Elt Ideal) ((cfg0.win 3).blk t).view (V m c main_v2) = V m c main_v2
  generalize V m c main_v2 = A
  blk_ext! [idx t]
theorem whole4 : iblk m c 4 t = V m c main_arg5 := by
  show View.read (Elt Ideal) ((cfg0.win 4).blk t).view (V m c main_arg5) = V m c main_arg5
  generalize V m c main_arg5 = A
  blk_ext! [idx t]
end Blocks

/-- The arrays as the kernel call finds them, and a token's residual. -/
abbrev X : FVec Ideal S8192x1024 .f32 := V m c main_arg0
abbrev T : FVec Ideal S8192x1024 .f32 := V m c main_arg1
abbrev G : FVec Ideal S1x1024 .f32 := V m c main_arg2
abbrev Wu : FVec Ideal S4096x1024 .bf16 := V m c main_v1
abbrev Wd : FVec Ideal S4096x1024 .bf16 := V m c main_v2
abbrev Fg : FVec Ideal S1x1024 .f32 := V m c main_arg5
abbrev x3V (s : Fin 8192) := x3R (row (X m c) s) (row (G m c) 0) (Wu m c) (Wd m c)

theorem g_eq (t : Fin cfg0.N) : gB m c t = row (G m c) 0 := congrArg (fun a : FVec Ideal S1x1024 .f32 => row a 0) (whole1 m c t)
theorem f_eq (t : Fin cfg0.N) : fB m c t = row (Fg m c) 0 := congrArg (fun a : FVec Ideal S1x1024 .f32 => row a 0) (whole4 m c t)
theorem x3_tok (t : Fin cfg0.N) (r : Fin 512) : x3B m c t r = x3V m c (tok t r) := by
  unfold x3B xB
  rw [x_row, g_eq]
  have e := congr (congrArg (fun wu wd : FVec Ideal S4096x1024 .bf16 => x3R (row (X m c) (tok t r)) (row (G m c) 0) wu wd) (whole2 m c t)) (whole3 m c t)
  exact e

/-! Where the blocks of the results lie. -/

theorem arr6 (A : S8192x4096.Idx → EReal) (h : ∀ (t : Fin cfg0.N) (r : Fin 512) (j : Fin 4096), (outsAt0 m c t.val t.isLt).1 (ix2 r j) = A (ix2 (tok t r) j)) :
    (dats m 0 c).arrAt 6 cfg0.N = A := by
  refine (dats m 0 c).arrAt_eq_of_covers 6 _ (by decide +kernel) fun t _ y => ?_
  blk_simp
  rw [after0_6]
  refine (congrArg _ (by blk_ext)).trans ((h t (y 0) (y 1)).trans (congrArg A ?_))
  blk_ext [idx t]
theorem arr7 (A : S8192x1024.Idx → EReal) (h : ∀ (t : Fin cfg0.N) (r : Fin 512) (j : Fin 1024), (outsAt0 m c t.val t.isLt).2.1 (ix2 r j) = A (ix2 (tok t r) j)) :
    (dats m 0 c).arrAt 7 cfg0.N = A := by
  refine (dats m 0 c).arrAt_eq_of_covers 7 _ (by decide +kernel) fun t _ y => ?_
  blk_simp
  rw [after0_7]
  refine (congrArg _ (by blk_ext)).trans ((h t (y 0) (y 1)).trans (congrArg A ?_))
  blk_ext [idx t]
theorem arr8 (A : S8192x1024.Idx → EReal) (h : ∀ (t : Fin cfg0.N) (r : Fin 512) (j : Fin 1024), (outsAt0 m c t.val t.isLt).2.2.1 (ix2 r j) = A (ix2 (tok t r) j)) :
    (dats m 0 c).arrAt 8 cfg0.N = A := by
  refine (dats m 0 c).arrAt_eq_of_covers 8 _ (by decide +kernel) fun t _ y => ?_
  blk_simp
  rw [after0_8]
  refine (congrArg _ (by blk_ext)).trans ((h t (y 0) (y 1)).trans (congrArg A ?_))
  blk_ext [idx t]
theorem arr9 (A : S8192x1024.Idx → EReal) (h : ∀ (t : Fin cfg0.N) (r : Fin 512) (j : Fin 1024), (outsAt0 m c t.val t.isLt).2.2.2.1 (ix2 r j) = A (ix2 (tok t r) j)) :
    (dats m 0 c).arrAt 9 cfg0.N = A := by
  refine (dats m 0 c).arrAt_eq_of_covers 9 _ (by decide +kernel) fun t _ y => ?_
  blk_simp
  rw [after0_9]
  refine (congrArg _ (by blk_ext)).trans ((h t (y 0) (y 1)).trans (congrArg A ?_))
  blk_ext [idx t]
/-- The last grid point. -/
abbrev tLast : Fin cfg0.N := ⟨15, by decide⟩
theorem sum_tok (f : Fin 8192 → EReal) : ∑ t : Fin cfg0.N, ∑ r : Fin 512, f (tok t r) = ∑ s, f s :=
  Fin.sum_mul_add_fin 16 512 f

theorem arr10 : (dats m 0 c).arrAt 10 cfg0.N = fun _ : S8x128.Idx => ∑ t, lossB m c t := by
  refine (dats m 0 c).arrAt_eq_of_after_last 10 tLast (by decide +kernel) _ fun j => ?_
  blk_simp
  rw [after0_10, Pipeline.eq_sum_fin_of_reset_step_apply_last (fun n h => (outsAt0 m c n h).2.2.2.2.1) 16 (fun _ => 0) (fun t _ => lossB m c t)
    (fun t h j => (loss_start m c t h j).trans (zero_add _).symm) (loss_step m c) (le_of_eq N_0) tLast rfl _, zero_add]
theorem arr11 (T : Fin 8192 → S8x1024.Idx → EReal)
    (h0 : ∀ t : Fin cfg0.N, t.val % 16 = 0 → ∀ y, (outsAt0 m c t.val t.isLt).2.2.2.2.2 y = ∑ r : Fin 512, T (tok t r) y)
    (hs : ∀ t : Fin cfg0.N, ¬ t.val % 16 = 0 → ∀ y, (outsAt0 m c t.val t.isLt).2.2.2.2.2 y = (outsAt0 m c (t.val - 1) (by omega)).2.2.2.2.2 y + ∑ r : Fin 512, T (tok t r) y) :
    (dats m 0 c).arrAt 11 cfg0.N = fun y => ∑ s, T s y := by
  refine (dats m 0 c).arrAt_eq_of_after_last 11 tLast (by decide +kernel) _ fun j => ?_
  blk_simp
  rw [after0_11, Pipeline.eq_sum_fin_of_reset_step_apply_last (fun n h => (outsAt0 m c n h).2.2.2.2.2) 16 (fun _ => 0) (fun t y => ∑ r : Fin 512, T (tok t r) y)
    (fun t h j => (h0 t h j).trans (zero_add _).symm) hs (le_of_eq N_0) tLast rfl _, zero_add]
  exact sum_tok fun s => T s j

/-! Each result as an array. -/

theorem h_final : (dats m 0 c).arrAt 6 cfg0.N = fun i : S8192x4096.Idx => hR (row (X m c) (i 0)) (row (G m c) 0) (Wu m c) (i 1) :=
  arr6 m c _ fun t r j => (h_blk m c t r j).trans (by
    unfold xB
    rw [x_row, g_eq]
    exact congrArg (fun w : FVec Ideal S4096x1024 .bf16 => hR (row (X m c) (tok t r)) (row (G m c) 0) w j) (whole2 m c t))
theorem xn_final : (dats m 0 c).arrAt 7 cfg0.N = fun i : S8192x1024.Idx => xnR (row (X m c) (i 0)) (row (G m c) 0) (i 1) :=
  arr7 m c _ fun t r j => (xn_blk m c t r j).trans (by unfold xB; rw [x_row, g_eq]; rfl)
theorem dx_tok (t : Fin cfg0.N) (r : Fin 512) : dxR (x3B m c t r) (tB m c t r) (fB m c t) = dxR (x3V m c (tok t r)) (row (T m c) (tok t r)) (row (Fg m c) 0) := by
  rw [x3_tok, f_eq]; unfold tB; rw [t_row]
theorem dx_final : (dats m 0 c).arrAt 8 cfg0.N = fun i : S8192x1024.Idx => dxR (x3V m c (i 0)) (row (T m c) (i 0)) (row (Fg m c) 0) (i 1) :=
  arr8 m c _ fun t r j => (dx_blk m c t r j).trans (congrFun (dx_tok m c t r) j)
theorem dxb_final : (dats m 0 c).arrAt 9 cfg0.N = fun i : S8192x1024.Idx => dxR (x3V m c (i 0)) (row (T m c) (i 0)) (row (Fg m c) 0) (i 1) :=
  arr9 m c _ fun t r j => (dxb_blk m c t r j).trans (congrFun (dx_tok m c t r) j)
theorem lossB_eq (t : Fin cfg0.N) : lossB m c t = Ideal.ofBits .f32 0x3F000000#32 * ∑ r : Fin 512, lossR (x3V m c (tok t r)) (row (T m c) (tok t r)) (row (Fg m c) 0) := by
  unfold lossB
  refine congrArg _ (Finset.sum_congr rfl fun r _ => ?_)
  rw [x3_tok, f_eq]; unfold tB; rw [t_row]
theorem dfB_eq (t : Fin cfg0.N) (y : S8x1024.Idx) : dfB m c t y = ∑ r : Fin 512, dfR (x3V m c (tok t r)) (row (T m c) (tok t r)) (row (Fg m c) 0) (y 1) := by
  unfold dfB
  refine Finset.sum_congr rfl fun r _ => ?_
  rw [x3_tok, f_eq]; unfold tB; rw [t_row]
theorem df_final : (dats m 0 c).arrAt 11 cfg0.N = fun i : S8x1024.Idx => ∑ s, dfR (x3V m c s) (row (T m c) s) (row (Fg m c) 0) (i 1) :=
  arr11 m c (fun s i => dfR (x3V m c s) (row (T m c) s) (row (Fg m c) 0) (i 1))
    (fun t h y => (df_start m c t h y).trans (dfB_eq m c t y))
    (fun t h y => (df_step m c t h y).trans (Ideal.add_congr rfl (dfB_eq m c t y)))

end Cert.LossBwdIdeal.Hand

end
-- ==== Proof.Loss.Ref.lean ====
module

public import proofs.«01_k».proof.Proof.Loss.Final
public import proofs.«01_k».proof.Proof.Gen.LossRefIdeal.Read

@[expose] public section

set_option maxRecDepth 16384

noncomputable section

open Idealize.ShloMosaic Idealize.ShloMosaic.TcCoe Idealize.SL.Sem
open Idealize.ShloMosaic.Pipeline (Dat)

namespace Loss
open Norm
theorem halfLit_eq : Ideal.ofBits .f32 0x3F000000#32 = ((1 / 2 : ℝ) : EReal) := by
  simp [Ideal.ofBits, Ideal.ieee]; rw [← EReal.coe_mul]; congr 1; norm_num
theorem invLit_eq : Ideal.ofBits .f32 0x3A800000#32 = ((1 / 1024 : ℝ) : EReal) := by
  simp [Ideal.ofBits, Ideal.ieee]; rw [← EReal.coe_mul]; congr 1; norm_num
/-- Half of one over the number of columns, times twice the error, is the error over the number of columns. -/
theorem dy_ref (e : EReal) : Ideal.div (Ideal.ofBits .f32 0x3F000000#32 * Ideal.ofBits .f32 0x3F800000#32) c1024 * (Ideal.ofBits .f32 0x40000000#32 * e) = e * Ideal.ofBits .f32 0x3A800000#32 := by
  rw [one_eq, mul_one, halfLit_eq, invLit_eq, two_eq, c1024_eq, Ideal.div_coe (by norm_num), ← mul_assoc, ← EReal.coe_mul, ← EReal.coe_mul, mul_comm]
  norm_num
/-- A real factor leaves a sum of real numbers. -/
theorem mul_sum_real {n : ℕ} {c : EReal} (hc : IsReal c) {f : Fin n → EReal} (hf : ∀ i, IsReal (f i)) : ∑ i, c * f i = c * ∑ i, f i := by
  obtain ⟨r, rfl⟩ := hc
  choose g hg using hf
  simp only [hg, ← EReal.coe_mul, ← coe_sum, Finset.mul_sum]
end Loss

namespace Cert.LossRefIdeal.Read
open Norm Loss

variable (x0 x1 : FVec Ideal S8192x1024 .f32) (x2 : FVec Ideal S1x1024 .f32) (x3 : FVec Ideal S1024x4096 .f32) (x4 : FVec Ideal S4096x1024 .f32) (x5 : FVec Ideal S1x1024 .f32)

/-- The first weight transposed, a token's residual and the cotangent of its normed row. -/
abbrev tr (i : S4096x1024.Idx) : EReal := x3 (ix2 (i 1) (i 0))
abbrev xs (s : Fin 8192) := x3R (row x0 s) (row x2 0) (tr x3) x4
abbrev u (s : Fin 8192) (j : Fin 1024) : EReal := dyR (xs x0 x2 x3 x4 s) (row x1 s) (row x5 0) j * row x5 0 j

variable (s : Fin 8192)
theorem v6_at (i : S8192x1.Idx) : val_main_v6 (F := Ideal) x0 i = msq c1024 (row x0 (i 0)) := by
  rw [val_main_v6_apply, val_main_v4_apply, val_main_v2_apply, val_main_v1_apply, msq]
  refine congrArg (fun a => Ideal.div a c1024 + eps) ((zero_lit_add _).trans (Finset.sum_congr rfl fun k _ => ?_))
  rw [val_main_v0_apply, show idx_main_v1 (idx_main_v2 i) k = ix2 (i 0) k by blk_ext]
  rfl
theorem v11_at (j : Fin 1024) : val_main_v11 (F := Ideal) x0 x2 (ix2 s j) = xnR (row x0 s) (row x2 0) j := by
  rw [val_main_v11_apply, val_main_v9_apply, val_main_v8_apply, val_main_v7_apply, v6_at, val_main_v10_apply, show idx_main_v10 (ix2 s j) = ix2 0 j by blk_ext]
  rfl
theorem v12_at (l : Fin 4096) : val_main_v12 (F := Ideal) x0 x2 x3 (ix2 s l) = hR (row x0 s) (row x2 0) (tr x3) l := by
  rw [val_main_v12_apply]
  unfold hR mulT
  exact Finset.sum_congr rfl fun k _ => Ideal.mul_congr ((congrArg _ (by blk_ext)).trans (v11_at x0 x2 s k)) (congrArg _ (by blk_ext))
theorem v14_at (l : Fin 4096) : val_main_v14 (F := Ideal) x0 x2 x3 (ix2 s l) = square (hR (row x0 s) (row x2 0) (tr x3) l) := by
  have e : val_main_v13 (F := Ideal) x0 x2 x3 (ix2 s l) = relu (hR (row x0 s) (row x2 0) (tr x3) l) := by
    rw [val_main_v13_apply, v12_at]
    exact congrArg (max _) Ideal.ofBits_zero_f32
  rw [val_main_v14_apply, e]
  rfl
theorem v16_at (j : Fin 1024) : val_main_v16 (F := Ideal) x0 x2 x3 x4 (ix2 s j) = xs x0 x2 x3 x4 s j := by
  rw [val_main_v16_apply, val_main_v15_apply]
  exact Ideal.add_congr rfl (Finset.sum_congr rfl fun l _ => Ideal.mul_congr ((congrArg _ (by blk_ext)).trans (v14_at x0 x2 x3 s l)) (congrArg _ (by blk_ext)))
theorem v23_at (i : S8192x1.Idx) : val_main_v23 (F := Ideal) x0 x2 x3 x4 i = msq c1024 (xs x0 x2 x3 x4 (i 0)) := by
  rw [val_main_v23_apply, val_main_v21_apply, val_main_v19_apply, val_main_v18_apply, msq]
  refine congrArg (fun a => Ideal.div a c1024 + eps) ((zero_lit_add _).trans (Finset.sum_congr rfl fun k _ => ?_))
  rw [val_main_v17_apply, show idx_main_v18 (idx_main_v19 i) k = ix2 (i 0) k by blk_ext]
  exact Ideal.mul_congr (v16_at x0 x2 x3 x4 (i 0) k) (v16_at x0 x2 x3 x4 (i 0) k)
theorem v24_at (i : S8192x1.Idx) : val_main_v24 (F := Ideal) x0 x2 x3 x4 i = rinv c1024 (xs x0 x2 x3 x4 (i 0)) := by
  rw [val_main_v24_apply, v23_at]
  rfl
theorem v29_at (j : Fin 1024) : val_main_v29 (F := Ideal) x0 x2 x3 x4 (ix2 s j) = xs x0 x2 x3 x4 s j * rinv c1024 (xs x0 x2 x3 x4 s) := by
  rw [val_main_v29_apply, v16_at, val_main_v28_apply, v24_at]
  rfl
theorem v32_at (j : Fin 1024) : val_main_v32 (F := Ideal) x0 x1 x2 x3 x4 x5 (ix2 s j) = errR (xs x0 x2 x3 x4 s) (row x1 s) (row x5 0) j := by
  rw [val_main_v32_apply, val_main_v31_apply, v29_at, val_main_v30_apply, show idx_main_v30 (ix2 s j) = ix2 0 j by blk_ext]
  rfl
theorem v38_at : val_main_v38 (F := Ideal) x0 x1 x2 x3 x4 x5 (ix1 s) = lossR (xs x0 x2 x3 x4 s) (row x1 s) (row x5 0) := by
  rw [val_main_v38_apply, val_main_v36_apply]
  refine congrArg (fun a => Ideal.div a c1024) ((zero_lit_add _).trans (Finset.sum_congr rfl fun k _ => ?_))
  rw [val_main_v33_apply, show idx_main_v36 (ix1 s) k = ix2 s k by blk_ext, v32_at]
  rfl
theorem v46_at (j : Fin 1024) : val_main_v46 (F := Ideal) x0 x1 x2 x3 x4 x5 (ix2 s j) = dyR (xs x0 x2 x3 x4 s) (row x1 s) (row x5 0) j := by
  rw [val_main_v46_apply, val_main_v45_apply, val_main_v44_apply, val_main_v42_apply, val_main_v41_apply, val_main_v35_apply, v32_at]
  exact dy_ref _
theorem v47_at (j : Fin 1024) : val_main_v47 (F := Ideal) x0 x1 x2 x3 x4 x5 (ix2 s j) = dfR (xs x0 x2 x3 x4 s) (row x1 s) (row x5 0) j := by
  rw [val_main_v47_apply, v29_at, v46_at]
  exact mul_comm _ _
theorem v70_at (i : S8x1024.Idx) : val_main_v70 (F := Ideal) x0 x1 x2 x3 x4 x5 i = ∑ s, dfR (xs x0 x2 x3 x4 s) (row x1 s) (row x5 0) (i 1) := by
  rw [val_main_v70_apply, val_main_v49_apply, val_main_v48_apply]
  exact (zero_lit_add _).trans (Finset.sum_congr rfl fun s _ => (congrArg _ (by blk_ext)).trans (v47_at x0 x1 x2 x3 x4 x5 s (i 1)))
theorem v51_at (j : Fin 1024) : val_main_v51 (F := Ideal) x0 x1 x2 x3 x4 x5 (ix2 s j) = u x0 x1 x2 x3 x4 x5 s j := by
  rw [val_main_v51_apply, v46_at, val_main_v50_apply, show idx_main_v50 (ix2 s j) = ix2 0 j by blk_ext]
  rfl
theorem v60_at : val_main_v60 (F := Ideal) x0 x1 x2 x3 x4 x5 (ix1 s) = dmsq c1024 (xs x0 x2 x3 x4 s) (u x0 x1 x2 x3 x4 x5 s) := by
  rw [val_main_v60_apply, Fin.sum_univ_one, val_main_v59_apply, val_main_v57_apply, val_main_v54_apply, val_main_v53_apply, val_main_v27_apply, val_main_v25_apply, v24_at, v23_at]
  refine (zero_lit_add _).trans (congrArg (fun a => Ideal.div (a * _) c1024) ((zero_lit_add _).trans (Finset.sum_congr rfl fun k _ => ?_)))
  rw [show idx_main_v53 (idx_main_v54 (idx_main_v60 (ix1 s) 0)) k = ix2 s k by blk_ext, val_main_v52_apply, v51_at, v16_at]
  rfl
theorem v69_at (i : S8x128.Idx) : val_main_v69 (F := Ideal) x0 x1 x2 x3 x4 x5 i = Ideal.ofBits .f32 0x3F000000#32 * ∑ s, lossR (xs x0 x2 x3 x4 s) (row x1 s) (row x5 0) := by
  rw [val_main_v69_apply, val_main_v40_apply, val_main_v39_apply]
  refine congrArg (fun a => Ideal.ofBits .f32 0x3F000000#32 * a) ((zero_lit_add _).trans ?_)
  refine (Fintype.sum_equiv ⟨ix1, fun i => i 0, fun _ => rfl, fun i => by blk_ext⟩ _ _ fun s => ?_).symm
  exact (v38_at x0 x1 x2 x3 x4 x5 s).symm

/-- Every argument array holds real numbers. -/
structure Finite : Prop where
  x : ∀ i, IsReal (x0 i)
  t : ∀ i, IsReal (x1 i)
  g : ∀ i, IsReal (x2 i)
  wu : ∀ i, IsReal (x3 i)
  wd : ∀ i, IsReal (x4 i)
  f : ∀ i, IsReal (x5 i)

variable {x0 x1 x2 x3 x4 x5} (R : Finite x0 x1 x2 x3 x4 x5)
include R
theorem xs_real (j : Fin 1024) : IsReal (xs x0 x2 x3 x4 s j) := by
  refine (R.x _).add (IsReal.sum _ fun l => IsReal.mul ?_ (R.wd _))
  have h : IsReal (hR (row x0 s) (row x2 0) (tr x3) l) := by
    unfold hR mulT
    refine IsReal.sum _ fun k => IsReal.mul ?_ (R.wu _)
    exact ((R.x _).mul (rinv_real (by norm_num) c1024_eq fun k => R.x _)).mul (R.g _)
  exact (h.max' ⟨0, rfl⟩).mul (h.max' ⟨0, rfl⟩)
theorem err_real (j : Fin 1024) : IsReal (errR (xs x0 x2 x3 x4 s) (row x1 s) (row x5 0) j) := by
  obtain ⟨a, ha⟩ := ((xs_real s R j).mul (rinv_real (by norm_num) c1024_eq (xs_real s R))).mul (R.f (ix2 0 j))
  obtain ⟨b, hb⟩ := R.t (ix2 s j)
  refine ⟨a - b, ?_⟩
  unfold errR xnR row
  rw [hb]
  exact (congrArg (fun z => z - (b : EReal)) ha).trans (EReal.coe_sub a b).symm
theorem u_real (j : Fin 1024) : IsReal (u x0 x1 x2 x3 x4 x5 s j) :=
  ((err_real s R j).mul ⟨_, invLit_eq⟩).mul (R.f _)
theorem loss_real : IsReal (lossR (xs x0 x2 x3 x4 s) (row x1 s) (row x5 0)) := by
  unfold lossR
  rw [c1024_eq, Ideal.div_coe (by norm_num)]
  exact (IsReal.sum _ fun j => (err_real s R j).mul (err_real s R j)).mul ⟨_, rfl⟩
theorem v65_at (j : Fin 1024) : val_main_v65 (F := Ideal) x0 x1 x2 x3 x4 x5 (ix2 s j) = dxR (xs x0 x2 x3 x4 s) (row x1 s) (row x5 0) j := by
  unfold dxR
  rw [← dnorm_eq (N := 1024) (by norm_num) c1024_eq (xs_real s R) (u_real s R), val_main_v65_apply, val_main_v63_apply, val_main_v64_apply, val_main_v62_apply, val_main_v56_apply, v51_at, val_main_v55_apply, v24_at, v16_at,
    val_main_v61_apply, show idx_main_v61 (ix2 s j) = ix1 s by blk_ext, v60_at]
  rfl

end Cert.LossRefIdeal.Read

namespace Cert.LossBwdIdeal.Hand
open Cert.LossBwdIdeal Cert.LossBwdIdeal.Gen Norm Loss Cert.LossRefIdeal.Read

variable (m : (ℓ : Loc nD τ sig) → Buf (Elt Ideal) ℓ) (c : Dev nD)

/-- The arguments. -/
abbrev a0 : FVec Ideal S8192x1024 .f32 := m ((c : Thread nD τ).loc main_arg0)
abbrev a1 : FVec Ideal S8192x1024 .f32 := m ((c : Thread nD τ).loc main_arg1)
abbrev a2 : FVec Ideal S1x1024 .f32 := m ((c : Thread nD τ).loc main_arg2)
abbrev a3 : FVec Ideal S1024x4096 .f32 := m ((c : Thread nD τ).loc main_arg3)
abbrev a4 : FVec Ideal S4096x1024 .f32 := m ((c : Thread nD τ).loc main_arg4)
abbrev a5 : FVec Ideal S1x1024 .f32 := m ((c : Thread nD τ).loc main_arg5)

/-! What the prologue hands the kernel call. -/

theorem Wu_eq : Wu m c = tr (a3 m c) := by
  show StableHlo.after hostOps0 (fun b => m (c, b)) (Proc.devRef .tc main_v1) = _
  after_results
  funext i
  exact congrArg (a3 m c) (by funext a; fin_cases a <;> rfl)
theorem Wd_eq : Wd m c = a4 m c := by
  show StableHlo.after hostOps0 (fun b => m (c, b)) (Proc.devRef .tc main_v2) = _
  after_results
  rfl
theorem X_eq : X m c = a0 m c := V_main_arg0 m c
theorem T_eq : T m c = a1 m c := V_main_arg1 m c
theorem G_eq : G m c = a2 m c := V_main_arg2 m c
theorem Fg_eq : Fg m c = a5 m c := V_main_arg5 m c
theorem xs_eq : x3V m c = xs (a0 m c) (a2 m c) (a3 m c) (a4 m c) := by
  unfold x3V
  rw [Wu_eq, Wd_eq, X_eq, G_eq]

/-! The results are the reference's. -/

theorem h_eq : (dats m 0 c).arrAt 6 cfg0.N = val_main_v66 (F := Ideal) (a0 m c) (a2 m c) (a3 m c) := by
  rw [h_final, Wu_eq, X_eq, G_eq]
  refine funext fun i => ((congrArg (val_main_v12 (F := Ideal) _ _ _) ?_).trans (v12_at _ _ _ (i 0) (i 1))).symm
  blk_ext
theorem xn_eq : (dats m 0 c).arrAt 7 cfg0.N = val_main_v67 (F := Ideal) (a0 m c) (a2 m c) := by
  rw [xn_final, X_eq, G_eq]
  refine funext fun i => ((congrArg (val_main_v11 (F := Ideal) _ _) ?_).trans (v11_at _ _ (i 0) (i 1))).symm
  blk_ext
theorem df_eq : (dats m 0 c).arrAt 11 cfg0.N = val_main_v70 (F := Ideal) (a0 m c) (a1 m c) (a2 m c) (a3 m c) (a4 m c) (a5 m c) := by
  rw [df_final, xs_eq, T_eq, Fg_eq]
  exact funext fun i => (v70_at _ _ _ _ _ _ i).symm
variable (R : Finite (a0 m c) (a1 m c) (a2 m c) (a3 m c) (a4 m c) (a5 m c))
include R
theorem dx_fun : (fun i : S8192x1024.Idx => dxR (x3V m c (i 0)) (row (T m c) (i 0)) (row (Fg m c) 0) (i 1)) = val_main_v65 (F := Ideal) (a0 m c) (a1 m c) (a2 m c) (a3 m c) (a4 m c) (a5 m c) := by
  rw [xs_eq, T_eq, Fg_eq]
  refine funext fun i => ((congrArg (val_main_v65 (F := Ideal) _ _ _ _ _ _) ?_).trans (v65_at (i 0) R (i 1))).symm
  blk_ext
theorem dx_eq : (dats m 0 c).arrAt 8 cfg0.N = val_main_v65 (F := Ideal) (a0 m c) (a1 m c) (a2 m c) (a3 m c) (a4 m c) (a5 m c) := (dx_final m c).trans (dx_fun m c R)
theorem dxb_eq : (dats m 0 c).arrAt 9 cfg0.N = val_main_v68 (F := Ideal) (a0 m c) (a1 m c) (a2 m c) (a3 m c) (a4 m c) (a5 m c) := (dxb_final m c).trans (dx_fun m c R)
theorem loss_eq : (dats m 0 c).arrAt 10 cfg0.N = val_main_v69 (F := Ideal) (a0 m c) (a1 m c) (a2 m c) (a3 m c) (a4 m c) (a5 m c) := by
  rw [arr10]
  refine funext fun i => Eq.trans ?_ (v69_at _ _ _ _ _ _ i).symm
  simp only [lossB_eq]
  rw [xs_eq, T_eq, Fg_eq, mul_sum_real ⟨_, halfLit_eq⟩ fun t => IsReal.sum _ fun r => loss_real _ R]
  exact congrArg _ (sum_tok fun s => lossR (xs (a0 m c) (a2 m c) (a3 m c) (a4 m c) s) (row (a1 m c) s) (row (a5 m c) 0))

end Cert.LossBwdIdeal.Hand

end
-- ==== Proof.Loss.Claims.lean ====
module

public import proofs.«01_k».proof.Defs
public import proofs.«01_k».proof.Proof.Gen.LossBwd
public import proofs.«01_k».proof.Proof.Gen.LossRefIdeal.Run
public import proofs.«01_k».proof.Pre_loss_finite
public import proofs.«01_k».proof.Proof.Loss.Ref
public import Idealize.ShloMosaic.Lib.Quiescent

/-! # The loss call: its claims -/

@[expose] public section

set_option maxRecDepth 16384

noncomputable section

open Idealize.ShloMosaic Idealize.ShloMosaic.TcCoe Idealize.SL.Sem

namespace Cert.Proof.Loss

instance : Cert.LossBwd.Facts := Cert.LossBwd.Gen.facts
instance : Cert.LossBwdIdeal.Facts := Cert.LossBwdIdeal.Gen.facts
instance : Cert.LossRefIdeal.Facts := Cert.LossRefIdeal.Gen.facts
instance finite_facts : Cert.Pre_loss_finite.Facts := by constructor <;> decide

theorem frame_ideal : Cert.quiescent_LossBwdIdeal := fun m ρ _ => Cert.LossBwdIdeal.Gen.frame m ρ

theorem frame_ideal_finite : Cert.quiescent_LossBwdIdeal_pre_loss_finite := fun m ρ _ => Cert.LossBwdIdeal.Gen.frame m ρ

/-- The bit-level program has the same text, so the same run gives its frame. -/
theorem frame_kernel : Cert.quiescent_LossBwd := by
  have h : ∀ (m : (ℓ : Loc Cert.LossBwdIdeal.nD Cert.LossBwdIdeal.τ Cert.LossBwdIdeal.sig) → Buf (Elt Bits) ℓ) (ρ : Dev Cert.LossBwdIdeal.nD → PrngReg), True → _ :=
    fun m ρ _ => Cert.LossBwdIdeal.Gen.frame (F := Bits) m ρ
  exact cast (by sl_kernel_rfl) h

theorem frame_reference : Cert.quiescent_LossRefIdeal := fun m ρ _ =>
  (θ_run _ _ _).mono (fun r h => ⟨fun c => (h c).2.2.2.2.2.2, sem_eq_zero_of_no_sems (by decide) r.2⟩) (Cert.LossRefIdeal.Value.run m ρ)

theorem frame_reference_finite : Cert.quiescent_LossRefIdeal_pre_loss_finite := fun m ρ _ => frame_reference m ρ trivial

/-- The precondition says that the named arguments hold real numbers. -/
theorem finite_of_pre (m : (ℓ : Loc Cert.LossBwdIdeal.nD Cert.LossBwdIdeal.τ Cert.LossBwdIdeal.sig) → Buf (Elt Ideal) ℓ)
    (h : Cert.Pre_LossBwdIdeal_loss_finite m) (c : Dev Cert.LossBwdIdeal.nD) :
    Cert.LossRefIdeal.Read.Finite (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5)) where
  x i := Norm.IsReal.of_abs (congrFun (h c).1 i)
  t i := Norm.IsReal.of_abs (congrFun (h c).2.1 i)
  g i := Norm.IsReal.of_abs (congrFun (h c).2.2.1 i)
  wu i := Norm.IsReal.of_abs (congrFun (h c).2.2.2.1 i)
  wd i := Norm.IsReal.of_abs (congrFun (h c).2.2.2.2.1 i)
  f i := Norm.IsReal.of_abs (congrFun (h c).2.2.2.2.2 i)

set_option maxHeartbeats 1000000 in
theorem value : Cert.algebraic_LossBwdIdeal_LossRefIdeal_pre_loss_finite := fun m ρ m' ρ' hf hag =>
  ⟨fun c => (Cert.LossBwdIdeal.Gen.dats m 0 c).arrAt 6 Cert.LossBwdIdeal.cfg0.N, fun c => (Cert.LossBwdIdeal.Gen.dats m 0 c).arrAt 7 Cert.LossBwdIdeal.cfg0.N, fun c => (Cert.LossBwdIdeal.Gen.dats m 0 c).arrAt 8 Cert.LossBwdIdeal.cfg0.N, fun c => (Cert.LossBwdIdeal.Gen.dats m 0 c).arrAt 9 Cert.LossBwdIdeal.cfg0.N, fun c => (Cert.LossBwdIdeal.Gen.dats m 0 c).arrAt 10 Cert.LossBwdIdeal.cfg0.N, fun c => (Cert.LossBwdIdeal.Gen.dats m 0 c).arrAt 11 Cert.LossBwdIdeal.cfg0.N,
    Cert.LossBwdIdeal.Value.run_blocks m ρ,
    (θ_run _ _ _).mono (fun _ h c => by
      obtain ⟨h0, h1, h2, h3, h4, h5⟩ := hag c
      have H := finite_of_pre m hf c
      refine ⟨((h c).1.trans (Cert.LossRefIdeal.Read.val_main_v66_eq _ _ _)).trans ?_,
        ((h c).2.1.trans (Cert.LossRefIdeal.Read.val_main_v67_eq _ _)).trans ?_,
        ((h c).2.2.1.trans (Cert.LossRefIdeal.Read.val_main_v65_eq _ _)).trans ?_,
        ((h c).2.2.2.1.trans (Cert.LossRefIdeal.Read.val_main_v68_eq _ _)).trans ?_,
        ((h c).2.2.2.2.1.trans (Cert.LossRefIdeal.Read.val_main_v69_eq _ _)).trans ?_,
        ((h c).2.2.2.2.2.1.trans (Cert.LossRefIdeal.Read.val_main_v70_eq _ _)).trans ?_, (h c).2.2.2.2.2.2⟩
      · rw [h0, h2, h3]; exact (Cert.LossBwdIdeal.Hand.h_eq m c).symm
      · rw [h0, h2]; exact (Cert.LossBwdIdeal.Hand.xn_eq m c).symm
      · rw [h0, h1, h2, h3, h4, h5]; exact (Cert.LossBwdIdeal.Hand.dx_eq m c H).symm
      · rw [h0, h1, h2, h3, h4, h5]; exact (Cert.LossBwdIdeal.Hand.dxb_eq m c H).symm
      · rw [h0, h1, h2, h3, h4, h5]; exact (Cert.LossBwdIdeal.Hand.loss_eq m c H).symm
      · rw [h0, h1, h2, h3, h4, h5]; exact (Cert.LossBwdIdeal.Hand.df_eq m c).symm) (Cert.LossRefIdeal.Value.run m' ρ')⟩

end Cert.Proof.Loss

end
-- ==== Proof.Mix.Run.lean ====
module

public import proofs.«01_k».proof.Proof.Gen.MixFwdIdeal.Frame.Runs
public import Idealize.ShloMosaic.Lib.Claim

/-! # One grid point of the forward attention block

The body of the kernel is run once, on any staging buffers, one per window: twenty-three inputs and seven outputs. The
run finds what it writes into each output. The contents of all buffers at a grid point follow, and with them the
launch: every run ends, with each array at what the library computes from these contents. -/

@[expose] public section

set_option maxRecDepth 16384

noncomputable section

namespace Cert.MixFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFwdIdeal Cert.MixFwdIdeal.Gen

variable {F : FTy → Type} [FloatOps F]

local notation "𝕄" => MT nD τ sig Unit (Elt F) ℕ (UR sig nD τ) ℕ

/-- A staging buffer for each window, each of them a whole buffer. -/
structure Stages where
  a0 : Memref sig .tc .vmem S512x1024 .f32
  h0 : a0.IsWhole
  a1 : Memref sig .tc .vmem S512x256 .f32
  h1 : a1.IsWhole
  a2 : Memref sig .tc .vmem S512x256 .f32
  h2 : a2.IsWhole
  a3 : Memref sig .tc .vmem S512x512 .f32
  h3 : a3.IsWhole
  a4 : Memref sig .tc .vmem S512x512 .f32
  h4 : a4.IsWhole
  a5 : Memref sig .tc .vmem S512x512 .f32
  h5 : a5.IsWhole
  a6 : Memref sig .tc .vmem S512x512 .f32
  h6 : a6.IsWhole
  a7 : Memref sig .tc .vmem S512x512 .f32
  h7 : a7.IsWhole
  a8 : Memref sig .tc .vmem S8x512 .f32
  h8 : a8.IsWhole
  a9 : Memref sig .tc .vmem S8x512 .f32
  h9 : a9.IsWhole
  a10 : Memref sig .tc .vmem S8x512 .f32
  h10 : a10.IsWhole
  a11 : Memref sig .tc .vmem S8x512 .f32
  h11 : a11.IsWhole
  a12 : Memref sig .tc .vmem S512x512 .f32
  h12 : a12.IsWhole
  a13 : Memref sig .tc .vmem S512x512 .f32
  h13 : a13.IsWhole
  a14 : Memref sig .tc .vmem S3x512 .f32
  h14 : a14.IsWhole
  a15 : Memref sig .tc .vmem S1x512 .f32
  h15 : a15.IsWhole
  a16 : Memref sig .tc .vmem S1x512 .f32
  h16 : a16.IsWhole
  a17 : Memref sig .tc .vmem S1024x1024 .bf16
  h17 : a17.IsWhole
  a18 : Memref sig .tc .vmem S1x1024 .f32
  h18 : a18.IsWhole
  a19 : Memref sig .tc .vmem S1024x1024 .bf16
  h19 : a19.IsWhole
  a20 : Memref sig .tc .vmem S256x1024 .bf16
  h20 : a20.IsWhole
  a21 : Memref sig .tc .vmem S256x1024 .bf16
  h21 : a21.IsWhole
  a22 : Memref sig .tc .vmem S1024x1024 .bf16
  h22 : a22.IsWhole
  a23 : Memref sig .tc .vmem S512x1024 .f32
  h23 : a23.IsWhole
  a24 : Memref sig .tc .vmem S512x1024 .f32
  h24 : a24.IsWhole
  a25 : Memref sig .tc .vmem S512x1024 .bf16
  h25 : a25.IsWhole
  a26 : Memref sig .tc .vmem S512x1024 .bf16
  h26 : a26.IsWhole
  a27 : Memref sig .tc .vmem S512x1024 .bf16
  h27 : a27.IsWhole
  a28 : Memref sig .tc .vmem S512x1024 .bf16
  h28 : a28.IsWhole
  a29 : Memref sig .tc .vmem S512x512 .f32
  h29 : a29.IsWhole

/-- The contents of the input windows' staging buffers. -/
structure Ins (F : FTy → Type) where
  x0 : Vec F S512x1024 .f32
  x1 : Vec F S512x256 .f32
  x2 : Vec F S512x256 .f32
  x3 : Vec F S512x512 .f32
  x4 : Vec F S512x512 .f32
  x5 : Vec F S512x512 .f32
  x6 : Vec F S512x512 .f32
  x7 : Vec F S512x512 .f32
  x8 : Vec F S8x512 .f32
  x9 : Vec F S8x512 .f32
  x10 : Vec F S8x512 .f32
  x11 : Vec F S8x512 .f32
  x12 : Vec F S512x512 .f32
  x13 : Vec F S512x512 .f32
  x14 : Vec F S3x512 .f32
  x15 : Vec F S1x512 .f32
  x16 : Vec F S1x512 .f32
  x17 : Vec F S1024x1024 .bf16
  x18 : Vec F S1x1024 .f32
  x19 : Vec F S1024x1024 .bf16
  x20 : Vec F S256x1024 .bf16
  x21 : Vec F S256x1024 .bf16
  x22 : Vec F S1024x1024 .bf16

/-- The input buffers at their contents, -/
def given (c : Dev nD) (s : Stages) (x : Ins F) : sProp 𝕄 :=
  iprop(owns (c : Thread nD τ) s.a0 fullShare x.x0 ∗ owns (c : Thread nD τ) s.a1 fullShare x.x1
    ∗ owns (c : Thread nD τ) s.a2 fullShare x.x2 ∗ owns (c : Thread nD τ) s.a3 fullShare x.x3
    ∗ owns (c : Thread nD τ) s.a4 fullShare x.x4 ∗ owns (c : Thread nD τ) s.a5 fullShare x.x5
    ∗ owns (c : Thread nD τ) s.a6 fullShare x.x6 ∗ owns (c : Thread nD τ) s.a7 fullShare x.x7
    ∗ owns (c : Thread nD τ) s.a8 fullShare x.x8 ∗ owns (c : Thread nD τ) s.a9 fullShare x.x9
    ∗ owns (c : Thread nD τ) s.a10 fullShare x.x10 ∗ owns (c : Thread nD τ) s.a11 fullShare x.x11
    ∗ owns (c : Thread nD τ) s.a12 fullShare x.x12 ∗ owns (c : Thread nD τ) s.a13 fullShare x.x13
    ∗ owns (c : Thread nD τ) s.a14 fullShare x.x14 ∗ owns (c : Thread nD τ) s.a15 fullShare x.x15
    ∗ owns (c : Thread nD τ) s.a16 fullShare x.x16 ∗ owns (c : Thread nD τ) s.a17 fullShare x.x17
    ∗ owns (c : Thread nD τ) s.a18 fullShare x.x18 ∗ owns (c : Thread nD τ) s.a19 fullShare x.x19
    ∗ owns (c : Thread nD τ) s.a20 fullShare x.x20 ∗ owns (c : Thread nD τ) s.a21 fullShare x.x21
    ∗ owns (c : Thread nD τ) s.a22 fullShare x.x22)

/-- the output buffers at anything, -/
def blank (c : Dev nD) (s : Stages) : sProp 𝕄 :=
  iprop((∃ d, owns (c : Thread nD τ) s.a23 fullShare d) ∗ (∃ d, owns (c : Thread nD τ) s.a24 fullShare d)
    ∗ (∃ d, owns (c : Thread nD τ) s.a25 fullShare d) ∗ (∃ d, owns (c : Thread nD τ) s.a26 fullShare d)
    ∗ (∃ d, owns (c : Thread nD τ) s.a27 fullShare d) ∗ (∃ d, owns (c : Thread nD τ) s.a28 fullShare d)
    ∗ (∃ d, owns (c : Thread nD τ) s.a29 fullShare d))

/-- and the output buffers with the stored pieces written over anything. -/
def written (c : Dev nD) (s : Stages) (L23 : List (View.Piece (Elt F) S512x1024 .f32)) (L24 : List (View.Piece (Elt F) S512x1024 .f32))
    (L25 : List (View.Piece (Elt F) S512x1024 .bf16)) (L26 : List (View.Piece (Elt F) S512x1024 .bf16))
    (L27 : List (View.Piece (Elt F) S512x1024 .bf16)) (L28 : List (View.Piece (Elt F) S512x1024 .bf16))
    (L29 : List (View.Piece (Elt F) S512x512 .f32)) : sProp 𝕄 :=
  iprop((∃ f, s.a23.view.loc (c : Thread nD τ) ↦[s.a23.view.set]{fullShare} s.a23.view.writes (Elt F) f L23)
    ∗ (∃ f, s.a24.view.loc (c : Thread nD τ) ↦[s.a24.view.set]{fullShare} s.a24.view.writes (Elt F) f L24)
    ∗ (∃ f, s.a25.view.loc (c : Thread nD τ) ↦[s.a25.view.set]{fullShare} s.a25.view.writes (Elt F) f L25)
    ∗ (∃ f, s.a26.view.loc (c : Thread nD τ) ↦[s.a26.view.set]{fullShare} s.a26.view.writes (Elt F) f L26)
    ∗ (∃ f, s.a27.view.loc (c : Thread nD τ) ↦[s.a27.view.set]{fullShare} s.a27.view.writes (Elt F) f L27)
    ∗ (∃ f, s.a28.view.loc (c : Thread nD τ) ↦[s.a28.view.set]{fullShare} s.a28.view.writes (Elt F) f L28)
    ∗ (∃ f, s.a29.view.loc (c : Thread nD τ) ↦[s.a29.view.set]{fullShare} s.a29.view.writes (Elt F) f L29))

-- the run's term is large: the default budget ends inside it
set_option maxHeartbeats 10000000 in
/-- The body runs from the inputs at their contents to the same, with pieces written into each output; the run finds the
    pieces. -/
def bodyRun (c : Dev nD) (i : grid0.Coords) (s : Stages) (x : Ins F) :
    Σ' (L23 : List (View.Piece (Elt F) S512x1024 .f32)), Σ' (L24 : List (View.Piece (Elt F) S512x1024 .f32)),
    Σ' (L25 : List (View.Piece (Elt F) S512x1024 .bf16)), Σ' (L26 : List (View.Piece (Elt F) S512x1024 .bf16)),
    Σ' (L27 : List (View.Piece (Elt F) S512x1024 .bf16)), Σ' (L28 : List (View.Piece (Elt F) S512x1024 .bf16)),
    { L29 : List (View.Piece (Elt F) S512x512 .f32) //
      ∀ (E : Set ℕ) (K : PUnit → sProp 𝕄),
        iprop(given c s x ∗ blank c s ∗ (iprop(given c s x ∗ written c s L23 L24 L25 L26 L27 L28 L29) -∗ K ⟨⟩))
          ⊢ wp frame (wpE (defs₀ (F := F)) Variants.none c none) E
            (cc0_attn_fwd i s.a0 s.h0 s.a1 s.h1 s.a2 s.h2 s.a3 s.h3 s.a4 s.h4 s.a5 s.h5 s.a6 s.h6 s.a7 s.h7
              s.a8 s.h8 s.a9 s.h9 s.a10 s.h10 s.a11 s.h11 s.a12 s.h12 s.a13 s.h13 s.a14 s.h14 s.a15 s.h15
              s.a16 s.h16 s.a17 s.h17 s.a18 s.h18 s.a19 s.h19 s.a20 s.h20 s.a21 s.h21 s.a22 s.h22 s.a23 s.h23
              s.a24 s.h24 s.a25 s.h25 s.a26 s.h26 s.a27 s.h27 s.a28 s.h28 s.a29 s.h29) K } := by
  refine ⟨?_, ?_, ?_, ?_, ?_, ?_, ?_, fun E K => ?run⟩
  case run =>
    simp only [cc0_attn_fwd_eq_skeleton]; unfold cc0_attn_fwd_skel
    simp only [k0_part1_eq_skeleton, k0_part2_eq_skeleton, k0_part3_eq_skeleton, k0_part4_eq_skeleton,
      k0_part5_eq_skeleton, k0_part6_eq_skeleton, k0_part7_eq_skeleton, k0_part8_eq_skeleton]
    unfold given blank written owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%f16, %hf16, H16⟩, ⟨%f17, %hf17, H17⟩,
      ⟨%f18, %hf18, H18⟩, ⟨%f19, %hf19, H19⟩, ⟨%f20, %hf20, H20⟩, ⟨%f21, %hf21, H21⟩, ⟨%f22, %hf22, H22⟩⟩,
      ⟨⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩⟩, Hk⟩
    obtain rfl := s.h0.eq_unread hf0; obtain rfl := s.h1.eq_unread hf1; obtain rfl := s.h2.eq_unread hf2;
    obtain rfl := s.h3.eq_unread hf3; obtain rfl := s.h4.eq_unread hf4; obtain rfl := s.h5.eq_unread hf5;
    obtain rfl := s.h6.eq_unread hf6; obtain rfl := s.h7.eq_unread hf7; obtain rfl := s.h8.eq_unread hf8;
    obtain rfl := s.h9.eq_unread hf9; obtain rfl := s.h10.eq_unread hf10; obtain rfl := s.h11.eq_unread hf11;
    obtain rfl := s.h12.eq_unread hf12; obtain rfl := s.h13.eq_unread hf13; obtain rfl := s.h14.eq_unread hf14;
    obtain rfl := s.h15.eq_unread hf15; obtain rfl := s.h16.eq_unread hf16; obtain rfl := s.h17.eq_unread hf17;
    obtain rfl := s.h18.eq_unread hf18; obtain rfl := s.h19.eq_unread hf19; obtain rfl := s.h20.eq_unread hf20;
    obtain rfl := s.h21.eq_unread hf21; obtain rfl := s.h22.eq_unread hf22
    sl_exec
    sl_step
    iapply Hk
    isplitl [H0 H1 H2 H3 H4 H5 H6 H7 H8 H9 H10 H11 H12 H13 H14 H15 H16 H17 H18 H19 H20 H21 H22]
    · isplitl [H0]
      · iexists _; isplitr; · ipureintro; exact s.h0.read_unread _
        iexact H0
      isplitl [H1]
      · iexists _; isplitr; · ipureintro; exact s.h1.read_unread _
        iexact H1
      isplitl [H2]
      · iexists _; isplitr; · ipureintro; exact s.h2.read_unread _
        iexact H2
      isplitl [H3]
      · iexists _; isplitr; · ipureintro; exact s.h3.read_unread _
        iexact H3
      isplitl [H4]
      · iexists _; isplitr; · ipureintro; exact s.h4.read_unread _
        iexact H4
      isplitl [H5]
      · iexists _; isplitr; · ipureintro; exact s.h5.read_unread _
        iexact H5
      isplitl [H6]
      · iexists _; isplitr; · ipureintro; exact s.h6.read_unread _
        iexact H6
      isplitl [H7]
      · iexists _; isplitr; · ipureintro; exact s.h7.read_unread _
        iexact H7
      isplitl [H8]
      · iexists _; isplitr; · ipureintro; exact s.h8.read_unread _
        iexact H8
      isplitl [H9]
      · iexists _; isplitr; · ipureintro; exact s.h9.read_unread _
        iexact H9
      isplitl [H10]
      · iexists _; isplitr; · ipureintro; exact s.h10.read_unread _
        iexact H10
      isplitl [H11]
      · iexists _; isplitr; · ipureintro; exact s.h11.read_unread _
        iexact H11
      isplitl [H12]
      · iexists _; isplitr; · ipureintro; exact s.h12.read_unread _
        iexact H12
      isplitl [H13]
      · iexists _; isplitr; · ipureintro; exact s.h13.read_unread _
        iexact H13
      isplitl [H14]
      · iexists _; isplitr; · ipureintro; exact s.h14.read_unread _
        iexact H14
      isplitl [H15]
      · iexists _; isplitr; · ipureintro; exact s.h15.read_unread _
        iexact H15
      isplitl [H16]
      · iexists _; isplitr; · ipureintro; exact s.h16.read_unread _
        iexact H16
      isplitl [H17]
      · iexists _; isplitr; · ipureintro; exact s.h17.read_unread _
        iexact H17
      isplitl [H18]
      · iexists _; isplitr; · ipureintro; exact s.h18.read_unread _
        iexact H18
      isplitl [H19]
      · iexists _; isplitr; · ipureintro; exact s.h19.read_unread _
        iexact H19
      isplitl [H20]
      · iexists _; isplitr; · ipureintro; exact s.h20.read_unread _
        iexact H20
      isplitl [H21]
      · iexists _; isplitr; · ipureintro; exact s.h21.read_unread _
        iexact H21
      iexists _; isplitr; · ipureintro; exact s.h22.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact H29

end Cert.MixFwdIdeal.Hand

end
-- ==== Proof.Mix.Outs.lean ====
module

public import proofs.«01_k».proof.Proof.Mix.Run

/-! # The contents of all windows of the forward attention block at a grid point -/

@[expose] public section

set_option maxRecDepth 16384

noncomputable section

namespace Cert.MixFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFwdIdeal Cert.MixFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers in use at point `t`, -/
abbrev stagesAt (t : Fin cfg0.N) : Stages where
  a0 := ms0_0 t
  h0 := hs0_0 t
  a1 := ms0_1 t
  h1 := hs0_1 t
  a2 := ms0_2 t
  h2 := hs0_2 t
  a3 := ms0_3 t
  h3 := hs0_3 t
  a4 := ms0_4 t
  h4 := hs0_4 t
  a5 := ms0_5 t
  h5 := hs0_5 t
  a6 := ms0_6 t
  h6 := hs0_6 t
  a7 := ms0_7 t
  h7 := hs0_7 t
  a8 := ms0_8 t
  h8 := hs0_8 t
  a9 := ms0_9 t
  h9 := hs0_9 t
  a10 := ms0_10 t
  h10 := hs0_10 t
  a11 := ms0_11 t
  h11 := hs0_11 t
  a12 := ms0_12 t
  h12 := hs0_12 t
  a13 := ms0_13 t
  h13 := hs0_13 t
  a14 := ms0_14 t
  h14 := hs0_14 t
  a15 := ms0_15 t
  h15 := hs0_15 t
  a16 := ms0_16 t
  h16 := hs0_16 t
  a17 := ms0_17 t
  h17 := hs0_17 t
  a18 := ms0_18 t
  h18 := hs0_18 t
  a19 := ms0_19 t
  h19 := hs0_19 t
  a20 := ms0_20 t
  h20 := hs0_20 t
  a21 := ms0_21 t
  h21 := hs0_21 t
  a22 := ms0_22 t
  h22 := hs0_22 t
  a23 := ms0_23 t
  h23 := hs0_23 t
  a24 := ms0_24 t
  h24 := hs0_24 t
  a25 := ms0_25 t
  h25 := hs0_25 t
  a26 := ms0_26 t
  h26 := hs0_26 t
  a27 := ms0_27 t
  h27 := hs0_27 t
  a28 := ms0_28 t
  h28 := hs0_28 t
  a29 := ms0_29 t
  h29 := hs0_29 t

/-- and the input blocks there. -/
abbrev insAt (c : Dev nD) (t : Fin cfg0.N) : Ins F where
  x0 := iblk m c 0 t
  x1 := X0_1 m c t
  x2 := X0_2 m c t
  x3 := X0_3 m c t
  x4 := X0_4 m c t
  x5 := X0_5 m c t
  x6 := X0_6 m c t
  x7 := X0_7 m c t
  x8 := X0_8 m c t
  x9 := X0_9 m c t
  x10 := X0_10 m c t
  x11 := X0_11 m c t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t

/-- What the run writes at point `t`. -/
abbrev runAt (c : Dev nD) (t : Fin cfg0.N) := bodyRun (F := F) c (grid0.coords t) (stagesAt t) (insAt m c t)

/-- The block of output 23 after point `t`. -/
def out23 (c : Dev nD) (t : Fin cfg0.N) : Vec F S512x1024 .f32 :=
  VO0_23.read (Elt F) (VO0_23.writes (Elt F) VO0_23.junk (runAt m c t).1)

/-- The block of output 24 after point `t`. -/
def out24 (c : Dev nD) (t : Fin cfg0.N) : Vec F S512x1024 .f32 :=
  VO0_24.read (Elt F) (VO0_24.writes (Elt F) VO0_24.junk (runAt m c t).2.1)

/-- The block of output 25 after point `t`. -/
def out25 (c : Dev nD) (t : Fin cfg0.N) : Vec F S512x1024 .bf16 :=
  VO0_25.read (Elt F) (VO0_25.writes (Elt F) VO0_25.junk (runAt m c t).2.2.1)

/-- The block of output 26 after point `t`. -/
def out26 (c : Dev nD) (t : Fin cfg0.N) : Vec F S512x1024 .bf16 :=
  VO0_26.read (Elt F) (VO0_26.writes (Elt F) VO0_26.junk (runAt m c t).2.2.2.1)

/-- The block of output 27 after point `t`. -/
def out27 (c : Dev nD) (t : Fin cfg0.N) : Vec F S512x1024 .bf16 :=
  VO0_27.read (Elt F) (VO0_27.writes (Elt F) VO0_27.junk (runAt m c t).2.2.2.2.1)

/-- The block of output 28 after point `t`. -/
def out28 (c : Dev nD) (t : Fin cfg0.N) : Vec F S512x1024 .bf16 :=
  VO0_28.read (Elt F) (VO0_28.writes (Elt F) VO0_28.junk (runAt m c t).2.2.2.2.2.1)

/-- The block of output 29 after point `t`. -/
def out29 (c : Dev nD) (t : Fin cfg0.N) : Vec F S512x512 .f32 :=
  VO0_29.read (Elt F) (VO0_29.writes (Elt F) VO0_29.junk (runAt m c t).2.2.2.2.2.2.1)

/-- The pipeline's proof data: an input keeps its block, an output holds what the run left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out23 m c t
    | ⟨24, _⟩ => out24 m c t
    | ⟨25, _⟩ => out25 m c t
    | ⟨26, _⟩ => out26 m c t
    | ⟨27, _⟩ => out27 m c t
    | ⟨28, _⟩ => out28 m c t
    | ⟨29, _⟩ => out29 m c t
    | ⟨_ + 30, h⟩ => absurd h (Nat.not_lt.2 (Nat.le_add_left _ _))
  Φ _ := Pipeline.ΦA spec0 c
  q w := Pipeline.shareOf spec0 w
  owed _ := 0

theorem arrays_eq (c : Dev nD) (w : Fin cfg0.W) : (dats m 0 c).A w = V m c (Pipeline.arrRef spec0 w) := by
  dsimp only [dats]

end Cert.MixFwdIdeal.Hand

end
-- ==== Proof.Mix.Rows.lean ====
module

public import proofs.«01_k».proof.Proof.Shared.Hidden
public import proofs.«01_k».proof.Proof.Attn.Soft

/-! # The forward mixing layer at one token, on the extended reals

The gated convolution, the normalised and gated output of the linear attention, the product with the output weight, the
query, the attention over the memory and its product with its output weight, each as a function of one token's rows. -/

@[expose] public section

set_option maxRecDepth 16384

noncomputable section

open Idealize.ShloMosaic Idealize.ShloMosaic.TcCoe Idealize.SL.Sem
open Idealize.ShloMosaic.Pipeline (Dat)

namespace Mix
open Norm

/-- An eighth, the scale of the queries; the sizes of a convolution group and of a value head. -/
abbrev c8 : EReal := Ideal.ofBits .f32 0x3E000000#32
abbrev c64 : EReal := Ideal.ofBits .f32 0x42800000#32
abbrev c128 : EReal := Ideal.ofBits .f32 0x43000000#32
theorem c8_eq : c8 = ((1 / 8 : ℝ) : EReal) := by
  simp [Mix.c8, Ideal.ofBits, Ideal.ieee]; rw [← EReal.coe_mul]; congr 1; norm_num
theorem c64_eq : c64 = ((64 : ℝ) : EReal) := by
  simp [Mix.c64, Ideal.ofBits, Ideal.ieee]; rw [← EReal.coe_mul]; congr 1; norm_num
/-- Multiplying by a sixty-fourth divides by sixty-four. -/
theorem mul_64 (x : EReal) : x * Ideal.ofBits .f32 0x3C800000#32 = Ideal.div x c64 := by
  rw [c64_eq, Ideal.div_coe (by norm_num)]
  congr 1
  simp [Ideal.ofBits, Ideal.ieee]; rw [← EReal.coe_mul]; congr 1; norm_num

/-- Columns: of head `h` among keys and among values, of group `g`, of attention head `h`; and the head or group of a column. -/
abbrev kl (h : Fin 4) (d : Fin 64) : Fin 256 := ⟨h.val * 64 + d.val, by omega⟩
abbrev vl (h : Fin 4) (d : Fin 128) : Fin 512 := ⟨h.val * 128 + d.val, by omega⟩
abbrev gl (g : Fin 8) (d : Fin 64) : Fin 512 := ⟨g.val * 64 + d.val, by omega⟩
abbrev al (h : Fin 4) (d : Fin 256) : Fin 1024 := ⟨h.val * 256 + d.val, by omega⟩
abbrev vh (j : Fin 512) : Fin 4 := ⟨j.val / 128, by omega⟩
abbrev gh (j : Fin 512) : Fin 8 := ⟨j.val / 64, by omega⟩
abbrev ah (j : Fin 1024) : Fin 4 := ⟨j.val / 256, by omega⟩

/-- What the layer reads of one token: its residual row, the convolution's gate and its inputs at the token before, here and
    after, and the linear attention's rows. -/
structure Token where
  x : Fin 1024 → EReal
  cb : Fin 512 → EReal
  before : Fin 512 → EReal
  here : Fin 512 → EReal
  after : Fin 512 → EReal
  q : Fin 256 → EReal
  k : Fin 256 → EReal
  v : Fin 512 → EReal
  g : Fin 512 → EReal
  f : Fin 512 → EReal
  b : Fin 512 → EReal

/-- What it shares among the tokens: the convolution's weights, the norms, the weights, and the memory's keys and values. -/
structure Weights where
  w0 : Fin 512 → EReal
  w1 : Fin 512 → EReal
  w2 : Fin 512 → EReal
  cn : Fin 512 → EReal
  gn : Fin 512 → EReal
  wo : (⟨2, ![1024, 1024]⟩ : Shape).Idx → EReal
  xn : Fin 1024 → EReal
  wq : (⟨2, ![1024, 1024]⟩ : Shape).Idx → EReal
  K : Fin 256 → Fin 1024 → EReal
  V : Fin 256 → Fin 1024 → EReal
  wx : (⟨2, ![1024, 1024]⟩ : Shape).Idx → EReal

/-- `x` times its logistic function. -/
def silu (x : EReal) : EReal := x * Ideal.div 1 (1 + Ideal.exp (-x))
/-- The reciprocal root mean square of one head of an output row, and of one group of the convolution's. -/
def headInv (o : Fin 512 → EReal) (h : Fin 4) : EReal := rinv c128 fun d => o (vl h d)
def groupInv (y : Fin 512 → EReal) (g : Fin 8) : EReal := rinv c64 fun d => y (gl g d)
/-- The attention of one query row over the memory. -/
def attend (Q : Fin 1024 → EReal) (K V : Fin 256 → Fin 1024 → EReal) (j : Fin 1024) : EReal :=
  ∑ m, Attn.prob (fun d => Q (al (ah j) d)) (fun m d => K m (al (ah j) d)) m * V m j

namespace Token
variable (T : Token) (W : Weights)

/-- The products of queries and keys at the token itself, counted by both directions. -/
def diag (h : Fin 4) : EReal := ∑ d, T.q (kl h d) * c8 * T.k (kl h d)
def o (j : Fin 512) : EReal := T.f j + T.b j - T.diag (vh j) * T.v j
/-- The gated convolution. -/
def conv (j : Fin 512) : EReal := T.cb j * (W.w0 j * T.before j + W.w1 j * T.here j + W.w2 j * T.after j)
def y (j : Fin 1024) : EReal :=
  if h : j.val < 512 then T.conv W ⟨j.val, h⟩ * groupInv (T.conv W) (gh ⟨j.val, h⟩) * W.cn ⟨j.val, h⟩
  else T.o ⟨j.val - 512, by omega⟩ * headInv T.o (vh ⟨j.val - 512, by omega⟩) * W.gn ⟨j.val - 512, by omega⟩ * silu (T.g ⟨j.val - 512, by omega⟩)
def x1 (j : Fin 1024) : EReal := T.x j + mulN (T.y W) W.wo j
def xn (j : Fin 1024) : EReal := T.x1 W j * rinv c1024 (T.x1 W) * W.xn j
def query : Fin 1024 → EReal := mulN (T.xn W) W.wq
def att : Fin 1024 → EReal := attend (T.query W) W.K W.V
def x2 (j : Fin 1024) : EReal := T.x1 W j + mulN (T.att W) W.wx j

/-- Where the convolution's rows and weights are real numbers, so is its output. -/
theorem conv_real (hc : ∀ j, IsReal (T.cb j)) (hb : ∀ j, IsReal (T.before j)) (hh : ∀ j, IsReal (T.here j)) (ha : ∀ j, IsReal (T.after j))
    (h0 : ∀ j, IsReal (W.w0 j)) (h1 : ∀ j, IsReal (W.w1 j)) (h2 : ∀ j, IsReal (W.w2 j)) (j : Fin 512) : IsReal (T.conv W j) :=
  (hc j).mul ((((h0 j).mul (hb j)).add ((h1 j).mul (hh j))).add ((h2 j).mul (ha j)))
end Token

/-! ## A sum over one group, taken as a product with a matrix of zeros and ones

The entries of a row are split in two parts, whose second one is zero where the entry is a real number. -/

theorem sub_self_real {x : EReal} (h : IsReal x) : x - x = 0 := by
  obtain ⟨r, rfl⟩ := h
  exact_mod_cast congrArg Real.toEReal (sub_self r)

theorem shr6 : ∀ x : Fin 128, IntOp.shrsi .vector (BitVec.ofNat 32 x.val) 6#32 = BitVec.ofNat 32 (x.val / 64) := by decide +kernel
theorem shr7 : ∀ x : Fin 256, IntOp.shrsi .vector (BitVec.ofNat 32 x.val) 7#32 = BitVec.ofNat 32 (x.val / 128) := by decide +kernel

/-- Of 128 entries those of half `b` are kept. -/
theorem sum_half (f : Fin 128 → EReal) (b : Fin 2) :
    ∑ x : Fin 128, Scalar.select (IntOp.cmpi .eq (BitVec.ofNat 32 (x.val / 64)) (BitVec.ofNat 32 b.val)) (f x) 0
      = ∑ d : Fin 64, f ⟨b.val * 64 + d.val, by omega⟩ := by
  refine (Fin.sum_mul_add_fin 2 64 _).symm.trans ?_
  have hd : ∀ (a : Fin 2) (d : Fin 64), (a.val * 64 + d.val) / 64 = a.val := fun a d => by omega
  rw [Fin.sum_univ_two]
  fin_cases b
  · refine (congr (congrArg HAdd.hAdd (Finset.sum_congr rfl fun d _ => ?_)) (Finset.sum_eq_zero fun d _ => ?_)).trans (add_zero _)
    · show Scalar.select (IntOp.cmpi .eq (BitVec.ofNat 32 ((0 * 64 + d.val) / 64)) (BitVec.ofNat 32 0)) _ _ = _
      rw [show (0 * 64 + d.val) / 64 = 0 by omega]; rfl
    · show Scalar.select (IntOp.cmpi .eq (BitVec.ofNat 32 ((1 * 64 + d.val) / 64)) (BitVec.ofNat 32 0)) _ _ = _
      rw [show (1 * 64 + d.val) / 64 = 1 by omega]; rfl
  · refine (congr (congrArg HAdd.hAdd (Finset.sum_eq_zero fun d _ => ?_)) (Finset.sum_congr rfl fun d _ => ?_)).trans (zero_add _)
    · show Scalar.select (IntOp.cmpi .eq (BitVec.ofNat 32 ((0 * 64 + d.val) / 64)) (BitVec.ofNat 32 1)) _ _ = _
      rw [show (0 * 64 + d.val) / 64 = 0 by omega]; rfl
    · show Scalar.select (IntOp.cmpi .eq (BitVec.ofNat 32 ((1 * 64 + d.val) / 64)) (BitVec.ofNat 32 1)) _ _ = _
      rw [show (1 * 64 + d.val) / 64 = 1 by omega]; rfl

/-- The second part adds nothing where the entries are real numbers. -/
theorem sum_rest (f : Fin 128 → EReal) (hf : ∀ x, IsReal (f x)) (s : Fin 128 → BitVec 1) :
    ∑ x : Fin 128, Scalar.select (s x) (f x - f x) 0 = 0 :=
  Finset.sum_eq_zero fun x _ => by rw [sub_self_real (hf x)]; unfold Scalar.select; split <;> rfl

end Mix
-- ==== Proof.Mix.Blocks.lean ====
module

public import proofs.«01_k».proof.Proof.Mix.Outs
public import proofs.«01_k».proof.Proof.Mix.Rows

/-! # What one grid point computes, token by token

The values of the body's parts at a row of the block, as the functions of Mix/Rows.lean of that row. -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix

/-- Half `b` of 128 entries, kept by comparing two shifted positions. -/
theorem masked (f : Fin 128 → EReal) (hf : ∀ x, IsReal (f x)) (b : Fin 2) (n k : BitVec 32) (hn : IntOp.shrsi .vector n k = BitVec.ofNat 32 b.val) :
    (∑ x : Fin 128, Scalar.select (IntOp.cmpi .eq (IntOp.shrsi .vector (BitVec.ofNat 32 x.val) 6#32) (IntOp.shrsi .vector n k)) (f x) 0)
      + ∑ x : Fin 128, Scalar.select (IntOp.cmpi .eq (IntOp.shrsi .vector (BitVec.ofNat 32 x.val) 6#32) (IntOp.shrsi .vector n k)) (f x - f x) 0
      = ∑ d : Fin 64, f ⟨b.val * 64 + d.val, by omega⟩ := by
  rw [sum_rest f hf, add_zero, hn, ← sum_half f b]
  exact Finset.sum_congr rfl fun x _ => by rw [shr6 x]

/-- A choice made by comparing two words. -/
theorem pick_word (a b : BitVec 32) (x y : EReal) : Scalar.select (Scalar.cmpi .eq a b) x y = if a = b then x else y := by
  show Scalar.select (IntOp.cmpi .eq a b) x y = _
  by_cases h : a = b
  · subst h; rw [if_pos rfl]; simp [IntOp.cmpi, Scalar.select]
  · rw [if_neg h]
    have e : (a == b) = false := beq_eq_false_iff_ne.mpr h
    simp only [IntOp.cmpi, Scalar.select, e]
    rfl
theorem pick_eq (a b : ℕ) (ha : a < 2 ^ 32) (hb : b < 2 ^ 32) (x y : EReal) :
    Scalar.select (IntOp.cmpi .eq (BitVec.ofNat 32 a) (BitVec.ofNat 32 b)) x y = if a = b then x else y := by
  refine (pick_word _ _ _ _).trans (if_congr ⟨fun h => ?_, fun h => by rw [h]⟩ rfl rfl)
  have := congrArg BitVec.toNat h
  rwa [BitVec.toNat_ofNat, BitVec.toNat_ofNat, Nat.mod_eq_of_lt ha, Nat.mod_eq_of_lt hb] at this

section Gla
variable (zq zk : FVec Ideal S512x256 .f32) (v f b g : FVec Ideal S512x512 .f32) (gn : FVec Ideal S1x512 .f32) (r : Fin 512) (j : Fin 512)

/-- The products of queries and keys, head by head. -/
theorem diag_apply (hq : ∀ i, IsReal (zq i)) (hk : ∀ i, IsReal (zk i)) :
    k0_pay3 (F := Ideal) zq zk (ix2 r j) = ∑ d : Fin 64, zq (ix2 r (kl (vh j) d)) * c8 * zk (ix2 r (kl (vh j) d)) := by
  have hr : ∀ i, IsReal (zq i * c8 * zk i) := fun i => ((hq i).mul ⟨_, c8_eq⟩).mul (hk i)
  pointwise [k0_pay3]
  split_ifs with h
  · refine (masked (fun x => zq (ix2 r ⟨x.val, by omega⟩) * c8 * zk (ix2 r ⟨x.val, by omega⟩)) (fun x => hr _) ⟨j.val / 128, by omega⟩ _ _ (shr7 ⟨j.val, h⟩)).trans ?_
    exact Finset.sum_congr rfl fun d _ => rfl
  · refine (masked (fun x => zq (ix2 r ⟨128 + x.val, by omega⟩) * c8 * zk (ix2 r ⟨128 + x.val, by omega⟩)) (fun x => hr _) ⟨(j.val - 256) / 128, by omega⟩ _ _ (shr7 ⟨j.val - 256, by omega⟩)).trans ?_
    refine Finset.sum_congr rfl fun d _ => ?_
    have e : (⟨128 + ((j.val - 256) / 128 * 64 + d.val), by omega⟩ : Fin 256) = kl (vh j) d := Fin.ext (by show 128 + ((j.val - 256) / 128 * 64 + d.val) = j.val / 128 * 64 + d.val; omega)
    show zq (ix2 r ⟨128 + ((j.val - 256) / 128 * 64 + d.val), _⟩) * c8 * zk (ix2 r ⟨128 + ((j.val - 256) / 128 * 64 + d.val), _⟩) = _
    rw [e]

/-- The summed outputs of both directions, without the product counted twice. -/
theorem o_apply : k0_pay5 (F := Ideal) (k0_pay2 v) (k0_pay3 zq zk) (k0_pay4 f b) (ix2 r j)
    = f (ix2 r j) + b (ix2 r j) - k0_pay3 (F := Ideal) zq zk (ix2 r j) * v (ix2 r j) := by
  generalize hs : k0_pay3 (F := Ideal) zq zk = s
  pointwise [k0_pay5, k0_pay2, k0_pay4]

variable (s o p : FVec Ideal S512x512 .f32)

/-- Each head's columns of the normalised output. -/
theorem head0 (hp : k0_pay5 (F := Ideal) v s o = p) (d : Fin 128) : k0_pay6 (F := Ideal) v s o (ix2 r d) = p (ix2 r (vl 0 d)) * headInv (row p r) 0 := by
  pointwise [k0_pay6, hp]
  have e : ∀ d : Fin 128, (⟨d.val, by omega⟩ : Fin 512) = vl 0 d := fun d => Fin.ext (by simp)
  simp only [e]
  rfl
theorem head1 (hp : k0_pay5 (F := Ideal) v s o = p) (d : Fin 128) : k0_pay7 (F := Ideal) v s o (ix2 r d) = p (ix2 r (vl 1 d)) * headInv (row p r) 1 := by
  pointwise [k0_pay7, hp]; rfl
theorem head2 (hp : k0_pay5 (F := Ideal) v s o = p) (d : Fin 128) : k0_pay8 (F := Ideal) v s o (ix2 r d) = p (ix2 r (vl 2 d)) * headInv (row p r) 2 := by
  pointwise [k0_pay8, hp]; rfl
theorem head3 (hp : k0_pay5 (F := Ideal) v s o = p) (d : Fin 128) :
    k0_pay9 (F := Ideal) v s o (ix2 r d) * k0_pay10 (F := Ideal) v s o (ix2 r 0) = p (ix2 r (vl 3 d)) * headInv (row p r) 3 := by
  pointwise [k0_pay9, k0_pay10, hp]; rfl

theorem join_apply (a b d e : FVec Ideal S512x128 .f32) (e' : FVec Ideal S512x1 .f32) : k0_pay11 (F := Ideal) a b d e e' g gn (ix2 r j)
    = (if h : j.val < 128 then a (ix2 r ⟨j.val, h⟩) else if h : j.val - 128 < 128 then b (ix2 r ⟨j.val - 128, h⟩)
      else if h : j.val - 128 - 128 < 128 then d (ix2 r ⟨j.val - 128 - 128, h⟩) else e (ix2 r ⟨j.val - 128 - 128 - 128, by omega⟩) * e' (ix2 r 0))
      * gn (ix2 0 j) * silu (g (ix2 r j)) := by
  unfold silu
  rw [← zero_sub]
  pointwise [k0_pay11]

theorem at_head (h : Fin 4) (d : Fin 128) (hd : (j : ℕ) = h.val * 128 + d.val) :
    p (ix2 r (vl h d)) * headInv (row p r) h = p (ix2 r j) * headInv (row p r) (vh j) := by
  obtain rfl : j = vl h d := Fin.ext hd
  rw [show vh (vl h d) = h from Fin.ext (by show (h.val * 128 + d.val) / 128 = h.val; omega)]

/-- The normalised and gated output. -/
theorem gated_apply (hp : k0_pay5 (F := Ideal) v s o = p) :
    k0_pay11 (F := Ideal) (k0_pay6 v s o) (k0_pay7 v s o) (k0_pay8 v s o) (k0_pay9 v s o) (k0_pay10 v s o) g gn (ix2 r j)
      = p (ix2 r j) * headInv (row p r) (vh j) * gn (ix2 0 j) * silu (g (ix2 r j)) := by
  refine (join_apply _ _ _ _ _ _ _ _ _).trans (Ideal.mul_congr (Ideal.mul_congr ?_ rfl) rfl)
  by_cases c0 : j.val < 128
  · rw [dif_pos c0]
    exact (head0 _ _ _ _ _ hp _).trans (at_head _ _ _ 0 ⟨j.val, c0⟩ (by simp))
  rw [dif_neg c0]
  by_cases c1 : j.val - 128 < 128
  · rw [dif_pos c1]
    exact (head1 _ _ _ _ _ hp _).trans (at_head _ _ _ 1 ⟨j.val - 128, c1⟩ (by show j.val = 1 * 128 + (j.val - 128); omega))
  rw [dif_neg c1]
  by_cases c2 : j.val - 128 - 128 < 128
  · rw [dif_pos c2]
    exact (head2 _ _ _ _ _ hp _).trans (at_head _ _ _ 2 ⟨j.val - 128 - 128, c2⟩ (by show j.val = 2 * 128 + (j.val - 128 - 128); omega))
  rw [dif_neg c2]
  exact (head3 _ _ _ _ _ hp _).trans (at_head _ _ _ 3 ⟨j.val - 128 - 128 - 128, by omega⟩ (by show j.val = 3 * 128 + (j.val - 128 - 128 - 128); omega))
end Gla

section Conv
variable (n : BitVec 32) (cb cc cu : FVec Ideal S512x512 .f32) (ccp cup ccn cun w0 w1 w2 cn : FVec Ideal S1x512 .f32) (r : Fin 512) (j : Fin 512)

/-- The convolution's output over the block. -/
abbrev convBlk : FVec Ideal S512x512 .f32 :=
  k0_pay19 (F := Ideal) n (k0_pay12 cb) (k0_pay13 cc) (k0_pay14 cu) (k0_pay15 ccp) (k0_pay16 cup) (k0_pay17 ccn) (k0_pay18 cun) (Scalar.cmpi .eq n 0#32) 15#32 w0 w1 w2

theorem conv_apply : convBlk n cb cc cu ccp cup ccn cun w0 w1 w2 (ix2 r j)
    = cb (ix2 r j) * (w0 (ix2 0 j) * (if r.val = 0 then (if n = 0#32 then 0 else ccp (ix2 0 j) * cup (ix2 0 j)) else cc (ix2 ⟨r.val - 1, by omega⟩ j) * cu (ix2 ⟨r.val - 1, by omega⟩ j))
      + w1 (ix2 0 j) * (cc (ix2 r j) * cu (ix2 r j))
      + w2 (ix2 0 j) * (if h : r.val = 511 then (if n = 15#32 then 0 else ccn (ix2 0 j) * cun (ix2 0 j)) else cc (ix2 ⟨r.val + 1, by omega⟩ j) * cu (ix2 ⟨r.val + 1, by omega⟩ j))) := by
  pointwise [k0_pay19, k0_pay12, k0_pay13, k0_pay14, k0_pay15, k0_pay16, k0_pay17, k0_pay18]
  refine Ideal.mul_congr rfl (Ideal.add_congr (Ideal.add_congr (Ideal.mul_congr rfl ?_) rfl) (Ideal.mul_congr rfl ?_))
  · rw [pick_eq (Fin.val r) 0 (by have := r.isLt; omega) (by omega)]
    refine ite_congr rfl (fun _ => pick_word _ _ _ _) fun h => ?_
    rw [show (⟨(r.val + 512 - 1) % 512, Nat.mod_lt _ (by omega)⟩ : Fin 512) = ⟨r.val - 1, by omega⟩ from Fin.ext (by show (r.val + 512 - 1) % 512 = r.val - 1; omega)]
  · rw [pick_eq (Fin.val r) 511 (by have := r.isLt; omega) (by omega)]
    by_cases h : r.val = 511
    · rw [if_pos h, dif_pos h]
      exact pick_word _ _ _ _
    · rw [if_neg h, dif_neg h]
      rw [show (⟨(r.val + 512 - 511) % 512, Nat.mod_lt _ (by omega)⟩ : Fin 512) = ⟨r.val + 1, by omega⟩ from Fin.ext (by show (r.val + 512 - 511) % 512 = r.val + 1; omega)]

theorem square_apply (v111 v113 v115 v117 : FVec Ideal S1x512 .f32) (v118 : BitVec 1) (i : S512x512.Idx) :
    k0_pay20 (F := Ideal) n cb cc cu v111 v113 v115 v117 v118 15#32 w0 w1 w2 i
      = k0_pay19 (F := Ideal) n cb cc cu v111 v113 v115 v117 v118 15#32 w0 w1 w2 i * k0_pay19 (F := Ideal) n cb cc cu v111 v113 v115 v117 v118 15#32 w0 w1 w2 i := by
  generalize hp : k0_pay19 (F := Ideal) n cb cc cu v111 v113 v115 v117 v118 15#32 w0 w1 w2 = p
  pointwise [k0_pay20, hp]

/-- The convolution's normalised output. -/
theorem normed_apply (v s : FVec Ideal S512x512 .f32) (hs : ∀ i, s i = v i * v i) (hv : ∀ i, IsReal (v i)) :
    k0_pay22 (F := Ideal) v s k0_pay21 cn (ix2 r j) = v (ix2 r j) * groupInv (row v r) (gh j) * cn (ix2 0 j) := by
  have hr : ∀ i, IsReal (s i) := fun i => by rw [hs]; exact (hv i).mul (hv i)
  pointwise [k0_pay22, k0_pay21]
  refine Ideal.mul_congr (Ideal.mul_congr rfl (congrArg Ideal.rsqrt (congrArg (· + eps) ((mul_64 _).trans (congrArg (Ideal.div · c64) ?_))))) rfl
  have col : ∀ (b : Fin 4) (e : Fin 128), (j : ℕ) = b.val * 128 + e.val →
      ∑ d : Fin 64, s (ix2 r ⟨b.val * 128 + (e.val / 64 * 64 + d.val), by omega⟩) = ∑ d : Fin 64, row v r (gl (gh j) d) * row v r (gl (gh j) d) := by
    intro b e he
    refine Finset.sum_congr rfl fun d _ => ?_
    rw [show (⟨b.val * 128 + (e.val / 64 * 64 + d.val), by omega⟩ : Fin 512) = gl (gh j) d from Fin.ext (by show b.val * 128 + (e.val / 64 * 64 + d.val) = j.val / 64 * 64 + d.val; omega)]
    exact hs _
  split_ifs with c0 c1 c2
  · refine (masked (fun x => s (ix2 r ⟨x.val, by omega⟩)) (fun x => hr _) ⟨j.val / 64, by omega⟩ _ _ (shr6 ⟨j.val, c0⟩)).trans ?_
    refine Eq.trans (Finset.sum_congr rfl fun d _ => congrArg (fun i => s (ix2 r i)) (Fin.ext ?_)) (col 0 ⟨j.val, c0⟩ (by simp))
    simp
  · refine (masked (fun x => s (ix2 r ⟨128 + x.val, by omega⟩)) (fun x => hr _) ⟨(j.val - 128) / 64, by omega⟩ _ _ (shr6 ⟨j.val - 128, c1⟩)).trans (col 1 ⟨j.val - 128, c1⟩ (by show j.val = 1 * 128 + (j.val - 128); omega))
  · refine (masked (fun x => s (ix2 r ⟨256 + x.val, by omega⟩)) (fun x => hr _) ⟨(j.val - 128 - 128) / 64, by omega⟩ _ _ (shr6 ⟨j.val - 128 - 128, c2⟩)).trans (col 2 ⟨j.val - 128 - 128, c2⟩ (by show j.val = 2 * 128 + (j.val - 128 - 128); omega))
  · refine (masked (fun x => s (ix2 r ⟨384 + x.val, by omega⟩)) (fun x => hr _) ⟨(j.val - 128 - 128 - 128) / 64, by omega⟩ _ _ (shr6 ⟨j.val - 128 - 128 - 128, by omega⟩)).trans (col 3 ⟨j.val - 128 - 128 - 128, by omega⟩ (by show j.val = 3 * 128 + (j.val - 128 - 128 - 128); omega))
end Conv

end Cert.MixFwdIdeal.Hand
-- ==== Proof.Mix.Heads.lean ====
module

public import proofs.«01_k».proof.Proof.Mix.Blocks

/-! # What one grid point computes after the mixed row: the query and the attention over the memory -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix

section Rows
variable (x : FVec Ideal S512x1024 .f32) (y : FVec Ideal S512x1024 .bf16) (wo wq wx : FVec Ideal S1024x1024 .bf16) (g : FVec Ideal S1x1024 .f32)
  (r : Fin 512) (j : Fin 1024)

theorem sum_apply : k0_pay23 (F := Ideal) x y wo (ix2 r j) = x (ix2 r j) + mulN (row y r) wo j := by
  pointwise [k0_pay23, mulN]
theorem norm_apply (p : FVec Ideal S512x1024 .f32) (hp : k0_pay23 (F := Ideal) x y wo = p) :
    k0_pay24 (F := Ideal) x y wo g (ix2 r j) = p (ix2 r j) * rinv c1024 (row p r) * g (ix2 0 j) := by
  pointwise [k0_pay24, hp]
  rfl
theorem query_apply (p : FVec Ideal S512x1024 .bf16) (hp : k0_pay24 (F := Ideal) x y wo g = p) :
    k0_pay25 (F := Ideal) x y wo g wq (ix2 r j) = mulN (row p r) wq j := by
  pointwise [k0_pay25, hp, mulN]
theorem out_apply (p : FVec Ideal S512x1024 .f32) (a : FVec Ideal S512x1024 .bf16) : k0_pay1 (F := Ideal) p a wx (ix2 r j) = p (ix2 r j) + mulN (row a r) wx j := by
  pointwise [k0_pay1, mulN]
end Rows

section Heads
variable (q : FVec Ideal S512x1024 .bf16) (k v : FVec Ideal S256x256 .bf16) (r : Fin 512)

/-- Each head's weights of a block. -/
theorem prob0 (x : FVec Ideal S512x1024 .f32) (y : FVec Ideal S512x1024 .bf16) (wo wq : FVec Ideal S1024x1024 .bf16) (g : FVec Ideal S1x1024 .f32)
    (hq : k0_pay25 (F := Ideal) x y wo g wq = q) (m : Fin 256) :
    k0_pay27 (F := Ideal) (k0_pay26 (F := Ideal) x y wo g wq k) (FloatOps.ofBits (F := Ideal) .f32 0x3D800000#32) (ix2 r m)
      = Attn.prob (fun d => q (ix2 r (al 0 d))) (fun m d => k (ix2 m d)) m := by
  have e : ∀ d : Fin 256, (⟨d.val, by omega⟩ : Fin 1024) = al 0 d := fun d => Fin.ext (by simp)
  have hs : ∀ m, k0_pay26 (F := Ideal) x y wo g wq k (ix2 r m) = ∑ d : Fin 256, q (ix2 r (al 0 d)) * k (ix2 m d) := by
    intro m
    pointwise [k0_pay26, hq]
    simp only [e]
  generalize k0_pay26 (F := Ideal) x y wo g wq k = s at hs
  pointwise [k0_pay27]
  simp only [hs]
  rfl
theorem prob1 (m : Fin 256) : k0_pay28 (F := Ideal) q k (ix2 r m) = Attn.prob (fun d => q (ix2 r (al 1 d))) (fun m d => k (ix2 m d)) m := by
  pointwise [k0_pay28]; rfl
theorem prob2 (m : Fin 256) : k0_pay29 (F := Ideal) q k (ix2 r m) = Attn.prob (fun d => q (ix2 r (al 2 d))) (fun m d => k (ix2 m d)) m := by
  pointwise [k0_pay29]; rfl

theorem mix_apply (p : FVec Ideal S512x256 .f32) (i : S512x256.Idx) : k0_pay32 (F := Ideal) p v i = ∑ m : Fin 256, p (ix2 (i 0) m) * v (ix2 m (i 1)) := by
  pointwise [k0_pay32]
theorem mix_same (p : FVec Ideal S512x256 .f32) : k0_pay33 (F := Ideal) p v = k0_pay32 p v ∧ k0_pay34 (F := Ideal) p v = k0_pay32 p v := ⟨rfl, rfl⟩
theorem mix3_apply (i : S512x256.Idx) : k0_pay35 (F := Ideal) (k0_pay30 q) (k0_pay31 k) v i
    = ∑ m : Fin 256, Attn.prob (fun d => q (ix2 (i 0) (al 3 d))) (fun m d => k (ix2 m d)) m * v (ix2 m (i 1)) := by
  pointwise [k0_pay35, k0_pay30, k0_pay31]; rfl

/-- Head `h`'s columns of the attention's output. -/
theorem att_piece (h : Fin 4) (Q : Fin 1024 → EReal) (K V : Fin 256 → Fin 1024 → EReal) (i : S512x256.Idx) (j : Fin 1024) (hj : (j : ℕ) = h.val * 256 + (i 1).val)
    (p : Fin 256 → EReal) (hp : ∀ m, p m = Attn.prob (fun d => Q (al h d)) (fun m d => k (ix2 m d)) m)
    (hk : ∀ m d, k (ix2 m d) = K m (al h d)) (hv : ∀ m d, v (ix2 m d) = V m (al h d)) :
    ∑ m : Fin 256, p m * v (ix2 m (i 1)) = attend Q K V j := by
  have hx : (i 1).val < 256 := (i 1).isLt
  obtain rfl : j = al h (i 1) := Fin.ext hj
  have hh : ah (al h (i 1)) = h := Fin.ext (by show (h.val * 256 + (i 1).val) / 256 = h.val; omega)
  unfold attend
  rw [hh]
  refine Finset.sum_congr rfl fun m _ => Ideal.mul_congr ((hp m).trans ?_) (hv m _)
  exact congrFun (congrArg (Attn.prob _) (funext fun m => funext fun d => hk m d)) m

/-- The columns of each head. -/
abbrev cq0 := Rect.unit (s := S512x1024) ![0, 0] ![512, 256] inb_S512x1024_S512x256_0_0
abbrev cq1 := Rect.unit (s := S512x1024) ![0, 256] ![512, 256] inb_S512x1024_S512x256_0_256
abbrev cq2 := Rect.unit (s := S512x1024) ![0, 512] ![512, 256] inb_S512x1024_S512x256_0_512
abbrev cq3 := Rect.unit (s := S512x1024) ![0, 768] ![512, 256] inb_S512x1024_S512x256_0_768
abbrev ck0 := Rect.unit (s := S256x1024) ![0, 0] ![256, 256] inb_S256x1024_S256x256_0_0
abbrev ck1 := Rect.unit (s := S256x1024) ![0, 256] ![256, 256] inb_S256x1024_S256x256_0_256
abbrev ck2 := Rect.unit (s := S256x1024) ![0, 512] ![256, 256] inb_S256x1024_S256x256_0_512
abbrev ck3 := Rect.unit (s := S256x1024) ![0, 768] ![256, 256] inb_S256x1024_S256x256_0_768

variable (x : FVec Ideal S512x1024 .f32) (y : FVec Ideal S512x1024 .bf16) (wo wq : FVec Ideal S1024x1024 .bf16) (g : FVec Ideal S1x1024 .f32)
  (K V : FVec Ideal S256x1024 .bf16)

/-- The attention's output over a block as the body stores it, one piece for each head. -/
abbrev attPieces : List (View.Piece (Elt Ideal) S512x1024 .bf16) :=
  [⟨cq3, k0_pay35 (F := Ideal) (k0_pay30 (k0_pay25 (F := Ideal) x y wo g wq)) (k0_pay31 (View.ld K ck3)) (View.ld V ck3)⟩,
   ⟨cq2, k0_pay34 (F := Ideal) (k0_pay29 (k0_pay25 (F := Ideal) x y wo g wq) (View.ld K ck2)) (View.ld V ck2)⟩,
   ⟨cq1, k0_pay33 (F := Ideal) (k0_pay28 (k0_pay25 (F := Ideal) x y wo g wq) (View.ld K ck1)) (View.ld V ck1)⟩,
   ⟨cq0, k0_pay32 (F := Ideal) (k0_pay27 (k0_pay26 (F := Ideal) x y wo g wq (View.ld K ck0)) (FloatOps.ofBits (F := Ideal) .f32 0x3D800000#32)) (View.ld V ck0)⟩]

theorem att_canon (z : S512x1024.Idx) :
    View.canon (attPieces x y wo wq g K V) z = attend (row (k0_pay25 (F := Ideal) x y wo g wq) (z 0)) (row K) (row V) (z 1) := by
  generalize hq : k0_pay25 (F := Ideal) x y wo g wq = q
  unfold attPieces
  rw [hq]
  canon_tiles i hi
  all_goals obtain hz : z 0 = i 0 := Fin.ext hi0
  all_goals rw [hz]
  · exact (mix3_apply q _ _ i).trans (att_piece _ _ 3 (row q (i 0)) (row K) (row V) i _ hi1 _ (fun m => rfl) (by intro r d; pointwise; blk_ext) (by intro r d; pointwise; blk_ext))
  · rw [(mix_same _ _).2, mix_apply]
    exact att_piece _ _ 2 (row q (i 0)) (row K) (row V) i _ hi1 _ (prob2 q _ (i 0)) (by intro r d; pointwise; blk_ext) (by intro r d; pointwise; blk_ext)
  · rw [(mix_same _ _).1, mix_apply]
    exact att_piece _ _ 1 (row q (i 0)) (row K) (row V) i _ hi1 _ (prob1 q _ (i 0)) (by intro r d; pointwise; blk_ext) (by intro r d; pointwise; blk_ext)
  · rw [mix_apply]
    exact att_piece _ _ 0 (row q (i 0)) (row K) (row V) i _ (by simpa using hi1) _ (prob0 q _ (i 0) x y wo wq g hq) (by intro r d; pointwise; blk_ext) (by intro r d; pointwise; blk_ext)
end Heads

end Cert.MixFwdIdeal.Hand
-- ==== Proof.Mix.Point.lean ====
module

public import proofs.«01_k».proof.Proof.Mix.Heads

/-! # The seven blocks that one grid point writes, row by row -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix

variable (m : (ℓ : Loc nD τ sig) → Buf (Elt Ideal) ℓ) (c : Dev nD) (t : Fin cfg0.N)

/-- The grid point's number as the body reads it. -/
abbrev point : BitVec 32 := BitVec.ofNat 32 (grid0.coords t 0)

/-- What the point reads of the token at row `r` of its block. -/
abbrev tokAt (r : Fin 512) : Token where
  x := row (iblk m c 0 t : FVec Ideal S512x1024 .f32) r
  cb := row (X0_5 m c t : FVec Ideal S512x512 .f32) r
  before j := if r.val = 0 then (if point t = 0#32 then 0 else row (X0_8 m c t : FVec Ideal S8x512 .f32) 7 j * row (X0_10 m c t : FVec Ideal S8x512 .f32) 7 j)
    else row (X0_6 m c t : FVec Ideal S512x512 .f32) ⟨r.val - 1, by omega⟩ j * row (X0_7 m c t : FVec Ideal S512x512 .f32) ⟨r.val - 1, by omega⟩ j
  here j := row (X0_6 m c t : FVec Ideal S512x512 .f32) r j * row (X0_7 m c t : FVec Ideal S512x512 .f32) r j
  after j := if h : r.val = 511 then (if point t = 15#32 then 0 else row (X0_9 m c t : FVec Ideal S8x512 .f32) 0 j * row (X0_11 m c t : FVec Ideal S8x512 .f32) 0 j)
    else row (X0_6 m c t : FVec Ideal S512x512 .f32) ⟨r.val + 1, by omega⟩ j * row (X0_7 m c t : FVec Ideal S512x512 .f32) ⟨r.val + 1, by omega⟩ j
  q := row (X0_1 m c t : FVec Ideal S512x256 .f32) r
  k := row (X0_2 m c t : FVec Ideal S512x256 .f32) r
  v := row (X0_3 m c t : FVec Ideal S512x512 .f32) r
  g := row (X0_4 m c t : FVec Ideal S512x512 .f32) r
  f := row (iblk m c 12 t : FVec Ideal S512x512 .f32) r
  b := row (iblk m c 13 t : FVec Ideal S512x512 .f32) r

/-- The weights it reads. -/
abbrev wAt : Weights where
  w0 := row (iblk m c 14 t : FVec Ideal S3x512 .f32) 0
  w1 := row (iblk m c 14 t : FVec Ideal S3x512 .f32) 1
  w2 := row (iblk m c 14 t : FVec Ideal S3x512 .f32) 2
  cn := row (iblk m c 15 t : FVec Ideal S1x512 .f32) 0
  gn := row (iblk m c 16 t : FVec Ideal S1x512 .f32) 0
  wo := (iblk m c 17 t : FVec Ideal S1024x1024 .bf16)
  xn := row (iblk m c 18 t : FVec Ideal S1x1024 .f32) 0
  wq := (iblk m c 19 t : FVec Ideal S1024x1024 .bf16)
  K := row (iblk m c 20 t : FVec Ideal S256x1024 .bf16)
  V := row (iblk m c 21 t : FVec Ideal S256x1024 .bf16)
  wx := (iblk m c 22 t : FVec Ideal S1024x1024 .bf16)

/-- Where the rows that the two splittings concern are real numbers. -/
structure RealAt : Prop where
  q : ∀ i, IsReal (X0_1 m c t i : EReal)
  k : ∀ i, IsReal (X0_2 m c t i : EReal)
  cb : ∀ i, IsReal (X0_5 m c t i : EReal)
  before : ∀ r j, IsReal ((tokAt m c t r).before j)
  here : ∀ r j, IsReal ((tokAt m c t r).here j)
  after : ∀ r j, IsReal ((tokAt m c t r).after j)
  w : ∀ i, IsReal ((iblk m c 14 t : FVec Ideal S3x512 .f32) i)

abbrev diagBlk : FVec Ideal S512x512 .f32 := k0_pay3 (F := Ideal) (X0_1 m c t) (X0_2 m c t)
abbrev oBlk : FVec Ideal S512x512 .f32 := k0_pay5 (F := Ideal) (k0_pay2 (X0_3 m c t)) (diagBlk m c t) (k0_pay4 (iblk m c 12 t) (iblk m c 13 t))
abbrev halo7 (A : Vec Ideal S8x512 .f32) : FVec Ideal S1x512 .f32 := View.ld A (Rect.unit (s := S8x512) ![7, 0] ![1, 512] inb_S8x512_S1x512_7_0)
abbrev halo0 (A : Vec Ideal S8x512 .f32) : FVec Ideal S1x512 .f32 := View.ld A (Rect.unit (s := S8x512) ![0, 0] ![1, 512] inb_S8x512_S1x512_0_0)
abbrev cw0 : FVec Ideal S1x512 .f32 := View.ld (iblk m c 14 t : FVec Ideal S3x512 .f32) (Rect.unit (s := S3x512) ![0, 0] ![1, 512] inb_S3x512_S1x512_0_0)
abbrev cw1 : FVec Ideal S1x512 .f32 := View.ld (iblk m c 14 t : FVec Ideal S3x512 .f32) (Rect.unit (s := S3x512) ![1, 0] ![1, 512] inb_S3x512_S1x512_1_0)
abbrev cw2 : FVec Ideal S1x512 .f32 := View.ld (iblk m c 14 t : FVec Ideal S3x512 .f32) (Rect.unit (s := S3x512) ![2, 0] ![1, 512] inb_S3x512_S1x512_2_0)
abbrev convAt : FVec Ideal S512x512 .f32 :=
  convBlk (point t) (X0_5 m c t) (X0_6 m c t) (X0_7 m c t) (halo7 (X0_8 m c t)) (halo7 (X0_10 m c t)) (halo0 (X0_9 m c t)) (halo0 (X0_11 m c t))
    (cw0 m c t) (cw1 m c t) (cw2 m c t)
abbrev squareAt : FVec Ideal S512x512 .f32 :=
  k0_pay20 (F := Ideal) (point t) (k0_pay12 (X0_5 m c t)) (k0_pay13 (X0_6 m c t)) (k0_pay14 (X0_7 m c t)) (k0_pay15 (halo7 (X0_8 m c t))) (k0_pay16 (halo7 (X0_10 m c t)))
    (k0_pay17 (halo0 (X0_9 m c t))) (k0_pay18 (halo0 (X0_11 m c t))) (Scalar.cmpi .eq (point t) 0#32) 15#32 (cw0 m c t) (cw1 m c t) (cw2 m c t)
abbrev gatedAt : FVec Ideal S512x512 .bf16 :=
  k0_pay11 (F := Ideal) (k0_pay6 (k0_pay2 (X0_3 m c t)) (diagBlk m c t) (k0_pay4 (iblk m c 12 t) (iblk m c 13 t)))
    (k0_pay7 (k0_pay2 (X0_3 m c t)) (diagBlk m c t) (k0_pay4 (iblk m c 12 t) (iblk m c 13 t)))
    (k0_pay8 (k0_pay2 (X0_3 m c t)) (diagBlk m c t) (k0_pay4 (iblk m c 12 t) (iblk m c 13 t)))
    (k0_pay9 (k0_pay2 (X0_3 m c t)) (diagBlk m c t) (k0_pay4 (iblk m c 12 t) (iblk m c 13 t)))
    (k0_pay10 (k0_pay2 (X0_3 m c t)) (diagBlk m c t) (k0_pay4 (iblk m c 12 t) (iblk m c 13 t))) (X0_4 m c t) (iblk m c 16 t)

/-- The mixed rows as the body stores them: the convolution's half and the linear attention's. -/
abbrev yPieces : List (View.Piece (Elt Ideal) S512x1024 .bf16) :=
  [⟨Rect.unit (s := S512x1024) ![0, 0] ![512, 512] inb_S512x1024_S512x512_0_0, k0_pay22 (F := Ideal) (convAt m c t) (squareAt m c t) k0_pay21 (iblk m c 15 t)⟩,
   ⟨Rect.unit (s := S512x1024) ![0, 512] ![512, 512] inb_S512x1024_S512x512_0_512, gatedAt m c t⟩]
def yBlk : FVec Ideal S512x1024 .bf16 := fun y => View.canon (yPieces m c t) y
abbrev attBlk : List (View.Piece (Elt Ideal) S512x1024 .bf16) :=
  attPieces (iblk m c 0 t) (yBlk m c t) (iblk m c 17 t) (iblk m c 19 t) (iblk m c 18 t) (iblk m c 20 t) (iblk m c 21 t)
def aBlk : FVec Ideal S512x1024 .bf16 := fun y => View.canon (attBlk m c t) y

theorem y_read : (ms0_28 t).view.readCov (yPieces m c t) (Rect.unit (s := S512x1024) ![0, 0] ![512, 1024] inb_S512x1024_S512x1024_0_0).toLoadRect = yBlk m c t := by
  rw [View.readCov_eq_canon']
  exact View.ld_unit_lit _ _ (by decide)
theorem a_read : (ms0_27 t).view.readCov (attBlk m c t) (Rect.unit (s := S512x1024) ![0, 0] ![512, 1024] inb_S512x1024_S512x1024_0_0).toLoadRect = aBlk m c t := by
  rw [View.readCov_eq_canon']
  exact View.ld_unit_lit _ _ (by decide)

/-! What the run leaves in each output's block. -/

theorem out29_eq : out29 m c t = oBlk m c t := by
  funext y
  unfold out29 runAt bodyRun bodyRun.sl.r bodyRun.sl.r_1 bodyRun.sl.r_2
  frame_out
theorem out28_eq : out28 m c t = yBlk m c t := by
  funext y
  unfold out28 runAt bodyRun
  dsimp only
  unfold bodyRun.sl.H28_2 bodyRun.sl.r_15 bodyRun.sl.r_16 bodyRun.sl.r_8 bodyRun.sl.r_9 bodyRun.sl.r_10 bodyRun.sl.r_11 bodyRun.sl.r_12 bodyRun.sl.r_13 bodyRun.sl.r_14
    bodyRun.sl.r_3 bodyRun.sl.r_4 bodyRun.sl.r_5 bodyRun.sl.r_6 bodyRun.sl.r_7 bodyRun.sl.r bodyRun.sl.r_1 bodyRun.sl.r_2
  frame_out
  rfl
theorem out23_eq : out23 m c t = k0_pay23 (F := Ideal) (iblk m c 0 t) (yBlk m c t) (iblk m c 17 t) := by
  rw [← y_read]
  funext y
  unfold out23 runAt bodyRun
  frame_out
  rfl
theorem out25_eq : out25 m c t = k0_pay24 (F := Ideal) (iblk m c 0 t) (yBlk m c t) (iblk m c 17 t) (iblk m c 18 t) := by
  rw [← y_read]
  funext y
  unfold out25 runAt bodyRun
  frame_out
  rfl
theorem out26_eq : out26 m c t = k0_pay25 (F := Ideal) (iblk m c 0 t) (yBlk m c t) (iblk m c 17 t) (iblk m c 18 t) (iblk m c 19 t) := by
  rw [← y_read]
  funext y
  unfold out26 runAt bodyRun
  frame_out
  rfl
theorem out27_eq : out27 m c t = aBlk m c t := by
  unfold aBlk attBlk
  rw [← y_read]
  funext y
  unfold out27 runAt bodyRun
  dsimp only
  frame_out
  rfl
theorem out24_eq : out24 m c t = k0_pay1 (F := Ideal) (k0_pay23 (F := Ideal) (iblk m c 0 t) (yBlk m c t) (iblk m c 17 t)) (aBlk m c t) (iblk m c 22 t) := by
  rw [← a_read]
  unfold attBlk
  rw [← y_read]
  funext y
  unfold out24 runAt bodyRun
  frame_out
  rfl

end Cert.MixFwdIdeal.Hand
-- ==== Proof.Mix.PointRows.lean ====
module

public import proofs.«01_k».proof.Proof.Mix.Point

/-! # The blocks of one grid point are the rows of the layer's functions -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix

variable (m : (ℓ : Loc nD τ sig) → Buf (Elt Ideal) ℓ) (c : Dev nD) (t : Fin cfg0.N)

/-- Where the one row of a rectangle of full width lies. -/
theorem unit_row {N : ℕ} (o : Fin 2 → ℕ) (h) (p : Fin N) (h0 : o 0 = p.val) (j : Fin 512) (h1 : o 1 = 0) :
    (Rect.unit (s := ⟨2, ![N, 512]⟩) o ![1, 512] h).idx (ix2 0 j) = ix2 p j := by
  funext a
  refine Fin.ext ((Rect.idx_unit_val _ _ _ _ _).trans ?_)
  fin_cases a
  · exact h0
  · exact (congrArg (· + j.val) h1).trans (Nat.zero_add _)
theorem halo7_apply (A : Vec Ideal S8x512 .f32) (j : Fin 512) : halo7 A (ix2 0 j) = A (ix2 7 j) := by
  show View.ld A (Rect.unit (s := S8x512) ![7, 0] ![1, 512] inb_S8x512_S1x512_7_0) (ix2 0 j) = A (ix2 7 j)
  exact congrArg A (unit_row ![7, 0] _ 7 rfl _ rfl)
theorem halo0_apply (A : Vec Ideal S8x512 .f32) (j : Fin 512) : halo0 A (ix2 0 j) = A (ix2 0 j) := by
  show View.ld A (Rect.unit (s := S8x512) ![0, 0] ![1, 512] inb_S8x512_S1x512_0_0) (ix2 0 j) = A (ix2 0 j)
  exact congrArg A (unit_row ![0, 0] _ 0 rfl _ rfl)
theorem cw0_apply (j : Fin 512) : cw0 m c t (ix2 0 j) = (iblk m c 14 t : FVec Ideal S3x512 .f32) (ix2 0 j) := by
  unfold cw0
  generalize iblk m c 14 t = A
  exact congrArg A (unit_row ![0, 0] _ 0 rfl _ rfl)
theorem cw1_apply (j : Fin 512) : cw1 m c t (ix2 0 j) = (iblk m c 14 t : FVec Ideal S3x512 .f32) (ix2 1 j) := by
  unfold cw1
  generalize iblk m c 14 t = A
  exact congrArg A (unit_row ![1, 0] _ 1 rfl _ rfl)
theorem cw2_apply (j : Fin 512) : cw2 m c t (ix2 0 j) = (iblk m c 14 t : FVec Ideal S3x512 .f32) (ix2 2 j) := by
  unfold cw2
  generalize iblk m c 14 t = A
  exact congrArg A (unit_row ![2, 0] _ 2 rfl _ rfl)

variable (H : RealAt m c t) (r : Fin 512)
include H

theorem o_row : row (oBlk m c t) r = (tokAt m c t r).o := by
  funext j
  refine (o_apply _ _ _ _ _ r j).trans ?_
  rw [diag_apply _ _ r j H.q H.k]
  rfl

omit H in
theorem conv_row : row (convAt m c t) r = (tokAt m c t r).conv (wAt m c t) := by
  funext j
  refine (conv_apply _ _ _ _ _ _ _ _ _ _ _ r j).trans ?_
  rw [halo7_apply, halo7_apply, halo0_apply, halo0_apply, cw0_apply, cw1_apply, cw2_apply]
  rfl

theorem conv_is_real (i : S512x512.Idx) : IsReal (convAt m c t i) := by
  obtain ⟨r, j, rfl⟩ : ∃ r j, i = ix2 r j := ⟨i 0, i 1, by blk_ext⟩
  have h := congrFun (conv_row m c t r) j
  rw [show convAt m c t (ix2 r j) = _ from h]
  exact Token.conv_real _ _ (fun j => H.cb _) (H.before r) (H.here r) (H.after r) (fun j => H.w _) (fun j => H.w _) (fun j => H.w _) j

theorem y_row : row (yBlk m c t) r = (tokAt m c t r).y (wAt m c t) := by
  funext j
  show View.canon (yPieces m c t) (ix2 r j) = _
  have hl : ∀ k : Fin 512, k0_pay22 (F := Ideal) (convAt m c t) (squareAt m c t) k0_pay21 (iblk m c 15 t) (ix2 r k)
      = (tokAt m c t r).conv (wAt m c t) k * groupInv ((tokAt m c t r).conv (wAt m c t)) (gh k) * (wAt m c t).cn k := by
    intro k
    refine (normed_apply _ r k _ _ (fun i => square_apply _ _ _ _ _ _ _ _ _ _ _ _ i) (conv_is_real m c t H)).trans ?_
    exact Ideal.mul_congr (Ideal.mul_congr (congrFun (conv_row m c t r) k) (congrArg (groupInv · (gh k)) (conv_row m c t r))) rfl
  have hr : ∀ k : Fin 512, gatedAt m c t (ix2 r k)
      = (tokAt m c t r).o k * headInv (tokAt m c t r).o (vh k) * (wAt m c t).gn k * silu ((tokAt m c t r).g k) := by
    intro k
    refine (gated_apply _ _ _ r k _ _ _ rfl).trans ?_
    exact Ideal.mul_congr (Ideal.mul_congr (Ideal.mul_congr (congrFun (o_row m c t H r) k) (congrArg (headInv · (vh k)) (o_row m c t H r))) rfl) rfl
  unfold yPieces
  generalize hR : (tokAt m c t r).y (wAt m c t) j = R
  generalize k0_pay22 (F := Ideal) (convAt m c t) (squareAt m c t) k0_pay21 (iblk m c 15 t) = L at hl ⊢
  generalize gatedAt m c t = G at hr ⊢
  canon_tiles i hi
  · obtain ⟨r', k, rfl⟩ : ∃ (r' : Fin 512) (k : Fin 512), i = ix2 r' k := ⟨i 0, i 1, by blk_ext⟩
    obtain rfl : r = r' := Fin.ext hi0
    refine (hl k).trans (Eq.trans ?_ hR)
    have hj : j.val = k.val := by simpa using hi1
    unfold Token.y
    rw [dif_pos (by omega)]
    rw [show (⟨j.val, by omega⟩ : Fin 512) = k from Fin.ext hj]
  · obtain ⟨r', k, rfl⟩ : ∃ (r' : Fin 512) (k : Fin 512), i = ix2 r' k := ⟨i 0, i 1, by blk_ext⟩
    obtain rfl : r = r' := Fin.ext hi0
    refine (hr k).trans (Eq.trans ?_ hR)
    have hj : j.val = 512 + k.val := hi1
    unfold Token.y
    rw [dif_neg (by omega)]
    rw [show (⟨j.val - 512, by omega⟩ : Fin 512) = k from Fin.ext (by show j.val - 512 = k.val; omega)]

theorem x1_row : row (k0_pay23 (F := Ideal) (iblk m c 0 t) (yBlk m c t) (iblk m c 17 t)) r = (tokAt m c t r).x1 (wAt m c t) := by
  funext j
  refine (sum_apply _ _ _ r j).trans ?_
  rw [y_row m c t H r]
  rfl
theorem xn_row : row (k0_pay24 (F := Ideal) (iblk m c 0 t) (yBlk m c t) (iblk m c 17 t) (iblk m c 18 t)) r = (tokAt m c t r).xn (wAt m c t) := by
  funext j
  refine (norm_apply _ _ _ _ r j _ rfl).trans ?_
  rw [x1_row m c t H r, show k0_pay23 (F := Ideal) (iblk m c 0 t) (yBlk m c t) (iblk m c 17 t) (ix2 r j) = _ from congrFun (x1_row m c t H r) j]
  rfl
theorem query_row : row (k0_pay25 (F := Ideal) (iblk m c 0 t) (yBlk m c t) (iblk m c 17 t) (iblk m c 18 t) (iblk m c 19 t)) r = (tokAt m c t r).query (wAt m c t) := by
  funext j
  refine (query_apply _ _ _ _ _ r j _ rfl).trans ?_
  rw [xn_row m c t H r]
  rfl
theorem att_row : row (aBlk m c t) r = (tokAt m c t r).att (wAt m c t) := by
  funext j
  refine (att_canon _ _ _ _ _ _ _ (ix2 r j)).trans ?_
  rw [show row (k0_pay25 (F := Ideal) (iblk m c 0 t) (yBlk m c t) (iblk m c 17 t) (iblk m c 18 t) (iblk m c 19 t)) (ix2 r j 0) = _ from query_row m c t H r]
  rfl
theorem x2_row : row (k0_pay1 (F := Ideal) (k0_pay23 (F := Ideal) (iblk m c 0 t) (yBlk m c t) (iblk m c 17 t)) (aBlk m c t) (iblk m c 22 t)) r
    = (tokAt m c t r).x2 (wAt m c t) := by
  funext j
  refine (out_apply _ r j _ _).trans ?_
  rw [att_row m c t H r, show k0_pay23 (F := Ideal) (iblk m c 0 t) (yBlk m c t) (iblk m c 17 t) (ix2 r j) = _ from congrFun (x1_row m c t H r) j]
  rfl

end Cert.MixFwdIdeal.Hand
-- ==== Proof.Mix.Final.lean ====
module

public import proofs.«01_k».proof.Proof.Mix.PointRows

/-! # The blocks of one grid point as rows of the arrays, and the arrays written block by block -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix

variable (m : (ℓ : Loc nD τ sig) → Buf (Elt Ideal) ℓ) (c : Dev nD) (t : Fin cfg0.N)

theorem idx_part : ∀ t : Fin cfg0.N, win0_1.index t = ![t.val, 6] ∧ win0_2.index t = ![t.val, 7] ∧ win0_3.index t = ![t.val, 4] ∧ win0_4.index t = ![t.val, 5]
    ∧ win0_5.index t = ![t.val, 0] ∧ win0_6.index t = ![t.val, 1] ∧ win0_7.index t = ![t.val, 2]
    ∧ win0_8.index t = ![t.val * 64 - 1, 1] ∧ win0_9.index t = ![min ((t.val + 1) * 64) 1023, 1]
    ∧ win0_10.index t = ![t.val * 64 - 1, 2] ∧ win0_11.index t = ![min ((t.val + 1) * 64) 1023, 2] :=
  (by decide +kernel : ∀ t : Fin grid0.N, _)
theorem idx : ∀ t : Fin cfg0.N, win0_0.index t = ![t.val, 0] ∧ win0_12.index t = ![t.val, 0] ∧ win0_13.index t = ![t.val, 0]
    ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0]
    ∧ win0_23.index t = ![t.val, 0] ∧ win0_24.index t = ![t.val, 0] ∧ win0_25.index t = ![t.val, 0] ∧ win0_26.index t = ![t.val, 0] ∧ win0_27.index t = ![t.val, 0] ∧ win0_28.index t = ![t.val, 0] ∧ win0_29.index t = ![t.val, 0] :=
  (by decide +kernel : ∀ t : Fin grid0.N, _)
theorem point_ends : ∀ t : Fin cfg0.N, (point t = 0#32 ↔ t.val = 0) ∧ (point t = 15#32 ↔ t.val = 15) :=
  (by decide +kernel : ∀ t : Fin grid0.N, _)

/-- The token of row `r` of block `t`. -/
abbrev tok (t : Fin cfg0.N) (r : Fin 512) : Fin 8192 := ⟨t.val * 512 + r.val, by have := t.isLt; have : cfg0.N = 16 := N_0; omega⟩
/-- The padded projections. -/
abbrev Z (s : Fin 8192) (n : Fin 3200) : EReal := (V m c main_v0 : FVec Ideal S8192x3200 .f32) (ix2 s n)

/-! A clipped window's block is never cut: each part of the projections is read at its own columns. -/

theorem part1 (r : Fin 512) (j : Fin 256) : (X0_1 m c t : FVec Ideal S512x256 .f32) (ix2 r j) = Z m c (tok t r) ⟨1536 + j.val, by omega⟩ := by
  unfold X0_1 Pipeline.Window.fill
  rw [dif_pos (moved0_1 t _)]
  show View.read (Elt Ideal) ((cfg0.win 1).blk t).view (V m c main_v0) _ = V m c main_v0 _
  generalize V m c main_v0 = A
  blk_ext! [idx_part t]
theorem part2 (r : Fin 512) (j : Fin 256) : (X0_2 m c t : FVec Ideal S512x256 .f32) (ix2 r j) = Z m c (tok t r) ⟨1792 + j.val, by omega⟩ := by
  unfold X0_2 Pipeline.Window.fill
  rw [dif_pos (moved0_2 t _)]
  show View.read (Elt Ideal) ((cfg0.win 2).blk t).view (V m c main_v0) _ = V m c main_v0 _
  generalize V m c main_v0 = A
  blk_ext! [idx_part t]
theorem part3 (r : Fin 512) (j : Fin 512) : (X0_3 m c t : FVec Ideal S512x512 .f32) (ix2 r j) = Z m c (tok t r) ⟨2048 + j.val, by omega⟩ := by
  unfold X0_3 Pipeline.Window.fill
  rw [dif_pos (moved0_3 t _)]
  show View.read (Elt Ideal) ((cfg0.win 3).blk t).view (V m c main_v0) _ = V m c main_v0 _
  generalize V m c main_v0 = A
  blk_ext! [idx_part t]
theorem part4 (r : Fin 512) (j : Fin 512) : (X0_4 m c t : FVec Ideal S512x512 .f32) (ix2 r j) = Z m c (tok t r) ⟨2560 + j.val, by omega⟩ := by
  unfold X0_4 Pipeline.Window.fill
  rw [dif_pos (moved0_4 t _)]
  show View.read (Elt Ideal) ((cfg0.win 4).blk t).view (V m c main_v0) _ = V m c main_v0 _
  generalize V m c main_v0 = A
  blk_ext! [idx_part t]
theorem part5 (r : Fin 512) (j : Fin 512) : (X0_5 m c t : FVec Ideal S512x512 .f32) (ix2 r j) = Z m c (tok t r) ⟨0 + j.val, by omega⟩ := by
  unfold X0_5 Pipeline.Window.fill
  rw [dif_pos (moved0_5 t _)]
  show View.read (Elt Ideal) ((cfg0.win 5).blk t).view (V m c main_v0) _ = V m c main_v0 _
  generalize V m c main_v0 = A
  blk_ext! [idx_part t]
theorem part6 (r : Fin 512) (j : Fin 512) : (X0_6 m c t : FVec Ideal S512x512 .f32) (ix2 r j) = Z m c (tok t r) ⟨512 + j.val, by omega⟩ := by
  unfold X0_6 Pipeline.Window.fill
  rw [dif_pos (moved0_6 t _)]
  show View.read (Elt Ideal) ((cfg0.win 6).blk t).view (V m c main_v0) _ = V m c main_v0 _
  generalize V m c main_v0 = A
  blk_ext! [idx_part t]
theorem part7 (r : Fin 512) (j : Fin 512) : (X0_7 m c t : FVec Ideal S512x512 .f32) (ix2 r j) = Z m c (tok t r) ⟨1024 + j.val, by omega⟩ := by
  unfold X0_7 Pipeline.Window.fill
  rw [dif_pos (moved0_7 t _)]
  show View.read (Elt Ideal) ((cfg0.win 7).blk t).view (V m c main_v0) _ = V m c main_v0 _
  generalize V m c main_v0 = A
  blk_ext! [idx_part t]

/-! The last row before the block, and the first row after it. -/

theorem part8 (ht : t.val ≠ 0) (j : Fin 512) : (X0_8 m c t : FVec Ideal S8x512 .f32) (ix2 7 j) = Z m c ⟨t.val * 512 - 1, by have := t.isLt; have : cfg0.N = 16 := N_0; omega⟩ ⟨512 + j.val, by omega⟩ := by
  unfold X0_8 Pipeline.Window.fill
  rw [dif_pos (moved0_8 t _)]
  show View.read (Elt Ideal) ((cfg0.win 8).blk t).view (V m c main_v0) _ = V m c main_v0 _
  generalize V m c main_v0 = A
  blk_ext! [idx_part t]
theorem part10 (ht : t.val ≠ 0) (j : Fin 512) : (X0_10 m c t : FVec Ideal S8x512 .f32) (ix2 7 j) = Z m c ⟨t.val * 512 - 1, by have := t.isLt; have : cfg0.N = 16 := N_0; omega⟩ ⟨1024 + j.val, by omega⟩ := by
  unfold X0_10 Pipeline.Window.fill
  rw [dif_pos (moved0_10 t _)]
  show View.read (Elt Ideal) ((cfg0.win 10).blk t).view (V m c main_v0) _ = V m c main_v0 _
  generalize V m c main_v0 = A
  blk_ext! [idx_part t]
theorem part9 (ht : t.val ≠ 15) (j : Fin 512) : (X0_9 m c t : FVec Ideal S8x512 .f32) (ix2 0 j) = Z m c ⟨t.val * 512 + 512, by have := t.isLt; have : cfg0.N = 16 := N_0; omega⟩ ⟨512 + j.val, by omega⟩ := by
  unfold X0_9 Pipeline.Window.fill
  rw [dif_pos (moved0_9 t _)]
  show View.read (Elt Ideal) ((cfg0.win 9).blk t).view (V m c main_v0) _ = V m c main_v0 _
  generalize V m c main_v0 = A
  have : cfg0.N = 16 := N_0
  have := t.isLt
  have hm : min ((t.val + 1) * 64) 1023 = (t.val + 1) * 64 := by omega
  blk_ext! [idx_part t, hm]
theorem part11 (ht : t.val ≠ 15) (j : Fin 512) : (X0_11 m c t : FVec Ideal S8x512 .f32) (ix2 0 j) = Z m c ⟨t.val * 512 + 512, by have := t.isLt; have : cfg0.N = 16 := N_0; omega⟩ ⟨1024 + j.val, by omega⟩ := by
  unfold X0_11 Pipeline.Window.fill
  rw [dif_pos (moved0_11 t _)]
  show View.read (Elt Ideal) ((cfg0.win 11).blk t).view (V m c main_v0) _ = V m c main_v0 _
  generalize V m c main_v0 = A
  have : cfg0.N = 16 := N_0
  have := t.isLt
  have hm : min ((t.val + 1) * 64) 1023 = (t.val + 1) * 64 := by omega
  blk_ext! [idx_part t, hm]

/-! The other blocks. -/

section
variable (r : Fin 512)
theorem row0 : row (iblk m c 0 t : FVec Ideal S512x1024 .f32) r = row (V m c main_arg0 : FVec Ideal S8192x1024 .f32) (tok t r) := by
  funext j
  show View.read (Elt Ideal) ((cfg0.win 0).blk t).view (V m c main_arg0) (ix2 r j) = V m c main_arg0 (ix2 (tok t r) j)
  generalize V m c main_arg0 = A
  blk_ext! [idx t]
theorem row12 : row (iblk m c 12 t : FVec Ideal S512x512 .f32) r = row (V m c main_arg3 : FVec Ideal S8192x512 .f32) (tok t r) := by
  funext j
  show View.read (Elt Ideal) ((cfg0.win 12).blk t).view (V m c main_arg3) (ix2 r j) = V m c main_arg3 (ix2 (tok t r) j)
  generalize V m c main_arg3 = A
  blk_ext! [idx t]
theorem row13 : row (iblk m c 13 t : FVec Ideal S512x512 .f32) r = row (V m c main_arg4 : FVec Ideal S8192x512 .f32) (tok t r) := by
  funext j
  show View.read (Elt Ideal) ((cfg0.win 13).blk t).view (V m c main_arg4) (ix2 r j) = V m c main_arg4 (ix2 (tok t r) j)
  generalize V m c main_arg4 = A
  blk_ext! [idx t]
end
theorem whole14 : iblk m c 14 t = V m c main_arg5 := by
  show View.read (Elt Ideal) ((cfg0.win 14).blk t).view (V m c main_arg5) = V m c main_arg5
  generalize V m c main_arg5 = A
  blk_ext! [idx t]
theorem whole15 : iblk m c 15 t = V m c main_arg6 := by
  show View.read (Elt Ideal) ((cfg0.win 15).blk t).view (V m c main_arg6) = V m c main_arg6
  generalize V m c main_arg6 = A
  blk_ext! [idx t]
theorem whole16 : iblk m c 16 t = V m c main_v17 := by
  show View.read (Elt Ideal) ((cfg0.win 16).blk t).view (V m c main_v17) = V m c main_v17
  generalize V m c main_v17 = A
  blk_ext! [idx t]
theorem whole17 : iblk m c 17 t = V m c main_v18 := by
  show View.read (Elt Ideal) ((cfg0.win 17).blk t).view (V m c main_v18) = V m c main_v18
  generalize V m c main_v18 = A
  blk_ext! [idx t]
theorem whole18 : iblk m c 18 t = V m c main_arg9 := by
  show View.read (Elt Ideal) ((cfg0.win 18).blk t).view (V m c main_arg9) = V m c main_arg9
  generalize V m c main_arg9 = A
  blk_ext! [idx t]
theorem whole19 : iblk m c 19 t = V m c main_v19 := by
  show View.read (Elt Ideal) ((cfg0.win 19).blk t).view (V m c main_v19) = V m c main_v19
  generalize V m c main_v19 = A
  blk_ext! [idx t]
theorem whole20 : iblk m c 20 t = V m c main_v20 := by
  show View.read (Elt Ideal) ((cfg0.win 20).blk t).view (V m c main_v20) = V m c main_v20
  generalize V m c main_v20 = A
  blk_ext! [idx t]
theorem whole21 : iblk m c 21 t = V m c main_v21 := by
  show View.read (Elt Ideal) ((cfg0.win 21).blk t).view (V m c main_v21) = V m c main_v21
  generalize V m c main_v21 = A
  blk_ext! [idx t]
theorem whole22 : iblk m c 22 t = V m c main_v22 := by
  show View.read (Elt Ideal) ((cfg0.win 22).blk t).view (V m c main_v22) = V m c main_v22
  generalize V m c main_v22 = A
  blk_ext! [idx t]

/-! Every result's blocks tile its array. -/

theorem arr23 (A : S8192x1024.Idx → EReal) (h : ∀ (t : Fin cfg0.N) (r : Fin 512) (j : Fin 1024), (out23 m c t : FVec Ideal S512x1024 .f32) (ix2 r j) = A (ix2 (tok t r) j)) :
    (dats m 0 c).arrAt 23 cfg0.N = A := by
  have after : ∀ t : Fin cfg0.N, (dats m 0 c).after 23 t = out23 m c t := fun t => by dsimp only [dats]
  refine (dats m 0 c).arrAt_eq_of_covers 23 _ (by decide +kernel) fun t _ y => ?_
  blk_simp
  rw [after]
  refine (congrArg _ (by blk_ext)).trans ((h t (y 0) (y 1)).trans (congrArg A ?_))
  blk_ext [idx t]
theorem arr24 (A : S8192x1024.Idx → EReal) (h : ∀ (t : Fin cfg0.N) (r : Fin 512) (j : Fin 1024), (out24 m c t : FVec Ideal S512x1024 .f32) (ix2 r j) = A (ix2 (tok t r) j)) :
    (dats m 0 c).arrAt 24 cfg0.N = A := by
  have after : ∀ t : Fin cfg0.N, (dats m 0 c).after 24 t = out24 m c t := fun t => by dsimp only [dats]
  refine (dats m 0 c).arrAt_eq_of_covers 24 _ (by decide +kernel) fun t _ y => ?_
  blk_simp
  rw [after]
  refine (congrArg _ (by blk_ext)).trans ((h t (y 0) (y 1)).trans (congrArg A ?_))
  blk_ext [idx t]
theorem arr25 (A : S8192x1024.Idx → EReal) (h : ∀ (t : Fin cfg0.N) (r : Fin 512) (j : Fin 1024), (out25 m c t : FVec Ideal S512x1024 .bf16) (ix2 r j) = A (ix2 (tok t r) j)) :
    (dats m 0 c).arrAt 25 cfg0.N = A := by
  have after : ∀ t : Fin cfg0.N, (dats m 0 c).after 25 t = out25 m c t := fun t => by dsimp only [dats]
  refine (dats m 0 c).arrAt_eq_of_covers 25 _ (by decide +kernel) fun t _ y => ?_
  blk_simp
  rw [after]
  refine (congrArg _ (by blk_ext)).trans ((h t (y 0) (y 1)).trans (congrArg A ?_))
  blk_ext [idx t]
theorem arr26 (A : S8192x1024.Idx → EReal) (h : ∀ (t : Fin cfg0.N) (r : Fin 512) (j : Fin 1024), (out26 m c t : FVec Ideal S512x1024 .bf16) (ix2 r j) = A (ix2 (tok t r) j)) :
    (dats m 0 c).arrAt 26 cfg0.N = A := by
  have after : ∀ t : Fin cfg0.N, (dats m 0 c).after 26 t = out26 m c t := fun t => by dsimp only [dats]
  refine (dats m 0 c).arrAt_eq_of_covers 26 _ (by decide +kernel) fun t _ y => ?_
  blk_simp
  rw [after]
  refine (congrArg _ (by blk_ext)).trans ((h t (y 0) (y 1)).trans (congrArg A ?_))
  blk_ext [idx t]
theorem arr27 (A : S8192x1024.Idx → EReal) (h : ∀ (t : Fin cfg0.N) (r : Fin 512) (j : Fin 1024), (out27 m c t : FVec Ideal S512x1024 .bf16) (ix2 r j) = A (ix2 (tok t r) j)) :
    (dats m 0 c).arrAt 27 cfg0.N = A := by
  have after : ∀ t : Fin cfg0.N, (dats m 0 c).after 27 t = out27 m c t := fun t => by dsimp only [dats]
  refine (dats m 0 c).arrAt_eq_of_covers 27 _ (by decide +kernel) fun t _ y => ?_
  blk_simp
  rw [after]
  refine (congrArg _ (by blk_ext)).trans ((h t (y 0) (y 1)).trans (congrArg A ?_))
  blk_ext [idx t]
theorem arr28 (A : S8192x1024.Idx → EReal) (h : ∀ (t : Fin cfg0.N) (r : Fin 512) (j : Fin 1024), (out28 m c t : FVec Ideal S512x1024 .bf16) (ix2 r j) = A (ix2 (tok t r) j)) :
    (dats m 0 c).arrAt 28 cfg0.N = A := by
  have after : ∀ t : Fin cfg0.N, (dats m 0 c).after 28 t = out28 m c t := fun t => by dsimp only [dats]
  refine (dats m 0 c).arrAt_eq_of_covers 28 _ (by decide +kernel) fun t _ y => ?_
  blk_simp
  rw [after]
  refine (congrArg _ (by blk_ext)).trans ((h t (y 0) (y 1)).trans (congrArg A ?_))
  blk_ext [idx t]
theorem arr29 (A : S8192x512.Idx → EReal) (h : ∀ (t : Fin cfg0.N) (r : Fin 512) (j : Fin 512), (out29 m c t : FVec Ideal S512x512 .f32) (ix2 r j) = A (ix2 (tok t r) j)) :
    (dats m 0 c).arrAt 29 cfg0.N = A := by
  have after : ∀ t : Fin cfg0.N, (dats m 0 c).after 29 t = out29 m c t := fun t => by dsimp only [dats]
  refine (dats m 0 c).arrAt_eq_of_covers 29 _ (by decide +kernel) fun t _ y => ?_
  blk_simp
  rw [after]
  refine (congrArg _ (by blk_ext)).trans ((h t (y 0) (y 1)).trans (congrArg A ?_))
  blk_ext [idx t]

end Cert.MixFwdIdeal.Hand

end
-- ==== Proof.Mix.Layer.lean ====
module

public import proofs.«01_k».proof.Proof.Mix.Rows

/-! # The tokens of the sequence

What the layer reads of token `s`, from the arrays it is given. -/

@[expose] public section

set_option maxRecDepth 16384

noncomputable section

open Idealize.ShloMosaic Idealize.ShloMosaic.TcCoe Idealize.SL.Sem
open Idealize.ShloMosaic.Pipeline (Dat)

namespace Mix
open Norm

/-- Arrays of rows, one for each token, and the weights' arrays. -/
abbrev Arr (n k : ℕ) : Type := (⟨2, ![n, k]⟩ : Shape).Idx → EReal

/-- Column `j` of a projection's part that begins at column `b`. -/
abbrev zc (z : Arr 8192 3104) (b : ℕ) {n : ℕ} (hb : b + n ≤ 3104) (s : Fin 8192) (j : Fin n) : EReal := z (ix2 s ⟨b + j.val, by omega⟩)
/-- The convolution's input. -/
abbrev gate (z : Arr 8192 3104) (s : Fin 8192) (j : Fin 512) : EReal := zc z 512 (by norm_num) s j * zc z 1024 (by norm_num) s j

/-- Token `s`; before the first token and after the last one the convolution reads zeros. -/
abbrev tokenOf (x : Arr 8192 1024) (z : Arr 8192 3104) (f b : Arr 8192 512) (s : Fin 8192) : Token where
  x := row x s
  cb := zc z 0 (by norm_num) s
  before j := if s.val = 0 then 0 else gate z ⟨s.val - 1, by omega⟩ j
  here := gate z s
  after j := if h : s.val = 8191 then 0 else gate z ⟨s.val + 1, by omega⟩ j
  q := zc z 1536 (by norm_num) s
  k := zc z 1792 (by norm_num) s
  v := zc z 2048 (by norm_num) s
  g := zc z 2560 (by norm_num) s
  f := row f s
  b := row b s

/-- The weights, and the memory's keys and values. -/
abbrev weightsOf (cw : Arr 3 512) (cn : Arr 1 512) (gn : Arr 1 128) (wo : Arr 1024 1024) (xn : Arr 1 1024) (wq : Arr 1024 1024)
    (K V : Arr 256 1024) (wx : Arr 1024 1024) : Weights where
  w0 := row cw 0
  w1 := row cw 1
  w2 := row cw 2
  cn := row cn 0
  gn j := gn (ix2 0 ⟨j.val % 128, Nat.mod_lt _ (by norm_num)⟩)
  wo := wo
  xn := row xn 0
  wq := wq
  K := row K
  V := row V
  wx := wx

end Mix

end
-- ==== Proof.Mix.Ref.lean ====
module

public import Idealize.ShloMosaic.Lib.KernelVsHost
public import proofs.«01_k».proof.Proof.Mix.Layer
public import proofs.«01_k».proof.Proof.Gen.MixRefIdeal.Read

/-! # The reference's arrays, token by token -/

@[expose] public section

set_option maxRecDepth 16384

noncomputable section

open Idealize.ShloMosaic Idealize.ShloMosaic.TcCoe Idealize.SL.Sem
open Idealize.ShloMosaic.Pipeline (Dat)

namespace Cert.MixRefIdeal.Read
open Norm Mix

variable (x0 : FVec Ideal S8192x1024 .f32) (x1 : FVec Ideal S256x1024 .f32) (x2 : FVec Ideal S8192x3104 .f32) (x3 x4 : FVec Ideal S8192x512 .f32)
  (x5 : FVec Ideal S3x512 .f32) (x6 : FVec Ideal S1x512 .f32) (x7 : FVec Ideal S1x128 .f32) (x8 : FVec Ideal S1024x1024 .f32) (x9 x10 : FVec Ideal S1x1024 .f32)
  (x11 : FVec Ideal S1024x1024 .f32) (x12 : FVec Ideal S1024x2048 .f32) (x13 : FVec Ideal S1024x1024 .f32)

/-- The reference's token and its weights. -/
abbrev tk (s : Fin 8192) : Token := tokenOf x0 x2 x3 x4 s
abbrev wt : Weights := weightsOf x5 x6 x7 x8 x9 x11 (val_main_v105 (F := Ideal) x1 x10 x12) (val_main_v106 (F := Ideal) x1 x10 x12) x13

variable (s : Fin 8192)

theorem v0_at (j : Fin 512) : val_main_v0 (F := Ideal) x2 (ix2 s j) = zc x2 0 (by norm_num) s j := by
  rw [val_main_v0_apply]; exact congrArg x2 (by blk_ext)
theorem v1_at (j : Fin 512) : val_main_v1 (F := Ideal) x2 (ix2 s j) = zc x2 512 (by norm_num) s j := by
  rw [val_main_v1_apply]; exact congrArg x2 (by blk_ext)
theorem v2_at (j : Fin 512) : val_main_v2 (F := Ideal) x2 (ix2 s j) = zc x2 1024 (by norm_num) s j := by
  rw [val_main_v2_apply]; exact congrArg x2 (by blk_ext)
theorem v3_at (j : Fin 256) : val_main_v3 (F := Ideal) x2 (ix2 s j) = zc x2 1536 (by norm_num) s j := by
  rw [val_main_v3_apply]; exact congrArg x2 (by blk_ext)
theorem v4_at (j : Fin 256) : val_main_v4 (F := Ideal) x2 (ix2 s j) = zc x2 1792 (by norm_num) s j := by
  rw [val_main_v4_apply]; exact congrArg x2 (by blk_ext)
theorem v5_at (j : Fin 512) : val_main_v5 (F := Ideal) x2 (ix2 s j) = zc x2 2048 (by norm_num) s j := by
  rw [val_main_v5_apply]; exact congrArg x2 (by blk_ext)
theorem v6_at (j : Fin 512) : val_main_v6 (F := Ideal) x2 (ix2 s j) = zc x2 2560 (by norm_num) s j := by
  rw [val_main_v6_apply]; exact congrArg x2 (by blk_ext)
theorem v8_at (j : Fin 512) : val_main_v8 (F := Ideal) x2 (ix2 s j) = gate x2 s j := by
  rw [val_main_v8_apply]; exact Ideal.mul_congr (v1_at x2 s j) (v2_at x2 s j)
/-- The rows around the sequence are zeros. -/
theorem v9_at (j : Fin 512) : val_main_v9 (F := Ideal) x2 (ix2 ⟨s.val + 1, by omega⟩ j) = gate x2 s j := by
  refine (pad_apply_of_inside _ _ _ _ _ _ _ _ (ix2 s j) fun a => ?_).trans (v8_at x2 s j)
  fin_cases a
  · show s.val + 1 = 1 + s.val * (0 + 1); omega
  · show j.val = 0 + j.val * (0 + 1); omega
theorem v9_zero (n : Fin 8194) (hn : n.val = 0 ∨ n.val = 8193) (j : Fin 512) : val_main_v9 (F := Ideal) x2 (ix2 n j) = 0 := by
  unfold val_main_v9
  rw [pad_apply_of_not_inside _ _ _ _ _ _ _ _ (0 : Fin 2) (fun hn => ?_), val_main_call0_v0_apply]
  · exact sitofp_zero (φ := .f32)
  · have h1 : 1 ≤ n.val := hn.1
    have h2 : (n.val - 1) / (0 + 1) < 8192 := hn.2.2
    omega
theorem v12_at (j : Fin 512) : val_main_v12 (F := Ideal) x2 (ix2 s j) = (tk x0 x2 x3 x4 s).before j := by
  rw [val_main_v12_apply]
  by_cases h : s.val = 0
  · refine (congrArg (val_main_v9 (F := Ideal) x2) (show idx_main_v12 (ix2 s j) = ix2 ⟨s.val, by omega⟩ j by blk_ext)).trans ((v9_zero x2 _ (Or.inl h) j).trans ?_)
    exact (if_pos h).symm
  · refine (congrArg (val_main_v9 (F := Ideal) x2) (show idx_main_v12 (ix2 s j) = ix2 ⟨(s.val - 1) + 1, by omega⟩ j from ?_)).trans ((v9_at x2 ⟨s.val - 1, by omega⟩ j).trans ?_)
    · refine Eq.trans (b := ix2 ⟨s.val, by omega⟩ j) (by blk_ext) (congrArg (fun a => ix2 a j) (Fin.ext ?_))
      show s.val = s.val - 1 + 1; omega
    · exact (if_neg h).symm
theorem v18_at (j : Fin 512) : val_main_v18 (F := Ideal) x2 (ix2 s j) = (tk x0 x2 x3 x4 s).here j := by
  rw [val_main_v18_apply]
  refine (congrArg (val_main_v9 (F := Ideal) x2) (show idx_main_v18 (ix2 s j) = ix2 ⟨s.val + 1, by omega⟩ j from ?_)).trans (v9_at x2 s j)
  refine Eq.trans (b := ix2 ⟨1 + s.val, by omega⟩ j) (by blk_ext) (congrArg (fun a => ix2 a j) (Fin.ext ?_))
  show 1 + s.val = s.val + 1; omega
theorem v25_at (j : Fin 512) : val_main_v25 (F := Ideal) x2 (ix2 s j) = (tk x0 x2 x3 x4 s).after j := by
  rw [val_main_v25_apply]
  by_cases h : s.val = 8191
  · refine (congrArg (val_main_v9 (F := Ideal) x2) (show idx_main_v25 (ix2 s j) = ix2 ⟨2 + s.val, by omega⟩ j by blk_ext)).trans ((v9_zero x2 _ (Or.inr ?_) j).trans ?_)
    · show 2 + s.val = 8193; omega
    · show (0 : EReal) = if h : s.val = 8191 then 0 else gate x2 ⟨s.val + 1, by omega⟩ j
      rw [dif_pos h]
  · refine (congrArg (val_main_v9 (F := Ideal) x2) (show idx_main_v25 (ix2 s j) = ix2 ⟨(s.val + 1) + 1, by omega⟩ j from ?_)).trans ((v9_at x2 ⟨s.val + 1, by omega⟩ j).trans ?_)
    · refine Eq.trans (b := ix2 ⟨2 + s.val, by omega⟩ j) (by blk_ext) (congrArg (fun a => ix2 a j) (Fin.ext ?_))
      show 2 + s.val = s.val + 1 + 1; omega
    · show gate x2 ⟨s.val + 1, _⟩ j = if h : s.val = 8191 then 0 else gate x2 ⟨s.val + 1, by omega⟩ j
      rw [dif_neg h]
theorem v14_at (j : Fin 512) : val_main_v14 (F := Ideal) x5 (ix2 s j) = row x5 0 j := by
  rw [val_main_v14_apply, val_main_v13_apply, val_main_v11_apply, val_main_v10_apply]; exact congrArg x5 (by blk_ext)
theorem v20_at (j : Fin 512) : val_main_v20 (F := Ideal) x5 (ix2 s j) = row x5 1 j := by
  rw [val_main_v20_apply, val_main_v19_apply, val_main_v17_apply, val_main_v16_apply]; exact congrArg x5 (by blk_ext)
theorem v27_at (j : Fin 512) : val_main_v27 (F := Ideal) x5 (ix2 s j) = row x5 2 j := by
  rw [val_main_v27_apply, val_main_v26_apply, val_main_v24_apply, val_main_v23_apply]; exact congrArg x5 (by blk_ext)
theorem v30_at (j : Fin 512) : val_main_v30 (F := Ideal) x2 x5 (ix2 s j) = (tk x0 x2 x3 x4 s).conv (wt x1 x5 x6 x7 x8 x9 x10 x11 x12 x13) j := by
  rw [val_main_v30_apply, val_main_v29_apply, val_main_v22_apply, val_main_v15_apply, val_main_v21_apply, val_main_v28_apply]
  exact Ideal.mul_congr ((v0_at x2 s j).trans rfl) (Ideal.add_congr (Ideal.add_congr
    (Ideal.mul_congr (v14_at x5 s j) (v12_at x0 x2 x3 x4 s j)) (Ideal.mul_congr (v20_at x5 s j) (v18_at x0 x2 x3 x4 s j)))
    (Ideal.mul_congr (v27_at x5 s j) (v25_at x0 x2 x3 x4 s j)))
theorem v31_at (g : Fin 8) (d : Fin 64) : val_main_v31 (F := Ideal) x2 x5 (ix3 s g d) = (tk x0 x2 x3 x4 s).conv (wt x1 x5 x6 x7 x8 x9 x10 x11 x12 x13) (gl g d) := by
  rw [val_main_v31_apply]
  exact (congrArg _ (show idx_main_v31 (ix3 s g d) = ix2 s (gl g d) by blk_ext)).trans (v30_at x0 x1 x2 x3 x4 x5 x6 x7 x8 x9 x10 x11 x12 x13 s _)
theorem v40_at (g : Fin 8) : val_main_v40 (F := Ideal) x2 x5 (ix3 s g 0) = groupInv ((tk x0 x2 x3 x4 s).conv (wt x1 x5 x6 x7 x8 x9 x10 x11 x12 x13)) g := by
  rw [val_main_v40_apply, val_main_v39_apply, val_main_v37_apply, val_main_v35_apply, val_main_v34_apply, val_main_v36_apply, val_main_v38_apply, val_main_cst_0_apply, val_main_cst_1_apply]
  refine congrArg Ideal.rsqrt (congrArg (fun a => Ideal.div a c64 + eps) ((congrArg (fun a => a + _) Ideal.ofBits_zero_f32).trans ((zero_add _).trans ?_)))
  refine Finset.sum_congr rfl fun k _ => ?_
  rw [show idx_main_v34 (idx_main_v35 (ix3 s g 0)) k = ix3 s g k by blk_ext]
  refine (val_main_v33_apply (F := Ideal) x2 x5 (ix3 s g k)).trans ?_
  exact Ideal.mul_congr (v31_at x0 x1 x2 x3 x4 x5 x6 x7 x8 x9 x10 x11 x12 x13 s g k) (v31_at x0 x1 x2 x3 x4 x5 x6 x7 x8 x9 x10 x11 x12 x13 s g k)
theorem v44_at (g : Fin 8) (d : Fin 64) : val_main_v44 (F := Ideal) x6 (ix3 s g d) = row x6 0 (gl g d) := by
  rw [val_main_v44_apply, val_main_v43_apply, val_main_v32_apply]; exact congrArg x6 (by blk_ext)
/-- The first half of the output weight's argument. -/
theorem v46_at (j : Fin 512) : val_main_v46 (F := Ideal) x2 x5 x6 (ix2 s j) = (tk x0 x2 x3 x4 s).conv (wt x1 x5 x6 x7 x8 x9 x10 x11 x12 x13) j * groupInv ((tk x0 x2 x3 x4 s).conv (wt x1 x5 x6 x7 x8 x9 x10 x11 x12 x13)) (gh j) * row x6 0 j := by
  have hj : gl (gh j) ⟨j.val % 64, by omega⟩ = j := Fin.ext (by show j.val / 64 * 64 + j.val % 64 = j.val; omega)
  rw [val_main_v46_apply, show idx_main_v46 (ix2 s j) = ix3 s (gh j) ⟨j.val % 64, by omega⟩ by blk_ext, val_main_v45_apply, val_main_v42_apply, val_main_v41_apply]
  refine Ideal.mul_congr (Ideal.mul_congr ((v31_at x0 x1 x2 x3 x4 x5 x6 x7 x8 x9 x10 x11 x12 x13 s _ _).trans (congrArg _ hj))
    ((congrArg _ (show idx_main_v41 (ix3 s (gh j) ⟨j.val % 64, by omega⟩) = ix3 s (gh j) 0 by blk_ext)).trans (v40_at x0 x1 x2 x3 x4 x5 x6 x7 x8 x9 x10 x11 x12 x13 s (gh j)))) ((v44_at x6 s _ _).trans (congrArg _ hj))
theorem v52_at (h : Fin 4) : val_main_v52 (F := Ideal) x2 (ix2 s h) = (tk x0 x2 x3 x4 s).diag h := by
  rw [val_main_v52_apply]
  refine Finset.sum_congr rfl fun d _ => Ideal.mul_congr ?_ ?_
  · rw [val_main_v49_apply, val_main_v47_apply, val_main_v48_apply, val_main_cst_2_apply]
    exact congrArg (fun a => a * c8) ((congrArg _ (show _ = ix2 s (kl h d) by blk_ext)).trans (v3_at x2 s (kl h d)))
  · rw [val_main_v50_apply]
    exact (congrArg _ (show _ = ix2 s (kl h d) by blk_ext)).trans (v4_at x2 s (kl h d))
/-- The linear attention's output. -/
theorem v59_at (h : Fin 4) (e : Fin 128) : val_main_v59 (F := Ideal) x2 x3 x4 (ix3 s h e) = (tk x0 x2 x3 x4 s).o (vl h e) := by
  have hh : vh (vl h e) = h := Fin.ext (by show (h.val * 128 + e.val) / 128 = h.val; omega)
  rw [val_main_v59_apply, val_main_v58_apply, val_main_v56_apply, val_main_v57_apply, val_main_v55_apply, val_main_v54_apply, val_main_v53_apply, val_main_v51_apply]
  refine congrArg₂ (fun a b : EReal => a - b) (Ideal.add_congr (congrArg x3 (by blk_ext)) (congrArg x4 (by blk_ext))) (Ideal.mul_congr ?_ ?_)
  · exact (congrArg _ (show _ = ix2 s h by blk_ext)).trans ((v52_at x0 x2 x3 x4 s h).trans (congrArg _ hh.symm))
  · exact (congrArg _ (show _ = ix2 s (vl h e) by blk_ext)).trans (v5_at x2 s (vl h e))
theorem v67_at (h : Fin 4) : val_main_v67 (F := Ideal) x2 x3 x4 (ix3 s h 0) = headInv (tk x0 x2 x3 x4 s).o h := by
  rw [val_main_v67_apply, val_main_v66_apply, val_main_v64_apply, val_main_v62_apply, val_main_v61_apply, val_main_v63_apply, val_main_v65_apply, val_main_cst_4_apply, val_main_cst_5_apply]
  refine congrArg Ideal.rsqrt (congrArg (fun a => Ideal.div a c128 + eps) ((congrArg (fun a => a + _) Ideal.ofBits_zero_f32).trans ((zero_add _).trans ?_)))
  refine Finset.sum_congr rfl fun k _ => ?_
  rw [show idx_main_v61 (idx_main_v62 (ix3 s h 0)) k = ix3 s h k by blk_ext]
  refine (val_main_v60_apply (F := Ideal) x2 x3 x4 (ix3 s h k)).trans ?_
  exact Ideal.mul_congr (v59_at x0 x2 x3 x4 s h k) (v59_at x0 x2 x3 x4 s h k)
theorem v74_at (j : Fin 512) : val_main_v74 (F := Ideal) x2 (ix2 s j) = silu ((tk x0 x2 x3 x4 s).g j) := by
  rw [val_main_v74_apply, val_main_call1_v5_apply, val_main_call1_v4_apply, val_main_call1_v3_apply, val_main_call1_v2_apply, val_main_call1_v1_apply, val_main_call1_v0_apply, val_main_call1_cst_apply, val_main_call1_cst_0_apply, v6_at]
  exact Ideal.mul_congr rfl (congrArg₂ Ideal.div one_eq (congrArg (fun a => a + _) one_eq))
theorem v75_at (j : Fin 512) : val_main_v75 (F := Ideal) x2 x3 x4 x7 (ix2 s j) = (tk x0 x2 x3 x4 s).o j * headInv (tk x0 x2 x3 x4 s).o (vh j) * (wt x1 x5 x6 x7 x8 x9 x10 x11 x12 x13).gn j * silu ((tk x0 x2 x3 x4 s).g j) := by
  have hj : vl (vh j) ⟨j.val % 128, by omega⟩ = j := Fin.ext (by show j.val / 128 * 128 + j.val % 128 = j.val; omega)
  rw [val_main_v75_apply, val_main_v73_apply, show idx_main_v73 (ix2 s j) = ix3 s (vh j) ⟨j.val % 128, by omega⟩ by blk_ext, val_main_v72_apply, val_main_v69_apply, val_main_v68_apply, val_main_v71_apply, val_main_v70_apply]
  refine Ideal.mul_congr (Ideal.mul_congr (Ideal.mul_congr ((v59_at x0 x2 x3 x4 s _ _).trans (congrArg _ hj)) ((congrArg _ (show idx_main_v68 (ix3 s (vh j) ⟨j.val % 128, by omega⟩) = ix3 s (vh j) 0 by blk_ext)).trans (v67_at x0 x2 x3 x4 s (vh j)))) (congrArg x7 (by blk_ext))) (v74_at x0 x2 x3 x4 s j)
/-- What the output weight multiplies. -/
theorem v76_at (j : Fin 1024) : val_main_v76 (F := Ideal) x2 x3 x4 x5 x6 x7 (ix2 s j) = (tk x0 x2 x3 x4 s).y (wt x1 x5 x6 x7 x8 x9 x10 x11 x12 x13) j := by
  unfold Token.y val_main_v76
  by_cases h : j.val < 512
  · rw [dif_pos h]
    refine (concatenate_apply_piece (t := S8192x1024) (1 : Fin 2) [⟨S8192x512, val_main_v46 (F := Ideal) x2 x5 x6⟩, ⟨S8192x512, val_main_v75 (F := Ideal) x2 x3 x4 x7⟩] Gen.concatenates_S8192x512_S8192x512_S8192x1024_d1 (ix2 s j) 0 (by norm_num) S8192x512 (val_main_v46 (F := Ideal) x2 x5 x6) rfl rfl 0 rfl (ix2 s ⟨j.val, h⟩) (fun b hb => ?_) (Nat.zero_add _)).trans (v46_at x0 x1 x2 x3 x4 x5 x6 x7 x8 x9 x10 x11 x12 x13 s ⟨j.val, h⟩)
    fin_cases b
    · rfl
    · exact absurd rfl hb
  · rw [dif_neg h]
    refine (concatenate_apply_piece (t := S8192x1024) (1 : Fin 2) [⟨S8192x512, val_main_v46 (F := Ideal) x2 x5 x6⟩, ⟨S8192x512, val_main_v75 (F := Ideal) x2 x3 x4 x7⟩] Gen.concatenates_S8192x512_S8192x512_S8192x1024_d1 (ix2 s j) 1 (by norm_num) S8192x512 (val_main_v75 (F := Ideal) x2 x3 x4 x7) rfl rfl 512 rfl (ix2 s ⟨j.val - 512, by omega⟩) (fun b hb => ?_) ?_).trans (v75_at x0 x1 x2 x3 x4 x5 x6 x7 x8 x9 x10 x11 x12 x13 s ⟨j.val - 512, by omega⟩)
    · fin_cases b
      · rfl
      · exact absurd rfl hb
    · show 512 + (j.val - 512) = j.val; omega
theorem v78_at (j : Fin 1024) : val_main_v78 (F := Ideal) x0 x2 x3 x4 x5 x6 x7 x8 (ix2 s j) = (tk x0 x2 x3 x4 s).x1 (wt x1 x5 x6 x7 x8 x9 x10 x11 x12 x13) j := by
  rw [val_main_v78_apply, val_main_v77_apply]
  unfold Token.x1 mulN
  refine Ideal.add_congr rfl (Finset.sum_congr rfl fun l _ => ?_)
  exact Ideal.mul_congr ((congrArg _ (show lidx_main_v77 (ix2 s j) l = ix2 s l by blk_ext)).trans (v76_at x0 x1 x2 x3 x4 x5 x6 x7 x8 x9 x10 x11 x12 x13 s l)) (congrArg x8 (show ridx_main_v77 (ix2 s j) l = ix2 l j by blk_ext))
theorem v86_at : val_main_v86 (F := Ideal) x0 x2 x3 x4 x5 x6 x7 x8 (ix2 s 0) = rinv c1024 ((tk x0 x2 x3 x4 s).x1 (wt x1 x5 x6 x7 x8 x9 x10 x11 x12 x13)) := by
  rw [val_main_v86_apply, val_main_v85_apply, val_main_v83_apply, val_main_v81_apply, val_main_v80_apply, val_main_v82_apply, val_main_v84_apply, val_main_cst_7_apply, val_main_cst_8_apply]
  refine congrArg Ideal.rsqrt (congrArg (fun a => Ideal.div a c1024 + eps) ((congrArg (fun a => a + _) Ideal.ofBits_zero_f32).trans ((zero_add _).trans ?_)))
  refine Finset.sum_congr rfl fun k _ => ?_
  rw [show idx_main_v80 (idx_main_v81 (ix2 s 0)) k = ix2 s k by blk_ext]
  refine (val_main_v79_apply (F := Ideal) x0 x2 x3 x4 x5 x6 x7 x8 (ix2 s k)).trans ?_
  exact Ideal.mul_congr (v78_at x0 x1 x2 x3 x4 x5 x6 x7 x8 x9 x10 x11 x12 x13 s k) (v78_at x0 x1 x2 x3 x4 x5 x6 x7 x8 x9 x10 x11 x12 x13 s k)
theorem v90_at (j : Fin 1024) : val_main_v90 (F := Ideal) x0 x2 x3 x4 x5 x6 x7 x8 x9 (ix2 s j) = (tk x0 x2 x3 x4 s).xn (wt x1 x5 x6 x7 x8 x9 x10 x11 x12 x13) j := by
  rw [val_main_v90_apply, val_main_v88_apply, val_main_v87_apply, val_main_v89_apply]
  exact Ideal.mul_congr (Ideal.mul_congr (v78_at x0 x1 x2 x3 x4 x5 x6 x7 x8 x9 x10 x11 x12 x13 s j) ((congrArg _ (show idx_main_v87 (ix2 s j) = ix2 s 0 by blk_ext)).trans (v86_at x0 x1 x2 x3 x4 x5 x6 x7 x8 x9 x10 x11 x12 x13 s))) (congrArg x9 (by blk_ext))
theorem v91_at (j : Fin 1024) : val_main_v91 (F := Ideal) x0 x2 x3 x4 x5 x6 x7 x8 x9 x11 (ix2 s j) = (tk x0 x2 x3 x4 s).query (wt x1 x5 x6 x7 x8 x9 x10 x11 x12 x13) j := by
  rw [val_main_v91_apply]
  unfold Token.query mulN
  refine Finset.sum_congr rfl fun l _ => ?_
  exact Ideal.mul_congr ((congrArg _ (show lidx_main_v91 (ix2 s j) l = ix2 s l by blk_ext)).trans (v90_at x0 x1 x2 x3 x4 x5 x6 x7 x8 x9 x10 x11 x12 x13 s l)) (congrArg x11 (show ridx_main_v91 (ix2 s j) l = ix2 l j by blk_ext))
variable (h : Fin 4) (n : Fin 256)
/-- The attention over the memory. -/
theorem v111_at : val_main_v111 (F := Ideal) x0 x1 x2 x3 x4 x5 x6 x7 x8 x9 x10 x11 x12 (ix3 h s n) = Attn.score (fun d => (tk x0 x2 x3 x4 s).query (wt x1 x5 x6 x7 x8 x9 x10 x11 x12 x13) (al h d)) (fun m d => (wt x1 x5 x6 x7 x8 x9 x10 x11 x12 x13).K m (al h d)) n := by
  rw [val_main_v111_apply, val_main_v110_apply, val_main_cst_12_apply]
  refine Eq.trans (b := Ideal.div (Attn.dotp (fun d => (tk x0 x2 x3 x4 s).query (wt x1 x5 x6 x7 x8 x9 x10 x11 x12 x13) (al h d)) (fun m d => (wt x1 x5 x6 x7 x8 x9 x10 x11 x12 x13).K m (al h d)) n) Attn.d16) (congrArg (fun a => Ideal.div a Attn.d16) ?_) ?_
  · rw [val_main_v109_apply]
    refine Finset.sum_congr rfl fun d _ => Ideal.mul_congr ?_ ?_
    · rw [val_main_v107_apply]; exact (congrArg _ (show _ = ix2 s (al h d) by blk_ext)).trans (v91_at x0 x1 x2 x3 x4 x5 x6 x7 x8 x9 x10 x11 x12 x13 s (al h d))
    · rw [val_main_v108_apply]; exact congrArg _ (by blk_ext)
  · unfold Attn.score
    rw [Attn.d16_eq, Ideal.div_coe (by norm_num), Attn.c16_eq]
theorem v112_at : val_main_v112 (F := Ideal) x0 x1 x2 x3 x4 x5 x6 x7 x8 x9 x10 x11 x12 (ix2 h s) = Attn.top (fun d => (tk x0 x2 x3 x4 s).query (wt x1 x5 x6 x7 x8 x9 x10 x11 x12 x13) (al h d)) (fun m d => (wt x1 x5 x6 x7 x8 x9 x10 x11 x12 x13).K m (al h d)) := by
  have hs := funext (v111_at x0 x1 x2 x3 x4 x5 x6 x7 x8 x9 x10 x11 x12 x13 s h)
  pointwise [val_main_v112, Attn.top]
  exact congrArg (fun f => Finset.fold max _ f Finset.univ) hs
theorem v118_at : val_main_v118 (F := Ideal) x0 x1 x2 x3 x4 x5 x6 x7 x8 x9 x10 x11 x12 (ix3 h s n) = Attn.ex (fun d => (tk x0 x2 x3 x4 s).query (wt x1 x5 x6 x7 x8 x9 x10 x11 x12 x13) (al h d)) (fun m d => (wt x1 x5 x6 x7 x8 x9 x10 x11 x12 x13).K m (al h d)) n := by
  rw [val_main_v118_apply, val_main_v117_apply, v111_at, val_main_v116_apply, val_main_v115_apply, val_main_v114_apply, val_main_v113_apply, val_main_cst_14_apply]
  refine congrArg (fun a => Ideal.exp (Attn.score _ _ n - a)) (Eq.trans ?_ (v112_at x0 x1 x2 x3 x4 x5 x6 x7 x8 x9 x10 x11 x12 x13 s h))
  rw [show idx_main_v115 (idx_main_v116 (ix3 h s n)) = ix2 h s by blk_ext]
  show max (Ideal.ofBits .f32 0xFF800000#32) _ = _
  rw [Attn.bot_eq, max_eq_right bot_le]
theorem v119_at : val_main_v119 (F := Ideal) x0 x1 x2 x3 x4 x5 x6 x7 x8 x9 x10 x11 x12 (ix2 h s) = ∑ n, Attn.ex (fun d => (tk x0 x2 x3 x4 s).query (wt x1 x5 x6 x7 x8 x9 x10 x11 x12 x13) (al h d)) (fun m d => (wt x1 x5 x6 x7 x8 x9 x10 x11 x12 x13).K m (al h d)) n := by
  refine (val_main_v119_apply x0 x1 x2 x3 x4 x5 x6 x7 x8 x9 x10 x11 x12 _).trans ((congrArg (fun a => a + _) Ideal.ofBits_zero_f32).trans ((zero_add _).trans ?_))
  exact Finset.sum_congr rfl fun m _ => (congrArg _ (by blk_ext)).trans (v118_at x0 x1 x2 x3 x4 x5 x6 x7 x8 x9 x10 x11 x12 x13 s h m)
theorem v122_at : val_main_v122 (F := Ideal) x0 x1 x2 x3 x4 x5 x6 x7 x8 x9 x10 x11 x12 (ix3 h s n) = Attn.prob (fun d => (tk x0 x2 x3 x4 s).query (wt x1 x5 x6 x7 x8 x9 x10 x11 x12 x13) (al h d)) (fun m d => (wt x1 x5 x6 x7 x8 x9 x10 x11 x12 x13).K m (al h d)) n := by
  rw [val_main_v122_apply, v118_at, val_main_v121_apply, val_main_v120_apply]
  exact congrArg (Ideal.div _) ((congrArg _ (show _ = ix2 h s by blk_ext)).trans (v119_at x0 x1 x2 x3 x4 x5 x6 x7 x8 x9 x10 x11 x12 x13 s h))
theorem v126_at (j : Fin 1024) : val_main_v126 (F := Ideal) x0 x1 x2 x3 x4 x5 x6 x7 x8 x9 x10 x11 x12 (ix2 s j) = (tk x0 x2 x3 x4 s).att (wt x1 x5 x6 x7 x8 x9 x10 x11 x12 x13) j := by
  have hj : al (ah j) ⟨j.val % 256, by omega⟩ = j := Fin.ext (by show j.val / 256 * 256 + j.val % 256 = j.val; omega)
  rw [val_main_v126_apply, val_main_v125_apply, val_main_v124_apply]
  unfold Token.att attend
  refine Finset.sum_congr rfl fun n _ => ?_
  refine (mul_comm _ _).trans (Ideal.mul_congr ?_ ?_)
  · exact (congrArg _ (show _ = ix3 (ah j) s n by blk_ext)).trans (v122_at x0 x1 x2 x3 x4 x5 x6 x7 x8 x9 x10 x11 x12 x13 s (ah j) n)
  · rw [val_main_v123_apply]
    exact congrArg _ (show _ = ix2 n j by blk_ext)
theorem v128_at (j : Fin 1024) : val_main_v128 (F := Ideal) x0 x1 x2 x3 x4 x5 x6 x7 x8 x9 x10 x11 x12 x13 (ix2 s j) = (tk x0 x2 x3 x4 s).x2 (wt x1 x5 x6 x7 x8 x9 x10 x11 x12 x13) j := by
  rw [val_main_v128_apply, val_main_v127_apply]
  unfold Token.x2 mulN
  refine Ideal.add_congr (v78_at x0 x1 x2 x3 x4 x5 x6 x7 x8 x9 x10 x11 x12 x13 s j) (Finset.sum_congr rfl fun l _ => ?_)
  exact Ideal.mul_congr ((congrArg _ (show lidx_main_v127 (ix2 s j) l = ix2 s l by blk_ext)).trans (v126_at x0 x1 x2 x3 x4 x5 x6 x7 x8 x9 x10 x11 x12 x13 s l)) (congrArg x13 (show ridx_main_v127 (ix2 s j) l = ix2 l j by blk_ext))
theorem v133_at (j : Fin 512) : val_main_v133 (F := Ideal) x2 x3 x4 (ix2 s j) = (tk x0 x2 x3 x4 s).o j := by
  have hj : vl (vh j) ⟨j.val % 128, by omega⟩ = j := Fin.ext (by show j.val / 128 * 128 + j.val % 128 = j.val; omega)
  rw [val_main_v133_apply, show idx_main_v133 (ix2 s j) = ix3 s (vh j) ⟨j.val % 128, by omega⟩ by blk_ext]
  exact (v59_at x0 x2 x3 x4 s _ _).trans (congrArg _ hj)

end Cert.MixRefIdeal.Read

end
-- ==== Proof.Mix.Inputs.lean ====
module

public import Idealize.ShloMosaic.Lib.KernelVsHost
public import proofs.«01_k».proof.Proof.Mix.Final
public import proofs.«01_k».proof.Proof.Mix.Ref

/-! # What the kernel's blocks hold, in terms of the arguments; the results are the reference's arrays -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen Norm Mix
open Cert.MixRefIdeal.Read (tk wt)

variable (m : (ℓ : Loc nD τ sig) → Buf (Elt Ideal) ℓ) (c : Dev nD)

/-- The arguments. -/
abbrev arg0 : FVec Ideal S8192x1024 .f32 := m ((c : Thread nD τ).loc main_arg0)
abbrev arg1 : FVec Ideal S256x1024 .f32 := m ((c : Thread nD τ).loc main_arg1)
abbrev arg2 : FVec Ideal S8192x3104 .f32 := m ((c : Thread nD τ).loc main_arg2)
abbrev arg3 : FVec Ideal S8192x512 .f32 := m ((c : Thread nD τ).loc main_arg3)
abbrev arg4 : FVec Ideal S8192x512 .f32 := m ((c : Thread nD τ).loc main_arg4)
abbrev arg5 : FVec Ideal S3x512 .f32 := m ((c : Thread nD τ).loc main_arg5)
abbrev arg6 : FVec Ideal S1x512 .f32 := m ((c : Thread nD τ).loc main_arg6)
abbrev arg7 : FVec Ideal S1x128 .f32 := m ((c : Thread nD τ).loc main_arg7)
abbrev arg8 : FVec Ideal S1024x1024 .f32 := m ((c : Thread nD τ).loc main_arg8)
abbrev arg9 : FVec Ideal S1x1024 .f32 := m ((c : Thread nD τ).loc main_arg9)
abbrev arg10 : FVec Ideal S1x1024 .f32 := m ((c : Thread nD τ).loc main_arg10)
abbrev arg11 : FVec Ideal S1024x1024 .f32 := m ((c : Thread nD τ).loc main_arg11)
abbrev arg12 : FVec Ideal S1024x2048 .f32 := m ((c : Thread nD τ).loc main_arg12)
abbrev arg13 : FVec Ideal S1024x1024 .f32 := m ((c : Thread nD τ).loc main_arg13)

/-- The projections are padded on the right. -/
theorem padded : ∃ v : FVec Ideal S_ .f32, V m c main_v0 = pad S8192x3200 ![0, 0] ![0, 96] ![0, 0] (arg2 m c) v pads_S8192x3104_S8192x3200_000_0960 h_S_ := by
  refine ⟨sitofp .f32 (constantI S_ 32 0#32), ?_⟩
  show StableHlo.after (List.flatten [hostOps0, hostOps0_1, hostOps0_2]) (fun b => m (c, b)) (Proc.devRef .tc main_v0) = _
  simp only [List.flatten_cons, List.flatten_nil, hostOps0, hostOps0_1, hostOps0_2, List.cons_append, List.nil_append]
  after_results
  rfl
theorem Z_at (s : Fin 8192) (n : ℕ) (hn : n < 3104) : Z m c s ⟨n, by omega⟩ = arg2 m c (ix2 s ⟨n, hn⟩) := by
  obtain ⟨v, hv⟩ := padded m c
  unfold Z
  rw [hv]
  refine pad_apply_of_inside _ _ _ _ _ _ _ _ (ix2 s ⟨n, hn⟩) fun a => ?_
  fin_cases a
  · show s.val = 0 + s.val * (0 + 1); omega
  · show n = 0 + n * (0 + 1); omega
/-- The linear attention's norm is repeated for every head. -/
theorem tiled_eq : V m c main_v17 = shapeCast S1x512 (broadcastInDim S1x1x4x128 ![0, 1, 2, 3] bcast_S1x1x1x128_S1x1x4x128_0_1_2_3
    (shapeCast S1x1x1x128 (arg7 m c) shapeCasts_S1x128_S1x1x1x128)) shapeCasts_S1x1x4x128_S1x512 := by
  show StableHlo.after (List.flatten [hostOps0, hostOps0_1, hostOps0_2]) (fun b => m (c, b)) (Proc.devRef .tc main_v17) = _
  simp only [List.flatten_cons, List.flatten_nil, hostOps0, hostOps0_1, hostOps0_2, List.cons_append, List.nil_append]
  after_results
  rfl
theorem tiled (j : Fin 512) : (V m c main_v17 : FVec Ideal S1x512 .f32) (ix2 0 j) = arg7 m c (ix2 0 ⟨j.val % 128, Nat.mod_lt _ (by norm_num)⟩) := by
  rw [tiled_eq]
  pointwise []
theorem wo_eq : V m c main_v18 = arg8 m c := by
  show StableHlo.after (List.flatten [hostOps0, hostOps0_1, hostOps0_2]) (fun b => m (c, b)) (Proc.devRef .tc main_v18) = _
  simp only [List.flatten_cons, List.flatten_nil, hostOps0, hostOps0_1, hostOps0_2, List.cons_append, List.nil_append]
  after_results
  rfl
theorem wq_eq : V m c main_v19 = arg11 m c := by
  show StableHlo.after (List.flatten [hostOps0, hostOps0_1, hostOps0_2]) (fun b => m (c, b)) (Proc.devRef .tc main_v19) = _
  simp only [List.flatten_cons, List.flatten_nil, hostOps0, hostOps0_1, hostOps0_2, List.cons_append, List.nil_append]
  after_results
  rfl
theorem wx_eq : V m c main_v22 = arg13 m c := by
  show StableHlo.after (List.flatten [hostOps0, hostOps0_1, hostOps0_2]) (fun b => m (c, b)) (Proc.devRef .tc main_v22) = _
  simp only [List.flatten_cons, List.flatten_nil, hostOps0, hostOps0_1, hostOps0_2, List.cons_append, List.nil_append]
  after_results
  rfl
theorem keys_eq : V m c main_v20 = Cert.MixRefIdeal.Read.val_main_v105 (F := Ideal) (arg1 m c) (arg10 m c) (arg12 m c) := by
  show StableHlo.after (List.flatten [hostOps0, hostOps0_1, hostOps0_2]) (fun b => m (c, b)) (Proc.devRef .tc main_v20) = _
  simp only [List.flatten_cons, List.flatten_nil, hostOps0, hostOps0_1, hostOps0_2, List.cons_append, List.nil_append]
  after_results
  rfl
theorem values_eq : V m c main_v21 = Cert.MixRefIdeal.Read.val_main_v106 (F := Ideal) (arg1 m c) (arg10 m c) (arg12 m c) := by
  show StableHlo.after (List.flatten [hostOps0, hostOps0_1, hostOps0_2]) (fun b => m (c, b)) (Proc.devRef .tc main_v21) = _
  simp only [List.flatten_cons, List.flatten_nil, hostOps0, hostOps0_1, hostOps0_2, List.cons_append, List.nil_append]
  after_results
  rfl

variable (t : Fin cfg0.N)

theorem wAt_eq : wAt m c t = wt (arg1 m c) (arg5 m c) (arg6 m c) (arg7 m c) (arg8 m c) (arg9 m c) (arg10 m c) (arg11 m c) (arg12 m c) (arg13 m c) := by
  rw [Weights.mk.injEq]
  simp only [whole14, whole15, whole16, whole17, whole18, whole19, whole20, whole21, whole22, V_main_arg5, V_main_arg6, V_main_arg9, wo_eq, wq_eq, wx_eq, keys_eq, values_eq]
  exact ⟨rfl, rfl, rfl, rfl, funext fun j => tiled m c j, rfl, rfl, rfl, rfl, rfl, rfl⟩

variable (r : Fin 512)
/-- The convolution's input at a token, from the two columns' blocks. -/
theorem gate_at (s : Fin 8192) (j : Fin 512) : Z m c s ⟨512 + j.val, by omega⟩ * Z m c s ⟨1024 + j.val, by omega⟩ = gate (arg2 m c) s j :=
  Ideal.mul_congr (Z_at m c s _ (by omega)) (Z_at m c s _ (by omega))
theorem before_eq (j : Fin 512) : (tokAt m c t r).before j = (tk (arg0 m c) (arg2 m c) (arg3 m c) (arg4 m c) (tok t r)).before j := by
  have hN : cfg0.N = 16 := N_0
  have ht := t.isLt
  show (if r.val = 0 then _ else _) = if t.val * 512 + r.val = 0 then _ else _
  by_cases hr : r.val = 0
  · rw [if_pos hr]
    by_cases h0 : t.val = 0
    · rw [if_pos ((point_ends t).1.mpr h0), if_pos (by omega)]
    · rw [if_neg (fun h => h0 ((point_ends t).1.mp h)), if_neg (by omega)]
      refine (Ideal.mul_congr (part8 m c t h0 j) (part10 m c t h0 j)).trans ((gate_at m c _ j).trans (congrArg (fun s => gate (arg2 m c) s j) (Fin.ext ?_)))
      show t.val * 512 - 1 = t.val * 512 + r.val - 1; omega
  · rw [if_neg hr, if_neg (by omega)]
    refine (Ideal.mul_congr (part6 m c t _ j) (part7 m c t _ j)).trans ((gate_at m c _ j).trans (congrArg (fun s => gate (arg2 m c) s j) (Fin.ext ?_)))
    show t.val * 512 + (r.val - 1) = t.val * 512 + r.val - 1; omega
theorem here_eq (j : Fin 512) : (tokAt m c t r).here j = (tk (arg0 m c) (arg2 m c) (arg3 m c) (arg4 m c) (tok t r)).here j :=
  (Ideal.mul_congr (part6 m c t r j) (part7 m c t r j)).trans (gate_at m c _ j)
theorem after_eq (j : Fin 512) : (tokAt m c t r).after j = (tk (arg0 m c) (arg2 m c) (arg3 m c) (arg4 m c) (tok t r)).after j := by
  have hN : cfg0.N = 16 := N_0
  have ht := t.isLt
  show (if h : r.val = 511 then _ else _) = if h : t.val * 512 + r.val = 8191 then _ else _
  by_cases hr : r.val = 511
  · rw [dif_pos hr]
    by_cases h0 : t.val = 15
    · rw [if_pos ((point_ends t).2.mpr h0), dif_pos (by omega)]
    · rw [if_neg (fun h => h0 ((point_ends t).2.mp h)), dif_neg (by omega)]
      refine (Ideal.mul_congr (part9 m c t h0 j) (part11 m c t h0 j)).trans ((gate_at m c _ j).trans (congrArg (fun s => gate (arg2 m c) s j) (Fin.ext ?_)))
      show t.val * 512 + 512 = t.val * 512 + r.val + 1; omega
  · rw [dif_neg hr, dif_neg (by omega)]
    refine (Ideal.mul_congr (part6 m c t _ j) (part7 m c t _ j)).trans ((gate_at m c _ j).trans (congrArg (fun s => gate (arg2 m c) s j) (Fin.ext ?_)))
    show t.val * 512 + (r.val + 1) = t.val * 512 + r.val + 1; omega

theorem tokAt_eq : tokAt m c t r = tk (arg0 m c) (arg2 m c) (arg3 m c) (arg4 m c) (tok t r) := by
  rw [Token.mk.injEq]
  refine ⟨?_, ?_, funext fun j => before_eq m c t r j, funext fun j => here_eq m c t r j, funext fun j => after_eq m c t r j, ?_, ?_, ?_, ?_, ?_, ?_⟩
  · rw [row0, V_main_arg0]
  · exact funext fun j => (part5 m c t r j).trans (Z_at m c _ _ (by omega))
  · exact funext fun j => (part1 m c t r j).trans (Z_at m c _ _ (by omega))
  · exact funext fun j => (part2 m c t r j).trans (Z_at m c _ _ (by omega))
  · exact funext fun j => (part3 m c t r j).trans (Z_at m c _ _ (by omega))
  · exact funext fun j => (part4 m c t r j).trans (Z_at m c _ _ (by omega))
  · rw [row12, V_main_arg3]
  · rw [row13, V_main_arg4]

variable (hz : ∀ i, IsReal (arg2 m c i)) (hw : ∀ i, IsReal (arg5 m c i))
include hz hw

/-- Where the projections and the convolution's weights are real numbers, so is what the split sums read. -/
theorem real_at : RealAt m c t := by
  have hg : ∀ s j, IsReal (gate (arg2 m c) s j) := fun s j => (hz _).mul (hz _)
  have h0 : IsReal 0 := ⟨0, rfl⟩
  have at_row {W : ℕ} (A : (⟨2, ![512, W]⟩ : Shape).Idx → EReal) (h : ∀ r j, IsReal (A (ix2 r j))) (i) : IsReal (A i) := by
    rw [show i = ix2 (i 0) (i 1) by blk_ext]; exact h _ _
  refine ⟨at_row _ fun r j => ?_, at_row _ fun r j => ?_, at_row _ fun r j => ?_, fun r j => ?_, fun r j => ?_, fun r j => ?_, fun i => ?_⟩
  · rw [part1, Z_at m c _ _ (by omega)]; exact hz _
  · rw [part2, Z_at m c _ _ (by omega)]; exact hz _
  · rw [part5, Z_at m c _ _ (by omega)]; exact hz _
  · rw [before_eq]
    show IsReal (if _ then _ else _)
    split_ifs
    · exact h0
    · exact hg _ _
  · rw [here_eq]; exact hg _ _
  · rw [after_eq]
    show IsReal (if h : _ then _ else _)
    split_ifs
    · exact h0
    · exact hg _ _
  · rw [whole14, V_main_arg5]; exact hw i

/-! The results. -/

theorem x1_eq : (dats m 0 c).arrAt 23 cfg0.N = Cert.MixRefIdeal.Read.val_main_v78 (F := Ideal) (arg0 m c) (arg2 m c) (arg3 m c) (arg4 m c) (arg5 m c) (arg6 m c) (arg7 m c) (arg8 m c) :=
  arr23 m c _ fun t r j => by
    rw [out23_eq]
    refine (congrFun (x1_row m c t (real_at m c t hz hw) r) j).trans ?_
    rw [tokAt_eq, wAt_eq]
    exact (Cert.MixRefIdeal.Read.v78_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem x2_eq : (dats m 0 c).arrAt 24 cfg0.N = Cert.MixRefIdeal.Read.val_main_v128 (F := Ideal) (arg0 m c) (arg1 m c) (arg2 m c) (arg3 m c) (arg4 m c) (arg5 m c) (arg6 m c) (arg7 m c) (arg8 m c) (arg9 m c) (arg10 m c) (arg11 m c) (arg12 m c) (arg13 m c) :=
  arr24 m c _ fun t r j => by
    rw [out24_eq]
    refine (congrFun (x2_row m c t (real_at m c t hz hw) r) j).trans ?_
    rw [tokAt_eq, wAt_eq]
    exact (Cert.MixRefIdeal.Read.v128_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem xn_eq : (dats m 0 c).arrAt 25 cfg0.N = Cert.MixRefIdeal.Read.val_main_v129 (F := Ideal) (arg0 m c) (arg2 m c) (arg3 m c) (arg4 m c) (arg5 m c) (arg6 m c) (arg7 m c) (arg8 m c) (arg9 m c) :=
  arr25 m c _ fun t r j => by
    rw [out25_eq]
    refine (congrFun (xn_row m c t (real_at m c t hz hw) r) j).trans ?_
    rw [tokAt_eq, wAt_eq]
    exact (Cert.MixRefIdeal.Read.v90_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem query_eq : (dats m 0 c).arrAt 26 cfg0.N = Cert.MixRefIdeal.Read.val_main_v130 (F := Ideal) (arg0 m c) (arg2 m c) (arg3 m c) (arg4 m c) (arg5 m c) (arg6 m c) (arg7 m c) (arg8 m c) (arg9 m c) (arg11 m c) :=
  arr26 m c _ fun t r j => by
    rw [out26_eq]
    refine (congrFun (query_row m c t (real_at m c t hz hw) r) j).trans ?_
    rw [tokAt_eq, wAt_eq]
    exact (Cert.MixRefIdeal.Read.v91_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem att_eq : (dats m 0 c).arrAt 27 cfg0.N = Cert.MixRefIdeal.Read.val_main_v131 (F := Ideal) (arg0 m c) (arg1 m c) (arg2 m c) (arg3 m c) (arg4 m c) (arg5 m c) (arg6 m c) (arg7 m c) (arg8 m c) (arg9 m c) (arg10 m c) (arg11 m c) (arg12 m c) :=
  arr27 m c _ fun t r j => by
    rw [out27_eq]
    refine (congrFun (att_row m c t (real_at m c t hz hw) r) j).trans ?_
    rw [tokAt_eq, wAt_eq]
    exact (Cert.MixRefIdeal.Read.v126_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem y_eq : (dats m 0 c).arrAt 28 cfg0.N = Cert.MixRefIdeal.Read.val_main_v132 (F := Ideal) (arg2 m c) (arg3 m c) (arg4 m c) (arg5 m c) (arg6 m c) (arg7 m c) :=
  arr28 m c _ fun t r j => by
    rw [out28_eq]
    refine (congrFun (y_row m c t (real_at m c t hz hw) r) j).trans ?_
    rw [tokAt_eq, wAt_eq]
    exact (Cert.MixRefIdeal.Read.v76_at (arg0 m c) (arg1 m c) (arg2 m c) (arg3 m c) (arg4 m c) (arg5 m c) (arg6 m c) (arg7 m c) (arg8 m c) (arg9 m c) (arg10 m c) (arg11 m c) (arg12 m c) (arg13 m c) (tok t r) j).symm
theorem o_eq : (dats m 0 c).arrAt 29 cfg0.N = Cert.MixRefIdeal.Read.val_main_v133 (F := Ideal) (arg2 m c) (arg3 m c) (arg4 m c) :=
  arr29 m c _ fun t r j => by
    rw [out29_eq]
    refine (congrFun (o_row m c t (real_at m c t hz hw) r) j).trans ?_
    rw [tokAt_eq]
    exact (Cert.MixRefIdeal.Read.v133_at (arg0 m c) (arg2 m c) (arg3 m c) (arg4 m c) (tok t r) j).symm

end Cert.MixFwdIdeal.Hand

end
-- ==== Proof.Mix.Launch.lean ====
module

public import proofs.«01_k».proof.Proof.Mix.Outs

/-! # The launch of the forward attention block

The body's obligation at that point and the run of the whole program. -/

@[expose] public section

set_option maxRecDepth 16384

noncomputable section

namespace Cert.MixFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFwdIdeal Cert.MixFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces written into an output tile its block, so what it holds does not depend on what it held before. -/
theorem covered23 (c : Dev nD) (i : grid0.Coords) (s : Stages) (x : Ins F) (y : S512x1024.Idx) :
    ∃ pc ∈ (bodyRun c i s x).1, y ∈ pc.1.set :=
  View.cover_of_tiledL (bodyRun c i s x).1 ![512, 1024] (by sl_kernel_rfl) y

/-- As above. -/
theorem covered24 (c : Dev nD) (i : grid0.Coords) (s : Stages) (x : Ins F) (y : S512x1024.Idx) :
    ∃ pc ∈ (bodyRun c i s x).2.1, y ∈ pc.1.set :=
  View.cover_of_tiledL (bodyRun c i s x).2.1 ![512, 1024] (by sl_kernel_rfl) y

/-- As above. -/
theorem covered25 (c : Dev nD) (i : grid0.Coords) (s : Stages) (x : Ins F) (y : S512x1024.Idx) :
    ∃ pc ∈ (bodyRun c i s x).2.2.1, y ∈ pc.1.set :=
  View.cover_of_tiledL (bodyRun c i s x).2.2.1 ![512, 1024] (by sl_kernel_rfl) y

/-- As above. -/
theorem covered26 (c : Dev nD) (i : grid0.Coords) (s : Stages) (x : Ins F) (y : S512x1024.Idx) :
    ∃ pc ∈ (bodyRun c i s x).2.2.2.1, y ∈ pc.1.set :=
  View.cover_of_tiledL (bodyRun c i s x).2.2.2.1 ![512, 1024] (by sl_kernel_rfl) y

/-- As above. -/
theorem covered27 (c : Dev nD) (i : grid0.Coords) (s : Stages) (x : Ins F) (y : S512x1024.Idx) :
    ∃ pc ∈ (bodyRun c i s x).2.2.2.2.1, y ∈ pc.1.set :=
  View.cover_of_tiledL (bodyRun c i s x).2.2.2.2.1 ![512, 256] (by sl_kernel_rfl) y

/-- As above. -/
theorem covered28 (c : Dev nD) (i : grid0.Coords) (s : Stages) (x : Ins F) (y : S512x1024.Idx) :
    ∃ pc ∈ (bodyRun c i s x).2.2.2.2.2.1, y ∈ pc.1.set :=
  View.cover_of_tiledL (bodyRun c i s x).2.2.2.2.2.1 ![512, 512] (by sl_kernel_rfl) y

/-- As above. -/
theorem covered29 (c : Dev nD) (i : grid0.Coords) (s : Stages) (x : Ins F) (y : S512x512.Idx) :
    ∃ pc ∈ (bodyRun c i s x).2.2.2.2.2.2.1, y ∈ pc.1.set :=
  View.cover_of_tiledL (bodyRun c i s x).2.2.2.2.2.2.1 ![512, 512] (by sl_kernel_rfl) y

/-- Point `t` before the body: the invariant, nothing owed, and each window's buffer as the pipeline hands it over, -/
def before (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- and after it. -/
def after (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

/-- A buffer with pieces written that cover it holds what those pieces leave in any other buffer. -/
theorem owns_written {s : Shape} {e : EltTy} (c : Dev nD) (a : Memref sig .tc .vmem s e) (v : View sig .tc .vmem s e)
    (L : List (View.Piece (Elt F) s e)) (h : ∀ y : s.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap; · iexact H
  ipureintro; exact View.read_writes_of_cover _ _ _ _ _ h

set_option maxHeartbeats 8000000 in
/-- The body takes the one to the other. -/
theorem sound_at (c : Dev nD) (t : Fin cfg0.N) :
    before m c t ⊢ wp frame (wpE (defs₀ (F := F)) Variants.none c none) Set.univ (bodyAt0 t) (fun _ => after m c t) := by
  unfold before bodyAt0
  simp only [before0_0_of m (dats m 0 c) (arrays_eq m c 0) (fun _ => rfl), before0_1_of m (dats m 0 c) (arrays_eq m c 1) (fun _ => rfl),
    before0_2_of m (dats m 0 c) (arrays_eq m c 2) (fun _ => rfl), before0_3_of m (dats m 0 c) (arrays_eq m c 3) (fun _ => rfl),
    before0_4_of m (dats m 0 c) (arrays_eq m c 4) (fun _ => rfl), before0_5_of m (dats m 0 c) (arrays_eq m c 5) (fun _ => rfl),
    before0_6_of m (dats m 0 c) (arrays_eq m c 6) (fun _ => rfl), before0_7_of m (dats m 0 c) (arrays_eq m c 7) (fun _ => rfl),
    before0_8_of m (dats m 0 c) (arrays_eq m c 8) (fun _ => rfl), before0_9_of m (dats m 0 c) (arrays_eq m c 9) (fun _ => rfl),
    before0_10_of m (dats m 0 c) (arrays_eq m c 10) (fun _ => rfl), before0_11_of m (dats m 0 c) (arrays_eq m c 11) (fun _ => rfl),
    before0_12_of m (dats m 0 c) (arrays_eq m c 12) (fun _ => rfl), before0_13_of m (dats m 0 c) (arrays_eq m c 13) (fun _ => rfl),
    before0_14_of m (dats m 0 c) (arrays_eq m c 14) (fun _ => rfl), before0_15_of m (dats m 0 c) (arrays_eq m c 15) (fun _ => rfl),
    before0_16_of m (dats m 0 c) (arrays_eq m c 16) (fun _ => rfl), before0_17_of m (dats m 0 c) (arrays_eq m c 17) (fun _ => rfl),
    before0_18_of m (dats m 0 c) (arrays_eq m c 18) (fun _ => rfl), before0_19_of m (dats m 0 c) (arrays_eq m c 19) (fun _ => rfl),
    before0_20_of m (dats m 0 c) (arrays_eq m c 20) (fun _ => rfl), before0_21_of m (dats m 0 c) (arrays_eq m c 21) (fun _ => rfl),
    before0_22_of m (dats m 0 c) (arrays_eq m c 22) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩, ⟨%d27, H27⟩, ⟨%d28, H28⟩, ⟨%d29, H29⟩⟩
  iapply ((runAt m c t).2.2.2.2.2.2.2 Set.univ _)
  isplitl [H0 H1 H2 H3 H4 H5 H6 H7 H8 H9 H10 H11 H12 H13 H14 H15 H16 H17 H18 H19 H20 H21 H22]
  · unfold given
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [H23 H24 H25 H26 H27 H28 H29]
  · unfold blank
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    iexists _; iexact H29
  unfold given written after
  iintro ⟨⟨H0, H1, H2, H3, H4, H5, H6, H7, H8, H9, H10, H11, H12, H13, H14, H15, H16, H17, H18, H19, H20, H21, H22⟩, H23, H24, H25, H26, H27, H28, H29⟩
  rw [show (dats m 0 c).Φ t.succ = (dats m 0 c).Φ t.castSucc from rfl,
    show (dats m 0 c).owesAt () t.succ = (dats m 0 c).owesAt () t.castSucc from rfl]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iapply (owns_written c (ms0_23 t) VO0_23 _ (covered23 c _ _ _)); iexact H23
  isplitl [H24]; · iapply (owns_written c (ms0_24 t) VO0_24 _ (covered24 c _ _ _)); iexact H24
  isplitl [H25]; · iapply (owns_written c (ms0_25 t) VO0_25 _ (covered25 c _ _ _)); iexact H25
  isplitl [H26]; · iapply (owns_written c (ms0_26 t) VO0_26 _ (covered26 c _ _ _)); iexact H26
  isplitl [H27]; · iapply (owns_written c (ms0_27 t) VO0_27 _ (covered27 c _ _ _)); iexact H27
  isplitl [H28]; · iapply (owns_written c (ms0_28 t) VO0_28 _ (covered28 c _ _ _)); iexact H28
  iapply (owns_written c (ms0_29 t) VO0_29 _ (covered29 c _ _ _)); iexact H29

set_option maxHeartbeats 2000000 in
/-- The body's obligation at every point. -/
theorem body_obligation (c : Dev nD) :
    BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_at m c t) rfl .rfl fun _ => .rfl

set_option backward.isDefEq.respectTransparency.types false in
/-- Every run ends with each array at what the library computes from the proof data, and no semaphore holds a count. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := arrays_eq m) (hΦ := fun _ _ => rfl)

end Cert.MixFwdIdeal.Hand

end
-- ==== Proof.Mix.Results.lean ====
module

public import proofs.«01_k».proof.Proof.Mix.Launch

/-! # What a run of the forward mixing layer leaves: its seven results, and its arguments as they were -/

@[expose] public section

set_option maxRecDepth 16384

noncomputable section

open Idealize.ShloMosaic Idealize.ShloMosaic.TcCoe Idealize.SL.Sem
open Idealize.ShloMosaic.Pipeline (Dat)

namespace Cert.MixFwdIdeal.Hand
open Cert.MixFwdIdeal Cert.MixFwdIdeal.Gen

variable {F : FTy → Type} [FloatOps F] (m : (ℓ : Loc nD τ sig) → Buf (Elt F) ℓ) (ρ : Dev nD → PrngReg)

/-- The arguments are as launched, on every device. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)

variable {m}

/-- An argument which a window stages, and one which none does, end as they were when the kernel call began. -/
theorem staged {r : PUnit × MemSt nD τ sig (Elt F)} (h : Pipeline.FramePost cfgs (dats m) 0 (V m) r) (c : Dev nD) (w : Fin cfg0.W) (hw : (cfg0.win w).isOut = false) :
    r.2.mem ((c.tc : Thread nD τ).loc (Pipeline.arrRef spec0 w)) = V m c (Pipeline.arrRef spec0 w) :=
  ((h c).1 w).trans (((dats m 0 c).arrAt_in w hw _).trans (arrays_eq m c w))
theorem kept {r : PUnit × MemSt nD τ sig (Elt F)} (h : Pipeline.FramePost cfgs (dats m) 0 (V m) r) (c : Dev nD) : Kept m r c :=
  have rest := fun (b : Ref sig .tc) hb => (h c).2 b hb
  ⟨(staged h c 0 rfl).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (staged h c 12 rfl).trans (V_main_arg3 m c),
    (staged h c 13 rfl).trans (V_main_arg4 m c),
    (staged h c 14 rfl).trans (V_main_arg5 m c),
    (staged h c 15 rfl).trans (V_main_arg6 m c),
    (rest main_arg7 (Pipeline.mem_restRefs_of main_arg7 (by decide) (by decide))).trans (V_main_arg7 m c),
    (rest main_arg8 (Pipeline.mem_restRefs_of main_arg8 (by decide) (by decide))).trans (V_main_arg8 m c),
    (staged h c 18 rfl).trans (V_main_arg9 m c),
    (rest main_arg10 (Pipeline.mem_restRefs_of main_arg10 (by decide) (by decide))).trans (V_main_arg10 m c),
    (rest main_arg11 (Pipeline.mem_restRefs_of main_arg11 (by decide) (by decide))).trans (V_main_arg11 m c),
    (rest main_arg12 (Pipeline.mem_restRefs_of main_arg12 (by decide) (by decide))).trans (V_main_arg12 m c),
    (rest main_arg13 (Pipeline.mem_restRefs_of main_arg13 (by decide) (by decide))).trans (V_main_arg13 m c)⟩

variable (m)

/-- The results and the arguments after the run, which leaves no signal behind. -/
theorem run : θ_run defs (onTc (τ := τ) (main (F := F))) ⟨m, fun _ => 0, ρ⟩ fun r => (∀ c : Dev nD,
    (r.2.mem ((c.tc : Thread nD τ).loc main_v23_0) = (dats m 0 c).arrAt 23 cfg0.N
    ∧ r.2.mem ((c.tc : Thread nD τ).loc main_v23_1) = (dats m 0 c).arrAt 24 cfg0.N
    ∧ r.2.mem ((c.tc : Thread nD τ).loc main_v23_2) = (dats m 0 c).arrAt 25 cfg0.N
    ∧ r.2.mem ((c.tc : Thread nD τ).loc main_v23_3) = (dats m 0 c).arrAt 26 cfg0.N
    ∧ r.2.mem ((c.tc : Thread nD τ).loc main_v23_4) = (dats m 0 c).arrAt 27 cfg0.N
    ∧ r.2.mem ((c.tc : Thread nD τ).loc main_v23_5) = (dats m 0 c).arrAt 28 cfg0.N
    ∧ r.2.mem ((c.tc : Thread nD τ).loc main_v23_6) = (dats m 0 c).arrAt 29 cfg0.N)
    ∧ Kept m r c) ∧ r.2.sem = fun _ => 0 :=
  (θ_run defs _ _).mono (fun _ h => ⟨fun c => ⟨⟨(h.1 c).1 23, (h.1 c).1 24, (h.1 c).1 25, (h.1 c).1 26, (h.1 c).1 27, (h.1 c).1 28, (h.1 c).1 29⟩, kept h.1 c⟩, h.2⟩) (run_main m ρ)

end Cert.MixFwdIdeal.Hand

end
-- ==== Proof.Mix.Claims.lean ====
module

public import proofs.«01_k».proof.Defs
public import proofs.«01_k».proof.Proof.Gen.MixFwd
public import proofs.«01_k».proof.Proof.Gen.MixRefIdeal.Run
public import proofs.«01_k».proof.Proof.Mix.Inputs
public import proofs.«01_k».proof.Proof.Mix.Results
public import Idealize.ShloMosaic.Lib.Quiescent

/-! # The forward mixing layer: its five claims -/

@[expose] public section

set_option maxRecDepth 16384

noncomputable section

open Idealize.ShloMosaic Idealize.ShloMosaic.TcCoe Idealize.SL.Sem

namespace Cert.Proof.Mix

instance : Cert.MixFwd.Facts := Cert.MixFwd.Gen.facts
instance : Cert.MixFwdIdeal.Facts := Cert.MixFwdIdeal.Gen.facts
instance : Cert.MixRefIdeal.Facts := Cert.MixRefIdeal.Gen.facts
instance finite_facts : Cert.Pre_mix_finite.Facts := ⟨by decide, by decide⟩

theorem frame_ideal : Cert.quiescent_MixFwdIdeal := fun m ρ _ =>
  (θ_run _ _ _).mono (fun _ h => ⟨fun c => (h.1 c).2, h.2⟩) (Cert.MixFwdIdeal.Hand.run m ρ)

theorem frame_ideal_finite : Cert.quiescent_MixFwdIdeal_pre_mix_finite := fun m ρ _ => frame_ideal m ρ trivial

/-- The bit-level program has the same text, so the same run gives its frame. -/
theorem frame_kernel : Cert.quiescent_MixFwd := by
  have h : ∀ (m : (ℓ : Loc Cert.MixFwdIdeal.nD Cert.MixFwdIdeal.τ Cert.MixFwdIdeal.sig) → Buf (Elt Bits) ℓ) (ρ : Dev Cert.MixFwdIdeal.nD → PrngReg), True → _ :=
    fun m ρ _ => (θ_run _ _ _).mono (fun r h => (⟨fun c => (h.1 c).2, h.2⟩ : _ ∧ r.2.sem = fun _ => 0)) (Cert.MixFwdIdeal.Hand.run (F := Bits) m ρ)
  exact cast (by sl_kernel_rfl) h

theorem frame_reference : Cert.quiescent_MixRefIdeal := fun m ρ _ =>
  (θ_run _ _ _).mono (fun r h => ⟨fun c => (h c).2.2.2.2.2.2.2, sem_eq_zero_of_no_sems (by decide) r.2⟩) (Cert.MixRefIdeal.Value.run m ρ)

theorem frame_reference_finite : Cert.quiescent_MixRefIdeal_pre_mix_finite := fun m ρ _ => frame_reference m ρ trivial

/-- The precondition says of the projections and of the convolution's weights that they hold real numbers. -/
theorem projections_real (m : (ℓ : Loc Cert.MixFwdIdeal.nD Cert.MixFwdIdeal.τ Cert.MixFwdIdeal.sig) → Buf (Elt Ideal) ℓ) (h : Cert.Pre_MixFwdIdeal_mix_finite m) (c : Dev Cert.MixFwdIdeal.nD) (i) :
    Norm.IsReal (Cert.MixFwdIdeal.Hand.arg2 m c i) := Norm.IsReal.of_abs (congrFun (h c).1 i)
theorem convolution_real (m : (ℓ : Loc Cert.MixFwdIdeal.nD Cert.MixFwdIdeal.τ Cert.MixFwdIdeal.sig) → Buf (Elt Ideal) ℓ) (h : Cert.Pre_MixFwdIdeal_mix_finite m) (c : Dev Cert.MixFwdIdeal.nD) (i) :
    Norm.IsReal (Cert.MixFwdIdeal.Hand.arg5 m c i) := Norm.IsReal.of_abs (congrFun (h c).2 i)

set_option maxHeartbeats 1000000 in
theorem value : Cert.algebraic_MixFwdIdeal_MixRefIdeal_pre_mix_finite := fun m ρ m' ρ' hf hag =>
  ⟨fun c => (Cert.MixFwdIdeal.Hand.dats m 0 c).arrAt 23 Cert.MixFwdIdeal.cfg0.N, fun c => (Cert.MixFwdIdeal.Hand.dats m 0 c).arrAt 24 Cert.MixFwdIdeal.cfg0.N, fun c => (Cert.MixFwdIdeal.Hand.dats m 0 c).arrAt 25 Cert.MixFwdIdeal.cfg0.N, fun c => (Cert.MixFwdIdeal.Hand.dats m 0 c).arrAt 26 Cert.MixFwdIdeal.cfg0.N, fun c => (Cert.MixFwdIdeal.Hand.dats m 0 c).arrAt 27 Cert.MixFwdIdeal.cfg0.N, fun c => (Cert.MixFwdIdeal.Hand.dats m 0 c).arrAt 28 Cert.MixFwdIdeal.cfg0.N, fun c => (Cert.MixFwdIdeal.Hand.dats m 0 c).arrAt 29 Cert.MixFwdIdeal.cfg0.N,
    (θ_run _ _ _).mono (fun _ h c => ⟨(h.1 c).1.1, (h.1 c).1.2.1, (h.1 c).1.2.2.1, (h.1 c).1.2.2.2.1, (h.1 c).1.2.2.2.2.1, (h.1 c).1.2.2.2.2.2.1, (h.1 c).1.2.2.2.2.2.2, (h.1 c).2⟩) (Cert.MixFwdIdeal.Hand.run m ρ),
    (θ_run _ _ _).mono (fun _ h c => by
      obtain ⟨h0, h1, h2, h3, h4, h5, h6, h7, h8, h9, h10, h11, h12, h13⟩ := hag c
      have e0 : StableHlo.launchContents m' c (Proc.tc.devRef Cert.MixRefIdeal.main_arg0) = Cert.MixFwdIdeal.Hand.arg0 m c := h0
      have e1 : StableHlo.launchContents m' c (Proc.tc.devRef Cert.MixRefIdeal.main_arg1) = Cert.MixFwdIdeal.Hand.arg1 m c := h1
      have e2 : StableHlo.launchContents m' c (Proc.tc.devRef Cert.MixRefIdeal.main_arg2) = Cert.MixFwdIdeal.Hand.arg2 m c := h2
      have e3 : StableHlo.launchContents m' c (Proc.tc.devRef Cert.MixRefIdeal.main_arg3) = Cert.MixFwdIdeal.Hand.arg3 m c := h3
      have e4 : StableHlo.launchContents m' c (Proc.tc.devRef Cert.MixRefIdeal.main_arg4) = Cert.MixFwdIdeal.Hand.arg4 m c := h4
      have e5 : StableHlo.launchContents m' c (Proc.tc.devRef Cert.MixRefIdeal.main_arg5) = Cert.MixFwdIdeal.Hand.arg5 m c := h5
      have e6 : StableHlo.launchContents m' c (Proc.tc.devRef Cert.MixRefIdeal.main_arg6) = Cert.MixFwdIdeal.Hand.arg6 m c := h6
      have e7 : StableHlo.launchContents m' c (Proc.tc.devRef Cert.MixRefIdeal.main_arg7) = Cert.MixFwdIdeal.Hand.arg7 m c := h7
      have e8 : StableHlo.launchContents m' c (Proc.tc.devRef Cert.MixRefIdeal.main_arg8) = Cert.MixFwdIdeal.Hand.arg8 m c := h8
      have e9 : StableHlo.launchContents m' c (Proc.tc.devRef Cert.MixRefIdeal.main_arg9) = Cert.MixFwdIdeal.Hand.arg9 m c := h9
      have e10 : StableHlo.launchContents m' c (Proc.tc.devRef Cert.MixRefIdeal.main_arg10) = Cert.MixFwdIdeal.Hand.arg10 m c := h10
      have e11 : StableHlo.launchContents m' c (Proc.tc.devRef Cert.MixRefIdeal.main_arg11) = Cert.MixFwdIdeal.Hand.arg11 m c := h11
      have e12 : StableHlo.launchContents m' c (Proc.tc.devRef Cert.MixRefIdeal.main_arg12) = Cert.MixFwdIdeal.Hand.arg12 m c := h12
      have e13 : StableHlo.launchContents m' c (Proc.tc.devRef Cert.MixRefIdeal.main_arg13) = Cert.MixFwdIdeal.Hand.arg13 m c := h13
      have hz := projections_real m hf c
      have hw := convolution_real m hf c
      refine ⟨((h c).1.trans (Cert.MixRefIdeal.Read.val_main_v78_eq _)).trans ?_, ((h c).2.1.trans (Cert.MixRefIdeal.Read.val_main_v128_eq _)).trans ?_, ((h c).2.2.1.trans (Cert.MixRefIdeal.Read.val_main_v129_eq _)).trans ?_, ((h c).2.2.2.1.trans (Cert.MixRefIdeal.Read.val_main_v130_eq _)).trans ?_, ((h c).2.2.2.2.1.trans (Cert.MixRefIdeal.Read.val_main_v131_eq _)).trans ?_, ((h c).2.2.2.2.2.1.trans (Cert.MixRefIdeal.Read.val_main_v132_eq _)).trans ?_, ((h c).2.2.2.2.2.2.1.trans (Cert.MixRefIdeal.Read.val_main_v133_eq _)).trans ?_, (h c).2.2.2.2.2.2.2⟩
      · rw [e0, e2, e3, e4, e5, e6, e7, e8]; exact (Cert.MixFwdIdeal.Hand.x1_eq m c hz hw).symm
      · rw [e0, e1, e2, e3, e4, e5, e6, e7, e8, e9, e10, e11, e12, e13]; exact (Cert.MixFwdIdeal.Hand.x2_eq m c hz hw).symm
      · rw [e0, e2, e3, e4, e5, e6, e7, e8, e9]; exact (Cert.MixFwdIdeal.Hand.xn_eq m c hz hw).symm
      · rw [e0, e2, e3, e4, e5, e6, e7, e8, e9, e11]; exact (Cert.MixFwdIdeal.Hand.query_eq m c hz hw).symm
      · rw [e0, e1, e2, e3, e4, e5, e6, e7, e8, e9, e10, e11, e12]; exact (Cert.MixFwdIdeal.Hand.att_eq m c hz hw).symm
      · rw [e2, e3, e4, e5, e6, e7]; exact (Cert.MixFwdIdeal.Hand.y_eq m c hz hw).symm
      · rw [e2, e3, e4]; exact (Cert.MixFwdIdeal.Hand.o_eq m c hz hw).symm) (Cert.MixRefIdeal.Value.run m' ρ')⟩

end Cert.Proof.Mix

end
-- ==== Proof.Scan.Plain.lean ====
module

public import proofs.«01_k».proof.Proof.Shared.Norm

/-! # The scan over chunks, in plain arithmetic

A chunk is 64 tokens in the order of the scan: queries, keys and running sums of log decays by head and lane, and values.
The state is kept by value lane and by head and key lane. -/

@[expose] public section

set_option maxRecDepth 16384

noncomputable section

open Idealize.ShloMosaic Idealize.ShloMosaic.TcCoe Idealize.SL.Sem

namespace Scan
open Norm

/-- Lane `d` of head `h` among the key lanes, lane `e` among the value lanes; the head of a lane. -/
abbrev hl (h : Fin 4) (d : Fin 64) : Fin 256 := ⟨h.val * 64 + d.val, by omega⟩
abbrev vl (h : Fin 4) (e : Fin 128) : Fin 512 := ⟨h.val * 128 + e.val, by omega⟩
abbrev hd (c : Fin 256) : Fin 4 := ⟨c.val / 64, by omega⟩
abbrev vh (l : Fin 512) : Fin 4 := ⟨l.val / 128, by omega⟩
abbrev ve (l : Fin 512) : Fin 128 := ⟨l.val % 128, by omega⟩

theorem hd_hl (h : Fin 4) (d : Fin 64) : hd (hl h d) = h := Fin.ext (by show (h.val * 64 + d.val) / 64 = h.val; omega)
theorem vl_ve (l : Fin 512) : vl (vh l) (ve l) = l := Fin.ext (by show l.val / 128 * 128 + l.val % 128 = l.val; omega)

/-- A sum over all lanes of what lives on one head. -/
theorem sum_head (f : Fin 256 → EReal) (h : Fin 4) (hf : ∀ c, hd c ≠ h → f c = 0) : ∑ c, f c = ∑ d, f (hl h d) := by
  have e : ∑ c : Fin 256, f c = ∑ g : Fin 4, ∑ d : Fin 64, f (hl g d) := by
    rw [← Finset.sum_product', Finset.univ_product_univ]
    refine (Fintype.sum_equiv (finProdFinEquiv (m := 4) (n := 64)) _ _ fun p => ?_).symm
    refine congrArg f (Fin.ext ?_)
    show p.1.val * 64 + p.2.val = p.2.val + 64 * p.1.val
    omega
  rw [e]
  refine Finset.sum_eq_single h (fun g _ hg => Finset.sum_eq_zero fun d _ => hf _ ?_) (fun hh => absurd (Finset.mem_univ h) hh)
  rw [hd_hl]; exact hg

/-- A chunk: queries, keys, running sums of the log decays, values. -/
structure Chunk where
  q : Fin 64 → Fin 256 → EReal
  k : Fin 64 → Fin 256 → EReal
  b : Fin 64 → Fin 256 → EReal
  v : Fin 64 → Fin 512 → EReal

/-- States, by value lane and key lane. -/
abbrev St : Type := Fin 128 → Fin 256 → EReal

namespace Chunk
variable (C : Chunk) (st : St)

/-- The decayed queries, the keys by the inverse decay, the decay of the whole chunk. -/
def qd (i : Fin 64) (c : Fin 256) : EReal := C.q i c * Ideal.exp (C.b i c)
def kd (i : Fin 64) (c : Fin 256) : EReal := C.k i c * Ideal.exp (-(C.b i c))
def g (c : Fin 256) : EReal := Ideal.exp (C.b 63 c)
/-- What a chunk adds to the state; the state after it. -/
def u : St := fun e c => ∑ i, C.k i c * Ideal.exp (C.b 63 c - C.b i c) * C.v i (vl (hd c) e)
def next : St := fun e c => st e c * C.g c + C.u e c
/-- The scores of a token with the tokens up to it; the outputs. -/
def a (h : Fin 4) (i s : Fin 64) : EReal := if s ≤ i then ∑ d, C.qd i (hl h d) * C.kd s (hl h d) else 0
def o (i : Fin 64) (l : Fin 512) : EReal :=
  ∑ s, C.a (vh l) i s * C.v s l + ∑ d, C.qd i (hl (vh l) d) * st (ve l) (hl (vh l) d)

/-- The kernel decays a key twice. -/
theorem kd_g (hb : ∀ i c, IsReal (C.b i c)) (i : Fin 64) (c : Fin 256) : C.kd i c * C.g c = C.k i c * Ideal.exp (C.b 63 c - C.b i c) := by
  obtain ⟨x, hx⟩ := hb i c
  obtain ⟨y, hy⟩ := hb 63 c
  unfold kd g
  rw [hx, hy, mul_assoc]
  congr 1
  show Ideal.exp (-(x : EReal)) * Ideal.exp (y : EReal) = Ideal.exp ((y : EReal) - (x : EReal))
  rw [← EReal.coe_neg, ← EReal.coe_sub, Ideal.exp_coe, Ideal.exp_coe, Ideal.exp_coe, ← EReal.coe_mul, ← Real.exp_add]
  congr 2; ring
end Chunk

/-- A sequence in the order of the scan, its log decays not yet summed. -/
structure Seq where
  q : Fin 8192 → Fin 256 → EReal
  k : Fin 8192 → Fin 256 → EReal
  la : Fin 8192 → Fin 256 → EReal
  v : Fin 8192 → Fin 512 → EReal

abbrev tok (n : Fin 128) (i : Fin 64) : Fin 8192 := ⟨n.val * 64 + i.val, by omega⟩

def Seq.chunk (s : Seq) (n : Fin 128) : Chunk where
  q i := s.q (tok n i)
  k i := s.k (tok n i)
  b i c := ∑ j : Fin 64, if j ≤ i then s.la (tok n j) c else 0
  v i := s.v (tok n i)

/-- The states before the chunks. -/
def Seq.st (s : Seq) : ℕ → St
  | 0 => fun _ _ => 0
  | n + 1 => if h : n < 128 then (s.chunk ⟨n, h⟩).next (s.st n) else s.st n

theorem Seq.st_succ (s : Seq) (n : Fin 128) : s.st (n.val + 1) = (s.chunk n).next (s.st n.val) := dif_pos n.isLt

theorem Seq.chunk_real (s : Seq) (h : ∀ t c, IsReal (s.la t c)) (n : Fin 128) (i : Fin 64) (c : Fin 256) : IsReal ((s.chunk n).b i c) := by
  show IsReal (∑ j : Fin 64, if j ≤ i then s.la (tok n j) c else 0)
  refine IsReal.sum _ fun j => ?_
  show IsReal (if j ≤ i then s.la (tok n j) c else 0)
  split
  · exact h _ _
  · exact ⟨0, rfl⟩

end Scan

end
-- ==== Proof.Scan.Layer.lean ====
module

public import proofs.«01_k».proof.Proof.Scan.Plain

/-! # The layer's two sequences, and the states in closed form -/

@[expose] public section

set_option maxRecDepth 16384

noncomputable section

open Idealize.ShloMosaic Idealize.ShloMosaic.TcCoe Idealize.SL.Sem

namespace Scan
open Norm

/-- The log decay of a gate's row: a sixteenth of the logistic function's logarithm. -/
def lam (y : EReal) : EReal :=
  Ideal.div (-(max (-y) 0 + Ideal.log1p (Ideal.exp (-(FloatOps.absf (F := Ideal) (φ := .f32) (-y)))))) (Ideal.ofBits .f32 0x41800000#32)

/-- Direction 0 runs through the tokens upwards, direction 1 downwards. -/
abbrev dir (d : Fin 2) (t : Fin 8192) : Fin 8192 := if d = 0 then t else t.rev

/-- The sequence of one direction, from the layer's rows, the gate's weights and its bias. -/
def seqOf (z : Fin 8192 → Fin 3104 → EReal) (w : Fin 16 → Fin 256 → EReal) (b : Fin 256 → EReal) (d : Fin 2) : Seq where
  q t c := z (dir d t) ⟨1536 + c.val, by omega⟩ * Ideal.ofBits .f32 0x3E000000#32
  k t c := z (dir d t) ⟨1792 + c.val, by omega⟩
  la t c := lam (∑ x : Fin 16, z (dir d t) ⟨3072 + d.val * 16 + x.val, by omega⟩ * w x c + b c)
  v t l := z (dir d t) ⟨2048 + l.val, by omega⟩

/-- A sequence's outputs. -/
def Seq.out (s : Seq) (t : Fin 8192) (l : Fin 512) : EReal :=
  (s.chunk ⟨t.val / 64, by omega⟩).o (s.st (t.val / 64)) ⟨t.val % 64, by omega⟩ l

theorem mul_sum_left {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem exp_add' {x y : EReal} (hx : IsReal x) (hy : IsReal y) : Ideal.exp x * Ideal.exp y = Ideal.exp (x + y) := by
  obtain ⟨x, rfl⟩ := hx
  obtain ⟨y, rfl⟩ := hy
  rw [← EReal.coe_add, Ideal.exp_coe, Ideal.exp_coe, Ideal.exp_coe, ← EReal.coe_mul, ← Real.exp_add]

/-- What is left in the state before chunk `n` of what chunk `j` added. -/
def Seq.fade (s : Seq) (n : ℕ) (j : Fin 128) (c : Fin 256) : EReal :=
  if j.val < n then Ideal.exp (∑ i : Fin 128, (s.chunk i).b 63 c * (if j.val < i.val ∧ i.val < n then 1 else 0)) else 0

theorem Seq.fade_succ (s : Seq) (h : ∀ t c, IsReal (s.la t c)) (n : Fin 128) (j : Fin 128) (c : Fin 256) :
    s.fade (n.val + 1) j c = s.fade n.val j c * (s.chunk n).g c + if j = n then 1 else 0 := by
  unfold Seq.fade
  have hr : ∀ m : ℕ, IsReal (∑ i : Fin 128, (s.chunk i).b 63 c * (if j.val < i.val ∧ i.val < m then 1 else 0)) := fun m =>
    IsReal.sum _ fun i => IsReal.mul (s.chunk_real h i 63 c) (by
      show IsReal (if j.val < i.val ∧ i.val < m then 1 else 0)
      split
      · exact ⟨1, rfl⟩
      · exact ⟨0, rfl⟩)
  rcases lt_trichotomy j.val n.val with hj | hj | hj
  · rw [if_pos (by omega), if_pos hj, if_neg (by intro e; rw [e] at hj; omega), add_zero]
    show _ = Ideal.exp _ * Ideal.exp ((s.chunk n).b 63 c)
    rw [exp_add' (hr _) (s.chunk_real h n 63 c)]
    refine congrArg Ideal.exp ?_
    have e : (s.chunk n).b 63 c = ∑ i : Fin 128, (s.chunk i).b 63 c * (if i = n then 1 else 0) := by
      simp only [mul_ite, mul_one, mul_zero, Finset.sum_ite_eq', Finset.mem_univ, if_true]
    rw [e, ← Finset.sum_add_distrib]
    refine Finset.sum_congr rfl fun i _ => ?_
    by_cases hi : i = n
    · subst hi; rw [if_pos ⟨hj, by omega⟩, if_neg (by omega), if_pos rfl, mul_zero, zero_add]
    · have : i.val ≠ n.val := fun e => hi (Fin.ext e)
      rw [if_neg hi, mul_zero, add_zero]
      exact congrArg _ (if_congr (by omega) rfl rfl)
  · have e : j = n := Fin.ext hj
    subst e
    rw [if_pos (by omega), if_neg (by omega), if_pos rfl, zero_mul, zero_add]
    rw [Finset.sum_eq_zero fun i _ => by rw [if_neg (by omega), mul_zero]]
    exact (Ideal.exp_coe 0).trans (by rw [Real.exp_zero]; rfl)
  · rw [if_neg (by omega), if_neg (by omega), if_neg (by intro e; rw [e] at hj; omega), zero_mul, zero_add]

/-- The state before a chunk: what the chunks before it added, each faded. -/
theorem Seq.st_eq (s : Seq) (h : ∀ t c, IsReal (s.la t c)) (n : ℕ) (hn : n ≤ 128) (e : Fin 128) (c : Fin 256) :
    s.st n e c = ∑ j : Fin 128, (s.chunk j).u e c * s.fade n j c := by
  induction n with
  | zero =>
    refine (Finset.sum_eq_zero fun j _ => ?_).symm
    unfold Seq.fade
    rw [if_neg (by omega), mul_zero]
  | succ n ih =>
    have hs := congrFun (congrFun (s.st_succ ⟨n, by omega⟩) e) c
    refine hs.trans ?_
    show s.st n e c * (s.chunk ⟨n, by omega⟩).g c + (s.chunk ⟨n, by omega⟩).u e c = _
    rw [ih (by omega)]
    obtain ⟨r, hr⟩ := s.chunk_real h ⟨n, by omega⟩ 63 c
    have hg : (s.chunk ⟨n, by omega⟩).g c = ((Real.exp r : ℝ) : EReal) := by
      show Ideal.exp ((s.chunk ⟨n, by omega⟩).b 63 c) = _
      rw [hr, Ideal.exp_coe]
    have e : ∀ j : Fin 128, (s.chunk j).u e c * s.fade (n + 1) j c
        = (s.chunk j).u e c * s.fade n j c * (s.chunk ⟨n, by omega⟩).g c + (s.chunk j).u e c * if j = ⟨n, by omega⟩ then 1 else 0 := by
      intro j
      rw [s.fade_succ h ⟨n, by omega⟩ j c]
      by_cases hj : j = ⟨n, by omega⟩
      · have z : s.fade n j c = 0 := if_neg (by rw [hj]; simp)
        rw [if_pos hj, z]; simp
      · rw [if_neg hj, add_zero, mul_zero, add_zero, mul_assoc]
    rw [Finset.sum_congr rfl fun j _ => e j, Finset.sum_add_distrib, hg, ← mul_sum_left _ _ _ (Real.exp_pos r).le]
    simp only [mul_ite, mul_one, mul_zero, Finset.sum_ite_eq', Finset.mem_univ, if_true]

end Scan

end
-- ==== Proof.Scan.RefRows.lean ====
module

public import Idealize.ShloMosaic.Lib.KernelVsHost
public import proofs.«01_k».proof.Proof.Scan.Layer
public import proofs.«01_k».proof.Proof.Gen.GlaRefIdeal.Read

/-! # The reference's arrays are the two sequences' -/

@[expose] public section

set_option maxRecDepth 16384

noncomputable section

open Idealize.ShloMosaic Idealize.ShloMosaic.TcCoe Idealize.SL.Sem

namespace Cert.GlaRefIdeal.Read
open Norm Scan

variable (x0 : FVec Ideal S8192x3104 .f32) (x1 : FVec Ideal S16x256 .f32) (x2 : FVec Ideal S1x256 .f32) (x3 : FVec Ideal S16x256 .f32) (x4 : FVec Ideal S1x256 .f32)

/-- The sequence of one direction. -/
def sq (d : Fin 2) : Seq := seqOf (fun t c => x0 (ix2 t c)) (fun x c => (if d = 0 then x1 else x3) (ix2 x c)) (fun c => (if d = 0 then x2 else x4) (ix2 0 c)) d

/-! ## The projections and the gates -/

theorem v7_at (t : Fin 8192) (h : Fin 4) (e : Fin 64) : val_main_v7 (F := Ideal) x0 (ix3 t h e) = x0 (ix2 t ⟨1536 + (hl h e).val, by omega⟩) := by
  pointwise [val_main_v7, val_main_v1]
theorem v10_at (t : Fin 8192) (h : Fin 4) (e : Fin 64) : val_main_v10 (F := Ideal) x0 (ix3 t h e) = x0 (ix2 t ⟨1792 + (hl h e).val, by omega⟩) := by
  pointwise [val_main_v10, val_main_v2]
theorem v11_at (t : Fin 8192) (h : Fin 4) (e : Fin 128) : val_main_v11 (F := Ideal) x0 (ix3 t h e) = x0 (ix2 t ⟨2048 + (vl h e).val, by omega⟩) := by
  pointwise [val_main_v11, val_main_v3]

theorem v14_at (t : Fin 8192) (c : Fin 256) : val_main_v14 (F := Ideal) x0 x1 x2 (ix2 t c) = ∑ x : Fin 16, x0 (ix2 t ⟨3072 + x.val, by omega⟩) * x1 (ix2 x c) + x2 (ix2 0 c) := by
  pointwise [val_main_v14, val_main_v13, val_main_v12, val_main_v5]
theorem v17_at (t : Fin 8192) (c : Fin 256) : val_main_v17 (F := Ideal) x0 x1 x2 (ix2 t c) = lam (val_main_v14 (F := Ideal) x0 x1 x2 (ix2 t c)) := by
  pointwise [val_main_v17, val_main_v16, val_main_cst_0, val_main_v15, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (fun h => h rfl)]
  rfl

theorem v21_at (t : Fin 8192) (c : Fin 256) : val_main_v21 (F := Ideal) x0 x3 x4 (ix2 t c) = ∑ x : Fin 16, x0 (ix2 t ⟨3088 + x.val, by omega⟩) * x3 (ix2 x c) + x4 (ix2 0 c) := by
  pointwise [val_main_v21, val_main_v20, val_main_v19, val_main_v6]
theorem v24_at (t : Fin 8192) (c : Fin 256) : val_main_v24 (F := Ideal) x0 x3 x4 (ix2 t c) = lam (val_main_v21 (F := Ideal) x0 x3 x4 (ix2 t c)) := by
  pointwise [val_main_v24, val_main_v23, val_main_cst_1, val_main_v22, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  rw [if_neg (fun h => h rfl)]
  rfl

theorem v18_at (t : Fin 8192) (h : Fin 4) (e : Fin 64) : val_main_v18 (F := Ideal) x0 x1 x2 (ix3 t h e) = val_main_v17 (F := Ideal) x0 x1 x2 (ix2 t (hl h e)) := by
  pointwise [val_main_v18]
theorem v25_at (t : Fin 8192) (h : Fin 4) (e : Fin 64) : val_main_v25 (F := Ideal) x0 x3 x4 (ix3 t h e) = val_main_v24 (F := Ideal) x0 x3 x4 (ix2 t (hl h e)) := by
  pointwise [val_main_v25]

/-! ## The two directions above one another, cut into chunks -/
theorem v29_at (d : Fin 2) (t : Fin 8192) (h : Fin 4) (e : Fin 64) : val_main_v29 (F := Ideal) x0 (ix4 d t h e) = (sq x0 x1 x2 x3 x4 d).q t (hl h e) := by
  pointwise [val_main_v29, val_main_v27, val_main_v28, val_main_v26, val_main_v9, val_main_v8, val_main_cst]
  obtain rfl | rfl : d = 0 ∨ d = 1 := by omega
  · refine (dif_pos (by decide)).trans ?_
    exact congrArg (· * _) (v7_at x0 t h e)
  · refine (dif_neg (by decide)).trans ?_
    exact congrArg (· * _) (v7_at x0 t.rev h e)
theorem v33_at (d : Fin 2) (t : Fin 8192) (h : Fin 4) (e : Fin 64) : val_main_v33 (F := Ideal) x0 (ix4 d t h e) = (sq x0 x1 x2 x3 x4 d).k t (hl h e) := by
  pointwise [val_main_v33, val_main_v31, val_main_v32, val_main_v30]
  obtain rfl | rfl : d = 0 ∨ d = 1 := by omega
  · refine (dif_pos (by decide)).trans ?_
    exact v10_at x0 t h e
  · refine (dif_neg (by decide)).trans ?_
    exact v10_at x0 t.rev h e
theorem v37_at (d : Fin 2) (t : Fin 8192) (h : Fin 4) (e : Fin 128) : val_main_v37 (F := Ideal) x0 (ix4 d t h e) = (sq x0 x1 x2 x3 x4 d).v t (vl h e) := by
  pointwise [val_main_v37, val_main_v35, val_main_v36, val_main_v34]
  obtain rfl | rfl : d = 0 ∨ d = 1 := by omega
  · refine (dif_pos (by decide)).trans ?_
    exact v11_at x0 t h e
  · refine (dif_neg (by decide)).trans ?_
    exact v11_at x0 t.rev h e
theorem v41_at (d : Fin 2) (t : Fin 8192) (h : Fin 4) (e : Fin 64) : val_main_v41 (F := Ideal) x0 x1 x2 x3 x4 (ix4 d t h e) = (sq x0 x1 x2 x3 x4 d).la t (hl h e) := by
  pointwise [val_main_v41, val_main_v39, val_main_v40, val_main_v38]
  obtain rfl | rfl : d = 0 ∨ d = 1 := by omega
  · refine (dif_pos (by decide)).trans ?_
    exact (v18_at x0 x1 x2 t h e).trans ((v17_at x0 x1 x2 t _).trans (congrArg lam (v14_at x0 x1 x2 t _)))
  · refine (dif_neg (by decide)).trans ?_
    exact (v25_at x0 x3 x4 t.rev h e).trans ((v24_at x0 x3 x4 t.rev _).trans (congrArg lam (v21_at x0 x3 x4 t.rev _)))
theorem v42_idx (d : Fin 2) (n : Fin 128) (i : Fin 64) (h : Fin 4) (e : Fin 64) : idx_main_v42 (ix5 d n i h e) = ix4 d (tok n i) h e := by
  funext a
  refine Fin.ext ?_
  fin_cases a
  · show ((((d.val * 128 + n.val) * 64 + i.val) * 4 + h.val) * 64 + e.val) / 2097152 = d.val; omega
  · show ((((d.val * 128 + n.val) * 64 + i.val) * 4 + h.val) * 64 + e.val) / 256 % 8192 = n.val * 64 + i.val; omega
  · show ((((d.val * 128 + n.val) * 64 + i.val) * 4 + h.val) * 64 + e.val) / 64 % 4 = h.val; omega
  · show ((((d.val * 128 + n.val) * 64 + i.val) * 4 + h.val) * 64 + e.val) % 64 = e.val; omega
theorem v43_at (d : Fin 2) (h : Fin 4) (n : Fin 128) (i : Fin 64) (e : Fin 64) : val_main_v43 (F := Ideal) x0 (ix5 d h n i e) = (sq x0 x1 x2 x3 x4 d).q (tok n i) (hl h e) := by
  rw [val_main_v43_apply, val_main_v42_apply, ← v29_at x0 x1 x2 x3 x4, ← v42_idx d n i h e]
  exact congrArg (fun y => val_main_v29 (F := Ideal) x0 (idx_main_v42 y)) (by blk_ext)
theorem v44_idx (d : Fin 2) (n : Fin 128) (i : Fin 64) (h : Fin 4) (e : Fin 64) : idx_main_v44 (ix5 d n i h e) = ix4 d (tok n i) h e := by
  funext a
  refine Fin.ext ?_
  fin_cases a
  · show ((((d.val * 128 + n.val) * 64 + i.val) * 4 + h.val) * 64 + e.val) / 2097152 = d.val; omega
  · show ((((d.val * 128 + n.val) * 64 + i.val) * 4 + h.val) * 64 + e.val) / 256 % 8192 = n.val * 64 + i.val; omega
  · show ((((d.val * 128 + n.val) * 64 + i.val) * 4 + h.val) * 64 + e.val) / 64 % 4 = h.val; omega
  · show ((((d.val * 128 + n.val) * 64 + i.val) * 4 + h.val) * 64 + e.val) % 64 = e.val; omega
theorem v45_at (d : Fin 2) (h : Fin 4) (n : Fin 128) (i : Fin 64) (e : Fin 64) : val_main_v45 (F := Ideal) x0 (ix5 d h n i e) = (sq x0 x1 x2 x3 x4 d).k (tok n i) (hl h e) := by
  rw [val_main_v45_apply, val_main_v44_apply, ← v33_at x0 x1 x2 x3 x4, ← v44_idx d n i h e]
  exact congrArg (fun y => val_main_v33 (F := Ideal) x0 (idx_main_v44 y)) (by blk_ext)
theorem v46_idx (d : Fin 2) (n : Fin 128) (i : Fin 64) (h : Fin 4) (e : Fin 128) : idx_main_v46 (ix5 d n i h e) = ix4 d (tok n i) h e := by
  funext a
  refine Fin.ext ?_
  fin_cases a
  · show ((((d.val * 128 + n.val) * 64 + i.val) * 4 + h.val) * 128 + e.val) / 4194304 = d.val; omega
  · show ((((d.val * 128 + n.val) * 64 + i.val) * 4 + h.val) * 128 + e.val) / 512 % 8192 = n.val * 64 + i.val; omega
  · show ((((d.val * 128 + n.val) * 64 + i.val) * 4 + h.val) * 128 + e.val) / 128 % 4 = h.val; omega
  · show ((((d.val * 128 + n.val) * 64 + i.val) * 4 + h.val) * 128 + e.val) % 128 = e.val; omega
theorem v47_at (d : Fin 2) (h : Fin 4) (n : Fin 128) (i : Fin 64) (e : Fin 128) : val_main_v47 (F := Ideal) x0 (ix5 d h n i e) = (sq x0 x1 x2 x3 x4 d).v (tok n i) (vl h e) := by
  rw [val_main_v47_apply, val_main_v46_apply, ← v37_at x0 x1 x2 x3 x4, ← v46_idx d n i h e]
  exact congrArg (fun y => val_main_v37 (F := Ideal) x0 (idx_main_v46 y)) (by blk_ext)
theorem v48_idx (d : Fin 2) (n : Fin 128) (i : Fin 64) (h : Fin 4) (e : Fin 64) : idx_main_v48 (ix5 d n i h e) = ix4 d (tok n i) h e := by
  funext a
  refine Fin.ext ?_
  fin_cases a
  · show ((((d.val * 128 + n.val) * 64 + i.val) * 4 + h.val) * 64 + e.val) / 2097152 = d.val; omega
  · show ((((d.val * 128 + n.val) * 64 + i.val) * 4 + h.val) * 64 + e.val) / 256 % 8192 = n.val * 64 + i.val; omega
  · show ((((d.val * 128 + n.val) * 64 + i.val) * 4 + h.val) * 64 + e.val) / 64 % 4 = h.val; omega
  · show ((((d.val * 128 + n.val) * 64 + i.val) * 4 + h.val) * 64 + e.val) % 64 = e.val; omega
theorem v49_at (d : Fin 2) (h : Fin 4) (n : Fin 128) (i : Fin 64) (e : Fin 64) : val_main_v49 (F := Ideal) x0 x1 x2 x3 x4 (ix5 d h n i e) = (sq x0 x1 x2 x3 x4 d).la (tok n i) (hl h e) := by
  rw [val_main_v49_apply, val_main_v48_apply, ← v41_at x0 x1 x2 x3 x4, ← v48_idx d n i h e]
  exact congrArg (fun y => val_main_v41 (F := Ideal) x0 x1 x2 x3 x4 (idx_main_v48 y)) (by blk_ext)

end Cert.GlaRefIdeal.Read

end
-- ==== Proof.Scan.RefScan.lean ====
module

public import proofs.«01_k».proof.Proof.Scan.RefRows
public import Idealize.ShloMosaic.Lib.WordCmp

/-! # The reference's chunks, its states and its results -/

@[expose] public section

set_option maxRecDepth 16384

noncomputable section

open Idealize.ShloMosaic Idealize.ShloMosaic.TcCoe Idealize.SL.Sem

namespace Cert.GlaRefIdeal.Read
open Norm Scan

/-! ## Masks -/

theorem toInt_small (a : ℕ) (ha : a < 512) : (BitVec.ofNat 32 a).toInt = a := by
  rw [BitVec.toInt_eq_toNat_cond, BitVec.toNat_ofNat, Nat.mod_eq_of_lt (by omega), if_pos (by omega)]
theorem bit_word (p : Prop) [Decidable p] : FloatOps.uitofp (F := Ideal) .f32 (BitVec.ofBool (decide p)) = if p then (1 : EReal) else 0 := by
  by_cases h : p
  · rw [if_pos h, decide_eq_true h]
    show ((((BitVec.ofBool true).toNat : ℕ) : ℝ) : EReal) = 1
    simp
  · rw [if_neg h, decide_eq_false h]
    show ((((BitVec.ofBool false).toNat : ℕ) : ℝ) : EReal) = 0
    simp
theorem sel_bit (p : Prop) [Decidable p] (x y : EReal) : Scalar.select (BitVec.ofBool (decide p)) x y = if p then x else y := by
  by_cases h : p
  · rw [if_pos h, decide_eq_true h]; rfl
  · rw [if_neg h, decide_eq_false h]; rfl

theorem v55_at (i s : Fin 64) : val_main_v55 (F := Ideal) (ix2 i s) = BitVec.ofBool (decide (s ≤ i)) := by
  pointwise [val_main_v55, val_main_v54, val_main_v53, val_main_v52, val_main_v51, val_main_v50]
  rw [WordCmp.cmpi_sge_eq, toInt_small _ (by omega), toInt_small _ (by omega)]
  exact congrArg BitVec.ofBool (decide_eq_decide.mpr (by rw [Fin.le_def]; exact_mod_cast Iff.rfl))
theorem v56_at (i s : Fin 64) : val_main_v56 (F := Ideal) (ix2 i s) = if s ≤ i then 1 else 0 := by
  rw [val_main_v56_apply, v55_at]; exact bit_word _
theorem v80_at (n j : Fin 128) : val_main_v80 (F := Ideal) (ix2 n j) = BitVec.ofBool (decide (j.val < n.val)) := by
  pointwise [val_main_v80, val_main_v79, val_main_v78, val_main_v77, val_main_v76, val_main_v75]
  rw [WordCmp.cmpi_sgt_eq, toInt_small _ (by omega), toInt_small _ (by omega)]
  exact congrArg BitVec.ofBool (decide_eq_decide.mpr (by exact_mod_cast Iff.rfl))
theorem v84_at (n j i : Fin 128) : val_main_v84 (F := Ideal) (ix3 n j i) = val_main_v80 (F := Ideal) (ix2 n i) := by
  pointwise [val_main_v84, val_main_v81]
theorem v85_at (n j i : Fin 128) : val_main_v85 (F := Ideal) (ix3 n j i) = val_main_v80 (F := Ideal) (ix2 i j) := by
  pointwise [val_main_v85, val_main_v83, val_main_v82]
theorem v87_at (n j i : Fin 128) : val_main_v87 (F := Ideal) (ix3 n j i) = if j.val < i.val ∧ i.val < n.val then 1 else 0 := by
  rw [val_main_v87_apply, val_main_v86_apply, v84_at, v85_at, v80_at, v80_at, WordCmp.andi_ofBool, ← Bool.decide_and]
  exact (bit_word _).trans (if_congr and_comm rfl rfl)

variable (x0 : FVec Ideal S8192x3104 .f32) (x1 : FVec Ideal S16x256 .f32) (x2 : FVec Ideal S1x256 .f32) (x3 : FVec Ideal S16x256 .f32) (x4 : FVec Ideal S1x256 .f32)
variable (d : Fin 2) (h : Fin 4) (n : Fin 128)

/-- Chunk `n` of a direction. -/
abbrev ch (d : Fin 2) (n : Fin 128) : Chunk := (sq x0 x1 x2 x3 x4 d).chunk n

/-! ## A chunk -/

theorem v58_at (i e : Fin 64) : val_main_v58 (F := Ideal) x0 x1 x2 x3 x4 (ix5 d h n i e) = (ch x0 x1 x2 x3 x4 d n).b i (hl h e) := by
  pointwise [val_main_v58, val_main_v57]
  show _ = ∑ j : Fin 64, if j ≤ i then (sq x0 x1 x2 x3 x4 d).la (tok n j) (hl h e) else 0
  refine Finset.sum_congr rfl fun j _ => ?_
  rw [v49_at, v56_at, mul_ite, mul_one, mul_zero]
theorem v60_at (i e : Fin 64) : val_main_v60 (F := Ideal) x0 x1 x2 x3 x4 (ix5 d h n i e) = (ch x0 x1 x2 x3 x4 d n).qd i (hl h e) := by
  rw [val_main_v60_apply, val_main_v59_apply, v58_at, v43_at x0 x1 x2 x3 x4]; rfl
theorem v63_at (i e : Fin 64) : val_main_v63 (F := Ideal) x0 x1 x2 x3 x4 (ix5 d h n i e) = (ch x0 x1 x2 x3 x4 d n).kd i (hl h e) := by
  rw [val_main_v63_apply, val_main_v62_apply, val_main_v61_apply, v58_at, v45_at x0 x1 x2 x3 x4]; rfl
theorem v64_at (i s : Fin 64) : val_main_v64 (F := Ideal) x0 x1 x2 x3 x4 (ix5 d h n i s) = ∑ e, (ch x0 x1 x2 x3 x4 d n).qd i (hl h e) * (ch x0 x1 x2 x3 x4 d n).kd s (hl h e) := by
  pointwise [val_main_v64]
  exact Finset.sum_congr rfl fun e _ => Ideal.mul_congr (v60_at x0 x1 x2 x3 x4 d h n i e) (v63_at x0 x1 x2 x3 x4 d h n s e)
theorem v65_at (i s : Fin 64) : val_main_v65 (F := Ideal) x0 x1 x2 x3 x4 (ix5 d h n i s) = (ch x0 x1 x2 x3 x4 d n).a h i s := by
  rw [val_main_v65_apply, val_main_call6_v1_apply, v64_at,
    show idx_main_call6_v1 (ix5 d h n i s) = ix2 i s by blk_ext, v55_at]
  refine (sel_bit _ _ _).trans (if_congr Iff.rfl rfl ?_)
  rw [val_main_call6_v2_apply, val_main_call6_v0_apply]
  exact Ideal.ofBits_zero_f32
theorem v66_at (i : Fin 64) (e : Fin 128) : val_main_v66 (F := Ideal) x0 x1 x2 x3 x4 (ix5 d h n i e) = ∑ s, (ch x0 x1 x2 x3 x4 d n).a h i s * (ch x0 x1 x2 x3 x4 d n).v s (vl h e) := by
  pointwise [val_main_v66]
  exact Finset.sum_congr rfl fun s _ => Ideal.mul_congr (v65_at x0 x1 x2 x3 x4 d h n i s) (v47_at x0 x1 x2 x3 x4 d h n s e)

theorem v68_idx (e : Fin 64) : idx_main_v68 (ix4 d h n e) = ix5 d h n (0 : Fin 1) e := by
  funext a
  refine Fin.ext ?_
  fin_cases a
  · show (((d.val * 4 + h.val) * 128 + n.val) * 64 + e.val) / 32768 = d.val; omega
  · show (((d.val * 4 + h.val) * 128 + n.val) * 64 + e.val) / 8192 % 4 = h.val; omega
  · show (((d.val * 4 + h.val) * 128 + n.val) * 64 + e.val) / 64 % 128 = n.val; omega
  · rfl
  · show (((d.val * 4 + h.val) * 128 + n.val) * 64 + e.val) % 64 = e.val; omega
theorem v68_at (e : Fin 64) : val_main_v68 (F := Ideal) x0 x1 x2 x3 x4 (ix4 d h n e) = (ch x0 x1 x2 x3 x4 d n).b 63 (hl h e) := by
  rw [val_main_v68_apply, v68_idx, val_main_v67_apply, ← v58_at]
  exact congrArg _ (by blk_ext)
theorem v70_at (i e : Fin 64) : val_main_v70 (F := Ideal) x0 x1 x2 x3 x4 (ix5 d h n i e) = (ch x0 x1 x2 x3 x4 d n).b 63 (hl h e) := by
  rw [val_main_v70_apply, val_main_v69_apply, ← v68_at]
  exact congrArg _ (by blk_ext)
theorem v73_at (i e : Fin 64) : val_main_v73 (F := Ideal) x0 x1 x2 x3 x4 (ix5 d h n i e)
    = (ch x0 x1 x2 x3 x4 d n).k i (hl h e) * Ideal.exp ((ch x0 x1 x2 x3 x4 d n).b 63 (hl h e) - (ch x0 x1 x2 x3 x4 d n).b i (hl h e)) := by
  rw [val_main_v73_apply, val_main_v72_apply, val_main_v71_apply, v70_at, v58_at, v45_at x0 x1 x2 x3 x4]; rfl
theorem v74_at (e : Fin 64) (v : Fin 128) : val_main_v74 (F := Ideal) x0 x1 x2 x3 x4 (ix5 d h n e v) = (ch x0 x1 x2 x3 x4 d n).u v (hl h e) := by
  pointwise [val_main_v74]
  unfold Chunk.u
  rw [hd_hl]
  exact Finset.sum_congr rfl fun i _ => Ideal.mul_congr (v73_at x0 x1 x2 x3 x4 d h n i e) (v47_at x0 x1 x2 x3 x4 d h n i v)

/-! ## The states -/

theorem v90_at (j : Fin 128) (e : Fin 64) : val_main_v90 (F := Ideal) x0 x1 x2 x3 x4 (ix5 d h n j e)
    = Ideal.exp (∑ i : Fin 128, (ch x0 x1 x2 x3 x4 d i).b 63 (hl h e) * (if j.val < i.val ∧ i.val < n.val then 1 else 0)) := by
  rw [val_main_v90_apply, val_main_v89_apply, val_main_v88_apply]
  refine congrArg Ideal.exp (Finset.sum_congr rfl fun i _ => Ideal.mul_congr ?_ ?_)
  · rw [← v68_at]; exact congrArg _ (by blk_ext)
  · rw [← v87_at]; exact congrArg _ (by blk_ext)
theorem v92_at (j : Fin 128) (e : Fin 64) : val_main_v92 (F := Ideal) x0 x1 x2 x3 x4 (ix5 d h n j e) = (sq x0 x1 x2 x3 x4 d).fade n.val j (hl h e) := by
  rw [val_main_v92_apply, val_main_call7_v1_apply, val_main_v91_apply, v90_at,
    show idx_main_v91 (idx_main_call7_v1 (ix5 d h n j e)) = ix2 n j by blk_ext, v80_at]
  refine (sel_bit _ _ _).trans (if_congr Iff.rfl rfl ?_)
  rw [val_main_call7_v2_apply, val_main_call7_v0_apply]
  exact Ideal.ofBits_zero_f32
variable (hla : ∀ d t c, IsReal ((sq x0 x1 x2 x3 x4 d).la t c))
include hla
theorem v94_at (e : Fin 64) (v : Fin 128) : val_main_v94 (F := Ideal) x0 x1 x2 x3 x4 (ix5 d h n e v) = (sq x0 x1 x2 x3 x4 d).st n.val v (hl h e) := by
  rw [val_main_v94_apply, val_main_v93_apply, Seq.st_eq _ (hla d) n.val n.isLt.le]
  refine Finset.sum_congr rfl fun j _ => Ideal.mul_congr ?_ ?_
  · rw [← v74_at]; exact congrArg _ (by blk_ext)
  · rw [← v92_at]; exact congrArg _ (by blk_ext)
theorem v96_at (i : Fin 64) (v : Fin 128) : val_main_v96 (F := Ideal) x0 x1 x2 x3 x4 (ix5 d h n i v) = (ch x0 x1 x2 x3 x4 d n).o ((sq x0 x1 x2 x3 x4 d).st n.val) i (vl h v) := by
  have e1 : vh (vl h v) = h := Fin.ext (by show (h.val * 128 + v.val) / 128 = h.val; omega)
  have e2 : ve (vl h v) = v := Fin.ext (by show (h.val * 128 + v.val) % 128 = v.val; omega)
  rw [val_main_v96_apply, v66_at, val_main_v95_apply]
  unfold Chunk.o
  rw [e1, e2]
  refine Ideal.add_congr rfl (Finset.sum_congr rfl fun e _ => Ideal.mul_congr ?_ ?_)
  · rw [← v60_at]; exact congrArg _ (by blk_ext)
  · rw [← v94_at _ _ _ _ _ _ _ _ hla]; exact congrArg _ (by blk_ext)

/-! ## The results -/

theorem out_eq (t : Fin 8192) (l : Fin 512) : (sq x0 x1 x2 x3 x4 d).out t l
    = val_main_v96 (F := Ideal) x0 x1 x2 x3 x4 (ix5 d (vh l) (⟨t.val / 64, by omega⟩ : Fin 128) (⟨t.val % 64, by omega⟩ : Fin 64) (ve l)) := by
  rw [v96_at _ _ _ _ _ _ _ _ hla, vl_ve]; rfl
theorem st_eq' (e : Fin 128) (c : Fin 256) : (sq x0 x1 x2 x3 x4 d).st n.val e c
    = val_main_v94 (F := Ideal) x0 x1 x2 x3 x4 (ix5 d (hd c) n (⟨c.val % 64, by omega⟩ : Fin 64) e) := by
  rw [v94_at _ _ _ _ _ _ _ _ hla]
  exact congrArg _ (Fin.ext (by show c.val = c.val / 64 * 64 + c.val % 64; omega))

theorem o_f_at (t : Fin 8192) (l : Fin 512) : val_main_v103 (F := Ideal) x0 x1 x2 x3 x4 (ix2 t l) = (sq x0 x1 x2 x3 x4 0).out t l := by
  rw [out_eq _ _ _ _ _ _ hla]
  pointwise [val_main_v103, val_main_v102, val_main_v101, val_main_v98, val_main_v97]
theorem sd_f_at (n e : Fin 128) (c : Fin 256) : val_main_v105 (F := Ideal) x0 x1 x2 x3 x4 (ix3 n e c) = (sq x0 x1 x2 x3 x4 0).st n.val e c := by
  rw [st_eq' _ _ _ _ _ _ _ hla]
  pointwise [val_main_v105, val_main_v104, val_main_v100, val_main_v99]
theorem o_r_at (t : Fin 8192) (l : Fin 512) : val_main_v109 (F := Ideal) x0 x1 x2 x3 x4 (ix2 t l) = (sq x0 x1 x2 x3 x4 1).out t.rev l := by
  rw [out_eq _ _ _ _ _ _ hla]
  pointwise [val_main_v109, val_main_v108, val_main_v107, val_main_v106, val_main_v98, val_main_v97]
  rfl
theorem sd_r_at (n e : Fin 128) (c : Fin 256) : val_main_v112 (F := Ideal) x0 x1 x2 x3 x4 (ix3 n e c) = (sq x0 x1 x2 x3 x4 1).st n.rev.val e c := by
  rw [st_eq' _ _ _ _ _ _ _ hla]
  pointwise [val_main_v112, val_main_v111, val_main_v110, val_main_v100, val_main_v99]
  rfl

end Cert.GlaRefIdeal.Read

end
-- ==== Proof.Scan.Block.lean ====
module

public import proofs.«01_k».proof.Proof.Gen.GlaFwdIdeal.Value
public import proofs.«01_k».proof.Proof.Shared.Hidden

/-! # The forward scan's block: one chunk as a function of its rows and of the state before it

The body runs two directions side by side, each over the block's eight chunks of 64 tokens. What a chunk writes and the
state it leaves are the same functions of its rows for every chunk and direction; only the mask and the triangle of ones
depend on the direction. -/

@[expose] public section

set_option maxRecDepth 65536

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen

/-- The log decays of a block, from its low-rank rows. -/
def logs (lr : FVec Ideal S512x128 .f32) (w : FVec Ideal S128x256 .bf16) (bias : FVec Ideal S1x256 .f32) : FVec Ideal S512x256 .f32 := k0_pay7 lr w bias

/-- A running sum of 128 rows: the triangle of ones times the rows' rounding, its rest and the rest of that. -/
def runSum (tri : FVec Ideal S128x128 .bf16) (x : FVec Ideal S128x256 .f32) : FVec Ideal S128x256 .f32 :=
  let p := truncf .bf16 x bitsLt_bf16_f32
  let y := subf x (extf .f32 p bitsLt_bf16_f32)
  let q := truncf .bf16 y bitsLt_bf16_f32
  let z := subf y (extf .f32 q bitsLt_bf16_f32)
  let dot := fun a => matmul dot_S128x128_S128x256_S128x256_1_0_0_1_n_n none tri a (constant S128x256 .f32 0x00000000#32)
  addf (addf (dot p) (dot q)) (dot (truncf .bf16 z bitsLt_bf16_f32))

/-- The sums of a whole block, 128 rows at a time. -/
def sums (tri : FVec Ideal S128x128 .bf16) (la : FVec Ideal S512x256 .f32) : FVec Ideal S512x256 .f32 :=
  concatenate S512x256 0 [⟨S128x256, runSum tri (extractStridedSlice S128x256 ![0, 0] la slices_S512x256_o0_0_S128x256)⟩,
    ⟨S128x256, runSum tri (extractStridedSlice S128x256 ![128, 0] la slices_S512x256_o128_0_S128x256)⟩,
    ⟨S128x256, runSum tri (extractStridedSlice S128x256 ![256, 0] la slices_S512x256_o256_0_S128x256)⟩,
    ⟨S128x256, runSum tri (extractStridedSlice S128x256 ![384, 0] la slices_S512x256_o384_0_S128x256)⟩]
    concatenates_S128x256_S128x256_S128x256_S128x256_S512x256_d0

/-- The scaled queries times the decay, the keys times its inverse. -/
def decayed (q b : FVec Ideal S512x256 .f32) : FVec Ideal S512x256 .f32 :=
  mulf (mulf q (broadcast S512x256 (Scalar.ofBits .f32 0x3E000000#32))) (exp b)
def grown (k b : FVec Ideal S512x256 .f32) : FVec Ideal S512x256 .f32 :=
  mulf k (exp (subf (broadcast S512x256 (Scalar.ofBits .f32 0x00000000#32)) b))

/-- The heads under one another: rows of head `h` keep the head's columns. -/
def lanes : IVec S64x256 32 := shrsi (iota .tc S64x256 32 [1] iota_S64x256_d1_w32) (broadcast S64x256 6#32)
def head (n : BitVec 32) (x : FVec Ideal S64x256 .f32) : FVec Ideal S64x256 .f32 :=
  select (cmpi .eq lanes (broadcast S64x256 n)) x (broadcast S64x256 (Scalar.ofBits .f32 0x00000000#32))
def stack (x : FVec Ideal S64x256 .f32) : FVec Ideal S256x256 .bf16 :=
  truncf .bf16 (concatenate S256x256 0 [⟨S64x256, head 0#32 x⟩, ⟨S64x256, head 1#32 x⟩, ⟨S64x256, head 2#32 x⟩, ⟨S64x256, head 3#32 x⟩]
    concatenates_S64x256_S64x256_S64x256_S64x256_S256x256_d0) bitsLt_bf16_f32
def vlanes : IVec S64x512 32 := shrsi (iota .tc S64x512 32 [1] iota_S64x512_d1_w32) (broadcast S64x512 7#32)
def vhead (n : BitVec 32) (x : FVec Ideal S64x512 .f32) : FVec Ideal S64x512 .f32 :=
  select (cmpi .eq vlanes (broadcast S64x512 n)) x (broadcast S64x512 (Scalar.ofBits .f32 0x00000000#32))
def vstack (x : FVec Ideal S64x512 .f32) : FVec Ideal S256x512 .bf16 :=
  truncf .bf16 (concatenate S256x512 0 [⟨S64x512, vhead 0#32 x⟩, ⟨S64x512, vhead 1#32 x⟩, ⟨S64x512, vhead 2#32 x⟩, ⟨S64x512, vhead 3#32 x⟩]
    concatenates_S64x512_S64x512_S64x512_S64x512_S256x512_d0) bitsLt_bf16_f32

/-- The masked scores of a chunk's tokens with each other, head by head. -/
def scores (mask : IVec S64x256 1) (q k : FVec Ideal S64x256 .f32) : FVec Ideal S64x256 .f32 :=
  select mask (matmul dot_S64x256_S256x256_S64x256_1_1_0_0_n_n none (truncf .bf16 q bitsLt_bf16_f32) (stack k) (constant S64x256 .f32 0x00000000#32))
    (broadcast S64x256 (Scalar.ofBits .f32 0x00000000#32))

/-- What the state before the chunk gives each token. -/
def carried (q : FVec Ideal S64x256 .f32) (st : FVec Ideal S128x256 .f32) : FVec Ideal S64x512 .f32 :=
  let d := matmul dot_S256x256_S128x256_S256x128_1_1_0_0_n_n none (stack q) (truncf .bf16 st bitsLt_bf16_f32) (constant S256x128 .f32 0x00000000#32)
  concatenate S64x512 1 [⟨S64x128, extractStridedSlice S64x128 ![0, 0] d slices_S256x128_o0_0_S64x128⟩,
    ⟨S64x128, extractStridedSlice S64x128 ![64, 0] d slices_S256x128_o64_0_S64x128⟩,
    ⟨S64x128, extractStridedSlice S64x128 ![128, 0] d slices_S256x128_o128_0_S64x128⟩,
    ⟨S64x128, extractStridedSlice S64x128 ![192, 0] d slices_S256x128_o192_0_S64x128⟩]
    concatenates_S64x128_S64x128_S64x128_S64x128_S64x512_d1

/-- A chunk's output. -/
def chunkOut (mask : IVec S64x256 1) (q k : FVec Ideal S64x256 .f32) (v : FVec Ideal S64x512 .f32) (st : FVec Ideal S128x256 .f32) : FVec Ideal S64x512 .f32 :=
  addf (matmul dot_S64x256_S256x512_S64x512_1_0_0_1_n_n none (truncf .bf16 (scores mask q k) bitsLt_bf16_f32) (vstack v) (constant S64x512 .f32 0x00000000#32))
    (carried q st)

/-- The state a chunk leaves: the decayed state and the outer products of its values and keys, head by head. -/
def slanes : IVec S128x256 32 := shrsi (iota .tc S128x256 32 [1] iota_S128x256_d1_w32) (broadcast S128x256 6#32)
def shead (n : BitVec 32) (x : FVec Ideal S128x256 .f32) : FVec Ideal S128x256 .f32 :=
  select (cmpi .eq slanes (broadcast S128x256 n)) x (broadcast S128x256 (Scalar.ofBits .f32 0x00000000#32))
def chunkNext (k : FVec Ideal S64x256 .f32) (v : FVec Ideal S64x512 .f32) (g : FVec Ideal S1x256 .f32) (st : FVec Ideal S128x256 .f32) : FVec Ideal S128x256 .f32 :=
  let d := matmul dot_S64x512_S64x256_S512x256_0_0_1_1_n_n none (truncf .bf16 v bitsLt_bf16_f32)
    (truncf .bf16 (mulf k (broadcastTo S64x256 g broadcasts_S1x256_S64x256)) bitsLt_bf16_f32) (constant S512x256 .f32 0x00000000#32)
  addf (mulf st (broadcastTo S128x256 g broadcasts_S1x256_S128x256))
    (addf (addf (addf (shead 0#32 (extractStridedSlice S128x256 ![0, 0] d slices_S512x256_o0_0_S128x256))
      (shead 1#32 (extractStridedSlice S128x256 ![128, 0] d slices_S512x256_o128_0_S128x256)))
      (shead 2#32 (extractStridedSlice S128x256 ![256, 0] d slices_S512x256_o256_0_S128x256)))
      (shead 3#32 (extractStridedSlice S128x256 ![384, 0] d slices_S512x256_o384_0_S128x256)))

/-- A block in one direction: its decayed queries, its keys, its values and its sums. -/
structure Side where
  q : FVec Ideal S512x256 .f32
  k : FVec Ideal S512x256 .f32
  v : FVec Ideal S512x512 .f32
  b : FVec Ideal S512x256 .f32

/-- The chunk of rows from `o`, and the row `e` whose sum is the chunk's total. -/
structure At (o e : ℕ) : Prop where
  rows : S512x256.Slices ![o, 0] S64x256
  vals : S512x512.Slices ![o, 0] S64x512
  inb : ∀ a, (![e, 0] : Fin 2 → ℕ) a + S1x256.size a ≤ S512x256.size a

/-- The decay of a whole chunk; the chunk's output; the state after it. -/
def Side.g (s : Side) {o e : ℕ} (h : At o e) : FVec Ideal S1x256 .f32 :=
  exp (View.ld (Val := Elt Ideal) (e' := .f32) s.b (Rect.unit (s := S512x256) ![e, 0] S1x256.size h.inb))
def Side.out (s : Side) (mask : IVec S64x256 1) {o e : ℕ} (h : At o e) (st : FVec Ideal S128x256 .f32) : FVec Ideal S64x512 .f32 :=
  chunkOut mask (extractStridedSlice S64x256 ![o, 0] s.q h.rows) (extractStridedSlice S64x256 ![o, 0] s.k h.rows)
    (extractStridedSlice S64x512 ![o, 0] s.v h.vals) st
def Side.next (s : Side) {o e : ℕ} (h : At o e) (st : FVec Ideal S128x256 .f32) : FVec Ideal S128x256 .f32 :=
  chunkNext (extractStridedSlice S64x256 ![o, 0] s.k h.rows) (extractStridedSlice S64x512 ![o, 0] s.v h.vals) (s.g h) st

/-- The two directions of a block. -/
def triF : FVec Ideal S128x128 .bf16 := k0_pay9 k0_pay8 (Scalar.ofBits .f32 0x3F800000#32) (Scalar.ofBits .f32 0x00000000#32)
def triR : FVec Ideal S128x128 .bf16 := k0_pay29
def sideOf (tri : FVec Ideal S128x128 .bf16) (q k : FVec Ideal S512x256 .f32) (v : FVec Ideal S512x512 .f32) (la : FVec Ideal S512x256 .f32) : Side :=
  ⟨decayed q (sums tri la), grown k (sums tri la), v, sums tri la⟩

theorem at_f0 : At 0 63 := ⟨by decide, by decide, by decide⟩
theorem at_f1 : At 64 127 := ⟨by decide, by decide, by decide⟩
theorem at_f2 : At 128 191 := ⟨by decide, by decide, by decide⟩
theorem at_f3 : At 192 255 := ⟨by decide, by decide, by decide⟩
theorem at_f4 : At 256 319 := ⟨by decide, by decide, by decide⟩
theorem at_f5 : At 320 383 := ⟨by decide, by decide, by decide⟩
theorem at_f6 : At 384 447 := ⟨by decide, by decide, by decide⟩
theorem at_f7 : At 448 511 := ⟨by decide, by decide, by decide⟩
theorem at_r0 : At 448 448 := ⟨by decide, by decide, by decide⟩
theorem at_r1 : At 384 384 := ⟨by decide, by decide, by decide⟩
theorem at_r2 : At 320 320 := ⟨by decide, by decide, by decide⟩
theorem at_r3 : At 256 256 := ⟨by decide, by decide, by decide⟩
theorem at_r4 : At 192 192 := ⟨by decide, by decide, by decide⟩
theorem at_r5 : At 128 128 := ⟨by decide, by decide, by decide⟩
theorem at_r6 : At 64 64 := ⟨by decide, by decide, by decide⟩
theorem at_r7 : At 0 0 := ⟨by decide, by decide, by decide⟩

/-- The states before each chunk of a block, from the state before the block. -/
def Side.forwards (s : Side) (st : FVec Ideal S128x256 .f32) : ℕ → FVec Ideal S128x256 .f32
  | 0 => st
  | 1 => s.next at_f0 (s.forwards st 0)
  | 2 => s.next at_f1 (s.forwards st 1)
  | 3 => s.next at_f2 (s.forwards st 2)
  | 4 => s.next at_f3 (s.forwards st 3)
  | 5 => s.next at_f4 (s.forwards st 4)
  | 6 => s.next at_f5 (s.forwards st 5)
  | 7 => s.next at_f6 (s.forwards st 6)
  | 8 => s.next at_f7 (s.forwards st 7)
  | _ => st
def Side.backwards (s : Side) (st : FVec Ideal S128x256 .f32) : ℕ → FVec Ideal S128x256 .f32
  | 0 => st
  | 1 => s.next at_r0 (s.backwards st 0)
  | 2 => s.next at_r1 (s.backwards st 1)
  | 3 => s.next at_r2 (s.backwards st 2)
  | 4 => s.next at_r3 (s.backwards st 3)
  | 5 => s.next at_r4 (s.backwards st 4)
  | 6 => s.next at_r5 (s.backwards st 5)
  | 7 => s.next at_r6 (s.backwards st 6)
  | 8 => s.next at_r7 (s.backwards st 7)
  | _ => st

end Cert.GlaFwdIdeal.Hand

end
-- ==== Proof.Scan.Chunks.lean ====
module

public import proofs.«01_k».proof.Proof.Scan.Block

/-! # The chunks as the body spells them

The body computes each chunk's output and the state after it from pieces of its own. Each is the chunk's function. -/

@[expose] public section

set_option maxRecDepth 65536

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen

/-- The chunks' masks. -/
def maskF : IVec S64x256 1 := k0_pay39
def maskR : IVec S64x256 1 := k0_pay51

variable (q k b : FVec Ideal S512x256 .f32) (v : FVec Ideal S512x512 .f32) (st : FVec Ideal S128x256 .f32)

theorem next_f0 : k0_pay50 (F := Ideal) k v st (k0_pay40 (View.ld (Val := Elt Ideal) (e' := .f32) b (Rect.unit (s := S512x256) ![63, 0] ![1, 256] inb_S512x256_S1x256_63_0))) = (Side.mk q k v b).next at_f0 st := rfl
theorem out_f0 : k0_pay49 (F := Ideal) (k0_pay46 st (k0_pay43 q) k0_pay44 (k0_pay45 q)) (k0_pay47 v) (k0_pay48 (k0_pay42 q k k0_pay39)) = (Side.mk q k v b).out maskF at_f0 st := rfl
theorem next_f1 : k0_pay71 (F := Ideal) k v st (k0_pay62 (View.ld (Val := Elt Ideal) (e' := .f32) b (Rect.unit (s := S512x256) ![127, 0] ![1, 256] inb_S512x256_S1x256_127_0))) = (Side.mk q k v b).next at_f1 st := rfl
theorem out_f1 : k0_pay70 (F := Ideal) v st (k0_pay64 q k k0_pay39) (k0_pay65 q) k0_pay66 (k0_pay67 q) k0_pay68 k0_pay69 = (Side.mk q k v b).out maskF at_f1 st := rfl
theorem next_f2 : k0_pay98 (F := Ideal) (k0_pay96 st (k0_pay87 (View.ld (Val := Elt Ideal) (e' := .f32) b (Rect.unit (s := S512x256) ![191, 0] ![1, 256] inb_S512x256_S1x256_191_0)))) (k0_pay97 k v (k0_pay87 (View.ld (Val := Elt Ideal) (e' := .f32) b (Rect.unit (s := S512x256) ![191, 0] ![1, 256] inb_S512x256_S1x256_191_0)))) (iota .tc S128x256 32 [1] iota_S128x256_d1_w32) 6#32 = (Side.mk q k v b).next at_f2 st := rfl
theorem out_f2 : k0_pay95 (F := Ideal) v st (k0_pay93 k0_pay39 (k0_pay89 q) (k0_pay90 k) k0_pay91 k0_pay92) (k0_pay94 q) = (Side.mk q k v b).out maskF at_f2 st := rfl
theorem next_f3 : k0_pay137 (F := Ideal) (k0_pay131 st (k0_pay118 (View.ld (Val := Elt Ideal) (e' := .f32) b (Rect.unit (s := S512x256) ![255, 0] ![1, 256] inb_S512x256_S1x256_255_0)))) (k0_pay132 k v (k0_pay118 (View.ld (Val := Elt Ideal) (e' := .f32) b (Rect.unit (s := S512x256) ![255, 0] ![1, 256] inb_S512x256_S1x256_255_0)))) k0_pay133 (k0_pay134 k v (k0_pay118 (View.ld (Val := Elt Ideal) (e' := .f32) b (Rect.unit (s := S512x256) ![255, 0] ![1, 256] inb_S512x256_S1x256_255_0)))) k0_pay135 (k0_pay136 k v (k0_pay118 (View.ld (Val := Elt Ideal) (e' := .f32) b (Rect.unit (s := S512x256) ![255, 0] ![1, 256] inb_S512x256_S1x256_255_0)))) (FloatOps.ofBits FTy.f32 0#32) = (Side.mk q k v b).next at_f3 st := rfl
theorem out_f3 : k0_pay130 (F := Ideal) (k0_pay126 k0_pay39 (k0_pay120 q) (k0_pay121 k) k0_pay122 (k0_pay123 k) (k0_pay124 k) k0_pay125 (FloatOps.ofBits FTy.f32 0#32)) (k0_pay127 q st) (k0_pay128 v) k0_pay129 = (Side.mk q k v b).out maskF at_f3 st := rfl
theorem next_f4 : k0_pay181 (F := Ideal) (k0_pay173 st (k0_pay162 (View.ld (Val := Elt Ideal) (e' := .f32) b (Rect.unit (s := S512x256) ![319, 0] ![1, 256] inb_S512x256_S1x256_319_0)))) (k0_pay176 k v (k0_pay162 (View.ld (Val := Elt Ideal) (e' := .f32) b (Rect.unit (s := S512x256) ![319, 0] ![1, 256] inb_S512x256_S1x256_319_0)))) (k0_pay177 k v (k0_pay162 (View.ld (Val := Elt Ideal) (e' := .f32) b (Rect.unit (s := S512x256) ![319, 0] ![1, 256] inb_S512x256_S1x256_319_0)))) (k0_pay178 k v (k0_pay162 (View.ld (Val := Elt Ideal) (e' := .f32) b (Rect.unit (s := S512x256) ![319, 0] ![1, 256] inb_S512x256_S1x256_319_0)))) k0_pay179 (k0_pay180 k v (k0_pay162 (View.ld (Val := Elt Ideal) (e' := .f32) b (Rect.unit (s := S512x256) ![319, 0] ![1, 256] inb_S512x256_S1x256_319_0)))) (FloatOps.ofBits FTy.f32 0#32) = (Side.mk q k v b).next at_f4 st := rfl
theorem out_f4 : k0_pay172 (F := Ideal) (k0_pay165 k0_pay39 (k0_pay164 q k) (FloatOps.ofBits FTy.f32 0#32)) (k0_pay166 q st) (k0_pay167 v) k0_pay168 (k0_pay169 v) (k0_pay170 v) k0_pay171 = (Side.mk q k v b).out maskF at_f4 st := rfl
theorem next_f5 : k0_pay206 (F := Ideal) k v st (k0_pay196 (View.ld (Val := Elt Ideal) (e' := .f32) b (Rect.unit (s := S512x256) ![383, 0] ![1, 256] inb_S512x256_S1x256_383_0))) = (Side.mk q k v b).next at_f5 st := rfl
theorem out_f5 : k0_pay205 (F := Ideal) (k0_pay202 st (k0_pay199 q) k0_pay200 (k0_pay201 q) 1#32) (k0_pay203 v) (k0_pay204 (k0_pay198 q k k0_pay39)) (constant S64x512 FTy.f32 0#32) = (Side.mk q k v b).out maskF at_f5 st := rfl
theorem next_f6 : k0_pay233 (F := Ideal) (k0_pay230 st (k0_pay218 (View.ld (Val := Elt Ideal) (e' := .f32) b (Rect.unit (s := S512x256) ![447, 0] ![1, 256] inb_S512x256_S1x256_447_0)))) (k0_pay231 v) (k0_pay232 k (k0_pay218 (View.ld (Val := Elt Ideal) (e' := .f32) b (Rect.unit (s := S512x256) ![447, 0] ![1, 256] inb_S512x256_S1x256_447_0)))) = (Side.mk q k v b).next at_f6 st := rfl
theorem out_f6 : k0_pay229 (F := Ideal) v st (k0_pay222 k0_pay39 (k0_pay220 q) (k0_pay221 k) (iota .tc S64x256 32 [1] iota_S64x256_d1_w32) 6#32) (k0_pay223 q) (k0_pay225 q) (k0_pay226 q) (k0_pay227 q) k0_pay228 = (Side.mk q k v b).out maskF at_f6 st := rfl
theorem next_f7 : k0_pay264 (F := Ideal) (k0_pay260 st (k0_pay249 (View.ld (Val := Elt Ideal) (e' := .f32) b (Rect.unit (s := S512x256) ![511, 0] ![1, 256] inb_S512x256_S1x256_511_0)))) (k0_pay261 k v (k0_pay249 (View.ld (Val := Elt Ideal) (e' := .f32) b (Rect.unit (s := S512x256) ![511, 0] ![1, 256] inb_S512x256_S1x256_511_0)))) k0_pay262 (k0_pay263 k v (k0_pay249 (View.ld (Val := Elt Ideal) (e' := .f32) b (Rect.unit (s := S512x256) ![511, 0] ![1, 256] inb_S512x256_S1x256_511_0)))) 1#32 = (Side.mk q k v b).next at_f7 st := rfl
theorem out_f7 : k0_pay259 (F := Ideal) (k0_pay256 k0_pay39 (k0_pay251 q) (k0_pay252 k) k0_pay253 (k0_pay254 k) (k0_pay255 k)) (k0_pay257 q st) (k0_pay258 v) = (Side.mk q k v b).out maskF at_f7 st := rfl
theorem next_r0 : k0_pay61 (F := Ideal) k v st (k0_pay52 (View.ld (Val := Elt Ideal) (e' := .f32) b (Rect.unit (s := S512x256) ![448, 0] ![1, 256] inb_S512x256_S1x256_448_0))) = (Side.mk q k v b).next at_r0 st := rfl
theorem out_r0 : k0_pay60 (F := Ideal) (k0_pay54 q k k0_pay51) (k0_pay58 st (k0_pay55 q) k0_pay56 k0_pay57 (FloatOps.ofBits FTy.f32 0#32)) (k0_pay59 v) = (Side.mk q k v b).out maskR at_r0 st := rfl
theorem next_r1 : k0_pay86 (F := Ideal) (k0_pay82 st (k0_pay72 (View.ld (Val := Elt Ideal) (e' := .f32) b (Rect.unit (s := S512x256) ![384, 0] ![1, 256] inb_S512x256_S1x256_384_0)))) (k0_pay83 v) (k0_pay84 k) (k0_pay85 (k0_pay72 (View.ld (Val := Elt Ideal) (e' := .f32) b (Rect.unit (s := S512x256) ![384, 0] ![1, 256] inb_S512x256_S1x256_384_0)))) = (Side.mk q k v b).next at_r1 st := rfl
theorem out_r1 : k0_pay81 (F := Ideal) v st (k0_pay75 k k0_pay51 (k0_pay74 q)) (k0_pay76 q) k0_pay77 (k0_pay78 q) (k0_pay79 q) (k0_pay80 q) = (Side.mk q k v b).out maskR at_r1 st := rfl
theorem next_r2 : k0_pay117 (F := Ideal) (k0_pay112 st (k0_pay99 (View.ld (Val := Elt Ideal) (e' := .f32) b (Rect.unit (s := S512x256) ![320, 0] ![1, 256] inb_S512x256_S1x256_320_0)))) (k0_pay113 k v (k0_pay99 (View.ld (Val := Elt Ideal) (e' := .f32) b (Rect.unit (s := S512x256) ![320, 0] ![1, 256] inb_S512x256_S1x256_320_0)))) k0_pay114 k0_pay115 (k0_pay116 k v (k0_pay99 (View.ld (Val := Elt Ideal) (e' := .f32) b (Rect.unit (s := S512x256) ![320, 0] ![1, 256] inb_S512x256_S1x256_320_0)))) (FloatOps.ofBits FTy.f32 0#32) = (Side.mk q k v b).next at_r2 st := rfl
theorem out_r2 : k0_pay111 (F := Ideal) v (k0_pay106 k0_pay51 (k0_pay101 q) (k0_pay102 k) k0_pay103 (k0_pay104 k) k0_pay105) (k0_pay107 q st) (k0_pay108 q st) (k0_pay109 q st) (k0_pay110 q st) = (Side.mk q k v b).out maskR at_r2 st := rfl
theorem next_r3 : k0_pay161 (F := Ideal) (k0_pay154 st (k0_pay138 (View.ld (Val := Elt Ideal) (e' := .f32) b (Rect.unit (s := S512x256) ![256, 0] ![1, 256] inb_S512x256_S1x256_256_0)))) (k0_pay155 k v (k0_pay138 (View.ld (Val := Elt Ideal) (e' := .f32) b (Rect.unit (s := S512x256) ![256, 0] ![1, 256] inb_S512x256_S1x256_256_0)))) k0_pay156 (k0_pay157 k v (k0_pay138 (View.ld (Val := Elt Ideal) (e' := .f32) b (Rect.unit (s := S512x256) ![256, 0] ![1, 256] inb_S512x256_S1x256_256_0)))) (k0_pay158 k v (k0_pay138 (View.ld (Val := Elt Ideal) (e' := .f32) b (Rect.unit (s := S512x256) ![256, 0] ![1, 256] inb_S512x256_S1x256_256_0)))) k0_pay159 (k0_pay160 k v (k0_pay138 (View.ld (Val := Elt Ideal) (e' := .f32) b (Rect.unit (s := S512x256) ![256, 0] ![1, 256] inb_S512x256_S1x256_256_0)))) (FloatOps.ofBits FTy.f32 0#32) = (Side.mk q k v b).next at_r3 st := rfl
theorem out_r3 : k0_pay153 (F := Ideal) (k0_pay148 k0_pay51 (k0_pay140 q) (k0_pay141 k) (k0_pay143 k) (k0_pay144 k) (k0_pay145 k) k0_pay146 k0_pay147) (k0_pay149 q st) (k0_pay150 v) k0_pay151 (k0_pay152 v) 1#32 = (Side.mk q k v b).out maskR at_r3 st := rfl
theorem next_r4 : k0_pay195 (F := Ideal) k v st (k0_pay182 (View.ld (Val := Elt Ideal) (e' := .f32) b (Rect.unit (s := S512x256) ![192, 0] ![1, 256] inb_S512x256_S1x256_192_0))) = (Side.mk q k v b).next at_r4 st := rfl
theorem out_r4 : k0_pay194 (F := Ideal) (k0_pay184 q k k0_pay51) (k0_pay187 st (k0_pay185 q) k0_pay186) (k0_pay188 v) (k0_pay190 v) (k0_pay191 v) (k0_pay192 v) k0_pay193 = (Side.mk q k v b).out maskR at_r4 st := rfl
theorem next_r5 : k0_pay217 (F := Ideal) k v st (k0_pay207 (View.ld (Val := Elt Ideal) (e' := .f32) b (Rect.unit (s := S512x256) ![128, 0] ![1, 256] inb_S512x256_S1x256_128_0))) (k0_pay216 (k0_pay207 (View.ld (Val := Elt Ideal) (e' := .f32) b (Rect.unit (s := S512x256) ![128, 0] ![1, 256] inb_S512x256_S1x256_128_0)))) = (Side.mk q k v b).next at_r5 st := rfl
theorem out_r5 : k0_pay215 (F := Ideal) v st (k0_pay209 q k k0_pay51) (k0_pay210 q) k0_pay211 (k0_pay212 q) (k0_pay213 q) k0_pay214 = (Side.mk q k v b).out maskR at_r5 st := rfl
theorem next_r6 : k0_pay248 (F := Ideal) (k0_pay245 st (k0_pay234 (View.ld (Val := Elt Ideal) (e' := .f32) b (Rect.unit (s := S512x256) ![64, 0] ![1, 256] inb_S512x256_S1x256_64_0)))) (k0_pay246 k v (k0_pay234 (View.ld (Val := Elt Ideal) (e' := .f32) b (Rect.unit (s := S512x256) ![64, 0] ![1, 256] inb_S512x256_S1x256_64_0)))) k0_pay247 0#32 = (Side.mk q k v b).next at_r6 st := rfl
theorem out_r6 : k0_pay244 (F := Ideal) v (k0_pay241 k0_pay51 (k0_pay236 q) (k0_pay237 k) k0_pay238 k0_pay239 k0_pay240) (k0_pay242 q) (k0_pay243 st) (constant S256x128 FTy.f32 0#32) = (Side.mk q k v b).out maskR at_r6 st := rfl
theorem next_r7 : k0_pay2 (F := Ideal) (k0_pay279 st (k0_pay265 (View.ld (Val := Elt Ideal) (e' := .f32) b (Rect.unit (s := S512x256) ![0, 0] ![1, 256] inb_S512x256_S1x256_0_0)))) (k0_pay280 k v (k0_pay265 (View.ld (Val := Elt Ideal) (e' := .f32) b (Rect.unit (s := S512x256) ![0, 0] ![1, 256] inb_S512x256_S1x256_0_0)))) (k0_pay282 k v (k0_pay265 (View.ld (Val := Elt Ideal) (e' := .f32) b (Rect.unit (s := S512x256) ![0, 0] ![1, 256] inb_S512x256_S1x256_0_0)))) (k0_pay283 k v (k0_pay265 (View.ld (Val := Elt Ideal) (e' := .f32) b (Rect.unit (s := S512x256) ![0, 0] ![1, 256] inb_S512x256_S1x256_0_0)))) (k0_pay284 (k0_pay280 k v (k0_pay265 (View.ld (Val := Elt Ideal) (e' := .f32) b (Rect.unit (s := S512x256) ![0, 0] ![1, 256] inb_S512x256_S1x256_0_0)))) k0_pay281 2#32) (k0_pay285 k0_pay281) = (Side.mk q k v b).next at_r7 st := by refine Eq.trans (shapeCast_self _ _) ?_; rfl
theorem out_r7 : k0_pay278 (F := Ideal) (k0_pay273 k0_pay51 (k0_pay267 q) (k0_pay268 k) k0_pay269 (k0_pay270 k) (k0_pay271 k) (k0_pay272 k) 3#32) (k0_pay274 q st) (k0_pay275 v) k0_pay276 k0_pay277 = (Side.mk q k v b).out maskR at_r7 st := rfl

end Cert.GlaFwdIdeal.Hand

end
-- ==== Proof.Scan.Steps.lean ====
module

public import proofs.«01_k».proof.Proof.Scan.Chunks
public import Idealize.ShloMosaic.Lib.Pipeline.ReadBack

/-! # The forward scan: what a grid point stores

The run's payloads, folded to one chunk's functions. -/

@[expose] public section

set_option maxRecDepth 65536

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen

variable (m : (ℓ : Loc nD τ sig) → Buf (Elt Ideal) ℓ) (c : Dev nD)

set_option maxHeartbeats 2000000 in
/-- The sums of the two directions, as the body spells them. -/
theorem sums_f (la : FVec Ideal S512x256 .f32) (a b : Ideal .f32) : k0_pay18 (F := Ideal) (k0_pay9 k0_pay8 a b) (k0_pay10 la k0_pay8 a b) (k0_pay11 la k0_pay8 a b)
    (k0_pay12 la k0_pay8 a b) (k0_pay14 la) (k0_pay16 la) (k0_pay17 la) = sums (k0_pay9 k0_pay8 a b) la := rfl
theorem sums_r (lr : FVec Ideal S512x128 .f32) (w : FVec Ideal S128x256 .bf16) (bias : FVec Ideal S1x256 .f32) : k0_pay34 (F := Ideal) (logs lr w bias) k0_pay29 (k0_pay30 (k0_pay26 lr w bias) (k0_pay27 lr w bias))
    (k0_pay31 (k0_pay26 lr w bias) (k0_pay27 lr w bias)) (k0_pay32 (k0_pay26 lr w bias) (k0_pay27 lr w bias)) (k0_pay33 (k0_pay26 lr w bias) (k0_pay27 lr w bias)) = sums k0_pay29 (logs lr w bias) := rfl
theorem logs_r (lr : FVec Ideal S512x128 .f32) (w : FVec Ideal S128x256 .bf16) (bias : FVec Ideal S1x256 .f32) : k0_pay28 (F := Ideal) (k0_pay26 lr w bias) (k0_pay27 lr w bias) = logs lr w bias := rfl
theorem logs_f (lr : FVec Ideal S512x128 .f32) (w : FVec Ideal S128x256 .bf16) (bias : FVec Ideal S1x256 .f32) : k0_pay7 (F := Ideal) lr w bias = logs lr w bias := rfl

/-- A row of what one store left of a whole scratch. -/
theorem row_of {Val : EltTy → Type} [∀ e, Nonempty (Val e)] {sig : RefSig} {κ : Kind} {sp : Space} (V : View sig κ sp S512x256 .f32) (b : S512x256.Idx → Val .f32) (R : Rect S512x256) (inb) :
    V.readCov [(⟨Rect.unit (s := S512x256) ![0, 0] ![512, 256] inb, b⟩ : View.Piece Val S512x256 .f32)] R.toLoadRect = View.ld b R := by
  rw [View.readCov_eq_canon']
  exact congrArg (fun X => View.ld X R) (View.canon_unit_zero (by funext a; fin_cases a <;> rfl) inb b)

theorem triF_of : k0_pay9 (F := Ideal) k0_pay8 (FloatOps.ofBits FTy.f32 1065353216#32) (FloatOps.ofBits FTy.f32 0#32) = triF := rfl
theorem triR_of : k0_pay29 (F := Ideal) = triR := rfl
theorem grown_of (k b : FVec Ideal S512x256 .f32) : mulf k (exp (subf (broadcast S512x256 (FloatOps.ofBits FTy.f32 0#32)) b)) = grown k b := rfl
theorem decayed_of (q b : FVec Ideal S512x256 .f32) : mulf (mulf q (broadcast S512x256 (FloatOps.ofBits FTy.f32 1040187392#32))) (exp b) = decayed q b := rfl

/-- The two sides of the block at grid point `t`, and the states before it. -/
def sideF (t : Fin cfg0.N) : Side := sideOf triF (X0_0 m c t) (X0_1 m c t) (X0_2 m c t) (logs (iblk m c 3 t) (iblk m c 8 t) (iblk m c 9 t))
def sideR (t : Fin cfg0.N) : Side := sideOf triR (X0_4 m c t) (X0_5 m c t) (X0_6 m c t) (logs (iblk m c 7 t) (iblk m c 10 t) (iblk m c 11 t))
def befF (t : Fin cfg0.N) : FVec Ideal S128x256 .f32 := if t.val % 16 = 0 then fun _ => 0 else (outsAt0 m c (t.val - 1) (by omega)).2.2.2.2.1
def befR (t : Fin cfg0.N) : FVec Ideal S128x256 .f32 := if t.val % 16 = 0 then fun _ => 0 else (outsAt0 m c (t.val - 1) (by omega)).2.2.2.2.2
theorem zero3 : (k0_pay3 (F := Ideal)) = fun _ => (0 : EReal) := by funext y; pointwise [k0_pay3]
theorem zero4 : (k0_pay4 (F := Ideal)) = fun _ => (0 : EReal) := by funext y; pointwise [k0_pay4]

/-- What a block stores: the outputs and the states before its chunks, in the order of the stores, newest first. -/
def outsF (s : Side) (st : FVec Ideal S128x256 .f32) : List (View.Piece (Elt Ideal) S512x512 .f32) :=
  [⟨Rect.unit (s := S512x512) ![448, 0] S64x512.size inb_S512x512_S64x512_448_0, s.out maskF at_f7 (s.forwards st 7)⟩,
   ⟨Rect.unit (s := S512x512) ![384, 0] S64x512.size inb_S512x512_S64x512_384_0, s.out maskF at_f6 (s.forwards st 6)⟩,
   ⟨Rect.unit (s := S512x512) ![320, 0] S64x512.size inb_S512x512_S64x512_320_0, s.out maskF at_f5 (s.forwards st 5)⟩,
   ⟨Rect.unit (s := S512x512) ![256, 0] S64x512.size inb_S512x512_S64x512_256_0, s.out maskF at_f4 (s.forwards st 4)⟩,
   ⟨Rect.unit (s := S512x512) ![192, 0] S64x512.size inb_S512x512_S64x512_192_0, s.out maskF at_f3 (s.forwards st 3)⟩,
   ⟨Rect.unit (s := S512x512) ![128, 0] S64x512.size inb_S512x512_S64x512_128_0, s.out maskF at_f2 (s.forwards st 2)⟩,
   ⟨Rect.unit (s := S512x512) ![64, 0] S64x512.size inb_S512x512_S64x512_64_0, s.out maskF at_f1 (s.forwards st 1)⟩,
   ⟨Rect.unit (s := S512x512) ![0, 0] S64x512.size inb_S512x512_S64x512_0_0, s.out maskF at_f0 (s.forwards st 0)⟩]
def befsF (s : Side) (st : FVec Ideal S128x256 .f32) : List (View.Piece (Elt Ideal) S8x128x256 .f32) :=
  [⟨Rect.unit (s := S8x128x256) ![7, 0, 0] S1x128x256.size inb_S8x128x256_S1x128x256_7_0_0, shapeCast S1x128x256 (s.forwards st 7) shapeCasts_S128x256_S1x128x256⟩,
   ⟨Rect.unit (s := S8x128x256) ![6, 0, 0] S1x128x256.size inb_S8x128x256_S1x128x256_6_0_0, shapeCast S1x128x256 (s.forwards st 6) shapeCasts_S128x256_S1x128x256⟩,
   ⟨Rect.unit (s := S8x128x256) ![5, 0, 0] S1x128x256.size inb_S8x128x256_S1x128x256_5_0_0, shapeCast S1x128x256 (s.forwards st 5) shapeCasts_S128x256_S1x128x256⟩,
   ⟨Rect.unit (s := S8x128x256) ![4, 0, 0] S1x128x256.size inb_S8x128x256_S1x128x256_4_0_0, shapeCast S1x128x256 (s.forwards st 4) shapeCasts_S128x256_S1x128x256⟩,
   ⟨Rect.unit (s := S8x128x256) ![3, 0, 0] S1x128x256.size inb_S8x128x256_S1x128x256_3_0_0, shapeCast S1x128x256 (s.forwards st 3) shapeCasts_S128x256_S1x128x256⟩,
   ⟨Rect.unit (s := S8x128x256) ![2, 0, 0] S1x128x256.size inb_S8x128x256_S1x128x256_2_0_0, shapeCast S1x128x256 (s.forwards st 2) shapeCasts_S128x256_S1x128x256⟩,
   ⟨Rect.unit (s := S8x128x256) ![1, 0, 0] S1x128x256.size inb_S8x128x256_S1x128x256_1_0_0, shapeCast S1x128x256 (s.forwards st 1) shapeCasts_S128x256_S1x128x256⟩,
   ⟨Rect.unit (s := S8x128x256) ![0, 0, 0] S1x128x256.size inb_S8x128x256_S1x128x256_0_0_0, shapeCast S1x128x256 (s.forwards st 0) shapeCasts_S128x256_S1x128x256⟩]
def outsR (s : Side) (st : FVec Ideal S128x256 .f32) : List (View.Piece (Elt Ideal) S512x512 .f32) :=
  [⟨Rect.unit (s := S512x512) ![0, 0] S64x512.size inb_S512x512_S64x512_0_0, s.out maskR at_r7 (s.backwards st 7)⟩,
   ⟨Rect.unit (s := S512x512) ![64, 0] S64x512.size inb_S512x512_S64x512_64_0, s.out maskR at_r6 (s.backwards st 6)⟩,
   ⟨Rect.unit (s := S512x512) ![128, 0] S64x512.size inb_S512x512_S64x512_128_0, s.out maskR at_r5 (s.backwards st 5)⟩,
   ⟨Rect.unit (s := S512x512) ![192, 0] S64x512.size inb_S512x512_S64x512_192_0, s.out maskR at_r4 (s.backwards st 4)⟩,
   ⟨Rect.unit (s := S512x512) ![256, 0] S64x512.size inb_S512x512_S64x512_256_0, s.out maskR at_r3 (s.backwards st 3)⟩,
   ⟨Rect.unit (s := S512x512) ![320, 0] S64x512.size inb_S512x512_S64x512_320_0, s.out maskR at_r2 (s.backwards st 2)⟩,
   ⟨Rect.unit (s := S512x512) ![384, 0] S64x512.size inb_S512x512_S64x512_384_0, s.out maskR at_r1 (s.backwards st 1)⟩,
   ⟨Rect.unit (s := S512x512) ![448, 0] S64x512.size inb_S512x512_S64x512_448_0, s.out maskR at_r0 (s.backwards st 0)⟩]
def befsR (s : Side) (st : FVec Ideal S128x256 .f32) : List (View.Piece (Elt Ideal) S8x128x256 .f32) :=
  [⟨Rect.unit (s := S8x128x256) ![0, 0, 0] S1x128x256.size inb_S8x128x256_S1x128x256_0_0_0, shapeCast S1x128x256 (s.backwards st 7) shapeCasts_S128x256_S1x128x256⟩,
   ⟨Rect.unit (s := S8x128x256) ![1, 0, 0] S1x128x256.size inb_S8x128x256_S1x128x256_1_0_0, shapeCast S1x128x256 (s.backwards st 6) shapeCasts_S128x256_S1x128x256⟩,
   ⟨Rect.unit (s := S8x128x256) ![2, 0, 0] S1x128x256.size inb_S8x128x256_S1x128x256_2_0_0, shapeCast S1x128x256 (s.backwards st 5) shapeCasts_S128x256_S1x128x256⟩,
   ⟨Rect.unit (s := S8x128x256) ![3, 0, 0] S1x128x256.size inb_S8x128x256_S1x128x256_3_0_0, shapeCast S1x128x256 (s.backwards st 4) shapeCasts_S128x256_S1x128x256⟩,
   ⟨Rect.unit (s := S8x128x256) ![4, 0, 0] S1x128x256.size inb_S8x128x256_S1x128x256_4_0_0, shapeCast S1x128x256 (s.backwards st 3) shapeCasts_S128x256_S1x128x256⟩,
   ⟨Rect.unit (s := S8x128x256) ![5, 0, 0] S1x128x256.size inb_S8x128x256_S1x128x256_5_0_0, shapeCast S1x128x256 (s.backwards st 2) shapeCasts_S128x256_S1x128x256⟩,
   ⟨Rect.unit (s := S8x128x256) ![6, 0, 0] S1x128x256.size inb_S8x128x256_S1x128x256_6_0_0, shapeCast S1x128x256 (s.backwards st 1) shapeCasts_S128x256_S1x128x256⟩,
   ⟨Rect.unit (s := S8x128x256) ![7, 0, 0] S1x128x256.size inb_S8x128x256_S1x128x256_7_0_0, shapeCast S1x128x256 (s.backwards st 0) shapeCasts_S128x256_S1x128x256⟩]

/-! Both cases of the first grid point and of the others. -/

set_option maxHeartbeats 400000 in
theorem state_f (t : Fin cfg0.N) : (outsAt0 m c t.val t.isLt).2.2.2.2.1 = (sideF m c t).forwards (befF m c t) 8 := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, k0_pay1, befF, if_pos h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, Side.forwards]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, k0_pay1, befF, if_neg h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, Side.forwards]

set_option maxHeartbeats 400000 in
theorem state_r (t : Fin cfg0.N) : (outsAt0 m c t.val t.isLt).2.2.2.2.2 = (sideR m c t).backwards (befR m c t) 8 := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_pos h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, Side.backwards]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_neg h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, Side.backwards]

set_option maxHeartbeats 400000 in
theorem out_f (t : Fin cfg0.N) : (outsAt0 m c t.val t.isLt).1 = View.canon (outsF (sideF m c t) (befF m c t)) := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befF, if_pos h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, out_f0 qT kT bT vT, out_f1 qT kT bT vT, out_f2 qT kT bT vT, out_f3 qT kT bT vT, out_f4 qT kT bT vT, out_f5 qT kT bT vT, out_f6 qT kT bT vT, out_f7 qT kT bT vT, Side.forwards, outsF]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befF, if_neg h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, out_f0 qT kT bT vT, out_f1 qT kT bT vT, out_f2 qT kT bT vT, out_f3 qT kT bT vT, out_f4 qT kT bT vT, out_f5 qT kT bT vT, out_f6 qT kT bT vT, out_f7 qT kT bT vT, Side.forwards, outsF]

set_option maxHeartbeats 400000 in
theorem bef_f (t : Fin cfg0.N) : (outsAt0 m c t.val t.isLt).2.1 = View.canon (befsF (sideF m c t) (befF m c t)) := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befF, if_pos h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, k0_pay41, k0_pay63, k0_pay88, k0_pay119, k0_pay163, k0_pay197, k0_pay219, k0_pay250, Side.forwards, befsF]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befF, if_neg h]
    simp only [triF_of, triR_of]
    rw [show sideF m c t = ⟨decayed (X0_0 m c t) (sums triF (logs (iblk m c 3 t) (iblk m c 8 t) (iblk m c 9 t))), grown (X0_1 m c t) (sums triF (logs (iblk m c 3 t) (iblk m c 8 t) (iblk m c 9 t))), X0_2 m c t, (sums triF (logs (iblk m c 3 t) (iblk m c 8 t) (iblk m c 9 t)))⟩ from rfl]
    generalize decayed (X0_0 m c t) (sums triF (logs (iblk m c 3 t) (iblk m c 8 t) (iblk m c 9 t))) = qT
    generalize grown (X0_1 m c t) (sums triF (logs (iblk m c 3 t) (iblk m c 8 t) (iblk m c 9 t))) = kT
    generalize X0_2 m c t = vT
    generalize (sums triF (logs (iblk m c 3 t) (iblk m c 8 t) (iblk m c 9 t))) = bT
    simp only [next_f0 qT kT bT vT, next_f1 qT kT bT vT, next_f2 qT kT bT vT, next_f3 qT kT bT vT, next_f4 qT kT bT vT, next_f5 qT kT bT vT, next_f6 qT kT bT vT, next_f7 qT kT bT vT, k0_pay41, k0_pay63, k0_pay88, k0_pay119, k0_pay163, k0_pay197, k0_pay219, k0_pay250, Side.forwards, befsF]

set_option maxHeartbeats 400000 in
theorem out_r (t : Fin cfg0.N) : (outsAt0 m c t.val t.isLt).2.2.1 = View.canon (outsR (sideR m c t) (befR m c t)) := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_pos h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, out_r0 qT kT bT vT, out_r1 qT kT bT vT, out_r2 qT kT bT vT, out_r3 qT kT bT vT, out_r4 qT kT bT vT, out_r5 qT kT bT vT, out_r6 qT kT bT vT, out_r7 qT kT bT vT, Side.backwards, outsR]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_neg h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, out_r0 qT kT bT vT, out_r1 qT kT bT vT, out_r2 qT kT bT vT, out_r3 qT kT bT vT, out_r4 qT kT bT vT, out_r5 qT kT bT vT, out_r6 qT kT bT vT, out_r7 qT kT bT vT, Side.backwards, outsR]

set_option maxHeartbeats 400000 in
theorem bef_r (t : Fin cfg0.N) : (outsAt0 m c t.val t.isLt).2.2.2.1 = View.canon (befsR (sideR m c t) (befR m c t)) := by
  by_cases h : t.val % 16 = 0
  · rw [outsAt0_A m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_pos h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, k0_pay53, k0_pay73, k0_pay100, k0_pay139, k0_pay183, k0_pay208, k0_pay235, k0_pay266, Side.backwards, befsR]

  · rw [outsAt0_B m c t h]; frame_out
    simp only [row_of, grown_of, decayed_of, read_unread_whole, k0_pay19, k0_pay20, k0_pay22, k0_pay35, k0_pay36, k0_pay38, sums_f, sums_r, logs_f, logs_r, k0_pay5, k0_pay6, k0_pay21, k0_pay23, k0_pay24, k0_pay37, shapeCast_self, zero3, zero4, befR, if_neg h]
    simp only [triF_of, triR_of]
    rw [show sideR m c t = ⟨decayed (X0_4 m c t) (sums triR (logs (iblk m c 7 t) (iblk m c 10 t) (iblk m c 11 t))), grown (X0_5 m c t) (sums triR (logs (iblk m c 7 t) (iblk m c 10 t) (iblk m c 11 t))), X0_6 m c t, (sums triR (logs (iblk m c 7 t) (iblk m c 10 t) (iblk m c 11 t)))⟩ from rfl]
    generalize decayed (X0_4 m c t) (sums triR (logs (iblk m c 7 t) (iblk m c 10 t) (iblk m c 11 t))) = qT
    generalize grown (X0_5 m c t) (sums triR (logs (iblk m c 7 t) (iblk m c 10 t) (iblk m c 11 t))) = kT
    generalize X0_6 m c t = vT
    generalize (sums triR (logs (iblk m c 7 t) (iblk m c 10 t) (iblk m c 11 t))) = bT
    simp only [next_r0 qT kT bT vT, next_r1 qT kT bT vT, next_r2 qT kT bT vT, next_r3 qT kT bT vT, next_r4 qT kT bT vT, next_r5 qT kT bT vT, next_r6 qT kT bT vT, next_r7 qT kT bT vT, k0_pay53, k0_pay73, k0_pay100, k0_pay139, k0_pay183, k0_pay208, k0_pay235, k0_pay266, Side.backwards, befsR]

end Cert.GlaFwdIdeal.Hand

end
-- ==== Proof.Scan.Rows.lean ====
module

public import proofs.«01_k».proof.Proof.Scan.Chunks
public import proofs.«01_k».proof.Proof.Scan.Plain

/-! # The forward scan's chunk, entry by entry

The body keeps the heads apart by masks over stacked copies of its rows. Here each product is read as the sum over one
head's lanes. -/

@[expose] public section

set_option maxRecDepth 16384

noncomputable section

open Idealize.ShloMosaic Idealize.ShloMosaic.TcCoe Idealize.SL.Sem

namespace Cert.GlaFwdIdeal.Hand
open Cert.GlaFwdIdeal Cert.GlaFwdIdeal.Gen Norm Scan

/-! ## Words -/

theorem shr6 : ∀ x : Fin 256, IntOp.shrsi .vector (BitVec.ofNat 32 x.val) 6#32 = BitVec.ofNat 32 (x.val / 64) := by decide +kernel
theorem shr6s : ∀ x : Fin 128, IntOp.shrsi .vector (BitVec.ofNat 32 x.val) 6#32 = BitVec.ofNat 32 (x.val / 64) := by decide +kernel
theorem shr7 : ∀ x : Fin 512, IntOp.shrsi .vector (BitVec.ofNat 32 x.val) 7#32 = BitVec.ofNat 32 (x.val / 128) := by decide +kernel
theorem and63 : ∀ x : Fin 256, IntOp.andi (BitVec.ofNat 32 x.val) 63#32 = BitVec.ofNat 32 (x.val % 64) := by decide +kernel

theorem toInt_small (a : ℕ) (ha : a < 512) : (BitVec.ofNat 32 a).toInt = a := by
  rw [BitVec.toInt_eq_toNat_cond, BitVec.toNat_ofNat, Nat.mod_eq_of_lt (by omega), if_pos (by omega)]

theorem word_le (a b : ℕ) (ha : a < 512) (hb : b < 512) : IntOp.cmpi .sle (BitVec.ofNat 32 a) (BitVec.ofNat 32 b) = BitVec.ofBool (decide (a ≤ b)) := by
  rw [WordCmp.cmpi_sle_eq, toInt_small a ha, toInt_small b hb]
  exact congrArg BitVec.ofBool (decide_eq_decide.mpr (by exact_mod_cast Iff.rfl))
theorem word_ge (a b : ℕ) (ha : a < 512) (hb : b < 512) : IntOp.cmpi .sge (BitVec.ofNat 32 a) (BitVec.ofNat 32 b) = BitVec.ofBool (decide (b ≤ a)) := by
  rw [WordCmp.cmpi_sge_eq, ← WordCmp.cmpi_sle_eq, word_le b a hb ha]
theorem word_eq (a b : ℕ) (ha : a < 512) (hb : b < 512) : IntOp.cmpi .eq (BitVec.ofNat 32 a) (BitVec.ofNat 32 b) = BitVec.ofBool (decide (a = b)) := by
  rw [WordCmp.cmpi_eq_eq]
  refine congrArg BitVec.ofBool (decide_eq_decide.mpr ⟨fun e => ?_, fun e => by rw [e]⟩)
  have := congrArg BitVec.toNat e
  rw [BitVec.toNat_ofNat, BitVec.toNat_ofNat] at this; omega
theorem sel_bit (p : Prop) [Decidable p] (x y : EReal) : Scalar.select (BitVec.ofBool (decide p)) x y = if p then x else y := by
  by_cases h : p
  · rw [if_pos h, decide_eq_true h]; rfl
  · rw [if_neg h, decide_eq_false h]; rfl

theorem mask_f (i : Fin 64) (j : Fin 256) : maskF (ix2 i j) = BitVec.ofBool (decide (j.val % 64 ≤ i.val)) := by
  pointwise [maskF, k0_pay39]
  rw [and63, word_le _ _ (by omega) (by omega)]
theorem mask_r (i : Fin 64) (j : Fin 256) : maskR (ix2 i j) = BitVec.ofBool (decide (i.val ≤ j.val % 64)) := by
  pointwise [maskR, k0_pay51]
  rw [and63, word_ge _ _ (by omega) (by omega)]
theorem tri_f (i j : Fin 128) : triF (ix2 i j) = if i.val / 64 = j.val / 64 ∧ j.val ≤ i.val then 1 else 0 := by
  pointwise [triF, k0_pay8, k0_pay9]
  rw [shr6s, shr6s, word_eq _ _ (by omega) (by omega), word_le _ _ (by omega) (by omega), WordCmp.andi_ofBool, ← Bool.decide_and, sel_bit]
theorem tri_r (i j : Fin 128) : triR (ix2 i j) = if i.val / 64 = j.val / 64 ∧ i.val ≤ j.val then 1 else 0 := by
  pointwise [triR, k0_pay29]
  rw [shr6s, shr6s, word_eq _ _ (by omega) (by omega), word_ge _ _ (by omega) (by omega), WordCmp.andi_ofBool, ← Bool.decide_and, sel_bit]

/-! ## The stacked heads -/

abbrev low6 (r : Fin 256) : Fin 64 := ⟨r.val % 64, by omega⟩

theorem head_at (h : Fin 4) (x : FVec Ideal S64x256 .f32) (i : Fin 64) (c : Fin 256) :
    head (BitVec.ofNat 32 h.val) x (ix2 i c) = if hd c = h then x (ix2 i c) else 0 := by
  pointwise [head, lanes]
  rw [shr6, word_eq _ _ (by omega) (by omega), sel_bit]
  exact if_congr ⟨fun e => Fin.ext e, fun e => congrArg Fin.val e⟩ rfl rfl

theorem stack_at (x : FVec Ideal S64x256 .f32) (r : Fin 256) (c : Fin 256) : stack x (ix2 r c) = if hd c = hd r then x (ix2 (low6 r) c) else 0 := by
  have key : ∀ (h : Fin 4) (i : Fin 64) (_ : h = hd r) (_ : i = low6 r), head (BitVec.ofNat 32 h.val) x (ix2 i c) = if hd c = hd r then x (ix2 (low6 r) c) else 0 := by
    intro h i hh hi; subst hh; subst hi; exact head_at _ x _ c
  pointwise [stack]
  by_cases h0 : r.val < 64
  · rw [dif_pos h0]; exact key 0 _ (Fin.ext (by show 0 = r.val / 64; omega)) (Fin.ext (by show r.val = r.val % 64; omega))
  by_cases h1 : r.val - 64 < 64
  · rw [dif_neg h0, dif_pos h1]; exact key 1 _ (Fin.ext (by show 1 = r.val / 64; omega)) (Fin.ext (by show r.val - 64 = r.val % 64; omega))
  by_cases h2 : r.val - 64 - 64 < 64
  · rw [dif_neg h0, dif_neg h1, dif_pos h2]; exact key 2 _ (Fin.ext (by show 2 = r.val / 64; omega)) (Fin.ext (by show r.val - 64 - 64 = r.val % 64; omega))
  · rw [dif_neg h0, dif_neg h1, dif_neg h2]; exact key 3 _ (Fin.ext (by show 3 = r.val / 64; omega)) (Fin.ext (by show r.val - 64 - 64 - 64 = r.val % 64; omega))

theorem vhead_at (h : Fin 4) (x : FVec Ideal S64x512 .f32) (i : Fin 64) (l : Fin 512) :
    vhead (BitVec.ofNat 32 h.val) x (ix2 i l) = if vh l = h then x (ix2 i l) else 0 := by
  pointwise [vhead, vlanes]
  rw [shr7, word_eq _ _ (by omega) (by omega), sel_bit]
  exact if_congr ⟨fun e => Fin.ext e, fun e => congrArg Fin.val e⟩ rfl rfl

theorem vstack_at (x : FVec Ideal S64x512 .f32) (r : Fin 256) (l : Fin 512) : vstack x (ix2 r l) = if vh l = hd r then x (ix2 (low6 r) l) else 0 := by
  have key : ∀ (h : Fin 4) (i : Fin 64) (_ : h = hd r) (_ : i = low6 r), vhead (BitVec.ofNat 32 h.val) x (ix2 i l) = if vh l = hd r then x (ix2 (low6 r) l) else 0 := by
    intro h i hh hi; subst hh; subst hi; exact vhead_at _ x _ l
  pointwise [vstack]
  by_cases h0 : r.val < 64
  · rw [dif_pos h0]; exact key 0 _ (Fin.ext (by show 0 = r.val / 64; omega)) (Fin.ext (by show r.val = r.val % 64; omega))
  by_cases h1 : r.val - 64 < 64
  · rw [dif_neg h0, dif_pos h1]; exact key 1 _ (Fin.ext (by show 1 = r.val / 64; omega)) (Fin.ext (by show r.val - 64 = r.val % 64; omega))
  by_cases h2 : r.val - 64 - 64 < 64
  · rw [dif_neg h0, dif_neg h1, dif_pos h2]; exact key 2 _ (Fin.ext (by show 2 = r.val / 64; omega)) (Fin.ext (by show r.val - 64 - 64 = r.val % 64; omega))
  · rw [dif_neg h0, dif_neg h1, dif_neg h2]; exact key 3 _ (Fin.ext (by show 3 = r.val / 64; omega)) (Fin.ext (by show r.val - 64 - 64 - 64 = r.val % 64; omega))

/-- A row of the stack against whole rows: the sum over one head. -/
theorem dot_stack (f : Fin 256 → EReal) (x : FVec Ideal S64x256 .f32) (r : Fin 256) :
    ∑ c, f c * stack x (ix2 r c) = ∑ d, f (hl (hd r) d) * x (ix2 (low6 r) (hl (hd r) d)) := by
  rw [sum_head _ (hd r) (fun c hc => by rw [stack_at, if_neg hc, mul_zero])]
  exact Finset.sum_congr rfl fun d _ => by rw [stack_at, if_pos (hd_hl _ _)]

theorem scores_at (mask : IVec S64x256 1) (q k : FVec Ideal S64x256 .f32) (i : Fin 64) (r : Fin 256) (p : Prop) [Decidable p] (hm : mask (ix2 i r) = BitVec.ofBool (decide p)) :
    scores mask q k (ix2 i r) = if p then ∑ d, q (ix2 i (hl (hd r) d)) * k (ix2 (low6 r) (hl (hd r) d)) else 0 := by
  pointwise [scores]
  rw [hm, sel_bit, dot_stack]

theorem carried_at (q : FVec Ideal S64x256 .f32) (st : FVec Ideal S128x256 .f32) (i : Fin 64) (l : Fin 512) :
    carried q st (ix2 i l) = ∑ d, q (ix2 i (hl (vh l) d)) * st (ix2 (ve l) (hl (vh l) d)) := by
  have key : ∀ (r : Fin 256) (e : Fin 128) (_ : hd r = vh l) (_ : low6 r = i) (_ : e = ve l),
      ∑ c, stack q (ix2 r c) * st (ix2 e c) = ∑ d, q (ix2 i (hl (vh l) d)) * st (ix2 (ve l) (hl (vh l) d)) := by
    intro r e h1 h2 h3
    rw [Finset.sum_congr rfl fun c _ => mul_comm _ _, dot_stack, h1, h2, h3]
    exact Finset.sum_congr rfl fun d _ => mul_comm _ _
  pointwise [carried]
  split_ifs with h0 h1 h2 <;> refine key _ _ (Fin.ext ?_) (Fin.ext ?_) (Fin.ext ?_) <;> dsimp only <;> omega

theorem out_at (mask : IVec S64x256 1) (q k : FVec Ideal S64x256 .f32) (v : FVec Ideal S64x512 .f32) (st : FVec Ideal S128x256 .f32) (p : Fin 64 → Fin 64 → Prop) [∀ i s, Decidable (p i s)]
    (hm : ∀ i r, mask (ix2 i r) = BitVec.ofBool (decide (p i (low6 r)))) (i : Fin 64) (l : Fin 512) :
    chunkOut mask q k v st (ix2 i l) = ∑ s, (if p i s then ∑ d, q (ix2 i (hl (vh l) d)) * k (ix2 s (hl (vh l) d)) else 0) * v (ix2 s l)
      + ∑ d, q (ix2 i (hl (vh l) d)) * st (ix2 (ve l) (hl (vh l) d)) := by
  pointwise [chunkOut]
  rw [carried_at]
  refine congrArg (· + _) ?_
  rw [sum_head _ (vh l) (fun r hr => by rw [vstack_at, if_neg (Ne.symm hr), mul_zero])]
  refine Finset.sum_congr rfl fun s _ => ?_
  have hs : low6 (hl (vh l) s) = s := Fin.ext (by show (l.val / 128 * 64 + s.val) % 64 = s.val; omega)
  rw [vstack_at, scores_at _ _ _ _ _ _ (hm i _), hd_hl, if_pos rfl, hs]

theorem next_at (k : FVec Ideal S64x256 .f32) (v : FVec Ideal S64x512 .f32) (g : FVec Ideal S1x256 .f32) (st : FVec Ideal S128x256 .f32) (e : Fin 128) (c : Fin 256) :
    chunkNext k v g st (ix2 e c) = st (ix2 e c) * g (ix2 0 c) + ∑ i, k (ix2 i c) * g (ix2 0 c) * v (ix2 i (vl (hd c) e)) := by
  have key : ∀ (l : Fin 512) (_ : l = vl (hd c) e), ∑ x, v (ix2 x l) * (k (ix2 x c) * g (ix2 0 c)) = ∑ i, k (ix2 i c) * g (ix2 0 c) * v (ix2 i (vl (hd c) e)) := by
    intro l hl; subst hl; exact Finset.sum_congr rfl fun i _ => mul_comm _ _
  pointwise [chunkNext, shead, slanes]
  refine congrArg (fun z : EReal => st (ix2 e c) * g (ix2 0 c) + z) ?_
  rw [shr6, word_eq _ 0 (by omega) (by omega), word_eq _ 1 (by omega) (by omega), word_eq _ 2 (by omega) (by omega), word_eq _ 3 (by omega) (by omega),
    sel_bit, sel_bit, sel_bit, sel_bit]
  have hc : c.val / 64 = 0 ∨ c.val / 64 = 1 ∨ c.val / 64 = 2 ∨ c.val / 64 = 3 := by omega
  rcases hc with hc | hc | hc | hc
  · rw [if_pos hc, if_neg (by omega), if_neg (by omega), if_neg (by omega), add_zero, add_zero, add_zero]
    exact key _ (Fin.ext (by show e.val = c.val / 64 * 128 + e.val; omega))
  · rw [if_neg (by omega), if_pos hc, if_neg (by omega), if_neg (by omega), zero_add, add_zero, add_zero]
    exact key _ (Fin.ext (by show 128 + e.val = c.val / 64 * 128 + e.val; omega))
  · rw [if_neg (by omega), if_neg (by omega), if_pos hc, if_neg (by omega), zero_add, zero_add, add_zero]
    exact key _ (Fin.ext (by show 256 + e.val = c.val / 64 * 128 + e.val; omega))
  · rw [if_neg (by omega), if_neg (by omega), if_neg (by omega), if_pos hc, zero_add, zero_add, zero_add]
    exact key _ (Fin.ext (by show 384 + e.val = c.val / 64 * 128 + e.val; omega))

/-! ## The running sums -/

/-- A triangle of ones times real rows, rounded in three parts, is the sum over the triangle. -/
theorem runSum_at (tri : FVec Ideal S128x128 .bf16) (x : FVec Ideal S128x256 .f32) (hx : ∀ i c, IsReal (x (ix2 i c))) (p : Fin 128 → Fin 128 → Prop) [∀ i j, Decidable (p i j)]
    (ht : ∀ i j, tri (ix2 i j) = if p i j then 1 else 0) (i : Fin 128) (c : Fin 256) : runSum tri x (ix2 i c) = ∑ j, if p i j then x (ix2 j c) else 0 := by
  have z : ∀ j, x (ix2 j c) - x (ix2 j c) = 0 := fun j => by obtain ⟨r, hr⟩ := hx j c; rw [hr, ← EReal.coe_sub, sub_self]; rfl
  pointwise [runSum]
  simp only [z, sub_zero, ite_self, mul_zero, Finset.sum_const_zero, add_zero, ht, ite_mul, one_mul, zero_mul]

abbrev rowAt (h : Fin 4) (i : Fin 128) : Fin 512 := ⟨h.val * 128 + i.val, by omega⟩

theorem sums_at (tri : FVec Ideal S128x128 .bf16) (la : FVec Ideal S512x256 .f32) (hx : ∀ i c, IsReal (la (ix2 i c))) (p : Fin 128 → Fin 128 → Prop) [∀ i j, Decidable (p i j)]
    (ht : ∀ i j, tri (ix2 i j) = if p i j then 1 else 0) (i : Fin 512) (c : Fin 256) :
    sums tri la (ix2 i c) = ∑ j, if p (ve i) j then la (ix2 (rowAt (vh i) j) c) else 0 := by
  have key : ∀ (x : FVec Ideal S128x256 .f32) (r : Fin 128) (_ : r = ve i) (_ : ∀ j, x (ix2 j c) = la (ix2 (rowAt (vh i) j) c)) (_ : ∀ j c', IsReal (x (ix2 j c'))),
      runSum tri x (ix2 r c) = ∑ j, if p (ve i) j then la (ix2 (rowAt (vh i) j) c) else 0 := by
    intro x r hr hj h; subst hr
    rw [runSum_at tri x h p ht]
    exact Finset.sum_congr rfl fun j _ => by rw [hj]
  have sl : ∀ (o : ℕ) (hs : S512x256.Slices ![o, 0] S128x256) (j : Fin 128) (c' : Fin 256) (hb : o + j.val < 512),
      extractStridedSlice S128x256 ![o, 0] la hs (ix2 j c') = la (ix2 ⟨o + j.val, hb⟩ c') := by
    intro o hs j c' hb
    refine congrArg la (funext fun a => Fin.ext ?_)
    fin_cases a
    · rfl
    · exact Nat.zero_add _
  pointwise [sums]
  by_cases h0 : i.val < 128
  · rw [dif_pos h0]
    exact key _ _ (Fin.ext (by show i.val = i.val % 128; omega))
      (fun j => (sl 0 _ j c (by omega)).trans (congrArg (fun r => la (ix2 r c)) (Fin.ext (by show 0 + j.val = i.val / 128 * 128 + j.val; omega))))
      (fun j c' => by rw [sl 0 _ j c' (by omega)]; exact hx _ _)
  by_cases h1 : i.val - 128 < 128
  · rw [dif_neg h0, dif_pos h1]
    exact key _ _ (Fin.ext (by show i.val - 128 = i.val % 128; omega))
      (fun j => (sl 128 _ j c (by omega)).trans (congrArg (fun r => la (ix2 r c)) (Fin.ext (by show 128 + j.val = i.val / 128 * 128 + j.val; omega))))
      (fun j c' => by rw [sl 128 _ j c' (by omega)]; exact hx _ _)
  by_cases h2 : i.val - 128 - 128 < 128
  · rw [dif_neg h0, dif_neg h1, dif_pos h2]
    exact key _ _ (Fin.ext (by show i.val - 128 - 128 = i.val % 128; omega))
      (fun j => (sl 256 _ j c (by omega)).trans (congrArg (fun r => la (ix2 r c)) (Fin.ext (by show 256 + j.val = i.val / 128 * 128 + j.val; omega))))
      (fun j c' => by rw [sl 256 _ j c' (by omega)]; exact hx _ _)
  · rw [dif_neg h0, dif_neg h1, dif_neg h2]
    exact key _ _ (Fin.ext (by show i.val - 128 - 128 - 128 = i.val % 128; omega))
      (fun j => (sl 384 _ j c (by omega)).trans (congrArg (fun r => la (ix2 r c)) (Fin.ext (by show 384 + j.val = i.val / 128 * 128 + j.val; omega))))
      (fun j c' => by rw [sl 384 _ j c' (by omega)]; exact hx _ _)

end Cert.GlaFwdIdeal.Hand

end
-- ==== Proof.Scan.Walk.lean ====
module

public import proofs.«01_k».proof.Proof.Scan.Steps
public import proofs.«01_k».proof.Proof.Scan.Rows
public import proofs.«01_k».proof.Proof.Scan.Layer

/-! # A block of the forward scan walks the sequence's chunks

The rows of a chunk stand in the block in the order of the tokens; `σ` gives a row's place in the order of the scan, which
is the same order forwards and the opposite one backwards. -/

@[expose] public section

set_option maxRecDepth 16384

noncomputable section

open Idealize.ShloMosaic Idealize.ShloMosaic.TcCoe Idealize.SL.Sem

namespace Cert.GlaFwdIdeal.Hand
open Cert.GlaFwdIdeal Cert.GlaFwdIdeal.Gen Norm Scan

/-- A side's rows from `o`, with the total in row `e`, are a chunk's. -/
structure Fits (s : Side) (o e : ℕ) (ho : o + 64 ≤ 512) (he : e < 512) (C : Chunk) (σ : Equiv.Perm (Fin 64)) : Prop where
  q : ∀ (r : Fin 64) (c : Fin 256), s.q (ix2 ⟨o + r.val, by omega⟩ c) = C.qd (σ r) c
  k : ∀ (r : Fin 64) (c : Fin 256), s.k (ix2 ⟨o + r.val, by omega⟩ c) = C.kd (σ r) c
  v : ∀ (r : Fin 64) (l : Fin 512), s.v (ix2 ⟨o + r.val, by omega⟩ l) = C.v (σ r) l
  g : ∀ c : Fin 256, s.b (ix2 ⟨e, he⟩ c) = C.b 63 c
  real : ∀ i c, IsReal (C.b i c)

theorem slice_rows (x : FVec Ideal S512x256 .f32) (o : ℕ) (h : S512x256.Slices ![o, 0] S64x256) (r : Fin 64) (c : Fin 256) (hb : o + r.val < 512) :
    extractStridedSlice S64x256 ![o, 0] x h (ix2 r c) = x (ix2 ⟨o + r.val, hb⟩ c) := by
  refine congrArg x (funext fun a => Fin.ext ?_)
  fin_cases a
  · rfl
  · exact Nat.zero_add _
theorem slice_vals (x : FVec Ideal S512x512 .f32) (o : ℕ) (h : S512x512.Slices ![o, 0] S64x512) (r : Fin 64) (c : Fin 512) (hb : o + r.val < 512) :
    extractStridedSlice S64x512 ![o, 0] x h (ix2 r c) = x (ix2 ⟨o + r.val, hb⟩ c) := by
  refine congrArg x (funext fun a => Fin.ext ?_)
  fin_cases a
  · rfl
  · exact Nat.zero_add _
theorem g_at (s : Side) {o e : ℕ} (h : At o e) (he : e < 512) (c : Fin 256) : s.g h (ix2 0 c) = Ideal.exp (s.b (ix2 ⟨e, he⟩ c)) := by
  pointwise [Side.g]

section
variable {s : Side} {o e : ℕ} {ho : o + 64 ≤ 512} {he : e < 512} {C : Chunk} {σ : Equiv.Perm (Fin 64)}

theorem Fits.next (F : Fits s o e ho he C σ) (h : At o e) (st : FVec Ideal S128x256 .f32) (S : St) (hS : ∀ a c, st (ix2 a c) = S a c) (a : Fin 128) (c : Fin 256) :
    s.next h st (ix2 a c) = C.next S a c := by
  unfold Side.next
  rw [next_at, hS, g_at s h he, F.g]
  show _ = S a c * C.g c + C.u a c
  refine congrArg (S a c * C.g c + ·) ?_
  refine Eq.trans (Finset.sum_congr rfl fun r _ => ?_) (Equiv.sum_comp σ fun i => C.k i c * Ideal.exp (C.b 63 c - C.b i c) * C.v i (vl (hd c) a))
  rw [slice_rows _ _ _ _ _ (by omega), slice_vals _ _ _ _ _ (by omega), F.k, F.v]
  exact congrArg (· * C.v (σ r) (vl (hd c) a)) (C.kd_g F.real (σ r) c)

theorem Fits.out (F : Fits s o e ho he C σ) (h : At o e) (mask : IVec S64x256 1) (hm : ∀ i r, mask (ix2 i r) = BitVec.ofBool (decide (σ (low6 r) ≤ σ i)))
    (st : FVec Ideal S128x256 .f32) (S : St) (hS : ∀ a c, st (ix2 a c) = S a c) (i : Fin 64) (l : Fin 512) :
    s.out mask h st (ix2 i l) = C.o S (σ i) l := by
  unfold Side.out
  rw [out_at mask _ _ _ _ (fun i s => σ s ≤ σ i) hm]
  show _ = ∑ s, C.a (vh l) (σ i) s * C.v s l + ∑ d, C.qd (σ i) (hl (vh l) d) * S (ve l) (hl (vh l) d)
  refine Ideal.add_congr (Eq.trans (Finset.sum_congr rfl fun r _ => ?_) (Equiv.sum_comp σ fun s => C.a (vh l) (σ i) s * C.v s l)) (Finset.sum_congr rfl fun d _ => ?_)
  · rw [slice_vals _ _ _ _ _ (by omega), F.v]
    refine congrArg (· * C.v (σ r) l) ?_
    unfold Chunk.a
    refine if_congr Iff.rfl (Finset.sum_congr rfl fun d _ => ?_) rfl
    rw [slice_rows _ _ _ _ _ (by omega), slice_rows _ _ _ _ _ (by omega), F.q, F.k]
  · rw [slice_rows _ _ _ _ _ (by omega), F.q, hS]

end

/-- A sum over 128 rows of what lives on one half. -/
theorem sum_half (f : Fin 128 → EReal) (a : Fin 2) (hf : ∀ j, j.val / 64 ≠ a.val → f j = 0) : ∑ j, f j = ∑ i : Fin 64, f ⟨a.val * 64 + i.val, by omega⟩ := by
  have e : ∑ c : Fin 128, f c = ∑ g : Fin 2, ∑ d : Fin 64, f ⟨g.val * 64 + d.val, by omega⟩ := by
    rw [← Finset.sum_product', Finset.univ_product_univ]
    refine (Fintype.sum_equiv (finProdFinEquiv (m := 2) (n := 64)) _ _ fun p => ?_).symm
    refine congrArg f (Fin.ext ?_)
    show p.1.val * 64 + p.2.val = p.2.val + 64 * p.1.val
    omega
  rw [e]
  refine Finset.sum_eq_single a (fun g _ hg => Finset.sum_eq_zero fun d _ => hf _ ?_) (fun hh => absurd (Finset.mem_univ a) hh)
  intro h
  exact hg (Fin.ext (by have : (g.val * 64 + d.val) / 64 = g.val := by omega
                        exact this ▸ h))

/-- Rows from `o` of a block's arrays are a sequence's chunk `n`. -/
structure Holds (s : Seq) (n : Fin 128) (o : ℕ) (ho : o + 64 ≤ 512) (σ : Equiv.Perm (Fin 64)) (q k : FVec Ideal S512x256 .f32) (v : FVec Ideal S512x512 .f32) (la : FVec Ideal S512x256 .f32) : Prop where
  q : ∀ (r : Fin 64) (c : Fin 256), q (ix2 ⟨o + r.val, by omega⟩ c) * Ideal.ofBits .f32 0x3E000000#32 = s.q (tok n (σ r)) c
  k : ∀ (r : Fin 64) (c : Fin 256), k (ix2 ⟨o + r.val, by omega⟩ c) = s.k (tok n (σ r)) c
  v : ∀ (r : Fin 64) (l : Fin 512), v (ix2 ⟨o + r.val, by omega⟩ l) = s.v (tok n (σ r)) l
  la : ∀ (r : Fin 64) (c : Fin 256), la (ix2 ⟨o + r.val, by omega⟩ c) = s.la (tok n (σ r)) c

theorem sums_chunk {sq : Seq} {n : Fin 128} {j : ℕ} {ho : 64 * j + 64 ≤ 512} {σ : Equiv.Perm (Fin 64)} {q k : FVec Ideal S512x256 .f32} {v : FVec Ideal S512x512 .f32} {la : FVec Ideal S512x256 .f32}
    (H : Holds sq n (64 * j) ho σ q k v la) (tri : FVec Ideal S128x128 .bf16)
    (ht : ∀ a b, tri (ix2 a b) = if a.val / 64 = b.val / 64 ∧ σ ⟨b.val % 64, by omega⟩ ≤ σ ⟨a.val % 64, by omega⟩ then 1 else 0)
    (hx : ∀ i c, IsReal (la (ix2 i c))) (r : Fin 64) (c : Fin 256) :
    sums tri la (ix2 ⟨64 * j + r.val, by omega⟩ c) = (sq.chunk n).b (σ r) c := by
  rw [sums_at tri la hx (fun a b => a.val / 64 = b.val / 64 ∧ σ ⟨b.val % 64, by omega⟩ ≤ σ ⟨a.val % 64, by omega⟩) ht]
  rw [sum_half _ ⟨j % 2, by omega⟩ (fun b hb => if_neg (by
    rintro ⟨h1, -⟩
    have h2 : (64 * j + r.val) % 128 / 64 = b.val / 64 := h1
    have h3 : b.val / 64 ≠ j % 2 := hb
    omega))]
  show _ = ∑ i : Fin 64, if i ≤ σ r then sq.la (tok n i) c else 0
  refine Eq.trans (Finset.sum_congr rfl fun i _ => ?_) (Equiv.sum_comp σ fun i => if i ≤ σ r then sq.la (tok n i) c else 0)
  rw [← H.la i c]
  have e1 : (⟨(j % 2 * 64 + i.val) % 64, by omega⟩ : Fin 64) = i := Fin.ext (by show (j % 2 * 64 + i.val) % 64 = i.val; omega)
  have e2 : (⟨(64 * j + r.val) % 128 % 64, by omega⟩ : Fin 64) = r := Fin.ext (by show (64 * j + r.val) % 128 % 64 = r.val; omega)
  have e3 : (⟨(64 * j + r.val) / 128 * 128 + (j % 2 * 64 + i.val), by omega⟩ : Fin 512) = ⟨64 * j + i.val, by omega⟩ := Fin.ext (by show (64 * j + r.val) / 128 * 128 + (j % 2 * 64 + i.val) = 64 * j + i.val; omega)
  refine if_congr ?_ (congrArg (fun x => la (ix2 x c)) e3) rfl
  show (64 * j + r.val) % 128 / 64 = (j % 2 * 64 + i.val) / 64 ∧ σ ⟨(j % 2 * 64 + i.val) % 64, _⟩ ≤ σ ⟨(64 * j + r.val) % 128 % 64, _⟩ ↔ _
  rw [e1, e2]
  exact ⟨fun h => h.2, fun h => ⟨by omega, h⟩⟩

theorem decayed_at (q b : FVec Ideal S512x256 .f32) (i : Fin 512) (c : Fin 256) : decayed q b (ix2 i c) = q (ix2 i c) * Ideal.ofBits .f32 0x3E000000#32 * Ideal.exp (b (ix2 i c)) := by
  pointwise [decayed]
theorem grown_at (k b : FVec Ideal S512x256 .f32) (i : Fin 512) (c : Fin 256) : grown k b (ix2 i c) = k (ix2 i c) * Ideal.exp (-(b (ix2 i c))) := by
  pointwise [grown]
  rw [zero_sub]

theorem Holds.fits {sq : Seq} {n : Fin 128} {j : ℕ} {ho : 64 * j + 64 ≤ 512} {σ : Equiv.Perm (Fin 64)} {q k : FVec Ideal S512x256 .f32} {v : FVec Ideal S512x512 .f32} {la : FVec Ideal S512x256 .f32}
    (H : Holds sq n (64 * j) ho σ q k v la) (tri : FVec Ideal S128x128 .bf16)
    (ht : ∀ a b, tri (ix2 a b) = if a.val / 64 = b.val / 64 ∧ σ ⟨b.val % 64, by omega⟩ ≤ σ ⟨a.val % 64, by omega⟩ then 1 else 0)
    (hx : ∀ i c, IsReal (la (ix2 i c))) (hs : ∀ t c, IsReal (sq.la t c)) (e0 : Fin 64) (h0 : σ e0 = 63) :
    Fits (sideOf tri q k v la) (64 * j) (64 * j + e0.val) ho (by omega) (sq.chunk n) σ where
  q r c := by
    show decayed q (sums tri la) _ = sq.q (tok n (σ r)) c * Ideal.exp ((sq.chunk n).b (σ r) c)
    rw [decayed_at, sums_chunk H tri ht hx, H.q]
  k r c := by
    show grown k (sums tri la) _ = sq.k (tok n (σ r)) c * Ideal.exp (-((sq.chunk n).b (σ r) c))
    rw [grown_at, sums_chunk H tri ht hx, H.k]
  v r l := H.v r l
  g c := by rw [← h0]; exact sums_chunk H tri ht hx e0 c
  real := fun i c => sq.chunk_real hs n i c

end Cert.GlaFwdIdeal.Hand

end
-- ==== Proof.Scan.Inputs.lean ====
module

public import proofs.«01_k».proof.Proof.Scan.Walk
public import Idealize.ShloMosaic.Lib.KernelVsHost

/-! # What the blocks of the forward scan hold, in terms of the arguments -/

@[expose] public section

set_option maxRecDepth 16384

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen Norm Scan

variable (m : (ℓ : Loc nD τ sig) → Buf (Elt Ideal) ℓ) (c : Dev nD) (t : Fin cfg0.N)

/-- The arguments. -/
abbrev arg0 : FVec Ideal S8192x3104 .f32 := m ((c : Thread nD τ).loc main_arg0)
abbrev arg1 : FVec Ideal S16x256 .f32 := m ((c : Thread nD τ).loc main_arg1)
abbrev arg2 : FVec Ideal S1x256 .f32 := m ((c : Thread nD τ).loc main_arg2)
abbrev arg3 : FVec Ideal S16x256 .f32 := m ((c : Thread nD τ).loc main_arg3)
abbrev arg4 : FVec Ideal S1x256 .f32 := m ((c : Thread nD τ).loc main_arg4)

theorem idx : ∀ t : Fin cfg0.N, win0_0.index t = ![t.val, 6] ∧ win0_1.index t = ![t.val, 7] ∧ win0_2.index t = ![t.val, 4] ∧ win0_3.index t = ![t.val, 24]
    ∧ win0_4.index t = ![15 - t.val, 6] ∧ win0_5.index t = ![15 - t.val, 7] ∧ win0_6.index t = ![15 - t.val, 4] ∧ win0_7.index t = ![15 - t.val, 24]
    ∧ win0_8.index t = ![0, 0] ∧ win0_9.index t = ![0, 0] ∧ win0_10.index t = ![0, 0] ∧ win0_11.index t = ![0, 0]
    ∧ win0_12.index t = ![t.val, 0] ∧ win0_13.index t = ![t.val, 0, 0] ∧ win0_14.index t = ![15 - t.val, 0] ∧ win0_15.index t = ![15 - t.val, 0, 0] :=
  (by decide +kernel : ∀ t : Fin grid0.N, _)
theorem lt16 : t.val < 16 := N_0 ▸ t.isLt

/-! ## The host's padding -/

/-- The rows are padded on the right. -/
theorem padded : ∃ v : FVec Ideal S_ .f32, V m c main_v0 = pad S8192x3200 ![0, 0] ![0, 96] ![0, 0] (arg0 m c) v pads_S8192x3104_S8192x3200_000_0960 h_S_ := by
  refine ⟨sitofp .f32 (constantI S_ 32 0#32), ?_⟩
  show StableHlo.after (List.flatten [hostOps0, hostOps0_1, hostOps0_2]) (fun b => m (c, b)) (Proc.devRef .tc main_v0) = _
  simp only [List.flatten_cons, List.flatten_nil, hostOps0, hostOps0_1, hostOps0_2, List.cons_append, List.nil_append]
  after_results
  rfl
/-- The padded rows. -/
abbrev Z (s : Fin 8192) (n : Fin 3200) : EReal := (V m c main_v0 : FVec Ideal S8192x3200 .f32) (ix2 s n)
theorem Z_at (s : Fin 8192) (n : ℕ) (hn : n < 3104) : Z m c s ⟨n, by omega⟩ = arg0 m c (ix2 s ⟨n, hn⟩) := by
  obtain ⟨v, hv⟩ := padded m c
  unfold Z
  rw [hv]
  refine pad_apply_of_inside _ _ _ _ _ _ _ _ (ix2 s ⟨n, hn⟩) fun a => ?_
  fin_cases a
  · show s.val = 0 + s.val * (0 + 1); omega
  · show n = 0 + n * (0 + 1); omega
theorem wide_f_eq : V m c main_v4 = concatenate S128x256 0 [⟨S0x256, broadcastInDim S0x256 ![] bcast_S_S0x256 (constant (F := Ideal) S_ .bf16 0x0000#16)⟩,
    ⟨S16x256, truncf .bf16 (arg1 m c) bitsLt_bf16_f32⟩, ⟨S112x256, broadcastInDim S112x256 ![] bcast_S_S112x256 (constant (F := Ideal) S_ .bf16 0x0000#16)⟩] concatenates_S0x256_S16x256_S112x256_S128x256_d0 := by
  show StableHlo.after (List.flatten [hostOps0, hostOps0_1, hostOps0_2]) (fun b => m (c, b)) (Proc.devRef .tc main_v4) = _
  simp only [List.flatten_cons, List.flatten_nil, hostOps0, hostOps0_1, hostOps0_2, List.cons_append, List.nil_append]
  after_results
  rfl
theorem wide_r_eq : V m c main_v8 = concatenate S128x256 0 [⟨S16x256, broadcastInDim S16x256 ![] bcast_S_S16x256 (constant (F := Ideal) S_ .bf16 0x0000#16)⟩,
    ⟨S16x256, truncf .bf16 (arg3 m c) bitsLt_bf16_f32⟩, ⟨S96x256, broadcastInDim S96x256 ![] bcast_S_S96x256 (constant (F := Ideal) S_ .bf16 0x0000#16)⟩] concatenates_S16x256_S16x256_S96x256_S128x256_d0 := by
  show StableHlo.after (List.flatten [hostOps0, hostOps0_1, hostOps0_2]) (fun b => m (c, b)) (Proc.devRef .tc main_v8) = _
  simp only [List.flatten_cons, List.flatten_nil, hostOps0, hostOps0_1, hostOps0_2, List.cons_append, List.nil_append]
  after_results
  rfl

/-! ## The blocks -/

/-- The token of row `r` of block `b`. -/
abbrev at_ (b : ℕ) (hb : b < 16) (r : Fin 512) : Fin 8192 := ⟨b * 512 + r.val, by omega⟩
abbrev tF (r : Fin 512) : Fin 8192 := at_ t.val (lt16 t) r
abbrev tR (r : Fin 512) : Fin 8192 := at_ (15 - t.val) (by omega) r

theorem blk_q (r : Fin 512) (j : Fin 256) : (X0_0 m c t : FVec Ideal S512x256 .f32) (ix2 r j) = Z m c (tF t r) ⟨1536 + j.val, by omega⟩ := by
  unfold X0_0 Pipeline.Window.fill
  rw [dif_pos (moved0_0 t _)]
  show View.read (Elt Ideal) ((cfg0.win 0).blk t).view (V m c main_v0) _ = V m c main_v0 _
  generalize V m c main_v0 = A
  blk_ext! [idx t]
theorem blk_k (r : Fin 512) (j : Fin 256) : (X0_1 m c t : FVec Ideal S512x256 .f32) (ix2 r j) = Z m c (tF t r) ⟨1792 + j.val, by omega⟩ := by
  unfold X0_1 Pipeline.Window.fill
  rw [dif_pos (moved0_1 t _)]
  show View.read (Elt Ideal) ((cfg0.win 1).blk t).view (V m c main_v0) _ = V m c main_v0 _
  generalize V m c main_v0 = A
  blk_ext! [idx t]
theorem blk_v (r : Fin 512) (j : Fin 512) : (X0_2 m c t : FVec Ideal S512x512 .f32) (ix2 r j) = Z m c (tF t r) ⟨2048 + j.val, by omega⟩ := by
  unfold X0_2 Pipeline.Window.fill
  rw [dif_pos (moved0_2 t _)]
  show View.read (Elt Ideal) ((cfg0.win 2).blk t).view (V m c main_v0) _ = V m c main_v0 _
  generalize V m c main_v0 = A
  blk_ext! [idx t]
theorem blk_lr (r : Fin 512) (j : Fin 128) : (iblk m c 3 t : FVec Ideal S512x128 .f32) (ix2 r j) = Z m c (tF t r) ⟨3072 + j.val, by omega⟩ := by
  show View.read (Elt Ideal) ((cfg0.win 3).blk t).view (V m c main_v0) _ = V m c main_v0 _
  generalize V m c main_v0 = A
  blk_ext! [idx t]
theorem blk_q' (r : Fin 512) (j : Fin 256) : (X0_4 m c t : FVec Ideal S512x256 .f32) (ix2 r j) = Z m c (tR t r) ⟨1536 + j.val, by omega⟩ := by
  unfold X0_4 Pipeline.Window.fill
  rw [dif_pos (moved0_4 t _)]
  show View.read (Elt Ideal) ((cfg0.win 4).blk t).view (V m c main_v0) _ = V m c main_v0 _
  generalize V m c main_v0 = A
  blk_ext! [idx t]
theorem blk_k' (r : Fin 512) (j : Fin 256) : (X0_5 m c t : FVec Ideal S512x256 .f32) (ix2 r j) = Z m c (tR t r) ⟨1792 + j.val, by omega⟩ := by
  unfold X0_5 Pipeline.Window.fill
  rw [dif_pos (moved0_5 t _)]
  show View.read (Elt Ideal) ((cfg0.win 5).blk t).view (V m c main_v0) _ = V m c main_v0 _
  generalize V m c main_v0 = A
  blk_ext! [idx t]
theorem blk_v' (r : Fin 512) (j : Fin 512) : (X0_6 m c t : FVec Ideal S512x512 .f32) (ix2 r j) = Z m c (tR t r) ⟨2048 + j.val, by omega⟩ := by
  unfold X0_6 Pipeline.Window.fill
  rw [dif_pos (moved0_6 t _)]
  show View.read (Elt Ideal) ((cfg0.win 6).blk t).view (V m c main_v0) _ = V m c main_v0 _
  generalize V m c main_v0 = A
  blk_ext! [idx t]
theorem blk_lr' (r : Fin 512) (j : Fin 128) : (iblk m c 7 t : FVec Ideal S512x128 .f32) (ix2 r j) = Z m c (tR t r) ⟨3072 + j.val, by omega⟩ := by
  show View.read (Elt Ideal) ((cfg0.win 7).blk t).view (V m c main_v0) _ = V m c main_v0 _
  generalize V m c main_v0 = A
  blk_ext! [idx t]
theorem blk_w : iblk m c 8 t = V m c main_v4 := by
  show View.read (Elt Ideal) ((cfg0.win 8).blk t).view (V m c main_v4) = V m c main_v4
  generalize V m c main_v4 = A
  blk_ext! [idx t]
theorem blk_b : iblk m c 9 t = arg2 m c := by
  refine Eq.trans ?_ (V_main_arg2 m c)
  show View.read (Elt Ideal) ((cfg0.win 9).blk t).view (V m c main_arg2) = V m c main_arg2
  generalize V m c main_arg2 = A
  blk_ext! [idx t]
theorem blk_w' : iblk m c 10 t = V m c main_v8 := by
  show View.read (Elt Ideal) ((cfg0.win 10).blk t).view (V m c main_v8) = V m c main_v8
  generalize V m c main_v8 = A
  blk_ext! [idx t]
theorem blk_b' : iblk m c 11 t = arg4 m c := by
  refine Eq.trans ?_ (V_main_arg4 m c)
  show View.read (Elt Ideal) ((cfg0.win 11).blk t).view (V m c main_arg4) = V m c main_arg4
  generalize V m c main_arg4 = A
  blk_ext! [idx t]

/-! Every result's blocks tile its array. -/

theorem arr12 (A : S8192x512.Idx → EReal) (h : ∀ (t : Fin cfg0.N) (r : Fin 512) (j : Fin 512), (outsAt0 m c t.val t.isLt).1 (ix2 r j) = A (ix2 (tF t r) j)) :
    (dats m 0 c).arrAt 12 cfg0.N = A := by
  refine (dats m 0 c).arrAt_eq_of_covers 12 _ (by decide +kernel) fun t _ y => ?_
  blk_simp
  rw [after0_12]
  refine (congrArg _ (by blk_ext)).trans ((h t (y 0) (y 1)).trans (congrArg A ?_))
  blk_ext [idx t]
theorem arr14 (A : S8192x512.Idx → EReal) (h : ∀ (t : Fin cfg0.N) (r : Fin 512) (j : Fin 512), (outsAt0 m c t.val t.isLt).2.2.1 (ix2 r j) = A (ix2 (tR t r) j)) :
    (dats m 0 c).arrAt 14 cfg0.N = A := by
  refine (dats m 0 c).arrAt_eq_of_covers 14 _ (by decide +kernel) fun t _ y => ?_
  blk_simp
  rw [after0_14]
  refine (congrArg _ (by blk_ext)).trans ((h t (y 0) (y 1)).trans (congrArg A ?_))
  blk_ext [idx t]
/-- Chunk `i` of block `b`. -/
abbrev ck (b : ℕ) (hb : b < 16) (i : Fin 8) : Fin 128 := ⟨b * 8 + i.val, by omega⟩
theorem arr13 (A : S128x128x256.Idx → EReal) (h : ∀ (t : Fin cfg0.N) (i : Fin 8) (e : Fin 128) (j : Fin 256), (outsAt0 m c t.val t.isLt).2.1 (ix3 i e j) = A (ix3 (ck t.val (lt16 t) i) e j)) :
    (dats m 0 c).arrAt 13 cfg0.N = A := by
  refine (dats m 0 c).arrAt_eq_of_covers 13 _ (by decide +kernel) fun t _ y => ?_
  blk_simp
  rw [after0_13]
  refine (congrArg _ (by blk_ext)).trans ((h t (y 0) (y 1) (y 2)).trans (congrArg A ?_))
  blk_ext [idx t]
theorem arr15 (A : S128x128x256.Idx → EReal) (h : ∀ (t : Fin cfg0.N) (i : Fin 8) (e : Fin 128) (j : Fin 256), (outsAt0 m c t.val t.isLt).2.2.2.1 (ix3 i e j) = A (ix3 (ck (15 - t.val) (by omega) i) e j)) :
    (dats m 0 c).arrAt 15 cfg0.N = A := by
  refine (dats m 0 c).arrAt_eq_of_covers 15 _ (by decide +kernel) fun t _ y => ?_
  blk_simp
  rw [after0_15]
  refine (congrArg _ (by blk_ext)).trans ((h t (y 0) (y 1) (y 2)).trans (congrArg A ?_))
  blk_ext [idx t]

end Cert.GlaFwdIdeal.Hand

end
-- ==== Proof.Scan.Gate.lean ====
module

public import proofs.«01_k».proof.Proof.Scan.Inputs

/-! # The gates' log decays, and the sides of a block as chunks of the sequence -/

@[expose] public section

set_option maxRecDepth 16384

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen Norm Scan

/-! ## A log decay of a real number -/

theorem absf_real (y : ℝ) : FloatOps.absf (F := Ideal) (φ := .f32) (y : EReal) = ((|y| : ℝ) : EReal) := by
  show max (y : EReal) (-(y : EReal)) = _
  rw [← EReal.coe_neg]
  exact (EReal.coe_strictMono.monotone.map_max).symm
theorem log_one_exp (y : ℝ) : Ideal.log (1 + Ideal.exp (y : EReal)) = ((Real.log (1 + Real.exp y) : ℝ) : EReal) := by
  have h : (0 : ℝ) < 1 + Real.exp y := by positivity
  rw [Ideal.exp_coe, ← EReal.coe_one, ← EReal.coe_add, Ideal.log_coe, if_neg (not_le.mpr h)]
theorem sixteen : Ideal.ofBits .f32 0x41800000#32 = ((16 : ℝ) : EReal) := by
  simp [Ideal.ofBits, Ideal.ieee]; rw [← EReal.coe_mul]; congr 1; norm_num
theorem sixteenth : Ideal.ofBits .f32 0x3D800000#32 = ((1 / 16 : ℝ) : EReal) := by
  simp [Ideal.ofBits, Ideal.ieee]; rw [← EReal.coe_mul]; congr 1; norm_num
/-- Both spellings of the logistic function's logarithm. -/
theorem lam_coe (y : ℝ) : lam (y : EReal) = ((-(max (-y) 0 + Real.log (1 + Real.exp (-|y|))) * (1 / 16) : ℝ) : EReal) := by
  unfold lam
  rw [sixteen, Ideal.div_coe (by norm_num), ← EReal.coe_neg, absf_real, abs_neg, ← EReal.coe_neg]
  show -(max ((-y : ℝ) : EReal) ((0 : ℝ) : EReal) + Ideal.log (1 + Ideal.exp ((-|y| : ℝ) : EReal))) * ((1 / 16 : ℝ) : EReal) = _
  rw [log_one_exp, ← EReal.coe_strictMono.monotone.map_max, ← EReal.coe_add, ← EReal.coe_neg, ← EReal.coe_mul]
theorem lam_real {y : EReal} (h : IsReal y) : IsReal (lam y) := by
  obtain ⟨y, rfl⟩ := h
  exact ⟨_, lam_coe y⟩
theorem lam_eq {y : EReal} (h : IsReal y) : (min y 0 - Ideal.log (1 + Ideal.exp (0 - FloatOps.absf (F := Ideal) (φ := .f32) y))) * Ideal.ofBits .f32 0x3D800000#32 = lam y := by
  obtain ⟨y, rfl⟩ := h
  rw [lam_coe, sixteenth, absf_real, zero_sub, ← EReal.coe_neg, log_one_exp]
  show (min (y : EReal) ((0 : ℝ) : EReal) - _) * _ = _
  rw [← EReal.coe_strictMono.monotone.map_min, ← EReal.coe_sub, ← EReal.coe_mul]
  refine congrArg _ ?_
  have e : min y 0 = -max (-y) 0 := by
    rcases le_total y 0 with h | h
    · rw [min_eq_left h, max_eq_left (by linarith), neg_neg]
    · rw [min_eq_right h, max_eq_right (by linarith), neg_zero]
  rw [e]; ring

/-! ## A gate's row, from 128 lanes of which 16 count -/

theorem sum_lanes (f : Fin 128 → EReal) (g : Fin 16 → EReal) (o : ℕ) (ho : o + 16 ≤ 128) (h : ∀ x : Fin 16, f ⟨o + x.val, by omega⟩ = g x)
    (h0 : ∀ x : Fin 128, ¬(o ≤ x.val ∧ x.val < o + 16) → f x = 0) : ∑ x, f x = ∑ x, g x := by
  let e : Fin 16 ↪ Fin 128 := ⟨fun x => ⟨o + x.val, by omega⟩, fun a b hab => Fin.ext (by have := congrArg Fin.val hab; simpa using this)⟩
  rw [← Finset.sum_subset (Finset.subset_univ (Finset.univ.map e)) (fun x _ hx => h0 x fun ⟨h1, h2⟩ => hx (Finset.mem_map.mpr ⟨⟨x.val - o, by omega⟩, Finset.mem_univ _, Fin.ext (by show o + (x.val - o) = x.val; omega)⟩)), Finset.sum_map]
  exact Finset.sum_congr rfl fun x _ => h x
theorem logs_at (lr : FVec Ideal S512x128 .f32) (w : FVec Ideal S128x256 .bf16) (bias : FVec Ideal S1x256 .f32) (r : Fin 512) (d : Fin 256) (y : EReal)
    (hy : ∑ x, lr (ix2 r x) * w (ix2 x d) + bias (ix2 0 d) = y) (hr : IsReal y) : logs lr w bias (ix2 r d) = lam y := by
  rw [← lam_eq hr, ← hy]
  pointwise [logs, k0_pay7]

/-! The triangles of ones, in the order of the scan. -/

theorem order_f (a b : Fin 128) : triF (ix2 a b) = if a.val / 64 = b.val / 64 ∧ (1 : Equiv.Perm (Fin 64)) ⟨b.val % 64, by omega⟩ ≤ (1 : Equiv.Perm (Fin 64)) ⟨a.val % 64, by omega⟩ then 1 else 0 := by
  refine (tri_f a b).trans (if_congr (and_congr_right fun h => ?_) rfl rfl)
  show _ ↔ b.val % 64 ≤ a.val % 64
  omega
theorem order_r (a b : Fin 128) : triR (ix2 a b) = if a.val / 64 = b.val / 64 ∧ Fin.revPerm (⟨b.val % 64, by omega⟩ : Fin 64) ≤ Fin.revPerm ⟨a.val % 64, by omega⟩ then 1 else 0 := by
  refine (tri_r a b).trans (if_congr (and_congr_right fun h => ?_) rfl rfl)
  rw [Fin.revPerm_apply, Fin.revPerm_apply, Fin.rev_le_rev]
  show _ ↔ a.val % 64 ≤ b.val % 64
  omega

variable (m : (ℓ : Loc nD τ sig) → Buf (Elt Ideal) ℓ) (c : Dev nD) (t : Fin cfg0.N)

theorem wide_f (x : Fin 128) (d : Fin 256) : (V m c main_v4 : FVec Ideal S128x256 .bf16) (ix2 x d) = if h : x.val < 16 then arg1 m c (ix2 ⟨x.val, h⟩ d) else 0 := by
  rw [wide_f_eq]
  generalize arg1 m c = w
  pointwise []
  exact dif_neg (Nat.not_lt_zero _)
theorem wide_r (x : Fin 128) (d : Fin 256) : (V m c main_v8 : FVec Ideal S128x256 .bf16) (ix2 x d) = if h : x.val < 16 then 0 else if h : x.val - 16 < 16 then arg3 m c (ix2 ⟨x.val - 16, h⟩ d) else 0 := by
  rw [wide_r_eq]
  generalize arg3 m c = w
  pointwise []

/-- The sequences of the two directions. -/
def sq (d : Fin 2) : Seq := seqOf (fun t j => arg0 m c (ix2 t j)) (fun x j => (if d = 0 then arg1 m c else arg3 m c) (ix2 x j)) (fun j => (if d = 0 then arg2 m c else arg4 m c) (ix2 0 j)) d

/-- The gate's codes, weights and biases hold real numbers. -/
structure Real' : Prop where
  z : ∀ (s : Fin 8192) (k : Fin 3104), 3072 ≤ k.val → IsReal (arg0 m c (ix2 s k))
  wf : ∀ i, IsReal (arg1 m c i)
  bf : ∀ i, IsReal (arg2 m c i)
  wr : ∀ i, IsReal (arg3 m c i)
  br : ∀ i, IsReal (arg4 m c i)

variable {m c}
section
variable (hr : Real' m c)
include hr

/-- A gate's row of a token. -/
theorem row_real_f (s : Fin 8192) (j : Fin 256) : IsReal (∑ x : Fin 16, arg0 m c (ix2 s ⟨3072 + 0 * 16 + x.val, by omega⟩) * arg1 m c (ix2 x j) + arg2 m c (ix2 0 j)) :=
  IsReal.add (IsReal.sum _ fun x => IsReal.mul (hr.z s _ (by show 3072 ≤ 3072 + _ + x.val; omega)) (hr.wf _)) (hr.bf _)
theorem row_real_r (s : Fin 8192) (j : Fin 256) : IsReal (∑ x : Fin 16, arg0 m c (ix2 s ⟨3072 + 1 * 16 + x.val, by omega⟩) * arg3 m c (ix2 x j) + arg4 m c (ix2 0 j)) :=
  IsReal.add (IsReal.sum _ fun x => IsReal.mul (hr.z s _ (by show 3072 ≤ 3072 + _ + x.val; omega)) (hr.wr _)) (hr.br _)
theorem la_real (d : Fin 2) (s : Fin 8192) (j : Fin 256) : IsReal ((sq m c d).la s j) := by
  match d with
  | 0 => exact lam_real (row_real_f hr _ j)
  | 1 => exact lam_real (row_real_r hr _ j)

theorem logs_f_at (r : Fin 512) (j : Fin 256) : logs (iblk m c 3 t) (iblk m c 8 t) (iblk m c 9 t) (ix2 r j) = (sq m c 0).la (tF t r) j := by
  refine logs_at _ _ _ _ _ _ ?_ (row_real_f hr (tF t r) j)
  rw [blk_b m c t, blk_w m c t]
  refine congrArg (· + arg2 m c (ix2 0 j)) (sum_lanes _ _ 0 (by omega) (fun x => ?_) fun x hx => ?_)
  · rw [blk_lr, wide_f, dif_pos (by show 0 + x.val < 16; omega), Z_at m c _ _ (by show 3072 + (0 + x.val) < 3104; omega)]
    refine Ideal.mul_congr (congrArg (fun y => arg0 m c (ix2 _ y)) (Fin.ext ?_)) (congrArg (fun y => arg1 m c (ix2 y j)) (Fin.ext (Nat.zero_add _)))
    show 3072 + (0 + x.val) = 3072 + 0 * 16 + x.val; omega
  · rw [wide_f, dif_neg (by omega), mul_zero]
theorem logs_r_at (r : Fin 512) (j : Fin 256) : logs (iblk m c 7 t) (iblk m c 10 t) (iblk m c 11 t) (ix2 r j) = (sq m c 1).la (tR t r).rev j := by
  have e : dir 1 (tR t r).rev = tR t r := by show (tR t r).rev.rev = _; exact Fin.rev_rev _
  have e' : (sq m c 1).la (tR t r).rev j = lam (∑ x : Fin 16, arg0 m c (ix2 (tR t r) ⟨3072 + 1 * 16 + x.val, by omega⟩) * arg3 m c (ix2 x j) + arg4 m c (ix2 0 j)) := by
    show lam (∑ x : Fin 16, arg0 m c (ix2 (dir 1 (tR t r).rev) ⟨3072 + 1 * 16 + x.val, by omega⟩) * arg3 m c (ix2 x j) + arg4 m c (ix2 0 j)) = _
    rw [e]
  rw [e']
  refine logs_at _ _ _ _ _ _ ?_ (row_real_r hr (tR t r) j)
  rw [blk_b' m c t, blk_w' m c t]
  refine congrArg (· + arg4 m c (ix2 0 j)) (sum_lanes _ _ 16 (by omega) (fun x => ?_) fun x hx => ?_)
  · rw [blk_lr', wide_r, dif_neg (by show ¬(16 + x.val < 16); omega), dif_pos (by show 16 + x.val - 16 < 16; omega), Z_at m c _ _ (by show 3072 + (16 + x.val) < 3104; omega)]
    refine Ideal.mul_congr (congrArg (fun y => arg0 m c (ix2 _ y)) (Fin.ext ?_)) (congrArg (fun y => arg3 m c (ix2 y j)) (Fin.ext (Nat.add_sub_cancel_left _ _)))
    show 3072 + (16 + x.val) = 3072 + 1 * 16 + x.val; omega
  · rw [wide_r]
    split_ifs with h1 h2
    · exact mul_zero _
    · omega
    · exact mul_zero _

/-! ## The sides of block `t` -/

/-- The chunk of the scan which is the block's `i`-th, and its rows' places in the order of the scan. -/
theorem holds_f (i : Fin 8) : Holds (sq m c 0) (ck t.val (lt16 t) i) (64 * i.val) (by omega) 1 (X0_0 m c t) (X0_1 m c t) (X0_2 m c t) (logs (iblk m c 3 t) (iblk m c 8 t) (iblk m c 9 t)) := by
  have e : ∀ r : Fin 64, tF t ⟨64 * i.val + r.val, by omega⟩ = tok (ck t.val (lt16 t) i) r := fun r => Fin.ext (by show t.val * 512 + (64 * i.val + r.val) = (t.val * 8 + i.val) * 64 + r.val; omega)
  refine ⟨fun r j => ?_, fun r j => ?_, fun r j => ?_, fun r j => ?_⟩
  · rw [blk_q, Z_at m c _ _ (by omega), e]; rfl
  · rw [blk_k, Z_at m c _ _ (by omega), e]; rfl
  · rw [blk_v, Z_at m c _ _ (by omega), e]; rfl
  · rw [logs_f_at t hr, e]; rfl
theorem holds_r (i : Fin 8) : Holds (sq m c 1) (ck t.val (lt16 t) i) (64 * (7 - i.val)) (by omega) Fin.revPerm (X0_4 m c t) (X0_5 m c t) (X0_6 m c t) (logs (iblk m c 7 t) (iblk m c 10 t) (iblk m c 11 t)) := by
  have ht := lt16 t
  have e : ∀ r : Fin 64, tR t ⟨64 * (7 - i.val) + r.val, by omega⟩ = (tok (ck t.val (lt16 t) i) r.rev).rev := fun r => Fin.ext (by
    rw [Fin.val_rev]
    show (15 - t.val) * 512 + (64 * (7 - i.val) + r.val) = 8192 - ((t.val * 8 + i.val) * 64 + r.rev.val + 1)
    rw [Fin.val_rev]; omega)
  refine ⟨fun r j => ?_, fun r j => ?_, fun r j => ?_, fun r j => ?_⟩
  · rw [blk_q', Z_at m c _ _ (by omega), e]; rfl
  · rw [blk_k', Z_at m c _ _ (by omega), e]; rfl
  · rw [blk_v', Z_at m c _ _ (by omega), e]; rfl
  · rw [logs_r_at t hr, e, Fin.rev_rev]; rfl

theorem fits_f (i : Fin 8) : Fits (sideF m c t) (64 * i.val) (64 * i.val + 63) (by omega) (by omega) ((sq m c 0).chunk (ck t.val (lt16 t) i)) 1 :=
  (holds_f t hr i).fits triF order_f (fun r j => by rw [logs_f_at t hr]; exact la_real hr 0 _ _) (la_real hr 0) 63 rfl
theorem fits_r (i : Fin 8) : Fits (sideR m c t) (64 * (7 - i.val)) (64 * (7 - i.val) + 0) (by omega) (by omega) ((sq m c 1).chunk (ck t.val (lt16 t) i)) Fin.revPerm :=
  (holds_r t hr i).fits triR order_r (fun r j => by rw [logs_r_at t hr]; exact la_real hr 1 _ _) (la_real hr 1) 0 rfl
end

end Cert.GlaFwdIdeal.Hand

end
-- ==== Proof.Scan.Results.lean ====
module

public import proofs.«01_k».proof.Proof.Scan.Gate

/-! # The results of the forward scan

The states before each chunk and each chunk's outputs, grid point by grid point, are the sequence's. -/

@[expose] public section

set_option maxRecDepth 16384

noncomputable section

open Idealize.ShloMosaic Idealize.ShloMosaic.TcCoe Idealize.SL.Sem
open Idealize.ShloMosaic.Pipeline (Dat)

namespace Cert.GlaFwdIdeal.Hand
open Cert.GlaFwdIdeal Cert.GlaFwdIdeal.Gen Norm Scan

/-! ## The chunks of a block, numbered -/

theorem at_f : ∀ i : Fin 8, At (64 * i.val) (64 * i.val + 63)
  | 0 => at_f0
  | 1 => at_f1
  | 2 => at_f2
  | 3 => at_f3
  | 4 => at_f4
  | 5 => at_f5
  | 6 => at_f6
  | 7 => at_f7
theorem at_r : ∀ i : Fin 8, At (64 * (7 - i.val)) (64 * (7 - i.val) + 0)
  | 0 => at_r0
  | 1 => at_r1
  | 2 => at_r2
  | 3 => at_r3
  | 4 => at_r4
  | 5 => at_r5
  | 6 => at_r6
  | 7 => at_r7
theorem forwards_succ (s : Side) (st : FVec Ideal S128x256 .f32) : ∀ i : Fin 8, s.forwards st (i.val + 1) = s.next (at_f i) (s.forwards st i.val)
  | 0 => by rw [show (0 : Fin 8).val + 1 = 1 from rfl, Side.forwards]; rfl
  | 1 => by rw [show (1 : Fin 8).val + 1 = 2 from rfl, Side.forwards]; rfl
  | 2 => by rw [show (2 : Fin 8).val + 1 = 3 from rfl, Side.forwards]; rfl
  | 3 => by rw [show (3 : Fin 8).val + 1 = 4 from rfl, Side.forwards]; rfl
  | 4 => by rw [show (4 : Fin 8).val + 1 = 5 from rfl, Side.forwards]; rfl
  | 5 => by rw [show (5 : Fin 8).val + 1 = 6 from rfl, Side.forwards]; rfl
  | 6 => by rw [show (6 : Fin 8).val + 1 = 7 from rfl, Side.forwards]; rfl
  | 7 => by rw [show (7 : Fin 8).val + 1 = 8 from rfl, Side.forwards]; rfl
theorem backwards_succ (s : Side) (st : FVec Ideal S128x256 .f32) : ∀ i : Fin 8, s.backwards st (i.val + 1) = s.next (at_r i) (s.backwards st i.val)
  | 0 => by rw [show (0 : Fin 8).val + 1 = 1 from rfl, Side.backwards]; rfl
  | 1 => by rw [show (1 : Fin 8).val + 1 = 2 from rfl, Side.backwards]; rfl
  | 2 => by rw [show (2 : Fin 8).val + 1 = 3 from rfl, Side.backwards]; rfl
  | 3 => by rw [show (3 : Fin 8).val + 1 = 4 from rfl, Side.backwards]; rfl
  | 4 => by rw [show (4 : Fin 8).val + 1 = 5 from rfl, Side.backwards]; rfl
  | 5 => by rw [show (5 : Fin 8).val + 1 = 6 from rfl, Side.backwards]; rfl
  | 6 => by rw [show (6 : Fin 8).val + 1 = 7 from rfl, Side.backwards]; rfl
  | 7 => by rw [show (7 : Fin 8).val + 1 = 8 from rfl, Side.backwards]; rfl

/-! ## The stored pieces, read at a row -/

theorem outsF_at (s : Side) (st : FVec Ideal S128x256 .f32) (G : Fin 512 → Fin 512 → EReal)
    (key : ∀ (i : Fin 8) (a : Fin 64) (l : Fin 512), s.out maskF (at_f i) (s.forwards st i.val) (ix2 a l) = G ⟨64 * i.val + a.val, by omega⟩ l) (r l : Fin 512) :
    View.canon (outsF s st) (ix2 r l) = G r l := by
  have row : ∀ (i : Fin 8) (a : Fin 64) (k : Fin 512), r.val = 64 * i.val + a.val → l.val = k.val → s.out maskF (at_f i) (s.forwards st i.val) (ix2 a k) = G r l := by
    intro i a k e1 e2
    obtain rfl : l = k := Fin.ext e2
    exact (key i a l).trans (congrArg (G · l) (Fin.ext e1.symm))
  unfold outsF
  canon_tiles x hx
  · exact (congrArg _ (show x = ix2 (x 0) (x 1) by blk_ext)).trans (row 7 (x 0) (x 1) (by simpa using hx0) (by simpa using hx1))
  · exact (congrArg _ (show x = ix2 (x 0) (x 1) by blk_ext)).trans (row 6 (x 0) (x 1) (by simpa using hx0) (by simpa using hx1))
  · exact (congrArg _ (show x = ix2 (x 0) (x 1) by blk_ext)).trans (row 5 (x 0) (x 1) (by simpa using hx0) (by simpa using hx1))
  · exact (congrArg _ (show x = ix2 (x 0) (x 1) by blk_ext)).trans (row 4 (x 0) (x 1) (by simpa using hx0) (by simpa using hx1))
  · exact (congrArg _ (show x = ix2 (x 0) (x 1) by blk_ext)).trans (row 3 (x 0) (x 1) (by simpa using hx0) (by simpa using hx1))
  · exact (congrArg _ (show x = ix2 (x 0) (x 1) by blk_ext)).trans (row 2 (x 0) (x 1) (by simpa using hx0) (by simpa using hx1))
  · exact (congrArg _ (show x = ix2 (x 0) (x 1) by blk_ext)).trans (row 1 (x 0) (x 1) (by simpa using hx0) (by simpa using hx1))
  · exact (congrArg _ (show x = ix2 (x 0) (x 1) by blk_ext)).trans (row 0 (x 0) (x 1) (by simpa using hx0) (by simpa using hx1))
theorem outsR_at (s : Side) (st : FVec Ideal S128x256 .f32) (G : Fin 512 → Fin 512 → EReal)
    (key : ∀ (i : Fin 8) (a : Fin 64) (l : Fin 512), s.out maskR (at_r i) (s.backwards st i.val) (ix2 a l) = G ⟨64 * (7 - i.val) + a.val, by omega⟩ l) (r l : Fin 512) :
    View.canon (outsR s st) (ix2 r l) = G r l := by
  have row : ∀ (i : Fin 8) (a : Fin 64) (k : Fin 512), r.val = 64 * (7 - i.val) + a.val → l.val = k.val → s.out maskR (at_r i) (s.backwards st i.val) (ix2 a k) = G r l := by
    intro i a k e1 e2
    obtain rfl : l = k := Fin.ext e2
    exact (key i a l).trans (congrArg (G · l) (Fin.ext e1.symm))
  unfold outsR
  canon_tiles x hx
  · exact (congrArg _ (show x = ix2 (x 0) (x 1) by blk_ext)).trans (row 7 (x 0) (x 1) (by simpa using hx0) (by simpa using hx1))
  · exact (congrArg _ (show x = ix2 (x 0) (x 1) by blk_ext)).trans (row 6 (x 0) (x 1) (by simpa using hx0) (by simpa using hx1))
  · exact (congrArg _ (show x = ix2 (x 0) (x 1) by blk_ext)).trans (row 5 (x 0) (x 1) (by simpa using hx0) (by simpa using hx1))
  · exact (congrArg _ (show x = ix2 (x 0) (x 1) by blk_ext)).trans (row 4 (x 0) (x 1) (by simpa using hx0) (by simpa using hx1))
  · exact (congrArg _ (show x = ix2 (x 0) (x 1) by blk_ext)).trans (row 3 (x 0) (x 1) (by simpa using hx0) (by simpa using hx1))
  · exact (congrArg _ (show x = ix2 (x 0) (x 1) by blk_ext)).trans (row 2 (x 0) (x 1) (by simpa using hx0) (by simpa using hx1))
  · exact (congrArg _ (show x = ix2 (x 0) (x 1) by blk_ext)).trans (row 1 (x 0) (x 1) (by simpa using hx0) (by simpa using hx1))
  · exact (congrArg _ (show x = ix2 (x 0) (x 1) by blk_ext)).trans (row 0 (x 0) (x 1) (by simpa using hx0) (by simpa using hx1))
theorem befsF_at (s : Side) (st : FVec Ideal S128x256 .f32) (i : Fin 8) (e : Fin 128) (j : Fin 256) : View.canon (befsF s st) (ix3 i e j) = s.forwards st i.val (ix2 e j) := by
  have row : ∀ (n : Fin 8) (x : S1x128x256.Idx), i.val = n.val + (x 0).val → e.val = (x 1).val → j.val = (x 2).val →
      shapeCast S1x128x256 (s.forwards st n.val) shapeCasts_S128x256_S1x128x256 x = s.forwards st i.val (ix2 e j) := by
    intro n x e0 e1 e2
    have hx : (x 0).val < 1 := (x 0).isLt
    obtain rfl : i = n := Fin.ext (by omega)
    obtain ⟨a, b, d, rfl⟩ : ∃ (a : Fin 1) (b : Fin 128) (d : Fin 256), x = ix3 a b d := ⟨x 0, x 1, x 2, by blk_ext⟩
    obtain rfl : e = b := Fin.ext e1
    obtain rfl : j = d := Fin.ext e2
    generalize s.forwards st i.val = X
    pointwise []
  unfold befsF
  canon_tiles x hx
  · exact row 7 x (by simpa using hx0) (by simpa using hx1) (by simpa using hx2)
  · exact row 6 x (by simpa using hx0) (by simpa using hx1) (by simpa using hx2)
  · exact row 5 x (by simpa using hx0) (by simpa using hx1) (by simpa using hx2)
  · exact row 4 x (by simpa using hx0) (by simpa using hx1) (by simpa using hx2)
  · exact row 3 x (by simpa using hx0) (by simpa using hx1) (by simpa using hx2)
  · exact row 2 x (by simpa using hx0) (by simpa using hx1) (by simpa using hx2)
  · exact row 1 x (by simpa using hx0) (by simpa using hx1) (by simpa using hx2)
  · exact row 0 x (by simpa using hx0) (by simpa using hx1) (by simpa using hx2)
theorem befsR_at (s : Side) (st : FVec Ideal S128x256 .f32) (i : Fin 8) (e : Fin 128) (j : Fin 256) : View.canon (befsR s st) (ix3 i e j) = s.backwards st (7 - i.val) (ix2 e j) := by
  have row : ∀ (n : Fin 8) (x : S1x128x256.Idx), i.val = 7 - n.val + (x 0).val → e.val = (x 1).val → j.val = (x 2).val →
      shapeCast S1x128x256 (s.backwards st n.val) shapeCasts_S128x256_S1x128x256 x = s.backwards st (7 - i.val) (ix2 e j) := by
    intro n x e0 e1 e2
    have hx : (x 0).val < 1 := (x 0).isLt
    rw [show 7 - i.val = n.val by omega]
    obtain ⟨a, b, d, rfl⟩ : ∃ (a : Fin 1) (b : Fin 128) (d : Fin 256), x = ix3 a b d := ⟨x 0, x 1, x 2, by blk_ext⟩
    obtain rfl : e = b := Fin.ext e1
    obtain rfl : j = d := Fin.ext e2
    generalize s.backwards st n.val = X
    pointwise []
  unfold befsR
  canon_tiles x hx
  · exact row 7 x (by simpa using hx0) (by simpa using hx1) (by simpa using hx2)
  · exact row 6 x (by simpa using hx0) (by simpa using hx1) (by simpa using hx2)
  · exact row 5 x (by simpa using hx0) (by simpa using hx1) (by simpa using hx2)
  · exact row 4 x (by simpa using hx0) (by simpa using hx1) (by simpa using hx2)
  · exact row 3 x (by simpa using hx0) (by simpa using hx1) (by simpa using hx2)
  · exact row 2 x (by simpa using hx0) (by simpa using hx1) (by simpa using hx2)
  · exact row 1 x (by simpa using hx0) (by simpa using hx1) (by simpa using hx2)
  · exact row 0 x (by simpa using hx0) (by simpa using hx1) (by simpa using hx2)

theorem masked_f (i : Fin 64) (r : Fin 256) : maskF (ix2 i r) = BitVec.ofBool (decide ((1 : Equiv.Perm (Fin 64)) (low6 r) ≤ (1 : Equiv.Perm (Fin 64)) i)) :=
  (mask_f i r).trans (congrArg BitVec.ofBool (decide_eq_decide.mpr Iff.rfl))
theorem masked_r (i : Fin 64) (r : Fin 256) : maskR (ix2 i r) = BitVec.ofBool (decide (Fin.revPerm (low6 r) ≤ Fin.revPerm i)) :=
  (mask_r i r).trans (congrArg BitVec.ofBool (decide_eq_decide.mpr (by rw [Fin.revPerm_apply, Fin.revPerm_apply, Fin.rev_le_rev]; exact Iff.rfl)))

/-! ## Chunk by chunk, and block by block -/

theorem out_tok (s : Seq) (n : Fin 128) (i : Fin 64) (l : Fin 512) (T : Fin 8192) (hT : T = tok n i) : s.out T l = (s.chunk n).o (s.st n.val) i l := by
  subst hT
  have e1 : (tok n i).val / 64 = n.val := by show (n.val * 64 + i.val) / 64 = n.val; omega
  have e2 : (tok n i).val % 64 = i.val := by show (n.val * 64 + i.val) % 64 = i.val; omega
  unfold Seq.out
  rw [show (⟨(tok n i).val / 64, by omega⟩ : Fin 128) = n from Fin.ext e1, show (⟨(tok n i).val % 64, by omega⟩ : Fin 64) = i from Fin.ext e2, e1]

variable {m : (ℓ : Loc nD τ sig) → Buf (Elt Ideal) ℓ} {c : Dev nD} (hr : Real' m c)
include hr

theorem forwards_at (t : Fin cfg0.N) (st : FVec Ideal S128x256 .f32) (h0 : ∀ e j, st (ix2 e j) = (sq m c 0).st (t.val * 8) e j) :
    ∀ n, n ≤ 8 → ∀ e j, (sideF m c t).forwards st n (ix2 e j) = (sq m c 0).st (t.val * 8 + n) e j
  | 0, _ => by rw [Side.forwards]; exact h0
  | n + 1, hn => fun e j => by
    have ih := forwards_at t st h0 n (by omega)
    rw [show n + 1 = (⟨n, by omega⟩ : Fin 8).val + 1 from rfl, forwards_succ,
      (fits_f t hr ⟨n, by omega⟩).next (at_f ⟨n, by omega⟩) _ ((sq m c 0).st (t.val * 8 + n)) ih]
    exact congrFun (congrFun ((sq m c 0).st_succ (ck t.val (lt16 t) ⟨n, by omega⟩)).symm e) j
theorem backwards_at (t : Fin cfg0.N) (st : FVec Ideal S128x256 .f32) (h0 : ∀ e j, st (ix2 e j) = (sq m c 1).st (t.val * 8) e j) :
    ∀ n, n ≤ 8 → ∀ e j, (sideR m c t).backwards st n (ix2 e j) = (sq m c 1).st (t.val * 8 + n) e j
  | 0, _ => by rw [Side.backwards]; exact h0
  | n + 1, hn => fun e j => by
    have ih := backwards_at t st h0 n (by omega)
    rw [show n + 1 = (⟨n, by omega⟩ : Fin 8).val + 1 from rfl, backwards_succ,
      (fits_r t hr ⟨n, by omega⟩).next (at_r ⟨n, by omega⟩) _ ((sq m c 1).st (t.val * 8 + n)) ih]
    exact congrFun (congrFun ((sq m c 1).st_succ (ck t.val (lt16 t) ⟨n, by omega⟩)).symm e) j

/-- The state before block `t`. -/
theorem befF_at : ∀ (n : ℕ) (hn : n < cfg0.N) (e : Fin 128) (j : Fin 256), befF m c ⟨n, hn⟩ (ix2 e j) = (sq m c 0).st (n * 8) e j
  | 0, hn, e, j => congrFun (if_pos rfl) _
  | n + 1, hn, e, j => by
    have hN : cfg0.N = 16 := N_0
    have h : ¬(n + 1) % 16 = 0 := by omega
    unfold befF
    rw [if_neg h]
    show (outsAt0 m c n _).2.2.2.2.1 (ix2 e j) = _
    rw [show (outsAt0 m c n (by omega)).2.2.2.2.1 = _ from state_f m c ⟨n, by omega⟩,
      forwards_at hr ⟨n, by omega⟩ _ (befF_at n (by omega)) 8 le_rfl]
    exact congrArg (fun k => (sq m c 0).st k e j) (by show n * 8 + 8 = (n + 1) * 8; omega)
theorem befR_at : ∀ (n : ℕ) (hn : n < cfg0.N) (e : Fin 128) (j : Fin 256), befR m c ⟨n, hn⟩ (ix2 e j) = (sq m c 1).st (n * 8) e j
  | 0, hn, e, j => congrFun (if_pos rfl) _
  | n + 1, hn, e, j => by
    have hN : cfg0.N = 16 := N_0
    have h : ¬(n + 1) % 16 = 0 := by omega
    unfold befR
    rw [if_neg h]
    show (outsAt0 m c n _).2.2.2.2.2 (ix2 e j) = _
    rw [show (outsAt0 m c n (by omega)).2.2.2.2.2 = _ from state_r m c ⟨n, by omega⟩,
      backwards_at hr ⟨n, by omega⟩ _ (befR_at n (by omega)) 8 le_rfl]
    exact congrArg (fun k => (sq m c 1).st k e j) (by show n * 8 + 8 = (n + 1) * 8; omega)
theorem st_f (t : Fin cfg0.N) (n : ℕ) (hn : n ≤ 8) (e : Fin 128) (j : Fin 256) : (sideF m c t).forwards (befF m c t) n (ix2 e j) = (sq m c 0).st (t.val * 8 + n) e j :=
  forwards_at hr t _ (befF_at hr t.val t.isLt) n hn e j
theorem st_r (t : Fin cfg0.N) (n : ℕ) (hn : n ≤ 8) (e : Fin 128) (j : Fin 256) : (sideR m c t).backwards (befR m c t) n (ix2 e j) = (sq m c 1).st (t.val * 8 + n) e j :=
  backwards_at hr t _ (befR_at hr t.val t.isLt) n hn e j

/-! ## The four results -/

theorem o_f_eq : (dats m 0 c).arrAt 12 cfg0.N = fun y : S8192x512.Idx => (sq m c 0).out (y 0) (y 1) := by
  refine arr12 m c _ fun t r l => ?_
  rw [out_f]
  refine outsF_at _ _ (fun r l => (sq m c 0).out (tF t r) l) (fun i a l => ?_) r l
  rw [(fits_f t hr i).out (at_f i) maskF masked_f _ ((sq m c 0).st (t.val * 8 + i.val)) (st_f hr t i.val i.isLt.le)]
  exact (out_tok _ (ck t.val (lt16 t) i) a l _ (Fin.ext (by show t.val * 512 + (64 * i.val + a.val) = (t.val * 8 + i.val) * 64 + a.val; omega))).symm
theorem sd_f_eq : (dats m 0 c).arrAt 13 cfg0.N = fun y : S128x128x256.Idx => (sq m c 0).st (y 0).val (y 1) (y 2) := by
  refine arr13 m c _ fun t i e j => ?_
  rw [bef_f, befsF_at, st_f hr t i.val i.isLt.le]
  rfl
theorem o_r_eq : (dats m 0 c).arrAt 14 cfg0.N = fun y : S8192x512.Idx => (sq m c 1).out (Fin.rev (n := 8192) (y 0)) (y 1) := by
  refine arr14 m c _ fun t r l => ?_
  have ht := lt16 t
  rw [out_r]
  refine outsR_at _ _ (fun r l => (sq m c 1).out (tR t r).rev l) (fun i a l => ?_) r l
  rw [(fits_r t hr i).out (at_r i) maskR masked_r _ ((sq m c 1).st (t.val * 8 + i.val)) (st_r hr t i.val i.isLt.le)]
  refine (out_tok _ (ck t.val (lt16 t) i) a.rev l _ (Fin.ext ?_)).symm
  rw [Fin.val_rev]
  show 8192 - ((15 - t.val) * 512 + (64 * (7 - i.val) + a.val) + 1) = (t.val * 8 + i.val) * 64 + a.rev.val
  rw [Fin.val_rev]; omega
theorem sd_r_eq : (dats m 0 c).arrAt 15 cfg0.N = fun y : S128x128x256.Idx => (sq m c 1).st (Fin.rev (n := 128) (y 0)).val (y 1) (y 2) := by
  refine arr15 m c _ fun t i e j => ?_
  have ht := lt16 t
  rw [bef_r, befsR_at, st_r hr t _ (by omega)]
  refine congrArg (fun k => (sq m c 1).st k e j) ?_
  show t.val * 8 + (7 - i.val) = (Fin.rev (ck (15 - t.val) (by omega) i)).val
  rw [Fin.val_rev]
  show t.val * 8 + (7 - i.val) = 128 - ((15 - t.val) * 8 + i.val + 1)
  omega

end Cert.GlaFwdIdeal.Hand

end
-- ==== Proof.Scan.Claims.lean ====
module

public import proofs.«01_k».proof.Defs
public import proofs.«01_k».proof.Proof.Gen.GlaFwd
public import proofs.«01_k».proof.Proof.Gen.GlaRefIdeal.Run
public import proofs.«01_k».proof.Proof.Scan.RefScan
public import proofs.«01_k».proof.Proof.Scan.Results
public import Idealize.ShloMosaic.Lib.Quiescent

/-! # The gated linear attention, both directions: its five claims -/

@[expose] public section

set_option maxRecDepth 16384

noncomputable section

open Idealize.ShloMosaic Idealize.ShloMosaic.TcCoe Idealize.SL.Sem

namespace Cert.Proof.Scan

instance : Cert.GlaFwd.Facts := Cert.GlaFwd.Gen.facts
instance : Cert.GlaFwdIdeal.Facts := Cert.GlaFwdIdeal.Gen.facts
instance : Cert.GlaRefIdeal.Facts := Cert.GlaRefIdeal.Gen.facts
instance finite_facts : Cert.Pre_gla_finite.Facts := ⟨by decide, by decide, by decide, by decide⟩

theorem frame_ideal : Cert.quiescent_GlaFwdIdeal := fun m ρ _ => Cert.GlaFwdIdeal.Gen.frame m ρ

theorem frame_ideal_finite : Cert.quiescent_GlaFwdIdeal_pre_gla_finite := fun m ρ _ => frame_ideal m ρ trivial

/-- The bit-level program has the same text, so the same run gives its frame. -/
theorem frame_kernel : Cert.quiescent_GlaFwd := by
  have h : ∀ (m : (ℓ : Loc Cert.GlaFwdIdeal.nD Cert.GlaFwdIdeal.τ Cert.GlaFwdIdeal.sig) → Buf (Elt Bits) ℓ) (ρ : Dev Cert.GlaFwdIdeal.nD → PrngReg), True → _ :=
    fun m ρ _ => Cert.GlaFwdIdeal.Gen.frame (F := Bits) m ρ
  exact cast (by sl_kernel_rfl) h

theorem frame_reference : Cert.quiescent_GlaRefIdeal := fun m ρ _ =>
  (θ_run _ _ _).mono (fun r h => ⟨fun c => (h c).2.2.2.2, sem_eq_zero_of_no_sems (by decide) r.2⟩) (Cert.GlaRefIdeal.Value.run m ρ)

theorem frame_reference_finite : Cert.quiescent_GlaRefIdeal_pre_gla_finite := fun m ρ _ => frame_reference m ρ trivial

/-- The last thirty-two columns of the projection, cut out. -/
theorem codes_at (z : FVec Ideal Cert.Pre_gla_finite.S8192x3104 .f32) (s : Fin 8192) (k : Fin 3104) (hk : 3072 ≤ k.val) :
    extractStridedSlice Cert.Pre_gla_finite.S8192x32 ![0, 3072] z Cert.Pre_gla_finite.Facts.slices_S8192x3104_S8192x32_0_3072
      (ix2 s ⟨k.val - 3072, by omega⟩) = z (ix2 s k) := by
  obtain ⟨x, h1, h2⟩ : ∃ x : Fin 32, (⟨k.val - 3072, by omega⟩ : Fin 32) = x ∧ k = ⟨3072 + x.val, by omega⟩ :=
    ⟨⟨k.val - 3072, by omega⟩, rfl, Fin.ext (by show k.val = 3072 + (k.val - 3072); omega)⟩
  rw [h1, h2]
  pointwise []

/-- The precondition says of the gates' codes, weights and biases that they hold real numbers. -/
theorem arguments_real (m : (ℓ : Loc Cert.GlaFwdIdeal.nD Cert.GlaFwdIdeal.τ Cert.GlaFwdIdeal.sig) → Buf (Elt Ideal) ℓ) (h : Cert.Pre_GlaFwdIdeal_gla_finite m) (c : Dev Cert.GlaFwdIdeal.nD) : Cert.GlaFwdIdeal.Hand.Real' m c :=
  ⟨fun s k hk => codes_at (Cert.GlaFwdIdeal.Hand.arg0 m c) s k hk ▸ Norm.IsReal.of_abs (congrFun (h c).1 (ix2 s ⟨k.val - 3072, by omega⟩)), fun i => Norm.IsReal.of_abs (congrFun (h c).2.1 i), fun i => Norm.IsReal.of_abs (congrFun (h c).2.2.1 i),
    fun i => Norm.IsReal.of_abs (congrFun (h c).2.2.2.1 i), fun i => Norm.IsReal.of_abs (congrFun (h c).2.2.2.2 i)⟩

section
variable {m : (ℓ : Loc Cert.GlaFwdIdeal.nD Cert.GlaFwdIdeal.τ Cert.GlaFwdIdeal.sig) → Buf (Elt Ideal) ℓ} {c : Dev Cert.GlaFwdIdeal.nD} (hr : Cert.GlaFwdIdeal.Hand.Real' m c)
include hr

theorem ref_o_f : Cert.GlaRefIdeal.Read.val_main_v103 (F := Ideal) (Cert.GlaFwdIdeal.Hand.arg0 m c) (Cert.GlaFwdIdeal.Hand.arg1 m c) (Cert.GlaFwdIdeal.Hand.arg2 m c) (Cert.GlaFwdIdeal.Hand.arg3 m c) (Cert.GlaFwdIdeal.Hand.arg4 m c) = (Cert.GlaFwdIdeal.Gen.dats m 0 c).arrAt 12 Cert.GlaFwdIdeal.cfg0.N := by
  rw [Cert.GlaFwdIdeal.Hand.o_f_eq hr]
  funext y
  obtain ⟨t, l, rfl⟩ : ∃ (t : Fin 8192) (l : Fin 512), y = ix2 t l := ⟨y 0, y 1, by blk_ext⟩
  exact Cert.GlaRefIdeal.Read.o_f_at _ _ _ _ _ (fun d t j => Cert.GlaFwdIdeal.Hand.la_real hr d t j) t l
theorem ref_sd_f : Cert.GlaRefIdeal.Read.val_main_v105 (F := Ideal) (Cert.GlaFwdIdeal.Hand.arg0 m c) (Cert.GlaFwdIdeal.Hand.arg1 m c) (Cert.GlaFwdIdeal.Hand.arg2 m c) (Cert.GlaFwdIdeal.Hand.arg3 m c) (Cert.GlaFwdIdeal.Hand.arg4 m c) = (Cert.GlaFwdIdeal.Gen.dats m 0 c).arrAt 13 Cert.GlaFwdIdeal.cfg0.N := by
  rw [Cert.GlaFwdIdeal.Hand.sd_f_eq hr]
  funext y
  obtain ⟨n, e, j, rfl⟩ : ∃ (n : Fin 128) (e : Fin 128) (j : Fin 256), y = ix3 n e j := ⟨y 0, y 1, y 2, by blk_ext⟩
  exact Cert.GlaRefIdeal.Read.sd_f_at _ _ _ _ _ (fun d t j => Cert.GlaFwdIdeal.Hand.la_real hr d t j) n e j
theorem ref_o_r : Cert.GlaRefIdeal.Read.val_main_v109 (F := Ideal) (Cert.GlaFwdIdeal.Hand.arg0 m c) (Cert.GlaFwdIdeal.Hand.arg1 m c) (Cert.GlaFwdIdeal.Hand.arg2 m c) (Cert.GlaFwdIdeal.Hand.arg3 m c) (Cert.GlaFwdIdeal.Hand.arg4 m c) = (Cert.GlaFwdIdeal.Gen.dats m 0 c).arrAt 14 Cert.GlaFwdIdeal.cfg0.N := by
  rw [Cert.GlaFwdIdeal.Hand.o_r_eq hr]
  funext y
  obtain ⟨t, l, rfl⟩ : ∃ (t : Fin 8192) (l : Fin 512), y = ix2 t l := ⟨y 0, y 1, by blk_ext⟩
  exact Cert.GlaRefIdeal.Read.o_r_at _ _ _ _ _ (fun d t j => Cert.GlaFwdIdeal.Hand.la_real hr d t j) t l
theorem ref_sd_r : Cert.GlaRefIdeal.Read.val_main_v112 (F := Ideal) (Cert.GlaFwdIdeal.Hand.arg0 m c) (Cert.GlaFwdIdeal.Hand.arg1 m c) (Cert.GlaFwdIdeal.Hand.arg2 m c) (Cert.GlaFwdIdeal.Hand.arg3 m c) (Cert.GlaFwdIdeal.Hand.arg4 m c) = (Cert.GlaFwdIdeal.Gen.dats m 0 c).arrAt 15 Cert.GlaFwdIdeal.cfg0.N := by
  rw [Cert.GlaFwdIdeal.Hand.sd_r_eq hr]
  funext y
  obtain ⟨n, e, j, rfl⟩ : ∃ (n : Fin 128) (e : Fin 128) (j : Fin 256), y = ix3 n e j := ⟨y 0, y 1, y 2, by blk_ext⟩
  exact Cert.GlaRefIdeal.Read.sd_r_at _ _ _ _ _ (fun d t j => Cert.GlaFwdIdeal.Hand.la_real hr d t j) n e j

end

set_option maxHeartbeats 1000000 in
theorem value : Cert.algebraic_GlaFwdIdeal_GlaRefIdeal_pre_gla_finite := fun m ρ m' ρ' hf hag =>
  ⟨fun c => (Cert.GlaFwdIdeal.Gen.dats m 0 c).arrAt 12 Cert.GlaFwdIdeal.cfg0.N, fun c => (Cert.GlaFwdIdeal.Gen.dats m 0 c).arrAt 13 Cert.GlaFwdIdeal.cfg0.N, fun c => (Cert.GlaFwdIdeal.Gen.dats m 0 c).arrAt 14 Cert.GlaFwdIdeal.cfg0.N, fun c => (Cert.GlaFwdIdeal.Gen.dats m 0 c).arrAt 15 Cert.GlaFwdIdeal.cfg0.N,
    (θ_run _ _ _).mono (fun _ h c => h c) (Cert.GlaFwdIdeal.Value.run_blocks m ρ),
    (θ_run _ _ _).mono (fun _ h c => by
      obtain ⟨h0, h1, h2, h3, h4⟩ := hag c
      have e0 : m' ((c.tc : Thread Cert.GlaRefIdeal.nD Cert.GlaRefIdeal.τ).loc Cert.GlaRefIdeal.main_arg0) = Cert.GlaFwdIdeal.Hand.arg0 m c := h0
      have e1 : m' ((c.tc : Thread Cert.GlaRefIdeal.nD Cert.GlaRefIdeal.τ).loc Cert.GlaRefIdeal.main_arg1) = Cert.GlaFwdIdeal.Hand.arg1 m c := h1
      have e2 : m' ((c.tc : Thread Cert.GlaRefIdeal.nD Cert.GlaRefIdeal.τ).loc Cert.GlaRefIdeal.main_arg2) = Cert.GlaFwdIdeal.Hand.arg2 m c := h2
      have e3 : m' ((c.tc : Thread Cert.GlaRefIdeal.nD Cert.GlaRefIdeal.τ).loc Cert.GlaRefIdeal.main_arg3) = Cert.GlaFwdIdeal.Hand.arg3 m c := h3
      have e4 : m' ((c.tc : Thread Cert.GlaRefIdeal.nD Cert.GlaRefIdeal.τ).loc Cert.GlaRefIdeal.main_arg4) = Cert.GlaFwdIdeal.Hand.arg4 m c := h4
      have hr := arguments_real m hf c
      refine ⟨((h c).1.trans (Cert.GlaRefIdeal.Read.val_main_v103_eq _ _)).trans ?_, ((h c).2.1.trans (Cert.GlaRefIdeal.Read.val_main_v105_eq _ _)).trans ?_, ((h c).2.2.1.trans (Cert.GlaRefIdeal.Read.val_main_v109_eq _ _)).trans ?_, ((h c).2.2.2.1.trans (Cert.GlaRefIdeal.Read.val_main_v112_eq _ _)).trans ?_, (h c).2.2.2.2⟩
      · rw [e0, e1, e2, e3, e4]; exact ref_o_f hr
      · rw [e0, e1, e2, e3, e4]; exact ref_sd_f hr
      · rw [e0, e1, e2, e3, e4]; exact ref_o_r hr
      · rw [e0, e1, e2, e3, e4]; exact ref_sd_r hr) (Cert.GlaRefIdeal.Value.run m' ρ')⟩

end Cert.Proof.Scan

end
-- ==== Proof.Mem.Value.lean ====
module

public import proofs.«01_k».proof.Proof.Gen.KvFwdIdeal.Value
public import proofs.«01_k».proof.Proof.Gen.KvFwdRefIdeal.Read
public import proofs.«01_k».proof.Proof.Kv.Pure
public import proofs.«01_k».proof.Proof.Shared.Norm

/-! # The two results of the memory's projection

The kernel multiplies the normalised memory by the weight one column block at a time; the reference multiplies once. -/

@[expose] public section

set_option maxRecDepth 16384

noncomputable section

open Idealize.ShloMosaic Idealize.ShloMosaic.TcCoe Idealize.SL.Sem
open Idealize.ShloMosaic.Pipeline (Dat)

namespace Cert.KvFwdIdeal.Hand
open Cert.KvFwdIdeal Cert.KvFwdIdeal.Gen Norm

/-- The normalised memory. -/
def normed (mem : FVec Ideal S256x1024 .f32) (g : FVec Ideal S1x1024 .f32) (k : Fin 256) (d : Fin 1024) : EReal :=
  row mem k d * rinv c1024 (row mem k) * row g 0 d

theorem memn_apply (mem : FVec Ideal S256x1024 .f32) (g : FVec Ideal S1x1024 .f32) (w8 : FVec Ideal S8x1024x256 .bf16) (k : Fin 256) (d : Fin 1024) :
    out0_4 (F := Ideal) mem g w8 (ix2 k d) = normed mem g k d := by
  frame_out
  open_payloads
  pointwise [normed, rinv, msq]

theorem kv_apply (mem : FVec Ideal S256x1024 .f32) (g : FVec Ideal S1x1024 .f32) (w : FVec Ideal S1024x2048 .f32) (i : S256x2048.Idx) :
    out0_3 (F := Ideal) mem g (Cert.KvBwdIdeal.Hand.blocks w) i = ∑ d : Fin 1024, normed mem g (i 0) d * w (ix2 d (i 1)) := by
  frame_out
  canon_tiles x hx
  all_goals (open_payloads; pointwise [normed, rinv, msq, row, Cert.KvBwdIdeal.Hand.blocks]; blk_point [])

theorem ref_memn (mem : FVec Ideal S256x1024 .f32) (g : FVec Ideal S1x1024 .f32) (k : Fin 256) (d : Fin 1024) :
    Cert.KvFwdRefIdeal.Read.val_main_v13 (F := Ideal) mem g (ix2 k d) = normed mem g k d := by
  open Cert.KvFwdRefIdeal.Read in
  pointwise [val_main_v13, val_main_v11, val_main_v10, val_main_v9, val_main_v8, val_main_v7, val_main_v6, val_main_v5, val_main_v4, val_main_v3, val_main_v2, val_main_v1, val_main_v0, val_main_cst, val_main_cst_0, val_main_cst_1, normed, rinv, msq]

theorem ref_kv (mem : FVec Ideal S256x1024 .f32) (g : FVec Ideal S1x1024 .f32) (w : FVec Ideal S1024x2048 .f32) (k : Fin 256) (n : Fin 2048) :
    Cert.KvFwdRefIdeal.Read.val_main_v12 (F := Ideal) mem g w (ix2 k n) = ∑ d : Fin 1024, normed mem g k d * w (ix2 d n) := by
  open Cert.KvFwdRefIdeal.Read in
  pointwise [val_main_v12, val_main_v11, val_main_v10, val_main_v9, val_main_v8, val_main_v7, val_main_v6, val_main_v5, val_main_v4, val_main_v3, val_main_v2, val_main_v1, val_main_v0, val_main_cst, val_main_cst_0, val_main_cst_1, normed, rinv, msq]

variable (m : (ℓ : Loc nD τ sig) → Buf (Elt Ideal) ℓ) (c : Dev nD)

abbrev mem0 : FVec Ideal S256x1024 .f32 := m ((c.tc : Thread nD τ).loc main_arg0)
abbrev gain : FVec Ideal S1x1024 .f32 := m ((c.tc : Thread nD τ).loc main_arg1)
abbrev wkv : FVec Ideal S1024x2048 .f32 := m ((c.tc : Thread nD τ).loc main_arg2)

theorem idx : ∀ t : Fin cfg0.N, win0_0.index t = ![0, 0] ∧ win0_1.index t = ![0, 0] ∧ win0_2.index t = ![0, 0, 0] :=
  (by decide +kernel : ∀ t : Fin grid0.N, _)

theorem V_w : V m c main_v2 = Cert.KvBwdIdeal.Hand.blocks (wkv m c) := by
  show StableHlo.after hostOps0 _ _ = _
  after_results <;> rfl

theorem entry : iblk m c 0 t0_0 = mem0 m c ∧ iblk m c 1 t0_0 = gain m c ∧ iblk m c 2 t0_0 = Cert.KvBwdIdeal.Hand.blocks (wkv m c) :=
  ⟨(show iblk m c 0 t0_0 = V m c main_arg0 by blk_ext! [iblk, idx t0_0]).trans (V_main_arg0 m c),
    (show iblk m c 1 t0_0 = V m c main_arg1 by blk_ext! [iblk, idx t0_0]).trans (V_main_arg1 m c),
    (show iblk m c 2 t0_0 = V m c main_v2 by blk_ext! [iblk, idx t0_0]).trans (V_w m c)⟩

theorem kv_eq : (dats m 0 c).arrAt 3 cfg0.N = Cert.KvFwdRefIdeal.Read.val_main_v12 (F := Ideal) (mem0 m c) (gain m c) (wkv m c) := by
  refine (dats m 0 c).arrAt_eq_of_after_last 3 t0_0 (by decide +kernel) _ fun j => ?_
  blk_simp
  obtain ⟨h0, h1, h2⟩ := entry m c
  rw [after0_3, h0, h1, h2]
  obtain ⟨k, n, rfl⟩ : ∃ (k : Fin 256) (n : Fin 2048), j = ix2 k n := ⟨j 0, j 1, by blk_ext⟩
  exact (kv_apply _ _ _ _).trans (ref_kv _ _ _ k n).symm
theorem memn_eq : (dats m 0 c).arrAt 4 cfg0.N = Cert.KvFwdRefIdeal.Read.val_main_v13 (F := Ideal) (mem0 m c) (gain m c) := by
  refine (dats m 0 c).arrAt_eq_of_after_last 4 t0_0 (by decide +kernel) _ fun j => ?_
  blk_simp
  obtain ⟨h0, h1, h2⟩ := entry m c
  rw [after0_4, h0, h1, h2]
  obtain ⟨k, d, rfl⟩ : ∃ (k : Fin 256) (d : Fin 1024), j = ix2 k d := ⟨j 0, j 1, by blk_ext⟩
  exact (memn_apply _ _ _ k d).trans (ref_memn _ _ k d).symm

end Cert.KvFwdIdeal.Hand

end
-- ==== Proof.Mem.Claims.lean ====
module

public import proofs.«01_k».proof.Defs
public import proofs.«01_k».proof.Proof.Gen.KvFwd
public import proofs.«01_k».proof.Proof.Gen.KvFwdRefIdeal.Run
public import proofs.«01_k».proof.Proof.Mem.Value
public import Idealize.ShloMosaic.Lib.Quiescent

/-! # The memory's projection: its five claims -/

@[expose] public section

set_option maxRecDepth 16384

noncomputable section

open Idealize.ShloMosaic Idealize.ShloMosaic.TcCoe Idealize.SL.Sem

namespace Cert.Proof.Mem

instance : Cert.KvFwd.Facts := Cert.KvFwd.Gen.facts
instance : Cert.KvFwdIdeal.Facts := Cert.KvFwdIdeal.Gen.facts
instance : Cert.KvFwdRefIdeal.Facts := Cert.KvFwdRefIdeal.Gen.facts

theorem frame_ideal : Cert.quiescent_KvFwdIdeal := fun m ρ _ => Cert.KvFwdIdeal.Gen.frame m ρ

/-- The bit-level program has the same text, so the same run gives its frame. -/
theorem frame_kernel : Cert.quiescent_KvFwd := by
  have h : ∀ (m : (ℓ : Loc Cert.KvFwdIdeal.nD Cert.KvFwdIdeal.τ Cert.KvFwdIdeal.sig) → Buf (Elt Bits) ℓ) (ρ : Dev Cert.KvFwdIdeal.nD → PrngReg), True → _ :=
    fun m ρ _ => Cert.KvFwdIdeal.Gen.frame (F := Bits) m ρ
  exact cast (by sl_kernel_rfl) h

theorem frame_reference : Cert.quiescent_KvFwdRefIdeal := fun m ρ _ =>
  (θ_run _ _ _).mono (fun r h => ⟨fun c => (h c).2.2, sem_eq_zero_of_no_sems (by decide) r.2⟩) (Cert.KvFwdRefIdeal.Value.run m ρ)

theorem value : Cert.algebraic_KvFwdIdeal_KvFwdRefIdeal := fun m ρ m' ρ' _ hag =>
  ⟨_, _, (θ_run _ _ _).mono (fun _ h c => h c) (Cert.KvFwdIdeal.Value.run_blocks m ρ),
    (θ_run _ _ _).mono (fun _ h c => by
      obtain ⟨h0, h1, h2⟩ := hag c
      refine ⟨((h c).1.trans (Cert.KvFwdRefIdeal.Read.val_main_v12_eq _ _ _)).trans ?_,
        ((h c).2.1.trans (Cert.KvFwdRefIdeal.Read.val_main_v13_eq _ _)).trans ?_, (h c).2.2⟩
      · rw [h0, h1, h2]; exact (Cert.KvFwdIdeal.Hand.kv_eq m c).symm
      · rw [h0, h1]; exact (Cert.KvFwdIdeal.Hand.memn_eq m c).symm) (Cert.KvFwdRefIdeal.Value.run m' ρ')⟩

end Cert.Proof.Mem

end
-- ==== Proof.Proj.Value.lean ====
module

public import proofs.«01_k».proof.Proof.Gen.InFwdIdeal.Value
public import proofs.«01_k».proof.Proof.Gen.InFwdRefIdeal.Read
public import proofs.«01_k».proof.Proof.Shared.Norm

/-! # The two results of the input projection

The kernel multiplies the normalised rows by the transposed weight, the first 3072 columns at once and the last 32 filled up with 96 zero columns. -/

@[expose] public section

set_option maxRecDepth 16384

noncomputable section

open Idealize.ShloMosaic Idealize.ShloMosaic.TcCoe Idealize.SL.Sem
open Idealize.ShloMosaic.Pipeline (Dat)

namespace Cert.InFwdIdeal.Hand
open Cert.InFwdIdeal Cert.InFwdIdeal.Gen Norm

/-- A normalised row times the gain. -/
def normed {n : Nat} (x : (⟨2, ![n, 1024]⟩ : Shape).Idx → EReal) (g : (⟨2, ![1, 1024]⟩ : Shape).Idx → EReal) (s : Fin n) (d : Fin 1024) : EReal :=
  row x s d * rinv c1024 (row x s) * row g 0 d

section Payloads
variable (x : FVec Ideal S512x1024 .f32) (g : FVec Ideal S1x1024 .f32) (w : FVec Ideal S3104x1024 .bf16)
theorem pay1_at (r : Fin 512) (d : Fin 1024) : k0_pay1 (F := Ideal) x g (ix2 r d) = normed x g r d := by
  pointwise [k0_pay1, normed, rinv, msq]
theorem pay2_at (r : Fin 512) (k : Fin 3072) :
    k0_pay2 (F := Ideal) x g (View.ld (Val := Elt Ideal) (e' := .bf16) w (Rect.unit (s := S3104x1024) ![0, 0] ![3072, 1024] inb_S3104x1024_S3072x1024_0_0)) (ix2 r k)
      = ∑ d : Fin 1024, normed x g r d * w (ix2 ⟨k.val, by omega⟩ d) := by
  refine Eq.trans ?_ (Finset.sum_congr rfl fun d _ => Ideal.mul_congr (pay1_at x g r d) rfl)
  generalize hp : k0_pay1 (F := Ideal) x g = p
  pointwise [k0_pay2, hp]
theorem pay3_at (r : Fin 512) (k : Fin 128) :
    k0_pay3 (F := Ideal) x g (View.ld (Val := Elt Ideal) (e' := .bf16) w (Rect.unit (s := S3104x1024) ![3072, 0] ![32, 1024] inb_S3104x1024_S32x1024_3072_0)) (ix2 r k)
      = if h : 3072 + k.val < 3104 then ∑ d : Fin 1024, normed x g r d * w (ix2 ⟨3072 + k.val, h⟩ d) else 0 := by
  have e : ∀ v : Fin 1024 → EReal, (∑ d : Fin 1024, normed x g r d * v d) = ∑ d : Fin 1024, k0_pay1 (F := Ideal) x g (ix2 r d) * v d :=
    fun v => Finset.sum_congr rfl fun d _ => Ideal.mul_congr (pay1_at x g r d).symm rfl
  split
  · rename_i hk
    rw [e]
    generalize hp : k0_pay1 (F := Ideal) x g = p
    obtain ⟨k, _⟩ := k
    obtain ⟨y, rfl⟩ : ∃ y : Fin 32, k = y.val := ⟨⟨k, by change 3072 + k < 3104 at hk; omega⟩, rfl⟩
    pointwise [k0_pay3, hp]
  · generalize hp : k0_pay1 (F := Ideal) x g = p
    obtain ⟨y, hy⟩ : ∃ y : Fin 96, k = ⟨32 + y.val, by omega⟩ := ⟨⟨k.val - 32, by omega⟩, Fin.ext (by show k.val = 32 + (k.val - 32); omega)⟩
    rw [hy]
    pointwise [k0_pay3, hp]
    exact Finset.sum_eq_zero fun d _ => mul_zero _
end Payloads

variable (m : (ℓ : Loc nD τ sig) → Buf (Elt Ideal) ℓ) (c : Dev nD)

theorem h_blk (t : Fin cfg0.N) (r : Fin 512) (d : Fin 1024) : (outsAt0 m c t).2 (ix2 r d) = normed (iblk m c 0 t : FVec Ideal S512x1024 .f32) (iblk m c 1 t : FVec Ideal S1x1024 .f32) r d := by
  unfold outsAt0
  generalize (iblk m c 0 t : FVec Ideal S512x1024 .f32) = x
  generalize (iblk m c 1 t : FVec Ideal S1x1024 .f32) = g
  generalize (iblk m c 2 t : FVec Ideal S3104x1024 .bf16) = w
  frame_out
  exact pay1_at x g r d
theorem z_blk (t : Fin cfg0.N) (r : Fin 512) (n : Fin 3200) : (outsAt0 m c t).1 (ix2 r n)
    = if h : n.val < 3104 then ∑ d : Fin 1024, normed (iblk m c 0 t : FVec Ideal S512x1024 .f32) (iblk m c 1 t : FVec Ideal S1x1024 .f32) r d * (iblk m c 2 t : FVec Ideal S3104x1024 .bf16) (ix2 ⟨n.val, h⟩ d) else 0 := by
  unfold outsAt0
  generalize (iblk m c 0 t : FVec Ideal S512x1024 .f32) = x
  generalize (iblk m c 1 t : FVec Ideal S1x1024 .f32) = g
  generalize (iblk m c 2 t : FVec Ideal S3104x1024 .bf16) = w
  frame_out
  canon_tiles y hy using (View.cover_of_tiledBy _ ![512, 128] (by sl_kernel_rfl) _)
  · obtain ⟨a, k, rfl⟩ : ∃ (a : Fin 512) (k : Fin 128), y = ix2 a k := ⟨y 0, y 1, by blk_ext⟩
    obtain rfl : r = a := Fin.ext hy0
    obtain ⟨n, _⟩ := n
    obtain rfl : n = 3072 + k.val := hy1
    exact pay3_at x g w r k
  · obtain ⟨a, k, rfl⟩ : ∃ (a : Fin 512) (k : Fin 3072), y = ix2 a k := ⟨y 0, y 1, by blk_ext⟩
    obtain rfl : r = a := Fin.ext hy0
    obtain ⟨n, _⟩ := n
    obtain rfl : n = k.val := hy1
    refine (pay2_at x g w r k).trans ?_
    split
    · rfl
    · rename_i h
      exact absurd (show k.val < 3104 by omega) h

/-! ## Where the blocks lie -/

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The token of row `r` of block `t`. -/
abbrev tok (t : Fin cfg0.N) (r : Fin 512) : Fin 8192 := ⟨t.val * 512 + r.val, by have := t.isLt; have : cfg0.N = 16 := N_0; omega⟩

abbrev X : FVec Ideal S8192x1024 .f32 := m ((c.tc : Thread nD τ).loc main_arg0)
abbrev G : FVec Ideal S1x1024 .f32 := m ((c.tc : Thread nD τ).loc main_arg1)
abbrev W : FVec Ideal S1024x3104 .f32 := m ((c.tc : Thread nD τ).loc main_arg2)

theorem x_blk (t : Fin cfg0.N) (r : Fin 512) : row (iblk m c 0 t : FVec Ideal S512x1024 .f32) r = row (X m c) (tok t r) := by
  refine Eq.trans ?_ (congrArg (fun A : FVec Ideal S8192x1024 .f32 => row A (tok t r)) (V_main_arg0 m c))
  funext j
  show View.read (Elt Ideal) ((cfg0.win 0).blk t).view (V m c main_arg0) (ix2 r j) = V m c main_arg0 (ix2 (tok t r) j)
  generalize V m c main_arg0 = A
  blk_ext! [idx t]
theorem g_blk (t : Fin cfg0.N) : iblk m c 1 t = G m c := by
  refine Eq.trans ?_ (V_main_arg1 m c)
  show View.read (Elt Ideal) ((cfg0.win 1).blk t).view (V m c main_arg1) = V m c main_arg1
  generalize V m c main_arg1 = A
  blk_ext! [idx t]
theorem V_w (n : Fin 3104) (d : Fin 1024) : (V m c main_v1 : FVec Ideal S3104x1024 .bf16) (ix2 n d) = W m c (ix2 d n) := by
  have e : V m c main_v1 = truncf .bf16 (transpose S3104x1024 [1, 0] (W m c) transposes_S1024x3104_S3104x1024_1_0) bitsLt_bf16_f32 := by
    show StableHlo.after hostOps0 _ _ = _
    after_results <;> rfl
  rw [e]
  generalize W m c = A
  pointwise []
theorem w_blk (t : Fin cfg0.N) (n : Fin 3104) (d : Fin 1024) : (iblk m c 2 t : FVec Ideal S3104x1024 .bf16) (ix2 n d) = W m c (ix2 d n) := by
  refine Eq.trans (congrFun ?_ _) (V_w m c n d)
  show View.read (Elt Ideal) ((cfg0.win 2).blk t).view (V m c main_v1) = V m c main_v1
  generalize V m c main_v1 = A
  blk_ext! [idx t]
theorem arr3 (A : S8192x3200.Idx → EReal) (h : ∀ (t : Fin cfg0.N) (r : Fin 512) (j : Fin 3200), (outsAt0 m c t).1 (ix2 r j) = A (ix2 (tok t r) j)) :
    (dats m 0 c).arrAt 3 cfg0.N = A := by
  refine (dats m 0 c).arrAt_eq_of_covers 3 _ (by decide +kernel) fun t _ y => ?_
  blk_simp
  rw [after0_3]
  refine (congrArg _ (by blk_ext)).trans ((h t (y 0) (y 1)).trans (congrArg A ?_))
  blk_ext [idx t]
theorem arr4 (A : S8192x1024.Idx → EReal) (h : ∀ (t : Fin cfg0.N) (r : Fin 512) (j : Fin 1024), (outsAt0 m c t).2 (ix2 r j) = A (ix2 (tok t r) j)) :
    (dats m 0 c).arrAt 4 cfg0.N = A := by
  refine (dats m 0 c).arrAt_eq_of_covers 4 _ (by decide +kernel) fun t _ y => ?_
  blk_simp
  rw [after0_4]
  refine (congrArg _ (by blk_ext)).trans ((h t (y 0) (y 1)).trans (congrArg A ?_))
  blk_ext [idx t]

/-! ## The reference, and the two results -/

theorem normed_blk (t : Fin cfg0.N) (r : Fin 512) (d : Fin 1024) :
    normed (iblk m c 0 t : FVec Ideal S512x1024 .f32) (iblk m c 1 t : FVec Ideal S1x1024 .f32) r d = normed (X m c) (G m c) (tok t r) d := by
  unfold normed
  rw [x_blk]
  exact congrArg (fun g : FVec Ideal S1x1024 .f32 => row (X m c) (tok t r) d * rinv c1024 (row (X m c) (tok t r)) * row g 0 d) (g_blk m c t)

theorem ref_h (x : FVec Ideal S8192x1024 .f32) (g : FVec Ideal S1x1024 .f32) (s : Fin 8192) (d : Fin 1024) :
    Cert.InFwdRefIdeal.Read.val_main_v11 (F := Ideal) x g (ix2 s d) = normed x g s d := by
  open Cert.InFwdRefIdeal.Read in
  pointwise [val_main_v11, val_main_v10, val_main_v9, val_main_v8, val_main_v7, val_main_v6, val_main_v5, val_main_v4, val_main_v3, val_main_v2, val_main_v1, val_main_v0, val_main_cst, val_main_cst_0, val_main_cst_1, normed, rinv, msq]
theorem ref_z (x : FVec Ideal S8192x1024 .f32) (g : FVec Ideal S1x1024 .f32) (w : FVec Ideal S1024x3104 .f32) (s : Fin 8192) (n : Fin 3200) :
    Cert.InFwdRefIdeal.Read.val_main_v13 (F := Ideal) x g w (ix2 s n) = if h : n.val < 3104 then ∑ d : Fin 1024, normed x g s d * w (ix2 d ⟨n.val, h⟩) else 0 := by
  open Cert.InFwdRefIdeal.Read in
  have e : ∀ k : Fin 3104, val_main_v12 (F := Ideal) x g w (ix2 s k) = ∑ d : Fin 1024, normed x g s d * w (ix2 d k) := fun k => by
    refine Eq.trans ?_ (Finset.sum_congr rfl fun d _ => Ideal.mul_congr (ref_h x g s d) rfl)
    generalize hp : val_main_v11 (F := Ideal) x g = p
    pointwise [val_main_v12, hp]
  split
  · rename_i h
    rw [← e]
    generalize hp : val_main_v12 (F := Ideal) x g w = p
    pointwise [val_main_v13, hp]
    exact dif_pos h
  · rename_i h
    generalize hp : val_main_v12 (F := Ideal) x g w = p
    pointwise [val_main_v13, hp]
    refine (dif_neg h).trans ?_
    pointwise [val_main_call0_v0, val_main_c]
    exact (congrArg (fun z : ℝ => (z : EReal)) Int.cast_zero).trans EReal.coe_zero

theorem z_eq : (dats m 0 c).arrAt 3 cfg0.N = Cert.InFwdRefIdeal.Read.val_main_v13 (F := Ideal) (X m c) (G m c) (W m c) := by
  refine arr3 m c _ fun t r n => ?_
  rw [z_blk, ref_z]
  refine dite_congr rfl (fun h => Finset.sum_congr rfl fun d _ => Ideal.mul_congr (normed_blk m c t r d) (w_blk m c t _ d)) fun _ => rfl
theorem h_eq : (dats m 0 c).arrAt 4 cfg0.N = Cert.InFwdRefIdeal.Read.val_main_v14 (F := Ideal) (X m c) (G m c) := by
  refine arr4 m c _ fun t r d => ?_
  rw [h_blk, normed_blk]
  exact (ref_h _ _ _ _).symm

end Cert.InFwdIdeal.Hand

end
-- ==== Proof.Proj.Claims.lean ====
module

public import proofs.«01_k».proof.Defs
public import proofs.«01_k».proof.Proof.Gen.InFwd
public import proofs.«01_k».proof.Proof.Gen.InFwdRefIdeal.Run
public import proofs.«01_k».proof.Proof.Proj.Value
public import Idealize.ShloMosaic.Lib.Quiescent

/-! # The layer's input projections: its five claims -/

@[expose] public section

set_option maxRecDepth 16384

noncomputable section

open Idealize.ShloMosaic Idealize.ShloMosaic.TcCoe Idealize.SL.Sem

namespace Cert.Proof.Proj

instance : Cert.InFwd.Facts := Cert.InFwd.Gen.facts
instance : Cert.InFwdIdeal.Facts := Cert.InFwdIdeal.Gen.facts
instance : Cert.InFwdRefIdeal.Facts := Cert.InFwdRefIdeal.Gen.facts

theorem frame_ideal : Cert.quiescent_InFwdIdeal := fun m ρ _ => Cert.InFwdIdeal.Gen.frame m ρ

/-- The bit-level program has the same text, so the same run gives its frame. -/
theorem frame_kernel : Cert.quiescent_InFwd := by
  have h : ∀ (m : (ℓ : Loc Cert.InFwdIdeal.nD Cert.InFwdIdeal.τ Cert.InFwdIdeal.sig) → Buf (Elt Bits) ℓ) (ρ : Dev Cert.InFwdIdeal.nD → PrngReg), True → _ :=
    fun m ρ _ => Cert.InFwdIdeal.Gen.frame (F := Bits) m ρ
  exact cast (by sl_kernel_rfl) h

theorem frame_reference : Cert.quiescent_InFwdRefIdeal := fun m ρ _ =>
  (θ_run _ _ _).mono (fun r h => ⟨fun c => (h c).2.2, sem_eq_zero_of_no_sems (by decide) r.2⟩) (Cert.InFwdRefIdeal.Value.run m ρ)

theorem value : Cert.algebraic_InFwdIdeal_InFwdRefIdeal := fun m ρ m' ρ' _ hag =>
  ⟨_, _, (θ_run _ _ _).mono (fun _ h c => h c) (Cert.InFwdIdeal.Value.run_blocks m ρ),
    (θ_run _ _ _).mono (fun _ h c => by
      obtain ⟨h0, h1, h2⟩ := hag c
      refine ⟨((h c).1.trans (Cert.InFwdRefIdeal.Read.val_main_v13_eq _ _ _)).trans ?_,
        ((h c).2.1.trans (Cert.InFwdRefIdeal.Read.val_main_v14_eq _ _)).trans ?_, (h c).2.2⟩
      · rw [h0, h1, h2]; exact (Cert.InFwdIdeal.Hand.z_eq m c).symm
      · rw [h0, h1]; exact (Cert.InFwdIdeal.Hand.h_eq m c).symm) (Cert.InFwdRefIdeal.Value.run m' ρ')⟩

end Cert.Proof.Proj

end
-- ==== Proof.Prod.Value.lean ====
module

public import proofs.«01_k».proof.Proof.Gen.MatTnIdeal.Value
public import proofs.«01_k».proof.Proof.Gen.MatTnRefIdeal.Read
public import Idealize.ShloMosaic.Lib.Pipeline.ValueKit

/-! # The transposed product of two token arrays

The grid runs over blocks of the product's rows and, for each, over four blocks of tokens; a block of rows is set to zero at its first
token block and added to at each. -/

@[expose] public section

set_option maxRecDepth 16384

noncomputable section

open Idealize.ShloMosaic Idealize.ShloMosaic.TcCoe Idealize.SL.Sem
open Cert.MatTnIdeal Cert.MatTnIdeal.Gen Cert.MatTnIdeal.Value

namespace Cert.MatTnIdeal.Hand

variable (m : (ℓ : Loc nD τ sig) → Buf (Elt Ideal) ℓ) (c : Dev nD)

abbrev A : FVec Ideal S8192x4096 .bf16 := m ((c.tc : Thread nD τ).loc main_arg0)
abbrev B : FVec Ideal S8192x1024 .bf16 := m ((c.tc : Thread nD τ).loc main_arg1)

/-- One block's product: over its 2048 tokens. -/
theorem pay2_at (s : FVec Ideal S1024x1024 .f32) (a b : FVec Ideal S2048x1024 .bf16) (k n : Fin 1024) :
    k0_pay2 (F := Ideal) s a b (ix2 k n) = s (ix2 k n) + ∑ r : Fin 2048, a (ix2 r k) * b (ix2 r n) := by
  pointwise [k0_pay2]
theorem pay1_at (k n : Fin 1024) : k0_pay1 (F := Ideal) (ix2 k n) = 0 := by
  pointwise [k0_pay1]

theorem idx : ∀ t : Fin cfg0.N, win0_0.index t = ![t.val % 4, t.val / 4] ∧ win0_1.index t = ![t.val % 4, 0] :=
  (by decide +kernel : ∀ t : Fin grid0.N, _)

/-- The token of row `r` of token block `j`. -/
abbrev tok (j : Fin 4) (r : Fin 2048) : Fin 8192 := ⟨j.val * 2048 + r.val, by omega⟩
/-- The product's row that row `k` of row block `q` is. -/
abbrev rw_ (q : Fin 4) (k : Fin 1024) : Fin 4096 := ⟨q.val * 1024 + k.val, by omega⟩
/-- Token block `j` of row block `q`, as a grid point. -/
theorem point_lt (q j : Fin 4) : 4 * q.val + j.val < cfg0.N := by have : cfg0.N = 16 := N_0; omega

theorem a_blk (q j : Fin 4) (r : Fin 2048) (k : Fin 1024) :
    (iblk m c 0 ⟨_, point_lt q j⟩ : FVec Ideal S2048x1024 .bf16) (ix2 r k) = A m c (ix2 (tok j r) (rw_ q k)) := by
  refine Eq.trans ?_ (congrFun (V_main_arg0 m c) (ix2 (tok j r) (rw_ q k)))
  show View.read (Elt Ideal) ((cfg0.win 0).blk ⟨_, point_lt q j⟩).view (V m c main_arg0) (ix2 r k) = V m c main_arg0 _
  generalize V m c main_arg0 = X
  have e1 : (4 * q.val + j.val) % 4 = j.val := by omega
  have e2 : (4 * q.val + j.val) / 4 = q.val := by omega
  blk_ext! [idx ⟨_, point_lt q j⟩, e1, e2]
theorem b_blk (q j : Fin 4) (r : Fin 2048) (n : Fin 1024) :
    (iblk m c 1 ⟨_, point_lt q j⟩ : FVec Ideal S2048x1024 .bf16) (ix2 r n) = B m c (ix2 (tok j r) n) := by
  refine Eq.trans ?_ (congrFun (V_main_arg1 m c) (ix2 (tok j r) n))
  show View.read (Elt Ideal) ((cfg0.win 1).blk ⟨_, point_lt q j⟩).view (V m c main_arg1) (ix2 r n) = V m c main_arg1 _
  generalize V m c main_arg1 = X
  have e1 : (4 * q.val + j.val) % 4 = j.val := by omega
  blk_ext! [idx ⟨_, point_lt q j⟩, e1]

/-- The products of token block `j`, for row block `q`. -/
abbrev part (q : Fin 4) (k n : Fin 1024) (j : Fin 4) : EReal := ∑ r : Fin 2048, A m c (ix2 (tok j r) (rw_ q k)) * B m c (ix2 (tok j r) n)
theorem step_at (q j : Fin 4) (s : FVec Ideal S1024x1024 .f32) (k n : Fin 1024) :
    step2 m c (4 * q.val + j.val) (point_lt q j) s (ix2 k n) = s (ix2 k n) + part m c q k n j :=
  (pay2_at _ _ _ k n).trans (Ideal.add_congr rfl (Finset.sum_congr rfl fun r _ => Ideal.mul_congr (a_blk m c q j r k) (b_blk m c q j r n)))
theorem reset_at (q : Fin 4) (k n : Fin 1024) : reset2 m c (4 * q.val + (0 : Fin 4).val) (point_lt q 0) (ix2 k n) = part m c q k n 0 :=
  (step_at m c q 0 _ k n).trans ((Ideal.add_congr (pay1_at k n) rfl).trans (zero_add _))
theorem fold_at (q : Fin 4) (k n : Fin 1024) :
    Pipeline.accAt (reset2 m c) (step2 m c) (4 * q.val) 3 (point_lt q 3) (ix2 k n) = ∑ s : Fin 8192, A m c (ix2 s (rw_ q k)) * B m c (ix2 s n) := by
  refine Eq.trans ?_ (Fin.sum_mul_add_fin 4 2048 fun s : Fin 8192 => A m c (ix2 s (rw_ q k)) * B m c (ix2 s n))
  show _ = ∑ j : Fin 4, part m c q k n j
  rw [Fin.sum_univ_four]
  refine (step_at m c q 3 _ k n).trans (Ideal.add_congr ?_ rfl)
  refine (step_at m c q 2 _ k n).trans (Ideal.add_congr ?_ rfl)
  exact (step_at m c q 1 _ k n).trans (Ideal.add_congr (reset_at m c q k n) rfl)

theorem ref_at (a : FVec Ideal S8192x4096 .bf16) (b : FVec Ideal S8192x1024 .bf16) (k : Fin 4096) (n : Fin 1024) :
    Cert.MatTnRefIdeal.Read.val_main_v3 (F := Ideal) a b (ix2 k n) = ∑ s : Fin 8192, a (ix2 s k) * b (ix2 s n) := by
  open Cert.MatTnRefIdeal.Read in
  pointwise [val_main_v3, val_main_v2, val_main_v1, val_main_v0]

/-- The fold at a start given by an equation. -/
theorem fold_from (q : Fin 4) (b : ℕ) (h : b + 3 < cfg0.N) (e : b = 4 * q.val) :
    Pipeline.accAt (reset2 m c) (step2 m c) b 3 h = Pipeline.accAt (reset2 m c) (step2 m c) (4 * q.val) 3 (point_lt q 3) := by
  subst e
  rfl
theorem run_of (q : Fin 4) (k n : Fin 1024) : run2Of (ix2 (rw_ q k) n : S4096x1024.Idx) = q.val := by
  show 1 * ((q.val * 1024 + k.val) / 1024 - 0) + 1 * (n.val / 1024 - 0) = q.val
  omega
theorem loc_of (q : Fin 4) (k n : Fin 1024) : loc2Of (ix2 (rw_ q k) n : S4096x1024.Idx) = ix2 k n := by
  funext a
  apply Fin.ext
  match a with
  | ⟨0, _⟩ => show (q.val * 1024 + k.val) % 1024 = k.val; omega
  | ⟨1, _⟩ => show n.val % 1024 = n.val; omega
theorem product_at (q : Fin 4) (k n : Fin 1024) :
    G2 m c (ix2 (rw_ q k) n : S4096x1024.Idx) = ∑ s : Fin 8192, A m c (ix2 s (rw_ q k)) * B m c (ix2 s n) := by
  have h : 4 * run2Of (ix2 (rw_ q k) n : S4096x1024.Idx) + 3 < cfg0.N := by rw [run_of]; exact point_lt q 3
  refine Eq.trans ?_ (fold_at m c q k n)
  rw [← loc_of q k n, ← fold_from m c q _ h (congrArg (4 * ·) (run_of q k n))]
  exact dif_pos h

theorem product_eq : G2 m c = Cert.MatTnRefIdeal.Read.val_main_v3 (F := Ideal) (A m c) (B m c) := by
  refine funext fun i : S4096x1024.Idx => ?_
  have hK : ∀ K : Fin 4096, ∃ (q : Fin 4) (k : Fin 1024), K = rw_ q k := fun K =>
    ⟨⟨K.val / 1024, by omega⟩, ⟨K.val % 1024, by omega⟩, Fin.ext (by show K.val = K.val / 1024 * 1024 + K.val % 1024; omega)⟩
  have hi : ∃ (K : Fin 4096) (n : Fin 1024), i = ix2 K n := ⟨i 0, i 1, by blk_ext⟩
  obtain ⟨K, n, rfl⟩ := hi
  obtain ⟨q, k, rfl⟩ := hK K
  exact (product_at m c q k n).trans (ref_at _ _ _ _).symm

end Cert.MatTnIdeal.Hand

end
-- ==== Proof.Prod.Claims.lean ====
module

public import proofs.«01_k».proof.Defs
public import proofs.«01_k».proof.Proof.Gen.MatTn
public import proofs.«01_k».proof.Proof.Gen.MatTnRefIdeal.Run
public import proofs.«01_k».proof.Proof.Prod.Value
public import Idealize.ShloMosaic.Lib.Quiescent

/-! # The transposed product: its five claims -/

@[expose] public section

set_option maxRecDepth 16384

noncomputable section

open Idealize.ShloMosaic Idealize.ShloMosaic.TcCoe Idealize.SL.Sem

namespace Cert.Proof.Prod

instance : Cert.MatTn.Facts := Cert.MatTn.Gen.facts
instance : Cert.MatTnIdeal.Facts := Cert.MatTnIdeal.Gen.facts
instance : Cert.MatTnRefIdeal.Facts := Cert.MatTnRefIdeal.Gen.facts

theorem frame_ideal : Cert.quiescent_MatTnIdeal := fun m ρ _ => Cert.MatTnIdeal.Gen.frame m ρ

/-- The bit-level program has the same text, so the same run gives its frame. -/
theorem frame_kernel : Cert.quiescent_MatTn := by
  have h : ∀ (m : (ℓ : Loc Cert.MatTnIdeal.nD Cert.MatTnIdeal.τ Cert.MatTnIdeal.sig) → Buf (Elt Bits) ℓ) (ρ : Dev Cert.MatTnIdeal.nD → PrngReg), True → _ :=
    fun m ρ _ => Cert.MatTnIdeal.Gen.frame (F := Bits) m ρ
  exact cast (by sl_kernel_rfl) h

theorem frame_reference : Cert.quiescent_MatTnRefIdeal := fun m ρ _ =>
  (θ_run _ _ _).mono (fun r h => ⟨fun c => (h c).2, sem_eq_zero_of_no_sems (by decide) r.2⟩) (Cert.MatTnRefIdeal.Value.run m ρ)

theorem value : Cert.algebraic_MatTnIdeal_MatTnRefIdeal := fun m ρ m' ρ' _ hag =>
  ⟨_, (θ_run _ _ _).mono (fun _ h c => h c) (Cert.MatTnIdeal.Value.run m ρ),
    (θ_run _ _ _).mono (fun _ h c => by
      obtain ⟨h0, h1⟩ := hag c
      refine ⟨((h c).1.trans (Cert.MatTnRefIdeal.Read.val_main_v3_eq _ _)).trans ?_, (h c).2⟩
      rw [h0, h1]; exact (Cert.MatTnIdeal.Hand.product_eq m c).symm) (Cert.MatTnRefIdeal.Value.run m' ρ')⟩

end Cert.Proof.Prod

end
-- ==== Proof.Opt.Value.lean ====
module

public import proofs.«01_k».proof.Proof.Gen.AdamwIdeal.Value
public import proofs.«01_k».proof.Proof.Gen.AdamwRefIdeal.Read
public import Idealize.ShloMosaic.Lib.Pipeline.ValueKit

/-! # The optimiser on one shard

Every result is elementwise in the weight, its two moments and the gradient, the gradient being the shard's own part plus the three
parts received. The kernel adds the parts one after another, the reference sums them first. -/

@[expose] public section

set_option maxRecDepth 16384

noncomputable section

open Idealize.ShloMosaic Idealize.ShloMosaic.TcCoe Idealize.SL.Sem
open Cert.AdamwIdeal Cert.AdamwIdeal.Gen Cert.AdamwIdeal.Value

namespace Cert.AdamwIdeal.Hand

/-! The four results at one element. -/

/-- The gradient: the own part and the three received, added in order. -/
abbrev gS (o a b d : EReal) : EReal := o + a + b + d
/-- The first moment. -/
abbrev mS (μ g : EReal) : EReal := Ideal.ofBits .f32 0x3F666666#32 * μ + Ideal.ofBits .f32 0x3DCCCCCD#32 * g
/-- The second moment. -/
abbrev vS (ν g : EReal) : EReal := Ideal.ofBits .f32 0x3F7FBE77#32 * ν + Ideal.ofBits .f32 0x3A83126F#32 * (g * g)
/-- The step: the corrected moments' quotient and the decay, by the learning rate. -/
abbrev dS (w μ ν g : Ideal .f32) : Ideal .f32 :=
  FloatOps.mulf (FloatOps.ofBits .f32 0xBA83126F#32) (FloatOps.addf
    (FloatOps.divf (FloatOps.divf (mS μ g : Ideal .f32) (FloatOps.ofBits .f32 0x3F26BD02#32))
      (FloatOps.addf (FloatOps.sqrt (FloatOps.divf (vS ν g : Ideal .f32) (FloatOps.ofBits .f32 0x3C231ACC#32))) (FloatOps.ofBits .f32 0x322BCC77#32)))
    (FloatOps.mulf (FloatOps.ofBits .f32 0x3C23D70A#32) w))

variable (m : (ℓ : Loc nD τ sig) → Buf (Elt Ideal) ℓ) (c : Dev nD)

abbrev W : FVec Ideal S1x512x1024 .f32 := m ((c.tc : Thread nD τ).loc main_arg0)
abbrev M : FVec Ideal S1x512x1024 .f32 := m ((c.tc : Thread nD τ).loc main_arg1)
abbrev N : FVec Ideal S1x512x1024 .f32 := m ((c.tc : Thread nD τ).loc main_arg2)
abbrev O : FVec Ideal S512x1024 .f32 := m ((c.tc : Thread nD τ).loc main_arg3)
abbrev P : FVec Ideal S3x512x1024 .bf16 := m ((c.tc : Thread nD τ).loc main_arg4)

/-- The gradient of a block or of an array. -/
abbrev gB (o : Vec Ideal S256x1024 .f32) (p : Vec Ideal S3x256x1024 .bf16) (r : Fin 256) (j : Fin 1024) : EReal :=
  gS (o (ix2 r j)) (p (ix3 0 r j)) (p (ix3 1 r j)) (p (ix3 2 r j))
abbrev gA (o : FVec Ideal S512x1024 .f32) (p : FVec Ideal S3x512x1024 .bf16) (r : Fin 512) (j : Fin 1024) : EReal :=
  gS (o (ix2 r j)) (p (ix3 0 r j)) (p (ix3 1 r j)) (p (ix3 2 r j))

section block
variable (w μ ν : Vec Ideal S1x256x1024 .f32) (o : Vec Ideal S256x1024 .f32) (p : Vec Ideal S3x256x1024 .bf16) (r : Fin 256) (j : Fin 1024)

theorem ld_w (x : Vec Ideal S1x256x1024 .f32) : View.ld x r0_4 = x := by
  refine funext fun y => congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem ld_o : View.ld o r0_0 (ix2 r j) = o (ix2 r j) := by
  refine congrArg o (funext fun a => Fin.ext ?_)
  match a with
  | ⟨0, _⟩ => show 0 + 1 * r.val = r.val; omega
  | ⟨1, _⟩ => show 0 + 1 * j.val = j.val; omega
theorem ld_p1 : View.ld p r0_1 (ix3 0 r j) = p (ix3 0 r j) :=
  congrArg p (funext fun a => Fin.ext (match a with | ⟨0, _⟩ => rfl | ⟨1, _⟩ => by show 0 + 1 * r.val = r.val; omega | ⟨2, _⟩ => by show 0 + 1 * j.val = j.val; omega))
theorem ld_p2 : View.ld p r0_2 (ix3 0 r j) = p (ix3 1 r j) :=
  congrArg p (funext fun a => Fin.ext (match a with | ⟨0, _⟩ => rfl | ⟨1, _⟩ => by show 0 + 1 * r.val = r.val; omega | ⟨2, _⟩ => by show 0 + 1 * j.val = j.val; omega))
theorem ld_p3 : View.ld p r0_3 (ix3 0 r j) = p (ix3 2 r j) :=
  congrArg p (funext fun a => Fin.ext (match a with | ⟨0, _⟩ => rfl | ⟨1, _⟩ => by show 0 + 1 * r.val = r.val; omega | ⟨2, _⟩ => by show 0 + 1 * j.val = j.val; omega))
/-- The gradient out of the loads. -/
theorem g_loads : gS (View.ld o r0_0 (ix2 r j)) (View.ld p r0_1 (ix3 0 r j)) (View.ld p r0_2 (ix3 0 r j))
    (View.ld p r0_3 (ix3 0 r j)) = gB o p r j :=
  Ideal.add_congr (Ideal.add_congr (Ideal.add_congr (ld_o o r j) (ld_p1 p r j)) (ld_p2 p r j)) (ld_p3 p r j)

theorem g_pay (a : FVec Ideal S256x1024 .f32) (b₁ b₂ b₃ : FVec Ideal S1x256x1024 .bf16) :
    k0_pay6 (F := Ideal) a b₁ b₂ b₃ (ix3 0 r j) = gS (a (ix2 r j)) (b₁ (ix3 0 r j)) (b₂ (ix3 0 r j)) (b₃ (ix3 0 r j)) := by
  pointwise [k0_pay6, k0_pay5]
theorem g_out : out0_5 (F := Ideal) w μ ν o p (ix3 0 r j) = gB o p r j := by
  frame_out
  exact (g_pay r j _ _ _ _).trans ((congrArg (gS · _ _ _) (ld_o o r j).symm).trans (g_loads o p r j))

theorem m_pay (a : FVec Ideal S256x1024 .f32) (b₁ b₂ b₃ : FVec Ideal S1x256x1024 .bf16) :
    k0_pay3 (F := Ideal) (k0_pay8 a b₁ b₂ b₃ μ) (ix3 0 r j) = mS (μ (ix3 0 r j)) (gS (a (ix2 r j)) (b₁ (ix3 0 r j)) (b₂ (ix3 0 r j)) (b₃ (ix3 0 r j))) := by
  pointwise [k0_pay3, k0_pay8, k0_pay5]
theorem m_out : out0_7 (F := Ideal) w μ ν o p (ix3 0 r j) = mS (μ (ix3 0 r j)) (gB o p r j) := by
  frame_out
  refine (m_pay _ r j _ _ _ _).trans ?_
  rw [ld_w]
  exact congrArg (mS _) (g_loads o p r j)

theorem v_pay (a : FVec Ideal S256x1024 .f32) (b₁ b₂ b₃ : FVec Ideal S1x256x1024 .bf16) :
    k0_pay4 (F := Ideal) (k0_pay9 ν) (k0_pay10 a b₁ b₂ b₃) k0_pay11 (ix3 0 r j)
      = vS (ν (ix3 0 r j)) (gS (a (ix2 r j)) (b₁ (ix3 0 r j)) (b₂ (ix3 0 r j)) (b₃ (ix3 0 r j))) := by
  pointwise [k0_pay4, k0_pay1, k0_pay9, k0_pay10, k0_pay11, k0_pay5]
theorem v_out : out0_8 (F := Ideal) w μ ν o p (ix3 0 r j) = vS (ν (ix3 0 r j)) (gB o p r j) := by
  frame_out
  refine (v_pay _ r j _ _ _ _).trans ?_
  rw [ld_w]
  exact congrArg (vS _) (g_loads o p r j)

theorem d_pay (a : FVec Ideal S256x1024 .f32) (b₁ b₂ b₃ : FVec Ideal S1x256x1024 .bf16) :
    k0_pay2 (F := Ideal) (k0_pay7 w) (k0_pay8 a b₁ b₂ b₃ μ) (k0_pay9 ν) (k0_pay10 a b₁ b₂ b₃) k0_pay11 (ix3 0 r j)
      = dS (w (ix3 0 r j)) (μ (ix3 0 r j)) (ν (ix3 0 r j)) (gS (a (ix2 r j)) (b₁ (ix3 0 r j)) (b₂ (ix3 0 r j)) (b₃ (ix3 0 r j))) := by
  pointwise [k0_pay2, k0_pay1, k0_pay7, k0_pay8, k0_pay9, k0_pay10, k0_pay11, k0_pay5]
theorem d_out : out0_6 (F := Ideal) w μ ν o p (ix3 0 r j) = dS (w (ix3 0 r j)) (μ (ix3 0 r j)) (ν (ix3 0 r j)) (gB o p r j) := by
  frame_out
  refine (d_pay _ _ _ r j _ _ _ _).trans ?_
  rw [ld_w, ld_w]
  exact congrArg (dS _ _ _) (g_loads o p r j)
end block

/-! Where the blocks lie. -/

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

theorem lt2 (t : Fin cfg0.N) : t.val < 2 := by have : cfg0.N = 2 := N_0; omega
/-- Row `r` of block `t`. -/
abbrev rw_ (t : Fin cfg0.N) (r : Fin 256) : Fin 512 := ⟨t.val * 256 + r.val, by have := lt2 t; omega⟩

section reads
variable (t : Fin cfg0.N) (r : Fin 256) (j : Fin 1024)
theorem blk0 : (iblk m c 0 t : FVec Ideal S1x256x1024 .f32) (ix3 0 r j) = W m c (ix3 0 (rw_ t r) j) := by
  refine Eq.trans ?_ (congrFun (V_main_arg0 m c) (ix3 0 (rw_ t r) j))
  show View.read (Elt Ideal) ((cfg0.win 0).blk t).view (V m c main_arg0) (ix3 0 r j) = V m c main_arg0 _
  generalize V m c main_arg0 = X
  blk_ext! [idx t]
theorem blk1 : (iblk m c 1 t : FVec Ideal S1x256x1024 .f32) (ix3 0 r j) = M m c (ix3 0 (rw_ t r) j) := by
  refine Eq.trans ?_ (congrFun (V_main_arg1 m c) (ix3 0 (rw_ t r) j))
  show View.read (Elt Ideal) ((cfg0.win 1).blk t).view (V m c main_arg1) (ix3 0 r j) = V m c main_arg1 _
  generalize V m c main_arg1 = X
  blk_ext! [idx t]
theorem blk2 : (iblk m c 2 t : FVec Ideal S1x256x1024 .f32) (ix3 0 r j) = N m c (ix3 0 (rw_ t r) j) := by
  refine Eq.trans ?_ (congrFun (V_main_arg2 m c) (ix3 0 (rw_ t r) j))
  show View.read (Elt Ideal) ((cfg0.win 2).blk t).view (V m c main_arg2) (ix3 0 r j) = V m c main_arg2 _
  generalize V m c main_arg2 = X
  blk_ext! [idx t]
theorem blk3 : (iblk m c 3 t : FVec Ideal S256x1024 .f32) (ix2 r j) = O m c (ix2 (rw_ t r) j) := by
  refine Eq.trans ?_ (congrFun (V_main_arg3 m c) (ix2 (rw_ t r) j))
  show View.read (Elt Ideal) ((cfg0.win 3).blk t).view (V m c main_arg3) (ix2 r j) = V m c main_arg3 _
  generalize V m c main_arg3 = X
  blk_ext! [idx t]
theorem blk4 (s : Fin 3) : (iblk m c 4 t : FVec Ideal S3x256x1024 .bf16) (ix3 s r j) = P m c (ix3 s (rw_ t r) j) := by
  refine Eq.trans ?_ (congrFun (V_main_arg4 m c) (ix3 s (rw_ t r) j))
  show View.read (Elt Ideal) ((cfg0.win 4).blk t).view (V m c main_arg4) (ix3 s r j) = V m c main_arg4 _
  generalize V m c main_arg4 = X
  blk_ext! [idx t]
theorem g_blk : gB (iblk m c 3 t) (iblk m c 4 t) r j = gA (O m c) (P m c) (rw_ t r) j :=
  Ideal.add_congr (Ideal.add_congr (Ideal.add_congr (blk3 m c t r j) (blk4 m c t r j 0)) (blk4 m c t r j 1)) (blk4 m c t r j 2)
end reads

/-! The four results whole. -/

theorem arr5 (A : S1x512x1024.Idx → EReal) (h : ∀ (t : Fin cfg0.N) (r : Fin 256) (j : Fin 1024),
    out0_5 (F := Ideal) (iblk m c 0 t) (iblk m c 1 t) (iblk m c 2 t) (iblk m c 3 t) (iblk m c 4 t) (ix3 0 r j) = A (ix3 0 (rw_ t r) j)) :
    (dats m 0 c).arrAt 5 cfg0.N = A := by
  refine (dats m 0 c).arrAt_eq_of_covers 5 _ (by decide +kernel) fun t _ y => ?_
  blk_simp
  rw [after0_5]
  refine (congrArg _ (by blk_ext)).trans ((h t (y 1) (y 2)).trans (congrArg A ?_))
  blk_ext [idx t]
theorem arr6 (A : S1x512x1024.Idx → EReal) (h : ∀ (t : Fin cfg0.N) (r : Fin 256) (j : Fin 1024),
    out0_6 (F := Ideal) (iblk m c 0 t) (iblk m c 1 t) (iblk m c 2 t) (iblk m c 3 t) (iblk m c 4 t) (ix3 0 r j) = A (ix3 0 (rw_ t r) j)) :
    (dats m 0 c).arrAt 6 cfg0.N = A := by
  refine (dats m 0 c).arrAt_eq_of_covers 6 _ (by decide +kernel) fun t _ y => ?_
  blk_simp
  rw [after0_6]
  refine (congrArg _ (by blk_ext)).trans ((h t (y 1) (y 2)).trans (congrArg A ?_))
  blk_ext [idx t]
theorem arr7 (A : S1x512x1024.Idx → EReal) (h : ∀ (t : Fin cfg0.N) (r : Fin 256) (j : Fin 1024),
    out0_7 (F := Ideal) (iblk m c 0 t) (iblk m c 1 t) (iblk m c 2 t) (iblk m c 3 t) (iblk m c 4 t) (ix3 0 r j) = A (ix3 0 (rw_ t r) j)) :
    (dats m 0 c).arrAt 7 cfg0.N = A := by
  refine (dats m 0 c).arrAt_eq_of_covers 7 _ (by decide +kernel) fun t _ y => ?_
  blk_simp
  rw [after0_7]
  refine (congrArg _ (by blk_ext)).trans ((h t (y 1) (y 2)).trans (congrArg A ?_))
  blk_ext [idx t]
theorem arr8 (A : S1x512x1024.Idx → EReal) (h : ∀ (t : Fin cfg0.N) (r : Fin 256) (j : Fin 1024),
    out0_8 (F := Ideal) (iblk m c 0 t) (iblk m c 1 t) (iblk m c 2 t) (iblk m c 3 t) (iblk m c 4 t) (ix3 0 r j) = A (ix3 0 (rw_ t r) j)) :
    (dats m 0 c).arrAt 8 cfg0.N = A := by
  refine (dats m 0 c).arrAt_eq_of_covers 8 _ (by decide +kernel) fun t _ y => ?_
  blk_simp
  rw [after0_8]
  refine (congrArg _ (by blk_ext)).trans ((h t (y 1) (y 2)).trans (congrArg A ?_))
  blk_ext [idx t]

abbrev gW (o : FVec Ideal S512x1024 .f32) (p : FVec Ideal S3x512x1024 .bf16) (i : S1x512x1024.Idx) : EReal := gA o p (i 1) (i 2)
abbrev at_ (x : FVec Ideal S1x512x1024 .f32) (i : S1x512x1024.Idx) : EReal := x (ix3 0 (i 1) (i 2))

theorem g_arr : (dats m 0 c).arrAt 5 cfg0.N = gW (O m c) (P m c) :=
  arr5 m c _ fun t r j => (g_out _ _ _ _ _ r j).trans (g_blk m c t r j)
theorem d_arr : (dats m 0 c).arrAt 6 cfg0.N = fun i => dS (at_ (W m c) i) (at_ (M m c) i) (at_ (N m c) i) (gW (O m c) (P m c) i) :=
  arr6 m c _ fun t r j => (d_out _ _ _ _ _ r j).trans
    (congr (congr (congr (congrArg dS (blk0 m c t r j)) (blk1 m c t r j)) (blk2 m c t r j)) (g_blk m c t r j))
theorem m_arr : (dats m 0 c).arrAt 7 cfg0.N = fun i => mS (at_ (M m c) i) (gW (O m c) (P m c) i) :=
  arr7 m c _ fun t r j => (m_out _ _ _ _ _ r j).trans (congr (congrArg mS (blk1 m c t r j)) (g_blk m c t r j))
theorem v_arr : (dats m 0 c).arrAt 8 cfg0.N = fun i => vS (at_ (N m c) i) (gW (O m c) (P m c) i) :=
  arr8 m c _ fun t r j => (v_out _ _ _ _ _ r j).trans (congr (congrArg vS (blk2 m c t r j)) (g_blk m c t r j))

end Cert.AdamwIdeal.Hand

end
-- ==== Proof.Opt.Ref.lean ====
module

public import proofs.«01_k».proof.Proof.Opt.Value

/-! # The optimiser's reference at one element -/

@[expose] public section

set_option maxRecDepth 16384

noncomputable section

open Idealize.ShloMosaic Idealize.ShloMosaic.TcCoe Idealize.SL.Sem
open Cert.AdamwIdeal Cert.AdamwRefIdeal.Read

namespace Cert.AdamwIdeal.Hand

variable (w μ ν : FVec Ideal S1x512x1024 .f32) (o : FVec Ideal S512x1024 .f32) (p : FVec Ideal S3x512x1024 .bf16)

theorem at_eq (x : FVec Ideal S1x512x1024 .f32) (i : S1x512x1024.Idx) : at_ x i = x i := congrArg x (by blk_ext)

theorem g_ref : val_main_v3 (F := Ideal) o p = gW o p := by
  refine funext fun i : S1x512x1024.Idx => ?_
  have e : val_main_v3 (F := Ideal) o p i = o (ix2 (i 1) (i 2)) + ∑ k : Fin 3, p (ix3 k (i 1) (i 2)) := by
    pointwise [val_main_v3, val_main_v2, val_main_v1, val_main_v0, val_main_cst]
  rw [e, Fin.sum_univ_three, ← add_assoc, ← add_assoc]

theorem m_ref : val_main_v8 (F := Ideal) μ o p = fun i => mS (at_ μ i) (gW o p i) := by
  refine funext fun i : S1x512x1024.Idx => ?_
  rw [← g_ref, at_eq]
  rw [val_main_v8_apply, val_main_v5_apply, val_main_v7_apply, val_main_v4_apply, val_main_v6_apply]
  rfl
theorem v_ref : val_main_v14 (F := Ideal) ν o p = fun i => vS (at_ ν i) (gW o p i) := by
  refine funext fun i : S1x512x1024.Idx => ?_
  rw [← g_ref, at_eq]
  rw [val_main_v14_apply, val_main_v10_apply, val_main_v13_apply, val_main_v9_apply, val_main_v12_apply, val_main_v11_apply]
  rfl
theorem d_ref : val_main_v27 (F := Ideal) w μ ν o p = fun i => dS (at_ w i) (at_ μ i) (at_ ν i) (gW o p i) := by
  refine funext fun i : S1x512x1024.Idx => ?_
  show _ = dS (at_ w i) (at_ μ i) (at_ ν i) (gW o p i)
  have hm : val_main_v8 (F := Ideal) μ o p i = mS (at_ μ i) (gW o p i) := congrFun (m_ref μ o p) i
  have hv : val_main_v14 (F := Ideal) ν o p i = vS (at_ ν i) (gW o p i) := congrFun (v_ref ν o p) i
  unfold dS
  rw [← hm, ← hv, at_eq]
  rw [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply]
  rfl

end Cert.AdamwIdeal.Hand

end
-- ==== Proof.Opt.Claims.lean ====
module

public import proofs.«01_k».proof.Defs
public import proofs.«01_k».proof.Proof.Gen.Adamw
public import proofs.«01_k».proof.Proof.Gen.AdamwRefIdeal.Run
public import proofs.«01_k».proof.Proof.Opt.Ref
public import Idealize.ShloMosaic.Lib.Quiescent

/-! # The optimiser: its five claims -/

@[expose] public section

set_option maxRecDepth 16384

noncomputable section

open Idealize.ShloMosaic Idealize.ShloMosaic.TcCoe Idealize.SL.Sem

namespace Cert.Proof.Opt

instance : Cert.Adamw.Facts := Cert.Adamw.Gen.facts
instance : Cert.AdamwIdeal.Facts := Cert.AdamwIdeal.Gen.facts
instance : Cert.AdamwRefIdeal.Facts := Cert.AdamwRefIdeal.Gen.facts

theorem frame_ideal : Cert.quiescent_AdamwIdeal := fun m ρ _ => Cert.AdamwIdeal.Gen.frame m ρ

/-- The bit-level program has the same text, so the same run gives its frame. -/
theorem frame_kernel : Cert.quiescent_Adamw := by
  have h : ∀ (m : (ℓ : Loc Cert.AdamwIdeal.nD Cert.AdamwIdeal.τ Cert.AdamwIdeal.sig) → Buf (Elt Bits) ℓ) (ρ : Dev Cert.AdamwIdeal.nD → PrngReg), True → _ :=
    fun m ρ _ => Cert.AdamwIdeal.Gen.frame (F := Bits) m ρ
  exact cast (by sl_kernel_rfl) h

theorem frame_reference : Cert.quiescent_AdamwRefIdeal := fun m ρ _ =>
  (θ_run _ _ _).mono (fun r h => ⟨fun c => (h c).2.2.2.2, sem_eq_zero_of_no_sems (by decide) r.2⟩) (Cert.AdamwRefIdeal.Value.run m ρ)

theorem value : Cert.algebraic_AdamwIdeal_AdamwRefIdeal := fun m ρ m' ρ' _ hag =>
  ⟨_, _, _, _, (θ_run _ _ _).mono (fun _ h c => h c) (Cert.AdamwIdeal.Value.run_blocks m ρ),
    (θ_run _ _ _).mono (fun _ h c => by
      obtain ⟨h0, h1, h2, h3, h4⟩ := hag c
      refine ⟨((h c).1.trans (Cert.AdamwRefIdeal.Read.val_main_v3_eq _ _)).trans ?_,
        ((h c).2.1.trans (Cert.AdamwRefIdeal.Read.val_main_v27_eq _ _ _ _ _)).trans ?_,
        ((h c).2.2.1.trans (Cert.AdamwRefIdeal.Read.val_main_v8_eq _ _ _)).trans ?_,
        ((h c).2.2.2.1.trans (Cert.AdamwRefIdeal.Read.val_main_v14_eq _ _ _)).trans ?_, (h c).2.2.2.2⟩
      · rw [h3, h4]; exact (Cert.AdamwIdeal.Hand.g_ref _ _).trans (Cert.AdamwIdeal.Hand.g_arr m c).symm
      · rw [h0, h1, h2, h3, h4]; exact (Cert.AdamwIdeal.Hand.d_ref _ _ _ _ _).trans (Cert.AdamwIdeal.Hand.d_arr m c).symm
      · rw [h1, h3, h4]; exact (Cert.AdamwIdeal.Hand.m_ref _ _ _).trans (Cert.AdamwIdeal.Hand.m_arr m c).symm
      · rw [h2, h3, h4]; exact (Cert.AdamwIdeal.Hand.v_ref _ _ _).trans (Cert.AdamwIdeal.Hand.v_arr m c).symm)
      (Cert.AdamwRefIdeal.Value.run m' ρ')⟩

end Cert.Proof.Opt

end
-- ==== Proof.GlaS.Claims.lean ====
module

public import proofs.«01_k».proof.Defs
public import proofs.«01_k».proof.Proof.Gen.GlaReverse
public import proofs.«01_k».proof.Proof.Gen.GlaReverseIdeal.Frame
public import Idealize.ShloMosaic.Lib.Quiescent

/-! # The linear attention's second backward call: its frames -/

@[expose] public section

set_option maxRecDepth 16384

noncomputable section

open Idealize.ShloMosaic Idealize.ShloMosaic.TcCoe Idealize.SL.Sem

namespace Cert.Proof.GlaS

instance : Cert.GlaReverse.Facts := Cert.GlaReverse.Gen.facts
instance : Cert.GlaReverseIdeal.Facts := Cert.GlaReverseIdeal.Gen.facts

theorem frame_ideal : Cert.quiescent_GlaReverseIdeal := fun m ρ _ => Cert.GlaReverseIdeal.Gen.frame m ρ

/-- The bit-level program has the same text, so the same run gives its frame. -/
theorem frame_kernel : Cert.quiescent_GlaReverse := by
  have h : ∀ (m : (ℓ : Loc Cert.GlaReverseIdeal.nD Cert.GlaReverseIdeal.τ Cert.GlaReverseIdeal.sig) → Buf (Elt Bits) ℓ) (ρ : Dev Cert.GlaReverseIdeal.nD → PrngReg), True → _ :=
    fun m ρ _ => Cert.GlaReverseIdeal.Gen.frame (F := Bits) m ρ
  exact cast (by sl_kernel_rfl) h

end Cert.Proof.GlaS

end
-- ==== Proof.lean ====
module

public import proofs.«01_k».proof.Defs
public import proofs.«01_k».proof.Proof.Kv.Claims
public import proofs.«01_k».proof.Proof.Attn.Claims
public import proofs.«01_k».proof.Proof.Mlp.Claims
public import proofs.«01_k».proof.Proof.Inp.Claims
public import proofs.«01_k».proof.Proof.Loss.Claims
public import proofs.«01_k».proof.Proof.Mix.Claims
public import proofs.«01_k».proof.Proof.Scan.Claims
public import proofs.«01_k».proof.Proof.Mem.Claims
public import proofs.«01_k».proof.Proof.Proj.Claims
public import proofs.«01_k».proof.Proof.Prod.Claims
public import proofs.«01_k».proof.Proof.Opt.Claims
public import proofs.«01_k».proof.Proof.GlaS.Claims

@[expose] public section

noncomputable section

namespace Cert.Proof

open Idealize.ShloMosaic Idealize.SL.Sem

theorem claim : Cert.Claim := ⟨Cert.KvBwd.Gen.facts, Cert.KvBwdIdeal.Gen.facts, Cert.KvRefIdeal.Gen.facts, Cert.AttnBwd.Gen.facts, Cert.AttnBwdIdeal.Gen.facts, Cert.AttnRefIdeal.Gen.facts, Cert.MlpBwd.Gen.facts, Cert.MlpBwdIdeal.Gen.facts, Cert.MlpRefIdeal.Gen.facts, Cert.InBwd.Gen.facts, Cert.InBwdIdeal.Gen.facts, Cert.InRefIdeal.Gen.facts, Cert.LossBwd.Gen.facts, Cert.LossBwdIdeal.Gen.facts, Cert.LossRefIdeal.Gen.facts, Cert.MixFwd.Gen.facts, Cert.MixFwdIdeal.Gen.facts, Cert.MixRefIdeal.Gen.facts, Cert.GlaFwd.Gen.facts, Cert.GlaFwdIdeal.Gen.facts, Cert.GlaRefIdeal.Gen.facts, Cert.KvFwd.Gen.facts, Cert.KvFwdIdeal.Gen.facts, Cert.KvFwdRefIdeal.Gen.facts, Cert.InFwd.Gen.facts, Cert.InFwdIdeal.Gen.facts, Cert.InFwdRefIdeal.Gen.facts, Cert.MatTn.Gen.facts, Cert.MatTnIdeal.Gen.facts, Cert.MatTnRefIdeal.Gen.facts, Cert.Adamw.Gen.facts, Cert.AdamwIdeal.Gen.facts, Cert.AdamwRefIdeal.Gen.facts, Cert.GlaReverse.Gen.facts, Cert.GlaReverseIdeal.Gen.facts, Attn.finite_facts, Mlp.finite_facts, Inp.finite_facts, Loss.finite_facts, Mix.finite_facts, Scan.finite_facts,
  Kv.frame_kernel, Kv.frame_ideal, Kv.frame_reference, Attn.frame_kernel, Attn.frame_ideal, Attn.frame_ideal_finite, Attn.frame_reference, Attn.frame_reference_finite, Mlp.frame_kernel, Mlp.frame_ideal, Mlp.frame_ideal_finite, Mlp.frame_reference, Mlp.frame_reference_finite, Inp.frame_kernel, Inp.frame_ideal, Inp.frame_ideal_finite, Inp.frame_reference, Inp.frame_reference_finite, Loss.frame_kernel, Loss.frame_ideal, Loss.frame_ideal_finite, Loss.frame_reference, Loss.frame_reference_finite, Mix.frame_kernel, Mix.frame_ideal, Mix.frame_ideal_finite, Mix.frame_reference, Mix.frame_reference_finite, Scan.frame_kernel, Scan.frame_ideal, Scan.frame_ideal_finite, Scan.frame_reference, Scan.frame_reference_finite, Mem.frame_kernel, Mem.frame_ideal, Mem.frame_reference, Proj.frame_kernel, Proj.frame_ideal, Proj.frame_reference, Prod.frame_kernel, Prod.frame_ideal, Prod.frame_reference, Opt.frame_kernel, Opt.frame_ideal, Opt.frame_reference, GlaS.frame_kernel, GlaS.frame_ideal,
  trivial, Kv.value, trivial, Attn.value, trivial, Mlp.value, trivial, Inp.value, trivial, Loss.value, trivial, Mix.value, trivial, Scan.value, trivial, Mem.value, trivial, Proj.value, trivial, Prod.value, trivial, Opt.value, trivial⟩

end Cert.Proof

end
